-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_v140) = v1 c
          ∧ r.2.mem ((c.tc : Thread Cert.ReferenceIdeal.nD Cert.ReferenceIdeal.τ).loc Cert.ReferenceIdeal.main_v163) = v2 c
          ∧ r.2.mem ((c.tc : Thread Cert.ReferenceIdeal.nD Cert.ReferenceIdeal.τ).loc Cert.ReferenceIdeal.main_v161) = v3 c
          ∧ r.2.mem ((c.tc : Thread Cert.ReferenceIdeal.nD Cert.ReferenceIdeal.τ).loc Cert.ReferenceIdeal.main_v227) = v4 c
          ∧ r.2.mem ((c.tc : Thread Cert.ReferenceIdeal.nD Cert.ReferenceIdeal.τ).loc Cert.ReferenceIdeal.main_v228) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v32_0)) (v1 : (c : Dev Cert.Kernel7Ideal.nD) → Buf (Elt Ideal) ((c.tc : Thread Cert.Kernel7Ideal.nD Cert.Kernel7Ideal.τ).loc Cert.Kernel7Ideal.main_v32_1)) (v2 : (c : Dev Cert.Kernel7Ideal.nD) → Buf (Elt Ideal) ((c.tc : Thread Cert.Kernel7Ideal.nD Cert.Kernel7Ideal.τ).loc Cert.Kernel7Ideal.main_v32_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v32_0) = v0 c
          ∧ r.2.mem ((c.tc : Thread Cert.Kernel7Ideal.nD Cert.Kernel7Ideal.τ).loc Cert.Kernel7Ideal.main_v32_1) = v1 c
          ∧ r.2.mem ((c.tc : Thread Cert.Kernel7Ideal.nD Cert.Kernel7Ideal.τ).loc Cert.Kernel7Ideal.main_v32_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_v53) = v1 c
          ∧ r.2.mem ((c.tc : Thread Cert.Reference7Ideal.nD Cert.Reference7Ideal.τ).loc Cert.Reference7Ideal.main_v54) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)) (v2 : (c : Dev Cert.Kernel8Ideal.nD) → Buf (Elt Ideal) ((c.tc : Thread Cert.Kernel8Ideal.nD Cert.Kernel8Ideal.τ).loc Cert.Kernel8Ideal.main_v6_2)) (v3 : (c : Dev Cert.Kernel8Ideal.nD) → Buf (Elt Ideal) ((c.tc : Thread Cert.Kernel8Ideal.nD Cert.Kernel8Ideal.τ).loc Cert.Kernel8Ideal.main_v6_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_v6_2) = v2 c
          ∧ r.2.mem ((c.tc : Thread Cert.Kernel8Ideal.nD Cert.Kernel8Ideal.τ).loc Cert.Kernel8Ideal.main_v6_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_v28) = v1 c
          ∧ r.2.mem ((c.tc : Thread Cert.Reference8Ideal.nD Cert.Reference8Ideal.τ).loc Cert.Reference8Ideal.main_v31) = v2 c
          ∧ r.2.mem ((c.tc : Thread Cert.Reference8Ideal.nD Cert.Reference8Ideal.τ).loc Cert.Reference8Ideal.main_v32) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)) (v2 : (c : Dev Cert.Kernel9Ideal.nD) → Buf (Elt Ideal) ((c.tc : Thread Cert.Kernel9Ideal.nD Cert.Kernel9Ideal.τ).loc Cert.Kernel9Ideal.main_v3_2)) (v3 : (c : Dev Cert.Kernel9Ideal.nD) → Buf (Elt Ideal) ((c.tc : Thread Cert.Kernel9Ideal.nD Cert.Kernel9Ideal.τ).loc Cert.Kernel9Ideal.main_v3_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_v3_2) = v2 c
          ∧ r.2.mem ((c.tc : Thread Cert.Kernel9Ideal.nD Cert.Kernel9Ideal.τ).loc Cert.Kernel9Ideal.main_v3_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v31) = v1 c
          ∧ r.2.mem ((c.tc : Thread Cert.Reference9Ideal.nD Cert.Reference9Ideal.τ).loc Cert.Reference9Ideal.main_v12) = v2 c
          ∧ r.2.mem ((c.tc : Thread Cert.Reference9Ideal.nD Cert.Reference9Ideal.τ).loc Cert.Reference9Ideal.main_v18) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v31) = v1 c
          ∧ r.2.mem ((c.tc : Thread Cert.Reference10Ideal.nD Cert.Reference10Ideal.τ).loc Cert.Reference10Ideal.main_v12) = v2 c
          ∧ r.2.mem ((c.tc : Thread Cert.Reference10Ideal.nD Cert.Reference10Ideal.τ).loc Cert.Reference10Ideal.main_v18) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_v31) = v1 c
          ∧ r.2.mem ((c.tc : Thread Cert.Reference11Ideal.nD Cert.Reference11Ideal.τ).loc Cert.Reference11Ideal.main_v12) = v2 c
          ∧ r.2.mem ((c.tc : Thread Cert.Reference11Ideal.nD Cert.Reference11Ideal.τ).loc Cert.Reference11Ideal.main_v18) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4096x1024 : Shape := ⟨2, ![4096, 1024]⟩
abbrev S1024x1024 : Shape := ⟨2, ![1024, 1024]⟩
abbrev S4096x6144 : Shape := ⟨2, ![4096, 6144]⟩
abbrev S1024 : Shape := ⟨1, ![1024]⟩
abbrev S8x128x128 : Shape := ⟨3, ![8, 128, 128]⟩
abbrev S8x128 : Shape := ⟨2, ![8, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4096x6144 : S_.BroadcastsInDim S4096x6144 (![] : Fin 0 → Fin S4096x6144.rank)
  reducesTo_S4096x6144_S_d0_1 : S4096x6144.ReducesTo [0, 1] S_
  bcast_S_S1024 : S_.BroadcastsInDim S1024 (![] : Fin 0 → Fin S1024.rank)
  reducesTo_S1024_S_d0 : S1024.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part2 {F : FTy → Type} [FloatOps F] (main_arg7 : FVec F S8x128x128 .f32) (main_arg8 : FVec F S8x128 .f32) (main_v29 : IVec S_ 1) (main_v32 : IVec S1024 1) (main_c_12 : IVec S_ 1) : IVec S_ 1 :=
  let main_v33 : IVec S_ 1 := (fun x v => Host.reduce IntOp.andi x v reducesTo_S1024_S_d0 h_S_) main_v32 main_c_12
  let main_v34 : IVec S_ 1 := andi main_v29 main_v33
  let main_v35 : FVec F S8x128x128 .f32 := Host.absf main_arg7
  let main_cst_13 : FVec F S_ .f32 := constant S_ .f32 0x7F800000#32
  let main_v36 : FVec F S8x128x128 .f32 := broadcastInDim S8x128x128 ![] bcast_S_S8x128x128 main_cst_13
  let main_v37 : IVec S8x128x128 1 := cmpf .olt main_v35 main_v36
  let main_c_14 : IVec S_ 1 := constantI S_ 1 1#1
  let main_v38 : IVec S_ 1 := (fun x v => Host.reduce IntOp.andi x v reducesTo_S8x128x128_S_d0_1_2 h_S_) main_v37 main_c_14
  let main_v39 : IVec S_ 1 := andi main_v34 main_v38
  let main_v40 : FVec F S8x128 .f32 := Host.absf main_arg8
  let main_cst_15 : FVec F S_ .f32 := constant S_ .f32 0x7F800000#32
  let main_v41 : FVec F S8x128 .f32 := broadcastInDim S8x128 ![] bcast_S_S8x128 main_cst_15
  let main_v42 : IVec S8x128 1 := cmpf .olt main_v40 main_v41
  let main_c_16 : IVec S_ 1 := constantI S_ 1 1#1
  let main_v43 : IVec S_ 1 := (fun x v => Host.reduce IntOp.andi x v reducesTo_S8x128_S_d0_1 h_S_) main_v42 main_c_16
  let main_v44 : IVec S_ 1 := andi main_v39 main_v43
  main_v44

def fn_part1 {F : FTy → Type} [FloatOps F] (main_arg4 : FVec F S4096x6144 .f32) (main_arg5 : FVec F S1024 .f32) (main_arg6 : FVec F S1024 .f32) (main_arg7 : FVec F S8x128x128 .f32) (main_arg8 : FVec F S8x128 .f32) (main_v14 : IVec S_ 1) (main_v15 : FVec F S4096x1024 .f32) (main_cst_5 : FVec F S_ .f32) : IVec S_ 1 :=
  let main_v16 : FVec F S4096x1024 .f32 := broadcastInDim S4096x1024 ![] bcast_S_S4096x1024 main_cst_5
  let main_v17 : IVec S4096x1024 1 := cmpf .olt main_v15 main_v16
  let main_c_6 : IVec S_ 1 := constantI S_ 1 1#1
  let main_v18 : IVec S_ 1 := (fun x v => Host.reduce IntOp.andi x v reducesTo_S4096x1024_S_d0_1 h_S_) main_v17 main_c_6
  let main_v19 : IVec S_ 1 := andi main_v14 main_v18
  let main_v20 : FVec F S4096x6144 .f32 := Host.absf main_arg4
  let main_cst_7 : FVec F S_ .f32 := constant S_ .f32 0x7F800000#32
  let main_v21 : FVec F S4096x6144 .f32 := broadcastInDim S4096x6144 ![] bcast_S_S4096x6144 main_cst_7
  let main_v22 : IVec S4096x6144 1 := cmpf .olt main_v20 main_v21
  let main_c_8 : IVec S_ 1 := constantI S_ 1 1#1
  let main_v23 : IVec S_ 1 := (fun x v => Host.reduce IntOp.andi x v reducesTo_S4096x6144_S_d0_1 h_S_) main_v22 main_c_8
  let main_v24 : IVec S_ 1 := andi main_v19 main_v23
  let main_v25 : FVec F S1024 .f32 := Host.absf main_arg5
  let main_cst_9 : FVec F S_ .f32 := constant S_ .f32 0x7F800000#32
  let main_v26 : FVec F S1024 .f32 := broadcastInDim S1024 ![] bcast_S_S1024 main_cst_9
  let main_v27 : IVec S1024 1 := cmpf .olt main_v25 main_v26
  let main_c_10 : IVec S_ 1 := constantI S_ 1 1#1
  let main_v28 : IVec S_ 1 := (fun x v => Host.reduce IntOp.andi x v reducesTo_S1024_S_d0 h_S_) main_v27 main_c_10
  let main_v29 : IVec S_ 1 := andi main_v24 main_v28
  let main_v30 : FVec F S1024 .f32 := Host.absf main_arg6
  let main_cst_11 : FVec F S_ .f32 := constant S_ .f32 0x7F800000#32
  let main_v31 : FVec F S1024 .f32 := broadcastInDim S1024 ![] bcast_S_S1024 main_cst_11
  let main_v32 : IVec S1024 1 := cmpf .olt main_v30 main_v31
  let main_c_12 : IVec S_ 1 := constantI S_ 1 1#1
  fn_part2 (F := F) main_arg7 main_arg8 main_v29 main_v32 main_c_12

def fn {F : FTy → Type} [FloatOps F] (main_arg0 : FVec F S4096x1024 .f32) (main_arg1 : FVec F S1024x1024 .f32) (main_arg2 : FVec F S4096x1024 .f32) (main_arg3 : FVec F S4096x1024 .f32) (main_arg4 : FVec F S4096x6144 .f32) (main_arg5 : FVec F S1024 .f32) (main_arg6 : FVec F S1024 .f32) (main_arg7 : FVec F S8x128x128 .f32) (main_arg8 : FVec F S8x128 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S1024x1024 .f32 := Host.absf main_arg1
  let main_cst_1 : FVec F S_ .f32 := constant S_ .f32 0x7F800000#32
  let main_v6 : FVec F S1024x1024 .f32 := broadcastInDim S1024x1024 ![] bcast_S_S1024x1024 main_cst_1
  let main_v7 : IVec S1024x1024 1 := cmpf .olt main_v5 main_v6
  let main_c_2 : IVec S_ 1 := constantI S_ 1 1#1
  let main_v8 : IVec S_ 1 := (fun x v => Host.reduce IntOp.andi x v reducesTo_S1024x1024_S_d0_1 h_S_) main_v7 main_c_2
  let main_v9 : IVec S_ 1 := andi main_v4 main_v8
  let main_v10 : FVec F S4096x1024 .f32 := Host.absf main_arg2
  let main_cst_3 : FVec F S_ .f32 := constant S_ .f32 0x7F800000#32
  let main_v11 : FVec F S4096x1024 .f32 := broadcastInDim S4096x1024 ![] bcast_S_S4096x1024 main_cst_3
  let main_v12 : IVec S4096x1024 1 := cmpf .olt main_v10 main_v11
  let main_c_4 : IVec S_ 1 := constantI S_ 1 1#1
  let main_v13 : IVec S_ 1 := (fun x v => Host.reduce IntOp.andi x v reducesTo_S4096x1024_S_d0_1 h_S_) main_v12 main_c_4
  let main_v14 : IVec S_ 1 := andi main_v9 main_v13
  let main_v15 : FVec F S4096x1024 .f32 := Host.absf main_arg3
  let main_cst_5 : FVec F S_ .f32 := constant S_ .f32 0x7F800000#32
  fn_part1 (F := F) main_arg4 main_arg5 main_arg6 main_arg7 main_arg8 main_v14 main_v15 main_cst_5
-- ==== Pre_finite6.lean ====
abbrev S4096x6144 : Shape := ⟨2, ![4096, 6144]⟩
abbrev S1024x6144 : Shape := ⟨2, ![1024, 6144]⟩
abbrev S4096x1024 : Shape := ⟨2, ![4096, 1024]⟩
abbrev S1024 : Shape := ⟨1, ![1024]⟩
abbrev S_ : Shape := ⟨0, ![]⟩

class Facts : Prop where
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S1024x6144 : S_.BroadcastsInDim S1024x6144 (![] : Fin 0 → Fin S1024x6144.rank)
  reducesTo_S1024x6144_S_d0_1 : S1024x6144.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_v14 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .olt main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v14 main_v18
  let main_v20 : FVec F S4096x1024 .f32 := Host.absf main_arg4
  let main_cst_7 : FVec F S_ .f32 := constant S_ .f32 0x7F800000#32
  let main_v21 : FVec F S4096x1024 .f32 := broadcastInDim S4096x1024 ![] bcast_S_S4096x1024 main_cst_7
  let main_v22 : IVec S4096x1024 1 := cmpf .olt main_v20 main_v21
  let main_c_8 : IVec S_ 1 := constantI S_ 1 1#1
  let main_v23 : IVec S_ 1 := (fun x v => Host.reduce IntOp.andi x v reducesTo_S4096x1024_S_d0_1 h_S_) main_v22 main_c_8
  let main_v24 : IVec S_ 1 := andi main_v19 main_v23
  main_v24

def fn {F : FTy → Type} [FloatOps F] (main_arg0 : FVec F S4096x6144 .f32) (main_arg1 : FVec F S1024x6144 .f32) (main_arg2 : FVec F S4096x1024 .f32) (main_arg3 : FVec F S1024 .f32) (main_arg4 : FVec F S4096x1024 .f32) : IVec S_ 1 :=
  let main_v0 : FVec F S4096x6144 .f32 := Host.absf main_arg0
  let main_cst : FVec F S_ .f32 := constant S_ .f32 0x7F800000#32
  let main_v1 : FVec F S4096x6144 .f32 := broadcastInDim S4096x6144 ![] bcast_S_S4096x6144 main_cst
  let main_v2 : IVec S4096x6144 1 := cmpf .olt main_v0 main_v1
  let main_c : IVec S_ 1 := constantI S_ 1 1#1
  let main_v3 : IVec S_ 1 := (fun x v => Host.reduce IntOp.andi x v reducesTo_S4096x6144_S_d0_1 h_S_) main_v2 main_c
  let main_c_0 : IVec S_ 1 := constantI S_ 1 1#1
  let main_v4 : IVec S_ 1 := andi main_c_0 main_v3
  let main_v5 : FVec F S1024x6144 .f32 := Host.absf main_arg1
  let main_cst_1 : FVec F S_ .f32 := constant S_ .f32 0x7F800000#32
  let main_v6 : FVec F S1024x6144 .f32 := broadcastInDim S1024x6144 ![] bcast_S_S1024x6144 main_cst_1
  let main_v7 : IVec S1024x6144 1 := cmpf .olt main_v5 main_v6
  let main_c_2 : IVec S_ 1 := constantI S_ 1 1#1
  let main_v8 : IVec S_ 1 := (fun x v => Host.reduce IntOp.andi x v reducesTo_S1024x6144_S_d0_1 h_S_) main_v7 main_c_2
  let main_v9 : IVec S_ 1 := andi main_v4 main_v8
  let main_v10 : FVec F S4096x1024 .f32 := Host.absf main_arg2
  let main_cst_3 : FVec F S_ .f32 := constant S_ .f32 0x7F800000#32
  let main_v11 : FVec F S4096x1024 .f32 := broadcastInDim S4096x1024 ![] bcast_S_S4096x1024 main_cst_3
  let main_v12 : IVec S4096x1024 1 := cmpf .olt main_v10 main_v11
  let main_c_4 : IVec S_ 1 := constantI S_ 1 1#1
  let main_v13 : IVec S_ 1 := (fun x v => Host.reduce IntOp.andi x v reducesTo_S4096x1024_S_d0_1 h_S_) main_v12 main_c_4
  let main_v14 : IVec S_ 1 := andi main_v9 main_v13
  let main_v15 : FVec F S1024 .f32 := Host.absf main_arg3
  let main_cst_5 : FVec F S_ .f32 := constant S_ .f32 0x7F800000#32
  fn_part1 (F := F) main_arg4 main_v14 main_v15 main_cst_5
-- ==== Pre_finite7.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v14 : IVec S_ 1) (main_v15 : FVec F S4096x1024 .f32) (main_cst_5 : FVec F S_ .f32) : IVec S_ 1 :=
  let main_v16 : FVec F S4096x1024 .f32 := broadcastInDim S4096x1024 ![] bcast_S_S4096x1024 main_cst_5
  let main_v17 : IVec S4096x1024 1 := cmpf .olt main_v15 main_v16
  let main_c_6 : IVec S_ 1 := constantI S_ 1 1#1
  let main_v18 : IVec S_ 1 := (fun x v => Host.reduce IntOp.andi x v reducesTo_S4096x1024_S_d0_1 h_S_) main_v17 main_c_6
  let main_v19 : IVec S_ 1 := andi main_v14 main_v18
  let main_v20 : FVec F S1024 .f32 := Host.absf main_arg4
  let main_cst_7 : FVec F S_ .f32 := constant S_ .f32 0x7F800000#32
  let main_v21 : FVec F S1024 .f32 := broadcastInDim S1024 ![] bcast_S_S1024 main_cst_7
  let main_v22 : IVec S1024 1 := cmpf .olt main_v20 main_v21
  let main_c_8 : IVec S_ 1 := constantI S_ 1 1#1
  let main_v23 : IVec S_ 1 := (fun x v => Host.reduce IntOp.andi x v reducesTo_S1024_S_d0 h_S_) main_v22 main_c_8
  let main_v24 : IVec S_ 1 := andi main_v19 main_v23
  main_v24

def fn {F : FTy → Type} [FloatOps F] (main_arg0 : FVec F S4096x1024 .f32) (main_arg1 : FVec F S1024x5632 .f32) (main_arg2 : FVec F S2816x1024 .f32) (main_arg3 : FVec F S4096x1024 .f32) (main_arg4 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S1024x5632 .f32 := Host.absf main_arg1
  let main_cst_1 : FVec F S_ .f32 := constant S_ .f32 0x7F800000#32
  let main_v6 : FVec F S1024x5632 .f32 := broadcastInDim S1024x5632 ![] bcast_S_S1024x5632 main_cst_1
  let main_v7 : IVec S1024x5632 1 := cmpf .olt main_v5 main_v6
  let main_c_2 : IVec S_ 1 := constantI S_ 1 1#1
  let main_v8 : IVec S_ 1 := (fun x v => Host.reduce IntOp.andi x v reducesTo_S1024x5632_S_d0_1 h_S_) main_v7 main_c_2
  let main_v9 : IVec S_ 1 := andi main_v4 main_v8
  let main_v10 : FVec F S2816x1024 .f32 := Host.absf main_arg2
  let main_cst_3 : FVec F S_ .f32 := constant S_ .f32 0x7F800000#32
  let main_v11 : FVec F S2816x1024 .f32 := broadcastInDim S2816x1024 ![] bcast_S_S2816x1024 main_cst_3
  let main_v12 : IVec S2816x1024 1 := cmpf .olt main_v10 main_v11
  let main_c_4 : IVec S_ 1 := constantI S_ 1 1#1
  let main_v13 : IVec S_ 1 := (fun x v => Host.reduce IntOp.andi x v reducesTo_S2816x1024_S_d0_1 h_S_) main_v12 main_c_4
  let main_v14 : IVec S_ 1 := andi main_v9 main_v13
  let main_v15 : FVec F S4096x1024 .f32 := Host.absf main_arg3
  let main_cst_5 : FVec F S_ .f32 := constant S_ .f32 0x7F800000#32
  fn_part1 (F := F) main_arg4 main_v14 main_v15 main_cst_5
-- ==== Kernel.lean ====
abbrev S4096x1024 : Shape := ⟨2, ![4096, 1024]⟩
abbrev S1024x1024 : Shape := ⟨2, ![1024, 1024]⟩
abbrev S4096x6144 : Shape := ⟨2, ![4096, 6144]⟩
abbrev S1024 : Shape := ⟨1, ![1024]⟩
abbrev S8x128x128 : Shape := ⟨3, ![8, 128, 128]⟩
abbrev S8x128 : Shape := ⟨2, ![8, 128]⟩
abbrev S8x128x1 : Shape := ⟨3, ![8, 128, 1]⟩
abbrev S1x1024 : Shape := ⟨2, ![1, 1024]⟩
abbrev S512x1024 : Shape := ⟨2, ![512, 1024]⟩
abbrev S512x6144 : Shape := ⟨2, ![512, 6144]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩

abbrev nBuf : Space → Nat
  | .hbm => 24
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x6144, .f32⟩
  | .hbm, ⟨5, _⟩ => ⟨S1024, .f32⟩
  | .hbm, ⟨6, _⟩ => ⟨S1024, .f32⟩
  | .hbm, ⟨7, _⟩ => ⟨S8x128x128, .f32⟩
  | .hbm, ⟨8, _⟩ => ⟨S8x128, .f32⟩
  | .hbm, ⟨9, _⟩ => ⟨S8x128x128, .bf16⟩
  | .hbm, ⟨10, _⟩ => ⟨S8x128x128, .f32⟩
  | .hbm, ⟨11, _⟩ => ⟨S8x128x128, .bf16⟩
  | .hbm, ⟨12, _⟩ => ⟨S8x128x1, .f32⟩
  | .hbm, ⟨13, _⟩ => ⟨S8x128x128, .f32⟩
  | .hbm, ⟨14, _⟩ => ⟨S1024x1024, .bf16⟩
  | .hbm, ⟨15, _⟩ => ⟨S4096x6144, .bf16⟩
  | .hbm, ⟨16, _⟩ => ⟨S1x1024, .f32⟩
  | .hbm, ⟨17, _⟩ => ⟨S1x1024, .f32⟩
  | .hbm, ⟨18, _⟩ => ⟨S4096x6144, .bf16⟩
  | .hbm, ⟨19, _⟩ => ⟨S4096x1024, .f32⟩
  | .hbm, ⟨20, _⟩ => ⟨S8x128x128, .f32⟩
  | .hbm, ⟨21, _⟩ => ⟨S8x128, .f32⟩
  | .hbm, ⟨22, _⟩ => ⟨S8x128, .f32⟩
  | .hbm, ⟨23, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S8x128x128, .bf16⟩
  | .local _ .vmem, ⟨20, _⟩ => ⟨S8x128x128, .bf16⟩
  | .local _ .vmem, ⟨21, _⟩ => ⟨S8x128x128, .f32⟩
  | .local _ .vmem, ⟨22, _⟩ => ⟨S512x6144, .bf16⟩
  | .local _ .vmem, ⟨23, _⟩ => ⟨S512x6144, .bf16⟩
  | .local _ .vmem, ⟨24, _⟩ => ⟨S512x1024, .f32⟩
  | .local _ .vmem, ⟨25, _⟩ => ⟨S512x1024, .f32⟩
  | .local _ .vmem, ⟨26, _⟩ => ⟨S8x128x128, .f32⟩
  | .local _ .vmem, ⟨27, _⟩ => ⟨S8x128, .f32⟩
  | .local _ .vmem, ⟨28, _⟩ => ⟨S8x128, .f32⟩
  | .local _ .vmem, ⟨29, _⟩ => ⟨S8x128, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S8x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem17_0 : DmaSem sig := 27
abbrev cc0_sem18_0 : DmaSem sig := 28
abbrev cc0_sem19_0 : DmaSem sig := 29

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v1580 : BitVec 1 := Scalar.cmpi .eq arg0 c7_i32
  let v1581 : BitVec 32 := Scalar.extui v1580
  let c0_i32_1102 : BitVec 32 := 0#32
  let v1582 : BitVec 1 := Scalar.cmpi .ne v1581 c0_i32_1102
  v1582

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x6144 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S4096x1024 : Shape := ⟨2, ![4096, 1024]⟩
abbrev S1024x1024 : Shape := ⟨2, ![1024, 1024]⟩
abbrev S4096x6144 : Shape := ⟨2, ![4096, 6144]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S8x32x128x128 : Shape := ⟨4, ![8, 32, 128, 128]⟩
abbrev S128x8 : Shape := ⟨2, ![128, 8]⟩
abbrev S1x128x8x1 : Shape := ⟨4, ![1, 128, 8, 1]⟩

abbrev nBuf : Space → Nat
  | .hbm => 297
  | .vmem => 0
  | .smem => 0
  | _ => 0

abbrev hbmTy0_0 (i : Nat) : BufTy := match i % 128 with
  | 0 => ⟨S4096x1024, .f32⟩
  | 1 => ⟨S1024x1024, .f32⟩
  | 2 => ⟨S4096x1024, .f32⟩
  | 3 => ⟨S4096x1024, .f32⟩
  | 4 => ⟨S4096x6144, .f32⟩
  | 5 => ⟨S1024, .f32⟩
  | 6 => ⟨S1024, .f32⟩
  | 7 => ⟨S8x128x128, .f32⟩
  | 8 => ⟨S8x128, .f32⟩
  | 9 => ⟨S4096x1024, .f32⟩
  | 10 => ⟨S4096x1024, .f32⟩
  | 11 => ⟨S_, .f32⟩
  | 12 => ⟨S_, .f32⟩
  | 13 => ⟨S_, .f32⟩
  | 14 => ⟨S4096x1024, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S4096x1024, .f32⟩
  | 41 => ⟨S4096x1024, .f32⟩
  | 42 => ⟨S_, .f32⟩
  | 43 => ⟨S_, .f32⟩
  | 44 => ⟨S_, .f32⟩
  | 45 => ⟨S4096x1024, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S4096x1024, .f32⟩
  | 72 => ⟨S_, .f32⟩
  | 73 => ⟨S4096, .f32⟩
  | 74 => ⟨S4096x1, .f32⟩
  | 75 => ⟨S_, .f32⟩
  | 76 => ⟨S4096x1, .f32⟩
  | 77 => ⟨S4096x1, .f32⟩
  | 78 => ⟨S4096x1024, .f32⟩
  | 79 => ⟨S4096x1024, .f32⟩
  | 80 => ⟨S4096x1024, .f32⟩
  | 81 => ⟨S_, .f32⟩
  | 82 => ⟨S4096, .f32⟩
  | 83 => ⟨S4096x1, .f32⟩
  | 84 => ⟨S_, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x1, .f32⟩
  | 91 => ⟨S4096x1, .f32⟩
  | 92 => ⟨S_, .f32⟩
  | 93 => ⟨S4096x1, .f32⟩
  | 94 => ⟨S4096x1, .f32⟩
  | 95 => ⟨S4096x1024, .f32⟩
  | 96 => ⟨S4096x1024, .f32⟩
  | 97 => ⟨S1x1024, .f32⟩
  | 98 => ⟨S4096x1024, .f32⟩
  | 99 => ⟨S4096x1024, .f32⟩
  | 100 => ⟨S1x1024, .f32⟩
  | 101 => ⟨S4096x1024, .f32⟩
  | 102 => ⟨S4096x1024, .f32⟩
  | 103 => ⟨S32x128x8x128, .f32⟩
  | 104 => ⟨S8x32x128x128, .f32⟩
  | 105 => ⟨S32x128x8x128, .f32⟩
  | 106 => ⟨S128x8, .f32⟩
  | 107 => ⟨S1x128x8x1, .f32⟩
  | 108 => ⟨S32x128x8x128, .f32⟩
  | 109 => ⟨S32x128x8x128, .f32⟩
  | 110 => ⟨S4096x1024, .f32⟩
  | 111 => ⟨S4096x1024, .f32⟩
  | 112 => ⟨S4096x1024, .f32⟩
  | 113 => ⟨S_, .f32⟩
  | 114 => ⟨S_, .f32⟩
  | 115 => ⟨S_, .f32⟩
  | 116 => ⟨S4096x1024, .f32⟩
  | 117 => ⟨S4096x1024, .f32⟩
  | 118 => ⟨S4096x1024, .f32⟩
  | 119 => ⟨S_, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S_, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S_, .f32⟩
  | 2 => ⟨S4096x1024, .f32⟩
  | 3 => ⟨S4096x1024, .f32⟩
  | 4 => ⟨S_, .f32⟩
  | 5 => ⟨S4096x1024, .f32⟩
  | 6 => ⟨S4096x1024, .f32⟩
  | 7 => ⟨S4096x1024, .f32⟩
  | 8 => ⟨S_, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S_, .f32⟩
  | 51 => ⟨S4096x6144, .f32⟩
  | 52 => ⟨S4096x1024, .f32⟩
  | 53 => ⟨S4096x1024, .f32⟩
  | 54 => ⟨S4096x1024, .f32⟩
  | 55 => ⟨S_, .f32⟩
  | 56 => ⟨S4096x6144, .f32⟩
  | 57 => ⟨S4096x6144, .f32⟩
  | 58 => ⟨S4096x1024, .f32⟩
  | 59 => ⟨S4096x1024, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S4096x1024, .f32⟩
  | 66 => ⟨S_, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S_, .f32⟩
  | 75 => ⟨S4096x6144, .f32⟩
  | 76 => ⟨S4096x6144, .f32⟩
  | 77 => ⟨S4096x1024, .f32⟩
  | 78 => ⟨S4096x1024, .f32⟩
  | 79 => ⟨S32x128x8x128, .f32⟩
  | 80 => ⟨S_, .f32⟩
  | 81 => ⟨S128x8, .f32⟩
  | 82 => ⟨S1x128x8x1, .f32⟩
  | 83 => ⟨S_, .f32⟩
  | 84 => ⟨S128x8, .f32⟩
  | 85 => ⟨S8x128, .f32⟩
  | 86 => ⟨S8x32x128x128, .f32⟩
  | 87 => ⟨S8x128x128, .f32⟩
  | 88 => ⟨S8x32x128x128, .f32⟩
  | 89 => ⟨S32x128x8x128, .f32⟩
  | 90 => ⟨S4096x1024, .f32⟩
  | 91 => ⟨S_, .f32⟩
  | 92 => ⟨S1024, .f32⟩
  | 93 => ⟨S1x1024, .f32⟩
  | 94 => ⟨S_, .f32⟩
  | 95 => ⟨S1024, .f32⟩
  | 96 => ⟨S4096x1024, .f32⟩
  | 97 => ⟨S_, .f32⟩
  | 98 => ⟨S1024, .f32⟩
  | 99 => ⟨S1x1024, .f32⟩
  | 100 => ⟨S4096x1024, .f32⟩
  | 101 => ⟨S4096x1024, .f32⟩
  | 102 => ⟨S_, .f32⟩
  | 103 => ⟨S1024, .f32⟩
  | 104 => ⟨S4096x1024, .f32⟩
  | 105 => ⟨S_, .f32⟩
  | 106 => ⟨S4096, .f32⟩
  | 107 => ⟨S4096x1, .f32⟩
  | 108 => ⟨S4096x1024, .f32⟩
  | 109 => ⟨S4096x1024, .f32⟩
  | 110 => ⟨S4096x1, .f32⟩
  | 111 => ⟨S_, .f32⟩
  | 112 => ⟨S4096x1, .f32⟩
  | 113 => ⟨S4096x1, .f32⟩
  | 114 => ⟨S_, .f32⟩
  | 115 => ⟨S4096, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S_, .f32⟩
  | 123 => ⟨S4096, .f32⟩
  | 124 => ⟨S4096x1, .f32⟩
  | 125 => ⟨S_, .f32⟩
  | 126 => ⟨S4096x1, .f32⟩
  | 127 => ⟨S4096x1, .f32⟩
  | _ => ⟨S4096x1024, .f32⟩

abbrev hbmTy0_2 (i : Nat) : BufTy := match i % 128 with
  | 0 => ⟨S_, .f32⟩
  | 1 => ⟨S4096, .f32⟩
  | 2 => ⟨S4096x1024, .f32⟩
  | 3 => ⟨S4096x1024, .f32⟩
  | 4 => ⟨S4096x1024, .f32⟩
  | 5 => ⟨S4096x1024, .f32⟩
  | 6 => ⟨S_, .f32⟩
  | 7 => ⟨S4096x1024, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S_, .f32⟩
  | 19 => ⟨S4096x6144, .f32⟩
  | 20 => ⟨S4096x6144, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S_, .f32⟩
  | 36 => ⟨S4096x6144, .f32⟩
  | 37 => ⟨S4096x6144, .f32⟩
  | 38 => ⟨S4096x6144, .bf16⟩
  | 39 => ⟨S8x128, .f32⟩
  | 40 => ⟨S8x128, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_11 : Ref sig .tc := ⟨.hbm, 58, rfl⟩
abbrev main_v37 : Ref sig .tc := ⟨.hbm, 59, rfl⟩
abbrev main_v38 : Ref sig .tc := ⟨.hbm, 60, rfl⟩
abbrev main_cst_12 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_13 : Ref sig .tc := ⟨.hbm, 65, rfl⟩
abbrev main_v42 : Ref sig .tc := ⟨.hbm, 66, rfl⟩
abbrev main_v43 : Ref sig .tc := ⟨.hbm, 67, rfl⟩
abbrev main_cst_14 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_15 : Ref sig .tc := ⟨.hbm, 72, rfl⟩
abbrev main_v47 : Ref sig .tc := ⟨.hbm, 73, rfl⟩
abbrev main_v48 : Ref sig .tc := ⟨.hbm, 74, rfl⟩
abbrev main_cst_16 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_17 : Ref sig .tc := ⟨.hbm, 81, rfl⟩
abbrev main_v54 : Ref sig .tc := ⟨.hbm, 82, rfl⟩
abbrev main_v55 : Ref sig .tc := ⟨.hbm, 83, rfl⟩
abbrev main_cst_18 : Ref sig .tc := ⟨.hbm, 84, rfl⟩
abbrev main_v56 : Ref sig .tc := ⟨.hbm, 85, rfl⟩
abbrev main_v57 : Ref sig .tc := ⟨.hbm, 86, rfl⟩
abbrev main_cst_19 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_20 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_21 : Ref sig .tc := ⟨.hbm, 113, rfl⟩
abbrev main_cst_22 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_23 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_24 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_25 : Ref sig .tc := ⟨.hbm, 129, rfl⟩
abbrev main_v94 : Ref sig .tc := ⟨.hbm, 130, rfl⟩
abbrev main_v95 : Ref sig .tc := ⟨.hbm, 131, rfl⟩
abbrev main_cst_26 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_27 : Ref sig .tc := ⟨.hbm, 136, rfl⟩
abbrev main_v99 : Ref sig .tc := ⟨.hbm, 137, rfl⟩
abbrev main_v100 : Ref sig .tc := ⟨.hbm, 138, rfl⟩
abbrev main_cst_28 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_29 : Ref sig .tc := ⟨.hbm, 147, rfl⟩
abbrev main_v108 : Ref sig .tc := ⟨.hbm, 148, rfl⟩
abbrev main_v109 : Ref sig .tc := ⟨.hbm, 149, rfl⟩
abbrev main_cst_30 : Ref sig .tc := ⟨.hbm, 150, rfl⟩
abbrev main_v110 : Ref sig .tc := ⟨.hbm, 151, rfl⟩
abbrev main_v111 : Ref sig .tc := ⟨.hbm, 152, rfl⟩
abbrev main_cst_31 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_32 : Ref sig .tc := ⟨.hbm, 161, rfl⟩
abbrev main_v119 : Ref sig .tc := ⟨.hbm, 162, rfl⟩
abbrev main_v120 : Ref sig .tc := ⟨.hbm, 163, rfl⟩
abbrev main_cst_33 : Ref sig .tc := ⟨.hbm, 164, rfl⟩
abbrev main_v121 : Ref sig .tc := ⟨.hbm, 165, rfl⟩
abbrev main_v122 : Ref sig .tc := ⟨.hbm, 166, rfl⟩
abbrev main_cst_34 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_35 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_36 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_37 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_cst_38 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_cst_39 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_cst_40 : Ref sig .tc := ⟨.hbm, 208, rfl⟩
abbrev main_v158 : Ref sig .tc := ⟨.hbm, 209, rfl⟩
abbrev main_v159 : Ref sig .tc := ⟨.hbm, 210, rfl⟩
abbrev main_cst_41 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_cst_42 : Ref sig .tc := ⟨.hbm, 219, rfl⟩
abbrev main_v167 : Ref sig .tc := ⟨.hbm, 220, rfl⟩
abbrev main_v168 : Ref sig .tc := ⟨.hbm, 221, rfl⟩
abbrev main_cst_43 : Ref sig .tc := ⟨.hbm, 222, rfl⟩
abbrev main_v169 : Ref sig .tc := ⟨.hbm, 223, rfl⟩
abbrev main_v170 : Ref sig .tc := ⟨.hbm, 224, rfl⟩
abbrev main_cst_44 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_cst_45 : Ref sig .tc := ⟨.hbm, 230, rfl⟩
abbrev main_v175 : Ref sig .tc := ⟨.hbm, 231, rfl⟩
abbrev main_v176 : Ref sig .tc := ⟨.hbm, 232, rfl⟩
abbrev main_cst_46 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_cst_47 : Ref sig .tc := ⟨.hbm, 239, rfl⟩
abbrev main_v182 : Ref sig .tc := ⟨.hbm, 240, rfl⟩
abbrev main_v183 : Ref sig .tc := ⟨.hbm, 241, rfl⟩
abbrev main_cst_48 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_cst_49 : Ref sig .tc := ⟨.hbm, 250, rfl⟩
abbrev main_v191 : Ref sig .tc := ⟨.hbm, 251, rfl⟩
abbrev main_v192 : Ref sig .tc := ⟨.hbm, 252, rfl⟩
abbrev main_cst_50 : Ref sig .tc := ⟨.hbm, 253, rfl⟩
abbrev main_v193 : Ref sig .tc := ⟨.hbm, 254, rfl⟩
abbrev main_v194 : Ref sig .tc := ⟨.hbm, 255, rfl⟩
abbrev main_cst_51 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_cst_52 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_cst_53 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_cst_54 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_cst_55 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_cst_56 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_cst_57 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩

abbrev nD : Nat := 1
abbrev τ : Topo := Topo.v7x

variable {F : FTy → Type} [FloatOps F]
-- ==== Kernel2.lean ====
abbrev S4x4096x704 : Shape := ⟨3, ![4, 4096, 704]⟩
abbrev S4096x1024 : Shape := ⟨2, ![4096, 1024]⟩
abbrev S4x704x1024 : Shape := ⟨3, ![4, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .f32⟩
  | .hbm, ⟨2, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .f32⟩
  | .local _ .vmem, ⟨3, _⟩ => ⟨S1x704x1024, .bf16⟩
  | .local _ .vmem, ⟨4, _⟩ => ⟨S1x704x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S4x4096x704 : Shape := ⟨3, ![4, 4096, 704]⟩
abbrev S4096x1024 : Shape := ⟨2, ![4096, 1024]⟩
abbrev S4096x4x704 : Shape := ⟨3, ![4096, 4, 704]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .f32⟩
  | .hbm, ⟨2, _⟩ => ⟨S4x4096x704, .f32⟩
  | .hbm, ⟨3, _⟩ => ⟨S4096x4x704, .f32⟩
  | .hbm, ⟨4, _⟩ => ⟨S4096x2816, .f32⟩
  | .hbm, ⟨5, _⟩ => ⟨S_, .f32⟩
  | .hbm, ⟨6, _⟩ => ⟨S2816x1024, .f32⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S4x704x1024, .f32⟩
  | .hbm, ⟨11, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S8x4096x704 : Shape := ⟨3, ![8, 4096, 704]⟩
abbrev S4096x1024 : Shape := ⟨2, ![4096, 1024]⟩
abbrev S8x704x1024 : Shape := ⟨3, ![8, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8x4096x704, .bf16⟩
  | .hbm, ⟨1, _⟩ => ⟨S4096x1024, .bf16⟩
  | .hbm, ⟨2, _⟩ => ⟨S8x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S8x4096x704 : Shape := ⟨3, ![8, 4096, 704]⟩
abbrev S4096x1024 : Shape := ⟨2, ![4096, 1024]⟩
abbrev S4096x8x704 : Shape := ⟨3, ![4096, 8, 704]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x1024, .bf16⟩
  | .hbm, ⟨2, _⟩ => ⟨S8x4096x704, .f32⟩
  | .hbm, ⟨3, _⟩ => ⟨S4096x8x704, .f32⟩
  | .hbm, ⟨4, _⟩ => ⟨S4096x5632, .f32⟩
  | .hbm, ⟨5, _⟩ => ⟨S4096x1024, .f32⟩
  | .hbm, ⟨6, _⟩ => ⟨S_, .f32⟩
  | .hbm, ⟨7, _⟩ => ⟨S1024x5632, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S8x704x1024, .f32⟩
  | .hbm, ⟨13, _⟩ => ⟨S8x704x1024, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S1024x4096 : Shape := ⟨2, ![1024, 4096]⟩
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .f32⟩
  | .hbm, ⟨2, _⟩ => ⟨S1024x1024, .bf16⟩
  | .local _ .vmem, ⟨0, _⟩ => ⟨S1024x4096, .bf16⟩
  | .local _ .vmem, ⟨1, _⟩ => ⟨S4096x512, .f32⟩
  | .local _ .vmem, ⟨2, _⟩ => ⟨S4096x512, .f32⟩
  | .local _ .vmem, ⟨3, _⟩ => ⟨S1024x512, .bf16⟩
  | .local _ .vmem, ⟨4, _⟩ => ⟨S1024x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S1024x4096 : Shape := ⟨2, ![1024, 4096]⟩
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S1024x4096 : Shape := ⟨2, ![1024, 4096]⟩
abbrev S4096x6144 : Shape := ⟨2, ![4096, 6144]⟩
abbrev S8x1024x768 : Shape := ⟨3, ![8, 1024, 768]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x6144, .bf16⟩
  | .hbm, ⟨2, _⟩ => ⟨S8x1024x768, .bf16⟩
  | .local _ .vmem, ⟨0, _⟩ => ⟨S1024x4096, .bf16⟩
  | .local _ .vmem, ⟨1, _⟩ => ⟨S4096x768, .bf16⟩
  | .local _ .vmem, ⟨2, _⟩ => ⟨S4096x768, .bf16⟩
  | .local _ .vmem, ⟨3, _⟩ => ⟨S1x1024x768, .bf16⟩
  | .local _ .vmem, ⟨4, _⟩ => ⟨S1x1024x768, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S1024x4096 : Shape := ⟨2, ![1024, 4096]⟩
abbrev S4096x6144 : Shape := ⟨2, ![4096, 6144]⟩
abbrev S4096x1024 : Shape := ⟨2, ![4096, 1024]⟩
abbrev S_ : Shape := ⟨0, ![]⟩
abbrev S1024x6144 : Shape := ⟨2, ![1024, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 13
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x6144, .bf16⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S1024x6144, .f32⟩
  | .hbm, ⟨6, _⟩ => ⟨S4096x6144, .f32⟩
  | .hbm, ⟨7, _⟩ => ⟨S4096x6144, .f32⟩
  | .hbm, ⟨8, _⟩ => ⟨S6144x1024, .f32⟩
  | .hbm, ⟨9, _⟩ => ⟨S1024x6144, .f32⟩
  | .hbm, ⟨10, _⟩ => ⟨S1024x8x768, .f32⟩
  | .hbm, ⟨11, _⟩ => ⟨S8x1024x768, .f32⟩
  | .hbm, ⟨12, _⟩ => ⟨S8x1024x768, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S4096x6144 : Shape := ⟨2, ![4096, 6144]⟩
abbrev S1024x6144 : Shape := ⟨2, ![1024, 6144]⟩
abbrev S4096x1024 : Shape := ⟨2, ![4096, 1024]⟩
abbrev S1024 : Shape := ⟨1, ![1024]⟩
abbrev S1024x8x768 : Shape := ⟨3, ![1024, 8, 768]⟩
abbrev S8x1024x768 : Shape := ⟨3, ![8, 1024, 768]⟩
abbrev S1x1024 : Shape := ⟨2, ![1, 1024]⟩
abbrev S8x128 : Shape := ⟨2, ![8, 128]⟩
abbrev S512x6144 : Shape := ⟨2, ![512, 6144]⟩
abbrev S512x1024 : Shape := ⟨2, ![512, 1024]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩
abbrev S1x128 : Shape := ⟨2, ![1, 128]⟩

abbrev nBuf : Space → Nat
  | .hbm => 12
  | .vmem => 11
  | .smem => 0
  | _ => 0

abbrev bufTy : (tb : Table) → Fin (tcTables nBuf tb) → BufTy
  | .hbm, ⟨0, _⟩ => ⟨S4096x6144, .f32⟩
  | .hbm, ⟨1, _⟩ => ⟨S1024x6144, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x8x768, .f32⟩
  | .hbm, ⟨6, _⟩ => ⟨S8x1024x768, .f32⟩
  | .hbm, ⟨7, _⟩ => ⟨S8x1024x768, .bf16⟩
  | .hbm, ⟨8, _⟩ => ⟨S4096x6144, .bf16⟩
  | .hbm, ⟨9, _⟩ => ⟨S1x1024, .f32⟩
  | .hbm, ⟨10, _⟩ => ⟨S4096x1024, .f32⟩
  | .hbm, ⟨11, _⟩ => ⟨S8x128, .f32⟩
  | .local _ .vmem, ⟨0, _⟩ => ⟨S512x6144, .bf16⟩
  | .local _ .vmem, ⟨1, _⟩ => ⟨S512x6144, .bf16⟩
  | .local _ .vmem, ⟨2, _⟩ => ⟨S8x1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x128, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S4096x6144 : Shape := ⟨2, ![4096, 6144]⟩
abbrev S1024x6144 : Shape := ⟨2, ![1024, 6144]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 54
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S1024x6144, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x6144, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S8x128, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel7.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S2x4096x4x704 : Shape := ⟨4, ![2, 4096, 4, 704]⟩
abbrev S2x4x4096x704 : Shape := ⟨4, ![2, 4, 4096, 704]⟩
abbrev S4x704x1024 : Shape := ⟨3, ![4, 704, 1024]⟩
abbrev S5632x1024 : Shape := ⟨2, ![5632, 1024]⟩
abbrev S8x704x1024 : Shape := ⟨3, ![8, 704, 1024]⟩
abbrev S8x128 : Shape := ⟨2, ![8, 128]⟩
abbrev S512x1024 : Shape := ⟨2, ![512, 1024]⟩
abbrev S2x4x512x704 : Shape := ⟨4, ![2, 4, 512, 704]⟩
abbrev S1x704x1024 : Shape := ⟨3, ![1, 704, 1024]⟩
abbrev S704x1024 : Shape := ⟨2, ![704, 1024]⟩
abbrev S512x704 : Shape := ⟨2, ![512, 704]⟩
abbrev S1x1x512x704 : Shape := ⟨4, ![1, 1, 512, 704]⟩
abbrev S512 : Shape := ⟨1, ![512]⟩
abbrev S512x1 : Shape := ⟨2, ![512, 1]⟩
abbrev S1x128 : Shape := ⟨2, ![1, 128]⟩

abbrev nBuf : Space → Nat
  | .hbm => 59
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S1x4096x2816, .f32⟩
  | .hbm, ⟨45, _⟩ => ⟨S1x4096x2816, .f32⟩
  | .hbm, ⟨46, _⟩ => ⟨S2x4096x2816, .f32⟩
  | .hbm, ⟨47, _⟩ => ⟨S2x4096x4x704, .f32⟩
  | .hbm, ⟨48, _⟩ => ⟨S2x4x4096x704, .f32⟩
  | .hbm, ⟨49, _⟩ => ⟨S2x4x4096x704, .bf16⟩
  | .hbm, ⟨50, _⟩ => ⟨S4x704x1024, .f32⟩
  | .hbm, ⟨51, _⟩ => ⟨S4x704x1024, .bf16⟩
  | .hbm, ⟨52, _⟩ => ⟨S5632x1024, .f32⟩
  | .hbm, ⟨53, _⟩ => ⟨S8x704x1024, .f32⟩
  | .hbm, ⟨54, _⟩ => ⟨S8x704x1024, .bf16⟩
  | .hbm, ⟨55, _⟩ => ⟨S1x1024, .f32⟩
  | .hbm, ⟨56, _⟩ => ⟨S2x4x4096x704, .bf16⟩
  | .hbm, ⟨57, _⟩ => ⟨S4096x1024, .f32⟩
  | .hbm, ⟨58, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S4x704x1024, .bf16⟩
  | .local _ .vmem, ⟨3, _⟩ => ⟨S2x4x512x704, .bf16⟩
  | .local _ .vmem, ⟨4, _⟩ => ⟨S2x4x512x704, .bf16⟩
  | .local _ .vmem, ⟨5, _⟩ => ⟨S8x704x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S2x4x512x704, .bf16⟩
  | .local _ .vmem, ⟨10, _⟩ => ⟨S2x4x512x704, .bf16⟩
  | .local _ .vmem, ⟨11, _⟩ => ⟨S512x1024, .f32⟩
  | .local _ .vmem, ⟨12, _⟩ => ⟨S512x1024, .f32⟩
  | .local _ .vmem, ⟨13, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v15_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v15_1 : Ref sig .tc := ⟨.hbm, 34, rfl⟩
abbrev main_v15_0 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32_0 : Ref sig .tc := ⟨.hbm, 56, rfl⟩
abbrev main_v32_1 : Ref sig .tc := ⟨.hbm, 57, rfl⟩
abbrev main_v32_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x2x4x704 : Shape := ⟨4, ![4096, 2, 4, 704]⟩
abbrev S2x4x4096x704 : Shape := ⟨4, ![2, 4, 4096, 704]⟩
abbrev S8x128 : Shape := ⟨2, ![8, 128]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x5632, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S_, .f32⟩
  | .hbm, ⟨53, _⟩ => ⟨S4096x5632, .f32⟩
  | .hbm, ⟨54, _⟩ => ⟨S4096x5632, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x2x4x704, .f32⟩
  | .hbm, ⟨82, _⟩ => ⟨S2x4x4096x704, .f32⟩
  | .hbm, ⟨83, _⟩ => ⟨S2x4x4096x704, .bf16⟩
  | .hbm, ⟨84, _⟩ => ⟨S4096x1024, .f32⟩
  | .hbm, ⟨85, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S2x4x704x1024 : Shape := ⟨4, ![2, 4, 704, 1024]⟩
abbrev S4x704x1024 : Shape := ⟨3, ![4, 704, 1024]⟩
abbrev S1x1024 : Shape := ⟨2, ![1, 1024]⟩
abbrev S4x4096x704 : Shape := ⟨3, ![4, 4096, 704]⟩
abbrev S2x4x4096x704 : Shape := ⟨4, ![2, 4, 4096, 704]⟩
abbrev S512x1024 : Shape := ⟨2, ![512, 1024]⟩
abbrev S4x512x704 : Shape := ⟨3, ![4, 512, 704]⟩
abbrev S2x4x512x704 : Shape := ⟨4, ![2, 4, 512, 704]⟩
abbrev S512 : Shape := ⟨1, ![512]⟩
abbrev S512x1 : Shape := ⟨2, ![512, 1]⟩
abbrev S1x1x704x1024 : Shape := ⟨4, ![1, 1, 704, 1024]⟩
abbrev S704x1024 : Shape := ⟨2, ![704, 1024]⟩
abbrev S512x704 : Shape := ⟨2, ![512, 704]⟩
abbrev S1x512x704 : Shape := ⟨3, ![1, 512, 704]⟩
abbrev S1x1x512x704 : Shape := ⟨4, ![1, 1, 512, 704]⟩
abbrev S1x704x1024 : Shape := ⟨3, ![1, 704, 1024]⟩

abbrev nBuf : Space → Nat
  | .hbm => 14
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S5632x1024, .f32⟩
  | .hbm, ⟨5, _⟩ => ⟨S2x4x704x1024, .f32⟩
  | .hbm, ⟨6, _⟩ => ⟨S2x4x704x1024, .bf16⟩
  | .hbm, ⟨7, _⟩ => ⟨S4x704x1024, .f32⟩
  | .hbm, ⟨8, _⟩ => ⟨S4x704x1024, .bf16⟩
  | .hbm, ⟨9, _⟩ => ⟨S1x1024, .f32⟩
  | .hbm, ⟨10, _⟩ => ⟨S4096x1024, .f32⟩
  | .hbm, ⟨11, _⟩ => ⟨S4x4096x704, .bf16⟩
  | .hbm, ⟨12, _⟩ => ⟨S2x4x4096x704, .bf16⟩
  | .hbm, ⟨13, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2x4x704x1024, .bf16⟩
  | .local _ .vmem, ⟨4, _⟩ => ⟨S4x704x1024, .bf16⟩
  | .local _ .vmem, ⟨5, _⟩ => ⟨S512x1024, .f32⟩
  | .local _ .vmem, ⟨6, _⟩ => ⟨S512x1024, .f32⟩
  | .local _ .vmem, ⟨7, _⟩ => ⟨S4x512x704, .bf16⟩
  | .local _ .vmem, ⟨8, _⟩ => ⟨S4x512x704, .bf16⟩
  | .local _ .vmem, ⟨9, _⟩ => ⟨S2x4x512x704, .bf16⟩
  | .local _ .vmem, ⟨10, _⟩ => ⟨S2x4x512x704, .bf16⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S4096x4x704 : Shape := ⟨3, ![4096, 4, 704]⟩
abbrev S4x4096x704 : Shape := ⟨3, ![4, 4096, 704]⟩
abbrev S2x4096x4x704 : Shape := ⟨4, ![2, 4096, 4, 704]⟩
abbrev S2x4x4096x704 : Shape := ⟨4, ![2, 4, 4096, 704]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S1x4096x2816, .f32⟩
  | .hbm, ⟨45, _⟩ => ⟨S1x4096x2816, .f32⟩
  | .hbm, ⟨46, _⟩ => ⟨S2x4096x2816, .f32⟩
  | .hbm, ⟨47, _⟩ => ⟨S4096x1024, .f32⟩
  | .hbm, ⟨48, _⟩ => ⟨S4096x1024, .f32⟩
  | .hbm, ⟨49, _⟩ => ⟨S4096x4x704, .f32⟩
  | .hbm, ⟨50, _⟩ => ⟨S4x4096x704, .f32⟩
  | .hbm, ⟨51, _⟩ => ⟨S4x4096x704, .bf16⟩
  | .hbm, ⟨52, _⟩ => ⟨S2x4096x4x704, .f32⟩
  | .hbm, ⟨53, _⟩ => ⟨S2x4x4096x704, .f32⟩
  | .hbm, ⟨54, _⟩ => ⟨S2x4x4096x704, .bf16⟩
  | .hbm, ⟨55, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v16_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v16_1 : Ref sig .tc := ⟨.hbm, 34, rfl⟩
abbrev main_v16_0 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]
-- ==== Kernel9.lean ====
abbrev S5376x128 : Shape := ⟨2, ![5376, 128]⟩
abbrev S2x2x8x128x128 : Shape := ⟨5, ![2, 2, 8, 128, 128]⟩
abbrev S2x2048x128 : Shape := ⟨3, ![2, 2048, 128]⟩
abbrev S512x128 : Shape := ⟨2, ![512, 128]⟩
abbrev S2x512x128 : Shape := ⟨3, ![2, 512, 128]⟩
abbrev S1x512x128 : Shape := ⟨3, ![1, 512, 128]⟩

abbrev nBuf : Space → Nat
  | .hbm => 12
  | .vmem => 18
  | .smem => 0
  | _ => 0

abbrev bufTy : (tb : Table) → Fin (tcTables nBuf tb) → BufTy
  | .hbm, ⟨0, _⟩ => ⟨S5376x128, .f32⟩
  | .hbm, ⟨1, _⟩ => ⟨S5376x128, .f32⟩
  | .hbm, ⟨2, _⟩ => ⟨S2x2x8x128x128, .f32⟩
  | .hbm, ⟨3, _⟩ => ⟨S2x2x8x128x128, .f32⟩
  | .hbm, ⟨4, _⟩ => ⟨S2x2x8x128x128, .f32⟩
  | .hbm, ⟨5, _⟩ => ⟨S2x2048x128, .f32⟩
  | .hbm, ⟨6, _⟩ => ⟨S2x2048x128, .f32⟩
  | .hbm, ⟨7, _⟩ => ⟨S2x2048x128, .f32⟩
  | .hbm, ⟨8, _⟩ => ⟨S2x2048x128, .f32⟩
  | .hbm, ⟨9, _⟩ => ⟨S2x2048x128, .f32⟩
  | .hbm, ⟨10, _⟩ => ⟨S2x2048x128, .f32⟩
  | .hbm, ⟨11, _⟩ => ⟨S2x2048x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S2x512x128, .f32⟩
  | .local _ .vmem, ⟨5, _⟩ => ⟨S2x512x128, .f32⟩
  | .local _ .vmem, ⟨6, _⟩ => ⟨S2x512x128, .f32⟩
  | .local _ .vmem, ⟨7, _⟩ => ⟨S2x512x128, .f32⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | .local _ .vmem, ⟨11, _⟩ => ⟨S2x512x128, .f32⟩
  | .local _ .vmem, ⟨12, _⟩ => ⟨S2x512x128, .f32⟩
  | .local _ .vmem, ⟨13, _⟩ => ⟨S2x512x128, .f32⟩
  | .local _ .vmem, ⟨14, _⟩ => ⟨S2x512x128, .f32⟩
  | .local _ .vmem, ⟨15, _⟩ => ⟨S2x512x128, .f32⟩
  | .local _ .vmem, ⟨16, _⟩ => ⟨S2x512x128, .f32⟩
  | .local _ .vmem, ⟨17, _⟩ => ⟨S2x512x128, .f32⟩
  | _, _ => ⟨S5376x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S5376x128 : Shape := ⟨2, ![5376, 128]⟩
abbrev S2x2x8x128x128 : Shape := ⟨5, ![2, 2, 8, 128, 128]⟩
abbrev S2048x128 : Shape := ⟨2, ![2048, 128]⟩
abbrev S1x2048x128 : Shape := ⟨3, ![1, 2048, 128]⟩
abbrev S2x2048x128 : Shape := ⟨3, ![2, 2048, 128]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S5376x128, .f32⟩
  | .hbm, ⟨1, _⟩ => ⟨S5376x128, .f32⟩
  | .hbm, ⟨2, _⟩ => ⟨S2x2x8x128x128, .f32⟩
  | .hbm, ⟨3, _⟩ => ⟨S2x2x8x128x128, .f32⟩
  | .hbm, ⟨4, _⟩ => ⟨S2x2x8x128x128, .f32⟩
  | .hbm, ⟨5, _⟩ => ⟨S2048x128, .f32⟩
  | .hbm, ⟨6, _⟩ => ⟨S2048x128, .f32⟩
  | .hbm, ⟨7, _⟩ => ⟨S1x2048x128, .f32⟩
  | .hbm, ⟨8, _⟩ => ⟨S1x2048x128, .f32⟩
  | .hbm, ⟨9, _⟩ => ⟨S2x2048x128, .f32⟩
  | .hbm, ⟨10, _⟩ => ⟨S2x2048x128, .f32⟩
  | .hbm, ⟨11, _⟩ => ⟨S2x2048x128, .f32⟩
  | .hbm, ⟨12, _⟩ => ⟨S2x2048x128, .f32⟩
  | .hbm, ⟨13, _⟩ => ⟨S_, .f32⟩
  | .hbm, ⟨14, _⟩ => ⟨S2x2048x128, .f32⟩
  | .hbm, ⟨15, _⟩ => ⟨S2x2048x128, .f32⟩
  | .hbm, ⟨16, _⟩ => ⟨S_, .f32⟩
  | .hbm, ⟨17, _⟩ => ⟨S2x2048x128, .f32⟩
  | .hbm, ⟨18, _⟩ => ⟨S2x2048x128, .f32⟩
  | .hbm, ⟨19, _⟩ => ⟨S2x2048x128, .f32⟩
  | .hbm, ⟨20, _⟩ => ⟨S_, .f32⟩
  | .hbm, ⟨21, _⟩ => ⟨S2x2048x128, .f32⟩
  | .hbm, ⟨22, _⟩ => ⟨S2x2048x128, .f32⟩
  | .hbm, ⟨23, _⟩ => ⟨S2x2048x128, .f32⟩
  | .hbm, ⟨24, _⟩ => ⟨S_, .f32⟩
  | .hbm, ⟨25, _⟩ => ⟨S2x2048x128, .f32⟩
  | .hbm, ⟨26, _⟩ => ⟨S2x2048x128, .f32⟩
  | .hbm, ⟨27, _⟩ => ⟨S2x2048x128, .f32⟩
  | .hbm, ⟨28, _⟩ => ⟨S_, .f32⟩
  | .hbm, ⟨29, _⟩ => ⟨S2x2048x128, .f32⟩
  | .hbm, ⟨30, _⟩ => ⟨S2x2048x128, .f32⟩
  | .hbm, ⟨31, _⟩ => ⟨S_, .f32⟩
  | .hbm, ⟨32, _⟩ => ⟨S2x2048x128, .f32⟩
  | .hbm, ⟨33, _⟩ => ⟨S2x2048x128, .f32⟩
  | .hbm, ⟨34, _⟩ => ⟨S2x2048x128, .f32⟩
  | .hbm, ⟨35, _⟩ => ⟨S_, .f32⟩
  | .hbm, ⟨36, _⟩ => ⟨S2x2048x128, .f32⟩
  | .hbm, ⟨37, _⟩ => ⟨S2x2048x128, .f32⟩
  | .hbm, ⟨38, _⟩ => ⟨S2x2048x128, .f32⟩
  | .hbm, ⟨39, _⟩ => ⟨S_, .f32⟩
  | .hbm, ⟨40, _⟩ => ⟨S2x2048x128, .f32⟩
  | .hbm, ⟨41, _⟩ => ⟨S2x2048x128, .f32⟩
  | .hbm, ⟨42, _⟩ => ⟨S2x2048x128, .f32⟩
  | .hbm, ⟨43, _⟩ => ⟨S_, .f32⟩
  | .hbm, ⟨44, _⟩ => ⟨S2x2048x128, .f32⟩
  | .hbm, ⟨45, _⟩ => ⟨S2x2048x128, .f32⟩
  | _, _ => ⟨S5376x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel10.lean ====
abbrev S5376x128 : Shape := ⟨2, ![5376, 128]⟩
abbrev S2x2x8x128x128 : Shape := ⟨5, ![2, 2, 8, 128, 128]⟩
abbrev S2x2048x128 : Shape := ⟨3, ![2, 2048, 128]⟩
abbrev S512x128 : Shape := ⟨2, ![512, 128]⟩
abbrev S2x512x128 : Shape := ⟨3, ![2, 512, 128]⟩
abbrev S1x512x128 : Shape := ⟨3, ![1, 512, 128]⟩

abbrev nBuf : Space → Nat
  | .hbm => 12
  | .vmem => 18
  | .smem => 0
  | _ => 0

abbrev bufTy : (tb : Table) → Fin (tcTables nBuf tb) → BufTy
  | .hbm, ⟨0, _⟩ => ⟨S5376x128, .f32⟩
  | .hbm, ⟨1, _⟩ => ⟨S5376x128, .f32⟩
  | .hbm, ⟨2, _⟩ => ⟨S2x2x8x128x128, .f32⟩
  | .hbm, ⟨3, _⟩ => ⟨S2x2x8x128x128, .f32⟩
  | .hbm, ⟨4, _⟩ => ⟨S2x2x8x128x128, .f32⟩
  | .hbm, ⟨5, _⟩ => ⟨S2x2048x128, .f32⟩
  | .hbm, ⟨6, _⟩ => ⟨S2x2048x128, .f32⟩
  | .hbm, ⟨7, _⟩ => ⟨S2x2048x128, .f32⟩
  | .hbm, ⟨8, _⟩ => ⟨S2x2048x128, .f32⟩
  | .hbm, ⟨9, _⟩ => ⟨S2x2048x128, .f32⟩
  | .hbm, ⟨10, _⟩ => ⟨S2x2048x128, .f32⟩
  | .hbm, ⟨11, _⟩ => ⟨S2x2048x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S2x512x128, .f32⟩
  | .local _ .vmem, ⟨5, _⟩ => ⟨S2x512x128, .f32⟩
  | .local _ .vmem, ⟨6, _⟩ => ⟨S2x512x128, .f32⟩
  | .local _ .vmem, ⟨7, _⟩ => ⟨S2x512x128, .f32⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | .local _ .vmem, ⟨11, _⟩ => ⟨S2x512x128, .f32⟩
  | .local _ .vmem, ⟨12, _⟩ => ⟨S2x512x128, .f32⟩
  | .local _ .vmem, ⟨13, _⟩ => ⟨S2x512x128, .f32⟩
  | .local _ .vmem, ⟨14, _⟩ => ⟨S2x512x128, .f32⟩
  | .local _ .vmem, ⟨15, _⟩ => ⟨S2x512x128, .f32⟩
  | .local _ .vmem, ⟨16, _⟩ => ⟨S2x512x128, .f32⟩
  | .local _ .vmem, ⟨17, _⟩ => ⟨S2x512x128, .f32⟩
  | _, _ => ⟨S5376x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S5376x128 : Shape := ⟨2, ![5376, 128]⟩
abbrev S2x2x8x128x128 : Shape := ⟨5, ![2, 2, 8, 128, 128]⟩
abbrev S2048x128 : Shape := ⟨2, ![2048, 128]⟩
abbrev S1x2048x128 : Shape := ⟨3, ![1, 2048, 128]⟩
abbrev S2x2048x128 : Shape := ⟨3, ![2, 2048, 128]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S5376x128, .f32⟩
  | .hbm, ⟨1, _⟩ => ⟨S5376x128, .f32⟩
  | .hbm, ⟨2, _⟩ => ⟨S2x2x8x128x128, .f32⟩
  | .hbm, ⟨3, _⟩ => ⟨S2x2x8x128x128, .f32⟩
  | .hbm, ⟨4, _⟩ => ⟨S2x2x8x128x128, .f32⟩
  | .hbm, ⟨5, _⟩ => ⟨S2048x128, .f32⟩
  | .hbm, ⟨6, _⟩ => ⟨S2048x128, .f32⟩
  | .hbm, ⟨7, _⟩ => ⟨S1x2048x128, .f32⟩
  | .hbm, ⟨8, _⟩ => ⟨S1x2048x128, .f32⟩
  | .hbm, ⟨9, _⟩ => ⟨S2x2048x128, .f32⟩
  | .hbm, ⟨10, _⟩ => ⟨S2x2048x128, .f32⟩
  | .hbm, ⟨11, _⟩ => ⟨S2x2048x128, .f32⟩
  | .hbm, ⟨12, _⟩ => ⟨S2x2048x128, .f32⟩
  | .hbm, ⟨13, _⟩ => ⟨S_, .f32⟩
  | .hbm, ⟨14, _⟩ => ⟨S2x2048x128, .f32⟩
  | .hbm, ⟨15, _⟩ => ⟨S2x2048x128, .f32⟩
  | .hbm, ⟨16, _⟩ => ⟨S_, .f32⟩
  | .hbm, ⟨17, _⟩ => ⟨S2x2048x128, .f32⟩
  | .hbm, ⟨18, _⟩ => ⟨S2x2048x128, .f32⟩
  | .hbm, ⟨19, _⟩ => ⟨S2x2048x128, .f32⟩
  | .hbm, ⟨20, _⟩ => ⟨S_, .f32⟩
  | .hbm, ⟨21, _⟩ => ⟨S2x2048x128, .f32⟩
  | .hbm, ⟨22, _⟩ => ⟨S2x2048x128, .f32⟩
  | .hbm, ⟨23, _⟩ => ⟨S2x2048x128, .f32⟩
  | .hbm, ⟨24, _⟩ => ⟨S_, .f32⟩
  | .hbm, ⟨25, _⟩ => ⟨S2x2048x128, .f32⟩
  | .hbm, ⟨26, _⟩ => ⟨S2x2048x128, .f32⟩
  | .hbm, ⟨27, _⟩ => ⟨S2x2048x128, .f32⟩
  | .hbm, ⟨28, _⟩ => ⟨S_, .f32⟩
  | .hbm, ⟨29, _⟩ => ⟨S2x2048x128, .f32⟩
  | .hbm, ⟨30, _⟩ => ⟨S2x2048x128, .f32⟩
  | .hbm, ⟨31, _⟩ => ⟨S_, .f32⟩
  | .hbm, ⟨32, _⟩ => ⟨S2x2048x128, .f32⟩
  | .hbm, ⟨33, _⟩ => ⟨S2x2048x128, .f32⟩
  | .hbm, ⟨34, _⟩ => ⟨S2x2048x128, .f32⟩
  | .hbm, ⟨35, _⟩ => ⟨S_, .f32⟩
  | .hbm, ⟨36, _⟩ => ⟨S2x2048x128, .f32⟩
  | .hbm, ⟨37, _⟩ => ⟨S2x2048x128, .f32⟩
  | .hbm, ⟨38, _⟩ => ⟨S2x2048x128, .f32⟩
  | .hbm, ⟨39, _⟩ => ⟨S_, .f32⟩
  | .hbm, ⟨40, _⟩ => ⟨S2x2048x128, .f32⟩
  | .hbm, ⟨41, _⟩ => ⟨S2x2048x128, .f32⟩
  | .hbm, ⟨42, _⟩ => ⟨S2x2048x128, .f32⟩
  | .hbm, ⟨43, _⟩ => ⟨S_, .f32⟩
  | .hbm, ⟨44, _⟩ => ⟨S2x2048x128, .f32⟩
  | .hbm, ⟨45, _⟩ => ⟨S2x2048x128, .f32⟩
  | _, _ => ⟨S5376x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel11.lean ====
abbrev S5376x128 : Shape := ⟨2, ![5376, 128]⟩
abbrev S2x8x128x128 : Shape := ⟨4, ![2, 8, 128, 128]⟩
abbrev S2x1024x128 : Shape := ⟨3, ![2, 1024, 128]⟩
abbrev S512x128 : Shape := ⟨2, ![512, 128]⟩
abbrev S2x512x128 : Shape := ⟨3, ![2, 512, 128]⟩
abbrev S1x512x128 : Shape := ⟨3, ![1, 512, 128]⟩

abbrev nBuf : Space → Nat
  | .hbm => 12
  | .vmem => 18
  | .smem => 0
  | _ => 0

abbrev bufTy : (tb : Table) → Fin (tcTables nBuf tb) → BufTy
  | .hbm, ⟨0, _⟩ => ⟨S5376x128, .f32⟩
  | .hbm, ⟨1, _⟩ => ⟨S5376x128, .f32⟩
  | .hbm, ⟨2, _⟩ => ⟨S2x8x128x128, .f32⟩
  | .hbm, ⟨3, _⟩ => ⟨S2x8x128x128, .f32⟩
  | .hbm, ⟨4, _⟩ => ⟨S2x8x128x128, .f32⟩
  | .hbm, ⟨5, _⟩ => ⟨S2x1024x128, .f32⟩
  | .hbm, ⟨6, _⟩ => ⟨S2x1024x128, .f32⟩
  | .hbm, ⟨7, _⟩ => ⟨S2x1024x128, .f32⟩
  | .hbm, ⟨8, _⟩ => ⟨S2x1024x128, .f32⟩
  | .hbm, ⟨9, _⟩ => ⟨S2x1024x128, .f32⟩
  | .hbm, ⟨10, _⟩ => ⟨S2x1024x128, .f32⟩
  | .hbm, ⟨11, _⟩ => ⟨S2x1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S2x512x128, .f32⟩
  | .local _ .vmem, ⟨5, _⟩ => ⟨S2x512x128, .f32⟩
  | .local _ .vmem, ⟨6, _⟩ => ⟨S2x512x128, .f32⟩
  | .local _ .vmem, ⟨7, _⟩ => ⟨S2x512x128, .f32⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | .local _ .vmem, ⟨11, _⟩ => ⟨S2x512x128, .f32⟩
  | .local _ .vmem, ⟨12, _⟩ => ⟨S2x512x128, .f32⟩
  | .local _ .vmem, ⟨13, _⟩ => ⟨S2x512x128, .f32⟩
  | .local _ .vmem, ⟨14, _⟩ => ⟨S2x512x128, .f32⟩
  | .local _ .vmem, ⟨15, _⟩ => ⟨S2x512x128, .f32⟩
  | .local _ .vmem, ⟨16, _⟩ => ⟨S2x512x128, .f32⟩
  | .local _ .vmem, ⟨17, _⟩ => ⟨S2x512x128, .f32⟩
  | _, _ => ⟨S5376x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S5376x128 : Shape := ⟨2, ![5376, 128]⟩
abbrev S2x8x128x128 : Shape := ⟨4, ![2, 8, 128, 128]⟩
abbrev S1024x128 : Shape := ⟨2, ![1024, 128]⟩
abbrev S1x1024x128 : Shape := ⟨3, ![1, 1024, 128]⟩
abbrev S2x1024x128 : Shape := ⟨3, ![2, 1024, 128]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S5376x128, .f32⟩
  | .hbm, ⟨1, _⟩ => ⟨S5376x128, .f32⟩
  | .hbm, ⟨2, _⟩ => ⟨S2x8x128x128, .f32⟩
  | .hbm, ⟨3, _⟩ => ⟨S2x8x128x128, .f32⟩
  | .hbm, ⟨4, _⟩ => ⟨S2x8x128x128, .f32⟩
  | .hbm, ⟨5, _⟩ => ⟨S1024x128, .f32⟩
  | .hbm, ⟨6, _⟩ => ⟨S1024x128, .f32⟩
  | .hbm, ⟨7, _⟩ => ⟨S1x1024x128, .f32⟩
  | .hbm, ⟨8, _⟩ => ⟨S1x1024x128, .f32⟩
  | .hbm, ⟨9, _⟩ => ⟨S2x1024x128, .f32⟩
  | .hbm, ⟨10, _⟩ => ⟨S2x1024x128, .f32⟩
  | .hbm, ⟨11, _⟩ => ⟨S2x1024x128, .f32⟩
  | .hbm, ⟨12, _⟩ => ⟨S2x1024x128, .f32⟩
  | .hbm, ⟨13, _⟩ => ⟨S_, .f32⟩
  | .hbm, ⟨14, _⟩ => ⟨S2x1024x128, .f32⟩
  | .hbm, ⟨15, _⟩ => ⟨S2x1024x128, .f32⟩
  | .hbm, ⟨16, _⟩ => ⟨S_, .f32⟩
  | .hbm, ⟨17, _⟩ => ⟨S2x1024x128, .f32⟩
  | .hbm, ⟨18, _⟩ => ⟨S2x1024x128, .f32⟩
  | .hbm, ⟨19, _⟩ => ⟨S2x1024x128, .f32⟩
  | .hbm, ⟨20, _⟩ => ⟨S_, .f32⟩
  | .hbm, ⟨21, _⟩ => ⟨S2x1024x128, .f32⟩
  | .hbm, ⟨22, _⟩ => ⟨S2x1024x128, .f32⟩
  | .hbm, ⟨23, _⟩ => ⟨S2x1024x128, .f32⟩
  | .hbm, ⟨24, _⟩ => ⟨S_, .f32⟩
  | .hbm, ⟨25, _⟩ => ⟨S2x1024x128, .f32⟩
  | .hbm, ⟨26, _⟩ => ⟨S2x1024x128, .f32⟩
  | .hbm, ⟨27, _⟩ => ⟨S2x1024x128, .f32⟩
  | .hbm, ⟨28, _⟩ => ⟨S_, .f32⟩
  | .hbm, ⟨29, _⟩ => ⟨S2x1024x128, .f32⟩
  | .hbm, ⟨30, _⟩ => ⟨S2x1024x128, .f32⟩
  | .hbm, ⟨31, _⟩ => ⟨S_, .f32⟩
  | .hbm, ⟨32, _⟩ => ⟨S2x1024x128, .f32⟩
  | .hbm, ⟨33, _⟩ => ⟨S2x1024x128, .f32⟩
  | .hbm, ⟨34, _⟩ => ⟨S2x1024x128, .f32⟩
  | .hbm, ⟨35, _⟩ => ⟨S_, .f32⟩
  | .hbm, ⟨36, _⟩ => ⟨S2x1024x128, .f32⟩
  | .hbm, ⟨37, _⟩ => ⟨S2x1024x128, .f32⟩
  | .hbm, ⟨38, _⟩ => ⟨S2x1024x128, .f32⟩
  | .hbm, ⟨39, _⟩ => ⟨S_, .f32⟩
  | .hbm, ⟨40, _⟩ => ⟨S2x1024x128, .f32⟩
  | .hbm, ⟨41, _⟩ => ⟨S2x1024x128, .f32⟩
  | .hbm, ⟨42, _⟩ => ⟨S2x1024x128, .f32⟩
  | .hbm, ⟨43, _⟩ => ⟨S_, .f32⟩
  | .hbm, ⟨44, _⟩ => ⟨S2x1024x128, .f32⟩
  | .hbm, ⟨45, _⟩ => ⟨S2x1024x128, .f32⟩
  | _, _ => ⟨S5376x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Proof.Mix.Real.lean ====
/-
  The gradient of the token mixer over the REAL numbers: what each array of the kernel and of the reference holds once every
  argument is a real number. Everything is a function of a row number, a column number and the arguments (`Args`), so that a
  block of rows is the whole array with its row numbers shifted (`Args.shift`); the sums run over `Fin n`.
  The reference's forms of the two activations' derivatives and of the layer norm's gradient are shown equal to the kernel's here.
-/
module

public import Idealize.ShloMosaic.PureOps.Ideal
public import Mathlib.Tactic.Ring
public import Mathlib.Tactic.FieldSimp
public import Mathlib.Tactic.Linarith

@[expose] public section

noncomputable section

namespace Cert.Mix

open Idealize.ShloMosaic

/-- The arguments: the cotangent, the output weights, the two scans, the projections, the layer norm's scale and shift, the
    spatial weights and biases. -/
structure Args where
  X : ℕ → ℕ → ℝ
  W : ℕ → ℕ → ℝ
  H0 : ℕ → ℕ → ℝ
  H1 : ℕ → ℕ → ℝ
  Z : ℕ → ℕ → ℝ
  lg : ℕ → ℝ
  lb : ℕ → ℝ
  ws : ℕ → ℕ → ℕ → ℝ
  bs : ℕ → ℕ → ℝ

/-- The arguments seen from row `k` on. -/
def Args.shift (A : Args) (k : ℕ) : Args :=
  { A with
    X := fun r j => A.X (k + r) j
    H0 := fun r j => A.H0 (k + r) j
    H1 := fun r j => A.H1 (k + r) j
    Z := fun r j => A.Z (k + r) j }

/-- The programs' word for √(2/π), as the real it denotes. -/
def gc : ℝ := (Ideal.ofBits .f32 0x3F4C422A#32).toReal

/-- The programs' word for the layer norm's 1e-6, as the real it denotes. -/
def eps : ℝ := (Ideal.ofBits .f32 0x358637BD#32).toReal

/-- The hyperbolic tangent inside `gelu`. -/
def gt (x : ℝ) : ℝ := Real.tanh (gc * (x + 8943 / 200000 * (x * x * x)))
def gelu (x : ℝ) : ℝ := 1 / 2 * x * (1 + gt x)
def dgelu (x : ℝ) : ℝ :=
  1 / 2 * (1 + gt x) + 1 / 2 * x * (1 - gt x * gt x) * (gc * (1 + 26829 / 200000 * (x * x)))
def sg (x : ℝ) : ℝ := 1 / 2 + 1 / 2 * Real.tanh (1 / 2 * x)

/-- A row's mean of 1024 columns. -/
def mean (f : ℕ → ℝ) : ℝ := (∑ j : Fin 1024, f j) / 1024

/-- One over the root of the layer norm's variance. -/
def irt (v : ℝ) : ℝ := (Real.sqrt (v + eps))⁻¹

section
variable (A : Args)

def dm (r k : ℕ) : ℝ := ∑ j : Fin 1024, A.X r j * A.W k j
def sa (r k : ℕ) : ℝ := sg (A.Z r (4096 + k))
def sb (r k : ℕ) : ℝ := sg (A.Z r (5120 + k))
def gg (r k : ℕ) : ℝ := gelu (A.Z r (3072 + k))
def hs (r k : ℕ) : ℝ := A.H0 r k + A.H1 r k
def u (r k : ℕ) : ℝ := gelu (A.Z r k)
def gv (r k : ℕ) : ℝ := gelu (A.Z r (1024 + k))
def xc (r k : ℕ) : ℝ := gv A r k - mean (gv A r)
def var (r : ℕ) : ℝ := mean fun j => xc A r j * xc A r j
def rstd (r : ℕ) : ℝ := irt (var A r)
def xh (r k : ℕ) : ℝ := xc A r k * rstd A r
def vb (r k : ℕ) : ℝ := xh A r k * A.lg k + A.lb k
/-- The spatial product within a chunk of 128 rows, with its bias. -/
def mixed (r k : ℕ) : ℝ :=
  (∑ q : Fin 128, A.ws (k / 128) (r % 128) q * vb A (r / 128 * 128 + q) k) + A.bs (k / 128) (r % 128)
def ya (r k : ℕ) : ℝ := u A r k * mixed A r k
def dya (r k : ℕ) : ℝ := dm A r k * sa A r k
def du (r k : ℕ) : ℝ := dya A r k * mixed A r k
def dmx (r k : ℕ) : ℝ := dya A r k * u A r k
def dv (r k : ℕ) : ℝ := ∑ p : Fin 128, A.ws (k / 128) p (r % 128) * dmx A (r / 128 * 128 + p) k
def dxh (r k : ℕ) : ℝ := dv A r k * A.lg k
def dgv (r k : ℕ) : ℝ :=
  rstd A r * (dxh A r k - mean (dxh A r) - xh A r k * mean fun j => dxh A r j * xh A r j)

/-- The six column blocks of the gradient of `z`. -/
def dz0 (r k : ℕ) : ℝ := du A r k * dgelu (A.Z r k)
def dz1 (r k : ℕ) : ℝ := dgv A r k * dgelu (A.Z r (1024 + k))
def dz3 (r k : ℕ) : ℝ := dm A r k * sb A r k * hs A r k * dgelu (A.Z r (3072 + k))
def dz4 (r k : ℕ) : ℝ := dm A r k * ya A r k * (sa A r k * (1 - sa A r k))
def dz5 (r k : ℕ) : ℝ := dm A r k * (hs A r k * gg A r k) * (sb A r k * (1 - sb A r k))
def dz (r k : ℕ) : ℝ :=
  if k < 1024 then dz0 A r k else if k < 2048 then dz1 A r (k - 1024) else if k < 3072 then 0
  else if k < 4096 then dz3 A r (k - 3072) else if k < 5120 then dz4 A r (k - 4096) else dz5 A r (k - 5120)
def dh (r k : ℕ) : ℝ := dm A r k * sb A r k * gg A r k

/-- The parameters' gradients summed over chunks or rows: `n` chunks of 128 rows. -/
def dws (n g p q : ℕ) : ℝ :=
  ∑ m : Fin n, ∑ c : Fin 128, dmx A (128 * m + p) (128 * g + c) * vb A (128 * m + q) (128 * g + c)
def dbs (n g p c : ℕ) : ℝ := ∑ m : Fin n, dmx A (128 * m + p) (128 * g + c)
def dlg (n g c : ℕ) : ℝ := ∑ r : Fin n, dv A r (128 * g + c) * xh A r (128 * g + c)
def dlb (n g c : ℕ) : ℝ := ∑ r : Fin n, dv A r (128 * g + c)

/-! ### A block of rows is the whole array from its first row on -/

variable (k r j : ℕ)

theorem dm_shift : dm (A.shift k) r j = dm A (k + r) j := rfl
theorem dya_shift : dya (A.shift k) r j = dya A (k + r) j := rfl
theorem dmx_shift : dmx (A.shift k) r j = dmx A (k + r) j := rfl
theorem vb_shift : vb (A.shift k) r j = vb A (k + r) j := rfl
theorem xh_shift : xh (A.shift k) r j = xh A (k + r) j := rfl
theorem rstd_shift : rstd (A.shift k) r = rstd A (k + r) := rfl
theorem dh_shift : dh (A.shift k) r j = dh A (k + r) j := rfl

theorem mixed_shift (n : ℕ) : mixed (A.shift (128 * n)) r j = mixed A (128 * n + r) j := by
  unfold mixed
  rw [show (128 * n + r) % 128 = r % 128 by omega, show (128 * n + r) / 128 * 128 = 128 * n + r / 128 * 128 by omega]
  simp only [Nat.add_assoc]
  rfl

theorem dv_shift (n : ℕ) : dv (A.shift (128 * n)) r j = dv A (128 * n + r) j := by
  unfold dv
  rw [show (128 * n + r) % 128 = r % 128 by omega, show (128 * n + r) / 128 * 128 = 128 * n + r / 128 * 128 by omega]
  simp only [Nat.add_assoc]
  rfl

theorem dgv_shift (n : ℕ) : dgv (A.shift (128 * n)) r j = dgv A (128 * n + r) j := by
  unfold dgv dxh
  simp only [dv_shift, rstd_shift, xh_shift]
  rfl

theorem dz_shift (n : ℕ) : dz (A.shift (128 * n)) r j = dz A (128 * n + r) j := by
  unfold dz dz0 dz1 dz4 du ya
  simp only [mixed_shift, dgv_shift]
  rfl

end

/-! ### The entries of a block of 128 rows and 128 columns -/

section
variable (A : Args) {p c : ℕ} (n g : ℕ)

theorem mixed_at (hp : p < 128) (hc : c < 128) : mixed A (128 * n + p) (128 * g + c)
    = (∑ q : Fin 128, A.ws g p q * vb A (128 * n + q) (128 * g + c)) + A.bs g p := by
  unfold mixed
  rw [show (128 * n + p) % 128 = p by omega, show (128 * n + p) / 128 * 128 = 128 * n by omega,
    show (128 * g + c) / 128 = g by omega]

theorem dv_at (hp : p < 128) (hc : c < 128) : dv A (128 * n + p) (128 * g + c)
    = ∑ q : Fin 128, A.ws g q p * dmx A (128 * n + q) (128 * g + c) := by
  unfold dv
  rw [show (128 * n + p) % 128 = p by omega, show (128 * n + p) / 128 * 128 = 128 * n by omega,
    show (128 * g + c) / 128 = g by omega]

end

/-! ### The reference's forms -/

theorem gelu_ref (x : ℝ) : x * (1 / 2 * (1 + gt x)) = gelu x := by unfold gelu; ring

/-- The chain rule through `x * (0.5 * (1 + tanh …))`, as reverse mode writes it. -/
theorem dgelu_ref (d x : ℝ) :
    d * (1 / 2 * (1 + gt x)) + gc * (1 / 2 * (x * d) * ((1 + gt x) * (1 - gt x)))
        + 8943 / 200000 * (gc * (1 / 2 * (x * d) * ((1 + gt x) * (1 - gt x)))) * (3 * (x * x))
      = d * dgelu x := by
  unfold dgelu; ring

theorem sg_ref (x : ℝ) : 1 / (1 + Real.exp (-x)) = sg x := by
  unfold sg
  have h1 : Real.exp (1 / 2 * x) ≠ 0 := (Real.exp_pos _).ne'
  have e : Real.exp (-x) = Real.exp (-(1 / 2 * x)) / Real.exp (1 / 2 * x) := by
    rw [← Real.exp_sub]; ring_nf
  have p1 := Real.exp_pos (1 / 2 * x)
  have p2 := Real.exp_pos (-(1 / 2 * x))
  rw [Real.tanh_eq_sinh_div_cosh, Real.sinh_eq, Real.cosh_eq, e]
  field_simp
  ring

theorem mean_const_mul (c : ℝ) (f : ℕ → ℝ) : mean (fun j => c * f j) = c * mean f := by
  unfold mean; rw [← Finset.mul_sum, mul_div_assoc]

theorem mean_mul_const (c : ℝ) (f : ℕ → ℝ) : mean (fun j => f j * c) = mean f * c := by
  unfold mean; rw [← Finset.sum_mul]; ring

theorem mean_add (f g : ℕ → ℝ) : mean (fun j => f j + g j) = mean f + mean g := by
  unfold mean; rw [Finset.sum_add_distrib, add_div]

theorem mean_neg (f : ℕ → ℝ) : mean (fun j => -f j) = -mean f := by
  unfold mean; rw [Finset.sum_neg_distrib, neg_div]

theorem mean_sub_mean (f : ℕ → ℝ) : mean (fun j => f j - mean f) = 0 := by
  unfold mean
  rw [Finset.sum_sub_distrib, Finset.sum_const, Finset.card_univ, Fintype.card_fin]
  simp only [nsmul_eq_mul]
  push_cast
  ring

theorem mean_nonneg_sq (f : ℕ → ℝ) : 0 ≤ mean fun j => f j * f j :=
  div_nonneg (Finset.sum_nonneg fun _ _ => mul_self_nonneg _) (by norm_num)

/-- The reverse mode of `x ↦ (x - mean x) * rsqrt (mean (x - mean x)² + eps)` at a row, from the cotangent `d` of its result:
    what the reference adds up, step by step, is the closed form the kernel computes. -/
theorem layernorm_ref (he : 0 < eps) (f d : ℕ → ℝ) (x : ℕ → ℝ) (hx : ∀ j, x j = f j - mean f) (v s y : ℝ)
    (hv : v = mean fun j => x j * x j) (hs : s = irt v)
    (hy : y = (∑ j : Fin 1024, x j * d j) * (-(1 / 2) * (s / (v + eps))) / 1024) (k : ℕ) :
    (d k * s + x k * y + y * x k) + -(∑ j : Fin 1024, (d j * s + x j * y + y * x j)) / 1024
      = s * (d k - mean d - x k * s * mean fun j => d j * (x j * s)) := by
  have hv0 : 0 < v + eps := by
    have := mean_nonneg_sq x
    rw [hv]; linarith
  have hss : s * s = 1 / (v + eps) := by
    rw [hs, irt, ← mul_inv, Real.mul_self_sqrt hv0.le, one_div]
  have hx0 : mean x = 0 := by
    rw [show x = fun j => f j - mean f from funext hx]; exact mean_sub_mean f
  have hsum : (∑ j : Fin 1024, (d j * s + x j * y + y * x j)) / 1024 = mean d * s := by
    have h : (mean fun j => d j * s + x j * y + y * x j) = mean d * s := by
      rw [mean_add (fun j => d j * s + x j * y), mean_add (fun j => d j * s), mean_mul_const s d, mean_mul_const y x,
        mean_const_mul y x, hx0]
      ring
    exact h
  have hyy : y = -(1 / 2) * (s * (s * s)) * mean fun j => x j * d j := by
    rw [hy, hss]; unfold mean; ring
  have hm : (mean fun j => d j * (x j * s)) = (mean fun j => x j * d j) * s := by
    rw [← mean_mul_const]; congr 1; funext j; ring
  rw [neg_div, hsum, hyy, hm]
  ring

end Cert.Mix

end
-- ==== Proof.Mix.Vec.lean ====
/-
  Blocks of real numbers at `Ideal`: `r1`, `r2`, `r3` are the vectors whose entries are the coercions of a real function of the
  coordinates, and each vector operation of the kernel takes such blocks to such a block. A payload whose operands are real
  blocks is therefore rewritten, operation by operation, to the real block of its formula.
-/
module

public import Idealize.ShloMosaic.Lib.Pointwise
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.Lib.MatmulPlain
public import proofs.«01_k».proof.Proof.Mix.Real

@[expose] public section

noncomputable section

namespace Cert.Mix

open Idealize.ShloMosaic

variable {φ ψ : FTy} {a b c d e : ℕ}

/-- The vectors whose entries are real numbers, by their coordinates. -/
def r1 (φ : FTy) (a : ℕ) (f : ℕ → ℝ) : FVec Ideal ⟨1, ![a]⟩ φ := fun i => ((f (i 0).val : ℝ) : EReal)
def r2 (φ : FTy) (a b : ℕ) (f : ℕ → ℕ → ℝ) : FVec Ideal ⟨2, ![a, b]⟩ φ := fun i => ((f (i 0).val (i 1).val : ℝ) : EReal)
def r3 (φ : FTy) (a b c : ℕ) (f : ℕ → ℕ → ℕ → ℝ) : FVec Ideal ⟨3, ![a, b, c]⟩ φ :=
  fun i => ((f (i 0).val (i 1).val (i 2).val : ℝ) : EReal)

theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-! ### The constants -/

theorem w_zero : Ideal.ofBits .f32 0x00000000#32 = ((0 : ℝ) : EReal) := by simp [Ideal.ofBits, Ideal.ieee]
theorem w_zero_bf16 : Ideal.ofBits .bf16 0x0000#16 = ((0 : ℝ) : EReal) := by simp [Ideal.ofBits, Ideal.ieee]
theorem w_half : Ideal.ofBits .f32 0x3F000000#32 = ((1 / 2 : ℝ) : EReal) := by
  simp [Ideal.ofBits, Ideal.ieee, -EReal.coe_mul]; norm_num
theorem w_neg_half : Ideal.ofBits .f32 0xBF000000#32 = ((-(1 / 2) : ℝ) : EReal) := by
  simp [Ideal.ofBits, Ideal.ieee, -EReal.coe_mul]; norm_num
theorem w_one : Ideal.ofBits .f32 0x3F800000#32 = ((1 : ℝ) : EReal) := by
  simp [Ideal.ofBits, Ideal.ieee, -EReal.coe_mul]; norm_num
theorem w_three : Ideal.ofBits .f32 0x40400000#32 = ((3 : ℝ) : EReal) := by
  simp [Ideal.ofBits, Ideal.ieee, -EReal.coe_mul]; norm_num
theorem w_1024 : Ideal.ofBits .f32 0x44800000#32 = ((1024 : ℝ) : EReal) := by
  simp [Ideal.ofBits, Ideal.ieee, -EReal.coe_mul]; norm_num
theorem w_44715 : Ideal.ofBits .f32 0x472EAB00#32 = ((44715 : ℝ) : EReal) := by
  simp [Ideal.ofBits, Ideal.ieee, -EReal.coe_mul]; norm_num
theorem w_million : Ideal.ofBits .f32 0x49742400#32 = ((1000000 : ℝ) : EReal) := by
  simp [Ideal.ofBits, Ideal.ieee, -EReal.coe_mul]; norm_num

theorem w_gc_val : Ideal.ofBits .f32 0x3F4C422A#32 = ((13386282 / 16777216 : ℝ) : EReal) := by
  simp [Ideal.ofBits, Ideal.ieee, -EReal.coe_mul]; norm_num
theorem w_eps_val : Ideal.ofBits .f32 0x358637BD#32 = ((8796093 / 8796093022208 : ℝ) : EReal) := by
  simp [Ideal.ofBits, Ideal.ieee, -EReal.coe_mul]; norm_num
theorem w_gc : Ideal.ofBits .f32 0x3F4C422A#32 = ((gc : ℝ) : EReal) := by
  unfold gc; rw [w_gc_val, EReal.toReal_coe]
theorem w_eps : Ideal.ofBits .f32 0x358637BD#32 = ((eps : ℝ) : EReal) := by
  unfold eps; rw [w_eps_val, EReal.toReal_coe]
theorem eps_pos : 0 < eps := by
  unfold eps; rw [w_eps_val, EReal.toReal_coe]; norm_num

theorem ideal_div_coe {x y : ℝ} (h : y ≠ 0) : Ideal.div (x : EReal) (y : EReal) = ((x / y : ℝ) : EReal) := by
  rw [Ideal.div_coe h, ← EReal.coe_mul]; congr 1; ring

theorem ideal_rsqrt_coe {x : ℝ} (h : 0 < x) : Ideal.rsqrt (x : EReal) = (((Real.sqrt x)⁻¹ : ℝ) : EReal) := by
  rw [Ideal.rsqrt_coe, if_neg (not_lt.mpr h.le), if_neg h.ne']

/-! ### Elementwise operations -/

section Two
variable (f g : ℕ → ℕ → ℝ)

theorem addf_r2 : addf (r2 φ a b f) (r2 φ a b g) = r2 φ a b fun i j => f i j + g i j := rfl
theorem mulf_r2 : mulf (r2 φ a b f) (r2 φ a b g) = r2 φ a b fun i j => f i j * g i j := rfl
theorem subf_r2 : subf (r2 φ a b f) (r2 φ a b g) = r2 φ a b fun i j => f i j - g i j := rfl
theorem tanh_r2 : tanh (r2 φ a b f) = r2 φ a b fun i j => Real.tanh (f i j) := rfl
theorem divf_r2 (x : ℝ) (h : x ≠ 0) :
    divf (r2 φ a b f) (r2 φ a b fun _ _ => x) = r2 φ a b fun i j => f i j / x :=
  funext fun _ => ideal_div_coe h
theorem rsqrt_r2 (h : ∀ i j, 0 < f i j) : rsqrt (r2 φ a b f) = r2 φ a b fun i j => (Real.sqrt (f i j))⁻¹ :=
  funext fun _ => ideal_rsqrt_coe (h _ _)
theorem truncf_r2 (h : ψ.bits < φ.bits) : truncf ψ (r2 φ a b f) h = r2 ψ a b f := rfl
theorem extf_r2 (h : φ.bits < ψ.bits) : extf ψ (r2 φ a b f) h = r2 ψ a b f := rfl
theorem addf_r3 (f g : ℕ → ℕ → ℕ → ℝ) :
    addf (r3 φ a b c f) (r3 φ a b c g) = r3 φ a b c fun i j k => f i j k + g i j k := rfl

theorem broadcast_r2 {w : Ideal φ} {x : ℝ} (h : w = (x : EReal)) :
    broadcast (⟨2, ![a, b]⟩ : Shape) w = r2 φ a b fun _ _ => x := funext fun _ => h
theorem broadcast_r3 {w : Ideal φ} {x : ℝ} (h : w = (x : EReal)) :
    broadcast (⟨3, ![a, b, c]⟩ : Shape) w = r3 φ a b c fun _ _ _ => x := funext fun _ => h

/-! ### Slices, casts, broadcasts, transposes -/

theorem slice_r2 (o p : ℕ) (h : (⟨2, ![a, b]⟩ : Shape).Slices ![o, p] ⟨2, ![c, d]⟩) :
    extractStridedSlice (⟨2, ![c, d]⟩ : Shape) ![o, p] (r2 φ a b f) h = r2 φ c d fun i j => f (o + i) (p + j) := rfl

theorem cast_r2_self (h : (⟨2, ![a, b]⟩ : Shape).ShapeCasts ⟨2, ![a, b]⟩) :
    shapeCast (⟨2, ![a, b]⟩ : Shape) (r2 φ a b f) h = r2 φ a b f := shapeCast_self _ h
theorem cast_r3_self (f : ℕ → ℕ → ℕ → ℝ) (h : (⟨3, ![a, b, c]⟩ : Shape).ShapeCasts ⟨3, ![a, b, c]⟩) :
    shapeCast (⟨3, ![a, b, c]⟩ : Shape) (r3 φ a b c f) h = r3 φ a b c f := shapeCast_self _ h

theorem cast_r3_r2 (f : ℕ → ℕ → ℕ → ℝ) (h : (⟨3, ![1, a, b]⟩ : Shape).ShapeCasts ⟨2, ![a, b]⟩) :
    shapeCast (⟨2, ![a, b]⟩ : Shape) (r3 φ 1 a b f) h = r2 φ a b fun i j => f 0 i j := by
  funext i; obtain ⟨i, j, rfl⟩ : ∃ p q, i = ix2 p q := ⟨i 0, i 1, eq_ix2 i⟩
  refine (ValueIdx.shapeCast_1ab_ab_apply ..).trans ?_; rfl
theorem cast_r2_r3 (h : (⟨2, ![a, b]⟩ : Shape).ShapeCasts ⟨3, ![1, a, b]⟩) :
    shapeCast (⟨3, ![1, a, b]⟩ : Shape) (r2 φ a b f) h = r3 φ 1 a b fun _ i j => f i j := by
  funext i; obtain ⟨i, j, k, rfl⟩ : ∃ p q r, i = ix3 p q r := ⟨i 0, i 1, i 2, eq_ix3 i⟩
  obtain rfl : i = 0 := Subsingleton.elim _ _
  refine (ValueIdx.shapeCast_ab_1ab_apply ..).trans ?_; rfl
theorem cast_r1_col (f : ℕ → ℝ) (h : (⟨1, ![a]⟩ : Shape).ShapeCasts ⟨2, ![a, 1]⟩) :
    shapeCast (⟨2, ![a, 1]⟩ : Shape) (r1 φ a f) h = r2 φ a 1 fun i _ => f i := by
  funext i; obtain ⟨i, j, rfl⟩ : ∃ p q, i = ix2 p q := ⟨i 0, i 1, eq_ix2 i⟩
  obtain rfl : j = 0 := Subsingleton.elim _ _
  refine (ValueIdx.shapeCast_a_a1_apply ..).trans ?_; rfl
theorem cast_r1_row (f : ℕ → ℝ) (h : (⟨1, ![a]⟩ : Shape).ShapeCasts ⟨2, ![1, a]⟩) :
    shapeCast (⟨2, ![1, a]⟩ : Shape) (r1 φ a f) h = r2 φ 1 a fun _ j => f j := by
  funext i; obtain ⟨i, j, rfl⟩ : ∃ p q, i = ix2 p q := ⟨i 0, i 1, eq_ix2 i⟩
  obtain rfl : i = 0 := Subsingleton.elim _ _
  refine (ValueIdx.shapeCast_a_1a_apply ..).trans ?_; rfl

theorem spread_col (h : (⟨2, ![a, 1]⟩ : Shape).Broadcasts ⟨2, ![a, b]⟩) :
    broadcastTo (⟨2, ![a, b]⟩ : Shape) (r2 φ a 1 f) h = r2 φ a b fun i _ => f i 0 := by
  funext j
  refine (broadcastTo_apply _ h j (ix2 (j 0) 0) fun x => ?_).trans rfl
  by_cases ha : a = 1
  · subst ha
    have : (j 0).val = 0 := by have := (j 0).isLt; simpa using this
    fin_cases x <;> simp [this]
  · fin_cases x <;> simp [ha]
theorem spread_row (h : (⟨2, ![1, b]⟩ : Shape).Broadcasts ⟨2, ![a, b]⟩) :
    broadcastTo (⟨2, ![a, b]⟩ : Shape) (r2 φ 1 b f) h = r2 φ a b fun _ j => f 0 j := by
  funext j
  refine (broadcastTo_apply _ h j (ix2 0 (j 1)) fun x => ?_).trans rfl
  by_cases hb : b = 1
  · subst hb
    have : (j 1).val = 0 := by have := (j 1).isLt; simpa using this
    fin_cases x <;> simp [this]
  · fin_cases x <;> simp [hb]

theorem transpose_r2 (h : (⟨2, ![a, b]⟩ : Shape).Transposes [1, 0] ⟨2, ![b, a]⟩) :
    transpose (⟨2, ![b, a]⟩ : Shape) [1, 0] (r2 φ a b f) h = r2 φ b a fun i j => f j i := by
  funext i; obtain ⟨i, j, rfl⟩ : ∃ p q, i = ix2 p q := ⟨i 0, i 1, eq_ix2 i⟩
  refine (ValueIdx.transpose_ix2_apply ..).trans ?_; rfl

/-! ### Loads -/

theorem ld_r3 (o p q : ℕ) (f : ℕ → ℕ → ℕ → ℝ)
    (inb : ∀ x, (![o, p, q] : Fin 3 → ℕ) x + (![1, d, e] : Fin 3 → ℕ) x ≤ (⟨3, ![a, b, c]⟩ : Shape).size x) :
    View.ld (S := ⟨3, ![a, b, c]⟩) (Val := Elt Ideal) (e' := .f32) (r3 .f32 a b c f) (Rect.unit (s := ⟨3, ![a, b, c]⟩) ![o, p, q] ![1, d, e] inb)
      = r3 .f32 1 d e fun i j k => f (o + i) (p + j) (q + k) := by
  refine (View.ld_unit _ _ _ _).trans ?_
  rfl
theorem ld_r3b (o p q : ℕ) (f : ℕ → ℕ → ℕ → ℝ)
    (inb : ∀ x, (![o, p, q] : Fin 3 → ℕ) x + (![1, d, e] : Fin 3 → ℕ) x ≤ (⟨3, ![a, b, c]⟩ : Shape).size x) :
    View.ld (S := ⟨3, ![a, b, c]⟩) (Val := Elt Ideal) (e' := .bf16) (r3 .bf16 a b c f) (Rect.unit (s := ⟨3, ![a, b, c]⟩) ![o, p, q] ![1, d, e] inb)
      = r3 .bf16 1 d e fun i j k => f (o + i) (p + j) (q + k) := by
  refine (View.ld_unit _ _ _ _).trans ?_
  rfl
theorem ld_r2 (o p : ℕ)
    (inb : ∀ x, (![o, p] : Fin 2 → ℕ) x + (![c, d] : Fin 2 → ℕ) x ≤ (⟨2, ![a, b]⟩ : Shape).size x) :
    View.ld (S := ⟨2, ![a, b]⟩) (Val := Elt Ideal) (e' := .f32) (r2 .f32 a b f) (Rect.unit (s := ⟨2, ![a, b]⟩) ![o, p] ![c, d] inb)
      = r2 .f32 c d fun i j => f (o + i) (p + j) := by
  refine (View.ld_unit _ _ _ _).trans ?_
  rfl

/-! ### Sums -/

theorem sum_cols (h : (⟨2, ![a, b]⟩ : Shape).Reduces [1] ⟨1, ![a]⟩) (hφ : FKind.Formats φ) (w : BitVec φ.bits)
    (hw : w = FKind.add.neutral φ hφ) :
    multiReduction .add [1] (⟨1, ![a]⟩ : Shape) (r2 φ a b f) w h hφ hw = r1 φ a fun i => ∑ k : Fin b, f i k := by
  funext j
  rw [multiReduction_add_apply, Ideal.reduceAdd_def, Ideal.reduceAdd_r2_a1]
  exact coe_sum _ _
theorem sum_rows (h : (⟨2, ![a, b]⟩ : Shape).Reduces [0] ⟨1, ![b]⟩) (hφ : FKind.Formats φ) (w : BitVec φ.bits)
    (hw : w = FKind.add.neutral φ hφ) :
    multiReduction .add [0] (⟨1, ![b]⟩ : Shape) (r2 φ a b f) w h hφ hw = r1 φ b fun j => ∑ k : Fin a, f k j := by
  funext j
  rw [multiReduction_add_apply, Ideal.reduceAdd_def, Ideal.reduceAdd_r2_a0]
  exact coe_sum _ _

end Two

section Product
variable (f g : ℕ → ℕ → ℝ)

theorem matmul_plain (p : Option ContractPrecision) :
    matmul (DotDims.plain a b c) p (r2 φ a b f) (r2 ψ b c g) (constant (⟨2, ![a, c]⟩ : Shape) .f32 0x00000000#32)
      = r2 .f32 a c fun i j => ∑ k : Fin b, f i k * g k j := by
  funext j; obtain ⟨i, j, rfl⟩ : ∃ p q, j = ix2 p q := ⟨j 0, j 1, eq_ix2 j⟩
  refine (Ideal.matmul_plain_apply p _ _ _ i j).trans ?_
  refine (congrArg (· + _) w_zero).trans ?_
  rw [EReal.coe_zero, zero_add]
  exact coe_sum Finset.univ fun k : Fin b => f i k * g k j
theorem matmul_transposed (p : Option ContractPrecision) :
    matmul (DotDims.transposedRhs a b c) p (r2 φ a b f) (r2 ψ c b g) (constant (⟨2, ![a, c]⟩ : Shape) .f32 0x00000000#32)
      = r2 .f32 a c fun i j => ∑ k : Fin b, f i k * g j k := by
  funext j; obtain ⟨i, j, rfl⟩ : ∃ p q, j = ix2 p q := ⟨j 0, j 1, eq_ix2 j⟩
  refine (Ideal.matmul_transposedRhs_apply p _ _ _ i j).trans ?_
  refine (congrArg (· + _) w_zero).trans ?_
  rw [EReal.coe_zero, zero_add]
  exact coe_sum Finset.univ fun k : Fin b => f i k * g j k

end Product

end Cert.Mix

end
-- ==== Proof.Mix.Payload.lean ====
/-
  The whole-block values of the mixer's backward kernel on real blocks: each of the kernel's named payloads over a block's 512
  rows, at `Ideal`, is the real block of the function Mix/Real.lean names for it.
-/
module

public import proofs.«01_k».proof.Proof.Gen.KernelIdeal.Skeleton
public import proofs.«01_k».proof.Proof.Mix.Vec

@[expose] public section

set_option maxRecDepth 16384

noncomputable section

namespace Cert.Mix

open Idealize.ShloMosaic Cert.KernelIdeal Cert.KernelIdeal.Gen

section
variable {a b c : ℕ}

theorem s_half : broadcast (⟨2, ![a, b]⟩ : Shape) (Scalar.ofBits (F := Ideal) .f32 0x3F000000#32)
    = r2 .f32 a b fun _ _ => 1 / 2 := broadcast_r2 w_half
theorem s_one : broadcast (⟨2, ![a, b]⟩ : Shape) (Scalar.ofBits (F := Ideal) .f32 0x3F800000#32)
    = r2 .f32 a b fun _ _ => 1 := broadcast_r2 w_one
theorem s_1024 : broadcast (⟨2, ![a, b]⟩ : Shape) (Scalar.ofBits (F := Ideal) .f32 0x44800000#32)
    = r2 .f32 a b fun _ _ => 1024 := broadcast_r2 w_1024
theorem s_gc : broadcast (⟨2, ![a, b]⟩ : Shape) (Scalar.ofBits (F := Ideal) .f32 0x3F4C422A#32)
    = r2 .f32 a b fun _ _ => gc := broadcast_r2 w_gc
theorem s_eps : broadcast (⟨2, ![a, b]⟩ : Shape) (Scalar.ofBits (F := Ideal) .f32 0x358637BD#32)
    = r2 .f32 a b fun _ _ => eps := broadcast_r2 w_eps
theorem s_zero : broadcast (⟨2, ![a, b]⟩ : Shape) (Scalar.ofBits (F := Ideal) .f32 0x00000000#32)
    = r2 .f32 a b fun _ _ => 0 := broadcast_r2 w_zero
theorem s_zero_bf16 : broadcast (⟨2, ![a, b]⟩ : Shape) (Scalar.ofBits (F := Ideal) .bf16 0x0000#16)
    = r2 .bf16 a b fun _ _ => 0 := broadcast_r2 w_zero_bf16
theorem s_zero3 : broadcast (⟨3, ![a, b, c]⟩ : Shape) (Scalar.ofBits (F := Ideal) .f32 0x00000000#32)
    = r3 .f32 a b c fun _ _ _ => 0 := broadcast_r3 w_zero
theorem s_a : broadcast (⟨2, ![a, b]⟩ : Shape) (Named.named (F := Ideal) κ "gelu_a" (φ := .f32) 0x3D372713#32)
    = r2 .f32 a b fun _ _ => 8943 / 200000 := broadcast_r2 (IdealRules.named_const.ideal_named_scalar _ _ _ _ rfl)
theorem s_3a : broadcast (⟨2, ![a, b]⟩ : Shape) (Named.named (F := Ideal) κ "gelu_3a" (φ := .f32) 0x3E095D4F#32)
    = r2 .f32 a b fun _ _ => 26829 / 200000 := broadcast_r2 (IdealRules.named_const.ideal_named_scalar _ _ _ _ rfl)
end

theorem dot_wide : dot_S512x1024_S1024x1024_S512x1024_1_1_0_0_n_n = DotDims.transposedRhs 512 1024 1024 := rfl
theorem dot_plain : dot_S128x128_S128x128_S128x128_1_0_0_1_n_n = DotDims.plain 128 128 128 := rfl
theorem dot_trans : dot_S128x128_S128x128_S128x128_1_1_0_0_n_n = DotDims.transposedRhs 128 128 128 := rfl

section
variable (A : Args) (f g : ℕ → ℕ → ℝ)

theorem sum_512 {ax : List (Fin 2)} {w : BitVec 32} {h : S512x1024.Reduces ax S512} {hf : FKind.Formats .f32}
    {hw : w = FKind.add.neutral .f32 hf} (hax : ax = [1]) :
    multiReduction (s := S512x1024) (φ := .f32) .add ax S512 (r2 .f32 512 1024 f) w h hf hw = r1 .f32 512 fun r => ∑ j : Fin 1024, f r j := by
  subst hax
  exact sum_cols f _ _ _ _

theorem sum_1024 {ax : List (Fin 2)} {w : BitVec 32} {h : S512x1024.Reduces ax S1024} {hf : FKind.Formats .f32}
    {hw : w = FKind.add.neutral .f32 hf} (hax : ax = [0]) :
    multiReduction (s := S512x1024) (φ := .f32) .add ax S1024 (r2 .f32 512 1024 f) w h hf hw = r1 .f32 1024 fun j => ∑ r : Fin 512, f r j := by
  subst hax
  exact sum_rows f _ _ _ _

theorem sum_128 {ax : List (Fin 2)} {w : BitVec 32} {h : S128x128.Reduces ax S128} {hf : FKind.Formats .f32}
    {hw : w = FKind.add.neutral .f32 hf} (hax : ax = [0]) :
    multiReduction (s := S128x128) (φ := .f32) .add ax S128 (r2 .f32 128 128 f) w h hf hw = r1 .f32 128 fun j => ∑ r : Fin 128, f r j := by
  subst hax
  exact sum_rows f _ _ _ _

theorem turn_128 : transpose S128x128 [1, 0] (r2 .f32 128 128 f) transposes_S128x128_p1_0_S128x128
    = r2 .f32 128 128 fun i j => f j i := transpose_r2 f _

theorem pay14 : k0_pay14 (F := Ideal) (r2 .f32 512 1024 A.X) (r2 .bf16 1024 1024 A.W) = r2 .f32 512 1024 (dm A) := by
  simp only [k0_pay14, truncf_r2, cast_r2_self, dot_wide, matmul_transposed]
  rfl

theorem pay15 : k0_pay15 (F := Ideal) (r2 .bf16 512 1024 f) = r2 .f32 512 1024 fun r j => sg (f r j) := by
  simp only [k0_pay15, extf_r2, cast_r2_self, s_half, mulf_r2, tanh_r2, addf_r2]
  rfl

theorem pay16 : k0_pay16 (F := Ideal) (r2 .bf16 512 1024 f) = r2 .f32 512 1024 fun r j => sg (f r j) := by
  simp only [k0_pay16, extf_r2, cast_r2_self, s_half, mulf_r2, tanh_r2, addf_r2]
  rfl

theorem pay17 : k0_pay17 (F := Ideal) (r2 .bf16 512 1024 f) = r2 .f32 512 1024 f := by
  simp only [k0_pay17, extf_r2, cast_r2_self]

theorem pay18 : k0_pay18 (F := Ideal) (r2 .bf16 512 1024 f)
    = r2 .f32 512 1024 fun r j => f r j + 8943 / 200000 * (f r j * f r j * f r j) := by
  simp only [k0_pay18, pay17, s_a, mulf_r2, addf_r2]

theorem pay19 : k0_pay19 (F := Ideal) = r2 .f32 512 1024 fun _ _ => gc := s_gc

theorem pay20 : k0_pay20 (F := Ideal) (r2 .f32 512 1024 fun r j => f r j + 8943 / 200000 * (f r j * f r j * f r j))
    (r2 .f32 512 1024 fun _ _ => gc) = r2 .f32 512 1024 fun r j => gt (f r j) := by
  simp only [k0_pay20, mulf_r2, tanh_r2]
  rfl

theorem pay21 : k0_pay21 (F := Ideal) (r2 .f32 512 1024 f)
    (r2 .f32 512 1024 fun r j => f r j + 8943 / 200000 * (f r j * f r j * f r j))
    (r2 .f32 512 1024 fun _ _ => gc) = r2 .f32 512 1024 fun r j => gelu (f r j) := by
  simp only [k0_pay21, pay20, s_half, s_one, mulf_r2, addf_r2]
  rfl

theorem pay22 : k0_pay22 (F := Ideal) (r2 .f32 512 1024 A.H0) (r2 .f32 512 1024 A.H1) = r2 .f32 512 1024 (hs A) := by
  simp only [k0_pay22, addf_r2]
  rfl

theorem pay24 : k0_pay24 (F := Ideal) (r2 .f32 512 1024 (dm A)) (r2 .f32 512 1024 (sa A)) = r2 .f32 512 1024 (dya A) := by
  simp only [k0_pay24, mulf_r2]
  rfl

theorem pay25 : k0_pay25 (F := Ideal) (r2 .f32 512 1024 (dm A)) (r2 .f32 512 1024 (sb A))
    (r2 .f32 512 1024 fun r j => A.Z r (3072 + j))
    (r2 .f32 512 1024 fun r j => A.Z r (3072 + j) + 8943 / 200000 * (A.Z r (3072 + j) * A.Z r (3072 + j) * A.Z r (3072 + j)))
    (r2 .f32 512 1024 fun _ _ => gc) = r2 .f32 512 1024 (dh A) := by
  simp only [k0_pay25, k0_pay23, pay21 fun r j => A.Z r (3072 + j), mulf_r2]
  rfl

theorem pay26 : k0_pay26 (F := Ideal) = r2 .bf16 512 1024 fun _ _ => 0 := s_zero_bf16

theorem pay27 : k0_pay27 (F := Ideal) (r2 .f32 512 1024 (dm A)) (r2 .f32 512 1024 (sb A))
    (r2 .f32 512 1024 fun r j => A.Z r (3072 + j))
    (r2 .f32 512 1024 fun r j => A.Z r (3072 + j) + 8943 / 200000 * (A.Z r (3072 + j) * A.Z r (3072 + j) * A.Z r (3072 + j)))
    (r2 .f32 512 1024 fun _ _ => gc) (r2 .f32 512 1024 A.H0) (r2 .f32 512 1024 A.H1) = r2 .bf16 512 1024 (dz3 A) := by
  simp only [k0_pay27, k0_pay23, pay22, pay20 fun r j => A.Z r (3072 + j), s_half, s_one, s_3a, s_gc, mulf_r2, addf_r2, subf_r2,
    truncf_r2]
  rfl

theorem pay28 : k0_pay28 (F := Ideal) (r2 .f32 512 1024 (dm A)) (r2 .f32 512 1024 (sb A)) (r2 .f32 512 1024 (gg A))
    (r2 .f32 512 1024 (hs A)) = r2 .bf16 512 1024 (dz5 A) := by
  simp only [k0_pay28, s_one, mulf_r2, subf_r2, truncf_r2]
  rfl

theorem pay29 : k0_pay29 (F := Ideal) (r2 .bf16 512 1024 f) = r2 .f32 512 1024 f := by
  simp only [k0_pay29, extf_r2, cast_r2_self]

theorem pay30 : k0_pay30 (F := Ideal) (r2 .bf16 512 1024 f) = r2 .f32 512 1024 f := by
  simp only [k0_pay30, extf_r2, cast_r2_self]

theorem pay31 : k0_pay31 (F := Ideal) (r2 .bf16 512 1024 f) = r2 .f32 512 1024 fun r j => gt (f r j) := by
  simp only [k0_pay31, pay29, s_a, s_gc, mulf_r2, tanh_r2, addf_r2]
  rfl

theorem pay32 : k0_pay32 (F := Ideal) (r2 .bf16 512 1024 f) = r2 .f32 512 1024 fun r j => gelu (f r j) := by
  simp only [k0_pay32, pay29, pay31, s_half, s_one, mulf_r2, addf_r2]
  rfl

theorem pay33 : k0_pay33 (F := Ideal) (r2 .bf16 512 1024 f) = r2 .f32 512 1024 fun r j => gt (f r j) := by
  simp only [k0_pay33, pay30, s_a, s_gc, mulf_r2, tanh_r2, addf_r2]
  rfl

theorem pay34 : k0_pay34 (F := Ideal) (r2 .bf16 512 1024 f) = r2 .f32 512 1024 fun r j => gelu (f r j) := by
  simp only [k0_pay34, pay30, pay33, s_half, s_one, mulf_r2, addf_r2]
  rfl

set_option backward.isDefEq.respectTransparency false in
theorem pay35 : k0_pay35 (F := Ideal) (r2 .bf16 512 1024 f) = r1 .f32 512 fun r => ∑ j : Fin 1024, gelu (f r j) := by
  simp only [k0_pay35, pay34, sum_512]

/-- The row sums the layer norm starts from. -/
def gvs (r : ℕ) : ℝ := ∑ j : Fin 1024, gv A r j

theorem pay36 : k0_pay36 (F := Ideal) (r2 .f32 512 1024 (gv A)) (r1 .f32 512 (gvs A)) = r2 .f32 512 1024 (xc A) := by
  simp only [k0_pay36, cast_r1_col, s_1024, divf_r2 _ (1024 : ℝ) (by norm_num), spread_col, subf_r2]
  rfl

set_option backward.isDefEq.respectTransparency false in
theorem pay37 : k0_pay37 (F := Ideal) (r2 .f32 512 1024 (gv A)) (r1 .f32 512 (gvs A)) = r2 .f32 512 1 fun r _ => rstd A r := by
  simp only [k0_pay37, pay36, mulf_r2, sum_512, cast_r1_col, s_1024, divf_r2 _ (1024 : ℝ) (by norm_num), s_eps, addf_r2]
  refine (rsqrt_r2 _ fun r _ => ?_).trans rfl
  exact add_pos_of_nonneg_of_pos (mean_nonneg_sq _) eps_pos

theorem pay38 : k0_pay38 (F := Ideal) (r2 .f32 512 1024 (gv A)) (r1 .f32 512 (gvs A)) = r2 .f32 512 1024 (xh A) := by
  simp only [k0_pay38, pay36, pay37, spread_col, mulf_r2]
  rfl

theorem pay39 : k0_pay39 (F := Ideal) (r2 .f32 512 1024 (gv A)) (r1 .f32 512 (gvs A)) (r2 .f32 1 1024 fun _ j => A.lg j)
    (r2 .f32 1 1024 fun _ j => A.lb j) = r2 .bf16 512 1024 (vb A) := by
  simp only [k0_pay39, pay38, cast_r2_self, spread_row, mulf_r2, addf_r2, truncf_r2]
  rfl

/-! ### After the blocks -/

theorem pay376 : k0_pay376 (F := Ideal) (r2 .f32 512 1024 (dm A)) (r2 .f32 512 1024 (sa A)) (r2 .f32 512 1024 (ya A))
    = r2 .bf16 512 1024 (dz4 A) := by
  simp only [k0_pay376, s_one, mulf_r2, subf_r2, truncf_r2]
  rfl

set_option backward.isDefEq.respectTransparency false in
theorem pay377 : k0_pay377 (F := Ideal) (r2 .f32 512 1024 (xh A)) (r2 .f32 512 1024 (dv A))
    = r2 .f32 1 1024 fun _ j => ∑ r : Fin 512, dv A r j * xh A r j := by
  simp only [k0_pay377, mulf_r2, sum_1024, cast_r1_row]

set_option backward.isDefEq.respectTransparency false in
theorem pay386 : k0_pay386 (F := Ideal) (r2 .f32 512 1024 (dv A)) = r2 .f32 1 1024 fun _ j => ∑ r : Fin 512, dv A r j := by
  simp only [k0_pay386, sum_1024, cast_r1_row]

set_option backward.isDefEq.respectTransparency false in
theorem pay396 : k0_pay396 (F := Ideal) (r2 .f32 512 1024 (xh A)) (r2 .f32 512 1024 (dv A)) (r2 .f32 1 1024 fun _ j => A.lg j)
    = r2 .f32 512 1024 fun r j => dxh A r j - mean (dxh A r) - xh A r j * mean fun k => dxh A r k * xh A r k := by
  simp only [k0_pay396, cast_r2_self, spread_row, mulf_r2, sum_512, cast_r1_col, s_1024, divf_r2 _ (1024 : ℝ) (by norm_num),
    spread_col, subf_r2]
  rfl

theorem pay397 : k0_pay397 (F := Ideal) (r2 .f32 512 1 fun r _ => rstd A r)
    (r2 .f32 512 1024 fun r j => dxh A r j - mean (dxh A r) - xh A r j * mean fun k => dxh A r k * xh A r k)
    = r2 .f32 512 1024 (dgv A) := by
  simp only [k0_pay397, spread_col, mulf_r2]
  rfl

theorem pay398 : k0_pay398 (F := Ideal) (r2 .f32 512 1024 A.Z) (r2 .f32 512 1024 fun r j => gt (A.Z r j))
    (r2 .f32 512 1024 (du A)) = r2 .bf16 512 1024 (dz0 A) := by
  simp only [k0_pay398, s_half, s_one, s_3a, s_gc, mulf_r2, addf_r2, subf_r2, truncf_r2]
  rfl

theorem pay403 : k0_pay403 (F := Ideal) (r2 .f32 512 1024 (dgv A))
    (k0_pay399 (r2 .f32 512 1024 fun r j => gt (A.Z r (1024 + j))))
    (k0_pay400 (r2 .f32 512 1024 fun r j => A.Z r (1024 + j)) (r2 .f32 512 1024 fun r j => gt (A.Z r (1024 + j))))
    (k0_pay401 (r2 .f32 512 1024 fun r j => A.Z r (1024 + j))) k0_pay402 = r2 .bf16 512 1024 (dz1 A) := by
  simp only [k0_pay403, k0_pay399, k0_pay400, k0_pay401, k0_pay402, s_half, s_one, s_3a, s_gc, mulf_r2, addf_r2, subf_r2,
    truncf_r2]
  rfl

end

end Cert.Mix

end
-- ==== Proof.Mix.Blocks.lean ====
/-
  The pieces of the mixer's backward kernel: how its loads read real blocks, and the values its stores leave for one chunk of
  128 rows and one head of 128 columns.
-/
module

public import proofs.«01_k».proof.Proof.Mix.Payload
public import Idealize.ShloMosaic.Lib.WholeRead
public import Idealize.ShloMosaic.Lib.Writes
public import Idealize.ShloMosaic.Lib.Tactic
public import Idealize.ShloMosaic.Lib.Pipeline.CanonAppend
public import Idealize.ShloMosaic.Lib.Ring

@[expose] public section

set_option maxRecDepth 16384

noncomputable section

namespace Cert.Mix

open Idealize.ShloMosaic Cert.KernelIdeal Cert.KernelIdeal.Gen

/-! ### Loads -/

section
variable {e : EltTy}

theorem zero2 : (![0, 0] : Fin 2 → ℕ) = fun _ => 0 := by
  funext a; fin_cases a <;> rfl

theorem rd_rows {m : Memref sig .tc .vmem S512x1024 e} (h : m.IsWhole) (X : Vec Ideal S512x1024 e) (inb) :
    View.readAt (Elt Ideal) m.view (Rect.unit (s := S512x1024) ![0, 0] S512x1024.size inb).toLoadRect (h.unread X) = X :=
  (funext fun x => h.readAt_unread X _ x).trans (View.ld_unit_zero zero2 inb X)

theorem rd_square {m : Memref sig .tc .vmem S1024x1024 e} (h : m.IsWhole) (X : Vec Ideal S1024x1024 e) (inb) :
    View.readAt (Elt Ideal) m.view (Rect.unit (s := S1024x1024) ![0, 0] S1024x1024.size inb).toLoadRect (h.unread X) = X :=
  (funext fun x => h.readAt_unread X _ x).trans (View.ld_unit_zero zero2 inb X)

theorem rd_row {m : Memref sig .tc .vmem S1x1024 e} (h : m.IsWhole) (X : Vec Ideal S1x1024 e) (inb) :
    View.readAt (Elt Ideal) m.view (Rect.unit (s := S1x1024) ![0, 0] S1x1024.size inb).toLoadRect (h.unread X) = X :=
  (funext fun x => h.readAt_unread X _ x).trans (View.ld_unit_zero zero2 inb X)

end

section
variable (g : ℕ)

theorem rd_head {m : Memref sig .tc .vmem S8x128x128 .f32} (h : m.IsWhole) (f : ℕ → ℕ → ℕ → ℝ) (inb) :
    View.readAt (Elt Ideal) m.view (Rect.unit (s := S8x128x128) ![g, 0, 0] S1x128x128.size inb).toLoadRect
      (h.unread (r3 .f32 8 128 128 f)) = r3 .f32 1 128 128 fun _ i j => f g i j := by
  refine (funext fun x => h.readAt_unread _ _ x).trans ?_
  refine (ld_r3 g 0 0 f inb).trans ?_
  funext x
  have h0 : (x 0).val = 0 := by have : (x 0).val < 1 := (x 0).isLt; omega
  simp only [r3, h0, Nat.add_zero, Nat.zero_add]

theorem rd_headb {m : Memref sig .tc .vmem S8x128x128 .bf16} (h : m.IsWhole) (f : ℕ → ℕ → ℕ → ℝ) (inb) :
    View.readAt (Elt Ideal) m.view (Rect.unit (s := S8x128x128) ![g, 0, 0] S1x128x128.size inb).toLoadRect
      (h.unread (r3 .bf16 8 128 128 f)) = r3 .bf16 1 128 128 fun _ i j => f g i j := by
  refine (funext fun x => h.readAt_unread _ _ x).trans ?_
  refine (ld_r3b g 0 0 f inb).trans ?_
  funext x
  have h0 : (x 0).val = 0 := by have : (x 0).val < 1 := (x 0).isLt; omega
  simp only [r3, h0, Nat.add_zero, Nat.zero_add]

theorem rd_lane {m : Memref sig .tc .vmem S8x128 .f32} (h : m.IsWhole) (f : ℕ → ℕ → ℝ) (inb) :
    View.readAt (Elt Ideal) m.view (Rect.unit (s := S8x128) ![g, 0] S1x128.size inb).toLoadRect
      (h.unread (r2 .f32 8 128 f)) = r2 .f32 1 128 fun _ j => f g j := by
  refine (funext fun x => h.readAt_unread _ _ x).trans ?_
  refine (ld_r2 f g 0 inb).trans ?_
  funext x
  have h0 : (x 0).val = 0 := by have : (x 0).val < 1 := (x 0).isLt; omega
  simp only [r2, h0, Nat.add_zero, Nat.zero_add]

end

/-! ### Blocks equal entry by entry -/

theorem r2_ext {φ : FTy} {a b : ℕ} {f g : ℕ → ℕ → ℝ} (h : ∀ i j, i < a → j < b → f i j = g i j) :
    r2 φ a b f = r2 φ a b g :=
  funext fun x => congrArg _ (h _ _ (x 0).isLt (x 1).isLt)

theorem r3_ext {φ : FTy} {a b c : ℕ} {f g : ℕ → ℕ → ℕ → ℝ} (h : ∀ i j k, i < a → j < b → k < c → f i j k = g i j k) :
    r3 φ a b c f = r3 φ a b c g :=
  funext fun x => congrArg _ (h _ _ _ (x 0).isLt (x 1).isLt (x 2).isLt)

/-- A stored block is the part of a whole block at its offsets. -/
theorem piece_of {φ : FTy} {a b c d p q : ℕ} {f : ℕ → ℕ → ℝ} (inb) {w : FVec Ideal ⟨2, ![c, d]⟩ φ}
    (h : w = r2 φ c d fun i j => f (p + i) (q + j)) (x : (⟨2, ![c, d]⟩ : Shape).Idx) :
    w x = r2 φ a b f ((Rect.unit (s := ⟨2, ![a, b]⟩) ![p, q] ![c, d] inb).emb x) := by
  subst h
  simp only [r2]
  congr 2
  · exact congrArg (p + ·) (Nat.one_mul _).symm
  · exact congrArg (q + ·) (Nat.one_mul _).symm

/-! ### The stores for one chunk and one head -/

section
variable (A : Args) (n g : ℕ) {D U : FVec Ideal S512x1024 .f32} {V : FVec Ideal S512x1024 .bf16}
  {W : FVec Ideal S1x128x128 .bf16} {B : FVec Ideal S1x128x128 .f32}

theorem mixed_block (hV : V = r2 .bf16 512 1024 (vb A)) (hW : W = r3 .bf16 1 128 128 fun _ p q => A.ws g p q)
    (hB : B = r3 .f32 1 128 128 fun _ p _ => A.bs g p) {h6 h7 h8 : _} :
    addf (matmul dot_S128x128_S128x128_S128x128_1_0_0_1_n_n none (shapeCast S128x128 W h6)
        (extractStridedSlice S128x128 ![128 * n, 128 * g] V h7) (constant S128x128 .f32 0x00000000#32))
      (shapeCast S128x128 B h8) = r2 .f32 128 128 fun i j => mixed A (128 * n + i) (128 * g + j) := by
  subst hV hW hB
  simp only [cast_r3_r2, slice_r2, dot_plain, matmul_plain, addf_r2]
  exact r2_ext fun i j hi hj => (mixed_at A n g hi hj).symm

/-- `U * mixed`: the rows of `ya`, or of `du`. -/
theorem times_mixed (u : ℕ → ℕ → ℝ) (hU : U = r2 .f32 512 1024 u) (hV : V = r2 .bf16 512 1024 (vb A))
    (hW : W = r3 .bf16 1 128 128 fun _ p q => A.ws g p q)
    (hB : B = r3 .f32 1 128 128 fun _ p _ => A.bs g p) {h6 h7 h8 h9 h10 : _} :
    shapeCast S128x128 (mulf (extractStridedSlice S128x128 ![128 * n, 128 * g] U h9)
      (addf (matmul dot_S128x128_S128x128_S128x128_1_0_0_1_n_n none (shapeCast S128x128 W h6)
          (extractStridedSlice S128x128 ![128 * n, 128 * g] V h7) (constant S128x128 .f32 0x00000000#32))
        (shapeCast S128x128 B h8))) h10
      = r2 .f32 128 128 fun i j => u (128 * n + i) (128 * g + j) * mixed A (128 * n + i) (128 * g + j) := by
  rw [mixed_block A n g hV hW hB, hU]
  simp only [slice_r2, mulf_r2, cast_r2_self]

/-- The rows of `dv`. -/
theorem dv_block (hD : D = r2 .f32 512 1024 (dya A)) (hU : U = r2 .f32 512 1024 (u A))
    (hW : W = r3 .bf16 1 128 128 fun _ p q => A.ws g q p) {h6 h7 h8 h9 h10 : _} :
    shapeCast S128x128 (matmul dot_S128x128_S128x128_S128x128_1_0_0_1_n_n none (shapeCast S128x128 W h6)
        (truncf .bf16 (mulf (extractStridedSlice S128x128 ![128 * n, 128 * g] D h7)
          (extractStridedSlice S128x128 ![128 * n, 128 * g] U h8)) h9) (constant S128x128 .f32 0x00000000#32)) h10
      = r2 .f32 128 128 fun i j => dv A (128 * n + i) (128 * g + j) := by
  subst hD hU hW
  simp only [cast_r3_r2, slice_r2, mulf_r2, truncf_r2, dot_plain, matmul_plain, cast_r2_self]
  exact r2_ext fun i j hi hj => (dv_at A n g hi hj).symm

/-- One chunk's addition to the gradient of the spatial weights. -/
theorem dws_block (t : ℕ → ℕ → ℝ) (hB : B = r3 .f32 1 128 128 fun _ i j => t i j) (hD : D = r2 .f32 512 1024 (dya A))
    (hU : U = r2 .f32 512 1024 (u A)) (hV : V = r2 .bf16 512 1024 (vb A)) {h6 h7 h8 h9 h10 h11 : _} :
    shapeCast S1x128x128 (addf (shapeCast S128x128 B h6)
      (matmul dot_S128x128_S128x128_S128x128_1_1_0_0_n_n none
        (truncf .bf16 (mulf (extractStridedSlice S128x128 ![128 * n, 128 * g] D h7)
          (extractStridedSlice S128x128 ![128 * n, 128 * g] U h8)) h9)
        (extractStridedSlice S128x128 ![128 * n, 128 * g] V h10) (constant S128x128 .f32 0x00000000#32))) h11
      = r3 .f32 1 128 128 fun _ i j => t i j
          + ∑ c : Fin 128, dmx A (128 * n + i) (128 * g + c) * vb A (128 * n + j) (128 * g + c) := by
  subst hD hU hV hB
  simp only [cast_r3_r2, slice_r2, mulf_r2, truncf_r2, dot_trans, matmul_transposed, addf_r2, cast_r2_r3]
  rfl

/-- One chunk's addition to the running sum behind the gradient of the spatial bias. -/
theorem dbs_block (t : ℕ → ℕ → ℝ) (hB : B = r3 .f32 1 128 128 fun _ i j => t i j) (hD : D = r2 .f32 512 1024 (dya A))
    (hU : U = r2 .f32 512 1024 (u A)) {h6 h7 h8 h9 : _} :
    shapeCast S1x128x128 (addf (shapeCast S128x128 B h6)
      (mulf (extractStridedSlice S128x128 ![128 * n, 128 * g] D h7)
          (extractStridedSlice S128x128 ![128 * n, 128 * g] U h8))) h9
      = r3 .f32 1 128 128 fun _ i j => t i j + dmx A (128 * n + i) (128 * g + j) := by
  subst hD hU hB
  simp only [cast_r3_r2, slice_r2, mulf_r2, addf_r2, cast_r2_r3]
  rfl

end

/-- A row of 128 column sums added to a head's row. -/
theorem lane_block (g : ℕ) (t : ℕ → ℝ) (s : ℕ → ℝ) {B : FVec Ideal S1x128 .f32} {R : FVec Ideal S1x1024 .f32}
    (hB : B = r2 .f32 1 128 fun _ j => t j) (hR : R = r2 .f32 1 1024 fun _ j => s j) {h1 h2 : _} :
    addf (shapeCast S1x128 B h1) (extractStridedSlice S1x128 ![0, 128 * g] R h2)
      = r2 .f32 1 128 fun _ j => t j + s (128 * g + j) := by
  subst hB hR
  simp only [cast_r2_self, slice_r2, addf_r2]

/-- A head's rows summed: the gradient of the spatial bias. -/
theorem dbs_row (t : ℕ → ℕ → ℝ) {B : FVec Ideal S1x128x128 .f32} (hB : B = r3 .f32 1 128 128 fun _ i j => t i j)
    {h1 h2 h3 h4 h5 h6 : _} :
    shapeCast S1x128 (multiReduction (s := S128x128) (φ := .f32) .add [0] S128
        (transpose S128x128 [1, 0] (shapeCast S128x128 B h1) h2) 0x00000000#32 h3 h4 h5) h6
      = r2 .f32 1 128 fun _ i => ∑ j : Fin 128, t i j := by
  subst hB
  rw [cast_r3_r2]
  refine (congrArg (fun y => shapeCast S1x128 y h6) ((congrArg (fun y => multiReduction (s := S128x128) (φ := .f32) .add [0] S128 y 0x00000000#32 h3 h4 h5) (transpose_r2 t h2)).trans
    (sum_rows _ _ _ _ _))).trans ?_
  exact cast_r1_row _ _

/-! ### Reading back after the stores -/

section
variable {L : List (View.Piece (Elt Ideal) S8x128x128 .f32)}

theorem not_mem_head {g k : ℕ} (hk : k ≠ g) (inb) (inb') (x : S1x128x128.Idx) :
    (Rect.unit (s := S8x128x128) ![g, 0, 0] S1x128x128.size inb').emb x
      ∉ (Rect.unit (s := S8x128x128) ![k, 0, 0] S1x128x128.size inb).set := by
  refine Rect.not_mem_set_of_axis _ _ 0 k 1 rfl rfl rfl ?_
  have h0 : (x 0).val = 0 := by have : (x 0).val < 1 := (x 0).isLt; omega
  have e : ((Rect.unit (s := S8x128x128) ![g, 0, 0] S1x128x128.size inb').emb x 0).val = g := by
    show g + 1 * (x 0).val = g
    omega
  rw [e]; omega

theorem skip_head (v : View sig .tc .vmem S8x128x128 .f32) {g : ℕ} (k : ℕ) (inb) (inb') (w) (hk : k ≠ g) :
    v.readCov ((⟨Rect.unit (s := S8x128x128) ![k, 0, 0] S1x128x128.size inb, w⟩ : View.Piece (Elt Ideal) S8x128x128 .f32) :: L)
        (Rect.unit (s := S8x128x128) ![g, 0, 0] S1x128x128.size inb').toLoadRect
      = v.readCov L (Rect.unit (s := S8x128x128) ![g, 0, 0] S1x128x128.size inb').toLoadRect := by
  rw [View.readCov_eq_canon', View.readCov_eq_canon']
  funext x
  exact View.canon_cons_of_not_mem _ _ (not_mem_head hk inb inb' x)

/-- The eighth store before is the one of the same head. -/
theorem eighth (v : View sig .tc .vmem S8x128x128 .f32) {g k1 k2 k3 k4 k5 k6 k7 : ℕ} {inb i1 i2 i3 i4 i5 i6 i7 i8}
    {w1 w2 w3 w4 w5 w6 w7 w} (h : k1 ≠ g ∧ k2 ≠ g ∧ k3 ≠ g ∧ k4 ≠ g ∧ k5 ≠ g ∧ k6 ≠ g ∧ k7 ≠ g) {Y} (hw : w = Y) :
    v.readCov ((⟨Rect.unit (s := S8x128x128) ![k1, 0, 0] S1x128x128.size i1, w1⟩ : View.Piece (Elt Ideal) S8x128x128 .f32)
        :: ⟨Rect.unit (s := S8x128x128) ![k2, 0, 0] S1x128x128.size i2, w2⟩
        :: ⟨Rect.unit (s := S8x128x128) ![k3, 0, 0] S1x128x128.size i3, w3⟩
        :: ⟨Rect.unit (s := S8x128x128) ![k4, 0, 0] S1x128x128.size i4, w4⟩
        :: ⟨Rect.unit (s := S8x128x128) ![k5, 0, 0] S1x128x128.size i5, w5⟩
        :: ⟨Rect.unit (s := S8x128x128) ![k6, 0, 0] S1x128x128.size i6, w6⟩
        :: ⟨Rect.unit (s := S8x128x128) ![k7, 0, 0] S1x128x128.size i7, w7⟩
        :: ⟨Rect.unit (s := S8x128x128) ![g, 0, 0] S1x128x128.size i8, w⟩ :: L)
        (Rect.unit (s := S8x128x128) ![g, 0, 0] S1x128x128.size inb).toLoadRect = Y := by
  obtain ⟨h1, h2, h3, h4, h5, h6, h7⟩ := h
  rw [skip_head _ _ _ _ _ h1, skip_head _ _ _ _ _ h2, skip_head _ _ _ _ _ h3, skip_head _ _ _ _ _ h4,
    skip_head _ _ _ _ _ h5, skip_head _ _ _ _ _ h6, skip_head _ _ _ _ _ h7, View.readCov_cons_toLoadRect, hw]

/-- The last eight stores, one for each head, fill the block. -/
theorem canon_heads (G : ℕ → ℕ → ℕ → ℝ) {i0 i1 i2 i3 i4 i5 i6 i7} {w0 w1 w2 w3 w4 w5 w6 w7}
    (h0 : w0 = r3 .f32 1 128 128 fun _ i j => G 0 i j) (h1 : w1 = r3 .f32 1 128 128 fun _ i j => G 1 i j)
    (h2 : w2 = r3 .f32 1 128 128 fun _ i j => G 2 i j) (h3 : w3 = r3 .f32 1 128 128 fun _ i j => G 3 i j)
    (h4 : w4 = r3 .f32 1 128 128 fun _ i j => G 4 i j) (h5 : w5 = r3 .f32 1 128 128 fun _ i j => G 5 i j)
    (h6 : w6 = r3 .f32 1 128 128 fun _ i j => G 6 i j) (h7 : w7 = r3 .f32 1 128 128 fun _ i j => G 7 i j) :
    View.canon ((⟨Rect.unit (s := S8x128x128) ![7, 0, 0] S1x128x128.size i7, w7⟩ : View.Piece (Elt Ideal) S8x128x128 .f32)
        :: ⟨Rect.unit (s := S8x128x128) ![6, 0, 0] S1x128x128.size i6, w6⟩
        :: ⟨Rect.unit (s := S8x128x128) ![5, 0, 0] S1x128x128.size i5, w5⟩
        :: ⟨Rect.unit (s := S8x128x128) ![4, 0, 0] S1x128x128.size i4, w4⟩
        :: ⟨Rect.unit (s := S8x128x128) ![3, 0, 0] S1x128x128.size i3, w3⟩
        :: ⟨Rect.unit (s := S8x128x128) ![2, 0, 0] S1x128x128.size i2, w2⟩
        :: ⟨Rect.unit (s := S8x128x128) ![1, 0, 0] S1x128x128.size i1, w1⟩
        :: ⟨Rect.unit (s := S8x128x128) ![0, 0, 0] S1x128x128.size i0, w0⟩ :: L)
      = r3 .f32 8 128 128 G := by
  have piece (k : ℕ) (inb) (w : FVec Ideal S1x128x128 .f32) (h : w = r3 .f32 1 128 128 fun _ i j => G k i j)
      (x : S1x128x128.Idx) :
      w x = r3 .f32 8 128 128 G ((Rect.unit (s := S8x128x128) ![k, 0, 0] S1x128x128.size inb).emb x) := by
    subst h
    have h0 : (x 0).val = 0 := by have : (x 0).val < 1 := (x 0).isLt; omega
    simp only [r3]
    congr 2
    · show k = k + 1 * (x 0).val
      omega
    · show (x 1).val = 0 + 1 * (x 1).val
      omega
    · show (x 2).val = 0 + 1 * (x 2).val
      omega
  funext y
  refine View.canon_append_of_pieces (r3 .f32 8 128 128 G) L [_, _, _, _, _, _, _, _] ?_ y ?_
  · simp only [List.forall_mem_cons]
    exact ⟨piece 7 _ _ h7, piece 6 _ _ h6, piece 5 _ _ h5, piece 4 _ _ h4, piece 3 _ _ h3, piece 2 _ _ h2, piece 1 _ _ h1,
      piece 0 _ _ h0, fun _ h => absurd h (by simp)⟩
  · exact View.cover_of_tiledL (s := S8x128x128) _ S1x128x128.size (by sl_kernel_rfl) y

end

theorem canon_lanes {L : List (View.Piece (Elt Ideal) S8x128 .f32)} (G : ℕ → ℕ → ℝ) {i0 i1 i2 i3 i4 i5 i6 i7}
    {w0 w1 w2 w3 w4 w5 w6 w7}
    (h0 : w0 = r2 .f32 1 128 fun _ j => G 0 j) (h1 : w1 = r2 .f32 1 128 fun _ j => G 1 j)
    (h2 : w2 = r2 .f32 1 128 fun _ j => G 2 j) (h3 : w3 = r2 .f32 1 128 fun _ j => G 3 j)
    (h4 : w4 = r2 .f32 1 128 fun _ j => G 4 j) (h5 : w5 = r2 .f32 1 128 fun _ j => G 5 j)
    (h6 : w6 = r2 .f32 1 128 fun _ j => G 6 j) (h7 : w7 = r2 .f32 1 128 fun _ j => G 7 j) :
    View.canon ((⟨Rect.unit (s := S8x128) ![7, 0] S1x128.size i7, w7⟩ : View.Piece (Elt Ideal) S8x128 .f32)
        :: ⟨Rect.unit (s := S8x128) ![6, 0] S1x128.size i6, w6⟩
        :: ⟨Rect.unit (s := S8x128) ![5, 0] S1x128.size i5, w5⟩
        :: ⟨Rect.unit (s := S8x128) ![4, 0] S1x128.size i4, w4⟩
        :: ⟨Rect.unit (s := S8x128) ![3, 0] S1x128.size i3, w3⟩
        :: ⟨Rect.unit (s := S8x128) ![2, 0] S1x128.size i2, w2⟩
        :: ⟨Rect.unit (s := S8x128) ![1, 0] S1x128.size i1, w1⟩
        :: ⟨Rect.unit (s := S8x128) ![0, 0] S1x128.size i0, w0⟩ :: L)
      = r2 .f32 8 128 G := by
  have piece (k : ℕ) (inb) (w : FVec Ideal S1x128 .f32) (h : w = r2 .f32 1 128 fun _ j => G k j) (x : S1x128.Idx) :
      w x = r2 .f32 8 128 G ((Rect.unit (s := S8x128) ![k, 0] S1x128.size inb).emb x) := by
    subst h
    have h0 : (x 0).val = 0 := by have : (x 0).val < 1 := (x 0).isLt; omega
    simp only [r2]
    congr 2
    · show k = k + 1 * (x 0).val
      omega
    · show (x 1).val = 0 + 1 * (x 1).val
      omega
  funext y
  refine View.canon_append_of_pieces (r2 .f32 8 128 G) L [_, _, _, _, _, _, _, _] ?_ y ?_
  · simp only [List.forall_mem_cons]
    exact ⟨piece 7 _ _ h7, piece 6 _ _ h6, piece 5 _ _ h5, piece 4 _ _ h4, piece 3 _ _ h3, piece 2 _ _ h2, piece 1 _ _ h1,
      piece 0 _ _ h0, fun _ h => absurd h (by simp)⟩
  · exact View.cover_of_tiledL (s := S8x128) _ S1x128.size (by sl_kernel_rfl) y

/-- Reading a whole block back after stores that fill it. -/
theorem rd_filled (v : View sig .tc .vmem S512x1024 .f32) {L : List (View.Piece (Elt Ideal) S512x1024 .f32)} {f : ℕ → ℕ → ℝ}
    (hL : ∀ p ∈ L, ∀ x : p.1.shape.Idx, p.2 x = r2 .f32 512 1024 f (p.1.emb x))
    (hc : ∀ y, ∃ p ∈ L, y ∈ p.1.set) (inb) :
    v.readCov L (Rect.unit (s := S512x1024) ![0, 0] S512x1024.size inb).toLoadRect = r2 .f32 512 1024 f := by
  rw [View.readCov_eq_canon_ld _ _ _ hc, View.ld_unit_zero zero2]
  exact funext fun y => View.canon_apply_of_pieces _ L hL y (hc y)

end Cert.Mix

end
-- ==== Proof.Mix.Entries.lean ====
/-
  Reading a test of finiteness: an array whose every entry is below infinity in magnitude is the block of real numbers that it
  holds.
-/
module

public import proofs.«01_k».proof.Proof.Mix.Vec
public import Idealize.ShloMosaic.Lib.ReduceAll
public import Idealize.ShloMosaic.Lib.Affine

@[expose] public section

noncomputable section

namespace Cert.Mix

open Idealize.ShloMosaic

/-- An extended real whose magnitude is below infinity is a real number. -/
theorem real_of_below (x : EReal) (h : Ideal.cmp .olt (max x (-x)) (Ideal.ofBits .f32 0x7F800000#32) = 1#1) :
    x = ((x.toReal : ℝ) : EReal) := by
  have top : Ideal.ofBits .f32 0x7F800000#32 = ⊤ := by simp [Ideal.ofBits, Ideal.ieee]
  rw [top] at h
  have lt : max x (-x) < ⊤ := by
    by_contra hn
    simp [Ideal.cmp, hn] at h
  rw [max_lt_iff] at lt
  refine (EReal.coe_toReal lt.1.ne ?_).symm
  rintro rfl
  exact lt.2.ne rfl

/-- The precondition's test of one array. -/
theorem reals_of_test {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (j : (⟨0, ![]⟩ : Shape).Idx)
    (e : Host.reduce IntOp.andi (cmpf .olt (Host.absf x) (broadcastInDim s ![] hb (constant (⟨0, ![]⟩ : Shape) .f32 0x7F800000#32)))
      (constantI (⟨0, ![]⟩ : Shape) 1 1#1) hr hu j = 1#1) (i : s.Idx) : x i = ((x i : EReal).toReal : EReal) :=
  real_of_below _ (Host.reduce_andi_all _ _ _ _ j e i)

section
variable {a b c : ℕ}
def of1 (x : FVec Ideal ⟨1, ![a]⟩ .f32) (i : ℕ) : ℝ := if h : i < a then (x (ix1 ⟨i, h⟩) : EReal).toReal else 0
def of2 (x : FVec Ideal ⟨2, ![a, b]⟩ .f32) (i j : ℕ) : ℝ :=
  if h : i < a ∧ j < b then (x (ix2 ⟨i, h.1⟩ ⟨j, h.2⟩) : EReal).toReal else 0
def of3 (x : FVec Ideal ⟨3, ![a, b, c]⟩ .f32) (i j k : ℕ) : ℝ :=
  if h : i < a ∧ j < b ∧ k < c then (x (ix3 ⟨i, h.1⟩ ⟨j, h.2.1⟩ ⟨k, h.2.2⟩) : EReal).toReal else 0

theorem eq_r1 (x : FVec Ideal ⟨1, ![a]⟩ .f32) (h : ∀ i, x i = ((x i : EReal).toReal : EReal)) : x = r1 .f32 a (of1 x) := by
  funext i
  have hi : (i 0).val < a := (i 0).isLt
  rw [h i]
  show _ = ((of1 x (i 0).val : ℝ) : EReal)
  rw [of1, dif_pos hi]
  exact congrArg (fun k => (((x k : EReal).toReal : ℝ) : EReal)) (eq_ix1 i)
theorem eq_r2 (x : FVec Ideal ⟨2, ![a, b]⟩ .f32) (h : ∀ i, x i = ((x i : EReal).toReal : EReal)) : x = r2 .f32 a b (of2 x) := by
  funext i
  have hi : (i 0).val < a ∧ (i 1).val < b := ⟨(i 0).isLt, (i 1).isLt⟩
  rw [h i]
  show _ = ((of2 x (i 0).val (i 1).val : ℝ) : EReal)
  rw [of2, dif_pos hi]
  exact congrArg (fun k => (((x k : EReal).toReal : ℝ) : EReal)) (eq_ix2 i)
theorem eq_r3 (x : FVec Ideal ⟨3, ![a, b, c]⟩ .f32) (h : ∀ i, x i = ((x i : EReal).toReal : EReal)) :
    x = r3 .f32 a b c (of3 x) := by
  funext i
  have hi : (i 0).val < a ∧ (i 1).val < b ∧ (i 2).val < c := ⟨(i 0).isLt, (i 1).isLt, (i 2).isLt⟩
  rw [h i]
  show _ = ((of3 x (i 0).val (i 1).val (i 2).val : ℝ) : EReal)
  rw [of3, dif_pos hi]
  exact congrArg (fun k => (((x k : EReal).toReal : ℝ) : EReal)) (eq_ix3 i)
end

end Cert.Mix

end
-- ==== Proof.Mix.Finite.lean ====
/-
  The precondition read: every entry of every argument is a real number. `args` are those real numbers, and the arrays are the
  blocks of them.
-/
module

public import proofs.«01_k».proof.Proof.Gen.Pre_finite
public import proofs.«01_k».proof.Proof.Mix.Blocks
public import proofs.«01_k».proof.Proof.Mix.Entries

@[expose] public section

noncomputable section

namespace Cert.Mix

open Idealize.ShloMosaic

open Cert.Pre_finite Cert.Pre_finite.Gen

/-- The real numbers of nine arrays. -/
def args (x0 : FVec Ideal S4096x1024 .f32) (x1 : FVec Ideal S1024x1024 .f32) (x2 x3 : FVec Ideal S4096x1024 .f32)
    (x4 : FVec Ideal S4096x6144 .f32) (x5 x6 : FVec Ideal S1024 .f32) (x7 : FVec Ideal S8x128x128 .f32)
    (x8 : FVec Ideal S8x128 .f32) : Args :=
  ⟨of2 x0, of2 x1, of2 x2, of2 x3, of2 x4, of1 x5, of1 x6, of3 x7, of2 x8⟩

/-- Nine arrays that pass the test are the blocks of their real numbers. -/
theorem args_spec (x0 : FVec Ideal S4096x1024 .f32) (x1 : FVec Ideal S1024x1024 .f32) (x2 x3 : FVec Ideal S4096x1024 .f32)
    (x4 : FVec Ideal S4096x6144 .f32) (x5 x6 : FVec Ideal S1024 .f32) (x7 : FVec Ideal S8x128x128 .f32)
    (x8 : FVec Ideal S8x128 .f32) (j : S_.Idx) (h : fn (F := Ideal) x0 x1 x2 x3 x4 x5 x6 x7 x8 j = 1#1) :
    x0 = r2 .f32 4096 1024 (of2 x0) ∧ x1 = r2 .f32 1024 1024 (of2 x1) ∧ x2 = r2 .f32 4096 1024 (of2 x2)
      ∧ x3 = r2 .f32 4096 1024 (of2 x3) ∧ x4 = r2 .f32 4096 6144 (of2 x4) ∧ x5 = r1 .f32 1024 (of1 x5)
      ∧ x6 = r1 .f32 1024 (of1 x6) ∧ x7 = r3 .f32 8 128 128 (of3 x7) ∧ x8 = r2 .f32 8 128 (of2 x8) := by
  obtain ⟨h, t8⟩ := IntOp.andi_eq_one.1 (show IntOp.andi _ _ = 1#1 from h)
  obtain ⟨h, t7⟩ := IntOp.andi_eq_one.1 (show IntOp.andi _ _ = 1#1 from h)
  obtain ⟨h, t6⟩ := IntOp.andi_eq_one.1 (show IntOp.andi _ _ = 1#1 from h)
  obtain ⟨h, t5⟩ := IntOp.andi_eq_one.1 (show IntOp.andi _ _ = 1#1 from h)
  obtain ⟨h, t4⟩ := IntOp.andi_eq_one.1 (show IntOp.andi _ _ = 1#1 from h)
  obtain ⟨h, t3⟩ := IntOp.andi_eq_one.1 (show IntOp.andi _ _ = 1#1 from h)
  obtain ⟨h, t2⟩ := IntOp.andi_eq_one.1 (show IntOp.andi _ _ = 1#1 from h)
  obtain ⟨h, t1⟩ := IntOp.andi_eq_one.1 (show IntOp.andi _ _ = 1#1 from h)
  obtain ⟨_, t0⟩ := IntOp.andi_eq_one.1 (show IntOp.andi _ _ = 1#1 from h)
  exact ⟨eq_r2 _ (reals_of_test _ _ _ _ j t0), eq_r2 _ (reals_of_test _ _ _ _ j t1), eq_r2 _ (reals_of_test _ _ _ _ j t2),
    eq_r2 _ (reals_of_test _ _ _ _ j t3), eq_r2 _ (reals_of_test _ _ _ _ j t4), eq_r1 _ (reals_of_test _ _ _ _ j t5),
    eq_r1 _ (reals_of_test _ _ _ _ j t6), eq_r3 _ (reals_of_test _ _ _ _ j t7), eq_r2 _ (reals_of_test _ _ _ _ j t8)⟩

end Cert.Mix

end
-- ==== Proof.Mix.Parts.lean ====
/-
  What every grid point of the mixer's backward kernel shares: its input blocks as real blocks, the payloads with their
  operands given by equations, the accumulators that start from zero, and the six column strips of `dz`.
-/
module

public import proofs.«01_k».proof.Proof.Mix.Blocks

@[expose] public section

set_option maxRecDepth 16384

noncomputable section

namespace Cert.Mix

open Idealize.ShloMosaic Cert.KernelIdeal Cert.KernelIdeal.Gen

/-! ### The input blocks -/

section
variable (A : Args)

abbrev in0 : FVec Ideal S512x1024 .f32 := r2 .f32 512 1024 A.X
abbrev in1 : FVec Ideal S1024x1024 .bf16 := r2 .bf16 1024 1024 A.W
abbrev in2 : FVec Ideal S512x1024 .f32 := r2 .f32 512 1024 A.H0
abbrev in3 : FVec Ideal S512x1024 .f32 := r2 .f32 512 1024 A.H1
abbrev in4 : FVec Ideal S512x1024 .bf16 := r2 .bf16 512 1024 A.Z
abbrev in5 : FVec Ideal S512x1024 .bf16 := r2 .bf16 512 1024 fun r j => A.Z r (1024 + j)
abbrev in6 : FVec Ideal S512x1024 .bf16 := r2 .bf16 512 1024 fun r j => A.Z r (3072 + j)
abbrev in7 : FVec Ideal S512x1024 .bf16 := r2 .bf16 512 1024 fun r j => A.Z r (4096 + j)
abbrev in8 : FVec Ideal S512x1024 .bf16 := r2 .bf16 512 1024 fun r j => A.Z r (5120 + j)
abbrev in9 : FVec Ideal S1x1024 .f32 := r2 .f32 1 1024 fun _ j => A.lg j
abbrev in10 : FVec Ideal S1x1024 .f32 := r2 .f32 1 1024 fun _ j => A.lb j
abbrev in11 : FVec Ideal S8x128x128 .bf16 := r3 .bf16 8 128 128 A.ws
abbrev in12 : FVec Ideal S8x128x128 .bf16 := r3 .bf16 8 128 128 fun g p q => A.ws g q p
abbrev in13 : FVec Ideal S8x128x128 .f32 := r3 .f32 8 128 128 fun g p _ => A.bs g p

end

/-! ### Payloads with operands given by equations -/

section
variable {A : Args} {V V' V'' : FVec Ideal S512x1024 .f32} {s : FVec Ideal S512 .f32} {R R' : FVec Ideal S1x1024 .f32}
  {c1 : FVec Ideal S512x1 .f32}

theorem xc_of (h : V = r2 .f32 512 1024 (gv A)) (hs : s = r1 .f32 512 (gvs A)) :
    k0_pay36 V s = r2 .f32 512 1024 (xc A) := by subst h hs; exact pay36 A

theorem rstd_of (h : V = r2 .f32 512 1024 (gv A)) (hs : s = r1 .f32 512 (gvs A)) :
    k0_pay37 V s = r2 .f32 512 1 fun r _ => rstd A r := by subst h hs; exact pay37 A

theorem xh_of (h : V = r2 .f32 512 1024 (gv A)) (hs : s = r1 .f32 512 (gvs A)) :
    k0_pay38 V s = r2 .f32 512 1024 (xh A) := by subst h hs; exact pay38 A

theorem vb_of (h : V = r2 .f32 512 1024 (gv A)) (hs : s = r1 .f32 512 (gvs A))
    (hR : R = r2 .f32 1 1024 fun _ j => A.lg j) (hR' : R' = r2 .f32 1 1024 fun _ j => A.lb j) :
    k0_pay39 V s R R' = r2 .bf16 512 1024 (vb A) := by subst h hs hR hR'; exact pay39 A

theorem dz4_of (h : V = r2 .f32 512 1024 (dm A)) (h' : V' = r2 .f32 512 1024 (sa A)) (h'' : V'' = r2 .f32 512 1024 (ya A)) :
    k0_pay376 V V' V'' = r2 .bf16 512 1024 (dz4 A) := by subst h h' h''; exact pay376 A

theorem lg_sums_of (h : V = r2 .f32 512 1024 (xh A)) (h' : V' = r2 .f32 512 1024 (dv A)) :
    k0_pay377 V V' = r2 .f32 1 1024 fun _ j => ∑ r : Fin 512, dv A r j * xh A r j := by subst h h'; exact pay377 A

theorem lb_sums_of (h : V = r2 .f32 512 1024 (dv A)) :
    k0_pay386 V = r2 .f32 1 1024 fun _ j => ∑ r : Fin 512, dv A r j := by subst h; exact pay386 A

theorem centred_of (h : V = r2 .f32 512 1024 (xh A)) (h' : V' = r2 .f32 512 1024 (dv A))
    (hR : R = r2 .f32 1 1024 fun _ j => A.lg j) : k0_pay396 V V' R
      = r2 .f32 512 1024 fun r j => dxh A r j - mean (dxh A r) - xh A r j * mean fun k => dxh A r k * xh A r k := by
  subst h h' hR; exact pay396 A

theorem dgv_of (hc : c1 = r2 .f32 512 1 fun r _ => rstd A r) (h : V
      = r2 .f32 512 1024 fun r j => dxh A r j - mean (dxh A r) - xh A r j * mean fun k => dxh A r k * xh A r k) :
    k0_pay397 c1 V = r2 .f32 512 1024 (dgv A) := by subst hc h; exact pay397 A

end

/-! ### Accumulators started from zero -/

section
variable {L : List (View.Piece (Elt Ideal) S8x128x128 .f32)} {L' : List (View.Piece (Elt Ideal) S8x128 .f32)}

theorem zero3 : (![0, 0, 0] : Fin 3 → ℕ) = fun _ => 0 := by
  funext a; fin_cases a <;> rfl

theorem zeros3 : k0_pay10 (F := Ideal) = r3 .f32 8 128 128 fun _ _ _ => 0 :=
  funext fun _ => (Ideal.ofBits_zero_f32).trans EReal.coe_zero.symm

theorem zeros3' : k0_pay11 (F := Ideal) = r2 .f32 8 128 fun _ _ => 0 :=
  funext fun _ => (Ideal.ofBits_zero_f32).trans EReal.coe_zero.symm

/-- Reading one head of a block filled whole. -/
theorem filled_head (v : View sig .tc .vmem S8x128x128 .f32) (g : ℕ) {f : ℕ → ℕ → ℕ → ℝ} {w : FVec Ideal S8x128x128 .f32}
    (hw : w = r3 .f32 8 128 128 f) (inb inb') :
    v.readCov ((⟨Rect.unit (s := S8x128x128) ![0, 0, 0] S8x128x128.size inb, w⟩ : View.Piece (Elt Ideal) S8x128x128 .f32) :: L)
        (Rect.unit (s := S8x128x128) ![g, 0, 0] S1x128x128.size inb').toLoadRect = r3 .f32 1 128 128 fun _ i j => f g i j := by
  rw [View.readCov_eq_canon', View.canon_cons_unit_zero zero3, hw]
  refine (ld_r3 g 0 0 f inb').trans ?_
  funext x
  have h0 : (x 0).val = 0 := by have : (x 0).val < 1 := (x 0).isLt; omega
  simp only [r3, h0, Nat.add_zero, Nat.zero_add]

theorem filled_lane (v : View sig .tc .vmem S8x128 .f32) (g : ℕ) {f : ℕ → ℕ → ℝ} {w : FVec Ideal S8x128 .f32}
    (hw : w = r2 .f32 8 128 f) (inb inb') :
    v.readCov ((⟨Rect.unit (s := S8x128) ![0, 0] S8x128.size inb, w⟩ : View.Piece (Elt Ideal) S8x128 .f32) :: L')
        (Rect.unit (s := S8x128) ![g, 0] S1x128.size inb').toLoadRect = r2 .f32 1 128 fun _ j => f g j := by
  rw [View.readCov_eq_canon', View.canon_cons_unit_zero zero2, hw]
  refine (ld_r2 f g 0 inb').trans ?_
  funext x
  have h0 : (x 0).val = 0 := by have : (x 0).val < 1 := (x 0).isLt; omega
  simp only [r2, h0, Nat.add_zero, Nat.zero_add]

theorem past_head (v : View sig .tc .vmem S8x128x128 .f32) {g : ℕ} (k : ℕ) {inb inb' w} (hk : k ≠ g) {Y}
    (h : v.readCov L (Rect.unit (s := S8x128x128) ![g, 0, 0] S1x128x128.size inb').toLoadRect = Y) :
    v.readCov ((⟨Rect.unit (s := S8x128x128) ![k, 0, 0] S1x128x128.size inb, w⟩ : View.Piece (Elt Ideal) S8x128x128 .f32) :: L)
        (Rect.unit (s := S8x128x128) ![g, 0, 0] S1x128x128.size inb').toLoadRect = Y :=
  (skip_head v k inb inb' w hk).trans h

theorem past_lane (v : View sig .tc .vmem S8x128 .f32) {g : ℕ} (k : ℕ) {inb inb' w} (hk : k ≠ g) {Y}
    (h : v.readCov L' (Rect.unit (s := S8x128) ![g, 0] S1x128.size inb').toLoadRect = Y) :
    v.readCov ((⟨Rect.unit (s := S8x128) ![k, 0] S1x128.size inb, w⟩ : View.Piece (Elt Ideal) S8x128 .f32) :: L')
        (Rect.unit (s := S8x128) ![g, 0] S1x128.size inb').toLoadRect = Y := by
  rw [← h, View.readCov_eq_canon', View.readCov_eq_canon']
  funext x
  refine View.canon_cons_of_not_mem _ _ (Rect.not_mem_set_of_axis _ _ 0 k 1 rfl rfl rfl ?_)
  have h0 : (x 0).val = 0 := by have : (x 0).val < 1 := (x 0).isLt; omega
  have e : ((Rect.unit (s := S8x128) ![g, 0] S1x128.size inb').emb x 0).val = g := by
    show g + 1 * (x 0).val = g
    omega
  show _ < k ∨ k + 1 ≤ _
  change ((Rect.unit (s := S8x128) ![g, 0] S1x128.size inb').emb x 0).val < k
    ∨ k + 1 ≤ ((Rect.unit (s := S8x128) ![g, 0] S1x128.size inb').emb x 0).val
  rw [e]; omega

theorem at_head (v : View sig .tc .vmem S8x128x128 .f32) {g : ℕ} {inb inb'} {w Y : FVec Ideal S1x128x128 .f32} (h : w = Y) :
    v.readCov ((⟨Rect.unit (s := S8x128x128) ![g, 0, 0] S1x128x128.size inb, w⟩ : View.Piece (Elt Ideal) S8x128x128 .f32) :: L)
        (Rect.unit (s := S8x128x128) ![g, 0, 0] S1x128x128.size inb').toLoadRect = Y :=
  (View.readCov_cons_toLoadRect _ _ _ _).trans h

end

/-! ### The column strips of `dz` -/

section
variable {A : Args} {w : FVec Ideal S512x1024 .bf16}

theorem strip_of {f : ℕ → ℕ → ℝ} (p : ℕ) (h : ∀ r j, j < 1024 → dz A r (p + j) = f r j) (hw : w = r2 .bf16 512 1024 f) :
    w = r2 .bf16 512 1024 fun i j => dz A (0 + i) (p + j) :=
  hw.trans (r2_ext fun i j _ hj => by rw [Nat.zero_add, h i j hj])

theorem dz_at0 (r j : ℕ) (h : j < 1024) : dz A r (0 + j) = dz0 A r j := by
  rw [Nat.zero_add]
  simp only [dz, if_pos h]

theorem dz_at1 (r j : ℕ) (h : j < 1024) : dz A r (1024 + j) = dz1 A r j := by
  simp only [dz, if_neg (show ¬ 1024 + j < 1024 by omega), if_pos (show 1024 + j < 2048 by omega), Nat.add_sub_cancel_left]

theorem dz_at2 (r j : ℕ) (h : j < 1024) : dz A r (2048 + j) = (fun _ _ => 0) r j := by
  simp only [dz, if_neg (show ¬ 2048 + j < 1024 by omega), if_neg (show ¬ 2048 + j < 2048 by omega),
    if_pos (show 2048 + j < 3072 by omega)]

theorem dz_at3 (r j : ℕ) (h : j < 1024) : dz A r (3072 + j) = dz3 A r j := by
  simp only [dz, if_neg (show ¬ 3072 + j < 1024 by omega), if_neg (show ¬ 3072 + j < 2048 by omega),
    if_neg (show ¬ 3072 + j < 3072 by omega), if_pos (show 3072 + j < 4096 by omega), Nat.add_sub_cancel_left]

theorem dz_at4 (r j : ℕ) (h : j < 1024) : dz A r (4096 + j) = dz4 A r j := by
  simp only [dz, if_neg (show ¬ 4096 + j < 1024 by omega), if_neg (show ¬ 4096 + j < 2048 by omega),
    if_neg (show ¬ 4096 + j < 3072 by omega), if_neg (show ¬ 4096 + j < 4096 by omega),
    if_pos (show 4096 + j < 5120 by omega), Nat.add_sub_cancel_left]

theorem dz_at5 (r j : ℕ) (h : j < 1024) : dz A r (5120 + j) = dz5 A r j := by
  simp only [dz, if_neg (show ¬ 5120 + j < 1024 by omega), if_neg (show ¬ 5120 + j < 2048 by omega),
    if_neg (show ¬ 5120 + j < 3072 by omega), if_neg (show ¬ 5120 + j < 4096 by omega),
    if_neg (show ¬ 5120 + j < 5120 by omega), Nat.add_sub_cancel_left]

end

/-! ### What one grid point adds to the accumulators -/

/-- `t` and the four chunks' terms, added in the kernel's order. -/
def acc4 (f : ℕ → ℕ → ℕ → ℝ) (t : ℕ → ℕ → ℝ) (i j : ℕ) : ℝ := t i j + f 0 i j + f 1 i j + f 2 i j + f 3 i j

def wsTerm (A : Args) (g n p q : ℕ) : ℝ :=
  ∑ c : Fin 128, dmx A (128 * n + p) (128 * g + c) * vb A (128 * n + q) (128 * g + c)

def bsTerm (A : Args) (g n p c : ℕ) : ℝ := dmx A (128 * n + p) (128 * g + c)

end Cert.Mix

end
-- ==== Proof.Mix.Inputs.lean ====
/-
  What the mixer's backward kernel reads once every argument is an array of reals: the arrays prepared before the launch, and
  at each grid point the blocks of them (a block of rows is the arguments seen from its first row on).
-/
module

public import proofs.«01_k».proof.Proof.Mix.Parts
public import proofs.«01_k».proof.Proof.Gen.KernelIdeal.Frame
public import Idealize.ShloMosaic.Lib.StableHlo.Run
public import Idealize.ShloMosaic.Lib.Claim

@[expose] public section

set_option maxRecDepth 16384

noncomputable section

namespace Cert.Mix

open Idealize.ShloMosaic Idealize.ShloMosaic.TcCoe Cert.KernelIdeal Cert.KernelIdeal.Gen

variable (m : (ℓ : Loc nD τ sig) → Buf (Elt Ideal) ℓ) (c : Dev nD) (A : Args)

/-- The launch memory holds the real arguments `A`. -/
structure Holds : Prop where
  x : m ((c : Thread nD τ).loc main_arg0) = r2 .f32 4096 1024 A.X
  w : m ((c : Thread nD τ).loc main_arg1) = r2 .f32 1024 1024 A.W
  h0 : m ((c : Thread nD τ).loc main_arg2) = r2 .f32 4096 1024 A.H0
  h1 : m ((c : Thread nD τ).loc main_arg3) = r2 .f32 4096 1024 A.H1
  z : m ((c : Thread nD τ).loc main_arg4) = r2 .f32 4096 6144 A.Z
  lg : m ((c : Thread nD τ).loc main_arg5) = r1 .f32 1024 A.lg
  lb : m ((c : Thread nD τ).loc main_arg6) = r1 .f32 1024 A.lb
  ws : m ((c : Thread nD τ).loc main_arg7) = r3 .f32 8 128 128 A.ws
  bs : m ((c : Thread nD τ).loc main_arg8) = r2 .f32 8 128 A.bs

variable {m c A} (h : Holds m c A)
include h

/-! ### The arrays prepared on the host -/

theorem host_v0 : V m c main_v0 = r3 .bf16 8 128 128 A.ws := by
  have e : V m c main_v0 = (truncf .bf16 (m ((c : Thread nD τ).loc main_arg7)) bitsLt_bf16_f32 : FVec Ideal S8x128x128 .bf16) := by
    unfold_abbrev_sides
    after_results
  rw [e, h.ws]; rfl

theorem host_v2 : V m c main_v2 = r3 .bf16 8 128 128 fun g p q => A.ws g q p := by
  have e : V m c main_v2 = (truncf .bf16 (transpose S8x128x128 [0, 2, 1] (m ((c : Thread nD τ).loc main_arg7))
      transposes_S8x128x128_S8x128x128_0_2_1) bitsLt_bf16_f32 : FVec Ideal S8x128x128 .bf16) := by
    unfold_abbrev_sides
    after_results
  rw [e, h.ws]; rfl

theorem host_v4 : V m c main_v4 = r3 .f32 8 128 128 fun g p _ => A.bs g p := by
  have e : V m c main_v4 = broadcastInDim S8x128x128 ![0, 1, 2] bcast_S8x128x1_S8x128x128_0_1_2
      (broadcastInDim S8x128x1 ![0, 1] bcast_S8x128_S8x128x1_0_1 (m ((c : Thread nD τ).loc main_arg8))) := by
    unfold_abbrev_sides
    after_results
  rw [e, h.bs]
  funext i
  simp only [broadcastInDim_apply]
  rfl

theorem host_v5 : V m c main_v5 = r2 .bf16 1024 1024 A.W := by
  have e : V m c main_v5 = (truncf .bf16 (m ((c : Thread nD τ).loc main_arg1)) bitsLt_bf16_f32 : FVec Ideal S1024x1024 .bf16) := by
    unfold_abbrev_sides
    after_results
  rw [e, h.w]; rfl

theorem host_v6 : V m c main_v6 = r2 .bf16 4096 6144 A.Z := by
  have e : V m c main_v6 = (truncf .bf16 (m ((c : Thread nD τ).loc main_arg4)) bitsLt_bf16_f32 : FVec Ideal S4096x6144 .bf16) := by
    unfold_abbrev_sides
    after_results
  rw [e, h.z]; rfl

theorem host_v7 : V m c main_v7 = r2 .f32 1 1024 fun _ j => A.lg j := by
  have e : V m c main_v7 = broadcastInDim S1x1024 ![1] bcast_S1024_S1x1024_1 (m ((c : Thread nD τ).loc main_arg5)) := by
    unfold_abbrev_sides
    after_results
  rw [e, h.lg]
  funext i
  simp only [broadcastInDim_apply]
  rfl

theorem host_v8 : V m c main_v8 = r2 .f32 1 1024 fun _ j => A.lb j := by
  have e : V m c main_v8 = broadcastInDim S1x1024 ![1] bcast_S1024_S1x1024_1 (m ((c : Thread nD τ).loc main_arg6)) := by
    unfold_abbrev_sides
    after_results
  rw [e, h.lb]
  funext i
  simp only [broadcastInDim_apply]
  rfl

/-! ### The blocks -/

variable (t : Fin cfg0.N)

omit h in
theorem at0 : win0_0.index t = ![t.val, 0] := (by decide +kernel : ∀ t : Fin grid0.N, win0_0.index t = ![t.val, 0]) t

theorem blk0 : iblk m c 0 t = in0 (A.shift (128 * (4 * t.val))) := by
  funext j
  have e : iblk m c 0 t j = V m c main_arg0 (((cfg0.win 0).blk t).view.emb j) := rfl
  have b0 : (((cfg0.win 0).blk t).view.emb j 0).val = win0_0.index t (0 : Fin 2) * 512 + 1 * (j 0).val := rfl
  have b1 : (((cfg0.win 0).blk t).view.emb j 1).val = win0_0.index t (1 : Fin 2) * 1024 + 1 * (j 1).val := rfl
  rw [at0] at b0 b1
  have c0 : (((cfg0.win 0).blk t).view.emb j 0).val = 128 * (4 * t.val) + (j 0).val :=
    b0.trans (by show t.val * 512 + 1 * _ = _; omega)
  have c1 : (((cfg0.win 0).blk t).view.emb j 1).val = (j 1).val := b1.trans (by show 0 * 1024 + 1 * _ = _; omega)
  rw [e, V_main_arg0, h.x]
  simp only [r2, c0, c1]
  rfl

omit h in
theorem at1 : win0_1.index t = ![0, 0] := (by decide +kernel : ∀ t : Fin grid0.N, win0_1.index t = ![0, 0]) t

theorem blk1 : iblk m c 1 t = in1 (A.shift (128 * (4 * t.val))) := by
  funext j
  have e : iblk m c 1 t j = V m c main_v5 (((cfg0.win 1).blk t).view.emb j) := rfl
  have b0 : (((cfg0.win 1).blk t).view.emb j 0).val = win0_1.index t (0 : Fin 2) * 1024 + 1 * (j 0).val := rfl
  have b1 : (((cfg0.win 1).blk t).view.emb j 1).val = win0_1.index t (1 : Fin 2) * 1024 + 1 * (j 1).val := rfl
  rw [at1] at b0 b1
  have c0 : (((cfg0.win 1).blk t).view.emb j 0).val = (j 0).val := b0.trans (by show 0 * 1024 + 1 * _ = _; omega)
  have c1 : (((cfg0.win 1).blk t).view.emb j 1).val = (j 1).val := b1.trans (by show 0 * 1024 + 1 * _ = _; omega)
  rw [e, host_v5 h]
  simp only [r2, c0, c1]
  rfl

omit h in
theorem at2 : win0_2.index t = ![t.val, 0] := (by decide +kernel : ∀ t : Fin grid0.N, win0_2.index t = ![t.val, 0]) t

theorem blk2 : iblk m c 2 t = in2 (A.shift (128 * (4 * t.val))) := by
  funext j
  have e : iblk m c 2 t j = V m c main_arg2 (((cfg0.win 2).blk t).view.emb j) := rfl
  have b0 : (((cfg0.win 2).blk t).view.emb j 0).val = win0_2.index t (0 : Fin 2) * 512 + 1 * (j 0).val := rfl
  have b1 : (((cfg0.win 2).blk t).view.emb j 1).val = win0_2.index t (1 : Fin 2) * 1024 + 1 * (j 1).val := rfl
  rw [at2] at b0 b1
  have c0 : (((cfg0.win 2).blk t).view.emb j 0).val = 128 * (4 * t.val) + (j 0).val :=
    b0.trans (by show t.val * 512 + 1 * _ = _; omega)
  have c1 : (((cfg0.win 2).blk t).view.emb j 1).val = (j 1).val := b1.trans (by show 0 * 1024 + 1 * _ = _; omega)
  rw [e, V_main_arg2, h.h0]
  simp only [r2, c0, c1]
  rfl

omit h in
theorem at3 : win0_3.index t = ![t.val, 0] := (by decide +kernel : ∀ t : Fin grid0.N, win0_3.index t = ![t.val, 0]) t

theorem blk3 : iblk m c 3 t = in3 (A.shift (128 * (4 * t.val))) := by
  funext j
  have e : iblk m c 3 t j = V m c main_arg3 (((cfg0.win 3).blk t).view.emb j) := rfl
  have b0 : (((cfg0.win 3).blk t).view.emb j 0).val = win0_3.index t (0 : Fin 2) * 512 + 1 * (j 0).val := rfl
  have b1 : (((cfg0.win 3).blk t).view.emb j 1).val = win0_3.index t (1 : Fin 2) * 1024 + 1 * (j 1).val := rfl
  rw [at3] at b0 b1
  have c0 : (((cfg0.win 3).blk t).view.emb j 0).val = 128 * (4 * t.val) + (j 0).val :=
    b0.trans (by show t.val * 512 + 1 * _ = _; omega)
  have c1 : (((cfg0.win 3).blk t).view.emb j 1).val = (j 1).val := b1.trans (by show 0 * 1024 + 1 * _ = _; omega)
  rw [e, V_main_arg3, h.h1]
  simp only [r2, c0, c1]
  rfl

omit h in
theorem at4 : win0_4.index t = ![t.val, 0] := (by decide +kernel : ∀ t : Fin grid0.N, win0_4.index t = ![t.val, 0]) t

theorem blk4 : iblk m c 4 t = in4 (A.shift (128 * (4 * t.val))) := by
  funext j
  have e : iblk m c 4 t j = V m c main_v6 (((cfg0.win 4).blk t).view.emb j) := rfl
  have b0 : (((cfg0.win 4).blk t).view.emb j 0).val = win0_4.index t (0 : Fin 2) * 512 + 1 * (j 0).val := rfl
  have b1 : (((cfg0.win 4).blk t).view.emb j 1).val = win0_4.index t (1 : Fin 2) * 1024 + 1 * (j 1).val := rfl
  rw [at4] at b0 b1
  have c0 : (((cfg0.win 4).blk t).view.emb j 0).val = 128 * (4 * t.val) + (j 0).val :=
    b0.trans (by show t.val * 512 + 1 * _ = _; omega)
  have c1 : (((cfg0.win 4).blk t).view.emb j 1).val = (j 1).val := b1.trans (by show 0 * 1024 + 1 * _ = _; omega)
  rw [e, host_v6 h]
  simp only [r2, c0, c1]
  rfl

omit h in
theorem at5 : win0_5.index t = ![t.val, 1] := (by decide +kernel : ∀ t : Fin grid0.N, win0_5.index t = ![t.val, 1]) t

theorem blk5 : iblk m c 5 t = in5 (A.shift (128 * (4 * t.val))) := by
  funext j
  have e : iblk m c 5 t j = V m c main_v6 (((cfg0.win 5).blk t).view.emb j) := rfl
  have b0 : (((cfg0.win 5).blk t).view.emb j 0).val = win0_5.index t (0 : Fin 2) * 512 + 1 * (j 0).val := rfl
  have b1 : (((cfg0.win 5).blk t).view.emb j 1).val = win0_5.index t (1 : Fin 2) * 1024 + 1 * (j 1).val := rfl
  rw [at5] at b0 b1
  have c0 : (((cfg0.win 5).blk t).view.emb j 0).val = 128 * (4 * t.val) + (j 0).val :=
    b0.trans (by show t.val * 512 + 1 * _ = _; omega)
  have c1 : (((cfg0.win 5).blk t).view.emb j 1).val = 1024 + (j 1).val := b1.trans (by show 1 * 1024 + 1 * _ = _; omega)
  rw [e, host_v6 h]
  simp only [r2, c0, c1]
  rfl

omit h in
theorem at6 : win0_6.index t = ![t.val, 3] := (by decide +kernel : ∀ t : Fin grid0.N, win0_6.index t = ![t.val, 3]) t

theorem blk6 : iblk m c 6 t = in6 (A.shift (128 * (4 * t.val))) := by
  funext j
  have e : iblk m c 6 t j = V m c main_v6 (((cfg0.win 6).blk t).view.emb j) := rfl
  have b0 : (((cfg0.win 6).blk t).view.emb j 0).val = win0_6.index t (0 : Fin 2) * 512 + 1 * (j 0).val := rfl
  have b1 : (((cfg0.win 6).blk t).view.emb j 1).val = win0_6.index t (1 : Fin 2) * 1024 + 1 * (j 1).val := rfl
  rw [at6] at b0 b1
  have c0 : (((cfg0.win 6).blk t).view.emb j 0).val = 128 * (4 * t.val) + (j 0).val :=
    b0.trans (by show t.val * 512 + 1 * _ = _; omega)
  have c1 : (((cfg0.win 6).blk t).view.emb j 1).val = 3072 + (j 1).val := b1.trans (by show 3 * 1024 + 1 * _ = _; omega)
  rw [e, host_v6 h]
  simp only [r2, c0, c1]
  rfl

omit h in
theorem at7 : win0_7.index t = ![t.val, 4] := (by decide +kernel : ∀ t : Fin grid0.N, win0_7.index t = ![t.val, 4]) t

theorem blk7 : iblk m c 7 t = in7 (A.shift (128 * (4 * t.val))) := by
  funext j
  have e : iblk m c 7 t j = V m c main_v6 (((cfg0.win 7).blk t).view.emb j) := rfl
  have b0 : (((cfg0.win 7).blk t).view.emb j 0).val = win0_7.index t (0 : Fin 2) * 512 + 1 * (j 0).val := rfl
  have b1 : (((cfg0.win 7).blk t).view.emb j 1).val = win0_7.index t (1 : Fin 2) * 1024 + 1 * (j 1).val := rfl
  rw [at7] at b0 b1
  have c0 : (((cfg0.win 7).blk t).view.emb j 0).val = 128 * (4 * t.val) + (j 0).val :=
    b0.trans (by show t.val * 512 + 1 * _ = _; omega)
  have c1 : (((cfg0.win 7).blk t).view.emb j 1).val = 4096 + (j 1).val := b1.trans (by show 4 * 1024 + 1 * _ = _; omega)
  rw [e, host_v6 h]
  simp only [r2, c0, c1]
  rfl

omit h in
theorem at8 : win0_8.index t = ![t.val, 5] := (by decide +kernel : ∀ t : Fin grid0.N, win0_8.index t = ![t.val, 5]) t

theorem blk8 : iblk m c 8 t = in8 (A.shift (128 * (4 * t.val))) := by
  funext j
  have e : iblk m c 8 t j = V m c main_v6 (((cfg0.win 8).blk t).view.emb j) := rfl
  have b0 : (((cfg0.win 8).blk t).view.emb j 0).val = win0_8.index t (0 : Fin 2) * 512 + 1 * (j 0).val := rfl
  have b1 : (((cfg0.win 8).blk t).view.emb j 1).val = win0_8.index t (1 : Fin 2) * 1024 + 1 * (j 1).val := rfl
  rw [at8] at b0 b1
  have c0 : (((cfg0.win 8).blk t).view.emb j 0).val = 128 * (4 * t.val) + (j 0).val :=
    b0.trans (by show t.val * 512 + 1 * _ = _; omega)
  have c1 : (((cfg0.win 8).blk t).view.emb j 1).val = 5120 + (j 1).val := b1.trans (by show 5 * 1024 + 1 * _ = _; omega)
  rw [e, host_v6 h]
  simp only [r2, c0, c1]
  rfl

omit h in
theorem at9 : win0_9.index t = ![0, 0] := (by decide +kernel : ∀ t : Fin grid0.N, win0_9.index t = ![0, 0]) t

theorem blk9 : iblk m c 9 t = in9 (A.shift (128 * (4 * t.val))) := by
  funext j
  have e : iblk m c 9 t j = V m c main_v7 (((cfg0.win 9).blk t).view.emb j) := rfl
  have b0 : (((cfg0.win 9).blk t).view.emb j 0).val = win0_9.index t (0 : Fin 2) * 1 + 1 * (j 0).val := rfl
  have b1 : (((cfg0.win 9).blk t).view.emb j 1).val = win0_9.index t (1 : Fin 2) * 1024 + 1 * (j 1).val := rfl
  rw [at9] at b0 b1
  have c0 : (((cfg0.win 9).blk t).view.emb j 0).val = (j 0).val := b0.trans (by show 0 * 1 + 1 * _ = _; omega)
  have c1 : (((cfg0.win 9).blk t).view.emb j 1).val = (j 1).val := b1.trans (by show 0 * 1024 + 1 * _ = _; omega)
  rw [e, host_v7 h]
  simp only [r2, c0, c1]
  rfl

omit h in
theorem at10 : win0_10.index t = ![0, 0] := (by decide +kernel : ∀ t : Fin grid0.N, win0_10.index t = ![0, 0]) t

theorem blk10 : iblk m c 10 t = in10 (A.shift (128 * (4 * t.val))) := by
  funext j
  have e : iblk m c 10 t j = V m c main_v8 (((cfg0.win 10).blk t).view.emb j) := rfl
  have b0 : (((cfg0.win 10).blk t).view.emb j 0).val = win0_10.index t (0 : Fin 2) * 1 + 1 * (j 0).val := rfl
  have b1 : (((cfg0.win 10).blk t).view.emb j 1).val = win0_10.index t (1 : Fin 2) * 1024 + 1 * (j 1).val := rfl
  rw [at10] at b0 b1
  have c0 : (((cfg0.win 10).blk t).view.emb j 0).val = (j 0).val := b0.trans (by show 0 * 1 + 1 * _ = _; omega)
  have c1 : (((cfg0.win 10).blk t).view.emb j 1).val = (j 1).val := b1.trans (by show 0 * 1024 + 1 * _ = _; omega)
  rw [e, host_v8 h]
  simp only [r2, c0, c1]
  rfl

omit h in
theorem at11 : win0_11.index t = ![0, 0, 0] := (by decide +kernel : ∀ t : Fin grid0.N, win0_11.index t = ![0, 0, 0]) t

theorem blk11 : iblk m c 11 t = in11 (A.shift (128 * (4 * t.val))) := by
  funext j
  have e : iblk m c 11 t j = V m c main_v0 (((cfg0.win 11).blk t).view.emb j) := rfl
  have b0 : (((cfg0.win 11).blk t).view.emb j 0).val = win0_11.index t (0 : Fin 3) * 8 + 1 * (j 0).val := rfl
  have b1 : (((cfg0.win 11).blk t).view.emb j 1).val = win0_11.index t (1 : Fin 3) * 128 + 1 * (j 1).val := rfl
  have b2 : (((cfg0.win 11).blk t).view.emb j 2).val = win0_11.index t (2 : Fin 3) * 128 + 1 * (j 2).val := rfl
  rw [at11] at b0 b1 b2
  have c0 : (((cfg0.win 11).blk t).view.emb j 0).val = (j 0).val := b0.trans (by show 0 * 8 + 1 * _ = _; omega)
  have c1 : (((cfg0.win 11).blk t).view.emb j 1).val = (j 1).val := b1.trans (by show 0 * 128 + 1 * _ = _; omega)
  have c2 : (((cfg0.win 11).blk t).view.emb j 2).val = (j 2).val := b2.trans (by show 0 * 128 + 1 * _ = _; omega)
  rw [e, host_v0 h]
  simp only [r3, c0, c1, c2]
  rfl

omit h in
theorem at12 : win0_12.index t = ![0, 0, 0] := (by decide +kernel : ∀ t : Fin grid0.N, win0_12.index t = ![0, 0, 0]) t

theorem blk12 : iblk m c 12 t = in12 (A.shift (128 * (4 * t.val))) := by
  funext j
  have e : iblk m c 12 t j = V m c main_v2 (((cfg0.win 12).blk t).view.emb j) := rfl
  have b0 : (((cfg0.win 12).blk t).view.emb j 0).val = win0_12.index t (0 : Fin 3) * 8 + 1 * (j 0).val := rfl
  have b1 : (((cfg0.win 12).blk t).view.emb j 1).val = win0_12.index t (1 : Fin 3) * 128 + 1 * (j 1).val := rfl
  have b2 : (((cfg0.win 12).blk t).view.emb j 2).val = win0_12.index t (2 : Fin 3) * 128 + 1 * (j 2).val := rfl
  rw [at12] at b0 b1 b2
  have c0 : (((cfg0.win 12).blk t).view.emb j 0).val = (j 0).val := b0.trans (by show 0 * 8 + 1 * _ = _; omega)
  have c1 : (((cfg0.win 12).blk t).view.emb j 1).val = (j 1).val := b1.trans (by show 0 * 128 + 1 * _ = _; omega)
  have c2 : (((cfg0.win 12).blk t).view.emb j 2).val = (j 2).val := b2.trans (by show 0 * 128 + 1 * _ = _; omega)
  rw [e, host_v2 h]
  simp only [r3, c0, c1, c2]
  rfl

omit h in
theorem at13 : win0_13.index t = ![0, 0, 0] := (by decide +kernel : ∀ t : Fin grid0.N, win0_13.index t = ![0, 0, 0]) t

theorem blk13 : iblk m c 13 t = in13 (A.shift (128 * (4 * t.val))) := by
  funext j
  have e : iblk m c 13 t j = V m c main_v4 (((cfg0.win 13).blk t).view.emb j) := rfl
  have b0 : (((cfg0.win 13).blk t).view.emb j 0).val = win0_13.index t (0 : Fin 3) * 8 + 1 * (j 0).val := rfl
  have b1 : (((cfg0.win 13).blk t).view.emb j 1).val = win0_13.index t (1 : Fin 3) * 128 + 1 * (j 1).val := rfl
  have b2 : (((cfg0.win 13).blk t).view.emb j 2).val = win0_13.index t (2 : Fin 3) * 128 + 1 * (j 2).val := rfl
  rw [at13] at b0 b1 b2
  have c0 : (((cfg0.win 13).blk t).view.emb j 0).val = (j 0).val := b0.trans (by show 0 * 8 + 1 * _ = _; omega)
  have c1 : (((cfg0.win 13).blk t).view.emb j 1).val = (j 1).val := b1.trans (by show 0 * 128 + 1 * _ = _; omega)
  have c2 : (((cfg0.win 13).blk t).view.emb j 2).val = (j 2).val := b2.trans (by show 0 * 128 + 1 * _ = _; omega)
  rw [e, host_v4 h]
  simp only [r3, c0, c1, c2]
  rfl

end Cert.Mix

end
-- ==== Proof.Mix.CaseA.lean ====
/-
  The mixer's backward kernel at the first grid point: what its stores leave, on real input blocks.
-/
module

public import proofs.«01_k».proof.Proof.Mix.Parts
public import proofs.«01_k».proof.Proof.Gen.KernelIdeal.Frame.RunA

@[expose] public section

set_option maxRecDepth 16384

noncomputable section

namespace Cert.Mix.CaseA

open Idealize.ShloMosaic Cert.KernelIdeal Cert.KernelIdeal.Gen

variable (A : Args)
  (c : Dev nD) (i : grid0.Coords) (arg1 : Memref sig .tc .vmem S512x1024 .f32) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x128x128 .bf16) (harg12 : arg12.IsWhole) (arg13 : Memref sig .tc .vmem S8x128x128 .bf16) (harg13 : arg13.IsWhole) (arg14 : Memref sig .tc .vmem S8x128x128 .f32) (harg14 : arg14.IsWhole) (arg15 : Memref sig .tc .vmem S512x6144 .bf16) (harg15 : arg15.IsWhole) (arg16 : Memref sig .tc .vmem S512x1024 .f32) (harg16 : arg16.IsWhole) (arg17 : Memref sig .tc .vmem S8x128x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S8x128x128 .f32) (harg24 : arg24.IsWhole) (hc0 : cond0_0 i) (hc1 : ¬cond0_1 i)

theorem r : kernelRun0_A.sl.r (F := Ideal) c arg1 harg1 arg2 harg2 (in0 A) (in1 A)
    = r2 .f32 512 1024 (dm A) := by
  unfold kernelRun0_A.sl.r
  rw [rd_rows, rd_square]
  exact pay14 A

theorem r_1 : kernelRun0_A.sl.r_1 (F := Ideal) c arg8 harg8 (in7 A)
    = r2 .f32 512 1024 (sa A) := by
  unfold kernelRun0_A.sl.r_1
  rw [rd_rows]
  exact pay15 _

theorem r_2 : kernelRun0_A.sl.r_2 (F := Ideal) c arg9 harg9 (in8 A)
    = r2 .f32 512 1024 (sb A) := by
  unfold kernelRun0_A.sl.r_2
  rw [rd_rows]
  exact pay16 _

theorem r_3 : kernelRun0_A.sl.r_3 (F := Ideal) c arg7 harg7 (in6 A)
    = r2 .f32 512 1024 fun r j => A.Z r (3072 + j) := by
  unfold kernelRun0_A.sl.r_3
  rw [rd_rows]
  exact pay17 _

theorem r_4 : kernelRun0_A.sl.r_4 (F := Ideal) c arg7 harg7 (in6 A)
    = r2 .f32 512 1024 fun r j => A.Z r (3072 + j) + 8943 / 200000 * (A.Z r (3072 + j) * A.Z r (3072 + j) * A.Z r (3072 + j)) := by
  unfold kernelRun0_A.sl.r_4
  rw [rd_rows]
  exact pay18 _

theorem r_5 : kernelRun0_A.sl.r_5 (F := Ideal) c arg7 harg7 (in6 A)
    = r2 .f32 512 1024 (gg A) := by
  unfold kernelRun0_A.sl.r_5
  rw [(r_3 A c arg7 harg7), (r_4 A c arg7 harg7), pay19]
  exact pay21 _

theorem r_6 : kernelRun0_A.sl.r_6 (F := Ideal) c arg3 harg3 arg4 harg4 (in2 A) (in3 A)
    = r2 .f32 512 1024 (hs A) := by
  unfold kernelRun0_A.sl.r_6
  rw [rd_rows, rd_rows]
  exact pay22 A

theorem r_7 : kernelRun0_A.sl.r_7 (F := Ideal) c arg1 harg1 arg2 harg2 arg8 harg8 (in0 A) (in1 A) (in7 A)
    = r2 .f32 512 1024 (dya A) := by
  unfold kernelRun0_A.sl.r_7
  rw [(r A c arg1 harg1 arg2 harg2), (r_1 A c arg8 harg8)]
  exact pay24 A

theorem r_8 : kernelRun0_A.sl.r_8 (F := Ideal) c arg1 harg1 arg2 harg2 arg3 harg3 arg4 harg4 arg7 harg7 arg9 harg9 (in0 A) (in1 A) (in2 A) (in3 A) (in6 A) (in8 A)
    = r2 .bf16 512 1024 (dz3 A) := by
  unfold kernelRun0_A.sl.r_8
  rw [(r A c arg1 harg1 arg2 harg2), (r_2 A c arg9 harg9), (r_3 A c arg7 harg7), (r_4 A c arg7 harg7), pay19, rd_rows, rd_rows]
  exact pay27 A

theorem r_9 : kernelRun0_A.sl.r_9 (F := Ideal) c arg5 harg5 (in4 A)
    = r2 .f32 512 1024 A.Z := by
  unfold kernelRun0_A.sl.r_9
  rw [rd_rows]
  exact pay29 _

theorem r_10 : kernelRun0_A.sl.r_10 (F := Ideal) c arg6 harg6 (in5 A)
    = r2 .f32 512 1024 fun r j => A.Z r (1024 + j) := by
  unfold kernelRun0_A.sl.r_10
  rw [rd_rows]
  exact pay30 _

theorem r_11 : kernelRun0_A.sl.r_11 (F := Ideal) c arg5 harg5 (in4 A)
    = r2 .f32 512 1024 fun r j => gt (A.Z r j) := by
  unfold kernelRun0_A.sl.r_11
  rw [rd_rows]
  exact pay31 _

theorem r_12 : kernelRun0_A.sl.r_12 (F := Ideal) c arg5 harg5 (in4 A)
    = r2 .f32 512 1024 (u A) := by
  unfold kernelRun0_A.sl.r_12
  rw [rd_rows]
  exact pay32 _

theorem r_13 : kernelRun0_A.sl.r_13 (F := Ideal) c arg6 harg6 (in5 A)
    = r2 .f32 512 1024 fun r j => gt (A.Z r (1024 + j)) := by
  unfold kernelRun0_A.sl.r_13
  rw [rd_rows]
  exact pay33 _

theorem r_14 : kernelRun0_A.sl.r_14 (F := Ideal) c arg6 harg6 (in5 A)
    = r2 .f32 512 1024 (gv A) := by
  unfold kernelRun0_A.sl.r_14
  rw [rd_rows]
  exact pay34 _

theorem r_15 : kernelRun0_A.sl.r_15 (F := Ideal) c arg6 harg6 (in5 A)
    = r1 .f32 512 (gvs A) := by
  unfold kernelRun0_A.sl.r_15
  rw [rd_rows]
  exact pay35 _

theorem v121 : kernelRun0_A.sl.v121 (F := Ideal) c arg6 harg6 (in5 A)
    = r2 .f32 512 1024 (xc A) := xc_of (r_14 A c arg6 harg6) (r_15 A c arg6 harg6)

theorem v129 : kernelRun0_A.sl.v129 (F := Ideal) c arg6 harg6 (in5 A)
    = r2 .f32 512 1 fun r _ => rstd A r := rstd_of (r_14 A c arg6 harg6) (r_15 A c arg6 harg6)

theorem v131 : kernelRun0_A.sl.v131 (F := Ideal) c arg6 harg6 (in5 A)
    = r2 .f32 512 1024 (xh A) := xh_of (r_14 A c arg6 harg6) (r_15 A c arg6 harg6)

theorem v140 : kernelRun0_A.sl.v140 (F := Ideal) c arg6 harg6 arg10 harg10 arg11 harg11 (in5 A) (in9 A) (in10 A)
    = r2 .bf16 512 1024 (vb A) := vb_of (r_14 A c arg6 harg6) (r_15 A c arg6 harg6) (rd_row harg10 _ _) (rd_row harg11 _ _)

theorem ya_list : ∀ p ∈ kernelRun0_A.sl.HS2_32 (F := Ideal) c arg5 harg5 arg6 harg6 arg10 harg10 arg11 harg11 arg12 harg12 arg14 harg14 (in4 A) (in5 A) (in9 A) (in10 A) (in11 A) (in13 A),
    ∀ x, p.2 x = r2 .f32 512 1024 (ya A) (p.1.emb x) := by
  have U := (r_12 A c arg5 harg5)
  have V := (v140 A c arg6 harg6 arg10 harg10 arg11 harg11)
  unfold kernelRun0_A.sl.HS2_32
  simp only [List.forall_mem_cons]
  exact ⟨piece_of _ (times_mixed A 3 7 _ U V (rd_headb 7 _ _ _) (rd_head 7 _ _ _)),
    piece_of _ (times_mixed A 3 6 _ U V (rd_headb 6 _ _ _) (rd_head 6 _ _ _)),
    piece_of _ (times_mixed A 3 5 _ U V (rd_headb 5 _ _ _) (rd_head 5 _ _ _)),
    piece_of _ (times_mixed A 3 4 _ U V (rd_headb 4 _ _ _) (rd_head 4 _ _ _)),
    piece_of _ (times_mixed A 3 3 _ U V (rd_headb 3 _ _ _) (rd_head 3 _ _ _)),
    piece_of _ (times_mixed A 3 2 _ U V (rd_headb 2 _ _ _) (rd_head 2 _ _ _)),
    piece_of _ (times_mixed A 3 1 _ U V (rd_headb 1 _ _ _) (rd_head 1 _ _ _)),
    piece_of _ (times_mixed A 3 0 _ U V (rd_headb 0 _ _ _) (rd_head 0 _ _ _)),
    piece_of _ (times_mixed A 2 7 _ U V (rd_headb 7 _ _ _) (rd_head 7 _ _ _)),
    piece_of _ (times_mixed A 2 6 _ U V (rd_headb 6 _ _ _) (rd_head 6 _ _ _)),
    piece_of _ (times_mixed A 2 5 _ U V (rd_headb 5 _ _ _) (rd_head 5 _ _ _)),
    piece_of _ (times_mixed A 2 4 _ U V (rd_headb 4 _ _ _) (rd_head 4 _ _ _)),
    piece_of _ (times_mixed A 2 3 _ U V (rd_headb 3 _ _ _) (rd_head 3 _ _ _)),
    piece_of _ (times_mixed A 2 2 _ U V (rd_headb 2 _ _ _) (rd_head 2 _ _ _)),
    piece_of _ (times_mixed A 2 1 _ U V (rd_headb 1 _ _ _) (rd_head 1 _ _ _)),
    piece_of _ (times_mixed A 2 0 _ U V (rd_headb 0 _ _ _) (rd_head 0 _ _ _)),
    piece_of _ (times_mixed A 1 7 _ U V (rd_headb 7 _ _ _) (rd_head 7 _ _ _)),
    piece_of _ (times_mixed A 1 6 _ U V (rd_headb 6 _ _ _) (rd_head 6 _ _ _)),
    piece_of _ (times_mixed A 1 5 _ U V (rd_headb 5 _ _ _) (rd_head 5 _ _ _)),
    piece_of _ (times_mixed A 1 4 _ U V (rd_headb 4 _ _ _) (rd_head 4 _ _ _)),
    piece_of _ (times_mixed A 1 3 _ U V (rd_headb 3 _ _ _) (rd_head 3 _ _ _)),
    piece_of _ (times_mixed A 1 2 _ U V (rd_headb 2 _ _ _) (rd_head 2 _ _ _)),
    piece_of _ (times_mixed A 1 1 _ U V (rd_headb 1 _ _ _) (rd_head 1 _ _ _)),
    piece_of _ (times_mixed A 1 0 _ U V (rd_headb 0 _ _ _) (rd_head 0 _ _ _)),
    piece_of _ (times_mixed A 0 7 _ U V (rd_headb 7 _ _ _) (rd_head 7 _ _ _)),
    piece_of _ (times_mixed A 0 6 _ U V (rd_headb 6 _ _ _) (rd_head 6 _ _ _)),
    piece_of _ (times_mixed A 0 5 _ U V (rd_headb 5 _ _ _) (rd_head 5 _ _ _)),
    piece_of _ (times_mixed A 0 4 _ U V (rd_headb 4 _ _ _) (rd_head 4 _ _ _)),
    piece_of _ (times_mixed A 0 3 _ U V (rd_headb 3 _ _ _) (rd_head 3 _ _ _)),
    piece_of _ (times_mixed A 0 2 _ U V (rd_headb 2 _ _ _) (rd_head 2 _ _ _)),
    piece_of _ (times_mixed A 0 1 _ U V (rd_headb 1 _ _ _) (rd_head 1 _ _ _)),
    piece_of _ (times_mixed A 0 0 _ U V (rd_headb 0 _ _ _) (rd_head 0 _ _ _)),
    fun _ h => absurd h List.not_mem_nil⟩

theorem du_list : ∀ p ∈ kernelRun0_A.sl.HS0_32 (F := Ideal) c arg1 harg1 arg2 harg2 arg6 harg6 arg8 harg8 arg10 harg10 arg11 harg11 arg12 harg12 arg14 harg14 (in0 A) (in1 A) (in5 A) (in7 A) (in9 A) (in10 A) (in11 A) (in13 A),
    ∀ x, p.2 x = r2 .f32 512 1024 (du A) (p.1.emb x) := by
  have V := (v140 A c arg6 harg6 arg10 harg10 arg11 harg11)
  have D := (r_7 A c arg1 harg1 arg2 harg2 arg8 harg8)
  unfold kernelRun0_A.sl.HS0_32
  simp only [List.forall_mem_cons]
  exact ⟨piece_of _ (times_mixed A 3 7 _ D V (rd_headb 7 _ _ _) (rd_head 7 _ _ _)),
    piece_of _ (times_mixed A 3 6 _ D V (rd_headb 6 _ _ _) (rd_head 6 _ _ _)),
    piece_of _ (times_mixed A 3 5 _ D V (rd_headb 5 _ _ _) (rd_head 5 _ _ _)),
    piece_of _ (times_mixed A 3 4 _ D V (rd_headb 4 _ _ _) (rd_head 4 _ _ _)),
    piece_of _ (times_mixed A 3 3 _ D V (rd_headb 3 _ _ _) (rd_head 3 _ _ _)),
    piece_of _ (times_mixed A 3 2 _ D V (rd_headb 2 _ _ _) (rd_head 2 _ _ _)),
    piece_of _ (times_mixed A 3 1 _ D V (rd_headb 1 _ _ _) (rd_head 1 _ _ _)),
    piece_of _ (times_mixed A 3 0 _ D V (rd_headb 0 _ _ _) (rd_head 0 _ _ _)),
    piece_of _ (times_mixed A 2 7 _ D V (rd_headb 7 _ _ _) (rd_head 7 _ _ _)),
    piece_of _ (times_mixed A 2 6 _ D V (rd_headb 6 _ _ _) (rd_head 6 _ _ _)),
    piece_of _ (times_mixed A 2 5 _ D V (rd_headb 5 _ _ _) (rd_head 5 _ _ _)),
    piece_of _ (times_mixed A 2 4 _ D V (rd_headb 4 _ _ _) (rd_head 4 _ _ _)),
    piece_of _ (times_mixed A 2 3 _ D V (rd_headb 3 _ _ _) (rd_head 3 _ _ _)),
    piece_of _ (times_mixed A 2 2 _ D V (rd_headb 2 _ _ _) (rd_head 2 _ _ _)),
    piece_of _ (times_mixed A 2 1 _ D V (rd_headb 1 _ _ _) (rd_head 1 _ _ _)),
    piece_of _ (times_mixed A 2 0 _ D V (rd_headb 0 _ _ _) (rd_head 0 _ _ _)),
    piece_of _ (times_mixed A 1 7 _ D V (rd_headb 7 _ _ _) (rd_head 7 _ _ _)),
    piece_of _ (times_mixed A 1 6 _ D V (rd_headb 6 _ _ _) (rd_head 6 _ _ _)),
    piece_of _ (times_mixed A 1 5 _ D V (rd_headb 5 _ _ _) (rd_head 5 _ _ _)),
    piece_of _ (times_mixed A 1 4 _ D V (rd_headb 4 _ _ _) (rd_head 4 _ _ _)),
    piece_of _ (times_mixed A 1 3 _ D V (rd_headb 3 _ _ _) (rd_head 3 _ _ _)),
    piece_of _ (times_mixed A 1 2 _ D V (rd_headb 2 _ _ _) (rd_head 2 _ _ _)),
    piece_of _ (times_mixed A 1 1 _ D V (rd_headb 1 _ _ _) (rd_head 1 _ _ _)),
    piece_of _ (times_mixed A 1 0 _ D V (rd_headb 0 _ _ _) (rd_head 0 _ _ _)),
    piece_of _ (times_mixed A 0 7 _ D V (rd_headb 7 _ _ _) (rd_head 7 _ _ _)),
    piece_of _ (times_mixed A 0 6 _ D V (rd_headb 6 _ _ _) (rd_head 6 _ _ _)),
    piece_of _ (times_mixed A 0 5 _ D V (rd_headb 5 _ _ _) (rd_head 5 _ _ _)),
    piece_of _ (times_mixed A 0 4 _ D V (rd_headb 4 _ _ _) (rd_head 4 _ _ _)),
    piece_of _ (times_mixed A 0 3 _ D V (rd_headb 3 _ _ _) (rd_head 3 _ _ _)),
    piece_of _ (times_mixed A 0 2 _ D V (rd_headb 2 _ _ _) (rd_head 2 _ _ _)),
    piece_of _ (times_mixed A 0 1 _ D V (rd_headb 1 _ _ _) (rd_head 1 _ _ _)),
    piece_of _ (times_mixed A 0 0 _ D V (rd_headb 0 _ _ _) (rd_head 0 _ _ _)),
    fun _ h => absurd h List.not_mem_nil⟩

theorem dv_list : ∀ p ∈ kernelRun0_A.sl.HS1_32 (F := Ideal) c arg1 harg1 arg2 harg2 arg5 harg5 arg8 harg8 arg13 harg13 (in0 A) (in1 A) (in4 A) (in7 A) (in12 A),
    ∀ x, p.2 x = r2 .f32 512 1024 (dv A) (p.1.emb x) := by
  have U := (r_12 A c arg5 harg5)
  have D := (r_7 A c arg1 harg1 arg2 harg2 arg8 harg8)
  unfold kernelRun0_A.sl.HS1_32
  simp only [List.forall_mem_cons]
  exact ⟨piece_of _ (dv_block A 3 7 D U (rd_headb 7 _ _ _)),
    piece_of _ (dv_block A 3 6 D U (rd_headb 6 _ _ _)),
    piece_of _ (dv_block A 3 5 D U (rd_headb 5 _ _ _)),
    piece_of _ (dv_block A 3 4 D U (rd_headb 4 _ _ _)),
    piece_of _ (dv_block A 3 3 D U (rd_headb 3 _ _ _)),
    piece_of _ (dv_block A 3 2 D U (rd_headb 2 _ _ _)),
    piece_of _ (dv_block A 3 1 D U (rd_headb 1 _ _ _)),
    piece_of _ (dv_block A 3 0 D U (rd_headb 0 _ _ _)),
    piece_of _ (dv_block A 2 7 D U (rd_headb 7 _ _ _)),
    piece_of _ (dv_block A 2 6 D U (rd_headb 6 _ _ _)),
    piece_of _ (dv_block A 2 5 D U (rd_headb 5 _ _ _)),
    piece_of _ (dv_block A 2 4 D U (rd_headb 4 _ _ _)),
    piece_of _ (dv_block A 2 3 D U (rd_headb 3 _ _ _)),
    piece_of _ (dv_block A 2 2 D U (rd_headb 2 _ _ _)),
    piece_of _ (dv_block A 2 1 D U (rd_headb 1 _ _ _)),
    piece_of _ (dv_block A 2 0 D U (rd_headb 0 _ _ _)),
    piece_of _ (dv_block A 1 7 D U (rd_headb 7 _ _ _)),
    piece_of _ (dv_block A 1 6 D U (rd_headb 6 _ _ _)),
    piece_of _ (dv_block A 1 5 D U (rd_headb 5 _ _ _)),
    piece_of _ (dv_block A 1 4 D U (rd_headb 4 _ _ _)),
    piece_of _ (dv_block A 1 3 D U (rd_headb 3 _ _ _)),
    piece_of _ (dv_block A 1 2 D U (rd_headb 2 _ _ _)),
    piece_of _ (dv_block A 1 1 D U (rd_headb 1 _ _ _)),
    piece_of _ (dv_block A 1 0 D U (rd_headb 0 _ _ _)),
    piece_of _ (dv_block A 0 7 D U (rd_headb 7 _ _ _)),
    piece_of _ (dv_block A 0 6 D U (rd_headb 6 _ _ _)),
    piece_of _ (dv_block A 0 5 D U (rd_headb 5 _ _ _)),
    piece_of _ (dv_block A 0 4 D U (rd_headb 4 _ _ _)),
    piece_of _ (dv_block A 0 3 D U (rd_headb 3 _ _ _)),
    piece_of _ (dv_block A 0 2 D U (rd_headb 2 _ _ _)),
    piece_of _ (dv_block A 0 1 D U (rd_headb 1 _ _ _)),
    piece_of _ (dv_block A 0 0 D U (rd_headb 0 _ _ _)),
    fun _ h => absurd h List.not_mem_nil⟩

theorem v1421 : kernelRun0_A.sl.v1421 (F := Ideal) c arg5 harg5 arg6 harg6 arg10 harg10 arg11 harg11 arg12 harg12 arg14 harg14 arg23 (in4 A) (in5 A) (in9 A) (in10 A) (in11 A) (in13 A)
    = r2 .f32 512 1024 (ya A) := rd_filled _ (by apply ya_list) (View.cover_of_tiledL (s := S512x1024) _ S128x128.size (by sl_kernel_rfl)) _

theorem v1429 : kernelRun0_A.sl.v1429 (F := Ideal) c arg1 harg1 arg2 harg2 arg5 harg5 arg8 harg8 arg13 harg13 arg22 (in0 A) (in1 A) (in4 A) (in7 A) (in12 A)
    = r2 .f32 512 1024 (dv A) := rd_filled _ (by apply dv_list) (View.cover_of_tiledL (s := S512x1024) _ S128x128.size (by sl_kernel_rfl)) _

theorem v1535 : kernelRun0_A.sl.v1535 (F := Ideal) c arg1 harg1 arg2 harg2 arg6 harg6 arg8 harg8 arg10 harg10 arg11 harg11 arg12 harg12 arg14 harg14 arg21 (in0 A) (in1 A) (in5 A) (in7 A) (in9 A) (in10 A) (in11 A) (in13 A)
    = r2 .f32 512 1024 (du A) := rd_filled _ (by apply du_list) (View.cover_of_tiledL (s := S512x1024) _ S128x128.size (by sl_kernel_rfl)) _

theorem v1427 : kernelRun0_A.sl.v1427 (F := Ideal) c arg1 harg1 arg2 harg2 arg5 harg5 arg6 harg6 arg8 harg8 arg10 harg10 arg11 harg11 arg12 harg12 arg14 harg14 arg23 (in0 A) (in1 A) (in4 A) (in5 A) (in7 A) (in9 A) (in10 A) (in11 A) (in13 A)
    = r2 .bf16 512 1024 (dz4 A) := dz4_of (r A c arg1 harg1 arg2 harg2) (r_1 A c arg8 harg8) (v1421 A c arg5 harg5 arg6 harg6 arg10 harg10 arg11 harg11 arg12 harg12 arg14 harg14 arg23)

theorem v1432 : kernelRun0_A.sl.v1432 (F := Ideal) c arg1 harg1 arg2 harg2 arg5 harg5 arg6 harg6 arg8 harg8 arg13 harg13 arg22 (in0 A) (in1 A) (in4 A) (in5 A) (in7 A) (in12 A)
    = r2 .f32 1 1024 fun _ j => ∑ r : Fin 512, dv A r j * xh A r j := lg_sums_of (v131 A c arg6 harg6) (v1429 A c arg1 harg1 arg2 harg2 arg5 harg5 arg8 harg8 arg13 harg13 arg22)

theorem v1474 : kernelRun0_A.sl.v1474 (F := Ideal) c arg1 harg1 arg2 harg2 arg5 harg5 arg8 harg8 arg13 harg13 arg22 (in0 A) (in1 A) (in4 A) (in7 A) (in12 A)
    = r2 .f32 1 1024 fun _ j => ∑ r : Fin 512, dv A r j := lb_sums_of (v1429 A c arg1 harg1 arg2 harg2 arg5 harg5 arg8 harg8 arg13 harg13 arg22)

theorem v1532 : kernelRun0_A.sl.v1532 (F := Ideal) c arg1 harg1 arg2 harg2 arg5 harg5 arg6 harg6 arg8 harg8 arg10 harg10 arg13 harg13 arg22 (in0 A) (in1 A) (in4 A) (in5 A) (in7 A) (in9 A) (in12 A)
    = r2 .f32 512 1024 fun r j => dxh A r j - mean (dxh A r) - xh A r j * mean fun k => dxh A r k * xh A r k := centred_of (v131 A c arg6 harg6) (v1429 A c arg1 harg1 arg2 harg2 arg5 harg5 arg8 harg8 arg13 harg13 arg22) (rd_row harg10 _ _)

theorem r_16 : kernelRun0_A.sl.r_16 (F := Ideal) c arg1 harg1 arg2 harg2 arg5 harg5 arg6 harg6 arg8 harg8 arg10 harg10 arg13 harg13 arg22 (in0 A) (in1 A) (in4 A) (in5 A) (in7 A) (in9 A) (in12 A)
    = r2 .f32 512 1024 (dgv A) := by
  unfold kernelRun0_A.sl.r_16
  skip
  exact dgv_of (v129 A c arg6 harg6) (v1532 A c arg1 harg1 arg2 harg2 arg5 harg5 arg6 harg6 arg8 harg8 arg10 harg10 arg13 harg13 arg22)

theorem out14 : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A)).1
    = r2 .bf16 512 6144 (dz A) := by
  refine funext fun y => View.canon_apply_of_pieces _ _ ?_ y
    (View.cover_of_tiledL (s := S512x6144) _ S512x1024.size (by sl_kernel_rfl) y)
  have e0 : k0_pay398 (kernelRun0_A.sl.r_9 (F := Ideal) c arg5 harg5 (in4 A)) (kernelRun0_A.sl.r_11 (F := Ideal) c arg5 harg5 (in4 A))
      (kernelRun0_A.sl.v1535 (F := Ideal) c arg1 harg1 arg2 harg2 arg6 harg6 arg8 harg8 arg10 harg10 arg11 harg11 arg12 harg12 arg14 harg14 arg21 (in0 A) (in1 A) (in5 A) (in7 A) (in9 A) (in10 A) (in11 A) (in13 A)) = r2 .bf16 512 1024 (dz0 A) := by
    rw [(r_9 A c arg5 harg5), (r_11 A c arg5 harg5), (v1535 A c arg1 harg1 arg2 harg2 arg6 harg6 arg8 harg8 arg10 harg10 arg11 harg11 arg12 harg12 arg14 harg14 arg21)]
    exact pay398 A
  have e1 : k0_pay403 (kernelRun0_A.sl.r_16 (F := Ideal) c arg1 harg1 arg2 harg2 arg5 harg5 arg6 harg6 arg8 harg8 arg10 harg10 arg13 harg13 arg22 (in0 A) (in1 A) (in4 A) (in5 A) (in7 A) (in9 A) (in12 A)) (kernelRun0_A.sl.r_17 (F := Ideal) c arg6 harg6 (in5 A))
      (kernelRun0_A.sl.r_18 (F := Ideal) c arg6 harg6 (in5 A))
      (kernelRun0_A.sl.r_19 (F := Ideal) c arg6 harg6 (in5 A)) k0_pay402 = r2 .bf16 512 1024 (dz1 A) := by
    unfold kernelRun0_A.sl.r_17 kernelRun0_A.sl.r_18 kernelRun0_A.sl.r_19
    rw [(r_16 A c arg1 harg1 arg2 harg2 arg5 harg5 arg6 harg6 arg8 harg8 arg10 harg10 arg13 harg13 arg22), (r_13 A c arg6 harg6), (r_10 A c arg6 harg6)]
    exact pay403 A
  have e5 : k0_pay28 (kernelRun0_A.sl.r (F := Ideal) c arg1 harg1 arg2 harg2 (in0 A) (in1 A)) (kernelRun0_A.sl.r_2 (F := Ideal) c arg9 harg9 (in8 A))
      (kernelRun0_A.sl.r_5 (F := Ideal) c arg7 harg7 (in6 A)) (kernelRun0_A.sl.r_6 (F := Ideal) c arg3 harg3 arg4 harg4 (in2 A) (in3 A)) = r2 .bf16 512 1024 (dz5 A) := by
    rw [(r A c arg1 harg1 arg2 harg2), (r_2 A c arg9 harg9), (r_5 A c arg7 harg7), (r_6 A c arg3 harg3 arg4 harg4)]
    exact pay28 A
  change ∀ p ∈ (_ :: _ :: _ :: _ :: _ :: _ :: [] : List (View.Piece (Elt Ideal) S512x6144 .bf16)), _
  simp only [List.forall_mem_cons]
  exact ⟨piece_of _ (strip_of 1024 dz_at1 e1), piece_of _ (strip_of 0 dz_at0 e0),
    piece_of _ (strip_of 4096 dz_at4 (v1427 A c arg1 harg1 arg2 harg2 arg5 harg5 arg6 harg6 arg8 harg8 arg10 harg10 arg11 harg11 arg12 harg12 arg14 harg14 arg23)), piece_of _ (strip_of 5120 dz_at5 e5),
    piece_of _ (strip_of 3072 dz_at3 (r_8 A c arg1 harg1 arg2 harg2 arg3 harg3 arg4 harg4 arg7 harg7 arg9 harg9)), piece_of _ (strip_of 2048 dz_at2 pay26),
    fun _ h => absurd h List.not_mem_nil⟩

theorem out15 : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A)).2.1
    = r2 .f32 512 1024 (dh A) := by
  refine (View.canon_unit_zero zero2 _ _).trans ?_
  show k0_pay25 (kernelRun0_A.sl.r (F := Ideal) c arg1 harg1 arg2 harg2 (in0 A) (in1 A)) (kernelRun0_A.sl.r_2 (F := Ideal) c arg9 harg9 (in8 A)) (kernelRun0_A.sl.r_3 (F := Ideal) c arg7 harg7 (in6 A))
    (kernelRun0_A.sl.r_4 (F := Ideal) c arg7 harg7 (in6 A)) k0_pay19 = _
  rw [(r A c arg1 harg1 arg2 harg2), (r_2 A c arg9 harg9), (r_3 A c arg7 harg7), (r_4 A c arg7 harg7), pay19]
  exact pay25 A

theorem out16 : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A)).2.2.1
    = r3 .f32 8 128 128 fun g => acc4 (wsTerm A g) (fun _ _ => 0) := by
  have U := (r_12 A c arg5 harg5)
  have V := (v140 A c arg6 harg6 arg10 harg10 arg11 harg11)
  have D := (r_7 A c arg1 harg1 arg2 harg2 arg8 harg8)
  exact canon_heads _
    (dws_block A 3 0 _ (eighth _ ⟨by decide, by decide, by decide, by decide, by decide, by decide, by decide⟩ (dws_block A 2 0 _ (eighth _ ⟨by decide, by decide, by decide, by decide, by decide, by decide, by decide⟩ (dws_block A 1 0 _ (eighth _ ⟨by decide, by decide, by decide, by decide, by decide, by decide, by decide⟩ (dws_block A 0 0 _ (filled_head _ 0 zeros3 _ _) D U V)) D U V)) D U V)) D U V)
    (dws_block A 3 1 _ (eighth _ ⟨by decide, by decide, by decide, by decide, by decide, by decide, by decide⟩ (dws_block A 2 1 _ (eighth _ ⟨by decide, by decide, by decide, by decide, by decide, by decide, by decide⟩ (dws_block A 1 1 _ (eighth _ ⟨by decide, by decide, by decide, by decide, by decide, by decide, by decide⟩ (dws_block A 0 1 _ (past_head _ 0 (by decide) (filled_head _ 1 zeros3 _ _)) D U V)) D U V)) D U V)) D U V)
    (dws_block A 3 2 _ (eighth _ ⟨by decide, by decide, by decide, by decide, by decide, by decide, by decide⟩ (dws_block A 2 2 _ (eighth _ ⟨by decide, by decide, by decide, by decide, by decide, by decide, by decide⟩ (dws_block A 1 2 _ (eighth _ ⟨by decide, by decide, by decide, by decide, by decide, by decide, by decide⟩ (dws_block A 0 2 _ (past_head _ 1 (by decide) (past_head _ 0 (by decide) (filled_head _ 2 zeros3 _ _))) D U V)) D U V)) D U V)) D U V)
    (dws_block A 3 3 _ (eighth _ ⟨by decide, by decide, by decide, by decide, by decide, by decide, by decide⟩ (dws_block A 2 3 _ (eighth _ ⟨by decide, by decide, by decide, by decide, by decide, by decide, by decide⟩ (dws_block A 1 3 _ (eighth _ ⟨by decide, by decide, by decide, by decide, by decide, by decide, by decide⟩ (dws_block A 0 3 _ (past_head _ 2 (by decide) (past_head _ 1 (by decide) (past_head _ 0 (by decide) (filled_head _ 3 zeros3 _ _)))) D U V)) D U V)) D U V)) D U V)
    (dws_block A 3 4 _ (eighth _ ⟨by decide, by decide, by decide, by decide, by decide, by decide, by decide⟩ (dws_block A 2 4 _ (eighth _ ⟨by decide, by decide, by decide, by decide, by decide, by decide, by decide⟩ (dws_block A 1 4 _ (eighth _ ⟨by decide, by decide, by decide, by decide, by decide, by decide, by decide⟩ (dws_block A 0 4 _ (past_head _ 3 (by decide) (past_head _ 2 (by decide) (past_head _ 1 (by decide) (past_head _ 0 (by decide) (filled_head _ 4 zeros3 _ _))))) D U V)) D U V)) D U V)) D U V)
    (dws_block A 3 5 _ (eighth _ ⟨by decide, by decide, by decide, by decide, by decide, by decide, by decide⟩ (dws_block A 2 5 _ (eighth _ ⟨by decide, by decide, by decide, by decide, by decide, by decide, by decide⟩ (dws_block A 1 5 _ (eighth _ ⟨by decide, by decide, by decide, by decide, by decide, by decide, by decide⟩ (dws_block A 0 5 _ (past_head _ 4 (by decide) (past_head _ 3 (by decide) (past_head _ 2 (by decide) (past_head _ 1 (by decide) (past_head _ 0 (by decide) (filled_head _ 5 zeros3 _ _)))))) D U V)) D U V)) D U V)) D U V)
    (dws_block A 3 6 _ (eighth _ ⟨by decide, by decide, by decide, by decide, by decide, by decide, by decide⟩ (dws_block A 2 6 _ (eighth _ ⟨by decide, by decide, by decide, by decide, by decide, by decide, by decide⟩ (dws_block A 1 6 _ (eighth _ ⟨by decide, by decide, by decide, by decide, by decide, by decide, by decide⟩ (dws_block A 0 6 _ (past_head _ 5 (by decide) (past_head _ 4 (by decide) (past_head _ 3 (by decide) (past_head _ 2 (by decide) (past_head _ 1 (by decide) (past_head _ 0 (by decide) (filled_head _ 6 zeros3 _ _))))))) D U V)) D U V)) D U V)) D U V)
    (dws_block A 3 7 _ (eighth _ ⟨by decide, by decide, by decide, by decide, by decide, by decide, by decide⟩ (dws_block A 2 7 _ (eighth _ ⟨by decide, by decide, by decide, by decide, by decide, by decide, by decide⟩ (dws_block A 1 7 _ (eighth _ ⟨by decide, by decide, by decide, by decide, by decide, by decide, by decide⟩ (dws_block A 0 7 _ (past_head _ 6 (by decide) (past_head _ 5 (by decide) (past_head _ 4 (by decide) (past_head _ 3 (by decide) (past_head _ 2 (by decide) (past_head _ 1 (by decide) (past_head _ 0 (by decide) (filled_head _ 7 zeros3 _ _)))))))) D U V)) D U V)) D U V)) D U V)

theorem out3 : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A)).2.2.2.2.2.2.1
    = r3 .f32 8 128 128 fun g => acc4 (bsTerm A g) (fun _ _ => 0) := by
  have U := (r_12 A c arg5 harg5)
  have D := (r_7 A c arg1 harg1 arg2 harg2 arg8 harg8)
  exact canon_heads _
    (dbs_block A 3 0 _ (eighth _ ⟨by decide, by decide, by decide, by decide, by decide, by decide, by decide⟩ (dbs_block A 2 0 _ (eighth _ ⟨by decide, by decide, by decide, by decide, by decide, by decide, by decide⟩ (dbs_block A 1 0 _ (eighth _ ⟨by decide, by decide, by decide, by decide, by decide, by decide, by decide⟩ (dbs_block A 0 0 _ (filled_head _ 0 zeros3 _ _) D U)) D U)) D U)) D U)
    (dbs_block A 3 1 _ (eighth _ ⟨by decide, by decide, by decide, by decide, by decide, by decide, by decide⟩ (dbs_block A 2 1 _ (eighth _ ⟨by decide, by decide, by decide, by decide, by decide, by decide, by decide⟩ (dbs_block A 1 1 _ (eighth _ ⟨by decide, by decide, by decide, by decide, by decide, by decide, by decide⟩ (dbs_block A 0 1 _ (past_head _ 0 (by decide) (filled_head _ 1 zeros3 _ _)) D U)) D U)) D U)) D U)
    (dbs_block A 3 2 _ (eighth _ ⟨by decide, by decide, by decide, by decide, by decide, by decide, by decide⟩ (dbs_block A 2 2 _ (eighth _ ⟨by decide, by decide, by decide, by decide, by decide, by decide, by decide⟩ (dbs_block A 1 2 _ (eighth _ ⟨by decide, by decide, by decide, by decide, by decide, by decide, by decide⟩ (dbs_block A 0 2 _ (past_head _ 1 (by decide) (past_head _ 0 (by decide) (filled_head _ 2 zeros3 _ _))) D U)) D U)) D U)) D U)
    (dbs_block A 3 3 _ (eighth _ ⟨by decide, by decide, by decide, by decide, by decide, by decide, by decide⟩ (dbs_block A 2 3 _ (eighth _ ⟨by decide, by decide, by decide, by decide, by decide, by decide, by decide⟩ (dbs_block A 1 3 _ (eighth _ ⟨by decide, by decide, by decide, by decide, by decide, by decide, by decide⟩ (dbs_block A 0 3 _ (past_head _ 2 (by decide) (past_head _ 1 (by decide) (past_head _ 0 (by decide) (filled_head _ 3 zeros3 _ _)))) D U)) D U)) D U)) D U)
    (dbs_block A 3 4 _ (eighth _ ⟨by decide, by decide, by decide, by decide, by decide, by decide, by decide⟩ (dbs_block A 2 4 _ (eighth _ ⟨by decide, by decide, by decide, by decide, by decide, by decide, by decide⟩ (dbs_block A 1 4 _ (eighth _ ⟨by decide, by decide, by decide, by decide, by decide, by decide, by decide⟩ (dbs_block A 0 4 _ (past_head _ 3 (by decide) (past_head _ 2 (by decide) (past_head _ 1 (by decide) (past_head _ 0 (by decide) (filled_head _ 4 zeros3 _ _))))) D U)) D U)) D U)) D U)
    (dbs_block A 3 5 _ (eighth _ ⟨by decide, by decide, by decide, by decide, by decide, by decide, by decide⟩ (dbs_block A 2 5 _ (eighth _ ⟨by decide, by decide, by decide, by decide, by decide, by decide, by decide⟩ (dbs_block A 1 5 _ (eighth _ ⟨by decide, by decide, by decide, by decide, by decide, by decide, by decide⟩ (dbs_block A 0 5 _ (past_head _ 4 (by decide) (past_head _ 3 (by decide) (past_head _ 2 (by decide) (past_head _ 1 (by decide) (past_head _ 0 (by decide) (filled_head _ 5 zeros3 _ _)))))) D U)) D U)) D U)) D U)
    (dbs_block A 3 6 _ (eighth _ ⟨by decide, by decide, by decide, by decide, by decide, by decide, by decide⟩ (dbs_block A 2 6 _ (eighth _ ⟨by decide, by decide, by decide, by decide, by decide, by decide, by decide⟩ (dbs_block A 1 6 _ (eighth _ ⟨by decide, by decide, by decide, by decide, by decide, by decide, by decide⟩ (dbs_block A 0 6 _ (past_head _ 5 (by decide) (past_head _ 4 (by decide) (past_head _ 3 (by decide) (past_head _ 2 (by decide) (past_head _ 1 (by decide) (past_head _ 0 (by decide) (filled_head _ 6 zeros3 _ _))))))) D U)) D U)) D U)) D U)
    (dbs_block A 3 7 _ (eighth _ ⟨by decide, by decide, by decide, by decide, by decide, by decide, by decide⟩ (dbs_block A 2 7 _ (eighth _ ⟨by decide, by decide, by decide, by decide, by decide, by decide, by decide⟩ (dbs_block A 1 7 _ (eighth _ ⟨by decide, by decide, by decide, by decide, by decide, by decide, by decide⟩ (dbs_block A 0 7 _ (past_head _ 6 (by decide) (past_head _ 5 (by decide) (past_head _ 4 (by decide) (past_head _ 3 (by decide) (past_head _ 2 (by decide) (past_head _ 1 (by decide) (past_head _ 0 (by decide) (filled_head _ 7 zeros3 _ _)))))))) D U)) D U)) D U)) D U)

theorem out18 : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A)).2.2.2.2.1
    = r2 .f32 8 128 fun g j => 0 + ∑ r : Fin 512, dv A r (128 * g + j) * xh A r (128 * g + j) := by
  exact canon_lanes _
    (lane_block 0 _ _ (filled_lane _ 0 zeros3' _ _) (v1432 A c arg1 harg1 arg2 harg2 arg5 harg5 arg6 harg6 arg8 harg8 arg13 harg13 arg22))
    (lane_block 1 _ _ (past_lane _ 0 (by decide) (filled_lane _ 1 zeros3' _ _)) (v1432 A c arg1 harg1 arg2 harg2 arg5 harg5 arg6 harg6 arg8 harg8 arg13 harg13 arg22))
    (lane_block 2 _ _ (past_lane _ 1 (by decide) (past_lane _ 0 (by decide) (filled_lane _ 2 zeros3' _ _))) (v1432 A c arg1 harg1 arg2 harg2 arg5 harg5 arg6 harg6 arg8 harg8 arg13 harg13 arg22))
    (lane_block 3 _ _ (past_lane _ 2 (by decide) (past_lane _ 1 (by decide) (past_lane _ 0 (by decide) (filled_lane _ 3 zeros3' _ _)))) (v1432 A c arg1 harg1 arg2 harg2 arg5 harg5 arg6 harg6 arg8 harg8 arg13 harg13 arg22))
    (lane_block 4 _ _ (past_lane _ 3 (by decide) (past_lane _ 2 (by decide) (past_lane _ 1 (by decide) (past_lane _ 0 (by decide) (filled_lane _ 4 zeros3' _ _))))) (v1432 A c arg1 harg1 arg2 harg2 arg5 harg5 arg6 harg6 arg8 harg8 arg13 harg13 arg22))
    (lane_block 5 _ _ (past_lane _ 4 (by decide) (past_lane _ 3 (by decide) (past_lane _ 2 (by decide) (past_lane _ 1 (by decide) (past_lane _ 0 (by decide) (filled_lane _ 5 zeros3' _ _)))))) (v1432 A c arg1 harg1 arg2 harg2 arg5 harg5 arg6 harg6 arg8 harg8 arg13 harg13 arg22))
    (lane_block 6 _ _ (past_lane _ 5 (by decide) (past_lane _ 4 (by decide) (past_lane _ 3 (by decide) (past_lane _ 2 (by decide) (past_lane _ 1 (by decide) (past_lane _ 0 (by decide) (filled_lane _ 6 zeros3' _ _))))))) (v1432 A c arg1 harg1 arg2 harg2 arg5 harg5 arg6 harg6 arg8 harg8 arg13 harg13 arg22))
    (lane_block 7 _ _ (past_lane _ 6 (by decide) (past_lane _ 5 (by decide) (past_lane _ 4 (by decide) (past_lane _ 3 (by decide) (past_lane _ 2 (by decide) (past_lane _ 1 (by decide) (past_lane _ 0 (by decide) (filled_lane _ 7 zeros3' _ _)))))))) (v1432 A c arg1 harg1 arg2 harg2 arg5 harg5 arg6 harg6 arg8 harg8 arg13 harg13 arg22))

theorem out19 : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A)).2.2.2.2.2.1
    = r2 .f32 8 128 fun g j => 0 + ∑ r : Fin 512, dv A r (128 * g + j) := by
  exact canon_lanes _
    (lane_block 0 _ _ (filled_lane _ 0 zeros3' _ _) (v1474 A c arg1 harg1 arg2 harg2 arg5 harg5 arg8 harg8 arg13 harg13 arg22))
    (lane_block 1 _ _ (past_lane _ 0 (by decide) (filled_lane _ 1 zeros3' _ _)) (v1474 A c arg1 harg1 arg2 harg2 arg5 harg5 arg8 harg8 arg13 harg13 arg22))
    (lane_block 2 _ _ (past_lane _ 1 (by decide) (past_lane _ 0 (by decide) (filled_lane _ 2 zeros3' _ _))) (v1474 A c arg1 harg1 arg2 harg2 arg5 harg5 arg8 harg8 arg13 harg13 arg22))
    (lane_block 3 _ _ (past_lane _ 2 (by decide) (past_lane _ 1 (by decide) (past_lane _ 0 (by decide) (filled_lane _ 3 zeros3' _ _)))) (v1474 A c arg1 harg1 arg2 harg2 arg5 harg5 arg8 harg8 arg13 harg13 arg22))
    (lane_block 4 _ _ (past_lane _ 3 (by decide) (past_lane _ 2 (by decide) (past_lane _ 1 (by decide) (past_lane _ 0 (by decide) (filled_lane _ 4 zeros3' _ _))))) (v1474 A c arg1 harg1 arg2 harg2 arg5 harg5 arg8 harg8 arg13 harg13 arg22))
    (lane_block 5 _ _ (past_lane _ 4 (by decide) (past_lane _ 3 (by decide) (past_lane _ 2 (by decide) (past_lane _ 1 (by decide) (past_lane _ 0 (by decide) (filled_lane _ 5 zeros3' _ _)))))) (v1474 A c arg1 harg1 arg2 harg2 arg5 harg5 arg8 harg8 arg13 harg13 arg22))
    (lane_block 6 _ _ (past_lane _ 5 (by decide) (past_lane _ 4 (by decide) (past_lane _ 3 (by decide) (past_lane _ 2 (by decide) (past_lane _ 1 (by decide) (past_lane _ 0 (by decide) (filled_lane _ 6 zeros3' _ _))))))) (v1474 A c arg1 harg1 arg2 harg2 arg5 harg5 arg8 harg8 arg13 harg13 arg22))
    (lane_block 7 _ _ (past_lane _ 6 (by decide) (past_lane _ 5 (by decide) (past_lane _ 4 (by decide) (past_lane _ 3 (by decide) (past_lane _ 2 (by decide) (past_lane _ 1 (by decide) (past_lane _ 0 (by decide) (filled_lane _ 7 zeros3' _ _)))))))) (v1474 A c arg1 harg1 arg2 harg2 arg5 harg5 arg8 harg8 arg13 harg13 arg22))

end Cert.Mix.CaseA

end
-- ==== Proof.Mix.CaseB.lean ====
/-
  The mixer's backward kernel at a middle grid point: what its stores leave, on real input blocks.
-/
module

public import proofs.«01_k».proof.Proof.Mix.Parts
public import proofs.«01_k».proof.Proof.Gen.KernelIdeal.Frame.RunB

@[expose] public section

set_option maxRecDepth 16384

noncomputable section

namespace Cert.Mix.CaseB

open Idealize.ShloMosaic Cert.KernelIdeal Cert.KernelIdeal.Gen

variable (A : Args) (T : ℕ → ℕ → ℕ → ℝ) (Tg Tb : ℕ → ℕ → ℝ) (Ts : ℕ → ℕ → ℕ → ℝ)
  (c : Dev nD) (i : grid0.Coords) (arg1 : Memref sig .tc .vmem S512x1024 .f32) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x128x128 .bf16) (harg12 : arg12.IsWhole) (arg13 : Memref sig .tc .vmem S8x128x128 .bf16) (harg13 : arg13.IsWhole) (arg14 : Memref sig .tc .vmem S8x128x128 .f32) (harg14 : arg14.IsWhole) (arg15 : Memref sig .tc .vmem S512x6144 .bf16) (harg15 : arg15.IsWhole) (arg16 : Memref sig .tc .vmem S512x1024 .f32) (harg16 : arg16.IsWhole) (arg17 : Memref sig .tc .vmem S8x128x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S8x128x128 .f32) (harg24 : arg24.IsWhole) (hc0 : ¬cond0_0 i) (hc1 : ¬cond0_1 i)

theorem r : kernelRun0_B.sl.r (F := Ideal) c arg1 harg1 arg2 harg2 (in0 A) (in1 A)
    = r2 .f32 512 1024 (dm A) := by
  unfold kernelRun0_B.sl.r
  rw [rd_rows, rd_square]
  exact pay14 A

theorem r_1 : kernelRun0_B.sl.r_1 (F := Ideal) c arg8 harg8 (in7 A)
    = r2 .f32 512 1024 (sa A) := by
  unfold kernelRun0_B.sl.r_1
  rw [rd_rows]
  exact pay15 _

theorem r_2 : kernelRun0_B.sl.r_2 (F := Ideal) c arg9 harg9 (in8 A)
    = r2 .f32 512 1024 (sb A) := by
  unfold kernelRun0_B.sl.r_2
  rw [rd_rows]
  exact pay16 _

theorem r_3 : kernelRun0_B.sl.r_3 (F := Ideal) c arg7 harg7 (in6 A)
    = r2 .f32 512 1024 fun r j => A.Z r (3072 + j) := by
  unfold kernelRun0_B.sl.r_3
  rw [rd_rows]
  exact pay17 _

theorem r_4 : kernelRun0_B.sl.r_4 (F := Ideal) c arg7 harg7 (in6 A)
    = r2 .f32 512 1024 fun r j => A.Z r (3072 + j) + 8943 / 200000 * (A.Z r (3072 + j) * A.Z r (3072 + j) * A.Z r (3072 + j)) := by
  unfold kernelRun0_B.sl.r_4
  rw [rd_rows]
  exact pay18 _

theorem r_5 : kernelRun0_B.sl.r_5 (F := Ideal) c arg7 harg7 (in6 A)
    = r2 .f32 512 1024 (gg A) := by
  unfold kernelRun0_B.sl.r_5
  rw [(r_3 A c arg7 harg7), (r_4 A c arg7 harg7), pay19]
  exact pay21 _

theorem r_6 : kernelRun0_B.sl.r_6 (F := Ideal) c arg3 harg3 arg4 harg4 (in2 A) (in3 A)
    = r2 .f32 512 1024 (hs A) := by
  unfold kernelRun0_B.sl.r_6
  rw [rd_rows, rd_rows]
  exact pay22 A

theorem r_7 : kernelRun0_B.sl.r_7 (F := Ideal) c arg1 harg1 arg2 harg2 arg8 harg8 (in0 A) (in1 A) (in7 A)
    = r2 .f32 512 1024 (dya A) := by
  unfold kernelRun0_B.sl.r_7
  rw [(r A c arg1 harg1 arg2 harg2), (r_1 A c arg8 harg8)]
  exact pay24 A

theorem r_8 : kernelRun0_B.sl.r_8 (F := Ideal) c arg1 harg1 arg2 harg2 arg3 harg3 arg4 harg4 arg7 harg7 arg9 harg9 (in0 A) (in1 A) (in2 A) (in3 A) (in6 A) (in8 A)
    = r2 .bf16 512 1024 (dz3 A) := by
  unfold kernelRun0_B.sl.r_8
  rw [(r A c arg1 harg1 arg2 harg2), (r_2 A c arg9 harg9), (r_3 A c arg7 harg7), (r_4 A c arg7 harg7), pay19, rd_rows, rd_rows]
  exact pay27 A

theorem r_9 : kernelRun0_B.sl.r_9 (F := Ideal) c arg5 harg5 (in4 A)
    = r2 .f32 512 1024 A.Z := by
  unfold kernelRun0_B.sl.r_9
  rw [rd_rows]
  exact pay29 _

theorem r_10 : kernelRun0_B.sl.r_10 (F := Ideal) c arg6 harg6 (in5 A)
    = r2 .f32 512 1024 fun r j => A.Z r (1024 + j) := by
  unfold kernelRun0_B.sl.r_10
  rw [rd_rows]
  exact pay30 _

theorem r_11 : kernelRun0_B.sl.r_11 (F := Ideal) c arg5 harg5 (in4 A)
    = r2 .f32 512 1024 fun r j => gt (A.Z r j) := by
  unfold kernelRun0_B.sl.r_11
  rw [rd_rows]
  exact pay31 _

theorem r_12 : kernelRun0_B.sl.r_12 (F := Ideal) c arg5 harg5 (in4 A)
    = r2 .f32 512 1024 (u A) := by
  unfold kernelRun0_B.sl.r_12
  rw [rd_rows]
  exact pay32 _

theorem r_13 : kernelRun0_B.sl.r_13 (F := Ideal) c arg6 harg6 (in5 A)
    = r2 .f32 512 1024 fun r j => gt (A.Z r (1024 + j)) := by
  unfold kernelRun0_B.sl.r_13
  rw [rd_rows]
  exact pay33 _

theorem r_14 : kernelRun0_B.sl.r_14 (F := Ideal) c arg6 harg6 (in5 A)
    = r2 .f32 512 1024 (gv A) := by
  unfold kernelRun0_B.sl.r_14
  rw [rd_rows]
  exact pay34 _

theorem r_15 : kernelRun0_B.sl.r_15 (F := Ideal) c arg6 harg6 (in5 A)
    = r1 .f32 512 (gvs A) := by
  unfold kernelRun0_B.sl.r_15
  rw [rd_rows]
  exact pay35 _

theorem v121 : kernelRun0_B.sl.v121 (F := Ideal) c arg6 harg6 (in5 A)
    = r2 .f32 512 1024 (xc A) := xc_of (r_14 A c arg6 harg6) (r_15 A c arg6 harg6)

theorem v129 : kernelRun0_B.sl.v129 (F := Ideal) c arg6 harg6 (in5 A)
    = r2 .f32 512 1 fun r _ => rstd A r := rstd_of (r_14 A c arg6 harg6) (r_15 A c arg6 harg6)

theorem v131 : kernelRun0_B.sl.v131 (F := Ideal) c arg6 harg6 (in5 A)
    = r2 .f32 512 1024 (xh A) := xh_of (r_14 A c arg6 harg6) (r_15 A c arg6 harg6)

theorem v140 : kernelRun0_B.sl.v140 (F := Ideal) c arg6 harg6 arg10 harg10 arg11 harg11 (in5 A) (in9 A) (in10 A)
    = r2 .bf16 512 1024 (vb A) := vb_of (r_14 A c arg6 harg6) (r_15 A c arg6 harg6) (rd_row harg10 _ _) (rd_row harg11 _ _)

theorem ya_list : ∀ p ∈ kernelRun0_B.sl.HS2_32 (F := Ideal) c arg5 harg5 arg6 harg6 arg10 harg10 arg11 harg11 arg12 harg12 arg14 harg14 (in4 A) (in5 A) (in9 A) (in10 A) (in11 A) (in13 A),
    ∀ x, p.2 x = r2 .f32 512 1024 (ya A) (p.1.emb x) := by
  have U := (r_12 A c arg5 harg5)
  have V := (v140 A c arg6 harg6 arg10 harg10 arg11 harg11)
  unfold kernelRun0_B.sl.HS2_32
  simp only [List.forall_mem_cons]
  exact ⟨piece_of _ (times_mixed A 3 7 _ U V (rd_headb 7 _ _ _) (rd_head 7 _ _ _)),
    piece_of _ (times_mixed A 3 6 _ U V (rd_headb 6 _ _ _) (rd_head 6 _ _ _)),
    piece_of _ (times_mixed A 3 5 _ U V (rd_headb 5 _ _ _) (rd_head 5 _ _ _)),
    piece_of _ (times_mixed A 3 4 _ U V (rd_headb 4 _ _ _) (rd_head 4 _ _ _)),
    piece_of _ (times_mixed A 3 3 _ U V (rd_headb 3 _ _ _) (rd_head 3 _ _ _)),
    piece_of _ (times_mixed A 3 2 _ U V (rd_headb 2 _ _ _) (rd_head 2 _ _ _)),
    piece_of _ (times_mixed A 3 1 _ U V (rd_headb 1 _ _ _) (rd_head 1 _ _ _)),
    piece_of _ (times_mixed A 3 0 _ U V (rd_headb 0 _ _ _) (rd_head 0 _ _ _)),
    piece_of _ (times_mixed A 2 7 _ U V (rd_headb 7 _ _ _) (rd_head 7 _ _ _)),
    piece_of _ (times_mixed A 2 6 _ U V (rd_headb 6 _ _ _) (rd_head 6 _ _ _)),
    piece_of _ (times_mixed A 2 5 _ U V (rd_headb 5 _ _ _) (rd_head 5 _ _ _)),
    piece_of _ (times_mixed A 2 4 _ U V (rd_headb 4 _ _ _) (rd_head 4 _ _ _)),
    piece_of _ (times_mixed A 2 3 _ U V (rd_headb 3 _ _ _) (rd_head 3 _ _ _)),
    piece_of _ (times_mixed A 2 2 _ U V (rd_headb 2 _ _ _) (rd_head 2 _ _ _)),
    piece_of _ (times_mixed A 2 1 _ U V (rd_headb 1 _ _ _) (rd_head 1 _ _ _)),
    piece_of _ (times_mixed A 2 0 _ U V (rd_headb 0 _ _ _) (rd_head 0 _ _ _)),
    piece_of _ (times_mixed A 1 7 _ U V (rd_headb 7 _ _ _) (rd_head 7 _ _ _)),
    piece_of _ (times_mixed A 1 6 _ U V (rd_headb 6 _ _ _) (rd_head 6 _ _ _)),
    piece_of _ (times_mixed A 1 5 _ U V (rd_headb 5 _ _ _) (rd_head 5 _ _ _)),
    piece_of _ (times_mixed A 1 4 _ U V (rd_headb 4 _ _ _) (rd_head 4 _ _ _)),
    piece_of _ (times_mixed A 1 3 _ U V (rd_headb 3 _ _ _) (rd_head 3 _ _ _)),
    piece_of _ (times_mixed A 1 2 _ U V (rd_headb 2 _ _ _) (rd_head 2 _ _ _)),
    piece_of _ (times_mixed A 1 1 _ U V (rd_headb 1 _ _ _) (rd_head 1 _ _ _)),
    piece_of _ (times_mixed A 1 0 _ U V (rd_headb 0 _ _ _) (rd_head 0 _ _ _)),
    piece_of _ (times_mixed A 0 7 _ U V (rd_headb 7 _ _ _) (rd_head 7 _ _ _)),
    piece_of _ (times_mixed A 0 6 _ U V (rd_headb 6 _ _ _) (rd_head 6 _ _ _)),
    piece_of _ (times_mixed A 0 5 _ U V (rd_headb 5 _ _ _) (rd_head 5 _ _ _)),
    piece_of _ (times_mixed A 0 4 _ U V (rd_headb 4 _ _ _) (rd_head 4 _ _ _)),
    piece_of _ (times_mixed A 0 3 _ U V (rd_headb 3 _ _ _) (rd_head 3 _ _ _)),
    piece_of _ (times_mixed A 0 2 _ U V (rd_headb 2 _ _ _) (rd_head 2 _ _ _)),
    piece_of _ (times_mixed A 0 1 _ U V (rd_headb 1 _ _ _) (rd_head 1 _ _ _)),
    piece_of _ (times_mixed A 0 0 _ U V (rd_headb 0 _ _ _) (rd_head 0 _ _ _)),
    fun _ h => absurd h List.not_mem_nil⟩

theorem du_list : ∀ p ∈ kernelRun0_B.sl.HS0_32 (F := Ideal) c arg1 harg1 arg2 harg2 arg6 harg6 arg8 harg8 arg10 harg10 arg11 harg11 arg12 harg12 arg14 harg14 (in0 A) (in1 A) (in5 A) (in7 A) (in9 A) (in10 A) (in11 A) (in13 A),
    ∀ x, p.2 x = r2 .f32 512 1024 (du A) (p.1.emb x) := by
  have V := (v140 A c arg6 harg6 arg10 harg10 arg11 harg11)
  have D := (r_7 A c arg1 harg1 arg2 harg2 arg8 harg8)
  unfold kernelRun0_B.sl.HS0_32
  simp only [List.forall_mem_cons]
  exact ⟨piece_of _ (times_mixed A 3 7 _ D V (rd_headb 7 _ _ _) (rd_head 7 _ _ _)),
    piece_of _ (times_mixed A 3 6 _ D V (rd_headb 6 _ _ _) (rd_head 6 _ _ _)),
    piece_of _ (times_mixed A 3 5 _ D V (rd_headb 5 _ _ _) (rd_head 5 _ _ _)),
    piece_of _ (times_mixed A 3 4 _ D V (rd_headb 4 _ _ _) (rd_head 4 _ _ _)),
    piece_of _ (times_mixed A 3 3 _ D V (rd_headb 3 _ _ _) (rd_head 3 _ _ _)),
    piece_of _ (times_mixed A 3 2 _ D V (rd_headb 2 _ _ _) (rd_head 2 _ _ _)),
    piece_of _ (times_mixed A 3 1 _ D V (rd_headb 1 _ _ _) (rd_head 1 _ _ _)),
    piece_of _ (times_mixed A 3 0 _ D V (rd_headb 0 _ _ _) (rd_head 0 _ _ _)),
    piece_of _ (times_mixed A 2 7 _ D V (rd_headb 7 _ _ _) (rd_head 7 _ _ _)),
    piece_of _ (times_mixed A 2 6 _ D V (rd_headb 6 _ _ _) (rd_head 6 _ _ _)),
    piece_of _ (times_mixed A 2 5 _ D V (rd_headb 5 _ _ _) (rd_head 5 _ _ _)),
    piece_of _ (times_mixed A 2 4 _ D V (rd_headb 4 _ _ _) (rd_head 4 _ _ _)),
    piece_of _ (times_mixed A 2 3 _ D V (rd_headb 3 _ _ _) (rd_head 3 _ _ _)),
    piece_of _ (times_mixed A 2 2 _ D V (rd_headb 2 _ _ _) (rd_head 2 _ _ _)),
    piece_of _ (times_mixed A 2 1 _ D V (rd_headb 1 _ _ _) (rd_head 1 _ _ _)),
    piece_of _ (times_mixed A 2 0 _ D V (rd_headb 0 _ _ _) (rd_head 0 _ _ _)),
    piece_of _ (times_mixed A 1 7 _ D V (rd_headb 7 _ _ _) (rd_head 7 _ _ _)),
    piece_of _ (times_mixed A 1 6 _ D V (rd_headb 6 _ _ _) (rd_head 6 _ _ _)),
    piece_of _ (times_mixed A 1 5 _ D V (rd_headb 5 _ _ _) (rd_head 5 _ _ _)),
    piece_of _ (times_mixed A 1 4 _ D V (rd_headb 4 _ _ _) (rd_head 4 _ _ _)),
    piece_of _ (times_mixed A 1 3 _ D V (rd_headb 3 _ _ _) (rd_head 3 _ _ _)),
    piece_of _ (times_mixed A 1 2 _ D V (rd_headb 2 _ _ _) (rd_head 2 _ _ _)),
    piece_of _ (times_mixed A 1 1 _ D V (rd_headb 1 _ _ _) (rd_head 1 _ _ _)),
    piece_of _ (times_mixed A 1 0 _ D V (rd_headb 0 _ _ _) (rd_head 0 _ _ _)),
    piece_of _ (times_mixed A 0 7 _ D V (rd_headb 7 _ _ _) (rd_head 7 _ _ _)),
    piece_of _ (times_mixed A 0 6 _ D V (rd_headb 6 _ _ _) (rd_head 6 _ _ _)),
    piece_of _ (times_mixed A 0 5 _ D V (rd_headb 5 _ _ _) (rd_head 5 _ _ _)),
    piece_of _ (times_mixed A 0 4 _ D V (rd_headb 4 _ _ _) (rd_head 4 _ _ _)),
    piece_of _ (times_mixed A 0 3 _ D V (rd_headb 3 _ _ _) (rd_head 3 _ _ _)),
    piece_of _ (times_mixed A 0 2 _ D V (rd_headb 2 _ _ _) (rd_head 2 _ _ _)),
    piece_of _ (times_mixed A 0 1 _ D V (rd_headb 1 _ _ _) (rd_head 1 _ _ _)),
    piece_of _ (times_mixed A 0 0 _ D V (rd_headb 0 _ _ _) (rd_head 0 _ _ _)),
    fun _ h => absurd h List.not_mem_nil⟩

theorem dv_list : ∀ p ∈ kernelRun0_B.sl.HS1_32 (F := Ideal) c arg1 harg1 arg2 harg2 arg5 harg5 arg8 harg8 arg13 harg13 (in0 A) (in1 A) (in4 A) (in7 A) (in12 A),
    ∀ x, p.2 x = r2 .f32 512 1024 (dv A) (p.1.emb x) := by
  have U := (r_12 A c arg5 harg5)
  have D := (r_7 A c arg1 harg1 arg2 harg2 arg8 harg8)
  unfold kernelRun0_B.sl.HS1_32
  simp only [List.forall_mem_cons]
  exact ⟨piece_of _ (dv_block A 3 7 D U (rd_headb 7 _ _ _)),
    piece_of _ (dv_block A 3 6 D U (rd_headb 6 _ _ _)),
    piece_of _ (dv_block A 3 5 D U (rd_headb 5 _ _ _)),
    piece_of _ (dv_block A 3 4 D U (rd_headb 4 _ _ _)),
    piece_of _ (dv_block A 3 3 D U (rd_headb 3 _ _ _)),
    piece_of _ (dv_block A 3 2 D U (rd_headb 2 _ _ _)),
    piece_of _ (dv_block A 3 1 D U (rd_headb 1 _ _ _)),
    piece_of _ (dv_block A 3 0 D U (rd_headb 0 _ _ _)),
    piece_of _ (dv_block A 2 7 D U (rd_headb 7 _ _ _)),
    piece_of _ (dv_block A 2 6 D U (rd_headb 6 _ _ _)),
    piece_of _ (dv_block A 2 5 D U (rd_headb 5 _ _ _)),
    piece_of _ (dv_block A 2 4 D U (rd_headb 4 _ _ _)),
    piece_of _ (dv_block A 2 3 D U (rd_headb 3 _ _ _)),
    piece_of _ (dv_block A 2 2 D U (rd_headb 2 _ _ _)),
    piece_of _ (dv_block A 2 1 D U (rd_headb 1 _ _ _)),
    piece_of _ (dv_block A 2 0 D U (rd_headb 0 _ _ _)),
    piece_of _ (dv_block A 1 7 D U (rd_headb 7 _ _ _)),
    piece_of _ (dv_block A 1 6 D U (rd_headb 6 _ _ _)),
    piece_of _ (dv_block A 1 5 D U (rd_headb 5 _ _ _)),
    piece_of _ (dv_block A 1 4 D U (rd_headb 4 _ _ _)),
    piece_of _ (dv_block A 1 3 D U (rd_headb 3 _ _ _)),
    piece_of _ (dv_block A 1 2 D U (rd_headb 2 _ _ _)),
    piece_of _ (dv_block A 1 1 D U (rd_headb 1 _ _ _)),
    piece_of _ (dv_block A 1 0 D U (rd_headb 0 _ _ _)),
    piece_of _ (dv_block A 0 7 D U (rd_headb 7 _ _ _)),
    piece_of _ (dv_block A 0 6 D U (rd_headb 6 _ _ _)),
    piece_of _ (dv_block A 0 5 D U (rd_headb 5 _ _ _)),
    piece_of _ (dv_block A 0 4 D U (rd_headb 4 _ _ _)),
    piece_of _ (dv_block A 0 3 D U (rd_headb 3 _ _ _)),
    piece_of _ (dv_block A 0 2 D U (rd_headb 2 _ _ _)),
    piece_of _ (dv_block A 0 1 D U (rd_headb 1 _ _ _)),
    piece_of _ (dv_block A 0 0 D U (rd_headb 0 _ _ _)),
    fun _ h => absurd h List.not_mem_nil⟩

theorem v1421 : kernelRun0_B.sl.v1421 (F := Ideal) c arg5 harg5 arg6 harg6 arg10 harg10 arg11 harg11 arg12 harg12 arg14 harg14 arg23 (in4 A) (in5 A) (in9 A) (in10 A) (in11 A) (in13 A)
    = r2 .f32 512 1024 (ya A) := rd_filled _ (by apply ya_list) (View.cover_of_tiledL (s := S512x1024) _ S128x128.size (by sl_kernel_rfl)) _

theorem v1429 : kernelRun0_B.sl.v1429 (F := Ideal) c arg1 harg1 arg2 harg2 arg5 harg5 arg8 harg8 arg13 harg13 arg22 (in0 A) (in1 A) (in4 A) (in7 A) (in12 A)
    = r2 .f32 512 1024 (dv A) := rd_filled _ (by apply dv_list) (View.cover_of_tiledL (s := S512x1024) _ S128x128.size (by sl_kernel_rfl)) _

theorem v1535 : kernelRun0_B.sl.v1535 (F := Ideal) c arg1 harg1 arg2 harg2 arg6 harg6 arg8 harg8 arg10 harg10 arg11 harg11 arg12 harg12 arg14 harg14 arg21 (in0 A) (in1 A) (in5 A) (in7 A) (in9 A) (in10 A) (in11 A) (in13 A)
    = r2 .f32 512 1024 (du A) := rd_filled _ (by apply du_list) (View.cover_of_tiledL (s := S512x1024) _ S128x128.size (by sl_kernel_rfl)) _

theorem v1427 : kernelRun0_B.sl.v1427 (F := Ideal) c arg1 harg1 arg2 harg2 arg5 harg5 arg6 harg6 arg8 harg8 arg10 harg10 arg11 harg11 arg12 harg12 arg14 harg14 arg23 (in0 A) (in1 A) (in4 A) (in5 A) (in7 A) (in9 A) (in10 A) (in11 A) (in13 A)
    = r2 .bf16 512 1024 (dz4 A) := dz4_of (r A c arg1 harg1 arg2 harg2) (r_1 A c arg8 harg8) (v1421 A c arg5 harg5 arg6 harg6 arg10 harg10 arg11 harg11 arg12 harg12 arg14 harg14 arg23)

theorem v1432 : kernelRun0_B.sl.v1432 (F := Ideal) c arg1 harg1 arg2 harg2 arg5 harg5 arg6 harg6 arg8 harg8 arg13 harg13 arg22 (in0 A) (in1 A) (in4 A) (in5 A) (in7 A) (in12 A)
    = r2 .f32 1 1024 fun _ j => ∑ r : Fin 512, dv A r j * xh A r j := lg_sums_of (v131 A c arg6 harg6) (v1429 A c arg1 harg1 arg2 harg2 arg5 harg5 arg8 harg8 arg13 harg13 arg22)

theorem v1474 : kernelRun0_B.sl.v1474 (F := Ideal) c arg1 harg1 arg2 harg2 arg5 harg5 arg8 harg8 arg13 harg13 arg22 (in0 A) (in1 A) (in4 A) (in7 A) (in12 A)
    = r2 .f32 1 1024 fun _ j => ∑ r : Fin 512, dv A r j := lb_sums_of (v1429 A c arg1 harg1 arg2 harg2 arg5 harg5 arg8 harg8 arg13 harg13 arg22)

theorem v1532 : kernelRun0_B.sl.v1532 (F := Ideal) c arg1 harg1 arg2 harg2 arg5 harg5 arg6 harg6 arg8 harg8 arg10 harg10 arg13 harg13 arg22 (in0 A) (in1 A) (in4 A) (in5 A) (in7 A) (in9 A) (in12 A)
    = r2 .f32 512 1024 fun r j => dxh A r j - mean (dxh A r) - xh A r j * mean fun k => dxh A r k * xh A r k := centred_of (v131 A c arg6 harg6) (v1429 A c arg1 harg1 arg2 harg2 arg5 harg5 arg8 harg8 arg13 harg13 arg22) (rd_row harg10 _ _)

theorem r_16 : kernelRun0_B.sl.r_16 (F := Ideal) c arg1 harg1 arg2 harg2 arg5 harg5 arg6 harg6 arg8 harg8 arg10 harg10 arg13 harg13 arg22 (in0 A) (in1 A) (in4 A) (in5 A) (in7 A) (in9 A) (in12 A)
    = r2 .f32 512 1024 (dgv A) := by
  unfold kernelRun0_B.sl.r_16
  skip
  exact dgv_of (v129 A c arg6 harg6) (v1532 A c arg1 harg1 arg2 harg2 arg5 harg5 arg6 harg6 arg8 harg8 arg10 harg10 arg13 harg13 arg22)

theorem out14 : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A) (r3 .f32 8 128 128 T) (r2 .f32 8 128 Tg) (r2 .f32 8 128 Tb) (r3 .f32 8 128 128 Ts)).1
    = r2 .bf16 512 6144 (dz A) := by
  refine funext fun y => View.canon_apply_of_pieces _ _ ?_ y
    (View.cover_of_tiledL (s := S512x6144) _ S512x1024.size (by sl_kernel_rfl) y)
  have e0 : k0_pay398 (kernelRun0_B.sl.r_9 (F := Ideal) c arg5 harg5 (in4 A)) (kernelRun0_B.sl.r_11 (F := Ideal) c arg5 harg5 (in4 A))
      (kernelRun0_B.sl.v1535 (F := Ideal) c arg1 harg1 arg2 harg2 arg6 harg6 arg8 harg8 arg10 harg10 arg11 harg11 arg12 harg12 arg14 harg14 arg21 (in0 A) (in1 A) (in5 A) (in7 A) (in9 A) (in10 A) (in11 A) (in13 A)) = r2 .bf16 512 1024 (dz0 A) := by
    rw [(r_9 A c arg5 harg5), (r_11 A c arg5 harg5), (v1535 A c arg1 harg1 arg2 harg2 arg6 harg6 arg8 harg8 arg10 harg10 arg11 harg11 arg12 harg12 arg14 harg14 arg21)]
    exact pay398 A
  have e1 : k0_pay403 (kernelRun0_B.sl.r_16 (F := Ideal) c arg1 harg1 arg2 harg2 arg5 harg5 arg6 harg6 arg8 harg8 arg10 harg10 arg13 harg13 arg22 (in0 A) (in1 A) (in4 A) (in5 A) (in7 A) (in9 A) (in12 A)) (kernelRun0_B.sl.r_17 (F := Ideal) c arg6 harg6 (in5 A))
      (kernelRun0_B.sl.r_18 (F := Ideal) c arg6 harg6 (in5 A))
      (kernelRun0_B.sl.r_19 (F := Ideal) c arg6 harg6 (in5 A)) k0_pay402 = r2 .bf16 512 1024 (dz1 A) := by
    unfold kernelRun0_B.sl.r_17 kernelRun0_B.sl.r_18 kernelRun0_B.sl.r_19
    rw [(r_16 A c arg1 harg1 arg2 harg2 arg5 harg5 arg6 harg6 arg8 harg8 arg10 harg10 arg13 harg13 arg22), (r_13 A c arg6 harg6), (r_10 A c arg6 harg6)]
    exact pay403 A
  have e5 : k0_pay28 (kernelRun0_B.sl.r (F := Ideal) c arg1 harg1 arg2 harg2 (in0 A) (in1 A)) (kernelRun0_B.sl.r_2 (F := Ideal) c arg9 harg9 (in8 A))
      (kernelRun0_B.sl.r_5 (F := Ideal) c arg7 harg7 (in6 A)) (kernelRun0_B.sl.r_6 (F := Ideal) c arg3 harg3 arg4 harg4 (in2 A) (in3 A)) = r2 .bf16 512 1024 (dz5 A) := by
    rw [(r A c arg1 harg1 arg2 harg2), (r_2 A c arg9 harg9), (r_5 A c arg7 harg7), (r_6 A c arg3 harg3 arg4 harg4)]
    exact pay28 A
  change ∀ p ∈ (_ :: _ :: _ :: _ :: _ :: _ :: [] : List (View.Piece (Elt Ideal) S512x6144 .bf16)), _
  simp only [List.forall_mem_cons]
  exact ⟨piece_of _ (strip_of 1024 dz_at1 e1), piece_of _ (strip_of 0 dz_at0 e0),
    piece_of _ (strip_of 4096 dz_at4 (v1427 A c arg1 harg1 arg2 harg2 arg5 harg5 arg6 harg6 arg8 harg8 arg10 harg10 arg11 harg11 arg12 harg12 arg14 harg14 arg23)), piece_of _ (strip_of 5120 dz_at5 e5),
    piece_of _ (strip_of 3072 dz_at3 (r_8 A c arg1 harg1 arg2 harg2 arg3 harg3 arg4 harg4 arg7 harg7 arg9 harg9)), piece_of _ (strip_of 2048 dz_at2 pay26),
    fun _ h => absurd h List.not_mem_nil⟩

theorem out15 : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A) (r3 .f32 8 128 128 T) (r2 .f32 8 128 Tg) (r2 .f32 8 128 Tb) (r3 .f32 8 128 128 Ts)).2.1
    = r2 .f32 512 1024 (dh A) := by
  refine (View.canon_unit_zero zero2 _ _).trans ?_
  show k0_pay25 (kernelRun0_B.sl.r (F := Ideal) c arg1 harg1 arg2 harg2 (in0 A) (in1 A)) (kernelRun0_B.sl.r_2 (F := Ideal) c arg9 harg9 (in8 A)) (kernelRun0_B.sl.r_3 (F := Ideal) c arg7 harg7 (in6 A))
    (kernelRun0_B.sl.r_4 (F := Ideal) c arg7 harg7 (in6 A)) k0_pay19 = _
  rw [(r A c arg1 harg1 arg2 harg2), (r_2 A c arg9 harg9), (r_3 A c arg7 harg7), (r_4 A c arg7 harg7), pay19]
  exact pay25 A

theorem out16 : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A) (r3 .f32 8 128 128 T) (r2 .f32 8 128 Tg) (r2 .f32 8 128 Tb) (r3 .f32 8 128 128 Ts)).2.2.1
    = r3 .f32 8 128 128 fun g => acc4 (wsTerm A g) (T g) := by
  have U := (r_12 A c arg5 harg5)
  have V := (v140 A c arg6 harg6 arg10 harg10 arg11 harg11)
  have D := (r_7 A c arg1 harg1 arg2 harg2 arg8 harg8)
  exact canon_heads _
    (dws_block A 3 0 _ (eighth _ ⟨by decide, by decide, by decide, by decide, by decide, by decide, by decide⟩ (dws_block A 2 0 _ (eighth _ ⟨by decide, by decide, by decide, by decide, by decide, by decide, by decide⟩ (dws_block A 1 0 _ (eighth _ ⟨by decide, by decide, by decide, by decide, by decide, by decide, by decide⟩ (dws_block A 0 0 _ (rd_head 0 _ _ _) D U V)) D U V)) D U V)) D U V)
    (dws_block A 3 1 _ (eighth _ ⟨by decide, by decide, by decide, by decide, by decide, by decide, by decide⟩ (dws_block A 2 1 _ (eighth _ ⟨by decide, by decide, by decide, by decide, by decide, by decide, by decide⟩ (dws_block A 1 1 _ (eighth _ ⟨by decide, by decide, by decide, by decide, by decide, by decide, by decide⟩ (dws_block A 0 1 _ (rd_head 1 _ _ _) D U V)) D U V)) D U V)) D U V)
    (dws_block A 3 2 _ (eighth _ ⟨by decide, by decide, by decide, by decide, by decide, by decide, by decide⟩ (dws_block A 2 2 _ (eighth _ ⟨by decide, by decide, by decide, by decide, by decide, by decide, by decide⟩ (dws_block A 1 2 _ (eighth _ ⟨by decide, by decide, by decide, by decide, by decide, by decide, by decide⟩ (dws_block A 0 2 _ (rd_head 2 _ _ _) D U V)) D U V)) D U V)) D U V)
    (dws_block A 3 3 _ (eighth _ ⟨by decide, by decide, by decide, by decide, by decide, by decide, by decide⟩ (dws_block A 2 3 _ (eighth _ ⟨by decide, by decide, by decide, by decide, by decide, by decide, by decide⟩ (dws_block A 1 3 _ (eighth _ ⟨by decide, by decide, by decide, by decide, by decide, by decide, by decide⟩ (dws_block A 0 3 _ (rd_head 3 _ _ _) D U V)) D U V)) D U V)) D U V)
    (dws_block A 3 4 _ (eighth _ ⟨by decide, by decide, by decide, by decide, by decide, by decide, by decide⟩ (dws_block A 2 4 _ (eighth _ ⟨by decide, by decide, by decide, by decide, by decide, by decide, by decide⟩ (dws_block A 1 4 _ (eighth _ ⟨by decide, by decide, by decide, by decide, by decide, by decide, by decide⟩ (dws_block A 0 4 _ (rd_head 4 _ _ _) D U V)) D U V)) D U V)) D U V)
    (dws_block A 3 5 _ (eighth _ ⟨by decide, by decide, by decide, by decide, by decide, by decide, by decide⟩ (dws_block A 2 5 _ (eighth _ ⟨by decide, by decide, by decide, by decide, by decide, by decide, by decide⟩ (dws_block A 1 5 _ (eighth _ ⟨by decide, by decide, by decide, by decide, by decide, by decide, by decide⟩ (dws_block A 0 5 _ (rd_head 5 _ _ _) D U V)) D U V)) D U V)) D U V)
    (dws_block A 3 6 _ (eighth _ ⟨by decide, by decide, by decide, by decide, by decide, by decide, by decide⟩ (dws_block A 2 6 _ (eighth _ ⟨by decide, by decide, by decide, by decide, by decide, by decide, by decide⟩ (dws_block A 1 6 _ (eighth _ ⟨by decide, by decide, by decide, by decide, by decide, by decide, by decide⟩ (dws_block A 0 6 _ (rd_head 6 _ _ _) D U V)) D U V)) D U V)) D U V)
    (dws_block A 3 7 _ (eighth _ ⟨by decide, by decide, by decide, by decide, by decide, by decide, by decide⟩ (dws_block A 2 7 _ (eighth _ ⟨by decide, by decide, by decide, by decide, by decide, by decide, by decide⟩ (dws_block A 1 7 _ (eighth _ ⟨by decide, by decide, by decide, by decide, by decide, by decide, by decide⟩ (dws_block A 0 7 _ (rd_head 7 _ _ _) D U V)) D U V)) D U V)) D U V)

theorem out3 : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A) (r3 .f32 8 128 128 T) (r2 .f32 8 128 Tg) (r2 .f32 8 128 Tb) (r3 .f32 8 128 128 Ts)).2.2.2.2.2.2.1
    = r3 .f32 8 128 128 fun g => acc4 (bsTerm A g) (Ts g) := by
  have U := (r_12 A c arg5 harg5)
  have D := (r_7 A c arg1 harg1 arg2 harg2 arg8 harg8)
  exact canon_heads _
    (dbs_block A 3 0 _ (eighth _ ⟨by decide, by decide, by decide, by decide, by decide, by decide, by decide⟩ (dbs_block A 2 0 _ (eighth _ ⟨by decide, by decide, by decide, by decide, by decide, by decide, by decide⟩ (dbs_block A 1 0 _ (eighth _ ⟨by decide, by decide, by decide, by decide, by decide, by decide, by decide⟩ (dbs_block A 0 0 _ (rd_head 0 _ _ _) D U)) D U)) D U)) D U)
    (dbs_block A 3 1 _ (eighth _ ⟨by decide, by decide, by decide, by decide, by decide, by decide, by decide⟩ (dbs_block A 2 1 _ (eighth _ ⟨by decide, by decide, by decide, by decide, by decide, by decide, by decide⟩ (dbs_block A 1 1 _ (eighth _ ⟨by decide, by decide, by decide, by decide, by decide, by decide, by decide⟩ (dbs_block A 0 1 _ (rd_head 1 _ _ _) D U)) D U)) D U)) D U)
    (dbs_block A 3 2 _ (eighth _ ⟨by decide, by decide, by decide, by decide, by decide, by decide, by decide⟩ (dbs_block A 2 2 _ (eighth _ ⟨by decide, by decide, by decide, by decide, by decide, by decide, by decide⟩ (dbs_block A 1 2 _ (eighth _ ⟨by decide, by decide, by decide, by decide, by decide, by decide, by decide⟩ (dbs_block A 0 2 _ (rd_head 2 _ _ _) D U)) D U)) D U)) D U)
    (dbs_block A 3 3 _ (eighth _ ⟨by decide, by decide, by decide, by decide, by decide, by decide, by decide⟩ (dbs_block A 2 3 _ (eighth _ ⟨by decide, by decide, by decide, by decide, by decide, by decide, by decide⟩ (dbs_block A 1 3 _ (eighth _ ⟨by decide, by decide, by decide, by decide, by decide, by decide, by decide⟩ (dbs_block A 0 3 _ (rd_head 3 _ _ _) D U)) D U)) D U)) D U)
    (dbs_block A 3 4 _ (eighth _ ⟨by decide, by decide, by decide, by decide, by decide, by decide, by decide⟩ (dbs_block A 2 4 _ (eighth _ ⟨by decide, by decide, by decide, by decide, by decide, by decide, by decide⟩ (dbs_block A 1 4 _ (eighth _ ⟨by decide, by decide, by decide, by decide, by decide, by decide, by decide⟩ (dbs_block A 0 4 _ (rd_head 4 _ _ _) D U)) D U)) D U)) D U)
    (dbs_block A 3 5 _ (eighth _ ⟨by decide, by decide, by decide, by decide, by decide, by decide, by decide⟩ (dbs_block A 2 5 _ (eighth _ ⟨by decide, by decide, by decide, by decide, by decide, by decide, by decide⟩ (dbs_block A 1 5 _ (eighth _ ⟨by decide, by decide, by decide, by decide, by decide, by decide, by decide⟩ (dbs_block A 0 5 _ (rd_head 5 _ _ _) D U)) D U)) D U)) D U)
    (dbs_block A 3 6 _ (eighth _ ⟨by decide, by decide, by decide, by decide, by decide, by decide, by decide⟩ (dbs_block A 2 6 _ (eighth _ ⟨by decide, by decide, by decide, by decide, by decide, by decide, by decide⟩ (dbs_block A 1 6 _ (eighth _ ⟨by decide, by decide, by decide, by decide, by decide, by decide, by decide⟩ (dbs_block A 0 6 _ (rd_head 6 _ _ _) D U)) D U)) D U)) D U)
    (dbs_block A 3 7 _ (eighth _ ⟨by decide, by decide, by decide, by decide, by decide, by decide, by decide⟩ (dbs_block A 2 7 _ (eighth _ ⟨by decide, by decide, by decide, by decide, by decide, by decide, by decide⟩ (dbs_block A 1 7 _ (eighth _ ⟨by decide, by decide, by decide, by decide, by decide, by decide, by decide⟩ (dbs_block A 0 7 _ (rd_head 7 _ _ _) D U)) D U)) D U)) D U)

theorem out18 : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A) (r3 .f32 8 128 128 T) (r2 .f32 8 128 Tg) (r2 .f32 8 128 Tb) (r3 .f32 8 128 128 Ts)).2.2.2.2.1
    = r2 .f32 8 128 fun g j => Tg g j + ∑ r : Fin 512, dv A r (128 * g + j) * xh A r (128 * g + j) := by
  exact canon_lanes _
    (lane_block 0 _ _ (rd_lane 0 _ _ _) (v1432 A c arg1 harg1 arg2 harg2 arg5 harg5 arg6 harg6 arg8 harg8 arg13 harg13 arg22))
    (lane_block 1 _ _ (rd_lane 1 _ _ _) (v1432 A c arg1 harg1 arg2 harg2 arg5 harg5 arg6 harg6 arg8 harg8 arg13 harg13 arg22))
    (lane_block 2 _ _ (rd_lane 2 _ _ _) (v1432 A c arg1 harg1 arg2 harg2 arg5 harg5 arg6 harg6 arg8 harg8 arg13 harg13 arg22))
    (lane_block 3 _ _ (rd_lane 3 _ _ _) (v1432 A c arg1 harg1 arg2 harg2 arg5 harg5 arg6 harg6 arg8 harg8 arg13 harg13 arg22))
    (lane_block 4 _ _ (rd_lane 4 _ _ _) (v1432 A c arg1 harg1 arg2 harg2 arg5 harg5 arg6 harg6 arg8 harg8 arg13 harg13 arg22))
    (lane_block 5 _ _ (rd_lane 5 _ _ _) (v1432 A c arg1 harg1 arg2 harg2 arg5 harg5 arg6 harg6 arg8 harg8 arg13 harg13 arg22))
    (lane_block 6 _ _ (rd_lane 6 _ _ _) (v1432 A c arg1 harg1 arg2 harg2 arg5 harg5 arg6 harg6 arg8 harg8 arg13 harg13 arg22))
    (lane_block 7 _ _ (rd_lane 7 _ _ _) (v1432 A c arg1 harg1 arg2 harg2 arg5 harg5 arg6 harg6 arg8 harg8 arg13 harg13 arg22))

theorem out19 : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A) (r3 .f32 8 128 128 T) (r2 .f32 8 128 Tg) (r2 .f32 8 128 Tb) (r3 .f32 8 128 128 Ts)).2.2.2.2.2.1
    = r2 .f32 8 128 fun g j => Tb g j + ∑ r : Fin 512, dv A r (128 * g + j) := by
  exact canon_lanes _
    (lane_block 0 _ _ (rd_lane 0 _ _ _) (v1474 A c arg1 harg1 arg2 harg2 arg5 harg5 arg8 harg8 arg13 harg13 arg22))
    (lane_block 1 _ _ (rd_lane 1 _ _ _) (v1474 A c arg1 harg1 arg2 harg2 arg5 harg5 arg8 harg8 arg13 harg13 arg22))
    (lane_block 2 _ _ (rd_lane 2 _ _ _) (v1474 A c arg1 harg1 arg2 harg2 arg5 harg5 arg8 harg8 arg13 harg13 arg22))
    (lane_block 3 _ _ (rd_lane 3 _ _ _) (v1474 A c arg1 harg1 arg2 harg2 arg5 harg5 arg8 harg8 arg13 harg13 arg22))
    (lane_block 4 _ _ (rd_lane 4 _ _ _) (v1474 A c arg1 harg1 arg2 harg2 arg5 harg5 arg8 harg8 arg13 harg13 arg22))
    (lane_block 5 _ _ (rd_lane 5 _ _ _) (v1474 A c arg1 harg1 arg2 harg2 arg5 harg5 arg8 harg8 arg13 harg13 arg22))
    (lane_block 6 _ _ (rd_lane 6 _ _ _) (v1474 A c arg1 harg1 arg2 harg2 arg5 harg5 arg8 harg8 arg13 harg13 arg22))
    (lane_block 7 _ _ (rd_lane 7 _ _ _) (v1474 A c arg1 harg1 arg2 harg2 arg5 harg5 arg8 harg8 arg13 harg13 arg22))

end Cert.Mix.CaseB

end
-- ==== Proof.Mix.CaseC.lean ====
/-
  The mixer's backward kernel at the last grid point: what its stores leave, on real input blocks.
-/
module

public import proofs.«01_k».proof.Proof.Mix.Parts
public import proofs.«01_k».proof.Proof.Gen.KernelIdeal.Frame.RunC

@[expose] public section

set_option maxRecDepth 16384

noncomputable section

namespace Cert.Mix.CaseC

open Idealize.ShloMosaic Cert.KernelIdeal Cert.KernelIdeal.Gen

variable (A : Args) (T : ℕ → ℕ → ℕ → ℝ) (Tg Tb : ℕ → ℕ → ℝ) (Ts : ℕ → ℕ → ℕ → ℝ)
  (c : Dev nD) (i : grid0.Coords) (arg1 : Memref sig .tc .vmem S512x1024 .f32) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S8x128x128 .bf16) (harg12 : arg12.IsWhole) (arg13 : Memref sig .tc .vmem S8x128x128 .bf16) (harg13 : arg13.IsWhole) (arg14 : Memref sig .tc .vmem S8x128x128 .f32) (harg14 : arg14.IsWhole) (arg15 : Memref sig .tc .vmem S512x6144 .bf16) (harg15 : arg15.IsWhole) (arg16 : Memref sig .tc .vmem S512x1024 .f32) (harg16 : arg16.IsWhole) (arg17 : Memref sig .tc .vmem S8x128x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S8x128x128 .f32) (harg24 : arg24.IsWhole) (hc0 : ¬cond0_0 i) (hc1 : cond0_1 i)

theorem r : kernelRun0_C.sl.r (F := Ideal) c arg1 harg1 arg2 harg2 (in0 A) (in1 A)
    = r2 .f32 512 1024 (dm A) := by
  unfold kernelRun0_C.sl.r
  rw [rd_rows, rd_square]
  exact pay14 A

theorem r_1 : kernelRun0_C.sl.r_1 (F := Ideal) c arg8 harg8 (in7 A)
    = r2 .f32 512 1024 (sa A) := by
  unfold kernelRun0_C.sl.r_1
  rw [rd_rows]
  exact pay15 _

theorem r_2 : kernelRun0_C.sl.r_2 (F := Ideal) c arg9 harg9 (in8 A)
    = r2 .f32 512 1024 (sb A) := by
  unfold kernelRun0_C.sl.r_2
  rw [rd_rows]
  exact pay16 _

theorem r_3 : kernelRun0_C.sl.r_3 (F := Ideal) c arg7 harg7 (in6 A)
    = r2 .f32 512 1024 fun r j => A.Z r (3072 + j) := by
  unfold kernelRun0_C.sl.r_3
  rw [rd_rows]
  exact pay17 _

theorem r_4 : kernelRun0_C.sl.r_4 (F := Ideal) c arg7 harg7 (in6 A)
    = r2 .f32 512 1024 fun r j => A.Z r (3072 + j) + 8943 / 200000 * (A.Z r (3072 + j) * A.Z r (3072 + j) * A.Z r (3072 + j)) := by
  unfold kernelRun0_C.sl.r_4
  rw [rd_rows]
  exact pay18 _

theorem r_5 : kernelRun0_C.sl.r_5 (F := Ideal) c arg7 harg7 (in6 A)
    = r2 .f32 512 1024 (gg A) := by
  unfold kernelRun0_C.sl.r_5
  rw [(r_3 A c arg7 harg7), (r_4 A c arg7 harg7), pay19]
  exact pay21 _

theorem r_6 : kernelRun0_C.sl.r_6 (F := Ideal) c arg3 harg3 arg4 harg4 (in2 A) (in3 A)
    = r2 .f32 512 1024 (hs A) := by
  unfold kernelRun0_C.sl.r_6
  rw [rd_rows, rd_rows]
  exact pay22 A

theorem r_7 : kernelRun0_C.sl.r_7 (F := Ideal) c arg1 harg1 arg2 harg2 arg8 harg8 (in0 A) (in1 A) (in7 A)
    = r2 .f32 512 1024 (dya A) := by
  unfold kernelRun0_C.sl.r_7
  rw [(r A c arg1 harg1 arg2 harg2), (r_1 A c arg8 harg8)]
  exact pay24 A

theorem r_8 : kernelRun0_C.sl.r_8 (F := Ideal) c arg1 harg1 arg2 harg2 arg3 harg3 arg4 harg4 arg7 harg7 arg9 harg9 (in0 A) (in1 A) (in2 A) (in3 A) (in6 A) (in8 A)
    = r2 .bf16 512 1024 (dz3 A) := by
  unfold kernelRun0_C.sl.r_8
  rw [(r A c arg1 harg1 arg2 harg2), (r_2 A c arg9 harg9), (r_3 A c arg7 harg7), (r_4 A c arg7 harg7), pay19, rd_rows, rd_rows]
  exact pay27 A

theorem r_9 : kernelRun0_C.sl.r_9 (F := Ideal) c arg5 harg5 (in4 A)
    = r2 .f32 512 1024 A.Z := by
  unfold kernelRun0_C.sl.r_9
  rw [rd_rows]
  exact pay29 _

theorem r_10 : kernelRun0_C.sl.r_10 (F := Ideal) c arg6 harg6 (in5 A)
    = r2 .f32 512 1024 fun r j => A.Z r (1024 + j) := by
  unfold kernelRun0_C.sl.r_10
  rw [rd_rows]
  exact pay30 _

theorem r_11 : kernelRun0_C.sl.r_11 (F := Ideal) c arg5 harg5 (in4 A)
    = r2 .f32 512 1024 fun r j => gt (A.Z r j) := by
  unfold kernelRun0_C.sl.r_11
  rw [rd_rows]
  exact pay31 _

theorem r_12 : kernelRun0_C.sl.r_12 (F := Ideal) c arg5 harg5 (in4 A)
    = r2 .f32 512 1024 (u A) := by
  unfold kernelRun0_C.sl.r_12
  rw [rd_rows]
  exact pay32 _

theorem r_13 : kernelRun0_C.sl.r_13 (F := Ideal) c arg6 harg6 (in5 A)
    = r2 .f32 512 1024 fun r j => gt (A.Z r (1024 + j)) := by
  unfold kernelRun0_C.sl.r_13
  rw [rd_rows]
  exact pay33 _

theorem r_14 : kernelRun0_C.sl.r_14 (F := Ideal) c arg6 harg6 (in5 A)
    = r2 .f32 512 1024 (gv A) := by
  unfold kernelRun0_C.sl.r_14
  rw [rd_rows]
  exact pay34 _

theorem r_15 : kernelRun0_C.sl.r_15 (F := Ideal) c arg6 harg6 (in5 A)
    = r1 .f32 512 (gvs A) := by
  unfold kernelRun0_C.sl.r_15
  rw [rd_rows]
  exact pay35 _

theorem v121 : kernelRun0_C.sl.v121 (F := Ideal) c arg6 harg6 (in5 A)
    = r2 .f32 512 1024 (xc A) := xc_of (r_14 A c arg6 harg6) (r_15 A c arg6 harg6)

theorem v129 : kernelRun0_C.sl.v129 (F := Ideal) c arg6 harg6 (in5 A)
    = r2 .f32 512 1 fun r _ => rstd A r := rstd_of (r_14 A c arg6 harg6) (r_15 A c arg6 harg6)

theorem v131 : kernelRun0_C.sl.v131 (F := Ideal) c arg6 harg6 (in5 A)
    = r2 .f32 512 1024 (xh A) := xh_of (r_14 A c arg6 harg6) (r_15 A c arg6 harg6)

theorem v140 : kernelRun0_C.sl.v140 (F := Ideal) c arg6 harg6 arg10 harg10 arg11 harg11 (in5 A) (in9 A) (in10 A)
    = r2 .bf16 512 1024 (vb A) := vb_of (r_14 A c arg6 harg6) (r_15 A c arg6 harg6) (rd_row harg10 _ _) (rd_row harg11 _ _)

theorem ya_list : ∀ p ∈ kernelRun0_C.sl.HS2_32 (F := Ideal) c arg5 harg5 arg6 harg6 arg10 harg10 arg11 harg11 arg12 harg12 arg14 harg14 (in4 A) (in5 A) (in9 A) (in10 A) (in11 A) (in13 A),
    ∀ x, p.2 x = r2 .f32 512 1024 (ya A) (p.1.emb x) := by
  have U := (r_12 A c arg5 harg5)
  have V := (v140 A c arg6 harg6 arg10 harg10 arg11 harg11)
  unfold kernelRun0_C.sl.HS2_32
  simp only [List.forall_mem_cons]
  exact ⟨piece_of _ (times_mixed A 3 7 _ U V (rd_headb 7 _ _ _) (rd_head 7 _ _ _)),
    piece_of _ (times_mixed A 3 6 _ U V (rd_headb 6 _ _ _) (rd_head 6 _ _ _)),
    piece_of _ (times_mixed A 3 5 _ U V (rd_headb 5 _ _ _) (rd_head 5 _ _ _)),
    piece_of _ (times_mixed A 3 4 _ U V (rd_headb 4 _ _ _) (rd_head 4 _ _ _)),
    piece_of _ (times_mixed A 3 3 _ U V (rd_headb 3 _ _ _) (rd_head 3 _ _ _)),
    piece_of _ (times_mixed A 3 2 _ U V (rd_headb 2 _ _ _) (rd_head 2 _ _ _)),
    piece_of _ (times_mixed A 3 1 _ U V (rd_headb 1 _ _ _) (rd_head 1 _ _ _)),
    piece_of _ (times_mixed A 3 0 _ U V (rd_headb 0 _ _ _) (rd_head 0 _ _ _)),
    piece_of _ (times_mixed A 2 7 _ U V (rd_headb 7 _ _ _) (rd_head 7 _ _ _)),
    piece_of _ (times_mixed A 2 6 _ U V (rd_headb 6 _ _ _) (rd_head 6 _ _ _)),
    piece_of _ (times_mixed A 2 5 _ U V (rd_headb 5 _ _ _) (rd_head 5 _ _ _)),
    piece_of _ (times_mixed A 2 4 _ U V (rd_headb 4 _ _ _) (rd_head 4 _ _ _)),
    piece_of _ (times_mixed A 2 3 _ U V (rd_headb 3 _ _ _) (rd_head 3 _ _ _)),
    piece_of _ (times_mixed A 2 2 _ U V (rd_headb 2 _ _ _) (rd_head 2 _ _ _)),
    piece_of _ (times_mixed A 2 1 _ U V (rd_headb 1 _ _ _) (rd_head 1 _ _ _)),
    piece_of _ (times_mixed A 2 0 _ U V (rd_headb 0 _ _ _) (rd_head 0 _ _ _)),
    piece_of _ (times_mixed A 1 7 _ U V (rd_headb 7 _ _ _) (rd_head 7 _ _ _)),
    piece_of _ (times_mixed A 1 6 _ U V (rd_headb 6 _ _ _) (rd_head 6 _ _ _)),
    piece_of _ (times_mixed A 1 5 _ U V (rd_headb 5 _ _ _) (rd_head 5 _ _ _)),
    piece_of _ (times_mixed A 1 4 _ U V (rd_headb 4 _ _ _) (rd_head 4 _ _ _)),
    piece_of _ (times_mixed A 1 3 _ U V (rd_headb 3 _ _ _) (rd_head 3 _ _ _)),
    piece_of _ (times_mixed A 1 2 _ U V (rd_headb 2 _ _ _) (rd_head 2 _ _ _)),
    piece_of _ (times_mixed A 1 1 _ U V (rd_headb 1 _ _ _) (rd_head 1 _ _ _)),
    piece_of _ (times_mixed A 1 0 _ U V (rd_headb 0 _ _ _) (rd_head 0 _ _ _)),
    piece_of _ (times_mixed A 0 7 _ U V (rd_headb 7 _ _ _) (rd_head 7 _ _ _)),
    piece_of _ (times_mixed A 0 6 _ U V (rd_headb 6 _ _ _) (rd_head 6 _ _ _)),
    piece_of _ (times_mixed A 0 5 _ U V (rd_headb 5 _ _ _) (rd_head 5 _ _ _)),
    piece_of _ (times_mixed A 0 4 _ U V (rd_headb 4 _ _ _) (rd_head 4 _ _ _)),
    piece_of _ (times_mixed A 0 3 _ U V (rd_headb 3 _ _ _) (rd_head 3 _ _ _)),
    piece_of _ (times_mixed A 0 2 _ U V (rd_headb 2 _ _ _) (rd_head 2 _ _ _)),
    piece_of _ (times_mixed A 0 1 _ U V (rd_headb 1 _ _ _) (rd_head 1 _ _ _)),
    piece_of _ (times_mixed A 0 0 _ U V (rd_headb 0 _ _ _) (rd_head 0 _ _ _)),
    fun _ h => absurd h List.not_mem_nil⟩

theorem du_list : ∀ p ∈ kernelRun0_C.sl.HS0_32 (F := Ideal) c arg1 harg1 arg2 harg2 arg6 harg6 arg8 harg8 arg10 harg10 arg11 harg11 arg12 harg12 arg14 harg14 (in0 A) (in1 A) (in5 A) (in7 A) (in9 A) (in10 A) (in11 A) (in13 A),
    ∀ x, p.2 x = r2 .f32 512 1024 (du A) (p.1.emb x) := by
  have V := (v140 A c arg6 harg6 arg10 harg10 arg11 harg11)
  have D := (r_7 A c arg1 harg1 arg2 harg2 arg8 harg8)
  unfold kernelRun0_C.sl.HS0_32
  simp only [List.forall_mem_cons]
  exact ⟨piece_of _ (times_mixed A 3 7 _ D V (rd_headb 7 _ _ _) (rd_head 7 _ _ _)),
    piece_of _ (times_mixed A 3 6 _ D V (rd_headb 6 _ _ _) (rd_head 6 _ _ _)),
    piece_of _ (times_mixed A 3 5 _ D V (rd_headb 5 _ _ _) (rd_head 5 _ _ _)),
    piece_of _ (times_mixed A 3 4 _ D V (rd_headb 4 _ _ _) (rd_head 4 _ _ _)),
    piece_of _ (times_mixed A 3 3 _ D V (rd_headb 3 _ _ _) (rd_head 3 _ _ _)),
    piece_of _ (times_mixed A 3 2 _ D V (rd_headb 2 _ _ _) (rd_head 2 _ _ _)),
    piece_of _ (times_mixed A 3 1 _ D V (rd_headb 1 _ _ _) (rd_head 1 _ _ _)),
    piece_of _ (times_mixed A 3 0 _ D V (rd_headb 0 _ _ _) (rd_head 0 _ _ _)),
    piece_of _ (times_mixed A 2 7 _ D V (rd_headb 7 _ _ _) (rd_head 7 _ _ _)),
    piece_of _ (times_mixed A 2 6 _ D V (rd_headb 6 _ _ _) (rd_head 6 _ _ _)),
    piece_of _ (times_mixed A 2 5 _ D V (rd_headb 5 _ _ _) (rd_head 5 _ _ _)),
    piece_of _ (times_mixed A 2 4 _ D V (rd_headb 4 _ _ _) (rd_head 4 _ _ _)),
    piece_of _ (times_mixed A 2 3 _ D V (rd_headb 3 _ _ _) (rd_head 3 _ _ _)),
    piece_of _ (times_mixed A 2 2 _ D V (rd_headb 2 _ _ _) (rd_head 2 _ _ _)),
    piece_of _ (times_mixed A 2 1 _ D V (rd_headb 1 _ _ _) (rd_head 1 _ _ _)),
    piece_of _ (times_mixed A 2 0 _ D V (rd_headb 0 _ _ _) (rd_head 0 _ _ _)),
    piece_of _ (times_mixed A 1 7 _ D V (rd_headb 7 _ _ _) (rd_head 7 _ _ _)),
    piece_of _ (times_mixed A 1 6 _ D V (rd_headb 6 _ _ _) (rd_head 6 _ _ _)),
    piece_of _ (times_mixed A 1 5 _ D V (rd_headb 5 _ _ _) (rd_head 5 _ _ _)),
    piece_of _ (times_mixed A 1 4 _ D V (rd_headb 4 _ _ _) (rd_head 4 _ _ _)),
    piece_of _ (times_mixed A 1 3 _ D V (rd_headb 3 _ _ _) (rd_head 3 _ _ _)),
    piece_of _ (times_mixed A 1 2 _ D V (rd_headb 2 _ _ _) (rd_head 2 _ _ _)),
    piece_of _ (times_mixed A 1 1 _ D V (rd_headb 1 _ _ _) (rd_head 1 _ _ _)),
    piece_of _ (times_mixed A 1 0 _ D V (rd_headb 0 _ _ _) (rd_head 0 _ _ _)),
    piece_of _ (times_mixed A 0 7 _ D V (rd_headb 7 _ _ _) (rd_head 7 _ _ _)),
    piece_of _ (times_mixed A 0 6 _ D V (rd_headb 6 _ _ _) (rd_head 6 _ _ _)),
    piece_of _ (times_mixed A 0 5 _ D V (rd_headb 5 _ _ _) (rd_head 5 _ _ _)),
    piece_of _ (times_mixed A 0 4 _ D V (rd_headb 4 _ _ _) (rd_head 4 _ _ _)),
    piece_of _ (times_mixed A 0 3 _ D V (rd_headb 3 _ _ _) (rd_head 3 _ _ _)),
    piece_of _ (times_mixed A 0 2 _ D V (rd_headb 2 _ _ _) (rd_head 2 _ _ _)),
    piece_of _ (times_mixed A 0 1 _ D V (rd_headb 1 _ _ _) (rd_head 1 _ _ _)),
    piece_of _ (times_mixed A 0 0 _ D V (rd_headb 0 _ _ _) (rd_head 0 _ _ _)),
    fun _ h => absurd h List.not_mem_nil⟩

theorem dv_list : ∀ p ∈ kernelRun0_C.sl.HS1_32 (F := Ideal) c arg1 harg1 arg2 harg2 arg5 harg5 arg8 harg8 arg13 harg13 (in0 A) (in1 A) (in4 A) (in7 A) (in12 A),
    ∀ x, p.2 x = r2 .f32 512 1024 (dv A) (p.1.emb x) := by
  have U := (r_12 A c arg5 harg5)
  have D := (r_7 A c arg1 harg1 arg2 harg2 arg8 harg8)
  unfold kernelRun0_C.sl.HS1_32
  simp only [List.forall_mem_cons]
  exact ⟨piece_of _ (dv_block A 3 7 D U (rd_headb 7 _ _ _)),
    piece_of _ (dv_block A 3 6 D U (rd_headb 6 _ _ _)),
    piece_of _ (dv_block A 3 5 D U (rd_headb 5 _ _ _)),
    piece_of _ (dv_block A 3 4 D U (rd_headb 4 _ _ _)),
    piece_of _ (dv_block A 3 3 D U (rd_headb 3 _ _ _)),
    piece_of _ (dv_block A 3 2 D U (rd_headb 2 _ _ _)),
    piece_of _ (dv_block A 3 1 D U (rd_headb 1 _ _ _)),
    piece_of _ (dv_block A 3 0 D U (rd_headb 0 _ _ _)),
    piece_of _ (dv_block A 2 7 D U (rd_headb 7 _ _ _)),
    piece_of _ (dv_block A 2 6 D U (rd_headb 6 _ _ _)),
    piece_of _ (dv_block A 2 5 D U (rd_headb 5 _ _ _)),
    piece_of _ (dv_block A 2 4 D U (rd_headb 4 _ _ _)),
    piece_of _ (dv_block A 2 3 D U (rd_headb 3 _ _ _)),
    piece_of _ (dv_block A 2 2 D U (rd_headb 2 _ _ _)),
    piece_of _ (dv_block A 2 1 D U (rd_headb 1 _ _ _)),
    piece_of _ (dv_block A 2 0 D U (rd_headb 0 _ _ _)),
    piece_of _ (dv_block A 1 7 D U (rd_headb 7 _ _ _)),
    piece_of _ (dv_block A 1 6 D U (rd_headb 6 _ _ _)),
    piece_of _ (dv_block A 1 5 D U (rd_headb 5 _ _ _)),
    piece_of _ (dv_block A 1 4 D U (rd_headb 4 _ _ _)),
    piece_of _ (dv_block A 1 3 D U (rd_headb 3 _ _ _)),
    piece_of _ (dv_block A 1 2 D U (rd_headb 2 _ _ _)),
    piece_of _ (dv_block A 1 1 D U (rd_headb 1 _ _ _)),
    piece_of _ (dv_block A 1 0 D U (rd_headb 0 _ _ _)),
    piece_of _ (dv_block A 0 7 D U (rd_headb 7 _ _ _)),
    piece_of _ (dv_block A 0 6 D U (rd_headb 6 _ _ _)),
    piece_of _ (dv_block A 0 5 D U (rd_headb 5 _ _ _)),
    piece_of _ (dv_block A 0 4 D U (rd_headb 4 _ _ _)),
    piece_of _ (dv_block A 0 3 D U (rd_headb 3 _ _ _)),
    piece_of _ (dv_block A 0 2 D U (rd_headb 2 _ _ _)),
    piece_of _ (dv_block A 0 1 D U (rd_headb 1 _ _ _)),
    piece_of _ (dv_block A 0 0 D U (rd_headb 0 _ _ _)),
    fun _ h => absurd h List.not_mem_nil⟩

theorem v1421 : kernelRun0_C.sl.v1421 (F := Ideal) c arg5 harg5 arg6 harg6 arg10 harg10 arg11 harg11 arg12 harg12 arg14 harg14 arg23 (in4 A) (in5 A) (in9 A) (in10 A) (in11 A) (in13 A)
    = r2 .f32 512 1024 (ya A) := rd_filled _ (by apply ya_list) (View.cover_of_tiledL (s := S512x1024) _ S128x128.size (by sl_kernel_rfl)) _

theorem v1429 : kernelRun0_C.sl.v1429 (F := Ideal) c arg1 harg1 arg2 harg2 arg5 harg5 arg8 harg8 arg13 harg13 arg22 (in0 A) (in1 A) (in4 A) (in7 A) (in12 A)
    = r2 .f32 512 1024 (dv A) := rd_filled _ (by apply dv_list) (View.cover_of_tiledL (s := S512x1024) _ S128x128.size (by sl_kernel_rfl)) _

theorem v1535 : kernelRun0_C.sl.v1535 (F := Ideal) c arg1 harg1 arg2 harg2 arg6 harg6 arg8 harg8 arg10 harg10 arg11 harg11 arg12 harg12 arg14 harg14 arg21 (in0 A) (in1 A) (in5 A) (in7 A) (in9 A) (in10 A) (in11 A) (in13 A)
    = r2 .f32 512 1024 (du A) := rd_filled _ (by apply du_list) (View.cover_of_tiledL (s := S512x1024) _ S128x128.size (by sl_kernel_rfl)) _

theorem v1427 : kernelRun0_C.sl.v1427 (F := Ideal) c arg1 harg1 arg2 harg2 arg5 harg5 arg6 harg6 arg8 harg8 arg10 harg10 arg11 harg11 arg12 harg12 arg14 harg14 arg23 (in0 A) (in1 A) (in4 A) (in5 A) (in7 A) (in9 A) (in10 A) (in11 A) (in13 A)
    = r2 .bf16 512 1024 (dz4 A) := dz4_of (r A c arg1 harg1 arg2 harg2) (r_1 A c arg8 harg8) (v1421 A c arg5 harg5 arg6 harg6 arg10 harg10 arg11 harg11 arg12 harg12 arg14 harg14 arg23)

theorem v1432 : kernelRun0_C.sl.v1432 (F := Ideal) c arg1 harg1 arg2 harg2 arg5 harg5 arg6 harg6 arg8 harg8 arg13 harg13 arg22 (in0 A) (in1 A) (in4 A) (in5 A) (in7 A) (in12 A)
    = r2 .f32 1 1024 fun _ j => ∑ r : Fin 512, dv A r j * xh A r j := lg_sums_of (v131 A c arg6 harg6) (v1429 A c arg1 harg1 arg2 harg2 arg5 harg5 arg8 harg8 arg13 harg13 arg22)

theorem v1474 : kernelRun0_C.sl.v1474 (F := Ideal) c arg1 harg1 arg2 harg2 arg5 harg5 arg8 harg8 arg13 harg13 arg22 (in0 A) (in1 A) (in4 A) (in7 A) (in12 A)
    = r2 .f32 1 1024 fun _ j => ∑ r : Fin 512, dv A r j := lb_sums_of (v1429 A c arg1 harg1 arg2 harg2 arg5 harg5 arg8 harg8 arg13 harg13 arg22)

theorem v1532 : kernelRun0_C.sl.v1532 (F := Ideal) c arg1 harg1 arg2 harg2 arg5 harg5 arg6 harg6 arg8 harg8 arg10 harg10 arg13 harg13 arg22 (in0 A) (in1 A) (in4 A) (in5 A) (in7 A) (in9 A) (in12 A)
    = r2 .f32 512 1024 fun r j => dxh A r j - mean (dxh A r) - xh A r j * mean fun k => dxh A r k * xh A r k := centred_of (v131 A c arg6 harg6) (v1429 A c arg1 harg1 arg2 harg2 arg5 harg5 arg8 harg8 arg13 harg13 arg22) (rd_row harg10 _ _)

theorem r_16 : kernelRun0_C.sl.r_16 (F := Ideal) c arg1 harg1 arg2 harg2 arg5 harg5 arg6 harg6 arg8 harg8 arg10 harg10 arg13 harg13 arg22 (in0 A) (in1 A) (in4 A) (in5 A) (in7 A) (in9 A) (in12 A)
    = r2 .f32 512 1024 (dgv A) := by
  unfold kernelRun0_C.sl.r_16
  skip
  exact dgv_of (v129 A c arg6 harg6) (v1532 A c arg1 harg1 arg2 harg2 arg5 harg5 arg6 harg6 arg8 harg8 arg10 harg10 arg13 harg13 arg22)

theorem out14 : View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A) (r3 .f32 8 128 128 T) (r2 .f32 8 128 Tg) (r2 .f32 8 128 Tb) (r3 .f32 8 128 128 Ts)).1
    = r2 .bf16 512 6144 (dz A) := by
  refine funext fun y => View.canon_apply_of_pieces _ _ ?_ y
    (View.cover_of_tiledL (s := S512x6144) _ S512x1024.size (by sl_kernel_rfl) y)
  have e0 : k0_pay398 (kernelRun0_C.sl.r_9 (F := Ideal) c arg5 harg5 (in4 A)) (kernelRun0_C.sl.r_11 (F := Ideal) c arg5 harg5 (in4 A))
      (kernelRun0_C.sl.v1535 (F := Ideal) c arg1 harg1 arg2 harg2 arg6 harg6 arg8 harg8 arg10 harg10 arg11 harg11 arg12 harg12 arg14 harg14 arg21 (in0 A) (in1 A) (in5 A) (in7 A) (in9 A) (in10 A) (in11 A) (in13 A)) = r2 .bf16 512 1024 (dz0 A) := by
    rw [(r_9 A c arg5 harg5), (r_11 A c arg5 harg5), (v1535 A c arg1 harg1 arg2 harg2 arg6 harg6 arg8 harg8 arg10 harg10 arg11 harg11 arg12 harg12 arg14 harg14 arg21)]
    exact pay398 A
  have e1 : k0_pay403 (kernelRun0_C.sl.r_16 (F := Ideal) c arg1 harg1 arg2 harg2 arg5 harg5 arg6 harg6 arg8 harg8 arg10 harg10 arg13 harg13 arg22 (in0 A) (in1 A) (in4 A) (in5 A) (in7 A) (in9 A) (in12 A)) (kernelRun0_C.sl.r_17 (F := Ideal) c arg6 harg6 (in5 A))
      (kernelRun0_C.sl.r_18 (F := Ideal) c arg6 harg6 (in5 A))
      (kernelRun0_C.sl.r_19 (F := Ideal) c arg6 harg6 (in5 A)) k0_pay402 = r2 .bf16 512 1024 (dz1 A) := by
    unfold kernelRun0_C.sl.r_17 kernelRun0_C.sl.r_18 kernelRun0_C.sl.r_19
    rw [(r_16 A c arg1 harg1 arg2 harg2 arg5 harg5 arg6 harg6 arg8 harg8 arg10 harg10 arg13 harg13 arg22), (r_13 A c arg6 harg6), (r_10 A c arg6 harg6)]
    exact pay403 A
  have e5 : k0_pay28 (kernelRun0_C.sl.r (F := Ideal) c arg1 harg1 arg2 harg2 (in0 A) (in1 A)) (kernelRun0_C.sl.r_2 (F := Ideal) c arg9 harg9 (in8 A))
      (kernelRun0_C.sl.r_5 (F := Ideal) c arg7 harg7 (in6 A)) (kernelRun0_C.sl.r_6 (F := Ideal) c arg3 harg3 arg4 harg4 (in2 A) (in3 A)) = r2 .bf16 512 1024 (dz5 A) := by
    rw [(r A c arg1 harg1 arg2 harg2), (r_2 A c arg9 harg9), (r_5 A c arg7 harg7), (r_6 A c arg3 harg3 arg4 harg4)]
    exact pay28 A
  change ∀ p ∈ (_ :: _ :: _ :: _ :: _ :: _ :: [] : List (View.Piece (Elt Ideal) S512x6144 .bf16)), _
  simp only [List.forall_mem_cons]
  exact ⟨piece_of _ (strip_of 1024 dz_at1 e1), piece_of _ (strip_of 0 dz_at0 e0),
    piece_of _ (strip_of 4096 dz_at4 (v1427 A c arg1 harg1 arg2 harg2 arg5 harg5 arg6 harg6 arg8 harg8 arg10 harg10 arg11 harg11 arg12 harg12 arg14 harg14 arg23)), piece_of _ (strip_of 5120 dz_at5 e5),
    piece_of _ (strip_of 3072 dz_at3 (r_8 A c arg1 harg1 arg2 harg2 arg3 harg3 arg4 harg4 arg7 harg7 arg9 harg9)), piece_of _ (strip_of 2048 dz_at2 pay26),
    fun _ h => absurd h List.not_mem_nil⟩

theorem out15 : View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A) (r3 .f32 8 128 128 T) (r2 .f32 8 128 Tg) (r2 .f32 8 128 Tb) (r3 .f32 8 128 128 Ts)).2.1
    = r2 .f32 512 1024 (dh A) := by
  refine (View.canon_unit_zero zero2 _ _).trans ?_
  show k0_pay25 (kernelRun0_C.sl.r (F := Ideal) c arg1 harg1 arg2 harg2 (in0 A) (in1 A)) (kernelRun0_C.sl.r_2 (F := Ideal) c arg9 harg9 (in8 A)) (kernelRun0_C.sl.r_3 (F := Ideal) c arg7 harg7 (in6 A))
    (kernelRun0_C.sl.r_4 (F := Ideal) c arg7 harg7 (in6 A)) k0_pay19 = _
  rw [(r A c arg1 harg1 arg2 harg2), (r_2 A c arg9 harg9), (r_3 A c arg7 harg7), (r_4 A c arg7 harg7), pay19]
  exact pay25 A

theorem out16 : View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A) (r3 .f32 8 128 128 T) (r2 .f32 8 128 Tg) (r2 .f32 8 128 Tb) (r3 .f32 8 128 128 Ts)).2.2.1
    = r3 .f32 8 128 128 fun g => acc4 (wsTerm A g) (T g) := by
  have U := (r_12 A c arg5 harg5)
  have V := (v140 A c arg6 harg6 arg10 harg10 arg11 harg11)
  have D := (r_7 A c arg1 harg1 arg2 harg2 arg8 harg8)
  exact canon_heads _
    (dws_block A 3 0 _ (eighth _ ⟨by decide, by decide, by decide, by decide, by decide, by decide, by decide⟩ (dws_block A 2 0 _ (eighth _ ⟨by decide, by decide, by decide, by decide, by decide, by decide, by decide⟩ (dws_block A 1 0 _ (eighth _ ⟨by decide, by decide, by decide, by decide, by decide, by decide, by decide⟩ (dws_block A 0 0 _ (rd_head 0 _ _ _) D U V)) D U V)) D U V)) D U V)
    (dws_block A 3 1 _ (eighth _ ⟨by decide, by decide, by decide, by decide, by decide, by decide, by decide⟩ (dws_block A 2 1 _ (eighth _ ⟨by decide, by decide, by decide, by decide, by decide, by decide, by decide⟩ (dws_block A 1 1 _ (eighth _ ⟨by decide, by decide, by decide, by decide, by decide, by decide, by decide⟩ (dws_block A 0 1 _ (rd_head 1 _ _ _) D U V)) D U V)) D U V)) D U V)
    (dws_block A 3 2 _ (eighth _ ⟨by decide, by decide, by decide, by decide, by decide, by decide, by decide⟩ (dws_block A 2 2 _ (eighth _ ⟨by decide, by decide, by decide, by decide, by decide, by decide, by decide⟩ (dws_block A 1 2 _ (eighth _ ⟨by decide, by decide, by decide, by decide, by decide, by decide, by decide⟩ (dws_block A 0 2 _ (rd_head 2 _ _ _) D U V)) D U V)) D U V)) D U V)
    (dws_block A 3 3 _ (eighth _ ⟨by decide, by decide, by decide, by decide, by decide, by decide, by decide⟩ (dws_block A 2 3 _ (eighth _ ⟨by decide, by decide, by decide, by decide, by decide, by decide, by decide⟩ (dws_block A 1 3 _ (eighth _ ⟨by decide, by decide, by decide, by decide, by decide, by decide, by decide⟩ (dws_block A 0 3 _ (rd_head 3 _ _ _) D U V)) D U V)) D U V)) D U V)
    (dws_block A 3 4 _ (eighth _ ⟨by decide, by decide, by decide, by decide, by decide, by decide, by decide⟩ (dws_block A 2 4 _ (eighth _ ⟨by decide, by decide, by decide, by decide, by decide, by decide, by decide⟩ (dws_block A 1 4 _ (eighth _ ⟨by decide, by decide, by decide, by decide, by decide, by decide, by decide⟩ (dws_block A 0 4 _ (rd_head 4 _ _ _) D U V)) D U V)) D U V)) D U V)
    (dws_block A 3 5 _ (eighth _ ⟨by decide, by decide, by decide, by decide, by decide, by decide, by decide⟩ (dws_block A 2 5 _ (eighth _ ⟨by decide, by decide, by decide, by decide, by decide, by decide, by decide⟩ (dws_block A 1 5 _ (eighth _ ⟨by decide, by decide, by decide, by decide, by decide, by decide, by decide⟩ (dws_block A 0 5 _ (rd_head 5 _ _ _) D U V)) D U V)) D U V)) D U V)
    (dws_block A 3 6 _ (eighth _ ⟨by decide, by decide, by decide, by decide, by decide, by decide, by decide⟩ (dws_block A 2 6 _ (eighth _ ⟨by decide, by decide, by decide, by decide, by decide, by decide, by decide⟩ (dws_block A 1 6 _ (eighth _ ⟨by decide, by decide, by decide, by decide, by decide, by decide, by decide⟩ (dws_block A 0 6 _ (rd_head 6 _ _ _) D U V)) D U V)) D U V)) D U V)
    (dws_block A 3 7 _ (eighth _ ⟨by decide, by decide, by decide, by decide, by decide, by decide, by decide⟩ (dws_block A 2 7 _ (eighth _ ⟨by decide, by decide, by decide, by decide, by decide, by decide, by decide⟩ (dws_block A 1 7 _ (eighth _ ⟨by decide, by decide, by decide, by decide, by decide, by decide, by decide⟩ (dws_block A 0 7 _ (rd_head 7 _ _ _) D U V)) D U V)) D U V)) D U V)

theorem out3 : View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A) (r3 .f32 8 128 128 T) (r2 .f32 8 128 Tg) (r2 .f32 8 128 Tb) (r3 .f32 8 128 128 Ts)).2.2.2.2.2.2.1
    = r3 .f32 8 128 128 fun g => acc4 (bsTerm A g) (Ts g) := by
  have U := (r_12 A c arg5 harg5)
  have D := (r_7 A c arg1 harg1 arg2 harg2 arg8 harg8)
  exact canon_heads _
    (dbs_block A 3 0 _ (eighth _ ⟨by decide, by decide, by decide, by decide, by decide, by decide, by decide⟩ (dbs_block A 2 0 _ (eighth _ ⟨by decide, by decide, by decide, by decide, by decide, by decide, by decide⟩ (dbs_block A 1 0 _ (eighth _ ⟨by decide, by decide, by decide, by decide, by decide, by decide, by decide⟩ (dbs_block A 0 0 _ (rd_head 0 _ _ _) D U)) D U)) D U)) D U)
    (dbs_block A 3 1 _ (eighth _ ⟨by decide, by decide, by decide, by decide, by decide, by decide, by decide⟩ (dbs_block A 2 1 _ (eighth _ ⟨by decide, by decide, by decide, by decide, by decide, by decide, by decide⟩ (dbs_block A 1 1 _ (eighth _ ⟨by decide, by decide, by decide, by decide, by decide, by decide, by decide⟩ (dbs_block A 0 1 _ (rd_head 1 _ _ _) D U)) D U)) D U)) D U)
    (dbs_block A 3 2 _ (eighth _ ⟨by decide, by decide, by decide, by decide, by decide, by decide, by decide⟩ (dbs_block A 2 2 _ (eighth _ ⟨by decide, by decide, by decide, by decide, by decide, by decide, by decide⟩ (dbs_block A 1 2 _ (eighth _ ⟨by decide, by decide, by decide, by decide, by decide, by decide, by decide⟩ (dbs_block A 0 2 _ (rd_head 2 _ _ _) D U)) D U)) D U)) D U)
    (dbs_block A 3 3 _ (eighth _ ⟨by decide, by decide, by decide, by decide, by decide, by decide, by decide⟩ (dbs_block A 2 3 _ (eighth _ ⟨by decide, by decide, by decide, by decide, by decide, by decide, by decide⟩ (dbs_block A 1 3 _ (eighth _ ⟨by decide, by decide, by decide, by decide, by decide, by decide, by decide⟩ (dbs_block A 0 3 _ (rd_head 3 _ _ _) D U)) D U)) D U)) D U)
    (dbs_block A 3 4 _ (eighth _ ⟨by decide, by decide, by decide, by decide, by decide, by decide, by decide⟩ (dbs_block A 2 4 _ (eighth _ ⟨by decide, by decide, by decide, by decide, by decide, by decide, by decide⟩ (dbs_block A 1 4 _ (eighth _ ⟨by decide, by decide, by decide, by decide, by decide, by decide, by decide⟩ (dbs_block A 0 4 _ (rd_head 4 _ _ _) D U)) D U)) D U)) D U)
    (dbs_block A 3 5 _ (eighth _ ⟨by decide, by decide, by decide, by decide, by decide, by decide, by decide⟩ (dbs_block A 2 5 _ (eighth _ ⟨by decide, by decide, by decide, by decide, by decide, by decide, by decide⟩ (dbs_block A 1 5 _ (eighth _ ⟨by decide, by decide, by decide, by decide, by decide, by decide, by decide⟩ (dbs_block A 0 5 _ (rd_head 5 _ _ _) D U)) D U)) D U)) D U)
    (dbs_block A 3 6 _ (eighth _ ⟨by decide, by decide, by decide, by decide, by decide, by decide, by decide⟩ (dbs_block A 2 6 _ (eighth _ ⟨by decide, by decide, by decide, by decide, by decide, by decide, by decide⟩ (dbs_block A 1 6 _ (eighth _ ⟨by decide, by decide, by decide, by decide, by decide, by decide, by decide⟩ (dbs_block A 0 6 _ (rd_head 6 _ _ _) D U)) D U)) D U)) D U)
    (dbs_block A 3 7 _ (eighth _ ⟨by decide, by decide, by decide, by decide, by decide, by decide, by decide⟩ (dbs_block A 2 7 _ (eighth _ ⟨by decide, by decide, by decide, by decide, by decide, by decide, by decide⟩ (dbs_block A 1 7 _ (eighth _ ⟨by decide, by decide, by decide, by decide, by decide, by decide, by decide⟩ (dbs_block A 0 7 _ (rd_head 7 _ _ _) D U)) D U)) D U)) D U)

theorem out18 : View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A) (r3 .f32 8 128 128 T) (r2 .f32 8 128 Tg) (r2 .f32 8 128 Tb) (r3 .f32 8 128 128 Ts)).2.2.2.2.1
    = r2 .f32 8 128 fun g j => Tg g j + ∑ r : Fin 512, dv A r (128 * g + j) * xh A r (128 * g + j) := by
  exact canon_lanes _
    (lane_block 0 _ _ (rd_lane 0 _ _ _) (v1432 A c arg1 harg1 arg2 harg2 arg5 harg5 arg6 harg6 arg8 harg8 arg13 harg13 arg22))
    (lane_block 1 _ _ (rd_lane 1 _ _ _) (v1432 A c arg1 harg1 arg2 harg2 arg5 harg5 arg6 harg6 arg8 harg8 arg13 harg13 arg22))
    (lane_block 2 _ _ (rd_lane 2 _ _ _) (v1432 A c arg1 harg1 arg2 harg2 arg5 harg5 arg6 harg6 arg8 harg8 arg13 harg13 arg22))
    (lane_block 3 _ _ (rd_lane 3 _ _ _) (v1432 A c arg1 harg1 arg2 harg2 arg5 harg5 arg6 harg6 arg8 harg8 arg13 harg13 arg22))
    (lane_block 4 _ _ (rd_lane 4 _ _ _) (v1432 A c arg1 harg1 arg2 harg2 arg5 harg5 arg6 harg6 arg8 harg8 arg13 harg13 arg22))
    (lane_block 5 _ _ (rd_lane 5 _ _ _) (v1432 A c arg1 harg1 arg2 harg2 arg5 harg5 arg6 harg6 arg8 harg8 arg13 harg13 arg22))
    (lane_block 6 _ _ (rd_lane 6 _ _ _) (v1432 A c arg1 harg1 arg2 harg2 arg5 harg5 arg6 harg6 arg8 harg8 arg13 harg13 arg22))
    (lane_block 7 _ _ (rd_lane 7 _ _ _) (v1432 A c arg1 harg1 arg2 harg2 arg5 harg5 arg6 harg6 arg8 harg8 arg13 harg13 arg22))

theorem out19 : View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A) (r3 .f32 8 128 128 T) (r2 .f32 8 128 Tg) (r2 .f32 8 128 Tb) (r3 .f32 8 128 128 Ts)).2.2.2.2.2.1
    = r2 .f32 8 128 fun g j => Tb g j + ∑ r : Fin 512, dv A r (128 * g + j) := by
  exact canon_lanes _
    (lane_block 0 _ _ (rd_lane 0 _ _ _) (v1474 A c arg1 harg1 arg2 harg2 arg5 harg5 arg8 harg8 arg13 harg13 arg22))
    (lane_block 1 _ _ (rd_lane 1 _ _ _) (v1474 A c arg1 harg1 arg2 harg2 arg5 harg5 arg8 harg8 arg13 harg13 arg22))
    (lane_block 2 _ _ (rd_lane 2 _ _ _) (v1474 A c arg1 harg1 arg2 harg2 arg5 harg5 arg8 harg8 arg13 harg13 arg22))
    (lane_block 3 _ _ (rd_lane 3 _ _ _) (v1474 A c arg1 harg1 arg2 harg2 arg5 harg5 arg8 harg8 arg13 harg13 arg22))
    (lane_block 4 _ _ (rd_lane 4 _ _ _) (v1474 A c arg1 harg1 arg2 harg2 arg5 harg5 arg8 harg8 arg13 harg13 arg22))
    (lane_block 5 _ _ (rd_lane 5 _ _ _) (v1474 A c arg1 harg1 arg2 harg2 arg5 harg5 arg8 harg8 arg13 harg13 arg22))
    (lane_block 6 _ _ (rd_lane 6 _ _ _) (v1474 A c arg1 harg1 arg2 harg2 arg5 harg5 arg8 harg8 arg13 harg13 arg22))
    (lane_block 7 _ _ (rd_lane 7 _ _ _) (v1474 A c arg1 harg1 arg2 harg2 arg5 harg5 arg8 harg8 arg13 harg13 arg22))

theorem out17 : View.canon (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 (in0 A) (in1 A) (in2 A) (in3 A) (in4 A) (in5 A) (in6 A) (in7 A) (in8 A) (in9 A) (in10 A) (in11 A) (in12 A) (in13 A) (r3 .f32 8 128 128 T) (r2 .f32 8 128 Tg) (r2 .f32 8 128 Tb) (r3 .f32 8 128 128 Ts)).2.2.2.1
    = r2 .f32 8 128 fun g i => ∑ j : Fin 128, acc4 (bsTerm A g) (Ts g) i j := by
  have U := (r_12 A c arg5 harg5)
  have D := (r_7 A c arg1 harg1 arg2 harg2 arg8 harg8)
  exact canon_lanes _
    (dbs_row (h4 := .inl rfl) (h5 := rfl) _ (past_head _ 7 (by decide) (past_head _ 6 (by decide) (past_head _ 5 (by decide) (past_head _ 4 (by decide) (past_head _ 3 (by decide) (past_head _ 2 (by decide) (past_head _ 1 (by decide) (at_head _ (dbs_block A 3 0 _ (eighth _ ⟨by decide, by decide, by decide, by decide, by decide, by decide, by decide⟩ (dbs_block A 2 0 _ (eighth _ ⟨by decide, by decide, by decide, by decide, by decide, by decide, by decide⟩ (dbs_block A 1 0 _ (eighth _ ⟨by decide, by decide, by decide, by decide, by decide, by decide, by decide⟩ (dbs_block A 0 0 _ (rd_head 0 _ _ _) D U)) D U)) D U)) D U))))))))))
    (dbs_row (h4 := .inl rfl) (h5 := rfl) _ (past_head _ 7 (by decide) (past_head _ 6 (by decide) (past_head _ 5 (by decide) (past_head _ 4 (by decide) (past_head _ 3 (by decide) (past_head _ 2 (by decide) (at_head _ (dbs_block A 3 1 _ (eighth _ ⟨by decide, by decide, by decide, by decide, by decide, by decide, by decide⟩ (dbs_block A 2 1 _ (eighth _ ⟨by decide, by decide, by decide, by decide, by decide, by decide, by decide⟩ (dbs_block A 1 1 _ (eighth _ ⟨by decide, by decide, by decide, by decide, by decide, by decide, by decide⟩ (dbs_block A 0 1 _ (rd_head 1 _ _ _) D U)) D U)) D U)) D U)))))))))
    (dbs_row (h4 := .inl rfl) (h5 := rfl) _ (past_head _ 7 (by decide) (past_head _ 6 (by decide) (past_head _ 5 (by decide) (past_head _ 4 (by decide) (past_head _ 3 (by decide) (at_head _ (dbs_block A 3 2 _ (eighth _ ⟨by decide, by decide, by decide, by decide, by decide, by decide, by decide⟩ (dbs_block A 2 2 _ (eighth _ ⟨by decide, by decide, by decide, by decide, by decide, by decide, by decide⟩ (dbs_block A 1 2 _ (eighth _ ⟨by decide, by decide, by decide, by decide, by decide, by decide, by decide⟩ (dbs_block A 0 2 _ (rd_head 2 _ _ _) D U)) D U)) D U)) D U))))))))
    (dbs_row (h4 := .inl rfl) (h5 := rfl) _ (past_head _ 7 (by decide) (past_head _ 6 (by decide) (past_head _ 5 (by decide) (past_head _ 4 (by decide) (at_head _ (dbs_block A 3 3 _ (eighth _ ⟨by decide, by decide, by decide, by decide, by decide, by decide, by decide⟩ (dbs_block A 2 3 _ (eighth _ ⟨by decide, by decide, by decide, by decide, by decide, by decide, by decide⟩ (dbs_block A 1 3 _ (eighth _ ⟨by decide, by decide, by decide, by decide, by decide, by decide, by decide⟩ (dbs_block A 0 3 _ (rd_head 3 _ _ _) D U)) D U)) D U)) D U)))))))
    (dbs_row (h4 := .inl rfl) (h5 := rfl) _ (past_head _ 7 (by decide) (past_head _ 6 (by decide) (past_head _ 5 (by decide) (at_head _ (dbs_block A 3 4 _ (eighth _ ⟨by decide, by decide, by decide, by decide, by decide, by decide, by decide⟩ (dbs_block A 2 4 _ (eighth _ ⟨by decide, by decide, by decide, by decide, by decide, by decide, by decide⟩ (dbs_block A 1 4 _ (eighth _ ⟨by decide, by decide, by decide, by decide, by decide, by decide, by decide⟩ (dbs_block A 0 4 _ (rd_head 4 _ _ _) D U)) D U)) D U)) D U))))))
    (dbs_row (h4 := .inl rfl) (h5 := rfl) _ (past_head _ 7 (by decide) (past_head _ 6 (by decide) (at_head _ (dbs_block A 3 5 _ (eighth _ ⟨by decide, by decide, by decide, by decide, by decide, by decide, by decide⟩ (dbs_block A 2 5 _ (eighth _ ⟨by decide, by decide, by decide, by decide, by decide, by decide, by decide⟩ (dbs_block A 1 5 _ (eighth _ ⟨by decide, by decide, by decide, by decide, by decide, by decide, by decide⟩ (dbs_block A 0 5 _ (rd_head 5 _ _ _) D U)) D U)) D U)) D U)))))
    (dbs_row (h4 := .inl rfl) (h5 := rfl) _ (past_head _ 7 (by decide) (at_head _ (dbs_block A 3 6 _ (eighth _ ⟨by decide, by decide, by decide, by decide, by decide, by decide, by decide⟩ (dbs_block A 2 6 _ (eighth _ ⟨by decide, by decide, by decide, by decide, by decide, by decide, by decide⟩ (dbs_block A 1 6 _ (eighth _ ⟨by decide, by decide, by decide, by decide, by decide, by decide, by decide⟩ (dbs_block A 0 6 _ (rd_head 6 _ _ _) D U)) D U)) D U)) D U))))
    (dbs_row (h4 := .inl rfl) (h5 := rfl) _ (at_head _ (dbs_block A 3 7 _ (eighth _ ⟨by decide, by decide, by decide, by decide, by decide, by decide, by decide⟩ (dbs_block A 2 7 _ (eighth _ ⟨by decide, by decide, by decide, by decide, by decide, by decide, by decide⟩ (dbs_block A 1 7 _ (eighth _ ⟨by decide, by decide, by decide, by decide, by decide, by decide, by decide⟩ (dbs_block A 0 7 _ (rd_head 7 _ _ _) D U)) D U)) D U)) D U)))

end Cert.Mix.CaseC

end
-- ==== Proof.Mix.Outs.lean ====
/-
  The mixer's backward kernel: what each kind of grid point leaves in its outputs, from blocks given by equations.
-/
module

public import proofs.«01_k».proof.Proof.Mix.CaseA
public import proofs.«01_k».proof.Proof.Mix.CaseB
public import proofs.«01_k».proof.Proof.Mix.CaseC
public import proofs.«01_k».proof.Proof.Gen.KernelIdeal.Frame

@[expose] public section

set_option maxRecDepth 16384

noncomputable section

namespace Cert.Mix

open Idealize.ShloMosaic Cert.KernelIdeal Cert.KernelIdeal.Gen

section
variable {A : Args}
  {c : Dev nD} {i : grid0.Coords} {arg1 : Memref sig .tc .vmem S512x1024 .f32} {harg1 : arg1.IsWhole} {arg2 : Memref sig .tc .vmem S1024x1024 .bf16} {harg2 : arg2.IsWhole} {arg3 : Memref sig .tc .vmem S512x1024 .f32} {harg3 : arg3.IsWhole} {arg4 : Memref sig .tc .vmem S512x1024 .f32} {harg4 : arg4.IsWhole} {arg5 : Memref sig .tc .vmem S512x1024 .bf16} {harg5 : arg5.IsWhole} {arg6 : Memref sig .tc .vmem S512x1024 .bf16} {harg6 : arg6.IsWhole} {arg7 : Memref sig .tc .vmem S512x1024 .bf16} {harg7 : arg7.IsWhole} {arg8 : Memref sig .tc .vmem S512x1024 .bf16} {harg8 : arg8.IsWhole} {arg9 : Memref sig .tc .vmem S512x1024 .bf16} {harg9 : arg9.IsWhole} {arg10 : Memref sig .tc .vmem S1x1024 .f32} {harg10 : arg10.IsWhole} {arg11 : Memref sig .tc .vmem S1x1024 .f32} {harg11 : arg11.IsWhole} {arg12 : Memref sig .tc .vmem S8x128x128 .bf16} {harg12 : arg12.IsWhole} {arg13 : Memref sig .tc .vmem S8x128x128 .bf16} {harg13 : arg13.IsWhole} {arg14 : Memref sig .tc .vmem S8x128x128 .f32} {harg14 : arg14.IsWhole} {arg15 : Memref sig .tc .vmem S512x6144 .bf16} {harg15 : arg15.IsWhole} {arg16 : Memref sig .tc .vmem S512x1024 .f32} {harg16 : arg16.IsWhole} {arg17 : Memref sig .tc .vmem S8x128x128 .f32} {harg17 : arg17.IsWhole} {arg18 : Memref sig .tc .vmem S8x128 .f32} {harg18 : arg18.IsWhole} {arg19 : Memref sig .tc .vmem S8x128 .f32} {harg19 : arg19.IsWhole} {arg20 : Memref sig .tc .vmem S8x128 .f32} {harg20 : arg20.IsWhole} {arg21 : Memref sig .tc .vmem S512x1024 .f32} {harg21 : arg21.IsWhole} {arg22 : Memref sig .tc .vmem S512x1024 .f32} {harg22 : arg22.IsWhole} {arg23 : Memref sig .tc .vmem S512x1024 .f32} {harg23 : arg23.IsWhole} {arg24 : Memref sig .tc .vmem S8x128x128 .f32} {harg24 : arg24.IsWhole} {hc0 : cond0_0 i} {hc1 : ¬cond0_1 i}
  {x0 : Vec Ideal S512x1024 .f32} {x1 : Vec Ideal S1024x1024 .bf16} {x2 : Vec Ideal S512x1024 .f32} {x3 : Vec Ideal S512x1024 .f32} {x4 : Vec Ideal S512x1024 .bf16} {x5 : Vec Ideal S512x1024 .bf16} {x6 : Vec Ideal S512x1024 .bf16} {x7 : Vec Ideal S512x1024 .bf16} {x8 : Vec Ideal S512x1024 .bf16} {x9 : Vec Ideal S1x1024 .f32} {x10 : Vec Ideal S1x1024 .f32} {x11 : Vec Ideal S8x128x128 .bf16} {x12 : Vec Ideal S8x128x128 .bf16} {x13 : Vec Ideal S8x128x128 .f32}
  (e_x0 : x0 = in0 A) (e_x1 : x1 = in1 A) (e_x2 : x2 = in2 A) (e_x3 : x3 = in3 A) (e_x4 : x4 = in4 A) (e_x5 : x5 = in5 A) (e_x6 : x6 = in6 A) (e_x7 : x7 = in7 A) (e_x8 : x8 = in8 A) (e_x9 : x9 = in9 A) (e_x10 : x10 = in10 A) (e_x11 : x11 = in11 A) (e_x12 : x12 = in12 A) (e_x13 : x13 = in13 A)
include e_x0 e_x1 e_x2 e_x3 e_x4 e_x5 e_x6 e_x7 e_x8 e_x9 e_x10 e_x11 e_x12 e_x13

theorem leftA_14 : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 = r2 .bf16 512 6144 (dz A) := by
  subst e_x0 e_x1 e_x2 e_x3 e_x4 e_x5 e_x6 e_x7 e_x8 e_x9 e_x10 e_x11 e_x12 e_x13
  unfold out0_A_14
  rw [View.read_writes_junk_eq_canon]
  apply CaseA.out14

theorem leftA_15 : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 = r2 .f32 512 1024 (dh A) := by
  subst e_x0 e_x1 e_x2 e_x3 e_x4 e_x5 e_x6 e_x7 e_x8 e_x9 e_x10 e_x11 e_x12 e_x13
  unfold out0_A_15
  rw [View.read_writes_junk_eq_canon]
  apply CaseA.out15

theorem leftA_16 : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 = r3 .f32 8 128 128 fun g => acc4 (wsTerm A g) fun _ _ => 0 := by
  subst e_x0 e_x1 e_x2 e_x3 e_x4 e_x5 e_x6 e_x7 e_x8 e_x9 e_x10 e_x11 e_x12 e_x13
  unfold out0_A_16
  rw [View.read_writes_junk_eq_canon]
  apply CaseA.out16

theorem leftA_18 : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 = r2 .f32 8 128 fun g j => 0 + ∑ r : Fin 512, dv A r (128 * g + j) * xh A r (128 * g + j) := by
  subst e_x0 e_x1 e_x2 e_x3 e_x4 e_x5 e_x6 e_x7 e_x8 e_x9 e_x10 e_x11 e_x12 e_x13
  unfold out0_A_18
  rw [View.read_writes_junk_eq_canon]
  apply CaseA.out18

theorem leftA_19 : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 = r2 .f32 8 128 fun g j => 0 + ∑ r : Fin 512, dv A r (128 * g + j) := by
  subst e_x0 e_x1 e_x2 e_x3 e_x4 e_x5 e_x6 e_x7 e_x8 e_x9 e_x10 e_x11 e_x12 e_x13
  unfold out0_A_19
  rw [View.read_writes_junk_eq_canon]
  apply CaseA.out19

theorem leftA_3 : sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 = r3 .f32 8 128 128 fun g => acc4 (bsTerm A g) fun _ _ => 0 := by
  subst e_x0 e_x1 e_x2 e_x3 e_x4 e_x5 e_x6 e_x7 e_x8 e_x9 e_x10 e_x11 e_x12 e_x13
  unfold sout0_A_3
  rw [View.read_writes_junk_eq_canon]
  apply CaseA.out3

end

section
variable {A : Args} {T : ℕ → ℕ → ℕ → ℝ} {Tg Tb : ℕ → ℕ → ℝ} {Ts : ℕ → ℕ → ℕ → ℝ}
  {c : Dev nD} {i : grid0.Coords} {arg1 : Memref sig .tc .vmem S512x1024 .f32} {harg1 : arg1.IsWhole} {arg2 : Memref sig .tc .vmem S1024x1024 .bf16} {harg2 : arg2.IsWhole} {arg3 : Memref sig .tc .vmem S512x1024 .f32} {harg3 : arg3.IsWhole} {arg4 : Memref sig .tc .vmem S512x1024 .f32} {harg4 : arg4.IsWhole} {arg5 : Memref sig .tc .vmem S512x1024 .bf16} {harg5 : arg5.IsWhole} {arg6 : Memref sig .tc .vmem S512x1024 .bf16} {harg6 : arg6.IsWhole} {arg7 : Memref sig .tc .vmem S512x1024 .bf16} {harg7 : arg7.IsWhole} {arg8 : Memref sig .tc .vmem S512x1024 .bf16} {harg8 : arg8.IsWhole} {arg9 : Memref sig .tc .vmem S512x1024 .bf16} {harg9 : arg9.IsWhole} {arg10 : Memref sig .tc .vmem S1x1024 .f32} {harg10 : arg10.IsWhole} {arg11 : Memref sig .tc .vmem S1x1024 .f32} {harg11 : arg11.IsWhole} {arg12 : Memref sig .tc .vmem S8x128x128 .bf16} {harg12 : arg12.IsWhole} {arg13 : Memref sig .tc .vmem S8x128x128 .bf16} {harg13 : arg13.IsWhole} {arg14 : Memref sig .tc .vmem S8x128x128 .f32} {harg14 : arg14.IsWhole} {arg15 : Memref sig .tc .vmem S512x6144 .bf16} {harg15 : arg15.IsWhole} {arg16 : Memref sig .tc .vmem S512x1024 .f32} {harg16 : arg16.IsWhole} {arg17 : Memref sig .tc .vmem S8x128x128 .f32} {harg17 : arg17.IsWhole} {arg18 : Memref sig .tc .vmem S8x128 .f32} {harg18 : arg18.IsWhole} {arg19 : Memref sig .tc .vmem S8x128 .f32} {harg19 : arg19.IsWhole} {arg20 : Memref sig .tc .vmem S8x128 .f32} {harg20 : arg20.IsWhole} {arg21 : Memref sig .tc .vmem S512x1024 .f32} {harg21 : arg21.IsWhole} {arg22 : Memref sig .tc .vmem S512x1024 .f32} {harg22 : arg22.IsWhole} {arg23 : Memref sig .tc .vmem S512x1024 .f32} {harg23 : arg23.IsWhole} {arg24 : Memref sig .tc .vmem S8x128x128 .f32} {harg24 : arg24.IsWhole} {hc0 : ¬cond0_0 i} {hc1 : ¬cond0_1 i}
  {x0 : Vec Ideal S512x1024 .f32} {x1 : Vec Ideal S1024x1024 .bf16} {x2 : Vec Ideal S512x1024 .f32} {x3 : Vec Ideal S512x1024 .f32} {x4 : Vec Ideal S512x1024 .bf16} {x5 : Vec Ideal S512x1024 .bf16} {x6 : Vec Ideal S512x1024 .bf16} {x7 : Vec Ideal S512x1024 .bf16} {x8 : Vec Ideal S512x1024 .bf16} {x9 : Vec Ideal S1x1024 .f32} {x10 : Vec Ideal S1x1024 .f32} {x11 : Vec Ideal S8x128x128 .bf16} {x12 : Vec Ideal S8x128x128 .bf16} {x13 : Vec Ideal S8x128x128 .f32} {xo16 : Vec Ideal S8x128x128 .f32} {xo18 : Vec Ideal S8x128 .f32} {xo19 : Vec Ideal S8x128 .f32} {xs3 : Vec Ideal S8x128x128 .f32}
  (e_x0 : x0 = in0 A) (e_x1 : x1 = in1 A) (e_x2 : x2 = in2 A) (e_x3 : x3 = in3 A) (e_x4 : x4 = in4 A) (e_x5 : x5 = in5 A) (e_x6 : x6 = in6 A) (e_x7 : x7 = in7 A) (e_x8 : x8 = in8 A) (e_x9 : x9 = in9 A) (e_x10 : x10 = in10 A) (e_x11 : x11 = in11 A) (e_x12 : x12 = in12 A) (e_x13 : x13 = in13 A) (e_xo16 : xo16 = r3 .f32 8 128 128 T) (e_xo18 : xo18 = r2 .f32 8 128 Tg) (e_xo19 : xo19 = r2 .f32 8 128 Tb) (e_xs3 : xs3 = r3 .f32 8 128 128 Ts)
include e_x0 e_x1 e_x2 e_x3 e_x4 e_x5 e_x6 e_x7 e_x8 e_x9 e_x10 e_x11 e_x12 e_x13 e_xo16 e_xo18 e_xo19 e_xs3

theorem leftB_14 : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 xo16 xo18 xo19 xs3 = r2 .bf16 512 6144 (dz A) := by
  subst e_x0 e_x1 e_x2 e_x3 e_x4 e_x5 e_x6 e_x7 e_x8 e_x9 e_x10 e_x11 e_x12 e_x13 e_xo16 e_xo18 e_xo19 e_xs3
  unfold out0_B_14
  rw [View.read_writes_junk_eq_canon]
  apply CaseB.out14

theorem leftB_15 : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 xo16 xo18 xo19 xs3 = r2 .f32 512 1024 (dh A) := by
  subst e_x0 e_x1 e_x2 e_x3 e_x4 e_x5 e_x6 e_x7 e_x8 e_x9 e_x10 e_x11 e_x12 e_x13 e_xo16 e_xo18 e_xo19 e_xs3
  unfold out0_B_15
  rw [View.read_writes_junk_eq_canon]
  apply CaseB.out15

theorem leftB_16 : out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 xo16 xo18 xo19 xs3 = r3 .f32 8 128 128 fun g => acc4 (wsTerm A g) (T g) := by
  subst e_x0 e_x1 e_x2 e_x3 e_x4 e_x5 e_x6 e_x7 e_x8 e_x9 e_x10 e_x11 e_x12 e_x13 e_xo16 e_xo18 e_xo19 e_xs3
  unfold out0_B_16
  rw [View.read_writes_junk_eq_canon]
  apply CaseB.out16

theorem leftB_18 : out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 xo16 xo18 xo19 xs3 = r2 .f32 8 128 fun g j => Tg g j + ∑ r : Fin 512, dv A r (128 * g + j) * xh A r (128 * g + j) := by
  subst e_x0 e_x1 e_x2 e_x3 e_x4 e_x5 e_x6 e_x7 e_x8 e_x9 e_x10 e_x11 e_x12 e_x13 e_xo16 e_xo18 e_xo19 e_xs3
  unfold out0_B_18
  rw [View.read_writes_junk_eq_canon]
  apply CaseB.out18

theorem leftB_19 : out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 xo16 xo18 xo19 xs3 = r2 .f32 8 128 fun g j => Tb g j + ∑ r : Fin 512, dv A r (128 * g + j) := by
  subst e_x0 e_x1 e_x2 e_x3 e_x4 e_x5 e_x6 e_x7 e_x8 e_x9 e_x10 e_x11 e_x12 e_x13 e_xo16 e_xo18 e_xo19 e_xs3
  unfold out0_B_19
  rw [View.read_writes_junk_eq_canon]
  apply CaseB.out19

theorem leftB_3 : sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 xo16 xo18 xo19 xs3 = r3 .f32 8 128 128 fun g => acc4 (bsTerm A g) (Ts g) := by
  subst e_x0 e_x1 e_x2 e_x3 e_x4 e_x5 e_x6 e_x7 e_x8 e_x9 e_x10 e_x11 e_x12 e_x13 e_xo16 e_xo18 e_xo19 e_xs3
  unfold sout0_B_3
  rw [View.read_writes_junk_eq_canon]
  apply CaseB.out3

end

section
variable {A : Args} {T : ℕ → ℕ → ℕ → ℝ} {Tg Tb : ℕ → ℕ → ℝ} {Ts : ℕ → ℕ → ℕ → ℝ}
  {c : Dev nD} {i : grid0.Coords} {arg1 : Memref sig .tc .vmem S512x1024 .f32} {harg1 : arg1.IsWhole} {arg2 : Memref sig .tc .vmem S1024x1024 .bf16} {harg2 : arg2.IsWhole} {arg3 : Memref sig .tc .vmem S512x1024 .f32} {harg3 : arg3.IsWhole} {arg4 : Memref sig .tc .vmem S512x1024 .f32} {harg4 : arg4.IsWhole} {arg5 : Memref sig .tc .vmem S512x1024 .bf16} {harg5 : arg5.IsWhole} {arg6 : Memref sig .tc .vmem S512x1024 .bf16} {harg6 : arg6.IsWhole} {arg7 : Memref sig .tc .vmem S512x1024 .bf16} {harg7 : arg7.IsWhole} {arg8 : Memref sig .tc .vmem S512x1024 .bf16} {harg8 : arg8.IsWhole} {arg9 : Memref sig .tc .vmem S512x1024 .bf16} {harg9 : arg9.IsWhole} {arg10 : Memref sig .tc .vmem S1x1024 .f32} {harg10 : arg10.IsWhole} {arg11 : Memref sig .tc .vmem S1x1024 .f32} {harg11 : arg11.IsWhole} {arg12 : Memref sig .tc .vmem S8x128x128 .bf16} {harg12 : arg12.IsWhole} {arg13 : Memref sig .tc .vmem S8x128x128 .bf16} {harg13 : arg13.IsWhole} {arg14 : Memref sig .tc .vmem S8x128x128 .f32} {harg14 : arg14.IsWhole} {arg15 : Memref sig .tc .vmem S512x6144 .bf16} {harg15 : arg15.IsWhole} {arg16 : Memref sig .tc .vmem S512x1024 .f32} {harg16 : arg16.IsWhole} {arg17 : Memref sig .tc .vmem S8x128x128 .f32} {harg17 : arg17.IsWhole} {arg18 : Memref sig .tc .vmem S8x128 .f32} {harg18 : arg18.IsWhole} {arg19 : Memref sig .tc .vmem S8x128 .f32} {harg19 : arg19.IsWhole} {arg20 : Memref sig .tc .vmem S8x128 .f32} {harg20 : arg20.IsWhole} {arg21 : Memref sig .tc .vmem S512x1024 .f32} {harg21 : arg21.IsWhole} {arg22 : Memref sig .tc .vmem S512x1024 .f32} {harg22 : arg22.IsWhole} {arg23 : Memref sig .tc .vmem S512x1024 .f32} {harg23 : arg23.IsWhole} {arg24 : Memref sig .tc .vmem S8x128x128 .f32} {harg24 : arg24.IsWhole} {hc0 : ¬cond0_0 i} {hc1 : cond0_1 i}
  {x0 : Vec Ideal S512x1024 .f32} {x1 : Vec Ideal S1024x1024 .bf16} {x2 : Vec Ideal S512x1024 .f32} {x3 : Vec Ideal S512x1024 .f32} {x4 : Vec Ideal S512x1024 .bf16} {x5 : Vec Ideal S512x1024 .bf16} {x6 : Vec Ideal S512x1024 .bf16} {x7 : Vec Ideal S512x1024 .bf16} {x8 : Vec Ideal S512x1024 .bf16} {x9 : Vec Ideal S1x1024 .f32} {x10 : Vec Ideal S1x1024 .f32} {x11 : Vec Ideal S8x128x128 .bf16} {x12 : Vec Ideal S8x128x128 .bf16} {x13 : Vec Ideal S8x128x128 .f32} {xo16 : Vec Ideal S8x128x128 .f32} {xo18 : Vec Ideal S8x128 .f32} {xo19 : Vec Ideal S8x128 .f32} {xs3 : Vec Ideal S8x128x128 .f32}
  (e_x0 : x0 = in0 A) (e_x1 : x1 = in1 A) (e_x2 : x2 = in2 A) (e_x3 : x3 = in3 A) (e_x4 : x4 = in4 A) (e_x5 : x5 = in5 A) (e_x6 : x6 = in6 A) (e_x7 : x7 = in7 A) (e_x8 : x8 = in8 A) (e_x9 : x9 = in9 A) (e_x10 : x10 = in10 A) (e_x11 : x11 = in11 A) (e_x12 : x12 = in12 A) (e_x13 : x13 = in13 A) (e_xo16 : xo16 = r3 .f32 8 128 128 T) (e_xo18 : xo18 = r2 .f32 8 128 Tg) (e_xo19 : xo19 = r2 .f32 8 128 Tb) (e_xs3 : xs3 = r3 .f32 8 128 128 Ts)
include e_x0 e_x1 e_x2 e_x3 e_x4 e_x5 e_x6 e_x7 e_x8 e_x9 e_x10 e_x11 e_x12 e_x13 e_xo16 e_xo18 e_xo19 e_xs3

theorem leftC_14 : out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 xo16 xo18 xo19 xs3 = r2 .bf16 512 6144 (dz A) := by
  subst e_x0 e_x1 e_x2 e_x3 e_x4 e_x5 e_x6 e_x7 e_x8 e_x9 e_x10 e_x11 e_x12 e_x13 e_xo16 e_xo18 e_xo19 e_xs3
  unfold out0_C_14
  rw [View.read_writes_junk_eq_canon]
  apply CaseC.out14

theorem leftC_15 : out0_C_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 xo16 xo18 xo19 xs3 = r2 .f32 512 1024 (dh A) := by
  subst e_x0 e_x1 e_x2 e_x3 e_x4 e_x5 e_x6 e_x7 e_x8 e_x9 e_x10 e_x11 e_x12 e_x13 e_xo16 e_xo18 e_xo19 e_xs3
  unfold out0_C_15
  rw [View.read_writes_junk_eq_canon]
  apply CaseC.out15

theorem leftC_16 : out0_C_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 xo16 xo18 xo19 xs3 = r3 .f32 8 128 128 fun g => acc4 (wsTerm A g) (T g) := by
  subst e_x0 e_x1 e_x2 e_x3 e_x4 e_x5 e_x6 e_x7 e_x8 e_x9 e_x10 e_x11 e_x12 e_x13 e_xo16 e_xo18 e_xo19 e_xs3
  unfold out0_C_16
  rw [View.read_writes_junk_eq_canon]
  apply CaseC.out16

theorem leftC_18 : out0_C_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 xo16 xo18 xo19 xs3 = r2 .f32 8 128 fun g j => Tg g j + ∑ r : Fin 512, dv A r (128 * g + j) * xh A r (128 * g + j) := by
  subst e_x0 e_x1 e_x2 e_x3 e_x4 e_x5 e_x6 e_x7 e_x8 e_x9 e_x10 e_x11 e_x12 e_x13 e_xo16 e_xo18 e_xo19 e_xs3
  unfold out0_C_18
  rw [View.read_writes_junk_eq_canon]
  apply CaseC.out18

theorem leftC_19 : out0_C_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 xo16 xo18 xo19 xs3 = r2 .f32 8 128 fun g j => Tb g j + ∑ r : Fin 512, dv A r (128 * g + j) := by
  subst e_x0 e_x1 e_x2 e_x3 e_x4 e_x5 e_x6 e_x7 e_x8 e_x9 e_x10 e_x11 e_x12 e_x13 e_xo16 e_xo18 e_xo19 e_xs3
  unfold out0_C_19
  rw [View.read_writes_junk_eq_canon]
  apply CaseC.out19

theorem leftC_3 : sout0_C_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 xo16 xo18 xo19 xs3 = r3 .f32 8 128 128 fun g => acc4 (bsTerm A g) (Ts g) := by
  subst e_x0 e_x1 e_x2 e_x3 e_x4 e_x5 e_x6 e_x7 e_x8 e_x9 e_x10 e_x11 e_x12 e_x13 e_xo16 e_xo18 e_xo19 e_xs3
  unfold sout0_C_3
  rw [View.read_writes_junk_eq_canon]
  apply CaseC.out3

theorem leftC_17 : out0_C_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1
    x0 x1 x2 x3 x4 x5 x6 x7 x8 x9 x10 x11 x12 x13 xo16 xo18 xo19 xs3 = r2 .f32 8 128 fun g i => ∑ j : Fin 128, acc4 (bsTerm A g) (Ts g) i j := by
  subst e_x0 e_x1 e_x2 e_x3 e_x4 e_x5 e_x6 e_x7 e_x8 e_x9 e_x10 e_x11 e_x12 e_x13 e_xo16 e_xo18 e_xo19 e_xs3
  unfold out0_C_17
  rw [View.read_writes_junk_eq_canon]
  apply CaseC.out17

end

end Cert.Mix

end
-- ==== Proof.Mix.State.lean ====
/-
  The mixer's backward kernel over its eight grid points: what each point leaves, the accumulators' running sums, and the six
  arrays at the end.
-/
module

public import proofs.«01_k».proof.Proof.Mix.Inputs
public import proofs.«01_k».proof.Proof.Mix.Outs
public import proofs.«01_k».proof.Proof.Gen.KernelIdeal.Value

@[expose] public section

set_option maxRecDepth 16384

noncomputable section

namespace Cert.Mix

open Idealize.ShloMosaic Idealize.ShloMosaic.TcCoe Cert.KernelIdeal Cert.KernelIdeal.Gen Cert.KernelIdeal.Value

/-! ### Sums over the chunks and rows of the points so far -/

section
variable (A : Args) (n g i j : ℕ)

theorem acc4_ws : acc4 (wsTerm (A.shift (128 * (4 * n))) g) (dws A (4 * n) g) i j = dws A (4 * n + 4) g i j := by
  have e (k p q : ℕ) : wsTerm (A.shift (128 * (4 * n))) g k p q
      = ∑ c : Fin 128, dmx A (128 * (4 * n + k) + p) (128 * g + c) * vb A (128 * (4 * n + k) + q) (128 * g + c) := by
    unfold wsTerm
    simp only [dmx_shift, vb_shift, Nat.mul_add, Nat.add_assoc]
  unfold acc4 dws
  simp only [e]
  rw [show 4 * n + 4 = 4 * n + 1 + 1 + 1 + 1 from rfl]
  simp only [Fin.sum_univ_castSucc (n := 4 * n + 3), Fin.sum_univ_castSucc (n := 4 * n + 2),
    Fin.sum_univ_castSucc (n := 4 * n + 1), Fin.sum_univ_castSucc (n := 4 * n)]
  rfl

theorem acc4_bs : acc4 (bsTerm (A.shift (128 * (4 * n))) g) (dbs A (4 * n) g) i j = dbs A (4 * n + 4) g i j := by
  have e (k p q : ℕ) : bsTerm (A.shift (128 * (4 * n))) g k p q = dmx A (128 * (4 * n + k) + p) (128 * g + q) := by
    unfold bsTerm
    simp only [dmx_shift, Nat.mul_add, Nat.add_assoc]
  unfold acc4 dbs
  simp only [e]
  rw [show 4 * n + 4 = 4 * n + 1 + 1 + 1 + 1 from rfl]
  simp only [Fin.sum_univ_castSucc (n := 4 * n + 3), Fin.sum_univ_castSucc (n := 4 * n + 2),
    Fin.sum_univ_castSucc (n := 4 * n + 1), Fin.sum_univ_castSucc (n := 4 * n)]
  rfl

theorem add_lg : dlg A (128 * (4 * n)) g j + ∑ r : Fin 512, dv (A.shift (128 * (4 * n))) r (128 * g + j)
      * xh (A.shift (128 * (4 * n))) r (128 * g + j) = dlg A (128 * (4 * n) + 512) g j := by
  unfold dlg
  rw [Fin.sum_univ_add]
  simp only [dv_shift, xh_shift]
  rfl

theorem add_lb : dlb A (128 * (4 * n)) g j + ∑ r : Fin 512, dv (A.shift (128 * (4 * n))) r (128 * g + j)
      = dlb A (128 * (4 * n) + 512) g j := by
  unfold dlb
  rw [Fin.sum_univ_add]
  simp only [dv_shift]
  rfl

theorem ws_start : (fun _ _ => 0) = dws A (4 * 0) g := by funext p q; exact (Finset.sum_empty).symm
theorem bs_start : (fun _ _ => 0) = dbs A (4 * 0) g := by funext p q; exact (Finset.sum_empty).symm
theorem lg_start : 0 = dlg A (128 * (4 * 0)) g j := (Finset.sum_empty).symm
theorem lb_start : 0 = dlb A (128 * (4 * 0)) g j := (Finset.sum_empty).symm

end

/-! ### One point -/

abbrev State : Type := Vec Ideal S512x6144 .bf16 × Vec Ideal S512x1024 .f32 × Vec Ideal S8x128x128 .f32
  × Vec Ideal S8x128 .f32 × Vec Ideal S8x128 .f32 × Vec Ideal S8x128 .f32 × Vec Ideal S8x128x128 .f32

/-- What the tuple of outputs and the carried scratch holds after point `n`. -/
structure After (A : Args) (n : ℕ) (s : State) : Prop where
  dz : s.1 = r2 .bf16 512 6144 (dz (A.shift (128 * (4 * n))))
  dh : s.2.1 = r2 .f32 512 1024 (dh (A.shift (128 * (4 * n))))
  ws : s.2.2.1 = r3 .f32 8 128 128 (dws A (4 * n + 4))
  lg : s.2.2.2.2.1 = r2 .f32 8 128 (dlg A (128 * (4 * n) + 512))
  lb : s.2.2.2.2.2.1 = r2 .f32 8 128 (dlb A (128 * (4 * n) + 512))
  bs : s.2.2.2.2.2.2 = r3 .f32 8 128 128 (dbs A (4 * n + 4))

variable {m : (ℓ : Loc nD τ sig) → Buf (Elt Ideal) ℓ} {c : Dev nD} {A : Args} (h : Holds m c A) (t : Fin cfg0.N) (s : State)
include h

theorem stA_14 (h0 : t.val % 8 = 0) (h1 : ¬t.val % 8 = 7) :
    (stAt0 m c t.val t.isLt s).1 = r2 .bf16 512 6144 (dz (A.shift (128 * (4 * t.val)))) := by
  rw [stAt0_A m c t s h0 h1]
  dsimp only
  apply leftA_14
  exacts [blk0 h t, blk1 h t, blk2 h t, blk3 h t, blk4 h t, blk5 h t, blk6 h t, blk7 h t, blk8 h t, blk9 h t, blk10 h t, blk11 h t, blk12 h t, blk13 h t]

theorem stA_15 (h0 : t.val % 8 = 0) (h1 : ¬t.val % 8 = 7) :
    (stAt0 m c t.val t.isLt s).2.1 = r2 .f32 512 1024 (dh (A.shift (128 * (4 * t.val)))) := by
  rw [stAt0_A m c t s h0 h1]
  dsimp only
  apply leftA_15
  exacts [blk0 h t, blk1 h t, blk2 h t, blk3 h t, blk4 h t, blk5 h t, blk6 h t, blk7 h t, blk8 h t, blk9 h t, blk10 h t, blk11 h t, blk12 h t, blk13 h t]

theorem stA_16 (h0 : t.val % 8 = 0) (h1 : ¬t.val % 8 = 7) :
    (stAt0 m c t.val t.isLt s).2.2.1 = r3 .f32 8 128 128 fun g => acc4 (wsTerm (A.shift (128 * (4 * t.val))) g) fun _ _ => 0 := by
  rw [stAt0_A m c t s h0 h1]
  dsimp only
  apply leftA_16
  exacts [blk0 h t, blk1 h t, blk2 h t, blk3 h t, blk4 h t, blk5 h t, blk6 h t, blk7 h t, blk8 h t, blk9 h t, blk10 h t, blk11 h t, blk12 h t, blk13 h t]

theorem stA_18 (h0 : t.val % 8 = 0) (h1 : ¬t.val % 8 = 7) :
    (stAt0 m c t.val t.isLt s).2.2.2.2.1 = r2 .f32 8 128 fun g j => 0 + ∑ r : Fin 512, dv (A.shift (128 * (4 * t.val))) r (128 * g + j) * xh (A.shift (128 * (4 * t.val))) r (128 * g + j) := by
  rw [stAt0_A m c t s h0 h1]
  dsimp only
  apply leftA_18
  exacts [blk0 h t, blk1 h t, blk2 h t, blk3 h t, blk4 h t, blk5 h t, blk6 h t, blk7 h t, blk8 h t, blk9 h t, blk10 h t, blk11 h t, blk12 h t, blk13 h t]

theorem stA_19 (h0 : t.val % 8 = 0) (h1 : ¬t.val % 8 = 7) :
    (stAt0 m c t.val t.isLt s).2.2.2.2.2.1 = r2 .f32 8 128 fun g j => 0 + ∑ r : Fin 512, dv (A.shift (128 * (4 * t.val))) r (128 * g + j) := by
  rw [stAt0_A m c t s h0 h1]
  dsimp only
  apply leftA_19
  exacts [blk0 h t, blk1 h t, blk2 h t, blk3 h t, blk4 h t, blk5 h t, blk6 h t, blk7 h t, blk8 h t, blk9 h t, blk10 h t, blk11 h t, blk12 h t, blk13 h t]

theorem stA_3 (h0 : t.val % 8 = 0) (h1 : ¬t.val % 8 = 7) :
    (stAt0 m c t.val t.isLt s).2.2.2.2.2.2 = r3 .f32 8 128 128 fun g => acc4 (bsTerm (A.shift (128 * (4 * t.val))) g) fun _ _ => 0 := by
  rw [stAt0_A m c t s h0 h1]
  dsimp only
  apply leftA_3
  exacts [blk0 h t, blk1 h t, blk2 h t, blk3 h t, blk4 h t, blk5 h t, blk6 h t, blk7 h t, blk8 h t, blk9 h t, blk10 h t, blk11 h t, blk12 h t, blk13 h t]

theorem stB_14 (h0 : ¬t.val % 8 = 0) (h1 : ¬t.val % 8 = 7) {T Ts : ℕ → ℕ → ℕ → ℝ} {Tg Tb : ℕ → ℕ → ℝ}
    (hT : s.2.2.1 = r3 .f32 8 128 128 T) (hg : s.2.2.2.2.1 = r2 .f32 8 128 Tg) (hb : s.2.2.2.2.2.1 = r2 .f32 8 128 Tb)
    (hs : s.2.2.2.2.2.2 = r3 .f32 8 128 128 Ts) :
    (stAt0 m c t.val t.isLt s).1 = r2 .bf16 512 6144 (dz (A.shift (128 * (4 * t.val)))) := by
  rw [stAt0_B m c t s h0 h1]
  dsimp only
  apply leftB_14
  exacts [blk0 h t, blk1 h t, blk2 h t, blk3 h t, blk4 h t, blk5 h t, blk6 h t, blk7 h t, blk8 h t, blk9 h t, blk10 h t, blk11 h t, blk12 h t, blk13 h t, hT, hg, hb, hs]

theorem stB_15 (h0 : ¬t.val % 8 = 0) (h1 : ¬t.val % 8 = 7) {T Ts : ℕ → ℕ → ℕ → ℝ} {Tg Tb : ℕ → ℕ → ℝ}
    (hT : s.2.2.1 = r3 .f32 8 128 128 T) (hg : s.2.2.2.2.1 = r2 .f32 8 128 Tg) (hb : s.2.2.2.2.2.1 = r2 .f32 8 128 Tb)
    (hs : s.2.2.2.2.2.2 = r3 .f32 8 128 128 Ts) :
    (stAt0 m c t.val t.isLt s).2.1 = r2 .f32 512 1024 (dh (A.shift (128 * (4 * t.val)))) := by
  rw [stAt0_B m c t s h0 h1]
  dsimp only
  apply leftB_15
  exacts [blk0 h t, blk1 h t, blk2 h t, blk3 h t, blk4 h t, blk5 h t, blk6 h t, blk7 h t, blk8 h t, blk9 h t, blk10 h t, blk11 h t, blk12 h t, blk13 h t, hT, hg, hb, hs]

theorem stB_16 (h0 : ¬t.val % 8 = 0) (h1 : ¬t.val % 8 = 7) {T Ts : ℕ → ℕ → ℕ → ℝ} {Tg Tb : ℕ → ℕ → ℝ}
    (hT : s.2.2.1 = r3 .f32 8 128 128 T) (hg : s.2.2.2.2.1 = r2 .f32 8 128 Tg) (hb : s.2.2.2.2.2.1 = r2 .f32 8 128 Tb)
    (hs : s.2.2.2.2.2.2 = r3 .f32 8 128 128 Ts) :
    (stAt0 m c t.val t.isLt s).2.2.1 = r3 .f32 8 128 128 fun g => acc4 (wsTerm (A.shift (128 * (4 * t.val))) g) (T g) := by
  rw [stAt0_B m c t s h0 h1]
  dsimp only
  apply leftB_16
  exacts [blk0 h t, blk1 h t, blk2 h t, blk3 h t, blk4 h t, blk5 h t, blk6 h t, blk7 h t, blk8 h t, blk9 h t, blk10 h t, blk11 h t, blk12 h t, blk13 h t, hT, hg, hb, hs]

theorem stB_18 (h0 : ¬t.val % 8 = 0) (h1 : ¬t.val % 8 = 7) {T Ts : ℕ → ℕ → ℕ → ℝ} {Tg Tb : ℕ → ℕ → ℝ}
    (hT : s.2.2.1 = r3 .f32 8 128 128 T) (hg : s.2.2.2.2.1 = r2 .f32 8 128 Tg) (hb : s.2.2.2.2.2.1 = r2 .f32 8 128 Tb)
    (hs : s.2.2.2.2.2.2 = r3 .f32 8 128 128 Ts) :
    (stAt0 m c t.val t.isLt s).2.2.2.2.1 = r2 .f32 8 128 fun g j => Tg g j + ∑ r : Fin 512, dv (A.shift (128 * (4 * t.val))) r (128 * g + j) * xh (A.shift (128 * (4 * t.val))) r (128 * g + j) := by
  rw [stAt0_B m c t s h0 h1]
  dsimp only
  apply leftB_18
  exacts [blk0 h t, blk1 h t, blk2 h t, blk3 h t, blk4 h t, blk5 h t, blk6 h t, blk7 h t, blk8 h t, blk9 h t, blk10 h t, blk11 h t, blk12 h t, blk13 h t, hT, hg, hb, hs]

theorem stB_19 (h0 : ¬t.val % 8 = 0) (h1 : ¬t.val % 8 = 7) {T Ts : ℕ → ℕ → ℕ → ℝ} {Tg Tb : ℕ → ℕ → ℝ}
    (hT : s.2.2.1 = r3 .f32 8 128 128 T) (hg : s.2.2.2.2.1 = r2 .f32 8 128 Tg) (hb : s.2.2.2.2.2.1 = r2 .f32 8 128 Tb)
    (hs : s.2.2.2.2.2.2 = r3 .f32 8 128 128 Ts) :
    (stAt0 m c t.val t.isLt s).2.2.2.2.2.1 = r2 .f32 8 128 fun g j => Tb g j + ∑ r : Fin 512, dv (A.shift (128 * (4 * t.val))) r (128 * g + j) := by
  rw [stAt0_B m c t s h0 h1]
  dsimp only
  apply leftB_19
  exacts [blk0 h t, blk1 h t, blk2 h t, blk3 h t, blk4 h t, blk5 h t, blk6 h t, blk7 h t, blk8 h t, blk9 h t, blk10 h t, blk11 h t, blk12 h t, blk13 h t, hT, hg, hb, hs]

theorem stB_3 (h0 : ¬t.val % 8 = 0) (h1 : ¬t.val % 8 = 7) {T Ts : ℕ → ℕ → ℕ → ℝ} {Tg Tb : ℕ → ℕ → ℝ}
    (hT : s.2.2.1 = r3 .f32 8 128 128 T) (hg : s.2.2.2.2.1 = r2 .f32 8 128 Tg) (hb : s.2.2.2.2.2.1 = r2 .f32 8 128 Tb)
    (hs : s.2.2.2.2.2.2 = r3 .f32 8 128 128 Ts) :
    (stAt0 m c t.val t.isLt s).2.2.2.2.2.2 = r3 .f32 8 128 128 fun g => acc4 (bsTerm (A.shift (128 * (4 * t.val))) g) (Ts g) := by
  rw [stAt0_B m c t s h0 h1]
  dsimp only
  apply leftB_3
  exacts [blk0 h t, blk1 h t, blk2 h t, blk3 h t, blk4 h t, blk5 h t, blk6 h t, blk7 h t, blk8 h t, blk9 h t, blk10 h t, blk11 h t, blk12 h t, blk13 h t, hT, hg, hb, hs]

theorem stC_14 (h0 : ¬t.val % 8 = 0) (h1 : t.val % 8 = 7) {T Ts : ℕ → ℕ → ℕ → ℝ} {Tg Tb : ℕ → ℕ → ℝ}
    (hT : s.2.2.1 = r3 .f32 8 128 128 T) (hg : s.2.2.2.2.1 = r2 .f32 8 128 Tg) (hb : s.2.2.2.2.2.1 = r2 .f32 8 128 Tb)
    (hs : s.2.2.2.2.2.2 = r3 .f32 8 128 128 Ts) :
    (stAt0 m c t.val t.isLt s).1 = r2 .bf16 512 6144 (dz (A.shift (128 * (4 * t.val)))) := by
  rw [stAt0_C m c t s h0 h1]
  dsimp only
  apply leftC_14
  exacts [blk0 h t, blk1 h t, blk2 h t, blk3 h t, blk4 h t, blk5 h t, blk6 h t, blk7 h t, blk8 h t, blk9 h t, blk10 h t, blk11 h t, blk12 h t, blk13 h t, hT, hg, hb, hs]

theorem stC_15 (h0 : ¬t.val % 8 = 0) (h1 : t.val % 8 = 7) {T Ts : ℕ → ℕ → ℕ → ℝ} {Tg Tb : ℕ → ℕ → ℝ}
    (hT : s.2.2.1 = r3 .f32 8 128 128 T) (hg : s.2.2.2.2.1 = r2 .f32 8 128 Tg) (hb : s.2.2.2.2.2.1 = r2 .f32 8 128 Tb)
    (hs : s.2.2.2.2.2.2 = r3 .f32 8 128 128 Ts) :
    (stAt0 m c t.val t.isLt s).2.1 = r2 .f32 512 1024 (dh (A.shift (128 * (4 * t.val)))) := by
  rw [stAt0_C m c t s h0 h1]
  dsimp only
  apply leftC_15
  exacts [blk0 h t, blk1 h t, blk2 h t, blk3 h t, blk4 h t, blk5 h t, blk6 h t, blk7 h t, blk8 h t, blk9 h t, blk10 h t, blk11 h t, blk12 h t, blk13 h t, hT, hg, hb, hs]

theorem stC_16 (h0 : ¬t.val % 8 = 0) (h1 : t.val % 8 = 7) {T Ts : ℕ → ℕ → ℕ → ℝ} {Tg Tb : ℕ → ℕ → ℝ}
    (hT : s.2.2.1 = r3 .f32 8 128 128 T) (hg : s.2.2.2.2.1 = r2 .f32 8 128 Tg) (hb : s.2.2.2.2.2.1 = r2 .f32 8 128 Tb)
    (hs : s.2.2.2.2.2.2 = r3 .f32 8 128 128 Ts) :
    (stAt0 m c t.val t.isLt s).2.2.1 = r3 .f32 8 128 128 fun g => acc4 (wsTerm (A.shift (128 * (4 * t.val))) g) (T g) := by
  rw [stAt0_C m c t s h0 h1]
  dsimp only
  apply leftC_16
  exacts [blk0 h t, blk1 h t, blk2 h t, blk3 h t, blk4 h t, blk5 h t, blk6 h t, blk7 h t, blk8 h t, blk9 h t, blk10 h t, blk11 h t, blk12 h t, blk13 h t, hT, hg, hb, hs]

theorem stC_18 (h0 : ¬t.val % 8 = 0) (h1 : t.val % 8 = 7) {T Ts : ℕ → ℕ → ℕ → ℝ} {Tg Tb : ℕ → ℕ → ℝ}
    (hT : s.2.2.1 = r3 .f32 8 128 128 T) (hg : s.2.2.2.2.1 = r2 .f32 8 128 Tg) (hb : s.2.2.2.2.2.1 = r2 .f32 8 128 Tb)
    (hs : s.2.2.2.2.2.2 = r3 .f32 8 128 128 Ts) :
    (stAt0 m c t.val t.isLt s).2.2.2.2.1 = r2 .f32 8 128 fun g j => Tg g j + ∑ r : Fin 512, dv (A.shift (128 * (4 * t.val))) r (128 * g + j) * xh (A.shift (128 * (4 * t.val))) r (128 * g + j) := by
  rw [stAt0_C m c t s h0 h1]
  dsimp only
  apply leftC_18
  exacts [blk0 h t, blk1 h t, blk2 h t, blk3 h t, blk4 h t, blk5 h t, blk6 h t, blk7 h t, blk8 h t, blk9 h t, blk10 h t, blk11 h t, blk12 h t, blk13 h t, hT, hg, hb, hs]

theorem stC_19 (h0 : ¬t.val % 8 = 0) (h1 : t.val % 8 = 7) {T Ts : ℕ → ℕ → ℕ → ℝ} {Tg Tb : ℕ → ℕ → ℝ}
    (hT : s.2.2.1 = r3 .f32 8 128 128 T) (hg : s.2.2.2.2.1 = r2 .f32 8 128 Tg) (hb : s.2.2.2.2.2.1 = r2 .f32 8 128 Tb)
    (hs : s.2.2.2.2.2.2 = r3 .f32 8 128 128 Ts) :
    (stAt0 m c t.val t.isLt s).2.2.2.2.2.1 = r2 .f32 8 128 fun g j => Tb g j + ∑ r : Fin 512, dv (A.shift (128 * (4 * t.val))) r (128 * g + j) := by
  rw [stAt0_C m c t s h0 h1]
  dsimp only
  apply leftC_19
  exacts [blk0 h t, blk1 h t, blk2 h t, blk3 h t, blk4 h t, blk5 h t, blk6 h t, blk7 h t, blk8 h t, blk9 h t, blk10 h t, blk11 h t, blk12 h t, blk13 h t, hT, hg, hb, hs]

theorem stC_3 (h0 : ¬t.val % 8 = 0) (h1 : t.val % 8 = 7) {T Ts : ℕ → ℕ → ℕ → ℝ} {Tg Tb : ℕ → ℕ → ℝ}
    (hT : s.2.2.1 = r3 .f32 8 128 128 T) (hg : s.2.2.2.2.1 = r2 .f32 8 128 Tg) (hb : s.2.2.2.2.2.1 = r2 .f32 8 128 Tb)
    (hs : s.2.2.2.2.2.2 = r3 .f32 8 128 128 Ts) :
    (stAt0 m c t.val t.isLt s).2.2.2.2.2.2 = r3 .f32 8 128 128 fun g => acc4 (bsTerm (A.shift (128 * (4 * t.val))) g) (Ts g) := by
  rw [stAt0_C m c t s h0 h1]
  dsimp only
  apply leftC_3
  exacts [blk0 h t, blk1 h t, blk2 h t, blk3 h t, blk4 h t, blk5 h t, blk6 h t, blk7 h t, blk8 h t, blk9 h t, blk10 h t, blk11 h t, blk12 h t, blk13 h t, hT, hg, hb, hs]

theorem stC_17 (h0 : ¬t.val % 8 = 0) (h1 : t.val % 8 = 7) {T Ts : ℕ → ℕ → ℕ → ℝ} {Tg Tb : ℕ → ℕ → ℝ}
    (hT : s.2.2.1 = r3 .f32 8 128 128 T) (hg : s.2.2.2.2.1 = r2 .f32 8 128 Tg) (hb : s.2.2.2.2.2.1 = r2 .f32 8 128 Tb)
    (hs : s.2.2.2.2.2.2 = r3 .f32 8 128 128 Ts) :
    (stAt0 m c t.val t.isLt s).2.2.2.1 = r2 .f32 8 128 fun g i => ∑ j : Fin 128, acc4 (bsTerm (A.shift (128 * (4 * t.val))) g) (Ts g) i j := by
  rw [stAt0_C m c t s h0 h1]
  dsimp only
  apply leftC_17
  exacts [blk0 h t, blk1 h t, blk2 h t, blk3 h t, blk4 h t, blk5 h t, blk6 h t, blk7 h t, blk8 h t, blk9 h t, blk10 h t, blk11 h t, blk12 h t, blk13 h t, hT, hg, hb, hs]

/-! ### All points -/

theorem after_first (h0 : t.val % 8 = 0) (h1 : ¬t.val % 8 = 7) (e : t.val = 0) : After A t.val (stAt0 m c t.val t.isLt s) := by
  refine ⟨stA_14 h t s h0 h1, stA_15 h t s h0 h1, (stA_16 h t s h0 h1).trans (r3_ext fun g i j _ _ _ => ?_),
    (stA_18 h t s h0 h1).trans (r2_ext fun g j _ _ => ?_), (stA_19 h t s h0 h1).trans (r2_ext fun g j _ _ => ?_),
    (stA_3 h t s h0 h1).trans (r3_ext fun g i j _ _ _ => ?_)⟩
  · rw [e, ws_start A g]; exact acc4_ws A 0 g i j
  · rw [e, lg_start A g j]; exact add_lg A 0 g j
  · rw [e, lb_start A g j]; exact add_lb A 0 g j
  · rw [e, bs_start A g]; exact acc4_bs A 0 g i j

theorem after_next (h0 : ¬t.val % 8 = 0) (n : ℕ) (e : t.val = n + 1) (p : After A n s) :
    After A t.val (stAt0 m c t.val t.isLt s) := by
  have e1 : 4 * n + 4 = 4 * t.val := by omega
  have e2 : 128 * (4 * n) + 512 = 128 * (4 * t.val) := by omega
  obtain ⟨-, -, pw, pg, pb, ps⟩ := p
  rw [e1] at pw ps
  rw [e2] at pg pb
  by_cases h1 : t.val % 8 = 7
  · exact ⟨stC_14 h t s h0 h1 pw pg pb ps, stC_15 h t s h0 h1 pw pg pb ps,
      (stC_16 h t s h0 h1 pw pg pb ps).trans (r3_ext fun g i j _ _ _ => acc4_ws A t.val g i j),
      (stC_18 h t s h0 h1 pw pg pb ps).trans (r2_ext fun g j _ _ => add_lg A t.val g j),
      (stC_19 h t s h0 h1 pw pg pb ps).trans (r2_ext fun g j _ _ => add_lb A t.val g j),
      (stC_3 h t s h0 h1 pw pg pb ps).trans (r3_ext fun g i j _ _ _ => acc4_bs A t.val g i j)⟩
  · exact ⟨stB_14 h t s h0 h1 pw pg pb ps, stB_15 h t s h0 h1 pw pg pb ps,
      (stB_16 h t s h0 h1 pw pg pb ps).trans (r3_ext fun g i j _ _ _ => acc4_ws A t.val g i j),
      (stB_18 h t s h0 h1 pw pg pb ps).trans (r2_ext fun g j _ _ => add_lg A t.val g j),
      (stB_19 h t s h0 h1 pw pg pb ps).trans (r2_ext fun g j _ _ => add_lb A t.val g j),
      (stB_3 h t s h0 h1 pw pg pb ps).trans (r3_ext fun g i j _ _ _ => acc4_bs A t.val g i j)⟩

theorem after_all (n : ℕ) (hn : n < cfg0.N) : After A n (outsAt0 m c n hn) := by
  have hN : cfg0.N = 8 := N_0
  induction n with
  | zero =>
    rw [outsAt0_zero]
    exact after_first h ⟨0, hn⟩ _ rfl (by show ¬0 % 8 = 7; omega) rfl
  | succ n ih =>
    rw [outsAt0_succ]
    exact after_next h ⟨n + 1, hn⟩ _ (by show ¬(n + 1) % 8 = 0; omega) n rfl (ih (Nat.lt_of_succ_lt hn))

/-- The gradient of the spatial bias, written at the last point only. -/
theorem bias_last (h0 : ¬t.val % 8 = 0) (h1 : t.val % 8 = 7) (n : ℕ) (e : t.val = n + 1) (p : After A n s) :
    (stAt0 m c t.val t.isLt s).2.2.2.1 = r2 .f32 8 128 fun g i => ∑ j : Fin 128, dbs A (4 * t.val + 4) g i j := by
  have e1 : 4 * n + 4 = 4 * t.val := by omega
  have e2 : 128 * (4 * n) + 512 = 128 * (4 * t.val) := by omega
  obtain ⟨-, -, pw, pg, pb, ps⟩ := p
  rw [e1] at pw ps
  rw [e2] at pg pb
  exact (stC_17 h t s h0 h1 pw pg pb ps).trans
    (r2_ext fun g i _ _ => Finset.sum_congr rfl fun j _ => acc4_bs A t.val g i j)

/-! ### The arrays at the end -/

theorem final_dz : G14 m c = r2 .bf16 4096 6144 (dz A) := by
  funext i
  have i0 : (i 0).val < 4096 := (i 0).isLt
  have i1 : (i 1).val < 6144 := (i 1).isLt
  have hp : pt14Of i = (i 0).val / 512 := by
    show 1 * ((i 0).val / 512 - 0) + 1 * ((i 1).val / 6144 - 0) = _
    omega
  have hlt : pt14Of i < cfg0.N := by rw [hp]; exact lt_of_lt_of_eq (by omega) N_0.symm
  unfold G14
  rw [dif_pos hlt, ← outsAt0_sweep m c _ hlt, (after_all h _ hlt).dz]
  show ((dz (A.shift (128 * (4 * pt14Of i))) ((i 0).val % 512) ((i 1).val % 6144) : ℝ) : EReal) = _
  rw [dz_shift, hp, Nat.mod_eq_of_lt i1, show 128 * (4 * ((i 0).val / 512)) + (i 0).val % 512 = (i 0).val by omega]
  rfl

theorem final_dh : G15 m c = r2 .f32 4096 1024 (dh A) := by
  funext i
  have i0 : (i 0).val < 4096 := (i 0).isLt
  have i1 : (i 1).val < 1024 := (i 1).isLt
  have hp : pt15Of i = (i 0).val / 512 := by
    show 1 * ((i 0).val / 512 - 0) + 1 * ((i 1).val / 1024 - 0) = _
    omega
  have hlt : pt15Of i < cfg0.N := by rw [hp]; exact lt_of_lt_of_eq (by omega) N_0.symm
  unfold G15
  rw [dif_pos hlt, ← outsAt0_sweep m c _ hlt, (after_all h _ hlt).dh]
  show ((dh (A.shift (128 * (4 * pt15Of i))) ((i 0).val % 512) ((i 1).val % 1024) : ℝ) : EReal) = _
  rw [dh_shift, hp, Nat.mod_eq_of_lt i1, show 128 * (4 * ((i 0).val / 512)) + (i 0).val % 512 = (i 0).val by omega]
  rfl

theorem final_ws : G16 m c = r3 .f32 8 128 128 (dws A 32) := by
  rw [G16_last, ← outsAt0_sweep m c 7 (lt_of_lt_of_eq (by decide) N_0.symm)]
  exact (after_all h 7 _).ws

theorem final_bs : G17 m c = r2 .f32 8 128 fun g i => ∑ j : Fin 128, dbs A 32 g i j := by
  rw [G17_last, ← outsAt0_sweep m c 7 (lt_of_lt_of_eq (by decide) N_0.symm)]
  rw [outsAt0_succ]
  exact bias_last h ⟨7, lt_of_lt_of_eq (by decide) N_0.symm⟩ _ (by show ¬7 % 8 = 0; omega) (by show 7 % 8 = 7; omega) 6 rfl (after_all h 6 _)

theorem final_lg : G18 m c = r2 .f32 8 128 (dlg A 4096) := by
  rw [G18_last, ← outsAt0_sweep m c 7 (lt_of_lt_of_eq (by decide) N_0.symm)]
  exact (after_all h 7 _).lg

theorem final_lb : G19 m c = r2 .f32 8 128 (dlb A 4096) := by
  rw [G19_last, ← outsAt0_sweep m c 7 (lt_of_lt_of_eq (by decide) N_0.symm)]
  exact (after_all h 7 _).lb

end Cert.Mix

end
-- ==== Proof.Mix.Host.lean ====
/-
  The host's operations on blocks of real numbers: what the reference's lines give, operation by operation, when their operands
  hold real numbers. `r0` is a scalar and `r4` an array of rank four, beside the blocks of `Vec`.
-/
module

public import Idealize.ShloMosaic.Lib.IdealHost
public import Idealize.ShloMosaic.Lib.KernelVsHost
public import Idealize.ShloMosaic.Lib.TwoAxisContraction
public import proofs.«01_k».proof.Proof.Mix.Vec

@[expose] public section

noncomputable section

namespace Cert.Mix

open Idealize.ShloMosaic

variable {φ ψ : FTy} {a b c d : ℕ}

def r0 (φ : FTy) (x : ℝ) : FVec Ideal ⟨0, ![]⟩ φ := fun _ => (x : EReal)
def r4 (φ : FTy) (a b c d : ℕ) (f : ℕ → ℕ → ℕ → ℕ → ℝ) : FVec Ideal ⟨4, ![a, b, c, d]⟩ φ :=
  fun i => ((f (i 0).val (i 1).val (i 2).val (i 3).val : ℝ) : EReal)

theorem r4_ext {f g : ℕ → ℕ → ℕ → ℕ → ℝ}
    (h : ∀ i j k l, i < a → j < b → k < c → l < d → f i j k l = g i j k l) : r4 φ a b c d f = r4 φ a b c d g :=
  funext fun x => congrArg _ (h _ _ _ _ (x 0).isLt (x 1).isLt (x 2).isLt (x 3).isLt)

theorem r1_ext {f g : ℕ → ℝ} (h : ∀ i, i < a → f i = g i) : r1 φ a f = r1 φ a g :=
  funext fun x => congrArg _ (h _ (x 0).isLt)

/-! ### Constants and their spreads -/

theorem const_r0 {w : BitVec 32} {x : ℝ} (h : Ideal.ofBits .f32 w = (x : EReal)) :
    (constant (⟨0, ![]⟩ : Shape) .f32 w : FVec Ideal ⟨0, ![]⟩ .f32) = r0 .f32 x := funext fun _ => h
theorem const_0 : (constant (⟨0, ![]⟩ : Shape) .f32 0x00000000#32 : FVec Ideal ⟨0, ![]⟩ .f32) = r0 .f32 0 := const_r0 w_zero
theorem const_half : (constant (⟨0, ![]⟩ : Shape) .f32 0x3F000000#32 : FVec Ideal ⟨0, ![]⟩ .f32) = r0 .f32 (1 / 2) := const_r0 w_half
theorem const_neg_half : (constant (⟨0, ![]⟩ : Shape) .f32 0xBF000000#32 : FVec Ideal ⟨0, ![]⟩ .f32) = r0 .f32 (-(1 / 2)) :=
  const_r0 w_neg_half
theorem const_1 : (constant (⟨0, ![]⟩ : Shape) .f32 0x3F800000#32 : FVec Ideal ⟨0, ![]⟩ .f32) = r0 .f32 1 := const_r0 w_one
theorem const_3 : (constant (⟨0, ![]⟩ : Shape) .f32 0x40400000#32 : FVec Ideal ⟨0, ![]⟩ .f32) = r0 .f32 3 := const_r0 w_three
theorem const_1024 : (constant (⟨0, ![]⟩ : Shape) .f32 0x44800000#32 : FVec Ideal ⟨0, ![]⟩ .f32) = r0 .f32 1024 := const_r0 w_1024
theorem const_44715 : (constant (⟨0, ![]⟩ : Shape) .f32 0x472EAB00#32 : FVec Ideal ⟨0, ![]⟩ .f32) = r0 .f32 44715 := const_r0 w_44715
theorem const_million : (constant (⟨0, ![]⟩ : Shape) .f32 0x49742400#32 : FVec Ideal ⟨0, ![]⟩ .f32) = r0 .f32 1000000 :=
  const_r0 w_million
theorem const_gc : (constant (⟨0, ![]⟩ : Shape) .f32 0x3F4C422A#32 : FVec Ideal ⟨0, ![]⟩ .f32) = r0 .f32 gc := const_r0 w_gc
theorem const_eps : (constant (⟨0, ![]⟩ : Shape) .f32 0x358637BD#32 : FVec Ideal ⟨0, ![]⟩ .f32) = r0 .f32 eps := const_r0 w_eps

/-- The quotient of the two constants that make up `gelu`'s 0.044715. -/
theorem const_quotient : Host.divf (r0 .f32 44715) (r0 .f32 1000000) = r0 .f32 (8943 / 200000) :=
  funext fun _ => (ideal_div_coe (by norm_num)).trans (congrArg _ (by norm_num))

theorem spread_r0 (x : ℝ) (h : (⟨0, ![]⟩ : Shape).BroadcastsInDim ⟨2, ![a, b]⟩ ![]) :
    broadcastInDim (⟨2, ![a, b]⟩ : Shape) ![] h (r0 φ x) = r2 φ a b fun _ _ => x := rfl

/-! ### Elementwise operations -/

section
variable (f g : ℕ → ℕ → ℝ)

theorem host_divf_r2 (h : ∀ i j, i < a → j < b → g i j ≠ 0) :
    Host.divf (r2 φ a b f) (r2 φ a b g) = r2 φ a b fun i j => f i j / g i j :=
  funext fun x => ideal_div_coe (h _ _ (x 0).isLt (x 1).isLt)
theorem host_divf_const (y : ℝ) (h : y ≠ 0) :
    Host.divf (r2 φ a b f) (r2 φ a b fun _ _ => y) = r2 φ a b fun i j => f i j / y :=
  host_divf_r2 _ _ fun _ _ _ _ => h
theorem host_tanh_r2 : Host.tanh (r2 φ a b f) = r2 φ a b fun i j => Real.tanh (f i j) := rfl
theorem host_negf_r2 : Host.negf (r2 φ a b f) = r2 φ a b fun i j => -f i j := rfl
theorem host_exp_r2 : Host.exp (r2 φ a b f) = r2 φ a b fun i j => Real.exp (f i j) := rfl
theorem host_rsqrt_r2 (h : ∀ i j, 0 < f i j) : Host.rsqrt (r2 φ a b f) = r2 φ a b fun i j => (Real.sqrt (f i j))⁻¹ :=
  funext fun _ => ideal_rsqrt_coe (h _ _)
theorem addf_r4 (f g : ℕ → ℕ → ℕ → ℕ → ℝ) :
    addf (r4 φ a b c d f) (r4 φ a b c d g) = r4 φ a b c d fun i j k l => f i j k l + g i j k l := rfl

/-! ### Spreads of rows and columns -/

theorem spread_in_col (h : (⟨2, ![a, 1]⟩ : Shape).BroadcastsInDim ⟨2, ![a, b]⟩ ![0, 1]) :
    broadcastInDim (⟨2, ![a, b]⟩ : Shape) ![0, 1] h (r2 φ a 1 f) = r2 φ a b fun i _ => f i 0 := by
  funext j
  refine (broadcastInDim_apply _ h _ j (ix2 (j 0) 0) fun x => ?_).trans rfl
  by_cases ha : a = 1
  · subst ha
    have : (j 0).val = 0 := by have := (j 0).isLt; simpa using this
    fin_cases x <;> simp [this]
  · fin_cases x <;> simp [ha]
theorem spread_in_row (h : (⟨2, ![1, b]⟩ : Shape).BroadcastsInDim ⟨2, ![a, b]⟩ ![0, 1]) :
    broadcastInDim (⟨2, ![a, b]⟩ : Shape) ![0, 1] h (r2 φ 1 b f) = r2 φ a b fun _ j => f 0 j := by
  funext j
  refine (broadcastInDim_apply _ h _ j (ix2 0 (j 1)) fun x => ?_).trans rfl
  by_cases hb : b = 1
  · subst hb
    have : (j 1).val = 0 := by have := (j 1).isLt; simpa using this
    fin_cases x <;> simp [this]
  · fin_cases x <;> simp [hb]
theorem spread_r1_rows (f : ℕ → ℝ) (h : (⟨1, ![a]⟩ : Shape).BroadcastsInDim ⟨2, ![a, b]⟩ ![0]) :
    broadcastInDim (⟨2, ![a, b]⟩ : Shape) ![0] h (r1 φ a f) = r2 φ a b fun i _ => f i := by
  funext j
  refine (broadcastInDim_apply _ h _ j (ix1 (j 0)) fun x => ?_).trans rfl
  by_cases ha : a = 1
  · subst ha
    have : (j 0).val = 0 := by have := (j 0).isLt; simpa using this
    fin_cases x; simp [this]
  · fin_cases x; simp [ha]
theorem spread_r1_cols (f : ℕ → ℝ) (h : (⟨1, ![b]⟩ : Shape).BroadcastsInDim ⟨2, ![a, b]⟩ ![1]) :
    broadcastInDim (⟨2, ![a, b]⟩ : Shape) ![1] h (r1 φ b f) = r2 φ a b fun _ j => f j := by
  funext j
  refine (broadcastInDim_apply _ h _ j (ix1 (j 1)) fun x => ?_).trans rfl
  by_cases hb : b = 1
  · subst hb
    have : (j 1).val = 0 := by have := (j 1).isLt; simpa using this
    fin_cases x; simp [this]
  · fin_cases x; simp [hb]

/-! ### Sums -/

theorem host_sum_cols (h : (⟨2, ![a, b]⟩ : Shape).ReducesTo [1] ⟨1, ![a]⟩) (hu : 0 < (⟨0, ![]⟩ : Shape).numel) :
    Host.reduceAdd (r2 φ a b f) (r0 φ 0) h hu = r1 φ a fun i => ∑ k : Fin b, f i k := by
  funext j
  rw [ValueIdx.hostReduceAdd_apply, Ideal.hostReduceAdd_r2_a1]
  show ((0 : ℝ) : EReal) + _ = _
  rw [EReal.coe_zero, zero_add]
  exact coe_sum _ _
theorem host_sum_rows (h : (⟨2, ![a, b]⟩ : Shape).ReducesTo [0] ⟨1, ![b]⟩) (hu : 0 < (⟨0, ![]⟩ : Shape).numel) :
    Host.reduceAdd (r2 φ a b f) (r0 φ 0) h hu = r1 φ b fun j => ∑ k : Fin a, f k j := by
  funext j
  rw [ValueIdx.hostReduceAdd_apply, Ideal.hostReduceAdd_r2_a0]
  show ((0 : ℝ) : EReal) + _ = _
  rw [EReal.coe_zero, zero_add]
  exact coe_sum _ _

/-- A sum over the first and the last of four axes. -/
theorem host_sum_outer (f : ℕ → ℕ → ℕ → ℕ → ℝ) (h : (⟨4, ![a, b, c, d]⟩ : Shape).ReducesTo [0, 3] ⟨2, ![b, c]⟩)
    (hu : 0 < (⟨0, ![]⟩ : Shape).numel) :
    Host.reduceAdd (r4 φ a b c d f) (r0 φ 0) h hu = r2 φ b c fun i j => ∑ k : Fin a, ∑ l : Fin d, f k i j l := by
  funext j
  rw [ValueIdx.hostReduceAdd_apply]
  unfold Ideal.hostReduceAdd
  show ((0 : ℝ) : EReal) + _ = _
  rw [EReal.coe_zero, zero_add]
  refine (@Finset.sum_filter_eq_sum_of_fiber _ _ _ _ _ _ _ (fun i => h.drop i = j)
    (fun i => Fintype.decidablePiFintype (h.drop i) j) (fun k : Fin a × Fin d => ix4 k.1 (j 0) (j 1) k.2)
    (fun _ _ e => Prod.ext (congrFun e 0) (congrFun e 3)) (fun i => ⟨fun e => ⟨(i 0, i 3), ?_⟩, ?_⟩) _).trans ?_
  · subst e
    funext x; apply Fin.ext
    match x with
    | ⟨0, _⟩ => rfl
    | ⟨1, _⟩ => rfl
    | ⟨2, _⟩ => rfl
    | ⟨3, _⟩ => rfl
  · rintro ⟨k, rfl⟩
    funext x; apply Fin.ext
    match x with
    | ⟨0, _⟩ => rfl
    | ⟨1, _⟩ => rfl
  · rw [Fintype.sum_prod_type]
    show ∑ k : Fin a, ∑ l : Fin d, ((f k (j 0).val (j 1).val l : ℝ) : EReal)
      = ((∑ k : Fin a, ∑ l : Fin d, f k (j 0).val (j 1).val l : ℝ) : EReal)
    simp only [coe_sum]

end

/-! ### Zeros around columns -/

/-- A block of columns set between zero columns. -/
theorem pad_r2 (o e n : ℕ) (f : ℕ → ℕ → ℝ) (h : (⟨2, ![a, b]⟩ : Shape).Pads (![0, o] : Fin 2 → Nat) ![0, e] ![0, 0] ⟨2, ![a, n]⟩)
    (hu : 0 < (⟨0, ![]⟩ : Shape).numel) :
    pad (⟨2, ![a, n]⟩ : Shape) ![0, o] ![0, e] ![0, 0] (r2 φ a b f) (r0 φ 0) h hu
      = r2 φ a n fun i j => if o ≤ j ∧ j < o + b then f i (j - o) else 0 := by
  funext j
  by_cases hj : o ≤ (j 1).val ∧ (j 1).val < o + b
  · refine (pad_apply_of_inside _ _ _ _ _ h hu j (ix2 (j 0) ⟨(j 1).val - o, by omega⟩) fun x => ?_).trans ?_
    · match x with
      | ⟨0, _⟩ => show (j 0).val = 0 + (j 0).val * (0 + 1); omega
      | ⟨1, _⟩ => show (j 1).val = o + ((j 1).val - o) * (0 + 1); omega
    · show _ = ((ite _ _ _ : ℝ) : EReal)
      rw [if_pos hj]; rfl
  · refine (pad_apply_of_not_inside _ _ _ _ _ h hu j 1 ?_).trans ?_
    · show ¬(o ≤ (j 1).val ∧ ((j 1).val - o) % (0 + 1) = 0 ∧ ((j 1).val - o) / (0 + 1) < b)
      omega
    · show _ = ((ite _ _ _ : ℝ) : EReal)
      rw [if_neg hj]; rfl

end Cert.Mix

end
-- ==== Proof.Mix.Ref.lean ====
/-
  The reference read on real numbers: when its nine arguments hold the real numbers of `A`, every array it computes holds the real
  numbers of `Real`'s formulas. The lemmas go through the program in its order; `e_v23` says what buffer `v23` holds.
-/
module

public import proofs.«01_k».proof.Proof.Gen.ReferenceIdeal.Read
public import proofs.«01_k».proof.Proof.Mix.Blocks
public import proofs.«01_k».proof.Proof.Mix.Host

@[expose] public section

set_option maxRecDepth 16384

noncomputable section

namespace Cert.Mix

open Cert.ReferenceIdeal Cert.ReferenceIdeal.Gen Cert.ReferenceIdeal.Read Idealize.ShloMosaic

variable (A : Args)

/-! ### The arguments -/

abbrev aX : (⟨S4096x1024, .f32⟩ : BufTy).Contents (Elt Ideal) := r2 .f32 4096 1024 A.X
abbrev aW : (⟨S1024x1024, .f32⟩ : BufTy).Contents (Elt Ideal) := r2 .f32 1024 1024 A.W
abbrev aH0 : (⟨S4096x1024, .f32⟩ : BufTy).Contents (Elt Ideal) := r2 .f32 4096 1024 A.H0
abbrev aH1 : (⟨S4096x1024, .f32⟩ : BufTy).Contents (Elt Ideal) := r2 .f32 4096 1024 A.H1
abbrev aZ : (⟨S4096x6144, .f32⟩ : BufTy).Contents (Elt Ideal) := r2 .f32 4096 6144 A.Z
abbrev aG : (⟨S1024, .f32⟩ : BufTy).Contents (Elt Ideal) := r1 .f32 1024 A.lg
abbrev aB : (⟨S1024, .f32⟩ : BufTy).Contents (Elt Ideal) := r1 .f32 1024 A.lb
abbrev aS : (⟨S8x128x128, .f32⟩ : BufTy).Contents (Elt Ideal) := r3 .f32 8 128 128 A.ws
abbrev aC : (⟨S8x128, .f32⟩ : BufTy).Contents (Elt Ideal) := r2 .f32 8 128 A.bs

/-! ### The activations and their derivatives -/

theorem e_v1 : val_main_v1 (F := Ideal) (aZ A)
    = r2 .f32 4096 1024 fun i j => A.Z i j := by
  simp only [val_main_v1, slice_r2, Nat.zero_add]

theorem e_v11 : val_main_v11 (F := Ideal) = r2 .f32 4096 1024 fun _ _ => gc :=
  congrArg (broadcastInDim S4096x1024 ![] bcast_S_S4096x1024) const_gc

theorem e_v2 : val_main_v2 (F := Ideal) = r0 .f32 (8943 / 200000) :=
  (congrArg₂ Host.divf const_44715 const_million).trans const_quotient

theorem e_v8 : val_main_v8 (F := Ideal) = r2 .f32 4096 1024 fun _ _ => 8943 / 200000 :=
  congrArg (broadcastInDim S4096x1024 ![] bcast_S_S4096x1024) e_v2

theorem e_v13 : val_main_v13 (F := Ideal) (aZ A)
    = r2 .f32 4096 1024 fun i j => gt (A.Z i j) := by
  simp only [val_main_v13, val_main_v12, val_main_v10, val_main_v9, val_main_v4, val_main_v3, e_v11, e_v1, e_v8, addf_r2,
    mulf_r2, host_tanh_r2]
  rfl

theorem e_v21 : val_main_v21 (F := Ideal) = r2 .f32 4096 1024 fun _ _ => 1 / 2 :=
  congrArg (broadcastInDim S4096x1024 ![] bcast_S_S4096x1024) const_half

theorem e_v19 : val_main_v19 (F := Ideal) = r2 .f32 4096 1024 fun _ _ => 1 :=
  congrArg (broadcastInDim S4096x1024 ![] bcast_S_S4096x1024) const_1

theorem e_v22 : val_main_v22 (F := Ideal) (aZ A)
    = r2 .f32 4096 1024 fun i j => 1 / 2 * (1 + gt (A.Z i j)) := by
  simp only [val_main_v22, val_main_v20, e_v21, e_v19, e_v13, addf_r2, mulf_r2]

theorem e_v23 : val_main_v23 (F := Ideal) (aZ A)
    = r2 .f32 4096 1024 (u A) := by
  simp only [val_main_v23, e_v1, e_v22, mulf_r2]
  exact r2_ext fun i j _ _ => gelu_ref _

theorem e_v14 : val_main_v14 (F := Ideal) = r2 .f32 4096 1024 fun _ _ => 1 :=
  congrArg (broadcastInDim S4096x1024 ![] bcast_S_S4096x1024) const_1

theorem e_v16 : val_main_v16 (F := Ideal) = r2 .f32 4096 1024 fun _ _ => 1 :=
  congrArg (broadcastInDim S4096x1024 ![] bcast_S_S4096x1024) const_1

theorem e_v18 : val_main_v18 (F := Ideal) (aZ A)
    = r2 .f32 4096 1024 fun i j => (1 + gt (A.Z i j)) * (1 - gt (A.Z i j)) := by
  simp only [val_main_v18, val_main_v15, val_main_v17, e_v14, e_v13, e_v16, addf_r2, mulf_r2, subf_r2]

theorem e_v6 : val_main_v6 (F := Ideal) = r2 .f32 4096 1024 fun _ _ => 3 :=
  congrArg (broadcastInDim S4096x1024 ![] bcast_S_S4096x1024) const_3

theorem e_v7 : val_main_v7 (F := Ideal) (aZ A)
    = r2 .f32 4096 1024 fun i j => 3 * (A.Z i j * A.Z i j) := by
  simp only [val_main_v7, val_main_v5, e_v6, e_v1, mulf_r2]

theorem e_v24 : val_main_v24 (F := Ideal) (aZ A)
    = r2 .f32 4096 1024 fun i j => A.Z i (1024 + j) := by
  simp only [val_main_v24, slice_r2, Nat.zero_add]

theorem e_v34 : val_main_v34 (F := Ideal) = r2 .f32 4096 1024 fun _ _ => gc :=
  congrArg (broadcastInDim S4096x1024 ![] bcast_S_S4096x1024) const_gc

theorem e_v25 : val_main_v25 (F := Ideal) = r0 .f32 (8943 / 200000) :=
  (congrArg₂ Host.divf const_44715 const_million).trans const_quotient

theorem e_v31 : val_main_v31 (F := Ideal) = r2 .f32 4096 1024 fun _ _ => 8943 / 200000 :=
  congrArg (broadcastInDim S4096x1024 ![] bcast_S_S4096x1024) e_v25

theorem e_v36 : val_main_v36 (F := Ideal) (aZ A)
    = r2 .f32 4096 1024 fun i j => gt (A.Z i (1024 + j)) := by
  simp only [val_main_v36, val_main_v35, val_main_v33, val_main_v32, val_main_v27, val_main_v26, e_v34, e_v24, e_v31,
    addf_r2, mulf_r2, host_tanh_r2]
  rfl

theorem e_v44 : val_main_v44 (F := Ideal) = r2 .f32 4096 1024 fun _ _ => 1 / 2 :=
  congrArg (broadcastInDim S4096x1024 ![] bcast_S_S4096x1024) const_half

theorem e_v42 : val_main_v42 (F := Ideal) = r2 .f32 4096 1024 fun _ _ => 1 :=
  congrArg (broadcastInDim S4096x1024 ![] bcast_S_S4096x1024) const_1

theorem e_v45 : val_main_v45 (F := Ideal) (aZ A)
    = r2 .f32 4096 1024 fun i j => 1 / 2 * (1 + gt (A.Z i (1024 + j))) := by
  simp only [val_main_v45, val_main_v43, e_v44, e_v42, e_v36, addf_r2, mulf_r2]

theorem e_v46 : val_main_v46 (F := Ideal) (aZ A)
    = r2 .f32 4096 1024 (gv A) := by
  simp only [val_main_v46, e_v24, e_v45, mulf_r2]
  exact r2_ext fun i j _ _ => gelu_ref _

theorem e_v37 : val_main_v37 (F := Ideal) = r2 .f32 4096 1024 fun _ _ => 1 :=
  congrArg (broadcastInDim S4096x1024 ![] bcast_S_S4096x1024) const_1

theorem e_v39 : val_main_v39 (F := Ideal) = r2 .f32 4096 1024 fun _ _ => 1 :=
  congrArg (broadcastInDim S4096x1024 ![] bcast_S_S4096x1024) const_1

theorem e_v41 : val_main_v41 (F := Ideal) (aZ A)
    = r2 .f32 4096 1024 fun i j => (1 + gt (A.Z i (1024 + j))) * (1 - gt (A.Z i (1024 + j))) := by
  simp only [val_main_v41, val_main_v38, val_main_v40, e_v37, e_v36, e_v39, addf_r2, mulf_r2, subf_r2]

theorem e_v29 : val_main_v29 (F := Ideal) = r2 .f32 4096 1024 fun _ _ => 3 :=
  congrArg (broadcastInDim S4096x1024 ![] bcast_S_S4096x1024) const_3

theorem e_v30 : val_main_v30 (F := Ideal) (aZ A)
    = r2 .f32 4096 1024 fun i j => 3 * (A.Z i (1024 + j) * A.Z i (1024 + j)) := by
  simp only [val_main_v30, val_main_v28, e_v29, e_v24, mulf_r2]

theorem e_v81 : val_main_v81 (F := Ideal) (aZ A)
    = r2 .f32 4096 1024 fun i j => A.Z i (3072 + j) := by
  simp only [val_main_v81, slice_r2, Nat.zero_add]

theorem e_v91 : val_main_v91 (F := Ideal) = r2 .f32 4096 1024 fun _ _ => gc :=
  congrArg (broadcastInDim S4096x1024 ![] bcast_S_S4096x1024) const_gc

theorem e_v82 : val_main_v82 (F := Ideal) = r0 .f32 (8943 / 200000) :=
  (congrArg₂ Host.divf const_44715 const_million).trans const_quotient

theorem e_v88 : val_main_v88 (F := Ideal) = r2 .f32 4096 1024 fun _ _ => 8943 / 200000 :=
  congrArg (broadcastInDim S4096x1024 ![] bcast_S_S4096x1024) e_v82

theorem e_v93 : val_main_v93 (F := Ideal) (aZ A)
    = r2 .f32 4096 1024 fun i j => gt (A.Z i (3072 + j)) := by
  simp only [val_main_v93, val_main_v92, val_main_v90, val_main_v89, val_main_v84, val_main_v83, e_v91, e_v81, e_v88,
    addf_r2, mulf_r2, host_tanh_r2]
  rfl

theorem e_v101 : val_main_v101 (F := Ideal) = r2 .f32 4096 1024 fun _ _ => 1 / 2 :=
  congrArg (broadcastInDim S4096x1024 ![] bcast_S_S4096x1024) const_half

theorem e_v99 : val_main_v99 (F := Ideal) = r2 .f32 4096 1024 fun _ _ => 1 :=
  congrArg (broadcastInDim S4096x1024 ![] bcast_S_S4096x1024) const_1

theorem e_v102 : val_main_v102 (F := Ideal) (aZ A)
    = r2 .f32 4096 1024 fun i j => 1 / 2 * (1 + gt (A.Z i (3072 + j))) := by
  simp only [val_main_v102, val_main_v100, e_v101, e_v99, e_v93, addf_r2, mulf_r2]

theorem e_v103 : val_main_v103 (F := Ideal) (aZ A)
    = r2 .f32 4096 1024 (gg A) := by
  simp only [val_main_v103, e_v81, e_v102, mulf_r2]
  exact r2_ext fun i j _ _ => gelu_ref _

theorem e_v94 : val_main_v94 (F := Ideal) = r2 .f32 4096 1024 fun _ _ => 1 :=
  congrArg (broadcastInDim S4096x1024 ![] bcast_S_S4096x1024) const_1

theorem e_v96 : val_main_v96 (F := Ideal) = r2 .f32 4096 1024 fun _ _ => 1 :=
  congrArg (broadcastInDim S4096x1024 ![] bcast_S_S4096x1024) const_1

theorem e_v98 : val_main_v98 (F := Ideal) (aZ A)
    = r2 .f32 4096 1024 fun i j => (1 + gt (A.Z i (3072 + j))) * (1 - gt (A.Z i (3072 + j))) := by
  simp only [val_main_v98, val_main_v95, val_main_v97, e_v94, e_v93, e_v96, addf_r2, mulf_r2, subf_r2]

theorem e_v86 : val_main_v86 (F := Ideal) = r2 .f32 4096 1024 fun _ _ => 3 :=
  congrArg (broadcastInDim S4096x1024 ![] bcast_S_S4096x1024) const_3

theorem e_v87 : val_main_v87 (F := Ideal) (aZ A)
    = r2 .f32 4096 1024 fun i j => 3 * (A.Z i (3072 + j) * A.Z i (3072 + j)) := by
  simp only [val_main_v87, val_main_v85, e_v86, e_v81, mulf_r2]

theorem e_v105 : val_main_v105 (F := Ideal) (aZ A)
    = r2 .f32 4096 1024 fun i j => A.Z i (4096 + j) := by
  simp only [val_main_v105, slice_r2, Nat.zero_add]

theorem e_v110 : val_main_v110 (F := Ideal) = r2 .f32 4096 1024 fun _ _ => 1 :=
  congrArg (broadcastInDim S4096x1024 ![] bcast_S_S4096x1024) const_1

theorem e_v108 : val_main_v108 (F := Ideal) = r2 .f32 4096 1024 fun _ _ => 1 :=
  congrArg (broadcastInDim S4096x1024 ![] bcast_S_S4096x1024) const_1

theorem e_v111 : val_main_v111 (F := Ideal) (aZ A)
    = r2 .f32 4096 1024 (sa A) := by
  simp only [val_main_v111, val_main_v109, val_main_v107, val_main_v106, e_v110, e_v108, e_v105, addf_r2, host_negf_r2,
    host_exp_r2]
  refine (host_divf_r2 _ _ fun i j _ _ => ?_).trans (r2_ext fun i j _ _ => sg_ref _)
  have := Real.exp_pos (-(A.Z i (4096 + j)))
  exact (add_pos one_pos this).ne'

theorem e_v112 : val_main_v112 (F := Ideal) = r2 .f32 4096 1024 fun _ _ => 1 :=
  congrArg (broadcastInDim S4096x1024 ![] bcast_S_S4096x1024) const_1

theorem e_v114 : val_main_v114 (F := Ideal) (aZ A)
    = r2 .f32 4096 1024 fun i j => sa A i j * (1 - sa A i j) := by
  simp only [val_main_v114, val_main_v113, e_v111, e_v112, mulf_r2, subf_r2]

theorem e_v116 : val_main_v116 (F := Ideal) (aZ A)
    = r2 .f32 4096 1024 fun i j => A.Z i (5120 + j) := by
  simp only [val_main_v116, slice_r2, Nat.zero_add]

theorem e_v121 : val_main_v121 (F := Ideal) = r2 .f32 4096 1024 fun _ _ => 1 :=
  congrArg (broadcastInDim S4096x1024 ![] bcast_S_S4096x1024) const_1

theorem e_v119 : val_main_v119 (F := Ideal) = r2 .f32 4096 1024 fun _ _ => 1 :=
  congrArg (broadcastInDim S4096x1024 ![] bcast_S_S4096x1024) const_1

theorem e_v122 : val_main_v122 (F := Ideal) (aZ A)
    = r2 .f32 4096 1024 (sb A) := by
  simp only [val_main_v122, val_main_v120, val_main_v118, val_main_v117, e_v121, e_v119, e_v116, addf_r2, host_negf_r2,
    host_exp_r2]
  refine (host_divf_r2 _ _ fun i j _ _ => ?_).trans (r2_ext fun i j _ _ => sg_ref _)
  have := Real.exp_pos (-(A.Z i (5120 + j)))
  exact (add_pos one_pos this).ne'

theorem e_v123 : val_main_v123 (F := Ideal) = r2 .f32 4096 1024 fun _ _ => 1 :=
  congrArg (broadcastInDim S4096x1024 ![] bcast_S_S4096x1024) const_1

theorem e_v125 : val_main_v125 (F := Ideal) (aZ A)
    = r2 .f32 4096 1024 fun i j => sb A i j * (1 - sb A i j) := by
  simp only [val_main_v125, val_main_v124, e_v122, e_v123, mulf_r2, subf_r2]

/-! ### The forward pass -/

theorem e_v0 : val_main_v0 (F := Ideal) (aH0 A) (aH1 A)
    = r2 .f32 4096 1024 (hs A) := by
  simp only [val_main_v0, addf_r2]
  rfl

theorem e_v104 : val_main_v104 (F := Ideal) (aH0 A) (aH1 A) (aZ A)
    = r2 .f32 4096 1024 fun i j => hs A i j * gg A i j := by
  simp only [val_main_v104, e_v0, e_v103, mulf_r2]

theorem e_v47 : val_main_v47 (F := Ideal) (aZ A)
    = r1 .f32 4096 fun i => ∑ k : Fin 1024, gv A i k := by
  simp only [val_main_v47, val_main_cst_15, e_v46, const_0, host_sum_cols]

theorem e_v48 : val_main_v48 (F := Ideal) (aZ A)
    = r2 .f32 4096 1 fun i j => ∑ k : Fin 1024, gv A i k := by
  unfold val_main_v48; rw [e_v47]; exact spread_r1_rows _ _

theorem e_v49 : val_main_v49 (F := Ideal) = r2 .f32 4096 1 fun _ _ => 1024 :=
  congrArg (broadcastInDim S4096x1 ![] bcast_S_S4096x1) const_1024

theorem e_v50 : val_main_v50 (F := Ideal) (aZ A)
    = r2 .f32 4096 1 fun i j => mean (gv A i) := by
  simp only [val_main_v50, e_v48, e_v49]
  exact host_divf_const _ 1024 (by norm_num)

theorem e_v51 : val_main_v51 (F := Ideal) (aZ A)
    = r2 .f32 4096 1024 fun i j => mean (gv A i) := by
  unfold val_main_v51; rw [e_v50]; exact spread_in_col _ _

theorem e_v52 : val_main_v52 (F := Ideal) (aZ A)
    = r2 .f32 4096 1024 (xc A) := by
  simp only [val_main_v52, e_v46, e_v51, subf_r2]
  rfl

theorem e_v54 : val_main_v54 (F := Ideal) (aZ A)
    = r1 .f32 4096 fun i => ∑ k : Fin 1024, xc A i k * xc A i k := by
  simp only [val_main_v54, val_main_v53, val_main_cst_17, e_v52, mulf_r2, const_0, host_sum_cols]

theorem e_v55 : val_main_v55 (F := Ideal) (aZ A)
    = r2 .f32 4096 1 fun i j => ∑ k : Fin 1024, xc A i k * xc A i k := by
  unfold val_main_v55; rw [e_v54]; exact spread_r1_rows _ _

theorem e_v56 : val_main_v56 (F := Ideal) = r2 .f32 4096 1 fun _ _ => 1024 :=
  congrArg (broadcastInDim S4096x1 ![] bcast_S_S4096x1) const_1024

theorem e_v57 : val_main_v57 (F := Ideal) (aZ A)
    = r2 .f32 4096 1 fun i j => var A i := by
  simp only [val_main_v57, e_v55, e_v56]
  exact host_divf_const _ 1024 (by norm_num)

theorem e_v58 : val_main_v58 (F := Ideal) = r2 .f32 4096 1 fun _ _ => eps :=
  congrArg (broadcastInDim S4096x1 ![] bcast_S_S4096x1) const_eps

theorem e_v59 : val_main_v59 (F := Ideal) (aZ A)
    = r2 .f32 4096 1 fun i j => var A i + eps := by
  simp only [val_main_v59, e_v57, e_v58, addf_r2]

theorem var_eps_pos (i : ℕ) : 0 < var A i + eps :=
  add_pos_of_nonneg_of_pos (mean_nonneg_sq fun j => xc A i j) eps_pos

theorem e_v60 : val_main_v60 (F := Ideal) (aZ A)
    = r2 .f32 4096 1 fun i j => rstd A i := by
  simp only [val_main_v60, e_v59]
  exact host_rsqrt_r2 _ fun i _ => var_eps_pos A i

theorem e_v61 : val_main_v61 (F := Ideal) (aZ A)
    = r2 .f32 4096 1 fun i j => rstd A i / (var A i + eps) := by
  simp only [val_main_v61, e_v60, e_v59]
  exact host_divf_r2 _ _ fun i _ _ _ => (var_eps_pos A i).ne'

theorem e_v62 : val_main_v62 (F := Ideal) = r2 .f32 4096 1 fun _ _ => -(1 / 2) :=
  congrArg (broadcastInDim S4096x1 ![] bcast_S_S4096x1) const_neg_half

theorem e_v63 : val_main_v63 (F := Ideal) (aZ A)
    = r2 .f32 4096 1 fun i j => -(1 / 2) * (rstd A i / (var A i + eps)) := by
  simp only [val_main_v63, e_v62, e_v61, mulf_r2]

theorem e_v64 : val_main_v64 (F := Ideal) (aZ A)
    = r2 .f32 4096 1024 fun i j => rstd A i := by
  unfold val_main_v64; rw [e_v60]; exact spread_in_col _ _

theorem e_v65 : val_main_v65 (F := Ideal) (aZ A)
    = r2 .f32 4096 1024 (xh A) := by
  simp only [val_main_v65, e_v52, e_v64, mulf_r2]
  rfl

theorem e_v66 : val_main_v66 (F := Ideal) (aG A)
    = r2 .f32 1 1024 fun i j => A.lg j := by
  exact spread_r1_cols _ _

theorem e_v67 : val_main_v67 (F := Ideal) (aG A)
    = r2 .f32 4096 1024 fun i j => A.lg j := by
  unfold val_main_v67; rw [e_v66]; exact spread_in_row _ _

theorem e_v69 : val_main_v69 (F := Ideal) (aB A)
    = r2 .f32 1 1024 fun i j => A.lb j := by
  exact spread_r1_cols _ _

theorem e_v70 : val_main_v70 (F := Ideal) (aB A)
    = r2 .f32 4096 1024 fun i j => A.lb j := by
  unfold val_main_v70; rw [e_v69]; exact spread_in_row _ _

theorem e_v71 : val_main_v71 (F := Ideal) (aZ A) (aG A) (aB A)
    = r2 .f32 4096 1024 (vb A) := by
  simp only [val_main_v71, val_main_v68, e_v65, e_v67, e_v70, addf_r2, mulf_r2]
  rfl

/-! ### The spatial product -/

theorem coe_mul_sum {n : ℕ} (f g : ℕ → ℝ) :
    ∑ k : Fin n, ((f k : ℝ) : EReal) * ((g k : ℝ) : EReal) = ((∑ k : Fin n, f k * g k : ℝ) : EReal) := by
  simp only [← EReal.coe_mul]
  exact coe_sum _ _
theorem coe_sum_sum {m n : ℕ} (f : ℕ → ℕ → ℝ) :
    ∑ j : Fin m, ∑ k : Fin n, ((f j k : ℝ) : EReal) = ((∑ j : Fin m, ∑ k : Fin n, f j k : ℝ) : EReal) := by
  simp only [coe_sum]

theorem e_v72 : val_main_v72 (F := Ideal) (aZ A) (aG A) (aB A)
    = r4 .f32 32 128 8 128 fun n p g c => vb A (128 * n + p) (128 * g + c) := by
  funext i
  have h0 : (i 0).val < 32 := (i 0).isLt
  have h1 : (i 1).val < 128 := (i 1).isLt
  have h2 : (i 2).val < 8 := (i 2).isLt
  have h3 : (i 3).val < 128 := (i 3).isLt
  rw [val_main_v72_apply, e_v71]
  exact congrArg₂ (fun x y : ℕ => ((vb A x y : ℝ) : EReal))
    (show ((((i 0).val * 128 + (i 1).val) * 8 + (i 2).val) * 128 + (i 3).val) / 1024 = 128 * (i 0).val + (i 1).val by omega)
    (show ((((i 0).val * 128 + (i 1).val) * 8 + (i 2).val) * 128 + (i 3).val) % 1024 = 128 * (i 2).val + (i 3).val by omega)

theorem e_v73 : val_main_v73 (F := Ideal) (aZ A) (aG A) (aB A) (aS A)
    = r4 .f32 8 32 128 128 fun g n c p => ∑ q : Fin 128, vb A (128 * n + q) (128 * g + c) * A.ws g p q := by
  funext i
  rw [val_main_v73_apply, e_v72]
  exact coe_mul_sum (fun q : ℕ => vb A (128 * (i 1).val + q) (128 * (i 0).val + (i 2).val)) (fun q : ℕ => A.ws (i 0).val (i 3).val q)

theorem e_v74 : val_main_v74 (F := Ideal) (aZ A) (aG A) (aB A) (aS A)
    = r4 .f32 32 128 8 128 fun n p g c => ∑ q : Fin 128, vb A (128 * n + q) (128 * g + c) * A.ws g p q := by
  funext i
  rw [val_main_v74_apply, e_v73]
  rfl

theorem e_v77 : val_main_v77 (F := Ideal) (aC A)
    = r4 .f32 32 128 8 128 fun n p g c => A.bs g p := by
  funext i
  rw [val_main_v77_apply, val_main_v76_apply, val_main_v75_apply]
  rfl

theorem e_v78 : val_main_v78 (F := Ideal) (aZ A) (aG A) (aB A) (aS A) (aC A)
    = r4 .f32 32 128 8 128 fun n p g c => mixed A (128 * n + p) (128 * g + c) := by
  unfold val_main_v78
  rw [e_v74, e_v77, addf_r4]
  refine r4_ext fun n p g c _ hp _ hc => ?_
  rw [mixed_at A n g hp hc]
  simp only [mul_comm]

theorem e_v79 : val_main_v79 (F := Ideal) (aZ A) (aG A) (aB A) (aS A) (aC A)
    = r2 .f32 4096 1024 (mixed A) := by
  funext i
  have h0 : (i 0).val < 4096 := (i 0).isLt
  have h1 : (i 1).val < 1024 := (i 1).isLt
  rw [val_main_v79_apply, e_v78]
  exact congrArg₂ (fun x y : ℕ => ((mixed A x y : ℝ) : EReal))
    (show 128 * (((i 0).val * 1024 + (i 1).val) / 131072) + ((i 0).val * 1024 + (i 1).val) / 1024 % 128 = (i 0).val by omega)
    (show 128 * (((i 0).val * 1024 + (i 1).val) / 128 % 8) + ((i 0).val * 1024 + (i 1).val) % 128 = (i 1).val by omega)

theorem e_v80 : val_main_v80 (F := Ideal) (aZ A) (aG A) (aB A) (aS A) (aC A)
    = r2 .f32 4096 1024 (ya A) := by
  simp only [val_main_v80, e_v23, e_v79, mulf_r2]
  rfl

/-! ### The backward pass: the gates and the gating product -/

theorem e_v129 : val_main_v129 (F := Ideal) (aX A) (aW A)
    = r2 .f32 4096 1024 (dm A) := by
  funext i
  rw [val_main_v129_apply]
  exact coe_mul_sum (fun k : ℕ => A.X (i 0).val k) (fun k : ℕ => A.W (i 1).val k)

theorem e_v132 : val_main_v132 (F := Ideal) (aX A) (aW A) (aH0 A) (aH1 A) (aZ A)
    = r2 .f32 4096 1024 (dz5 A) := by
  simp only [val_main_v132, val_main_v131, e_v129, e_v104, e_v125, mulf_r2]
  exact r2_ext fun i j _ _ => by unfold dz5; ring

theorem e_v136 : val_main_v136 (F := Ideal) (aX A) (aW A) (aZ A) (aG A) (aB A) (aS A) (aC A)
    = r2 .f32 4096 1024 (dz4 A) := by
  simp only [val_main_v136, val_main_v135, e_v129, e_v80, e_v114, mulf_r2]
  exact r2_ext fun i j _ _ => by unfold dz4; ring

theorem e_v139 : val_main_v139 (F := Ideal) (aX A) (aW A) (aH0 A) (aH1 A) (aZ A)
    = r2 .f32 4096 1024 fun i j => hs A i j * (dm A i j * sb A i j) := by
  simp only [val_main_v139, val_main_v130, e_v0, e_v122, e_v129, mulf_r2]
  exact r2_ext fun i j _ _ => by ring

theorem e_v140 : val_main_v140 (F := Ideal) (aX A) (aW A) (aZ A)
    = r2 .f32 4096 1024 (dh A) := by
  simp only [val_main_v140, val_main_v130, e_v122, e_v129, e_v103, mulf_r2]
  exact r2_ext fun i j _ _ => by unfold dh; ring

theorem e_v146 : val_main_v146 (F := Ideal) = r2 .f32 4096 1024 fun _ _ => gc :=
  congrArg (broadcastInDim S4096x1024 ![] bcast_S_S4096x1024) const_gc

theorem e_v143 : val_main_v143 (F := Ideal) = r2 .f32 4096 1024 fun _ _ => 1 / 2 :=
  congrArg (broadcastInDim S4096x1024 ![] bcast_S_S4096x1024) const_half

theorem e_v149 : val_main_v149 (F := Ideal) = r2 .f32 4096 1024 fun _ _ => 8943 / 200000 :=
  congrArg (broadcastInDim S4096x1024 ![] bcast_S_S4096x1024) e_v82

theorem e_v152 : val_main_v152 (F := Ideal) (aX A) (aW A) (aH0 A) (aH1 A) (aZ A)
    = r2 .f32 4096 1024 (dz3 A) := by
  simp only [val_main_v152, val_main_v148, val_main_v142, val_main_v147, val_main_v145, val_main_v144, val_main_v141,
    val_main_v151, val_main_v150, e_v139, e_v102, e_v146, e_v143, e_v81, e_v98, e_v149, e_v87, addf_r2, mulf_r2]
  exact r2_ext fun i j _ _ => (dgelu_ref _ _).trans (by unfold dz3; ring)

theorem e_v155 : val_main_v155 (F := Ideal) (aX A) (aW A) (aZ A)
    = r2 .f32 4096 1024 (dmx A) := by
  simp only [val_main_v155, val_main_v134, e_v23, e_v111, e_v129, mulf_r2]
  exact r2_ext fun i j _ _ => by unfold dmx dya; ring

theorem e_v156 : val_main_v156 (F := Ideal) (aX A) (aW A) (aZ A) (aG A) (aB A) (aS A) (aC A)
    = r2 .f32 4096 1024 (du A) := by
  simp only [val_main_v156, val_main_v134, e_v111, e_v129, e_v79, mulf_r2]
  exact r2_ext fun i j _ _ => by unfold du dya; ring

theorem e_v217 : val_main_v217 (F := Ideal) = r2 .f32 4096 1024 fun _ _ => gc :=
  congrArg (broadcastInDim S4096x1024 ![] bcast_S_S4096x1024) const_gc

theorem e_v214 : val_main_v214 (F := Ideal) = r2 .f32 4096 1024 fun _ _ => 1 / 2 :=
  congrArg (broadcastInDim S4096x1024 ![] bcast_S_S4096x1024) const_half

theorem e_v220 : val_main_v220 (F := Ideal) = r2 .f32 4096 1024 fun _ _ => 8943 / 200000 :=
  congrArg (broadcastInDim S4096x1024 ![] bcast_S_S4096x1024) e_v2

theorem e_v223 : val_main_v223 (F := Ideal) (aX A) (aW A) (aZ A) (aG A) (aB A) (aS A) (aC A)
    = r2 .f32 4096 1024 (dz0 A) := by
  simp only [val_main_v223, val_main_v219, val_main_v213, val_main_v218, val_main_v216, val_main_v215, val_main_v212,
    val_main_v222, val_main_v221, e_v156, e_v22, e_v217, e_v214, e_v1, e_v18, e_v220, e_v7, addf_r2, mulf_r2]
  exact r2_ext fun i j _ _ => dgelu_ref _ _

theorem e_v157 : val_main_v157 (F := Ideal) (aX A) (aW A) (aZ A)
    = r4 .f32 32 128 8 128 fun n p g c => dmx A (128 * n + p) (128 * g + c) := by
  funext i
  have h0 : (i 0).val < 32 := (i 0).isLt
  have h1 : (i 1).val < 128 := (i 1).isLt
  have h2 : (i 2).val < 8 := (i 2).isLt
  have h3 : (i 3).val < 128 := (i 3).isLt
  rw [val_main_v157_apply, e_v155]
  exact congrArg₂ (fun x y : ℕ => ((dmx A x y : ℝ) : EReal))
    (show ((((i 0).val * 128 + (i 1).val) * 8 + (i 2).val) * 128 + (i 3).val) / 1024 = 128 * (i 0).val + (i 1).val by omega)
    (show ((((i 0).val * 128 + (i 1).val) * 8 + (i 2).val) * 128 + (i 3).val) % 1024 = 128 * (i 2).val + (i 3).val by omega)

theorem e_v158 : val_main_v158 (F := Ideal) (aX A) (aW A) (aZ A)
    = r2 .f32 128 8 fun p g => ∑ n : Fin 32, ∑ c : Fin 128, dmx A (128 * n + p) (128 * g + c) := by
  unfold val_main_v158
  rw [e_v157, show val_main_cst_40 (F := Ideal) = r0 .f32 0 from const_0]
  exact host_sum_outer _ _ _

theorem e_v159 : val_main_v159 (F := Ideal) (aX A) (aW A) (aZ A)
    = r4 .f32 1 128 8 1 fun _ p g _ => ∑ n : Fin 32, ∑ c : Fin 128, dmx A (128 * n + p) (128 * g + c) := by
  funext i
  have h0 : (i 0).val < 1 := (i 0).isLt
  have h1 : (i 1).val < 128 := (i 1).isLt
  have h2 : (i 2).val < 8 := (i 2).isLt
  have h3 : (i 3).val < 1 := (i 3).isLt
  rw [val_main_v159_apply, e_v158]
  exact congrArg₂ (fun x y : ℕ => ((∑ n : Fin 32, ∑ c : Fin 128, dmx A (128 * n + x) (128 * y + c) : ℝ) : EReal))
    (show ((((i 0).val * 128 + (i 1).val) * 8 + (i 2).val) * 1 + (i 3).val) / 8 = (i 1).val by omega)
    (show ((((i 0).val * 128 + (i 1).val) * 8 + (i 2).val) * 1 + (i 3).val) % 8 = (i 2).val by omega)

theorem e_v160 : val_main_v160 (F := Ideal) (aX A) (aW A) (aZ A)
    = r2 .f32 128 8 fun p g => ∑ n : Fin 32, ∑ c : Fin 128, dmx A (128 * n + p) (128 * g + c) := by
  unfold val_main_v160
  rw [e_v159, show val_main_cst_41 (F := Ideal) = r0 .f32 0 from const_0]
  refine (host_sum_outer _ _ _).trans (r2_ext fun p g _ _ => ?_)
  simp only [Fin.sum_univ_one]

theorem e_v161 : val_main_v161 (F := Ideal) (aX A) (aW A) (aZ A)
    = r2 .f32 8 128 fun g p => ∑ c : Fin 128, dbs A 32 g p c := by
  funext i
  rw [val_main_v161_apply, e_v160]
  exact congrArg (fun x : ℝ => (x : EReal))
    (Finset.sum_comm (f := fun (n : Fin 32) (c : Fin 128) => dmx A (128 * n + (i 1).val) (128 * (i 0).val + c)))

theorem e_v162 : val_main_v162 (F := Ideal) (aX A) (aW A) (aZ A)
    = r4 .f32 8 32 128 128 fun g n c p => dmx A (128 * n + p) (128 * g + c) := by
  funext i
  rw [val_main_v162_apply, e_v157]
  rfl

theorem e_v164 : val_main_v164 (F := Ideal) (aX A) (aW A) (aZ A) (aS A)
    = r4 .f32 8 32 128 128 fun g n c q => ∑ p : Fin 128, dmx A (128 * n + p) (128 * g + c) * A.ws g p q := by
  funext i
  rw [val_main_v164_apply, e_v162]
  exact coe_mul_sum (fun p : ℕ => dmx A (128 * (i 1).val + p) (128 * (i 0).val + (i 2).val))
    (fun p : ℕ => A.ws (i 0).val p (i 3).val)

theorem e_v165 : val_main_v165 (F := Ideal) (aX A) (aW A) (aZ A) (aS A)
    = r4 .f32 32 128 8 128 fun n q g c => dv A (128 * n + q) (128 * g + c) := by
  have h := r4_ext (φ := .f32) (a := 32) (b := 128) (c := 8) (d := 128)
    (f := fun n q g c => ∑ p : Fin 128, dmx A (128 * n + p) (128 * g + c) * A.ws g p q)
    (g := fun n q g c => dv A (128 * n + q) (128 * g + c)) fun n q g c _ hq _ hc => by
      rw [dv_at A n g hq hc]; simp only [mul_comm]
  rw [← h]
  funext i
  rw [val_main_v165_apply, e_v164]
  rfl

theorem e_v166 : val_main_v166 (F := Ideal) (aX A) (aW A) (aZ A) (aS A)
    = r2 .f32 4096 1024 (dv A) := by
  funext i
  have h0 : (i 0).val < 4096 := (i 0).isLt
  have h1 : (i 1).val < 1024 := (i 1).isLt
  rw [val_main_v166_apply, e_v165]
  exact congrArg₂ (fun x y : ℕ => ((dv A x y : ℝ) : EReal))
    (show 128 * (((i 0).val * 1024 + (i 1).val) / 131072) + ((i 0).val * 1024 + (i 1).val) / 1024 % 128 = (i 0).val by omega)
    (show 128 * (((i 0).val * 1024 + (i 1).val) / 128 % 8) + ((i 0).val * 1024 + (i 1).val) % 128 = (i 1).val by omega)

theorem e_v163 : val_main_v163 (F := Ideal) (aX A) (aW A) (aZ A) (aG A) (aB A)
    = r3 .f32 8 128 128 (dws A 32) := by
  unfold val_main_v163
  rw [e_v162, e_v72]
  funext i
  simp only [Host.dotGeneral]
  rw [Ideal.dotGeneral_apply, ValueIdx.sum_contr2 dot_S8x32x128x128_S32x128x8x128_S8x128x128_12_03_3_1_0_2 32 128 rfl rfl rfl]
  refine Eq.trans (Finset.sum_congr rfl fun n _ => Finset.sum_congr rfl fun c _ => ?_) (coe_sum_sum (fun n c : ℕ =>
    dmx A (128 * n + (i 1).val) (128 * (i 0).val + c) * vb A (128 * n + (i 2).val) (128 * (i 0).val + c)))
  have h0 := ValueIdx.contrEquiv2_symm_val0 dot_S8x32x128x128_S32x128x8x128_S8x128x128_12_03_3_1_0_2 32 128 rfl rfl rfl (n, c)
  have h1 := ValueIdx.contrEquiv2_symm_val1 dot_S8x32x128x128_S32x128x8x128_S8x128x128_12_03_3_1_0_2 32 128 rfl rfl rfl (n, c)
  have el : dot_S8x32x128x128_S32x128x8x128_S8x128x128_12_03_3_1_0_2.lhsIdx i ((ValueIdx.contrEquiv2
      dot_S8x32x128x128_S32x128x8x128_S8x128x128_12_03_3_1_0_2 32 128 rfl rfl rfl).symm (n, c)) = ix4 (i 0) n c (i 1) := by
    funext x; apply Fin.ext
    match x with
    | ⟨0, _⟩ => rfl
    | ⟨1, _⟩ => exact h0
    | ⟨2, _⟩ => exact h1
    | ⟨3, _⟩ => rfl
  have er : dot_S8x32x128x128_S32x128x8x128_S8x128x128_12_03_3_1_0_2.rhsIdx i ((ValueIdx.contrEquiv2
      dot_S8x32x128x128_S32x128x8x128_S8x128x128_12_03_3_1_0_2 32 128 rfl rfl rfl).symm (n, c)) = ix4 n (i 2) (i 0) c := by
    funext x; apply Fin.ext
    match x with
    | ⟨0, _⟩ => exact h0
    | ⟨1, _⟩ => rfl
    | ⟨2, _⟩ => rfl
    | ⟨3, _⟩ => exact h1
  rw [el, er]
  exact (EReal.coe_mul _ _).symm

/-! ### The layer norm -/

theorem e_v167 : val_main_v167 (F := Ideal) (aX A) (aW A) (aZ A) (aS A)
    = r1 .f32 1024 fun i => ∑ r : Fin 4096, dv A r i := by
  simp only [val_main_v167, val_main_cst_42, e_v166, const_0, host_sum_rows]

theorem e_v168 : val_main_v168 (F := Ideal) (aX A) (aW A) (aZ A) (aS A)
    = r2 .f32 1 1024 fun _ j => ∑ r : Fin 4096, dv A r j := by
  unfold val_main_v168; rw [e_v167]; exact cast_r1_row _ _

theorem e_v169 : val_main_v169 (F := Ideal) (aX A) (aW A) (aZ A) (aS A)
    = r1 .f32 1024 fun i => ∑ r : Fin 4096, dv A r i := by
  simp only [val_main_v169, val_main_cst_43, e_v168, const_0, host_sum_rows]
  exact r1_ext fun i _ => by simp only [Fin.sum_univ_one]

theorem e_v170 : val_main_v170 (F := Ideal) (aX A) (aW A) (aZ A) (aS A)
    = r2 .f32 4096 1024 fun i j => xh A i j * dv A i j := by
  simp only [val_main_v170, e_v65, e_v166, mulf_r2]

theorem e_v171 : val_main_v171 (F := Ideal) (aX A) (aW A) (aZ A) (aS A)
    = r1 .f32 1024 fun i => ∑ r : Fin 4096, xh A r i * dv A r i := by
  simp only [val_main_v171, val_main_cst_44, e_v170, const_0, host_sum_rows]

theorem e_v172 : val_main_v172 (F := Ideal) (aX A) (aW A) (aZ A) (aS A)
    = r2 .f32 1 1024 fun _ j => ∑ r : Fin 4096, xh A r j * dv A r j := by
  unfold val_main_v172; rw [e_v171]; exact cast_r1_row _ _

theorem e_v175 : val_main_v175 (F := Ideal) (aX A) (aW A) (aZ A) (aS A)
    = r1 .f32 1024 fun i => ∑ r : Fin 4096, xh A r i * dv A r i := by
  simp only [val_main_v175, val_main_cst_45, e_v172, const_0, host_sum_rows]
  exact r1_ext fun i _ => by simp only [Fin.sum_univ_one]

theorem e_v173 : val_main_v173 (F := Ideal) (aG A)
    = r2 .f32 4096 1024 fun i j => A.lg j := by
  unfold val_main_v173; rw [e_v66]; exact spread_in_row _ _

theorem e_v174 : val_main_v174 (F := Ideal) (aX A) (aW A) (aZ A) (aG A) (aS A)
    = r2 .f32 4096 1024 (dxh A) := by
  simp only [val_main_v174, e_v166, e_v173, mulf_r2]
  rfl

/-- The cotangent of the variance. -/
def dvar (r : ℕ) : ℝ := (∑ j : Fin 1024, xc A r j * dxh A r j) * (-(1 / 2) * (rstd A r / (var A r + eps))) / 1024

theorem e_v177 : val_main_v177 (F := Ideal) (aX A) (aW A) (aZ A) (aG A) (aS A)
    = r1 .f32 4096 fun i => ∑ k : Fin 1024, xc A i k * dxh A i k := by
  simp only [val_main_v177, val_main_v176, val_main_cst_46, e_v52, e_v174, mulf_r2, const_0, host_sum_cols]

theorem e_v178 : val_main_v178 (F := Ideal) (aX A) (aW A) (aZ A) (aG A) (aS A)
    = r2 .f32 4096 1 fun i j => ∑ k : Fin 1024, xc A i k * dxh A i k := by
  unfold val_main_v178; rw [e_v177]; exact cast_r1_col _ _

theorem e_v179 : val_main_v179 (F := Ideal) (aZ A)
    = r2 .f32 4096 1024 fun i j => rstd A i := by
  unfold val_main_v179; rw [e_v60]; exact spread_in_col _ _

theorem e_v180 : val_main_v180 (F := Ideal) (aX A) (aW A) (aZ A) (aG A) (aS A)
    = r2 .f32 4096 1024 fun i j => dxh A i j * rstd A i := by
  simp only [val_main_v180, e_v174, e_v179, mulf_r2]

theorem e_v181 : val_main_v181 (F := Ideal) (aX A) (aW A) (aZ A) (aG A) (aS A)
    = r2 .f32 4096 1 fun i j => (∑ k : Fin 1024, xc A i k * dxh A i k) * (-(1 / 2) * (rstd A i / (var A i + eps))) := by
  simp only [val_main_v181, e_v178, e_v63, mulf_r2]

theorem e_v182 : val_main_v182 (F := Ideal) = r2 .f32 4096 1 fun _ _ => 1024 :=
  congrArg (broadcastInDim S4096x1 ![] bcast_S_S4096x1) const_1024

theorem e_v183 : val_main_v183 (F := Ideal) (aX A) (aW A) (aZ A) (aG A) (aS A)
    = r2 .f32 4096 1 fun i j => dvar A i := by
  simp only [val_main_v183, e_v181, e_v182]
  exact host_divf_const _ 1024 (by norm_num)

theorem e_v184 : val_main_v184 (F := Ideal) (aX A) (aW A) (aZ A) (aG A) (aS A)
    = r1 .f32 4096 fun i => dvar A i := by
  simp only [val_main_v184, val_main_cst_48, e_v183, const_0, host_sum_cols]
  exact r1_ext fun i _ => by simp only [Fin.sum_univ_one]

theorem e_v185 : val_main_v185 (F := Ideal) (aX A) (aW A) (aZ A) (aG A) (aS A)
    = r2 .f32 4096 1024 fun i j => dvar A i := by
  unfold val_main_v185; rw [e_v184]; exact spread_r1_rows _ _

theorem e_v189 : val_main_v189 (F := Ideal) (aX A) (aW A) (aZ A) (aG A) (aS A)
    = r2 .f32 4096 1024 fun i j => dxh A i j * rstd A i + xc A i j * dvar A i + dvar A i * xc A i j := by
  simp only [val_main_v189, val_main_v187, val_main_v186, val_main_v188, e_v180, e_v52, e_v185, addf_r2, mulf_r2]

theorem e_v191 : val_main_v191 (F := Ideal) (aX A) (aW A) (aZ A) (aG A) (aS A)
    = r1 .f32 4096 fun i => ∑ k : Fin 1024, -(dxh A i k * rstd A i + xc A i k * dvar A i + dvar A i * xc A i k) := by
  simp only [val_main_v191, val_main_v190, val_main_cst_49, e_v189, host_negf_r2, const_0, host_sum_cols]

theorem e_v192 : val_main_v192 (F := Ideal) (aX A) (aW A) (aZ A) (aG A) (aS A)
    = r2 .f32 4096 1 fun i j => ∑ k : Fin 1024, -(dxh A i k * rstd A i + xc A i k * dvar A i + dvar A i * xc A i k) := by
  unfold val_main_v192; rw [e_v191]; exact cast_r1_col _ _

theorem e_v193 : val_main_v193 (F := Ideal) = r2 .f32 4096 1 fun _ _ => 1024 :=
  congrArg (broadcastInDim S4096x1 ![] bcast_S_S4096x1) const_1024

theorem e_v194 : val_main_v194 (F := Ideal) (aX A) (aW A) (aZ A) (aG A) (aS A)
    = r2 .f32 4096 1 fun i j => (∑ k : Fin 1024, -(dxh A i k * rstd A i + xc A i k * dvar A i + dvar A i * xc A i k)) / 1024 := by
  simp only [val_main_v194, e_v192, e_v193]
  exact host_divf_const _ 1024 (by norm_num)

theorem e_v195 : val_main_v195 (F := Ideal) (aX A) (aW A) (aZ A) (aG A) (aS A)
    = r1 .f32 4096 fun i => (∑ k : Fin 1024, -(dxh A i k * rstd A i + xc A i k * dvar A i + dvar A i * xc A i k)) / 1024 := by
  simp only [val_main_v195, val_main_cst_51, e_v194, const_0, host_sum_cols]
  exact r1_ext fun i _ => by simp only [Fin.sum_univ_one]

theorem e_v196 : val_main_v196 (F := Ideal) (aX A) (aW A) (aZ A) (aG A) (aS A)
    = r2 .f32 4096 1024 fun i j => (∑ k : Fin 1024, -(dxh A i k * rstd A i + xc A i k * dvar A i + dvar A i * xc A i k)) / 1024 := by
  unfold val_main_v196; rw [e_v195]; exact spread_r1_rows _ _

theorem e_v197 : val_main_v197 (F := Ideal) (aX A) (aW A) (aZ A) (aG A) (aS A)
    = r2 .f32 4096 1024 (dgv A) := by
  simp only [val_main_v197, e_v189, e_v196, addf_r2]
  refine r2_ext fun i j _ _ => ?_
  rw [Finset.sum_neg_distrib]
  exact layernorm_ref eps_pos (gv A i) (dxh A i) (xc A i) (fun _ => rfl) (var A i) (rstd A i) (dvar A i) rfl rfl rfl j

theorem e_v203 : val_main_v203 (F := Ideal) = r2 .f32 4096 1024 fun _ _ => gc :=
  congrArg (broadcastInDim S4096x1024 ![] bcast_S_S4096x1024) const_gc

theorem e_v200 : val_main_v200 (F := Ideal) = r2 .f32 4096 1024 fun _ _ => 1 / 2 :=
  congrArg (broadcastInDim S4096x1024 ![] bcast_S_S4096x1024) const_half

theorem e_v206 : val_main_v206 (F := Ideal) = r2 .f32 4096 1024 fun _ _ => 8943 / 200000 :=
  congrArg (broadcastInDim S4096x1024 ![] bcast_S_S4096x1024) e_v25

theorem e_v209 : val_main_v209 (F := Ideal) (aX A) (aW A) (aZ A) (aG A) (aS A)
    = r2 .f32 4096 1024 (dz1 A) := by
  simp only [val_main_v209, val_main_v205, val_main_v199, val_main_v204, val_main_v202, val_main_v201, val_main_v198,
    val_main_v208, val_main_v207, e_v197, e_v45, e_v203, e_v200, e_v24, e_v41, e_v206, e_v30, addf_r2, mulf_r2]
  exact r2_ext fun i j _ _ => dgelu_ref _ _

/-! ### The gradient of the projections, its column blocks set side by side -/

theorem e_v133 : val_main_v133 (F := Ideal) (aX A) (aW A) (aH0 A) (aH1 A) (aZ A)
    = r2 .f32 4096 6144 fun i j => if 5120 ≤ j ∧ j < 5120 + 1024 then dz5 A i (j - 5120) else 0 := by
  unfold val_main_v133
  rw [e_v132, show val_main_cst_35 (F := Ideal) = r0 .f32 0 from const_0]
  exact pad_r2 5120 0 6144 _ _ _

theorem e_v137 : val_main_v137 (F := Ideal) (aX A) (aW A) (aZ A) (aG A) (aB A) (aS A) (aC A)
    = r2 .f32 4096 6144 fun i j => if 4096 ≤ j ∧ j < 4096 + 1024 then dz4 A i (j - 4096) else 0 := by
  unfold val_main_v137
  rw [e_v136, show val_main_cst_36 (F := Ideal) = r0 .f32 0 from const_0]
  exact pad_r2 4096 1024 6144 _ _ _

theorem e_v153 : val_main_v153 (F := Ideal) (aX A) (aW A) (aH0 A) (aH1 A) (aZ A)
    = r2 .f32 4096 6144 fun i j => if 3072 ≤ j ∧ j < 3072 + 1024 then dz3 A i (j - 3072) else 0 := by
  unfold val_main_v153
  rw [e_v152, show val_main_cst_39 (F := Ideal) = r0 .f32 0 from const_0]
  exact pad_r2 3072 2048 6144 _ _ _

theorem e_v210 : val_main_v210 (F := Ideal) (aX A) (aW A) (aZ A) (aG A) (aS A)
    = r2 .f32 4096 6144 fun i j => if 1024 ≤ j ∧ j < 1024 + 1024 then dz1 A i (j - 1024) else 0 := by
  unfold val_main_v210
  rw [e_v209, show val_main_cst_54 (F := Ideal) = r0 .f32 0 from const_0]
  exact pad_r2 1024 4096 6144 _ _ _

theorem e_v224 : val_main_v224 (F := Ideal) (aX A) (aW A) (aZ A) (aG A) (aB A) (aS A) (aC A)
    = r2 .f32 4096 6144 fun i j => if 0 ≤ j ∧ j < 0 + 1024 then dz0 A i (j - 0) else 0 := by
  unfold val_main_v224
  rw [e_v223, show val_main_cst_57 (F := Ideal) = r0 .f32 0 from const_0]
  exact pad_r2 0 5120 6144 _ _ _

theorem e_v225 : val_main_v225 (F := Ideal) (aX A) (aW A) (aH0 A) (aH1 A) (aZ A) (aG A) (aB A) (aS A) (aC A)
    = r2 .f32 4096 6144 (dz A) := by
  simp only [val_main_v225, val_main_v211, val_main_v154, val_main_v138, e_v133, e_v137, e_v153, e_v210, e_v224, addf_r2]
  refine r2_ext fun i j _ hj => ?_
  unfold dz
  have hc : j < 1024 ∨ (1024 ≤ j ∧ j < 2048) ∨ (2048 ≤ j ∧ j < 3072) ∨ (3072 ≤ j ∧ j < 4096) ∨ (4096 ≤ j ∧ j < 5120)
      ∨ 5120 ≤ j := by omega
  rcases hc with h | h | h | h | h | h <;>
    simp (disch := omega) only [if_pos, if_neg, Nat.sub_zero, zero_add, add_zero]

theorem e_v226 : val_main_v226 (F := Ideal) (aX A) (aW A) (aH0 A) (aH1 A) (aZ A) (aG A) (aB A) (aS A) (aC A)
    = r2 .bf16 4096 6144 (dz A) := by
  unfold val_main_v226; rw [e_v225]; rfl

theorem e_v227 : val_main_v227 (F := Ideal) (aX A) (aW A) (aZ A) (aS A)
    = r2 .f32 8 128 (dlg A 4096) := by
  funext i
  rw [val_main_v227_apply, e_v175]
  refine (congrArg (fun k : ℕ => ((∑ r : Fin 4096, xh A r (k) * dv A r (k) : ℝ) : EReal))
    (show (i 0).val * 128 + (i 1).val = 128 * (i 0).val + (i 1).val by omega)).trans ?_
  simp only [mul_comm (xh _ _ _)]
  rfl

theorem e_v228 : val_main_v228 (F := Ideal) (aX A) (aW A) (aZ A) (aS A)
    = r2 .f32 8 128 (dlb A 4096) := by
  funext i
  rw [val_main_v228_apply, e_v169]
  refine (congrArg (fun k : ℕ => ((∑ r : Fin 4096, dv A r (k) : ℝ) : EReal))
    (show (i 0).val * 128 + (i 1).val = 128 * (i 0).val + (i 1).val by omega)).trans ?_
  rfl

end Cert.Mix

end
-- ==== Proof.Mix.Value.lean ====
/-
  The mixer's claims: the frames of the two ideal programs, the two named constants, and that the kernel and the reference
  end with equal results whenever every entry of every argument is a real number.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Mix.Finite
public import proofs.«01_k».proof.Proof.Mix.State
public import proofs.«01_k».proof.Proof.Mix.Ref
public import Idealize.ShloMosaic.Lib.Quiescent

@[expose] public section

set_option maxRecDepth 16384

noncomputable section

namespace Cert.Mix

open Idealize.ShloMosaic Idealize.ShloMosaic.TcCoe Idealize.SL.Sem

/-- The two words the kernel's text rounds are the certificate's 0.044715 and its triple. -/
theorem preserves : Cert.preserves_Kernel_KernelIdeal :=
  ⟨IdealRules.named_const.statement Cert.KernelIdeal.κ "gelu_a" .f32 0x3D372713#32 ((8943 / 200000 : ℝ) : EReal) rfl,
    IdealRules.named_const.statement Cert.KernelIdeal.κ "gelu_3a" .f32 0x3E095D4F#32 ((26829 / 200000 : ℝ) : EReal) rfl⟩

theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

section
variable (m : (ℓ : Loc Cert.KernelIdeal.nD Cert.KernelIdeal.τ Cert.KernelIdeal.sig) → Buf (Elt Ideal) ℓ) (c : Dev Cert.KernelIdeal.nD)

/-- The real numbers a device's arguments hold. -/
def argsOf : Args :=
  args
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))

theorem holds (h : Cert.Pre_KernelIdeal_finite (hPre_finite := Cert.Pre_finite.Gen.facts) m) : Holds m c (argsOf m c) := by
  obtain ⟨h0, h1, h2, h3, h4, h5, h6, h7, h8⟩ := args_spec _ _ _ _ _ _ _ _ _ (fun x => x.elim0) (congrFun (h c) _)
  exact ⟨h0, h1, h2, h3, h4, h5, h6, h7, h8⟩
end

section
variable (V0 : Valuation Cert.ReferenceIdeal.τ Cert.ReferenceIdeal.sig (Elt Ideal)) (A : Args)

/-- The reference's memory holds the real arguments `A`. -/
structure HoldsRef : Prop where
  x : V0 (Proc.devRef .tc Cert.ReferenceIdeal.main_arg0) = r2 .f32 4096 1024 A.X
  w : V0 (Proc.devRef .tc Cert.ReferenceIdeal.main_arg1) = r2 .f32 1024 1024 A.W
  h0 : V0 (Proc.devRef .tc Cert.ReferenceIdeal.main_arg2) = r2 .f32 4096 1024 A.H0
  h1 : V0 (Proc.devRef .tc Cert.ReferenceIdeal.main_arg3) = r2 .f32 4096 1024 A.H1
  z : V0 (Proc.devRef .tc Cert.ReferenceIdeal.main_arg4) = r2 .f32 4096 6144 A.Z
  lg : V0 (Proc.devRef .tc Cert.ReferenceIdeal.main_arg5) = r1 .f32 1024 A.lg
  lb : V0 (Proc.devRef .tc Cert.ReferenceIdeal.main_arg6) = r1 .f32 1024 A.lb
  ws : V0 (Proc.devRef .tc Cert.ReferenceIdeal.main_arg7) = r3 .f32 8 128 128 A.ws
  bs : V0 (Proc.devRef .tc Cert.ReferenceIdeal.main_arg8) = r2 .f32 8 128 A.bs
end

open Cert.ReferenceIdeal.Read in
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨_, _, _, _, _, _, Cert.KernelIdeal.Value.run (F := Ideal) m ρ, ?_⟩
  refine (θ_run Cert.ReferenceIdeal.defs _ _).mono (fun r h c => ?_) (Cert.ReferenceIdeal.Value.run (F := Ideal) m' ρ')
  have H := holds m c hpre
  obtain ⟨a0, a1, a2, a3, a4, a5, a6, a7, a8⟩ := hagree c
  have R : HoldsRef (StableHlo.launchContents m' c) (argsOf m c) :=
    ⟨a0.trans H.x, a1.trans H.w, a2.trans H.h0, a3.trans H.h1, a4.trans H.z, a5.trans H.lg, a6.trans H.lb, a7.trans H.ws,
      a8.trans H.bs⟩
  obtain ⟨o0, o1, o2, o3, o4, o5, kept⟩ := h c
  refine ⟨o0.trans ?_, o1.trans ?_, o2.trans ?_, o3.trans ?_, o4.trans ?_, o5.trans ?_, kept⟩
  · rw [val_main_v226_eq, R.x, R.w, R.h0, R.h1, R.z, R.lg, R.lb, R.ws, R.bs, final_dz H]; exact e_v226 _
  · rw [val_main_v140_eq, R.x, R.w, R.z, final_dh H]; exact e_v140 _
  · rw [val_main_v163_eq, R.x, R.w, R.z, R.lg, R.lb, final_ws H]; exact e_v163 _
  · rw [val_main_v161_eq, R.x, R.w, R.z, final_bs H]; exact e_v161 _
  · rw [val_main_v227_eq, R.x, R.w, R.z, R.ws, final_lg H]; exact e_v227 _
  · rw [val_main_v228_eq, R.x, R.w, R.z, R.ws, final_lb H]; exact e_v228 _

end Cert.Mix

end
-- ==== Proof.Dw.Sum.lean ====
/-
  The products of the weights' gradients, read at an index: each entry is a sum over the rows of the two operands' columns.
-/
module

public import Idealize.ShloMosaic.Lib.MatmulPlain
public import Idealize.ShloMosaic.Lib.ValueIdx
public import Idealize.ShloMosaic.Lib.ValueLayoutCasts
public import Idealize.ShloMosaic.Lib.Pipeline.Value

@[expose] public section

noncomputable section

namespace Cert.Dw

open Idealize.ShloMosaic Idealize.ShloMosaic.ValueIdx

/-- The dimension numbers of a product over the first axis of both operands. -/
def firsts (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem zero_word : Ideal.ofBits .f32 0x00000000#32 = 0 := by simp [Ideal.ofBits, Ideal.ieee]

section
variable {K M N : ℕ} {φ ψ : FTy}

/-- A product over the rows of both operands, from a zero accumulator. -/
theorem matmul_firsts (p : Option ContractPrecision) (l : FVec Ideal ⟨2, ![K, M]⟩ φ) (r : FVec Ideal ⟨2, ![K, N]⟩ ψ)
    (i : Fin M) (j : Fin N) :
    matmul (firsts K M N) p l r (constant (⟨2, ![M, N]⟩ : Shape) .f32 0x00000000#32) (ix2 i j)
      = ∑ k : Fin K, (l (ix2 k i) : EReal) * r (ix2 k j) := by
  have hr : (firsts K M N).contr.rank = 1 := rfl
  have hs : (firsts K M N).contr.size ⟨0, by rw [hr]; exact Nat.one_pos⟩ = K := rfl
  refine (Ideal.matmul_apply (firsts K M N) p l r _ (ix2 i j)).trans ?_
  refine (congrArg (· + _) zero_word).trans ?_
  rw [zero_add, ← Equiv.sum_comp (contrEquiv1 _ K hr hs).symm]
  refine Finset.sum_congr rfl fun k _ => ?_
  have hk := contrEquiv1_symm_val _ K hr hs k
  have el : (firsts K M N).lhsIdx (ix2 i j) ((contrEquiv1 _ K hr hs).symm k) = ix2 k i := by
    funext a; apply Fin.ext
    match a with
    | ⟨0, _⟩ => exact hk
    | ⟨1, _⟩ => rfl
  have er : (firsts K M N).rhsIdx (ix2 i j) ((contrEquiv1 _ K hr hs).symm k) = ix2 k j := by
    funext a; apply Fin.ext
    match a with
    | ⟨0, _⟩ => exact hk
    | ⟨1, _⟩ => rfl
  rw [el, er]

/-- A product of a transposed left operand, from a zero accumulator. -/
theorem matmul_second (p : Option ContractPrecision) (l : FVec Ideal ⟨2, ![M, K]⟩ φ) (r : FVec Ideal ⟨2, ![K, N]⟩ ψ)
    (i : Fin M) (j : Fin N) :
    matmul (DotDims.plain M K N) p l r (constant (⟨2, ![M, N]⟩ : Shape) .f32 0x00000000#32) (ix2 i j)
      = ∑ k : Fin K, (l (ix2 i k) : EReal) * r (ix2 k j) := by
  refine (Ideal.matmul_plain_apply p l r _ i j).trans ?_
  refine (congrArg (· + _) zero_word).trans ?_
  exact zero_add _

end

end Cert.Dw

end
-- ==== Proof.Dw.FfnOut.lean ====
/-
  The gradient of the second feed-forward weight: the kernel's four blocks of rows are the reference's.
-/
module

public import proofs.«01_k».proof.Proof.Gen.Kernel2Ideal.Value
public import proofs.«01_k».proof.Proof.Gen.Reference2Ideal.Read
public import proofs.«01_k».proof.Proof.Dw.Sum

@[expose] public section

set_option maxRecDepth 16384

noncomputable section

namespace Cert.Dw.FfnOut

open Idealize.ShloMosaic Idealize.ShloMosaic.TcCoe Idealize.ShloMosaic.ValueIdx Cert.Kernel2Ideal Cert.Kernel2Ideal.Gen Cert.Kernel2Ideal.Value

/-- What one grid point stores: a block's product over the rows. -/
theorem stored (x0 : Vec Ideal S1x4096x704 .bf16) (x1 : Vec Ideal S4096x1024 .f32) (f : Fin 704) (d : Fin 1024) :
    out0_2 x0 x1 (ix3 0 f d) = ∑ s : Fin 4096, (x0 (ix3 0 s f) : EReal) * x1 (ix2 s d) := by
  unfold out0_2 r0_2 r0_0 r0_1
  rw [View.canon_unit_zero (by decide), View.ld_unit_zero (by decide), View.ld_unit_zero (by decide)]
  unfold k0_pay1
  refine (ValueIdx.shapeCast_ab_1ab_apply ..).trans ?_
  refine (matmul_firsts (φ := .bf16) (ψ := .bf16) none (shapeCast S4096x704 x0 shapeCasts_S1x4096x704_S4096x704) (truncf .bf16 x1 bitsLt_bf16_f32) f d).trans ?_
  refine Finset.sum_congr rfl fun s _ => ?_
  exact congrArg (· * (x1 (ix2 s d) : EReal)) (ValueIdx.shapeCast_1ab_ab_apply ..)

variable (m : (ℓ : Loc nD τ sig) → Buf (Elt Ideal) ℓ) (c : Dev nD)

/-- The two operands, as the kernel is given them. -/
abbrev A0 : FVec Ideal S4x4096x704 .bf16 := m ((c : Thread nD τ).loc main_arg0)
abbrev A1 : FVec Ideal S4096x1024 .f32 := m ((c : Thread nD τ).loc main_arg1)

/-- The array that the kernel leaves. -/
abbrev O : FVec Ideal S4x704x1024 .bf16 := (dats m 0 c).arrAt 2 cfg0.N

theorem at0 (t : Fin cfg0.N) : win0_0.index t = ![t.val, 0, 0] :=
  (by decide +kernel : ∀ t : Fin grid0.N, win0_0.index t = ![t.val, 0, 0]) t
theorem at1 (t : Fin cfg0.N) : win0_1.index t = ![0, 0] :=
  (by decide +kernel : ∀ t : Fin grid0.N, win0_1.index t = ![0, 0]) t
theorem at2 (t : Fin cfg0.N) : win0_2.index t = ![t.val, 0, 0] :=
  (by decide +kernel : ∀ t : Fin grid0.N, win0_2.index t = ![t.val, 0, 0]) t

theorem block0 (t : Fin cfg0.N) (s : Fin 4096) (f : Fin 704) :
    iblk m c 0 t (ix3 0 s f) = A0 m c (ix3 ⟨t.val, lt_of_lt_of_eq t.isLt N_0⟩ s f) := by
  have e : iblk m c 0 t (ix3 0 s f) = V m c main_arg0 (((cfg0.win 0).blk t).view.emb (ix3 0 s f)) := rfl
  have b0 : (((cfg0.win 0).blk t).view.emb (ix3 0 s f) 0).val = win0_0.index t (0 : Fin 3) * 1 + 1 * 0 := rfl
  have b1 : (((cfg0.win 0).blk t).view.emb (ix3 0 s f) 1).val = win0_0.index t (1 : Fin 3) * 4096 + 1 * s.val := rfl
  have b2 : (((cfg0.win 0).blk t).view.emb (ix3 0 s f) 2).val = win0_0.index t (2 : Fin 3) * 704 + 1 * f.val := rfl
  rw [at0] at b0 b1 b2
  rw [e, V_main_arg0]
  refine congrArg _ (funext fun a => Fin.ext ?_)
  match a with
  | ⟨0, _⟩ => exact b0.trans (by show t.val * 1 + 1 * 0 = t.val; omega)
  | ⟨1, _⟩ => exact b1.trans (by show 0 * 4096 + 1 * s.val = s.val; omega)
  | ⟨2, _⟩ => exact b2.trans (by show 0 * 704 + 1 * f.val = f.val; omega)

theorem block1 (t : Fin cfg0.N) (s : Fin 4096) (d : Fin 1024) :
    iblk m c 1 t (ix2 s d) = A1 m c (ix2 s d) := by
  have e : iblk m c 1 t (ix2 s d) = V m c main_arg1 (((cfg0.win 1).blk t).view.emb (ix2 s d)) := rfl
  have b0 : (((cfg0.win 1).blk t).view.emb (ix2 s d) 0).val = win0_1.index t (0 : Fin 2) * 4096 + 1 * s.val := rfl
  have b1 : (((cfg0.win 1).blk t).view.emb (ix2 s d) 1).val = win0_1.index t (1 : Fin 2) * 1024 + 1 * d.val := rfl
  rw [at1] at b0 b1
  rw [e, V_main_arg1]
  refine congrArg _ (funext fun a => Fin.ext ?_)
  match a with
  | ⟨0, _⟩ => exact b0.trans (by show 0 * 4096 + 1 * s.val = s.val; omega)
  | ⟨1, _⟩ => exact b1.trans (by show 0 * 1024 + 1 * d.val = d.val; omega)

/-- An entry of the array that the kernel leaves. -/
theorem left (k : Fin 4) (f : Fin 704) (d : Fin 1024) :
    O m c (ix3 k f d) = ∑ s : Fin 4096, (A0 m c (ix3 k s f) : EReal) * A1 m c (ix2 s d) := by
  let t : Fin cfg0.N := ⟨k.val, lt_of_lt_of_eq k.isLt N_0.symm⟩
  have h := congrFun (blocks2 m c t (Gen.flush0_2 t)) (ix3 0 f d)
  have ei : ((cfg0.win 2).blk t).view.emb (ix3 0 f d) = ix3 k f d := by
    have b0 : (((cfg0.win 2).blk t).view.emb (ix3 0 f d) 0).val = win0_2.index t (0 : Fin 3) * 1 + 1 * 0 := rfl
    have b1 : (((cfg0.win 2).blk t).view.emb (ix3 0 f d) 1).val = win0_2.index t (1 : Fin 3) * 704 + 1 * f.val := rfl
    have b2 : (((cfg0.win 2).blk t).view.emb (ix3 0 f d) 2).val = win0_2.index t (2 : Fin 3) * 1024 + 1 * d.val := rfl
    rw [at2] at b0 b1 b2
    refine funext fun a => Fin.ext ?_
    match a with
    | ⟨0, _⟩ => exact b0.trans (by show k.val * 1 + 1 * 0 = k.val; omega)
    | ⟨1, _⟩ => exact b1.trans (by show 0 * 704 + 1 * f.val = f.val; omega)
    | ⟨2, _⟩ => exact b2.trans (by show 0 * 1024 + 1 * d.val = d.val; omega)
  rw [← ei]
  refine h.trans ?_
  rw [flushed2]
  refine (stored (iblk m c 0 t) (iblk m c 1 t) f d).trans ?_
  exact Finset.sum_congr rfl fun s _ => congrArg₂ (fun x y : EReal => x * y) (block0 m c t s f) (block1 m c t s d)

open Cert.Reference2Ideal.Read in
/-- An entry of the reference's gradient. -/
theorem wanted (x0 : FVec Ideal S4x4096x704 .bf16) (x1 : FVec Ideal S4096x1024 .f32) (k : Fin 4) (f : Fin 704) (d : Fin 1024) :
    val_main_v8 (F := Ideal) x0 x1 (ix3 k f d) = ∑ s : Fin 4096, (x0 (ix3 k s f) : EReal) * x1 (ix2 s d) := by
  have hk : k.val < 4 := k.isLt
  have hf : f.val < 704 := f.isLt
  have hd : d.val < 1024 := d.isLt
  show val_main_v7 (F := Ideal) x0 x1 (ix3 k f d) = _
  rw [val_main_v7_apply, val_main_v6_apply, val_main_v5_apply]
  refine Finset.sum_congr rfl fun s _ => ?_
  rw [val_main_v2_apply, val_main_v1_apply]
  have hs : s.val < 4096 := s.isLt
  refine (mul_comm _ _).trans ?_
  refine congrArg₂ (fun x y : EReal => x * y) (congrArg (x0 ·) ?_) (congrArg (x1 ·) ?_)
  · refine funext fun a => Fin.ext ?_
    match a with
    | ⟨0, _⟩ =>
      show (s.val * 2816 + ((k.val * 704 + f.val) * 1024 + d.val) / 1024) / 704 % 4 = k.val
      omega
    | ⟨1, _⟩ =>
      show (s.val * 2816 + ((k.val * 704 + f.val) * 1024 + d.val) / 1024) / 2816 = s.val
      omega
    | ⟨2, _⟩ =>
      show (s.val * 2816 + ((k.val * 704 + f.val) * 1024 + d.val) / 1024) % 704 = f.val
      omega
  · refine funext fun a => Fin.ext ?_
    match a with
    | ⟨0, _⟩ => rfl
    | ⟨1, _⟩ =>
      show ((k.val * 704 + f.val) * 1024 + d.val) % 1024 = d.val
      omega

/-- The kernel's array is the reference's. -/
theorem equal : O m c = Cert.Reference2Ideal.Read.val_main_v8 (F := Ideal) (A0 m c) (A1 m c) := by
  funext i
  obtain ⟨k, f, d, rfl⟩ : ∃ p q r, i = ix3 p q r := ⟨i 0, i 1, i 2, eq_ix3 i⟩
  exact (left m c k f d).trans (wanted _ _ k f d).symm

end Cert.Dw.FfnOut

end
-- ==== Proof.Dw.FfnIn.lean ====
/-
  The gradient of the first feed-forward weight: the kernel's eight blocks of rows are the reference's.
-/
module

public import proofs.«01_k».proof.Proof.Gen.Kernel3Ideal.Value
public import proofs.«01_k».proof.Proof.Gen.Reference3Ideal.Read
public import proofs.«01_k».proof.Proof.Dw.Sum

@[expose] public section

set_option maxRecDepth 16384

noncomputable section

namespace Cert.Dw.FfnIn

open Idealize.ShloMosaic Idealize.ShloMosaic.TcCoe Idealize.ShloMosaic.ValueIdx Cert.Kernel3Ideal Cert.Kernel3Ideal.Gen Cert.Kernel3Ideal.Value

/-- What one grid point stores: a block's product over the rows. -/
theorem stored (x0 : Vec Ideal S1x4096x704 .bf16) (x1 : Vec Ideal S4096x1024 .bf16) (f : Fin 704) (d : Fin 1024) :
    out0_2 x0 x1 (ix3 0 f d) = ∑ s : Fin 4096, (x0 (ix3 0 s f) : EReal) * x1 (ix2 s d) := by
  unfold out0_2 r0_2 r0_0 r0_1
  rw [View.canon_unit_zero (by decide), View.ld_unit_zero (by decide), View.ld_unit_zero (by decide)]
  unfold k0_pay1
  refine (ValueIdx.shapeCast_ab_1ab_apply ..).trans ?_
  refine (matmul_firsts (φ := .bf16) (ψ := .bf16) none (shapeCast S4096x704 x0 shapeCasts_S1x4096x704_S4096x704) x1 f d).trans ?_
  refine Finset.sum_congr rfl fun s _ => ?_
  exact congrArg (· * (x1 (ix2 s d) : EReal)) (ValueIdx.shapeCast_1ab_ab_apply ..)

variable (m : (ℓ : Loc nD τ sig) → Buf (Elt Ideal) ℓ) (c : Dev nD)

/-- The two operands, as the kernel is given them. -/
abbrev A0 : FVec Ideal S8x4096x704 .bf16 := m ((c : Thread nD τ).loc main_arg0)
abbrev A1 : FVec Ideal S4096x1024 .bf16 := m ((c : Thread nD τ).loc main_arg1)

/-- The array that the kernel leaves. -/
abbrev O : FVec Ideal S8x704x1024 .bf16 := (dats m 0 c).arrAt 2 cfg0.N

theorem at0 (t : Fin cfg0.N) : win0_0.index t = ![t.val, 0, 0] :=
  (by decide +kernel : ∀ t : Fin grid0.N, win0_0.index t = ![t.val, 0, 0]) t
theorem at1 (t : Fin cfg0.N) : win0_1.index t = ![0, 0] :=
  (by decide +kernel : ∀ t : Fin grid0.N, win0_1.index t = ![0, 0]) t
theorem at2 (t : Fin cfg0.N) : win0_2.index t = ![t.val, 0, 0] :=
  (by decide +kernel : ∀ t : Fin grid0.N, win0_2.index t = ![t.val, 0, 0]) t

theorem block0 (t : Fin cfg0.N) (s : Fin 4096) (f : Fin 704) :
    iblk m c 0 t (ix3 0 s f) = A0 m c (ix3 ⟨t.val, lt_of_lt_of_eq t.isLt N_0⟩ s f) := by
  have e : iblk m c 0 t (ix3 0 s f) = V m c main_arg0 (((cfg0.win 0).blk t).view.emb (ix3 0 s f)) := rfl
  have b0 : (((cfg0.win 0).blk t).view.emb (ix3 0 s f) 0).val = win0_0.index t (0 : Fin 3) * 1 + 1 * 0 := rfl
  have b1 : (((cfg0.win 0).blk t).view.emb (ix3 0 s f) 1).val = win0_0.index t (1 : Fin 3) * 4096 + 1 * s.val := rfl
  have b2 : (((cfg0.win 0).blk t).view.emb (ix3 0 s f) 2).val = win0_0.index t (2 : Fin 3) * 704 + 1 * f.val := rfl
  rw [at0] at b0 b1 b2
  rw [e, V_main_arg0]
  refine congrArg _ (funext fun a => Fin.ext ?_)
  match a with
  | ⟨0, _⟩ => exact b0.trans (by show t.val * 1 + 1 * 0 = t.val; omega)
  | ⟨1, _⟩ => exact b1.trans (by show 0 * 4096 + 1 * s.val = s.val; omega)
  | ⟨2, _⟩ => exact b2.trans (by show 0 * 704 + 1 * f.val = f.val; omega)

theorem block1 (t : Fin cfg0.N) (s : Fin 4096) (d : Fin 1024) :
    iblk m c 1 t (ix2 s d) = A1 m c (ix2 s d) := by
  have e : iblk m c 1 t (ix2 s d) = V m c main_arg1 (((cfg0.win 1).blk t).view.emb (ix2 s d)) := rfl
  have b0 : (((cfg0.win 1).blk t).view.emb (ix2 s d) 0).val = win0_1.index t (0 : Fin 2) * 4096 + 1 * s.val := rfl
  have b1 : (((cfg0.win 1).blk t).view.emb (ix2 s d) 1).val = win0_1.index t (1 : Fin 2) * 1024 + 1 * d.val := rfl
  rw [at1] at b0 b1
  rw [e, V_main_arg1]
  refine congrArg _ (funext fun a => Fin.ext ?_)
  match a with
  | ⟨0, _⟩ => exact b0.trans (by show 0 * 4096 + 1 * s.val = s.val; omega)
  | ⟨1, _⟩ => exact b1.trans (by show 0 * 1024 + 1 * d.val = d.val; omega)

/-- An entry of the array that the kernel leaves. -/
theorem left (k : Fin 8) (f : Fin 704) (d : Fin 1024) :
    O m c (ix3 k f d) = ∑ s : Fin 4096, (A0 m c (ix3 k s f) : EReal) * A1 m c (ix2 s d) := by
  let t : Fin cfg0.N := ⟨k.val, lt_of_lt_of_eq k.isLt N_0.symm⟩
  have h := congrFun (blocks2 m c t (Gen.flush0_2 t)) (ix3 0 f d)
  have ei : ((cfg0.win 2).blk t).view.emb (ix3 0 f d) = ix3 k f d := by
    have b0 : (((cfg0.win 2).blk t).view.emb (ix3 0 f d) 0).val = win0_2.index t (0 : Fin 3) * 1 + 1 * 0 := rfl
    have b1 : (((cfg0.win 2).blk t).view.emb (ix3 0 f d) 1).val = win0_2.index t (1 : Fin 3) * 704 + 1 * f.val := rfl
    have b2 : (((cfg0.win 2).blk t).view.emb (ix3 0 f d) 2).val = win0_2.index t (2 : Fin 3) * 1024 + 1 * d.val := rfl
    rw [at2] at b0 b1 b2
    refine funext fun a => Fin.ext ?_
    match a with
    | ⟨0, _⟩ => exact b0.trans (by show k.val * 1 + 1 * 0 = k.val; omega)
    | ⟨1, _⟩ => exact b1.trans (by show 0 * 704 + 1 * f.val = f.val; omega)
    | ⟨2, _⟩ => exact b2.trans (by show 0 * 1024 + 1 * d.val = d.val; omega)
  rw [← ei]
  refine h.trans ?_
  rw [flushed2]
  refine (stored (iblk m c 0 t) (iblk m c 1 t) f d).trans ?_
  exact Finset.sum_congr rfl fun s _ => congrArg₂ (fun x y : EReal => x * y) (block0 m c t s f) (block1 m c t s d)

open Cert.Reference3Ideal.Read in
/-- An entry of the reference's gradient. -/
theorem wanted (x0 : FVec Ideal S8x4096x704 .bf16) (x1 : FVec Ideal S4096x1024 .bf16) (k : Fin 8) (f : Fin 704) (d : Fin 1024) :
    val_main_v10 (F := Ideal) x0 x1 (ix3 k f d) = ∑ s : Fin 4096, (x0 (ix3 k s f) : EReal) * x1 (ix2 s d) := by
  have hk : k.val < 8 := k.isLt
  have hf : f.val < 704 := f.isLt
  have hd : d.val < 1024 := d.isLt
  show val_main_v9 (F := Ideal) x0 x1 (ix3 k f d) = _
  rw [val_main_v9_apply, val_main_v8_apply, val_main_v7_apply, val_main_v6_apply]
  refine Finset.sum_congr rfl fun s _ => ?_
  rw [val_main_v2_apply, val_main_v1_apply]
  have hs : s.val < 4096 := s.isLt
  refine congrArg₂ (fun x y : EReal => x * y) (congrArg (x0 ·) ?_) (congrArg (x1 ·) ?_)
  · refine funext fun a => Fin.ext ?_
    match a with
    | ⟨0, _⟩ =>
      show (s.val * 5632 + ((k.val * 704 + f.val) * 1024 + d.val) / 1024) / 704 % 8 = k.val
      omega
    | ⟨1, _⟩ =>
      show (s.val * 5632 + ((k.val * 704 + f.val) * 1024 + d.val) / 1024) / 5632 = s.val
      omega
    | ⟨2, _⟩ =>
      show (s.val * 5632 + ((k.val * 704 + f.val) * 1024 + d.val) / 1024) % 704 = f.val
      omega
  · refine funext fun a => Fin.ext ?_
    match a with
    | ⟨0, _⟩ => rfl
    | ⟨1, _⟩ =>
      show ((k.val * 704 + f.val) * 1024 + d.val) % 1024 = d.val
      omega

/-- The kernel's array is the reference's. -/
theorem equal : O m c = Cert.Reference3Ideal.Read.val_main_v10 (F := Ideal) (A0 m c) (A1 m c) := by
  funext i
  obtain ⟨k, f, d, rfl⟩ : ∃ p q r, i = ix3 p q r := ⟨i 0, i 1, i 2, eq_ix3 i⟩
  exact (left m c k f d).trans (wanted _ _ k f d).symm

end Cert.Dw.FfnIn

end
-- ==== Proof.Dw.Out.lean ====
/-
  The gradient of the output projection: the kernel's two blocks of columns are the reference's.
-/
module

public import proofs.«01_k».proof.Proof.Gen.Kernel4Ideal.Value
public import proofs.«01_k».proof.Proof.Gen.Reference4Ideal.Read
public import proofs.«01_k».proof.Proof.Dw.Sum

@[expose] public section

set_option maxRecDepth 16384

noncomputable section

namespace Cert.Dw.Out

open Idealize.ShloMosaic Idealize.ShloMosaic.TcCoe Idealize.ShloMosaic.ValueIdx Cert.Kernel4Ideal Cert.Kernel4Ideal.Gen Cert.Kernel4Ideal.Value

/-- What one grid point stores: a product over the rows of the second operand's block of columns. -/
theorem stored (x0 : Vec Ideal S1024x4096 .bf16) (x1 : Vec Ideal S4096x512 .f32) (i : Fin 1024) (j : Fin 512) :
    out0_2 x0 x1 (ix2 i j) = ∑ s : Fin 4096, (x0 (ix2 i s) : EReal) * x1 (ix2 s j) := by
  unfold out0_2 r0_2 r0_0 r0_1
  rw [View.canon_unit_zero (by decide), View.ld_unit_zero (by decide), View.ld_unit_zero (by decide)]
  unfold k0_pay1
  exact matmul_second (φ := .bf16) (ψ := .bf16) none x0 (truncf .bf16 x1 bitsLt_bf16_f32) i j

variable (m : (ℓ : Loc nD τ sig) → Buf (Elt Ideal) ℓ) (c : Dev nD)

/-- The two operands, as the kernel is given them. -/
abbrev A0 : FVec Ideal S1024x4096 .bf16 := m ((c : Thread nD τ).loc main_arg0)
abbrev A1 : FVec Ideal S4096x1024 .f32 := m ((c : Thread nD τ).loc main_arg1)

/-- The array that the kernel leaves. -/
abbrev O : FVec Ideal S1024x1024 .bf16 := (dats m 0 c).arrAt 2 cfg0.N

theorem at0 (t : Fin cfg0.N) : win0_0.index t = ![0, 0] :=
  (by decide +kernel : ∀ t : Fin grid0.N, win0_0.index t = ![0, 0]) t
theorem at1 (t : Fin cfg0.N) : win0_1.index t = ![0, t.val] :=
  (by decide +kernel : ∀ t : Fin grid0.N, win0_1.index t = ![0, t.val]) t
theorem at2 (t : Fin cfg0.N) : win0_2.index t = ![0, t.val] :=
  (by decide +kernel : ∀ t : Fin grid0.N, win0_2.index t = ![0, t.val]) t

theorem block0 (t : Fin cfg0.N) (i : Fin 1024) (s : Fin 4096) : iblk m c 0 t (ix2 i s) = A0 m c (ix2 i s) := by
  have e : iblk m c 0 t (ix2 i s) = V m c main_arg0 (((cfg0.win 0).blk t).view.emb (ix2 i s)) := rfl
  have b0 : (((cfg0.win 0).blk t).view.emb (ix2 i s) 0).val = win0_0.index t (0 : Fin 2) * 1024 + 1 * i.val := rfl
  have b1 : (((cfg0.win 0).blk t).view.emb (ix2 i s) 1).val = win0_0.index t (1 : Fin 2) * 4096 + 1 * s.val := rfl
  rw [at0] at b0 b1
  rw [e, V_main_arg0]
  refine congrArg _ (funext fun a => Fin.ext ?_)
  match a with
  | ⟨0, _⟩ => exact b0.trans (by show 0 * 1024 + 1 * i.val = i.val; omega)
  | ⟨1, _⟩ => exact b1.trans (by show 0 * 4096 + 1 * s.val = s.val; omega)

/-- Column `j` of block `k`. -/
def col (k : Fin 2) (j : Fin 512) : Fin 1024 := ⟨k.val * 512 + j.val, by omega⟩

theorem block1 (t : Fin cfg0.N) (s : Fin 4096) (j : Fin 512) :
    iblk m c 1 t (ix2 s j) = A1 m c (ix2 s (col ⟨t.val, lt_of_lt_of_eq t.isLt N_0⟩ j)) := by
  have e : iblk m c 1 t (ix2 s j) = V m c main_arg1 (((cfg0.win 1).blk t).view.emb (ix2 s j)) := rfl
  have b0 : (((cfg0.win 1).blk t).view.emb (ix2 s j) 0).val = win0_1.index t (0 : Fin 2) * 4096 + 1 * s.val := rfl
  have b1 : (((cfg0.win 1).blk t).view.emb (ix2 s j) 1).val = win0_1.index t (1 : Fin 2) * 512 + 1 * j.val := rfl
  rw [at1] at b0 b1
  rw [e, V_main_arg1]
  refine congrArg _ (funext fun a => Fin.ext ?_)
  match a with
  | ⟨0, _⟩ => exact b0.trans (by show 0 * 4096 + 1 * s.val = s.val; omega)
  | ⟨1, _⟩ => exact b1.trans (by show t.val * 512 + 1 * j.val = t.val * 512 + j.val; omega)

/-- An entry of the array that the kernel leaves. -/
theorem left (k : Fin 2) (i : Fin 1024) (j : Fin 512) :
    O m c (ix2 i (col k j)) = ∑ s : Fin 4096, (A0 m c (ix2 i s) : EReal) * A1 m c (ix2 s (col k j)) := by
  let t : Fin cfg0.N := ⟨k.val, lt_of_lt_of_eq k.isLt N_0.symm⟩
  have h := congrFun (blocks2 m c t (Gen.flush0_2 t)) (ix2 i j)
  have ei : ((cfg0.win 2).blk t).view.emb (ix2 i j) = ix2 i (col k j) := by
    have b0 : (((cfg0.win 2).blk t).view.emb (ix2 i j) 0).val = win0_2.index t (0 : Fin 2) * 1024 + 1 * i.val := rfl
    have b1 : (((cfg0.win 2).blk t).view.emb (ix2 i j) 1).val = win0_2.index t (1 : Fin 2) * 512 + 1 * j.val := rfl
    rw [at2] at b0 b1
    refine funext fun a => Fin.ext ?_
    match a with
    | ⟨0, _⟩ => exact b0.trans (by show 0 * 1024 + 1 * i.val = i.val; omega)
    | ⟨1, _⟩ => exact b1.trans (by show k.val * 512 + 1 * j.val = k.val * 512 + j.val; omega)
  rw [← ei]
  refine h.trans ?_
  rw [flushed2]
  refine (stored (iblk m c 0 t) (iblk m c 1 t) i j).trans ?_
  exact Finset.sum_congr rfl fun s _ => congrArg₂ (fun x y : EReal => x * y) (block0 m c t i s) (block1 m c t s j)

open Cert.Reference4Ideal.Read in
/-- An entry of the reference's gradient. -/
theorem wanted (x0 : FVec Ideal S1024x4096 .bf16) (x1 : FVec Ideal S4096x1024 .f32) (k : Fin 2) (i : Fin 1024) (j : Fin 512) :
    val_main_v6 (F := Ideal) x0 x1 (ix2 i (col k j)) = ∑ s : Fin 4096, (x0 (ix2 i s) : EReal) * x1 (ix2 s (col k j)) := by
  show val_main_v5 (F := Ideal) x0 x1 (ix2 i (col k j)) = _
  rw [val_main_v5_apply, val_main_v4_apply]
  refine Finset.sum_congr rfl fun s _ => ?_
  rw [val_main_v1_apply]
  refine (mul_comm _ _).trans ?_
  refine congrArg₂ (fun x y : EReal => x * y) (congrArg (x0 ·) ?_) (congrArg (x1 ·) ?_)
  · refine funext fun a => Fin.ext ?_
    match a with
    | ⟨0, _⟩ => rfl
    | ⟨1, _⟩ => rfl
  · refine funext fun a => Fin.ext ?_
    match a with
    | ⟨0, _⟩ => rfl
    | ⟨1, _⟩ => rfl

/-- The kernel's array is the reference's. -/
theorem equal : O m c = Cert.Reference4Ideal.Read.val_main_v6 (F := Ideal) (A0 m c) (A1 m c) := by
  funext i
  obtain ⟨i, l, rfl⟩ : ∃ p q, i = ix2 p q := ⟨i 0, i 1, eq_ix2 i⟩
  obtain ⟨k, j, rfl⟩ : ∃ k j, l = col k j :=
    ⟨⟨l.val / 512, by omega⟩, ⟨l.val % 512, by omega⟩, Fin.ext (show l.val = l.val / 512 * 512 + l.val % 512 by omega)⟩
  exact (left m c k i j).trans (wanted _ _ k i j).symm

end Cert.Dw.Out

end
-- ==== Proof.Dw.In.lean ====
/-
  The gradient of the input projection: the kernel's eight blocks of columns are the reference's.
-/
module

public import proofs.«01_k».proof.Proof.Gen.Kernel5Ideal.Value
public import proofs.«01_k».proof.Proof.Gen.Reference5Ideal.Read
public import proofs.«01_k».proof.Proof.Dw.Sum

@[expose] public section

set_option maxRecDepth 16384

noncomputable section

namespace Cert.Dw.In

open Idealize.ShloMosaic Idealize.ShloMosaic.TcCoe Idealize.ShloMosaic.ValueIdx Cert.Kernel5Ideal Cert.Kernel5Ideal.Gen Cert.Kernel5Ideal.Value

/-- What one grid point stores: a product over the rows of the second operand's block of columns. -/
theorem stored (x0 : Vec Ideal S1024x4096 .bf16) (x1 : Vec Ideal S4096x768 .bf16) (i : Fin 1024) (j : Fin 768) :
    out0_2 x0 x1 (ix3 0 i j) = ∑ s : Fin 4096, (x0 (ix2 i s) : EReal) * x1 (ix2 s j) := by
  unfold out0_2 r0_2 r0_0 r0_1
  rw [View.canon_unit_zero (by decide), View.ld_unit_zero (by decide), View.ld_unit_zero (by decide)]
  unfold k0_pay1
  refine (ValueIdx.shapeCast_ab_1ab_apply ..).trans ?_
  exact matmul_second (φ := .bf16) (ψ := .bf16) none x0 x1 i j

variable (m : (ℓ : Loc nD τ sig) → Buf (Elt Ideal) ℓ) (c : Dev nD)

/-- The two operands, as the kernel is given them. -/
abbrev A0 : FVec Ideal S1024x4096 .bf16 := m ((c : Thread nD τ).loc main_arg0)
abbrev A1 : FVec Ideal S4096x6144 .bf16 := m ((c : Thread nD τ).loc main_arg1)

/-- The array that the kernel leaves. -/
abbrev O : FVec Ideal S8x1024x768 .bf16 := (dats m 0 c).arrAt 2 cfg0.N

theorem at0 (t : Fin cfg0.N) : win0_0.index t = ![0, 0] :=
  (by decide +kernel : ∀ t : Fin grid0.N, win0_0.index t = ![0, 0]) t
theorem at1 (t : Fin cfg0.N) : win0_1.index t = ![0, t.val] :=
  (by decide +kernel : ∀ t : Fin grid0.N, win0_1.index t = ![0, t.val]) t
theorem at2 (t : Fin cfg0.N) : win0_2.index t = ![t.val, 0, 0] :=
  (by decide +kernel : ∀ t : Fin grid0.N, win0_2.index t = ![t.val, 0, 0]) t

theorem block0 (t : Fin cfg0.N) (i : Fin 1024) (s : Fin 4096) : iblk m c 0 t (ix2 i s) = A0 m c (ix2 i s) := by
  have e : iblk m c 0 t (ix2 i s) = V m c main_arg0 (((cfg0.win 0).blk t).view.emb (ix2 i s)) := rfl
  have b0 : (((cfg0.win 0).blk t).view.emb (ix2 i s) 0).val = win0_0.index t (0 : Fin 2) * 1024 + 1 * i.val := rfl
  have b1 : (((cfg0.win 0).blk t).view.emb (ix2 i s) 1).val = win0_0.index t (1 : Fin 2) * 4096 + 1 * s.val := rfl
  rw [at0] at b0 b1
  rw [e, V_main_arg0]
  refine congrArg _ (funext fun a => Fin.ext ?_)
  match a with
  | ⟨0, _⟩ => exact b0.trans (by show 0 * 1024 + 1 * i.val = i.val; omega)
  | ⟨1, _⟩ => exact b1.trans (by show 0 * 4096 + 1 * s.val = s.val; omega)

/-- Column `j` of block `k`. -/
def col (k : Fin 8) (j : Fin 768) : Fin 6144 := ⟨k.val * 768 + j.val, by omega⟩

theorem block1 (t : Fin cfg0.N) (s : Fin 4096) (j : Fin 768) :
    iblk m c 1 t (ix2 s j) = A1 m c (ix2 s (col ⟨t.val, lt_of_lt_of_eq t.isLt N_0⟩ j)) := by
  have e : iblk m c 1 t (ix2 s j) = V m c main_arg1 (((cfg0.win 1).blk t).view.emb (ix2 s j)) := rfl
  have b0 : (((cfg0.win 1).blk t).view.emb (ix2 s j) 0).val = win0_1.index t (0 : Fin 2) * 4096 + 1 * s.val := rfl
  have b1 : (((cfg0.win 1).blk t).view.emb (ix2 s j) 1).val = win0_1.index t (1 : Fin 2) * 768 + 1 * j.val := rfl
  rw [at1] at b0 b1
  rw [e, V_main_arg1]
  refine congrArg _ (funext fun a => Fin.ext ?_)
  match a with
  | ⟨0, _⟩ => exact b0.trans (by show 0 * 4096 + 1 * s.val = s.val; omega)
  | ⟨1, _⟩ => exact b1.trans (by show t.val * 768 + 1 * j.val = t.val * 768 + j.val; omega)

/-- An entry of the array that the kernel leaves. -/
theorem left (k : Fin 8) (i : Fin 1024) (j : Fin 768) :
    O m c (ix3 k i j) = ∑ s : Fin 4096, (A0 m c (ix2 i s) : EReal) * A1 m c (ix2 s (col k j)) := by
  let t : Fin cfg0.N := ⟨k.val, lt_of_lt_of_eq k.isLt N_0.symm⟩
  have h := congrFun (blocks2 m c t (Gen.flush0_2 t)) (ix3 0 i j)
  have ei : ((cfg0.win 2).blk t).view.emb (ix3 0 i j) = ix3 k i j := by
    have b0 : (((cfg0.win 2).blk t).view.emb (ix3 0 i j) 0).val = win0_2.index t (0 : Fin 3) * 1 + 1 * 0 := rfl
    have b1 : (((cfg0.win 2).blk t).view.emb (ix3 0 i j) 1).val = win0_2.index t (1 : Fin 3) * 1024 + 1 * i.val := rfl
    have b2 : (((cfg0.win 2).blk t).view.emb (ix3 0 i j) 2).val = win0_2.index t (2 : Fin 3) * 768 + 1 * j.val := rfl
    rw [at2] at b0 b1 b2
    refine funext fun a => Fin.ext ?_
    match a with
    | ⟨0, _⟩ => exact b0.trans (by show k.val * 1 + 1 * 0 = k.val; omega)
    | ⟨1, _⟩ => exact b1.trans (by show 0 * 1024 + 1 * i.val = i.val; omega)
    | ⟨2, _⟩ => exact b2.trans (by show 0 * 768 + 1 * j.val = j.val; omega)
  rw [← ei]
  refine h.trans ?_
  rw [flushed2]
  refine (stored (iblk m c 0 t) (iblk m c 1 t) i j).trans ?_
  exact Finset.sum_congr rfl fun s _ => congrArg₂ (fun x y : EReal => x * y) (block0 m c t i s) (block1 m c t s j)

open Cert.Reference5Ideal.Read in
/-- An entry of the reference's gradient. -/
theorem wanted (x0 : FVec Ideal S1024x4096 .bf16) (x1 : FVec Ideal S4096x6144 .bf16) (k : Fin 8) (i : Fin 1024) (j : Fin 768) :
    val_main_v9 (F := Ideal) x0 x1 (ix3 k i j) = ∑ s : Fin 4096, (x0 (ix2 i s) : EReal) * x1 (ix2 s (col k j)) := by
  have hk : k.val < 8 := k.isLt
  have hi : i.val < 1024 := i.isLt
  have hj : j.val < 768 := j.isLt
  show val_main_v8 (F := Ideal) x0 x1 (ix3 k i j) = _
  rw [val_main_v8_apply, val_main_v7_apply, val_main_v6_apply, val_main_v5_apply]
  refine Finset.sum_congr rfl fun s _ => ?_
  rw [val_main_v1_apply]
  refine (mul_comm _ _).trans ?_
  refine congrArg₂ (fun x y : EReal => x * y) (congrArg (x0 ·) ?_) (congrArg (x1 ·) ?_)
  · refine funext fun a => Fin.ext ?_
    match a with
    | ⟨0, _⟩ =>
      show ((i.val * 8 + k.val) * 768 + j.val) / 6144 = i.val
      omega
    | ⟨1, _⟩ => rfl
  · refine funext fun a => Fin.ext ?_
    match a with
    | ⟨0, _⟩ => rfl
    | ⟨1, _⟩ =>
      show ((i.val * 8 + k.val) * 768 + j.val) % 6144 = k.val * 768 + j.val
      omega

/-- The kernel's array is the reference's. -/
theorem equal : O m c = Cert.Reference5Ideal.Read.val_main_v9 (F := Ideal) (A0 m c) (A1 m c) := by
  funext i
  obtain ⟨k, i, j, rfl⟩ : ∃ p q r, i = ix3 p q r := ⟨i 0, i 1, i 2, eq_ix3 i⟩
  exact (left m c k i j).trans (wanted _ _ k i j).symm

end Cert.Dw.In

end
-- ==== Proof.Dw.Value.lean ====
/-
  The claims of the four products: the references' frames, and that each kernel ends with its reference's array.
-/
module

public import proofs.«01_k».proof.Defs
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Dw.FfnOut
public import proofs.«01_k».proof.Proof.Dw.FfnIn
public import proofs.«01_k».proof.Proof.Dw.Out
public import proofs.«01_k».proof.Proof.Dw.In
public import Idealize.ShloMosaic.Lib.Quiescent

@[expose] public section

set_option maxRecDepth 16384

noncomputable section

namespace Cert.Dw

open Idealize.ShloMosaic Idealize.ShloMosaic.TcCoe Idealize.SL.Sem

/-! ## The second feed-forward weight -/

theorem FfnOut.frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem FfnOut.algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨_, Cert.Kernel2Ideal.Value.run_blocks (F := Ideal) m ρ, ?_⟩
  refine (θ_run Cert.Reference2Ideal.defs _ _).mono (fun r h c => ?_) (Cert.Reference2Ideal.Value.run (F := Ideal) m' ρ')
  obtain ⟨a0, a1⟩ := hagree c
  obtain ⟨o, kept⟩ := h c
  refine ⟨o.trans ?_, kept⟩
  rw [Cert.Reference2Ideal.Read.val_main_v8_eq, a0, a1]
  exact (FfnOut.equal m c).symm

/-! ## The first feed-forward weight -/

theorem FfnIn.frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem FfnIn.algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨_, Cert.Kernel3Ideal.Value.run_blocks (F := Ideal) m ρ, ?_⟩
  refine (θ_run Cert.Reference3Ideal.defs _ _).mono (fun r h c => ?_) (Cert.Reference3Ideal.Value.run (F := Ideal) m' ρ')
  obtain ⟨a0, a1⟩ := hagree c
  obtain ⟨o, kept⟩ := h c
  refine ⟨o.trans ?_, kept⟩
  rw [Cert.Reference3Ideal.Read.val_main_v10_eq, a0, a1]
  exact (FfnIn.equal m c).symm

/-! ## The output projection -/

theorem Out.frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem Out.algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨_, Cert.Kernel4Ideal.Value.run_blocks (F := Ideal) m ρ, ?_⟩
  refine (θ_run Cert.Reference4Ideal.defs _ _).mono (fun r h c => ?_) (Cert.Reference4Ideal.Value.run (F := Ideal) m' ρ')
  obtain ⟨a0, a1⟩ := hagree c
  obtain ⟨o, kept⟩ := h c
  refine ⟨o.trans ?_, kept⟩
  rw [Cert.Reference4Ideal.Read.val_main_v6_eq, a0, a1]
  exact (Out.equal m c).symm

/-! ## The input projection -/

theorem In.frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem In.algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨_, Cert.Kernel5Ideal.Value.run_blocks (F := Ideal) m ρ, ?_⟩
  refine (θ_run Cert.Reference5Ideal.defs _ _).mono (fun r h c => ?_) (Cert.Reference5Ideal.Value.run (F := Ideal) m' ρ')
  obtain ⟨a0, a1⟩ := hagree c
  obtain ⟨o, kept⟩ := h c
  refine ⟨o.trans ?_, kept⟩
  rw [Cert.Reference5Ideal.Read.val_main_v9_eq, a0, a1]
  exact (In.equal m c).symm

end Cert.Dw

end
-- ==== Proof.Rms.Real.lean ====
/-
  The gradient of the RMS norm over the REAL numbers: `D` is the gradient of the norm's result, `X` the norm's argument, `g`
  its scale. Rows are numbered from the first row of an array, so a block of rows is the array with its row numbers shifted.
-/
module

public import proofs.«01_k».proof.Proof.Mix.Real

@[expose] public section

noncomputable section

namespace Cert.Rms

open Cert.Mix

section
variable (D X : ℕ → ℕ → ℝ) (g : ℕ → ℝ) (R : ℕ → ℕ → ℝ)

/-- One over the root of a row's mean square. -/
def inv (r : ℕ) : ℝ := (Real.sqrt ((∑ c : Fin 1024, X r c * X r c) / 1024 + eps))⁻¹

/-- The normed row. -/
def xn (r j : ℕ) : ℝ := X r j * inv X r

/-- The gradient of the norm's argument, added to `R`. -/
def dx (r j : ℕ) : ℝ :=
  R r j + inv X r * (D r j * g j - xn X r j * ((∑ c : Fin 1024, D r c * g c * xn X r c) / 1024))

/-- The gradient of the scale over the first `n` rows, the columns in heads of 128. -/
def dg (n h j : ℕ) : ℝ := ∑ r : Fin n, D r (128 * h + j) * xn X r (128 * h + j)

/-- The rows from row `k` on. -/
def rowsFrom (k : ℕ) (f : ℕ → ℕ → ℝ) (r j : ℕ) : ℝ := f (k + r) j

theorem dx_rowsFrom (k r j : ℕ) : dx (rowsFrom k D) (rowsFrom k X) g (rowsFrom k R) r j = dx D X g R (k + r) j := rfl

theorem dg_add (n h j : ℕ) :
    dg D X n h j + dg (rowsFrom n D) (rowsFrom n X) 512 h j = dg D X (n + 512) h j :=
  (Fin.sum_univ_add fun r : Fin (n + 512) => D r (128 * h + j) * xn X r (128 * h + j)).symm

theorem dg_zero (h j : ℕ) : dg D X 0 h j = 0 := Finset.sum_empty

end

/-- A sum of `n + b` terms is that of the first `n` and of the `b` after them. -/
theorem sum_split (F : ℕ → ℝ) (n b : ℕ) : ∑ k : Fin (n + b), F k = ∑ k : Fin n, F k + ∑ k : Fin b, F (n + k) :=
  Fin.sum_univ_add fun k : Fin (n + b) => F k

end Cert.Rms

end
-- ==== Proof.Rms.Blocks.lean ====
/-
  The gradient of the RMS norm in a kernel's words: the vector operations of one block of 512 rows, the loads of blocks and of
  rows of 128, and the stores of the eight heads' rows, over any kernel's references.
-/
module

public import proofs.«01_k».proof.Proof.Rms.Real
public import proofs.«01_k».proof.Proof.Mix.Vec
public import Idealize.ShloMosaic.Lib.WholeRead
public import Idealize.ShloMosaic.Lib.Writes
public import Idealize.ShloMosaic.Lib.Tactic
public import Idealize.ShloMosaic.Lib.Pipeline.CanonAppend
public import Idealize.ShloMosaic.Lib.Ring

@[expose] public section

set_option maxRecDepth 16384

noncomputable section

namespace Cert.Rms

open Idealize.ShloMosaic Cert.Mix

abbrev Rows : Shape := ⟨2, ![512, 1024]⟩
abbrev Col : Shape := ⟨2, ![512, 1]⟩
abbrev Row : Shape := ⟨2, ![1, 1024]⟩
abbrev Lane : Shape := ⟨2, ![1, 128]⟩
abbrev Lanes : Shape := ⟨2, ![8, 128]⟩

/-! ### The vector operations -/

theorem s_1024 {a b : ℕ} : broadcast (⟨2, ![a, b]⟩ : Shape) (Scalar.ofBits (F := Ideal) .f32 0x44800000#32)
    = r2 .f32 a b fun _ _ => 1024 := broadcast_r2 w_1024
theorem s_eps {a b : ℕ} : broadcast (⟨2, ![a, b]⟩ : Shape) (Scalar.ofBits (F := Ideal) .f32 0x358637BD#32)
    = r2 .f32 a b fun _ _ => eps := broadcast_r2 w_eps
theorem s_zero {a b : ℕ} : broadcast (⟨2, ![a, b]⟩ : Shape) (Scalar.ofBits (F := Ideal) .f32 0x00000000#32)
    = r2 .f32 a b fun _ _ => 0 := broadcast_r2 w_zero

section
variable (D X : ℕ → ℕ → ℝ) (g : ℕ → ℝ) (R : ℕ → ℕ → ℝ)

theorem arg_pos (r : ℕ) : 0 < (∑ c : Fin 1024, X r c * X r c) / 1024 + eps :=
  add_pos_of_nonneg_of_pos (div_nonneg (Finset.sum_nonneg fun _ _ => mul_self_nonneg _) (by norm_num)) eps_pos

/-- One row's mean, as a column. -/
theorem mean_col (f : ℕ → ℕ → ℝ) {h1 : Rows.Reduces [1] ⟨1, ![512]⟩} {h2 : FKind.Formats .f32}
    {h3 : (0x00000000#32 : BitVec (FTy.bits .f32)) = FKind.add.neutral .f32 h2} {h4 : (⟨1, ![512]⟩ : Shape).ShapeCasts Col} :
    divf (shapeCast Col (multiReduction .add [1] (⟨1, ![512]⟩ : Shape) (r2 .f32 512 1024 f) 0x00000000#32 h1 h2 h3) h4)
        (broadcast Col (Scalar.ofBits (F := Ideal) .f32 0x44800000#32))
      = r2 .f32 512 1 fun r _ => (∑ c : Fin 1024, f r c) / 1024 := by
  rw [sum_cols f h1 h2 _ h3, cast_r1_col, s_1024]
  exact divf_r2 _ (1024 : ℝ) (by norm_num)

theorem inv_block {h1 : Rows.Reduces [1] ⟨1, ![512]⟩} {h2 : FKind.Formats .f32}
    {h3 : (0x00000000#32 : BitVec (FTy.bits .f32)) = FKind.add.neutral .f32 h2} {h4 : (⟨1, ![512]⟩ : Shape).ShapeCasts Col} :
    rsqrt (addf (divf (shapeCast Col (multiReduction .add [1] (⟨1, ![512]⟩ : Shape)
        (mulf (r2 .f32 512 1024 X) (r2 .f32 512 1024 X)) 0x00000000#32 h1 h2 h3) h4)
        (broadcast Col (Scalar.ofBits (F := Ideal) .f32 0x44800000#32)))
        (broadcast Col (Scalar.ofBits (F := Ideal) .f32 0x358637BD#32)))
      = r2 .f32 512 1 fun r _ => inv X r := by
  rw [mulf_r2, mean_col, s_eps, addf_r2]
  exact rsqrt_r2 _ fun r _ => arg_pos X r

theorem xn_block {h1 : Col.Broadcasts Rows} :
    mulf (r2 .f32 512 1024 X) (broadcastTo Rows (r2 .f32 512 1 fun r _ => inv X r) h1) = r2 .f32 512 1024 (xn X) := by
  rw [spread_col]; rfl

theorem dg_block {h1 : Rows.Reduces [0] ⟨1, ![1024]⟩} {h2 : FKind.Formats .f32}
    {h3 : (0x00000000#32 : BitVec (FTy.bits .f32)) = FKind.add.neutral .f32 h2} {h4 : (⟨1, ![1024]⟩ : Shape).ShapeCasts Row} :
    shapeCast Row (multiReduction .add [0] (⟨1, ![1024]⟩ : Shape)
        (mulf (r2 .f32 512 1024 D) (r2 .f32 512 1024 (xn X))) 0x00000000#32 h1 h2 h3) h4
      = r2 .f32 1 1024 fun _ j => ∑ r : Fin 512, D r j * xn X r j := by
  rw [mulf_r2, sum_rows _ h1 h2 _ h3, cast_r1_row]

theorem dx_block {h0 : Row.Broadcasts Rows} {h1 : Rows.Reduces [1] ⟨1, ![512]⟩} {h2 : FKind.Formats .f32}
    {h3 : (0x00000000#32 : BitVec (FTy.bits .f32)) = FKind.add.neutral .f32 h2} {h4 : (⟨1, ![512]⟩ : Shape).ShapeCasts Col}
    {h5 h6 : Col.Broadcasts Rows} :
    addf (r2 .f32 512 1024 R)
      (mulf (broadcastTo Rows (r2 .f32 512 1 fun r _ => inv X r) h5)
        (subf (mulf (r2 .f32 512 1024 D) (broadcastTo Rows (r2 .f32 1 1024 fun _ j => g j) h0))
          (mulf (r2 .f32 512 1024 (xn X))
            (broadcastTo Rows (divf (shapeCast Col (multiReduction .add [1] (⟨1, ![512]⟩ : Shape)
              (mulf (mulf (r2 .f32 512 1024 D) (broadcastTo Rows (r2 .f32 1 1024 fun _ j => g j) h0)) (r2 .f32 512 1024 (xn X)))
              0x00000000#32 h1 h2 h3) h4) (broadcast Col (Scalar.ofBits (F := Ideal) .f32 0x44800000#32))) h6))))
      = r2 .f32 512 1024 (dx D X g R) := by
  rw [spread_row, mulf_r2, mulf_r2, mean_col, spread_col, spread_col]; rfl

/-- A row of 128 column sums added to a head's row. -/
theorem lane_block (h : ℕ) (t : ℕ → ℝ) (s : ℕ → ℝ) {B : FVec Ideal Lane .f32} {S : FVec Ideal Row .f32}
    (hB : B = r2 .f32 1 128 fun _ j => t j) (hS : S = r2 .f32 1 1024 fun _ j => s j) {h1 : Lane.ShapeCasts Lane}
    {h2 : Row.Slices ![0, 128 * h] Lane} :
    addf (shapeCast Lane B h1) (extractStridedSlice Lane ![0, 128 * h] S h2)
      = r2 .f32 1 128 fun _ j => t j + s (128 * h + j) := by
  subst hB hS
  simp only [cast_r2_self, slice_r2, addf_r2]

end

/-! ### Loads -/

section
variable {sig : RefSig} {e : EltTy} {a b : ℕ}

theorem zero2 : (![0, 0] : Fin 2 → ℕ) = fun _ => 0 := by
  funext a; fin_cases a <;> rfl

theorem rd_whole {m : Memref sig .tc .vmem ⟨2, ![a, b]⟩ e} (h : m.IsWhole) (X : Vec Ideal ⟨2, ![a, b]⟩ e) (inb) :
    View.readAt (Elt Ideal) m.view (Rect.unit (s := ⟨2, ![a, b]⟩) ![0, 0] (⟨2, ![a, b]⟩ : Shape).size inb).toLoadRect (h.unread X) = X :=
  (funext fun x => h.readAt_unread X _ x).trans (View.ld_unit_zero zero2 inb X)

theorem ld_r2b {c d : ℕ} (f : ℕ → ℕ → ℝ) (o p : ℕ)
    (inb : ∀ x, (![o, p] : Fin 2 → ℕ) x + (![c, d] : Fin 2 → ℕ) x ≤ (⟨2, ![a, b]⟩ : Shape).size x) :
    View.ld (S := ⟨2, ![a, b]⟩) (Val := Elt Ideal) (e' := .bf16) (r2 .bf16 a b f) (Rect.unit (s := ⟨2, ![a, b]⟩) ![o, p] ![c, d] inb)
      = r2 .bf16 c d fun i j => f (o + i) (p + j) := by
  refine (View.ld_unit _ _ _ _).trans ?_
  rfl

/-- Columns `p` on of an array of rows. -/
theorem rd_cols {d : ℕ} (p : ℕ) {m : Memref sig .tc .vmem ⟨2, ![a, b]⟩ .bf16} (h : m.IsWhole) (f : ℕ → ℕ → ℝ) (inb) :
    View.readAt (Elt Ideal) m.view (Rect.unit (s := ⟨2, ![a, b]⟩) ![0, p] (⟨2, ![a, d]⟩ : Shape).size inb).toLoadRect
      (h.unread (r2 .bf16 a b f)) = r2 .bf16 a d fun i j => f i (p + j) := by
  refine (funext fun x => h.readAt_unread _ _ x).trans ?_
  refine (ld_r2b f 0 p inb).trans ?_
  simp only [Nat.zero_add]

/-- One block of an array of blocks. -/
theorem rd_block {n : ℕ} (g : ℕ) {m : Memref sig .tc .vmem ⟨3, ![n, a, b]⟩ .bf16} (h : m.IsWhole) (f : ℕ → ℕ → ℕ → ℝ) (inb) :
    View.readAt (Elt Ideal) m.view (Rect.unit (s := ⟨3, ![n, a, b]⟩) ![g, 0, 0] (⟨3, ![1, a, b]⟩ : Shape).size inb).toLoadRect
      (h.unread (r3 .bf16 n a b f)) = r3 .bf16 1 a b fun _ i j => f g i j := by
  refine (funext fun x => h.readAt_unread _ _ x).trans ?_
  refine (ld_r3b g 0 0 f inb).trans ?_
  funext x
  have h0 : (x 0).val = 0 := by have : (x 0).val < 1 := (x 0).isLt; omega
  simp only [r3, h0, Nat.add_zero, Nat.zero_add]

theorem rd_lane (g : ℕ) {m : Memref sig .tc .vmem Lanes .f32} (h : m.IsWhole) (f : ℕ → ℕ → ℝ) (inb) :
    View.readAt (Elt Ideal) m.view (Rect.unit (s := Lanes) ![g, 0] Lane.size inb).toLoadRect
      (h.unread (r2 .f32 8 128 f)) = r2 .f32 1 128 fun _ j => f g j := by
  refine (funext fun x => h.readAt_unread _ _ x).trans ?_
  refine (ld_r2 f g 0 inb).trans ?_
  funext x
  have h0 : (x 0).val = 0 := by have : (x 0).val < 1 := (x 0).isLt; omega
  simp only [r2, h0, Nat.add_zero, Nat.zero_add]

variable {L : List (View.Piece (Elt Ideal) Lanes .f32)}

theorem filled_lane (v : View sig .tc .vmem Lanes .f32) (g : ℕ) {f : ℕ → ℕ → ℝ} {w : FVec Ideal Lanes .f32}
    (hw : w = r2 .f32 8 128 f) (inb inb') :
    v.readCov ((⟨Rect.unit (s := Lanes) ![0, 0] Lanes.size inb, w⟩ : View.Piece (Elt Ideal) Lanes .f32) :: L)
        (Rect.unit (s := Lanes) ![g, 0] Lane.size inb').toLoadRect = r2 .f32 1 128 fun _ j => f g j := by
  rw [View.readCov_eq_canon', View.canon_cons_unit_zero zero2, hw]
  refine (ld_r2 f g 0 inb').trans ?_
  funext x
  have h0 : (x 0).val = 0 := by have : (x 0).val < 1 := (x 0).isLt; omega
  simp only [r2, h0, Nat.add_zero, Nat.zero_add]

theorem past_lane (v : View sig .tc .vmem Lanes .f32) {g : ℕ} (k : ℕ) {inb inb' w} (hk : k ≠ g) {Y}
    (h : v.readCov L (Rect.unit (s := Lanes) ![g, 0] Lane.size inb').toLoadRect = Y) :
    v.readCov ((⟨Rect.unit (s := Lanes) ![k, 0] Lane.size inb, w⟩ : View.Piece (Elt Ideal) Lanes .f32) :: L)
        (Rect.unit (s := Lanes) ![g, 0] Lane.size inb').toLoadRect = Y := by
  rw [← h, View.readCov_eq_canon', View.readCov_eq_canon']
  funext x
  refine View.canon_cons_of_not_mem _ _ (Rect.not_mem_set_of_axis _ _ 0 k 1 rfl rfl rfl ?_)
  have h0 : (x 0).val = 0 := by have : (x 0).val < 1 := (x 0).isLt; omega
  have e : ((Rect.unit (s := Lanes) ![g, 0] Lane.size inb').emb x 0).val = g := by
    show g + 1 * (x 0).val = g
    omega
  change ((Rect.unit (s := Lanes) ![g, 0] Lane.size inb').emb x 0).val < k
    ∨ k + 1 ≤ ((Rect.unit (s := Lanes) ![g, 0] Lane.size inb').emb x 0).val
  rw [e]; omega

/-- The last eight stores, one for each head, fill the block. -/
theorem canon_lanes (G : ℕ → ℕ → ℝ) {i0 i1 i2 i3 i4 i5 i6 i7} {w0 w1 w2 w3 w4 w5 w6 w7}
    (h0 : w0 = r2 .f32 1 128 fun _ j => G 0 j) (h1 : w1 = r2 .f32 1 128 fun _ j => G 1 j)
    (h2 : w2 = r2 .f32 1 128 fun _ j => G 2 j) (h3 : w3 = r2 .f32 1 128 fun _ j => G 3 j)
    (h4 : w4 = r2 .f32 1 128 fun _ j => G 4 j) (h5 : w5 = r2 .f32 1 128 fun _ j => G 5 j)
    (h6 : w6 = r2 .f32 1 128 fun _ j => G 6 j) (h7 : w7 = r2 .f32 1 128 fun _ j => G 7 j) :
    View.canon ((⟨Rect.unit (s := Lanes) ![7, 0] Lane.size i7, w7⟩ : View.Piece (Elt Ideal) Lanes .f32)
        :: ⟨Rect.unit (s := Lanes) ![6, 0] Lane.size i6, w6⟩
        :: ⟨Rect.unit (s := Lanes) ![5, 0] Lane.size i5, w5⟩
        :: ⟨Rect.unit (s := Lanes) ![4, 0] Lane.size i4, w4⟩
        :: ⟨Rect.unit (s := Lanes) ![3, 0] Lane.size i3, w3⟩
        :: ⟨Rect.unit (s := Lanes) ![2, 0] Lane.size i2, w2⟩
        :: ⟨Rect.unit (s := Lanes) ![1, 0] Lane.size i1, w1⟩
        :: ⟨Rect.unit (s := Lanes) ![0, 0] Lane.size i0, w0⟩ :: L)
      = r2 .f32 8 128 G := by
  have piece (k : ℕ) (inb) (w : FVec Ideal Lane .f32) (h : w = r2 .f32 1 128 fun _ j => G k j) (x : Lane.Idx) :
      w x = r2 .f32 8 128 G ((Rect.unit (s := Lanes) ![k, 0] Lane.size inb).emb x) := by
    subst h
    have h0 : (x 0).val = 0 := by have : (x 0).val < 1 := (x 0).isLt; omega
    simp only [r2]
    congr 2
    · show k = k + 1 * (x 0).val
      omega
    · show (x 1).val = 0 + 1 * (x 1).val
      omega
  funext y
  refine View.canon_append_of_pieces (r2 .f32 8 128 G) L [_, _, _, _, _, _, _, _] ?_ y ?_
  · simp only [List.forall_mem_cons]
    exact ⟨piece 7 _ _ h7, piece 6 _ _ h6, piece 5 _ _ h5, piece 4 _ _ h4, piece 3 _ _ h3, piece 2 _ _ h2, piece 1 _ _ h1,
      piece 0 _ _ h0, fun _ h => absurd h (by simp)⟩
  · exact View.cover_of_tiledL (s := Lanes) _ Lane.size (by sl_kernel_rfl) y

end

theorem r2_ext {φ : FTy} {a b : ℕ} {f g : ℕ → ℕ → ℝ} (h : ∀ i j, i < a → j < b → f i j = g i j) :
    r2 φ a b f = r2 φ a b g :=
  funext fun x => congrArg _ (h _ _ (x 0).isLt (x 1).isLt)

end Cert.Rms

end
-- ==== Proof.Dx.Payload.lean ====
/-
  The gradient of the input projection's argument: what the kernel computes from one block of 512 rows. `Z` is the gradient of
  the projection's result, `W` the projection's weights, `X` the layer's argument, `g` the norm's scale, `R` the gradient that
  passes the layer by. The kernel multiplies 768 columns of `Z` at a time and adds the eight products.
-/
module

public import proofs.«01_k».proof.Proof.Rms.Blocks
public import proofs.«01_k».proof.Proof.Gen.Kernel6Ideal.Skeleton

@[expose] public section

set_option maxRecDepth 16384

noncomputable section

namespace Cert.Dx

open Idealize.ShloMosaic Cert.Mix Cert.Rms Cert.Kernel6Ideal Cert.Kernel6Ideal.Gen

/-- The gradient of the normed rows. -/
def dh (Z W : ℕ → ℕ → ℝ) (i j : ℕ) : ℝ := ∑ k : Fin 6144, Z i k * W j k

section
variable (Z W X : ℕ → ℕ → ℝ) (g : ℕ → ℝ) (R : ℕ → ℕ → ℝ)

/-! The blocks the kernel reads. -/

def in0 : Vec Ideal S512x6144 .bf16 := r2 .bf16 512 6144 Z
def in1 : Vec Ideal S8x1024x768 .bf16 := r3 .bf16 8 1024 768 fun b j k => W j (768 * b + k)
def in2 : Vec Ideal S512x1024 .f32 := r2 .f32 512 1024 X
def in3 : Vec Ideal S1x1024 .f32 := r2 .f32 1 1024 fun _ j => g j
def in4 : Vec Ideal S512x1024 .f32 := r2 .f32 512 1024 R

/-- The product over the columns of block `b`. -/
def part (b i j : ℕ) : ℝ := ∑ k : Fin 768, Z i (768 * b + k) * W j (768 * b + k)

theorem parts (i j : ℕ) :
    part Z W 0 i j + part Z W 1 i j + part Z W 2 i j + part Z W 3 i j + part Z W 4 i j + part Z W 5 i j + part Z W 6 i j
      + part Z W 7 i j = dh Z W i j := by
  have s := sum_split fun k => Z i k * W j k
  have e (b : ℕ) (n : ℕ) (h : n = 768 * b) :
      ∑ k : Fin (n + 768), Z i k * W j k = ∑ k : Fin n, Z i k * W j k + part Z W b i j := by
    subst h; exact s _ _
  have e0 : ∑ k : Fin 768, Z i k * W j k = part Z W 0 i j := by simp only [part, Nat.mul_zero, Nat.zero_add]
  rw [← e0, ← e 1 768 rfl, ← e 2 (768 + 768) rfl, ← e 3 (768 + 768 + 768) rfl, ← e 4 (768 + 768 + 768 + 768) rfl,
    ← e 5 (768 + 768 + 768 + 768 + 768) rfl, ← e 6 (768 + 768 + 768 + 768 + 768 + 768) rfl,
    ← e 7 (768 + 768 + 768 + 768 + 768 + 768 + 768) rfl]
  rfl

theorem dot_trans : dot_S512x768_S1024x768_S512x1024_1_1_0_0_n_n = DotDims.transposedRhs 512 768 1024 := rfl

/-- 768 columns of `Z`, and the weights' block for them. -/
def zb (b : ℕ) : FVec Ideal S512x768 .bf16 := r2 .bf16 512 768 fun i k => Z i (768 * b + k)
def wb (b : ℕ) : FVec Ideal S1x1024x768 .bf16 := r3 .bf16 1 1024 768 fun _ j k => W j (768 * b + k)

theorem mm (b : ℕ) (h) :
    matmul dot_S512x768_S1024x768_S512x1024_1_1_0_0_n_n none (zb Z b) (shapeCast S1024x768 (wb W b) h)
      (constant S512x1024 .f32 0x00000000#32) = r2 .f32 512 1024 (part Z W b) := by
  unfold zb wb
  rw [cast_r3_r2, dot_trans]
  exact matmul_transposed _ _ _

theorem zself (b : ℕ) (h) : shapeCast S512x768 (zb Z b) h = zb Z b := cast_r2_self _ h

theorem pay13 : k0_pay13 (F := Ideal) (zb Z 0) (zb Z 1) (wb W 0) (wb W 1)
    = r2 .f32 512 1024 fun i j => part Z W 0 i j + part Z W 1 i j := by
  simp only [k0_pay13, zself, mm, addf_r2]

theorem pay15 {V0 V1 V2 V3 V4 V5 V6 V7 : FVec Ideal S512x768 .bf16} {W0 W1 W2 W3 W4 W5 W6 W7 : FVec Ideal S1x1024x768 .bf16}
    (z0 : V0 = zb Z 0) (z1 : V1 = zb Z 1) (z2 : V2 = zb Z 2) (z3 : V3 = zb Z 3) (z4 : V4 = zb Z 4) (z5 : V5 = zb Z 5)
    (z6 : V6 = zb Z 6) (z7 : V7 = zb Z 7) (w0 : W0 = wb W 0) (w1 : W1 = wb W 1) (w2 : W2 = wb W 2) (w3 : W3 = wb W 3)
    (w4 : W4 = wb W 4) (w5 : W5 = wb W 5) (w6 : W6 = wb W 6) (w7 : W7 = wb W 7) :
    k0_pay15 (F := Ideal) (k0_pay7 V2) (k0_pay8 V3) (k0_pay9 V4) (k0_pay10 V5) (k0_pay11 V6) (k0_pay12 V7)
      (k0_pay13 V0 V1 W0 W1) (k0_pay14 W2) (constant S512x1024 .f32 0x00000000#32) W3 W4 W5 W6 W7
      = r2 .f32 512 1024 (dh Z W) := by
  subst z0 z1 z2 z3 z4 z5 z6 z7 w0 w1 w2 w3 w4 w5 w6 w7
  simp only [k0_pay15, k0_pay7, k0_pay8, k0_pay9, k0_pay10, k0_pay11, k0_pay12, k0_pay14, pay13, zself, mm, addf_r2]
  exact congrArg (r2 .f32 512 1024) (funext fun i => funext fun j => parts Z W i j)

theorem pay17 : k0_pay17 (F := Ideal) (r2 .f32 512 1024 X) = r2 .f32 512 1 fun r _ => inv X r := inv_block X

theorem pay18 : k0_pay18 (F := Ideal) (r2 .f32 512 1024 X) (r2 .f32 512 1 fun r _ => inv X r) = r2 .f32 512 1024 (xn X) :=
  xn_block X

/-- The column sums behind the gradient of the scale. -/
theorem pay19 (D : ℕ → ℕ → ℝ) {VD VX : FVec Ideal S512x1024 .f32} {VI : FVec Ideal S512x1 .f32} (hD : VD = r2 .f32 512 1024 D)
    (hX : VX = r2 .f32 512 1024 X) (hI : VI = r2 .f32 512 1 fun r _ => inv X r) :
    k0_pay19 (F := Ideal) VD VX VI = r2 .f32 1 1024 fun _ j => ∑ r : Fin 512, D r j * xn X r j := by
  subst hD hX hI
  simp only [k0_pay19, pay18]
  exact dg_block D X

theorem pay20 (D : ℕ → ℕ → ℝ) {VD VX VR : FVec Ideal S512x1024 .f32} {VG : FVec Ideal S1x1024 .f32} {VI : FVec Ideal S512x1 .f32}
    (hD : VD = r2 .f32 512 1024 D) (hX : VX = r2 .f32 512 1024 X) (hG : VG = r2 .f32 1 1024 fun _ j => g j)
    (hI : VI = r2 .f32 512 1 fun r _ => inv X r) (hR : VR = r2 .f32 512 1024 R) :
    k0_pay20 (F := Ideal) VD VX VG VI VR = r2 .f32 512 1024 (dx D X g R) := by
  subst hD hX hG hI hR
  simp only [k0_pay20, pay18]
  exact dx_block D X g R

theorem pay16 {V : FVec Ideal S1x1024 .f32} {f : ℕ → ℕ → ℝ} (h : V = r2 .f32 1 1024 f) :
    k0_pay16 (F := Ideal) V = r2 .f32 1 1024 f := by
  subst h; exact cast_r2_self _ _

theorem pay6 : k0_pay6 (F := Ideal) = r2 .f32 8 128 fun _ _ => 0 := s_zero

theorem pay17' {V : FVec Ideal S512x1024 .f32} (h : V = r2 .f32 512 1024 X) :
    k0_pay17 (F := Ideal) V = r2 .f32 512 1 fun r _ => inv X r := by
  subst h; exact pay17 X

end

end Cert.Dx

end
-- ==== Proof.Dx.Inputs.lean ====
/-
  What the kernel for the gradient of the first block's input reads once every argument is an array of reals: the arrays
  prepared before the launch, and at each grid point the blocks of them.
-/
module

public import proofs.«01_k».proof.Proof.Dx.Payload
public import proofs.«01_k».proof.Proof.Gen.Kernel6Ideal.Frame
public import Idealize.ShloMosaic.Lib.StableHlo.Run
public import Idealize.ShloMosaic.Lib.Claim

@[expose] public section

set_option maxRecDepth 16384

noncomputable section

namespace Cert.Dx

open Idealize.ShloMosaic Idealize.ShloMosaic.TcCoe Cert.Kernel6Ideal Cert.Kernel6Ideal.Gen Cert.Mix Cert.Rms

variable (m : (ℓ : Loc nD τ sig) → Buf (Elt Ideal) ℓ) (c : Dev nD)

/-- The real arguments: the gradient of the projection's result, the projection's weight, the block's input, the norm's
    scale, and the gradient that the input already has. -/
structure Args where
  Z : ℕ → ℕ → ℝ
  W : ℕ → ℕ → ℝ
  X : ℕ → ℕ → ℝ
  g : ℕ → ℝ
  R : ℕ → ℕ → ℝ

variable (A : Args)

/-- The launch memory holds the real arguments `A`. -/
structure Holds : Prop where
  z : m ((c : Thread nD τ).loc main_arg0) = r2 .f32 4096 6144 A.Z
  w : m ((c : Thread nD τ).loc main_arg1) = r2 .f32 1024 6144 A.W
  x : m ((c : Thread nD τ).loc main_arg2) = r2 .f32 4096 1024 A.X
  g : m ((c : Thread nD τ).loc main_arg3) = r1 .f32 1024 A.g
  r : m ((c : Thread nD τ).loc main_arg4) = r2 .f32 4096 1024 A.R

variable {m c A} (h : Holds m c A)
include h

/-! ### The arrays prepared on the host -/

omit h in
/-- Eight blocks of 768 columns, the block first. -/
theorem column_blocks (f : ℕ → ℕ → ℝ) (h1 : S1024x6144.ShapeCasts S1024x8x768)
    (h2 : S1024x8x768.Transposes [1, 0, 2] S8x1024x768) :
    transpose S8x1024x768 [1, 0, 2] (shapeCast S1024x8x768 (r2 .f32 1024 6144 f : FVec Ideal S1024x6144 .f32) h1) h2
      = r3 .f32 8 1024 768 fun b j k => f j (768 * b + k) := by
  funext i
  have i0 : (i 0).val < 8 := (i 0).isLt
  have i1 : (i 1).val < 1024 := (i 1).isLt
  have i2 : (i 2).val < 768 := (i 2).isLt
  refine (transpose_apply [1, 0, 2] _ h2 i (ix3 ⟨(i 1).val, i1⟩ ⟨(i 0).val, i0⟩ ⟨(i 2).val, i2⟩) (fun b => match b with
    | ⟨0, _⟩ => rfl
    | ⟨1, _⟩ => rfl
    | ⟨2, _⟩ => rfl)).trans ?_
  refine (shapeCast_apply _ h1 _ (ix2 ⟨(i 1).val, i1⟩ ⟨768 * (i 0).val + (i 2).val, by omega⟩) ?_).trans rfl
  rw [Shape.rowMajor_val_two, Shape.rowMajor_val_three]
  show (i 1).val * 6144 + (768 * (i 0).val + (i 2).val) = ((i 1).val * 8 + (i 0).val) * 768 + (i 2).val
  omega

theorem host_v2 : V m c main_v2 = r3 .bf16 8 1024 768 fun b j k => A.W j (768 * b + k) := by
  have e : V m c main_v2 = (truncf .bf16 (transpose S8x1024x768 [1, 0, 2] (shapeCast S1024x8x768
      (m ((c : Thread nD τ).loc main_arg1)) shapeCasts_S1024x6144_S1024x8x768) transposes_S1024x8x768_S8x1024x768_1_0_2)
      bitsLt_bf16_f32 : FVec Ideal S8x1024x768 .bf16) := by
    unfold_abbrev_sides
    after_results
    rfl
  rw [e, h.w, column_blocks]; rfl

theorem host_v3 : V m c main_v3 = r2 .bf16 4096 6144 A.Z := by
  have e : V m c main_v3 = (truncf .bf16 (m ((c : Thread nD τ).loc main_arg0)) bitsLt_bf16_f32 : FVec Ideal S4096x6144 .bf16) := by
    unfold_abbrev_sides
    after_results
  rw [e, h.z]; rfl

theorem host_v4 : V m c main_v4 = r2 .f32 1 1024 fun _ j => A.g j := by
  have e : V m c main_v4 = broadcastInDim S1x1024 ![1] bcast_S1024_S1x1024_1 (m ((c : Thread nD τ).loc main_arg3)) := by
    unfold_abbrev_sides
    after_results
  rw [e, h.g]
  funext i
  simp only [broadcastInDim_apply]
  rfl

/-! ### The blocks -/

variable (t : Fin cfg0.N)

omit h in
theorem at0 : win0_0.index t = ![t.val, 0] := (by decide +kernel : ∀ t : Fin grid0.N, win0_0.index t = ![t.val, 0]) t

theorem blk0 : iblk m c 0 t = in0 (rowsFrom (512 * t.val) A.Z) := by
  funext j
  have e : iblk m c 0 t j = V m c main_v3 (((cfg0.win 0).blk t).view.emb j) := rfl
  have b0 : (((cfg0.win 0).blk t).view.emb j 0).val = win0_0.index t (0 : Fin 2) * 512 + 1 * (j 0).val := rfl
  have b1 : (((cfg0.win 0).blk t).view.emb j 1).val = win0_0.index t (1 : Fin 2) * 6144 + 1 * (j 1).val := rfl
  rw [at0] at b0 b1
  have c0 : (((cfg0.win 0).blk t).view.emb j 0).val = 512 * t.val + (j 0).val :=
    b0.trans (by show t.val * 512 + 1 * _ = _; omega)
  have c1 : (((cfg0.win 0).blk t).view.emb j 1).val = (j 1).val := b1.trans (by show 0 * 6144 + 1 * _ = _; omega)
  rw [e, host_v3 h]
  simp only [r2, c0, c1]
  rfl

omit h in
theorem at1 : win0_1.index t = ![0, 0, 0] := (by decide +kernel : ∀ t : Fin grid0.N, win0_1.index t = ![0, 0, 0]) t

theorem blk1 : iblk m c 1 t = in1 A.W := by
  funext j
  have e : iblk m c 1 t j = V m c main_v2 (((cfg0.win 1).blk t).view.emb j) := rfl
  have b0 : (((cfg0.win 1).blk t).view.emb j 0).val = win0_1.index t (0 : Fin 3) * 8 + 1 * (j 0).val := rfl
  have b1 : (((cfg0.win 1).blk t).view.emb j 1).val = win0_1.index t (1 : Fin 3) * 1024 + 1 * (j 1).val := rfl
  have b2 : (((cfg0.win 1).blk t).view.emb j 2).val = win0_1.index t (2 : Fin 3) * 768 + 1 * (j 2).val := rfl
  rw [at1] at b0 b1 b2
  have c0 : (((cfg0.win 1).blk t).view.emb j 0).val = (j 0).val := b0.trans (by show 0 * 8 + 1 * _ = _; omega)
  have c1 : (((cfg0.win 1).blk t).view.emb j 1).val = (j 1).val := b1.trans (by show 0 * 1024 + 1 * _ = _; omega)
  have c2 : (((cfg0.win 1).blk t).view.emb j 2).val = (j 2).val := b2.trans (by show 0 * 768 + 1 * _ = _; omega)
  rw [e, host_v2 h]
  simp only [r3, c0, c1, c2]
  rfl

omit h in
theorem at2 : win0_2.index t = ![t.val, 0] := (by decide +kernel : ∀ t : Fin grid0.N, win0_2.index t = ![t.val, 0]) t

theorem blk2 : iblk m c 2 t = in2 (rowsFrom (512 * t.val) A.X) := by
  funext j
  have e : iblk m c 2 t j = V m c main_arg2 (((cfg0.win 2).blk t).view.emb j) := rfl
  have b0 : (((cfg0.win 2).blk t).view.emb j 0).val = win0_2.index t (0 : Fin 2) * 512 + 1 * (j 0).val := rfl
  have b1 : (((cfg0.win 2).blk t).view.emb j 1).val = win0_2.index t (1 : Fin 2) * 1024 + 1 * (j 1).val := rfl
  rw [at2] at b0 b1
  have c0 : (((cfg0.win 2).blk t).view.emb j 0).val = 512 * t.val + (j 0).val :=
    b0.trans (by show t.val * 512 + 1 * _ = _; omega)
  have c1 : (((cfg0.win 2).blk t).view.emb j 1).val = (j 1).val := b1.trans (by show 0 * 1024 + 1 * _ = _; omega)
  rw [e, V_main_arg2, h.x]
  simp only [r2, c0, c1]
  rfl

omit h in
theorem at3 : win0_3.index t = ![0, 0] := (by decide +kernel : ∀ t : Fin grid0.N, win0_3.index t = ![0, 0]) t

theorem blk3 : iblk m c 3 t = in3 A.g := by
  funext j
  have e : iblk m c 3 t j = V m c main_v4 (((cfg0.win 3).blk t).view.emb j) := rfl
  have b0 : (((cfg0.win 3).blk t).view.emb j 0).val = win0_3.index t (0 : Fin 2) * 1 + 1 * (j 0).val := rfl
  have b1 : (((cfg0.win 3).blk t).view.emb j 1).val = win0_3.index t (1 : Fin 2) * 1024 + 1 * (j 1).val := rfl
  rw [at3] at b0 b1
  have c0 : (((cfg0.win 3).blk t).view.emb j 0).val = (j 0).val := b0.trans (by show 0 * 1 + 1 * _ = _; omega)
  have c1 : (((cfg0.win 3).blk t).view.emb j 1).val = (j 1).val := b1.trans (by show 0 * 1024 + 1 * _ = _; omega)
  rw [e, host_v4 h]
  simp only [r2, c0, c1]
  rfl

omit h in
theorem at4 : win0_4.index t = ![t.val, 0] := (by decide +kernel : ∀ t : Fin grid0.N, win0_4.index t = ![t.val, 0]) t

theorem blk4 : iblk m c 4 t = in4 (rowsFrom (512 * t.val) A.R) := by
  funext j
  have e : iblk m c 4 t j = V m c main_arg4 (((cfg0.win 4).blk t).view.emb j) := rfl
  have b0 : (((cfg0.win 4).blk t).view.emb j 0).val = win0_4.index t (0 : Fin 2) * 512 + 1 * (j 0).val := rfl
  have b1 : (((cfg0.win 4).blk t).view.emb j 1).val = win0_4.index t (1 : Fin 2) * 1024 + 1 * (j 1).val := rfl
  rw [at4] at b0 b1
  have c0 : (((cfg0.win 4).blk t).view.emb j 0).val = 512 * t.val + (j 0).val :=
    b0.trans (by show t.val * 512 + 1 * _ = _; omega)
  have c1 : (((cfg0.win 4).blk t).view.emb j 1).val = (j 1).val := b1.trans (by show 0 * 1024 + 1 * _ = _; omega)
  rw [e, V_main_arg4, h.r]
  simp only [r2, c0, c1]
  rfl

end Cert.Dx

end
-- ==== Proof.Dx.CaseA.lean ====
/-
  The kernel at the first grid point, which clears the gradient of the scale before adding to it: what its stores leave, on real
  input blocks.
-/
module

public import proofs.«01_k».proof.Proof.Dx.Payload
public import proofs.«01_k».proof.Proof.Gen.Kernel6Ideal.Frame.RunA

@[expose] public section

set_option maxRecDepth 16384

noncomputable section

namespace Cert.Dx.CaseA

open Idealize.ShloMosaic Cert.Mix Cert.Rms Cert.Kernel6Ideal Cert.Kernel6Ideal.Gen

variable (Z W X : ℕ → ℕ → ℝ) (g : ℕ → ℝ) (R : ℕ → ℕ → ℝ)
  (c : Dev nD) (i : grid0.Coords) (arg1 : Memref sig .tc .vmem S512x6144 .bf16) (harg1 : arg1.IsWhole) (arg2 : Memref sig .tc .vmem S8x1024x768 .bf16) (harg2 : arg2.IsWhole) (arg3 : Memref sig .tc .vmem S512x1024 .f32) (harg3 : arg3.IsWhole)
  (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole)
  (arg7 : Memref sig .tc .vmem S8x128 .f32) (harg7 : arg7.IsWhole)
  (hc0 : cond0_0 i)

theorem product : kernelRun0_A.sl.r_8 (F := Ideal) c arg1 harg1 arg2 harg2 (in0 Z) (in1 W) = r2 .f32 512 1024 (dh Z W) :=
  pay15 Z W (rd_cols 0 harg1 Z _) (rd_cols 768 harg1 Z _) (rd_cols 1536 harg1 Z _) (rd_cols 2304 harg1 Z _)
    (rd_cols 3072 harg1 Z _) (rd_cols 3840 harg1 Z _) (rd_cols 4608 harg1 Z _) (rd_cols 5376 harg1 Z _)
    (rd_block 0 harg2 _ _) (rd_block 1 harg2 _ _) (rd_block 2 harg2 _ _) (rd_block 3 harg2 _ _)
    (rd_block 4 harg2 _ _) (rd_block 5 harg2 _ _) (rd_block 6 harg2 _ _) (rd_block 7 harg2 _ _)

theorem sums : kernelRun0_A.sl.r_12 (F := Ideal) c arg1 harg1 arg2 harg2 arg3 harg3 (in0 Z) (in1 W) (in2 X)
    = r2 .f32 1 1024 fun _ j => ∑ r : Fin 512, dh Z W r j * xn X r j :=
  pay19 X (dh Z W) (product Z W c arg1 harg1 arg2 harg2) (rd_whole harg3 _ _) (pay17' X (rd_whole harg3 _ _))

theorem out5 : View.canon (kernelRun0_A (F := Ideal) c i arg1 harg1 arg2 harg2 arg3 harg3 arg4 harg4 arg5 harg5 arg6 harg6 arg7 harg7 hc0 (in0 Z) (in1 W) (in2 X) (in3 g) (in4 R)).1
    = r2 .f32 512 1024 (dx (dh Z W) X g R) :=
  (View.canon_unit_zero zero2 _ _).trans
    (pay20 X g R (dh Z W) (product Z W c arg1 harg1 arg2 harg2) (rd_whole harg3 _ _) (pay16 (rd_whole harg4 _ _))
      (pay17' X (rd_whole harg3 _ _)) (rd_whole harg5 _ _))

theorem out6 : View.canon (kernelRun0_A (F := Ideal) c i arg1 harg1 arg2 harg2 arg3 harg3 arg4 harg4 arg5 harg5 arg6 harg6 arg7 harg7 hc0 (in0 Z) (in1 W) (in2 X) (in3 g) (in4 R)).2.1
    = r2 .f32 8 128 fun g j => 0 + ∑ r : Fin 512, dh Z W r (128 * g + j) * xn X r (128 * g + j) := by
  have S := sums Z W X c arg1 harg1 arg2 harg2 arg3 harg3
  exact canon_lanes _
    (lane_block 0 _ _ (filled_lane _ 0 pay6 _ _) S)
    (lane_block 1 _ _ (past_lane _ 0 (by decide) (filled_lane _ 1 pay6 _ _)) S)
    (lane_block 2 _ _ (past_lane _ 1 (by decide) (past_lane _ 0 (by decide) (filled_lane _ 2 pay6 _ _))) S)
    (lane_block 3 _ _ (past_lane _ 2 (by decide) (past_lane _ 1 (by decide) (past_lane _ 0 (by decide) (filled_lane _ 3 pay6 _ _)))) S)
    (lane_block 4 _ _ (past_lane _ 3 (by decide) (past_lane _ 2 (by decide) (past_lane _ 1 (by decide) (past_lane _ 0 (by decide) (filled_lane _ 4 pay6 _ _))))) S)
    (lane_block 5 _ _ (past_lane _ 4 (by decide) (past_lane _ 3 (by decide) (past_lane _ 2 (by decide) (past_lane _ 1 (by decide) (past_lane _ 0 (by decide) (filled_lane _ 5 pay6 _ _)))))) S)
    (lane_block 6 _ _ (past_lane _ 5 (by decide) (past_lane _ 4 (by decide) (past_lane _ 3 (by decide) (past_lane _ 2 (by decide) (past_lane _ 1 (by decide) (past_lane _ 0 (by decide) (filled_lane _ 6 pay6 _ _))))))) S)
    (lane_block 7 _ _ (past_lane _ 6 (by decide) (past_lane _ 5 (by decide) (past_lane _ 4 (by decide) (past_lane _ 3 (by decide) (past_lane _ 2 (by decide) (past_lane _ 1 (by decide) (past_lane _ 0 (by decide) (filled_lane _ 7 pay6 _ _)))))))) S)

end Cert.Dx.CaseA

end
-- ==== Proof.Dx.CaseB.lean ====
/-
  The kernel at a later grid point, which adds to the gradient of the scale: what its stores leave, on real
  input blocks.
-/
module

public import proofs.«01_k».proof.Proof.Dx.Payload
public import proofs.«01_k».proof.Proof.Gen.Kernel6Ideal.Frame.RunB

@[expose] public section

set_option maxRecDepth 16384

noncomputable section

namespace Cert.Dx.CaseB

open Idealize.ShloMosaic Cert.Mix Cert.Rms Cert.Kernel6Ideal Cert.Kernel6Ideal.Gen

variable (Z W X : ℕ → ℕ → ℝ) (g : ℕ → ℝ) (R T : ℕ → ℕ → ℝ)
  (c : Dev nD) (i : grid0.Coords) (arg1 : Memref sig .tc .vmem S512x6144 .bf16) (harg1 : arg1.IsWhole) (arg2 : Memref sig .tc .vmem S8x1024x768 .bf16) (harg2 : arg2.IsWhole) (arg3 : Memref sig .tc .vmem S512x1024 .f32) (harg3 : arg3.IsWhole)
  (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole)
  (arg7 : Memref sig .tc .vmem S8x128 .f32) (harg7 : arg7.IsWhole)
  (hc0 : ¬cond0_0 i)

theorem product : kernelRun0_B.sl.r_8 (F := Ideal) c arg1 harg1 arg2 harg2 (in0 Z) (in1 W) = r2 .f32 512 1024 (dh Z W) :=
  pay15 Z W (rd_cols 0 harg1 Z _) (rd_cols 768 harg1 Z _) (rd_cols 1536 harg1 Z _) (rd_cols 2304 harg1 Z _)
    (rd_cols 3072 harg1 Z _) (rd_cols 3840 harg1 Z _) (rd_cols 4608 harg1 Z _) (rd_cols 5376 harg1 Z _)
    (rd_block 0 harg2 _ _) (rd_block 1 harg2 _ _) (rd_block 2 harg2 _ _) (rd_block 3 harg2 _ _)
    (rd_block 4 harg2 _ _) (rd_block 5 harg2 _ _) (rd_block 6 harg2 _ _) (rd_block 7 harg2 _ _)

theorem sums : kernelRun0_B.sl.r_12 (F := Ideal) c arg1 harg1 arg2 harg2 arg3 harg3 (in0 Z) (in1 W) (in2 X)
    = r2 .f32 1 1024 fun _ j => ∑ r : Fin 512, dh Z W r j * xn X r j :=
  pay19 X (dh Z W) (product Z W c arg1 harg1 arg2 harg2) (rd_whole harg3 _ _) (pay17' X (rd_whole harg3 _ _))

theorem out5 : View.canon (kernelRun0_B (F := Ideal) c i arg1 harg1 arg2 harg2 arg3 harg3 arg4 harg4 arg5 harg5 arg6 harg6 arg7 harg7 hc0 (in0 Z) (in1 W) (in2 X) (in3 g) (in4 R) (r2 .f32 8 128 T)).1
    = r2 .f32 512 1024 (dx (dh Z W) X g R) :=
  (View.canon_unit_zero zero2 _ _).trans
    (pay20 X g R (dh Z W) (product Z W c arg1 harg1 arg2 harg2) (rd_whole harg3 _ _) (pay16 (rd_whole harg4 _ _))
      (pay17' X (rd_whole harg3 _ _)) (rd_whole harg5 _ _))

theorem out6 : View.canon (kernelRun0_B (F := Ideal) c i arg1 harg1 arg2 harg2 arg3 harg3 arg4 harg4 arg5 harg5 arg6 harg6 arg7 harg7 hc0 (in0 Z) (in1 W) (in2 X) (in3 g) (in4 R) (r2 .f32 8 128 T)).2.1
    = r2 .f32 8 128 fun g j => T g j + ∑ r : Fin 512, dh Z W r (128 * g + j) * xn X r (128 * g + j) := by
  have S := sums Z W X c arg1 harg1 arg2 harg2 arg3 harg3
  exact canon_lanes _
    (lane_block 0 _ _ (rd_lane 0 _ _ _) S)
    (lane_block 1 _ _ (rd_lane 1 _ _ _) S)
    (lane_block 2 _ _ (rd_lane 2 _ _ _) S)
    (lane_block 3 _ _ (rd_lane 3 _ _ _) S)
    (lane_block 4 _ _ (rd_lane 4 _ _ _) S)
    (lane_block 5 _ _ (rd_lane 5 _ _ _) S)
    (lane_block 6 _ _ (rd_lane 6 _ _ _) S)
    (lane_block 7 _ _ (rd_lane 7 _ _ _) S)

end Cert.Dx.CaseB

end
-- ==== Proof.Dx.State.lean ====
/-
  The kernel for the gradient of the first block's input over its eight grid points: what each point leaves, the running sum
  of the scale's gradient, and the two arrays at the end.
-/
module

public import proofs.«01_k».proof.Proof.Dx.Inputs
public import proofs.«01_k».proof.Proof.Dx.CaseA
public import proofs.«01_k».proof.Proof.Dx.CaseB
public import proofs.«01_k».proof.Proof.Gen.Kernel6Ideal.Value

@[expose] public section

set_option maxRecDepth 16384

noncomputable section

namespace Cert.Dx

open Idealize.ShloMosaic Idealize.ShloMosaic.TcCoe Cert.Kernel6Ideal Cert.Kernel6Ideal.Gen Cert.Kernel6Ideal.Value Cert.Mix Cert.Rms

/-! ### What each kind of point leaves -/

section
variable {Z W X : ℕ → ℕ → ℝ} {g : ℕ → ℝ} {R : ℕ → ℕ → ℝ}
  {c : Dev nD} {i : grid0.Coords} {arg1 : Memref sig .tc .vmem S512x6144 .bf16} {harg1 : arg1.IsWhole} {arg2 : Memref sig .tc .vmem S8x1024x768 .bf16} {harg2 : arg2.IsWhole} {arg3 : Memref sig .tc .vmem S512x1024 .f32} {harg3 : arg3.IsWhole}
  {arg4 : Memref sig .tc .vmem S1x1024 .f32} {harg4 : arg4.IsWhole} {arg5 : Memref sig .tc .vmem S512x1024 .f32} {harg5 : arg5.IsWhole} {arg6 : Memref sig .tc .vmem S512x1024 .f32} {harg6 : arg6.IsWhole}
  {arg7 : Memref sig .tc .vmem S8x128 .f32} {harg7 : arg7.IsWhole}
  {x0 : Vec Ideal S512x6144 .bf16} {x1 : Vec Ideal S8x1024x768 .bf16} {x2 : Vec Ideal S512x1024 .f32} {x3 : Vec Ideal S1x1024 .f32} {x4 : Vec Ideal S512x1024 .f32} {xo : Vec Ideal S8x128 .f32}
  (e_x0 : x0 = in0 Z) (e_x1 : x1 = in1 W) (e_x2 : x2 = in2 X) (e_x3 : x3 = in3 g) (e_x4 : x4 = in4 R)
include e_x0 e_x1 e_x2 e_x3 e_x4

theorem leftA_5 {hc0 : cond0_0 i} : out0_A_5 (F := Ideal) c i arg1 harg1 arg2 harg2 arg3 harg3 arg4 harg4 arg5 harg5 arg6 harg6 arg7 harg7 hc0 x0 x1 x2 x3 x4
    = r2 .f32 512 1024 (dx (dh Z W) X g R) := by
  subst e_x0 e_x1 e_x2 e_x3 e_x4
  unfold out0_A_5
  rw [View.read_writes_junk_eq_canon]
  apply CaseA.out5

theorem leftA_6 {hc0 : cond0_0 i} : out0_A_6 (F := Ideal) c i arg1 harg1 arg2 harg2 arg3 harg3 arg4 harg4 arg5 harg5 arg6 harg6 arg7 harg7 hc0 x0 x1 x2 x3 x4
    = r2 .f32 8 128 fun h j => 0 + ∑ r : Fin 512, dh Z W r (128 * h + j) * xn X r (128 * h + j) := by
  subst e_x0 e_x1 e_x2 e_x3 e_x4
  unfold out0_A_6
  rw [View.read_writes_junk_eq_canon]
  apply CaseA.out6

theorem leftB_5 {hc0 : ¬cond0_0 i} {T : ℕ → ℕ → ℝ} (e_xo : xo = r2 .f32 8 128 T) : out0_B_5 (F := Ideal) c i arg1 harg1 arg2 harg2 arg3 harg3 arg4 harg4 arg5 harg5 arg6 harg6 arg7 harg7 hc0 x0 x1 x2 x3 x4 xo
    = r2 .f32 512 1024 (dx (dh Z W) X g R) := by
  subst e_x0 e_x1 e_x2 e_x3 e_x4 e_xo
  unfold out0_B_5
  rw [View.read_writes_junk_eq_canon]
  apply CaseB.out5

theorem leftB_6 {hc0 : ¬cond0_0 i} {T : ℕ → ℕ → ℝ} (e_xo : xo = r2 .f32 8 128 T) : out0_B_6 (F := Ideal) c i arg1 harg1 arg2 harg2 arg3 harg3 arg4 harg4 arg5 harg5 arg6 harg6 arg7 harg7 hc0 x0 x1 x2 x3 x4 xo
    = r2 .f32 8 128 fun h j => T h j + ∑ r : Fin 512, dh Z W r (128 * h + j) * xn X r (128 * h + j) := by
  subst e_x0 e_x1 e_x2 e_x3 e_x4 e_xo
  unfold out0_B_6
  rw [View.read_writes_junk_eq_canon]
  apply CaseB.out6

end

/-! ### All points -/

/-- What the outputs hold after point `n`. -/
structure After (A : Args) (n : ℕ) (s : Vec Ideal S512x1024 .f32 × Vec Ideal S8x128 .f32) : Prop where
  dx : s.1 = r2 .f32 512 1024 (rowsFrom (512 * n) (Rms.dx (dh A.Z A.W) A.X A.g A.R))
  dg : s.2 = r2 .f32 8 128 (Rms.dg (dh A.Z A.W) A.X (512 * n + 512))

variable {m : (ℓ : Loc nD τ sig) → Buf (Elt Ideal) ℓ} {c : Dev nD} {A : Args} (h : Holds m c A) (t : Fin cfg0.N)
include h

theorem stA_5 (h0 : t.val % 8 = 0) :
    (outsAt0 m c t.val t.isLt).1 = r2 .f32 512 1024 (Rms.dx (dh (rowsFrom (512 * t.val) A.Z) A.W) (rowsFrom (512 * t.val) A.X) A.g (rowsFrom (512 * t.val) A.R)) := by
  rw [outsAt0_A m c t h0]
  dsimp only
  apply leftA_5
  exacts [blk0 h t, blk1 h t, blk2 h t, blk3 h t, blk4 h t]

theorem stA_6 (h0 : t.val % 8 = 0) :
    (outsAt0 m c t.val t.isLt).2 = r2 .f32 8 128 fun h j => 0
      + ∑ r : Fin 512, dh (rowsFrom (512 * t.val) A.Z) A.W r (128 * h + j) * xn (rowsFrom (512 * t.val) A.X) r (128 * h + j) := by
  rw [outsAt0_A m c t h0]
  dsimp only
  apply leftA_6
  exacts [blk0 h t, blk1 h t, blk2 h t, blk3 h t, blk4 h t]

theorem stB_5 (h0 : ¬t.val % 8 = 0) {T : ℕ → ℕ → ℝ}
    (hT : (outsAt0 m c (t.val - 1) (Nat.lt_of_le_of_lt (Nat.sub_le _ _) t.isLt)).2 = r2 .f32 8 128 T) :
    (outsAt0 m c t.val t.isLt).1 = r2 .f32 512 1024 (Rms.dx (dh (rowsFrom (512 * t.val) A.Z) A.W) (rowsFrom (512 * t.val) A.X) A.g (rowsFrom (512 * t.val) A.R)) := by
  rw [outsAt0_B m c t h0]
  dsimp only
  apply leftB_5
  exacts [blk0 h t, blk1 h t, blk2 h t, blk3 h t, blk4 h t, hT]

theorem stB_6 (h0 : ¬t.val % 8 = 0) {T : ℕ → ℕ → ℝ}
    (hT : (outsAt0 m c (t.val - 1) (Nat.lt_of_le_of_lt (Nat.sub_le _ _) t.isLt)).2 = r2 .f32 8 128 T) :
    (outsAt0 m c t.val t.isLt).2 = r2 .f32 8 128 fun h j => T h j
      + ∑ r : Fin 512, dh (rowsFrom (512 * t.val) A.Z) A.W r (128 * h + j) * xn (rowsFrom (512 * t.val) A.X) r (128 * h + j) := by
  rw [outsAt0_B m c t h0]
  dsimp only
  apply leftB_6
  exacts [blk0 h t, blk1 h t, blk2 h t, blk3 h t, blk4 h t, hT]

theorem after_first (h0 : t.val % 8 = 0) (e : t.val = 0) : After A t.val (outsAt0 m c t.val t.isLt) := by
  refine ⟨stA_5 h t h0, (stA_6 h t h0).trans (r2_ext fun g j _ _ => ?_)⟩
  rw [e, ← dg_zero (dh A.Z A.W) A.X g j]
  exact dg_add (dh A.Z A.W) A.X 0 g j

theorem after_next (h0 : ¬t.val % 8 = 0)
    (p : After A (t.val - 1) (outsAt0 m c (t.val - 1) (Nat.lt_of_le_of_lt (Nat.sub_le _ _) t.isLt))) :
    After A t.val (outsAt0 m c t.val t.isLt) := by
  have e1 : 512 * (t.val - 1) + 512 = 512 * t.val := by omega
  have pg := p.dg
  rw [e1] at pg
  exact ⟨stB_5 h t h0 pg, (stB_6 h t h0 pg).trans (r2_ext fun g j _ _ => dg_add (dh A.Z A.W) A.X (512 * t.val) g j)⟩

theorem after_all (n : ℕ) (hn : n < cfg0.N) : After A n (outsAt0 m c n hn) := by
  have hN : cfg0.N = 8 := N_0
  induction n with
  | zero => exact after_first h ⟨0, hn⟩ rfl rfl
  | succ n ih => exact after_next h ⟨n + 1, hn⟩ (by show ¬(n + 1) % 8 = 0; omega) (ih (Nat.lt_of_succ_lt hn))

/-! ### The arrays at the end -/

omit h in
theorem at5 : win0_5.index t = ![t.val, 0] := (by decide +kernel : ∀ t : Fin grid0.N, win0_5.index t = ![t.val, 0]) t
omit h in
theorem at6 : win0_6.index t = ![0, 0] := (by decide +kernel : ∀ t : Fin grid0.N, win0_6.index t = ![0, 0]) t

theorem final_dx : (dats m 0 c).arrAt 5 cfg0.N = r2 .f32 4096 1024 (Rms.dx (dh A.Z A.W) A.X A.g A.R) := by
  funext i
  have i0 : (i 0).val < 4096 := (i 0).isLt
  have hlt : (i 0).val / 512 < cfg0.N := lt_of_lt_of_eq (by omega) N_0.symm
  let t : Fin cfg0.N := ⟨(i 0).val / 512, hlt⟩
  let j : S512x1024.Idx := ix2 ⟨(i 0).val % 512, Nat.mod_lt _ (by decide)⟩ (i 1)
  have b := congrFun (blocks5 m c t (Gen.flush0_5 t)) j
  have ei : ((cfg0.win 5).blk t).view.emb j = i := by
    have b0 : (((cfg0.win 5).blk t).view.emb j 0).val = win0_5.index t (0 : Fin 2) * 512 + 1 * (j 0).val := rfl
    have b1 : (((cfg0.win 5).blk t).view.emb j 1).val = win0_5.index t (1 : Fin 2) * 1024 + 1 * (j 1).val := rfl
    rw [at5] at b0 b1
    refine funext fun a => Fin.ext ?_
    match a with
    | ⟨0, _⟩ => exact b0.trans (by show (i 0).val / 512 * 512 + 1 * ((i 0).val % 512) = (i 0).val; omega)
    | ⟨1, _⟩ => exact b1.trans (by show 0 * 1024 + 1 * (i 1).val = (i 1).val; omega)
  rw [flushed5, (after_all h t.val t.isLt).dx] at b
  refine (congrArg _ ei.symm).trans (b.trans ?_)
  show ((Rms.dx (dh A.Z A.W) A.X A.g A.R (512 * ((i 0).val / 512) + (i 0).val % 512) (i 1).val : ℝ) : EReal) = _
  rw [show 512 * ((i 0).val / 512) + (i 0).val % 512 = (i 0).val by omega]
  rfl

omit h in
/-- The scale's gradient is written back once, after the last point. -/
theorem once6 (t t' : Fin cfg0.N) (hf : (cfg0.win 6).flush t = true) (hf' : (cfg0.win 6).flush t' = true) : t = t' := by
  have hN : cfg0.N = 8 := N_0
  have a := (flush0_6 t).1 hf
  have b := (flush0_6 t').1 hf'
  have := t.isLt
  have := t'.isLt
  exact Fin.ext (by omega)

theorem final_dg : (dats m 0 c).arrAt 6 cfg0.N = r2 .f32 8 128 (Rms.dg (dh A.Z A.W) A.X 4096) := by
  funext i
  have hlt : 7 < cfg0.N := lt_of_lt_of_eq (by decide) N_0.symm
  let t : Fin cfg0.N := ⟨7, hlt⟩
  have b := congrFun ((dats m 0 c).read_blk_arrAt_eq_flushed 6 (fun t t' hf hf' hne => absurd (once6 t t' hf hf') hne)
    cfg0.N t t.isLt ((flush0_6 t).2 rfl)) i
  have ei : ((cfg0.win 6).blk t).view.emb i = i := by
    have b0 : (((cfg0.win 6).blk t).view.emb i 0).val = win0_6.index t (0 : Fin 2) * 8 + 1 * (i 0).val := rfl
    have b1 : (((cfg0.win 6).blk t).view.emb i 1).val = win0_6.index t (1 : Fin 2) * 128 + 1 * (i 1).val := rfl
    rw [at6] at b0 b1
    refine funext fun a => Fin.ext ?_
    match a with
    | ⟨0, _⟩ => exact b0.trans (by show 0 * 8 + 1 * (i 0).val = (i 0).val; omega)
    | ⟨1, _⟩ => exact b1.trans (by show 0 * 128 + 1 * (i 1).val = (i 1).val; omega)
  rw [flushed6, (after_all h t.val t.isLt).dg] at b
  exact (congrArg _ ei.symm).trans b

end Cert.Dx

end
-- ==== Proof.Rms.Host.lean ====
/-
  The gradient of the RMS norm as differentiating the formula line by line gives it, over the REAL numbers: the inverse root's
  derivative is `half`, and the sum of the three terms is `dx`. Also a vector of 1024 numbers seen as eight rows of 128.
-/
module

public import proofs.«01_k».proof.Proof.Rms.Blocks
public import proofs.«01_k».proof.Proof.Mix.Host

@[expose] public section

noncomputable section

namespace Cert.Rms

open Idealize.ShloMosaic Cert.Mix

section
variable (D X : ℕ → ℕ → ℝ) (g : ℕ → ℝ) (R : ℕ → ℕ → ℝ)

/-- A row's mean square, and the constant that keeps it from zero. -/
def msq (r : ℕ) : ℝ := (∑ c : Fin 1024, X r c * X r c) / 1024 + eps

theorem msq_pos (r : ℕ) : 0 < msq X r := arg_pos X r

/-- The derivative of the inverse root. -/
def half (r : ℕ) : ℝ := -(1 / 2) * (inv X r / msq X r)

theorem half_eq (r : ℕ) : half X r = -(1 / 2) * (inv X r * inv X r * inv X r) := by
  have h : inv X r * inv X r = (msq X r)⁻¹ := by
    show (Real.sqrt (msq X r))⁻¹ * (Real.sqrt (msq X r))⁻¹ = _
    rw [← mul_inv, Real.mul_self_sqrt (msq_pos X r).le]
  rw [h, half, div_eq_mul_inv (inv X r), mul_comm (inv X r)]

/-- What every entry of a row gets from the inverse root. -/
def share (r : ℕ) : ℝ := (∑ c : Fin 1024, X r c * (D r c * g c)) * half X r / 1024

theorem dx_ref (r j : ℕ) :
    R r j + (D r j * g j * inv X r + X r j * share D X g r + share D X g r * X r j) = dx D X g R r j := by
  have h : ∑ c : Fin 1024, D r c * g c * xn X r c = inv X r * ∑ c : Fin 1024, X r c * (D r c * g c) := by
    rw [Finset.mul_sum]
    exact Finset.sum_congr rfl fun c _ => by unfold xn; ring
  rw [dx, h, share, half_eq, xn]
  ring

end

/-- A vector of 1024 numbers as eight rows of 128. -/
theorem cast_lanes (f : ℕ → ℝ) (h : (⟨1, ![1024]⟩ : Shape).ShapeCasts Lanes) :
    shapeCast Lanes (r1 .f32 1024 f) h = r2 .f32 8 128 fun i j => f (128 * i + j) := by
  funext j
  have h0 : (j 0).val < 8 := (j 0).isLt
  have h1 : (j 1).val < 128 := (j 1).isLt
  refine (shapeCast_apply _ h j (ix1 ⟨128 * (j 0).val + (j 1).val, by omega⟩) ?_).trans rfl
  rw [Shape.rowMajor_val_one, Shape.rowMajor_val_two]
  show 128 * (j 0).val + (j 1).val = (j 0).val * 128 + (j 1).val
  omega

end Cert.Rms

end
-- ==== Proof.Dx.Ref.lean ====
/-
  The reference for the gradient of the first block's input read on real numbers. The lemmas go through the program in its order;
  `e_v12` says what buffer `v12` holds.
-/
module

public import proofs.«01_k».proof.Proof.Gen.Reference6Ideal.Read
public import proofs.«01_k».proof.Proof.Dx.Inputs
public import proofs.«01_k».proof.Proof.Rms.Host

@[expose] public section

set_option maxRecDepth 16384

noncomputable section

namespace Cert.Dx

open Cert.Reference6Ideal Cert.Reference6Ideal.Gen Cert.Reference6Ideal.Read Idealize.ShloMosaic Cert.Mix
open Cert.Rms

variable (A : Args)

abbrev aZ : (⟨S4096x6144, .f32⟩ : BufTy).Contents (Elt Ideal) := r2 .f32 4096 6144 A.Z
abbrev aW : (⟨S1024x6144, .f32⟩ : BufTy).Contents (Elt Ideal) := r2 .f32 1024 6144 A.W
abbrev aX : (⟨S4096x1024, .f32⟩ : BufTy).Contents (Elt Ideal) := r2 .f32 4096 1024 A.X
abbrev aG : (⟨S1024, .f32⟩ : BufTy).Contents (Elt Ideal) := r1 .f32 1024 A.g
abbrev aR : (⟨S4096x1024, .f32⟩ : BufTy).Contents (Elt Ideal) := r2 .f32 4096 1024 A.R

theorem e_v0 : val_main_v0 (F := Ideal) (aX A)
    = r2 .f32 4096 1024 fun i j => A.X i j * A.X i j := by
  exact mulf_r2 _ _

theorem e_v1 : val_main_v1 (F := Ideal) (aX A)
    = r1 .f32 4096 fun i => ∑ k : Fin 1024, A.X i k * A.X i k := by
  simp only [val_main_v1, e_v0, val_main_cst, const_0, host_sum_cols]

theorem e_v2 : val_main_v2 (F := Ideal) (aX A)
    = r2 .f32 4096 1 fun i _ => ∑ k : Fin 1024, A.X i k * A.X i k := by
  unfold val_main_v2; rw [e_v1]; exact spread_r1_rows _ _

theorem e_v3 : val_main_v3 (F := Ideal) = r2 .f32 4096 1 fun _ _ => 1024 :=
  congrArg (broadcastInDim S4096x1 ![] bcast_S_S4096x1) const_1024

theorem e_v4 : val_main_v4 (F := Ideal) (aX A)
    = r2 .f32 4096 1 fun i _ => (∑ k : Fin 1024, A.X i k * A.X i k) / 1024 := by
  simp only [val_main_v4, e_v2, e_v3]
  exact host_divf_const _ 1024 (by norm_num)

theorem e_v5 : val_main_v5 (F := Ideal) = r2 .f32 4096 1 fun _ _ => eps :=
  congrArg (broadcastInDim S4096x1 ![] bcast_S_S4096x1) const_eps

theorem e_v6 : val_main_v6 (F := Ideal) (aX A)
    = r2 .f32 4096 1 fun i _ => msq A.X i := by
  simp only [val_main_v6, e_v4, e_v5, addf_r2]
  rfl

theorem e_v7 : val_main_v7 (F := Ideal) (aX A)
    = r2 .f32 4096 1 fun i _ => inv A.X i := by
  simp only [val_main_v7, e_v6]
  exact host_rsqrt_r2 _ fun i _ => msq_pos A.X i

theorem e_v8 : val_main_v8 (F := Ideal) (aX A)
    = r2 .f32 4096 1 fun i _ => inv A.X i / msq A.X i := by
  simp only [val_main_v8, e_v7, e_v6]
  exact host_divf_r2 _ _ fun i _ _ _ => (msq_pos A.X i).ne'

theorem e_v9 : val_main_v9 (F := Ideal) = r2 .f32 4096 1 fun _ _ => -(1 / 2) :=
  congrArg (broadcastInDim S4096x1 ![] bcast_S_S4096x1) const_neg_half

theorem e_v10 : val_main_v10 (F := Ideal) (aX A)
    = r2 .f32 4096 1 fun i _ => half A.X i := by
  simp only [val_main_v10, e_v9, e_v8, mulf_r2]
  rfl

theorem e_v11 : val_main_v11 (F := Ideal) (aX A)
    = r2 .f32 4096 1024 fun i _ => inv A.X i := by
  unfold val_main_v11; rw [e_v7]; exact spread_in_col _ _

theorem e_v12 : val_main_v12 (F := Ideal) (aX A)
    = r2 .f32 4096 1024 (xn A.X) := by
  simp only [val_main_v12, e_v11, mulf_r2]
  rfl

theorem e_v13 : val_main_v13 (F := Ideal) (aG A)
    = r2 .f32 1 1024 fun _ j => A.g j := by
  exact spread_r1_cols _ _

theorem e_v17 : val_main_v17 (F := Ideal) (aZ A) (aW A) = r2 .f32 4096 1024 (dh A.Z A.W) := by
  funext i
  refine (val_main_v17_apply _ _ i).trans ?_
  exact coe_sum Finset.univ fun k : Fin 6144 => A.Z (i 0).val k * A.W (i 1).val k

theorem e_v18 : val_main_v18 (F := Ideal) (aZ A) (aW A) (aX A)
    = r2 .f32 4096 1024 fun i j => xn A.X i j * (dh A.Z A.W) i j := by
  simp only [val_main_v18, e_v12, e_v17, mulf_r2]

theorem e_v19 : val_main_v19 (F := Ideal) (aZ A) (aW A) (aX A)
    = r1 .f32 1024 fun j => ∑ k : Fin 4096, xn A.X k j * (dh A.Z A.W) k j := by
  simp only [val_main_v19, e_v18, val_main_cst_3, const_0, host_sum_rows]

theorem e_v20 : val_main_v20 (F := Ideal) (aZ A) (aW A) (aX A)
    = r2 .f32 1 1024 fun _ j => ∑ k : Fin 4096, xn A.X k j * (dh A.Z A.W) k j := by
  unfold val_main_v20; rw [e_v19]; exact cast_r1_row _ _

theorem e_v21 : val_main_v21 (F := Ideal) (aG A)
    = r2 .f32 4096 1024 fun _ j => A.g j := by
  unfold val_main_v21; rw [e_v13]; exact spread_in_row _ _

theorem e_v22 : val_main_v22 (F := Ideal) (aZ A) (aW A) (aG A)
    = r2 .f32 4096 1024 fun i j => (dh A.Z A.W) i j * A.g j := by
  simp only [val_main_v22, e_v17, e_v21, mulf_r2]

theorem e_v23 : val_main_v23 (F := Ideal) (aZ A) (aW A) (aX A)
    = r1 .f32 1024 fun j => ∑ k : Fin 4096, xn A.X k j * (dh A.Z A.W) k j := by
  simp only [val_main_v23, e_v20, val_main_cst_4, const_0, host_sum_rows, Fin.sum_univ_one]

theorem e_v24 : val_main_v24 (F := Ideal) (aZ A) (aW A) (aX A) (aG A)
    = r2 .f32 4096 1024 fun i j => A.X i j * ((dh A.Z A.W) i j * A.g j) := by
  simp only [val_main_v24, e_v22, mulf_r2]

theorem e_v25 : val_main_v25 (F := Ideal) (aZ A) (aW A) (aX A) (aG A)
    = r1 .f32 4096 fun i => ∑ k : Fin 1024, A.X i k * ((dh A.Z A.W) i k * A.g k) := by
  simp only [val_main_v25, e_v24, val_main_cst_5, const_0, host_sum_cols]

theorem e_v26 : val_main_v26 (F := Ideal) (aZ A) (aW A) (aX A) (aG A)
    = r2 .f32 4096 1 fun i _ => ∑ k : Fin 1024, A.X i k * ((dh A.Z A.W) i k * A.g k) := by
  unfold val_main_v26; rw [e_v25]; exact cast_r1_col _ _

theorem e_v27 : val_main_v27 (F := Ideal) (aX A)
    = r2 .f32 4096 1024 fun i _ => inv A.X i := by
  unfold val_main_v27; rw [e_v7]; exact spread_in_col _ _

theorem e_v28 : val_main_v28 (F := Ideal) (aZ A) (aW A) (aX A) (aG A)
    = r2 .f32 4096 1024 fun i j => (dh A.Z A.W) i j * A.g j * inv A.X i := by
  simp only [val_main_v28, e_v22, e_v27, mulf_r2]

theorem e_v29 : val_main_v29 (F := Ideal) (aZ A) (aW A) (aX A) (aG A)
    = r2 .f32 4096 1 fun i _ => (∑ k : Fin 1024, A.X i k * ((dh A.Z A.W) i k * A.g k)) * half A.X i := by
  simp only [val_main_v29, e_v26, e_v10, mulf_r2]

theorem e_v30 : val_main_v30 (F := Ideal) = r2 .f32 4096 1 fun _ _ => 1024 :=
  congrArg (broadcastInDim S4096x1 ![] bcast_S_S4096x1) const_1024

theorem e_v31 : val_main_v31 (F := Ideal) (aZ A) (aW A) (aX A) (aG A)
    = r2 .f32 4096 1 fun i _ => share (dh A.Z A.W) A.X A.g i := by
  simp only [val_main_v31, e_v29, e_v30]
  exact host_divf_const _ 1024 (by norm_num)

theorem e_v32 : val_main_v32 (F := Ideal) (aZ A) (aW A) (aX A) (aG A)
    = r1 .f32 4096 fun i => share (dh A.Z A.W) A.X A.g i := by
  simp only [val_main_v32, e_v31, val_main_cst_7, const_0, host_sum_cols, Fin.sum_univ_one]

theorem e_v33 : val_main_v33 (F := Ideal) (aZ A) (aW A) (aX A) (aG A)
    = r2 .f32 4096 1024 fun i _ => share (dh A.Z A.W) A.X A.g i := by
  unfold val_main_v33; rw [e_v32]; exact spread_r1_rows _ _

theorem e_v34 : val_main_v34 (F := Ideal) (aZ A) (aW A) (aX A) (aG A)
    = r2 .f32 4096 1024 fun i j => A.X i j * share (dh A.Z A.W) A.X A.g i := by
  simp only [val_main_v34, e_v33, mulf_r2]

theorem e_v35 : val_main_v35 (F := Ideal) (aZ A) (aW A) (aX A) (aG A)
    = r2 .f32 4096 1024 fun i j => (dh A.Z A.W) i j * A.g j * inv A.X i + A.X i j * share (dh A.Z A.W) A.X A.g i := by
  simp only [val_main_v35, e_v28, e_v34, addf_r2]

theorem e_v36 : val_main_v36 (F := Ideal) (aZ A) (aW A) (aX A) (aG A)
    = r2 .f32 4096 1024 fun i j => share (dh A.Z A.W) A.X A.g i * A.X i j := by
  simp only [val_main_v36, e_v33, mulf_r2]

theorem e_v37 : val_main_v37 (F := Ideal) (aZ A) (aW A) (aX A) (aG A)
    = r2 .f32 4096 1024 fun i j => (dh A.Z A.W) i j * A.g j * inv A.X i + A.X i j * share (dh A.Z A.W) A.X A.g i + share (dh A.Z A.W) A.X A.g i * A.X i j := by
  simp only [val_main_v37, e_v35, e_v36, addf_r2]

theorem e_v38 : val_main_v38 (F := Ideal) (aZ A) (aW A) (aX A) (aG A) (aR A)
    = r2 .f32 4096 1024 (dx (dh A.Z A.W) A.X A.g A.R) := by
  simp only [val_main_v38, e_v37, addf_r2]
  exact r2_ext fun i j _ _ => dx_ref (dh A.Z A.W) A.X A.g A.R i j

theorem e_v39 : val_main_v39 (F := Ideal) (aZ A) (aW A) (aX A)
    = r2 .f32 8 128 (dg (dh A.Z A.W) A.X 4096) := by
  unfold val_main_v39
  rw [e_v23]
  refine (cast_lanes _ _).trans (r2_ext fun h j _ _ => ?_)
  exact Finset.sum_congr rfl fun r _ => mul_comm _ _

end Cert.Dx

end
-- ==== Proof.Dx.Value.lean ====
/-
  The claims of the kernel for the gradient of the first block's input: the reference's frame, and that the kernel and the
  reference end with equal results whenever every entry of every argument is a real number.
-/
module

public import proofs.«01_k».proof.Defs
public import proofs.«01_k».proof.Proof.Gen.Pre_finite6
public import proofs.«01_k».proof.Proof.Gen.Kernel6Ideal.Value
public import proofs.«01_k».proof.Proof.Gen.Reference6Ideal.Run
public import proofs.«01_k».proof.Proof.Mix.Entries
public import proofs.«01_k».proof.Proof.Dx.State
public import proofs.«01_k».proof.Proof.Dx.Ref
public import Idealize.ShloMosaic.Lib.Quiescent

@[expose] public section

set_option maxRecDepth 16384

noncomputable section

namespace Cert.Dx

open Idealize.ShloMosaic Idealize.ShloMosaic.TcCoe Idealize.SL.Sem Cert.Mix

theorem frame_reference : Cert.quiescent_Reference6Ideal (hReference6Ideal := Cert.Reference6Ideal.Gen.facts) := fun m ρ _ =>
  (θ_run Cert.Reference6Ideal.defs _ _).mono
    (fun r h => ⟨fun c => (h c).2.2, sem_eq_zero_of_no_sems (by decide) r.2⟩)
    (Cert.Reference6Ideal.Value.run (F := Ideal) m ρ)

section
open Cert.Pre_finite6 Cert.Pre_finite6.Gen

/-- The real numbers of five arrays. -/
def args (x0 : FVec Ideal S4096x6144 .f32) (x1 : FVec Ideal S1024x6144 .f32) (x2 : FVec Ideal S4096x1024 .f32)
    (x3 : FVec Ideal S1024 .f32) (x4 : FVec Ideal S4096x1024 .f32) : Args :=
  ⟨of2 x0, of2 x1, of2 x2, of1 x3, of2 x4⟩

/-- Five arrays that pass the test are the blocks of their real numbers. -/
theorem args_spec (x0 : FVec Ideal S4096x6144 .f32) (x1 : FVec Ideal S1024x6144 .f32) (x2 : FVec Ideal S4096x1024 .f32)
    (x3 : FVec Ideal S1024 .f32) (x4 : FVec Ideal S4096x1024 .f32) (j : S_.Idx) (h : fn (F := Ideal) x0 x1 x2 x3 x4 j = 1#1) :
    x0 = r2 .f32 4096 6144 (of2 x0) ∧ x1 = r2 .f32 1024 6144 (of2 x1) ∧ x2 = r2 .f32 4096 1024 (of2 x2)
      ∧ x3 = r1 .f32 1024 (of1 x3) ∧ x4 = r2 .f32 4096 1024 (of2 x4) := by
  obtain ⟨h, t4⟩ := IntOp.andi_eq_one.1 (show IntOp.andi _ _ = 1#1 from h)
  obtain ⟨h, t3⟩ := IntOp.andi_eq_one.1 (show IntOp.andi _ _ = 1#1 from h)
  obtain ⟨h, t2⟩ := IntOp.andi_eq_one.1 (show IntOp.andi _ _ = 1#1 from h)
  obtain ⟨h, t1⟩ := IntOp.andi_eq_one.1 (show IntOp.andi _ _ = 1#1 from h)
  obtain ⟨_, t0⟩ := IntOp.andi_eq_one.1 (show IntOp.andi _ _ = 1#1 from h)
  exact ⟨eq_r2 _ (reals_of_test _ _ _ _ j t0), eq_r2 _ (reals_of_test _ _ _ _ j t1), eq_r2 _ (reals_of_test _ _ _ _ j t2),
    eq_r1 _ (reals_of_test _ _ _ _ j t3), eq_r2 _ (reals_of_test _ _ _ _ j t4)⟩
end

section
variable (m : (ℓ : Loc Cert.Kernel6Ideal.nD Cert.Kernel6Ideal.τ Cert.Kernel6Ideal.sig) → Buf (Elt Ideal) ℓ) (c : Dev Cert.Kernel6Ideal.nD)

/-- The real numbers a device's arguments hold. -/
def argsOf : Args :=
  args
    (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1))
    (m ((c.tc : Thread Cert.Kernel6Ideal.nD Cert.Kernel6Ideal.τ).loc Cert.Kernel6Ideal.main_arg2))
    (m ((c.tc : Thread Cert.Kernel6Ideal.nD Cert.Kernel6Ideal.τ).loc Cert.Kernel6Ideal.main_arg3))
    (m ((c.tc : Thread Cert.Kernel6Ideal.nD Cert.Kernel6Ideal.τ).loc Cert.Kernel6Ideal.main_arg4))

theorem holds (h : Cert.Pre_Kernel6Ideal_finite6 (hPre_finite6 := Cert.Pre_finite6.Gen.facts) m) : Holds m c (argsOf m c) := by
  obtain ⟨h0, h1, h2, h3, h4⟩ := args_spec _ _ _ _ _ (fun x => x.elim0) (congrFun (h c) _)
  exact ⟨h0, h1, h2, h3, h4⟩
end

open Cert.Reference6Ideal.Read in
theorem algebraic : Cert.algebraic_Kernel6Ideal_Reference6Ideal_pre_finite6 (hKernel6Ideal := Cert.Kernel6Ideal.Gen.facts)
    (hReference6Ideal := Cert.Reference6Ideal.Gen.facts) (hPre_finite6 := Cert.Pre_finite6.Gen.facts) := by
  intro m ρ m' ρ' hpre hagree
  refine ⟨_, _, Cert.Kernel6Ideal.Value.run_blocks (F := Ideal) m ρ, ?_⟩
  refine (θ_run Cert.Reference6Ideal.defs _ _).mono (fun r h c => ?_) (Cert.Reference6Ideal.Value.run (F := Ideal) m' ρ')
  have H := holds m c hpre
  obtain ⟨a0, a1, a2, a3, a4⟩ := hagree c
  have b0 := a0.trans H.z
  have b1 := a1.trans H.w
  have b2 := a2.trans H.x
  have b3 := a3.trans H.g
  have b4 := a4.trans H.r
  obtain ⟨o0, o1, kept⟩ := h c
  refine ⟨o0.trans ?_, o1.trans ?_, kept⟩
  · rw [val_main_v38_eq, b0, b1, b2, b3, b4, final_dx H]; exact e_v38 _
  · rw [val_main_v39_eq, b0, b1, b2, final_dg H]; exact e_v39 _

end Cert.Dx

end
-- ==== Proof.Ffn.Blocks.lean ====
/-
  Arrays of four axes that hold real numbers: reading one block of rows of such an array, taking away and putting back its two
  leading axes of one entry, and the eight stores that fill one.
-/
module

public import proofs.«01_k».proof.Proof.Mix.Host
public import proofs.«01_k».proof.Proof.Rms.Blocks

@[expose] public section

set_option maxRecDepth 16384

noncomputable section

namespace Cert.Ffn

open Idealize.ShloMosaic Cert.Mix

abbrev Half : Shape := ⟨2, ![512, 704]⟩
abbrev Piece : Shape := ⟨4, ![1, 1, 512, 704]⟩
abbrev Halves : Shape := ⟨4, ![2, 4, 512, 704]⟩

theorem cast_r4_r2 (f : ℕ → ℕ → ℕ → ℕ → ℝ) (h : Piece.ShapeCasts Half) :
    shapeCast Half (r4 .bf16 1 1 512 704 f) h = r2 .bf16 512 704 fun i j => f 0 0 i j := by
  funext i
  refine (shapeCast_apply _ h i (ix4 0 0 (i 0) (i 1)) ?_).trans rfl
  rw [Shape.rowMajor_val_two, Shape.rowMajor_val_four]
  show ((0 * 1 + 0) * 512 + (i 0).val) * 704 + (i 1).val = (i 0).val * 704 + (i 1).val
  omega

theorem cast_r2_r4 (f : ℕ → ℕ → ℝ) (h : Half.ShapeCasts Piece) :
    shapeCast Piece (r2 .bf16 512 704 f) h = r4 .bf16 1 1 512 704 fun _ _ i j => f i j := by
  funext i
  have i0 : (i 0).val = 0 := by have : (i 0).val < 1 := (i 0).isLt; omega
  have i1 : (i 1).val = 0 := by have : (i 1).val < 1 := (i 1).isLt; omega
  refine (shapeCast_apply _ h i (ix2 (i 2) (i 3)) ?_).trans rfl
  rw [Shape.rowMajor_val_two, Shape.rowMajor_val_four]
  show (i 2).val * 704 + (i 3).val = (((i 0).val * 1 + (i 1).val) * 512 + (i 2).val) * 704 + (i 3).val
  rw [i0, i1]
  omega

section
variable {sig : RefSig}

theorem emb_piece (s b : ℕ) (inb : ∀ a, (![s, b, 0, 0] : Fin 4 → ℕ) a + Piece.size a ≤ Halves.size a) (x : Piece.Idx) :
    ((Rect.unit (s := Halves) ![s, b, 0, 0] Piece.size inb).emb x 0).val = s
      ∧ ((Rect.unit (s := Halves) ![s, b, 0, 0] Piece.size inb).emb x 1).val = b
      ∧ ((Rect.unit (s := Halves) ![s, b, 0, 0] Piece.size inb).emb x 2).val = (x 2).val
      ∧ ((Rect.unit (s := Halves) ![s, b, 0, 0] Piece.size inb).emb x 3).val = (x 3).val := by
  have i0 : (x 0).val = 0 := by have : (x 0).val < 1 := (x 0).isLt; omega
  have i1 : (x 1).val = 0 := by have : (x 1).val < 1 := (x 1).isLt; omega
  refine ⟨?_, ?_, ?_, ?_⟩
  · show s + 1 * (x 0).val = s
    omega
  · show b + 1 * (x 1).val = b
    omega
  · show 0 + 1 * (x 2).val = (x 2).val
    omega
  · show 0 + 1 * (x 3).val = (x 3).val
    omega

theorem ld_piece (s b : ℕ) (f : ℕ → ℕ → ℕ → ℕ → ℝ) (inb : ∀ a, (![s, b, 0, 0] : Fin 4 → ℕ) a + Piece.size a ≤ Halves.size a) :
    View.ld (S := Halves) (Val := Elt Ideal) (e' := .bf16) (r4 .bf16 2 4 512 704 f) (Rect.unit (s := Halves) ![s, b, 0, 0] Piece.size inb)
      = r4 .bf16 1 1 512 704 fun _ _ i j => f s b i j := by
  refine (View.ld_unit _ _ _ _).trans ?_
  funext x
  have i0 : (x 0).val = 0 := by have : (x 0).val < 1 := (x 0).isLt; omega
  have i1 : (x 1).val = 0 := by have : (x 1).val < 1 := (x 1).isLt; omega
  show ((f (s + (x 0).val) (b + (x 1).val) (0 + (x 2).val) (0 + (x 3).val) : ℝ) : EReal) = _
  rw [i0, i1, Nat.add_zero, Nat.add_zero, Nat.zero_add, Nat.zero_add]
  rfl

/-- The rows of block `b` of half `s`. -/
theorem rd_piece (s b : ℕ) {m : Memref sig .tc .vmem Halves .bf16} (h : m.IsWhole) (f : ℕ → ℕ → ℕ → ℕ → ℝ) (inb) :
    View.readAt (Elt Ideal) m.view (Rect.unit (s := Halves) ![s, b, 0, 0] Piece.size inb).toLoadRect
      (h.unread (r4 .bf16 2 4 512 704 f)) = r4 .bf16 1 1 512 704 fun _ _ i j => f s b i j :=
  (funext fun x => h.readAt_unread _ _ x).trans (ld_piece s b f inb)

/-- The eight stores, one for each block of each half, fill the array. -/
theorem canon_pieces (G : ℕ → ℕ → ℕ → ℕ → ℝ) {i0 i1 i2 i3 i4 i5 i6 i7} {w0 w1 w2 w3 w4 w5 w6 w7}
    (h0 : w0 = r4 .bf16 1 1 512 704 fun _ _ => G 0 0) (h1 : w1 = r4 .bf16 1 1 512 704 fun _ _ => G 1 0)
    (h2 : w2 = r4 .bf16 1 1 512 704 fun _ _ => G 0 1) (h3 : w3 = r4 .bf16 1 1 512 704 fun _ _ => G 1 1)
    (h4 : w4 = r4 .bf16 1 1 512 704 fun _ _ => G 0 2) (h5 : w5 = r4 .bf16 1 1 512 704 fun _ _ => G 1 2)
    (h6 : w6 = r4 .bf16 1 1 512 704 fun _ _ => G 0 3) (h7 : w7 = r4 .bf16 1 1 512 704 fun _ _ => G 1 3) :
    View.canon ([⟨Rect.unit (s := Halves) ![1, 3, 0, 0] Piece.size i7, w7⟩,
        ⟨Rect.unit (s := Halves) ![0, 3, 0, 0] Piece.size i6, w6⟩,
        ⟨Rect.unit (s := Halves) ![1, 2, 0, 0] Piece.size i5, w5⟩,
        ⟨Rect.unit (s := Halves) ![0, 2, 0, 0] Piece.size i4, w4⟩,
        ⟨Rect.unit (s := Halves) ![1, 1, 0, 0] Piece.size i3, w3⟩,
        ⟨Rect.unit (s := Halves) ![0, 1, 0, 0] Piece.size i2, w2⟩,
        ⟨Rect.unit (s := Halves) ![1, 0, 0, 0] Piece.size i1, w1⟩,
        ⟨Rect.unit (s := Halves) ![0, 0, 0, 0] Piece.size i0, w0⟩] : List (View.Piece (Elt Ideal) Halves .bf16))
      = r4 .bf16 2 4 512 704 G := by
  have piece (s b : ℕ) (inb) (w : FVec Ideal Piece .bf16) (h : w = r4 .bf16 1 1 512 704 fun _ _ => G s b) (x : Piece.Idx) :
      w x = r4 .bf16 2 4 512 704 G ((Rect.unit (s := Halves) ![s, b, 0, 0] Piece.size inb).emb x) := by
    subst h
    obtain ⟨e0, e1, e2, e3⟩ := emb_piece s b inb x
    simp only [r4]
    rw [e0, e1, e2, e3]
  funext y
  refine View.canon_append_of_pieces (Val := Elt Ideal) (e := .bf16) (r4 .bf16 2 4 512 704 G) [] [_, _, _, _, _, _, _, _] ?_ y ?_
  · simp only [List.forall_mem_cons]
    exact ⟨piece 1 3 _ _ h7, piece 0 3 _ _ h6, piece 1 2 _ _ h5, piece 0 2 _ _ h4, piece 1 1 _ _ h3, piece 0 1 _ _ h2,
      piece 1 0 _ _ h1, piece 0 0 _ _ h0, fun _ h => absurd h (by simp)⟩
  · exact View.cover_of_tiledL (s := Halves) _ Piece.size (by sl_kernel_rfl) y

end

end Cert.Ffn

end
-- ==== Proof.Ffn.Payload.lean ====
/-
  The backward pass of the channel mixer: what the kernel computes from one block of 512 rows. `D` is the gradient of the
  layer's result, `P` the second projection's weights, `F` the two factors that take the gradient of the hidden product to that
  of its halves, `W` the first projection's weights, `X` the layer's argument, `g` the norm's scale. The kernel works on 704
  hidden columns at a time.
-/
module

public import proofs.«01_k».proof.Proof.Ffn.Blocks
public import proofs.«01_k».proof.Proof.Gen.Kernel7Ideal.Skeleton

@[expose] public section

set_option maxRecDepth 16384

noncomputable section

namespace Cert.Ffn

open Idealize.ShloMosaic Cert.Mix Cert.Rms Cert.Kernel7Ideal Cert.Kernel7Ideal.Gen

/-- The gradient of the hidden product. -/
def dff (D P : ℕ → ℕ → ℝ) (i k : ℕ) : ℝ := ∑ j : Fin 1024, D i j * P k j

/-- The gradient of half `s` of the hidden layer. -/
def hid (D P : ℕ → ℕ → ℝ) (F : ℕ → ℕ → ℕ → ℝ) (s i k : ℕ) : ℝ := dff D P i k * F s i k

/-- The gradient of the hidden layer, its halves side by side. -/
def dgu (D P : ℕ → ℕ → ℝ) (F : ℕ → ℕ → ℕ → ℝ) (i k : ℕ) : ℝ := if k < 2816 then hid D P F 0 i k else hid D P F 1 i (k - 2816)

/-- The gradient of the normed rows. -/
def dn (D P : ℕ → ℕ → ℝ) (F : ℕ → ℕ → ℕ → ℝ) (W : ℕ → ℕ → ℝ) (i j : ℕ) : ℝ := ∑ k : Fin 5632, dgu D P F i k * W j k

section
variable (D P : ℕ → ℕ → ℝ) (F : ℕ → ℕ → ℕ → ℝ) (W X : ℕ → ℕ → ℝ) (g : ℕ → ℝ)

/-! The blocks the kernel reads. -/

def in0 : Vec Ideal S512x1024 .f32 := r2 .f32 512 1024 D
def in1 : Vec Ideal S4x704x1024 .bf16 := r3 .bf16 4 704 1024 fun b k j => P (704 * b + k) j
def in2 : Vec Ideal S2x4x512x704 .bf16 := r4 .bf16 2 4 512 704 fun s b i k => F s i (704 * b + k)
def in3 : Vec Ideal S8x704x1024 .bf16 := r3 .bf16 8 704 1024 fun b k j => W j (704 * b + k)
def in4 : Vec Ideal S512x1024 .f32 := r2 .f32 512 1024 X
def in5 : Vec Ideal S1x1024 .f32 := r2 .f32 1 1024 fun _ j => g j

/-- The product over block `b` of half `s`. -/
def part (s b i j : ℕ) : ℝ := ∑ k : Fin 704, hid D P F s i (704 * b + k) * W j (704 * (4 * s + b) + k)

theorem part_dgu (s b i j : ℕ) (hs : s < 2) (hb : b < 4) :
    part D P F W s b i j = ∑ k : Fin 704, dgu D P F i (704 * (4 * s + b) + k) * W j (704 * (4 * s + b) + k) := by
  refine Finset.sum_congr rfl fun k _ => congrArg (· * _) ?_
  have hk := k.isLt
  unfold dgu
  obtain rfl | rfl : s = 0 ∨ s = 1 := by omega
  · rw [if_pos (by omega), Nat.mul_zero, Nat.zero_add]
  · rw [if_neg (by omega), show 704 * (4 * 1 + b) + k.val - 2816 = 704 * b + k.val by omega]

theorem parts (i j : ℕ) :
    part D P F W 0 0 i j + part D P F W 1 0 i j + (part D P F W 0 1 i j + part D P F W 1 1 i j)
      + (part D P F W 0 2 i j + part D P F W 1 2 i j) + (part D P F W 0 3 i j + part D P F W 1 3 i j) = dn D P F W i j := by
  have s := sum_split fun k => dgu D P F i k * W j k
  have e (a b : ℕ) (ha : a < 2) (hb : b < 4) (n : ℕ) (h : n = 704 * (4 * a + b)) :
      ∑ k : Fin (n + 704), dgu D P F i k * W j k = ∑ k : Fin n, dgu D P F i k * W j k + part D P F W a b i j := by
    subst h; rw [part_dgu D P F W a b i j ha hb]; exact s _ _
  have e0 : ∑ k : Fin 704, dgu D P F i k * W j k = part D P F W 0 0 i j := by
    rw [part_dgu D P F W 0 0 i j (by decide) (by decide)]
    simp only [Nat.mul_zero, Nat.zero_add]
  have e1 := e 0 1 (by decide) (by decide) 704 rfl
  have e2 := e 0 2 (by decide) (by decide) (704 + 704) rfl
  have e3 := e 0 3 (by decide) (by decide) (704 + 704 + 704) rfl
  have e4 := e 1 0 (by decide) (by decide) (704 + 704 + 704 + 704) rfl
  have e5 := e 1 1 (by decide) (by decide) (704 + 704 + 704 + 704 + 704) rfl
  have e6 := e 1 2 (by decide) (by decide) (704 + 704 + 704 + 704 + 704 + 704) rfl
  have e7 := e 1 3 (by decide) (by decide) (704 + 704 + 704 + 704 + 704 + 704 + 704) rfl
  have all : dn D P F W i j
      = ∑ k : Fin (704 + 704 + 704 + 704 + 704 + 704 + 704 + 704), dgu D P F i k * W j k := rfl
  rw [all, e7, e6, e5, e4, e3, e2, e1, e0]
  ring

theorem dot_trans : dot_S512x1024_S704x1024_S512x704_1_1_0_0_n_n = DotDims.transposedRhs 512 1024 704 := rfl
theorem dot_plain : dot_S512x704_S704x1024_S512x1024_1_0_0_1_n_n = DotDims.plain 512 704 1024 := rfl

/-- 704 rows of the second projection's weights, of a factor's columns, of the first projection's columns. -/
def pb (b : ℕ) : FVec Ideal S1x704x1024 .bf16 := r3 .bf16 1 704 1024 fun _ k j => P (704 * b + k) j
def fb (s b : ℕ) : FVec Ideal S1x1x512x704 .bf16 := r4 .bf16 1 1 512 704 fun _ _ i k => F s i (704 * b + k)
def wb (b : ℕ) : FVec Ideal S1x704x1024 .bf16 := r3 .bf16 1 704 1024 fun _ k j => W j (704 * b + k)
/-- 704 columns of half `s`. -/
def hb (s b : ℕ) : FVec Ideal S512x704 .bf16 := r2 .bf16 512 704 fun i k => hid D P F s i (704 * b + k)

theorem down (b : ℕ) (h) :
    matmul dot_S512x1024_S704x1024_S512x704_1_1_0_0_n_n none (r2 .bf16 512 1024 D : FVec Ideal S512x1024 .bf16)
      (shapeCast S704x1024 (pb P b) h) (constant S512x704 .f32 0x00000000#32) = r2 .f32 512 704 fun i k => dff D P i (704 * b + k) := by
  unfold pb
  rw [cast_r3_r2, dot_trans]
  exact matmul_transposed _ _ _

theorem half (s b : ℕ) (h1 h2 h3) :
    truncf .bf16 (mulf (r2 .f32 512 704 fun i k => dff D P i (704 * b + k) : FVec Ideal S512x704 .f32)
      (extf .f32 (shapeCast S512x704 (fb F s b) h1) h2)) h3 = hb D P F s b := by
  unfold fb
  rw [cast_r4_r2]
  rfl

theorem up (s b q : ℕ) (hq : q = 4 * s + b) (h) :
    matmul dot_S512x704_S704x1024_S512x1024_1_0_0_1_n_n none (hb D P F s b)
      (shapeCast S704x1024 (wb W q) h) (constant S512x1024 .f32 0x00000000#32) = r2 .f32 512 1024 (part D P F W s b) := by
  subst hq
  unfold hb wb
  rw [cast_r3_r2, dot_plain]
  exact matmul_plain _ _ _

theorem pay2 {V : FVec Ideal S512x1024 .f32} (h : V = r2 .f32 512 1024 D) :
    k0_pay2 (F := Ideal) V = r2 .bf16 512 1024 D := by
  subst h; rfl

theorem pay2' : k0_pay2 (F := Ideal) (r2 .f32 512 1024 D) = r2 .bf16 512 1024 D := rfl

/-! What is stored of the hidden layer's gradient. -/

theorem stored (s b : ℕ) (h) : shapeCast S1x1x512x704 (hb D P F s b) h
    = r4 .bf16 1 1 512 704 fun _ _ i k => hid D P F s i (704 * b + k) := cast_r2_r4 _ h

section
variable {V : FVec Ideal S512x1024 .f32} {B : FVec Ideal S512x1024 .bf16} {Q : FVec Ideal S1x704x1024 .bf16}
  {C : FVec Ideal S1x1x512x704 .bf16}

theorem pay6 (s : ℕ) (v : V = r2 .f32 512 1024 D) (q : Q = pb P 0) (f : C = fb F s 0) :
    k0_pay6 (F := Ideal) V Q C = r4 .bf16 1 1 512 704 fun _ _ i k => hid D P F s i (704 * 0 + k) := by
  subst v q f; simp only [k0_pay6, k0_pay4, k0_pay3, pay2', down, half, stored]
theorem pay7 (s : ℕ) (v : V = r2 .f32 512 1024 D) (q : Q = pb P 0) (f : C = fb F s 0) :
    k0_pay7 (F := Ideal) V Q C = r4 .bf16 1 1 512 704 fun _ _ i k => hid D P F s i (704 * 0 + k) := by
  subst v q f; simp only [k0_pay7, k0_pay5, k0_pay3, pay2', down, half, stored]
theorem pay13 (s b : ℕ) (v : B = r2 .bf16 512 1024 D) (q : Q = pb P b) (f : C = fb F s b) :
    k0_pay13 (F := Ideal) B Q C = r4 .bf16 1 1 512 704 fun _ _ i k => hid D P F s i (704 * b + k) := by
  subst v q f; simp only [k0_pay13, k0_pay11, k0_pay10, down, half, stored]
theorem pay14 (s b : ℕ) (v : B = r2 .bf16 512 1024 D) (q : Q = pb P b) (f : C = fb F s b) :
    k0_pay14 (F := Ideal) B Q C = r4 .bf16 1 1 512 704 fun _ _ i k => hid D P F s i (704 * b + k) := by
  subst v q f; simp only [k0_pay14, k0_pay12, k0_pay10, down, half, stored]
theorem pay21 (s b : ℕ) (v : B = r2 .bf16 512 1024 D) (q : Q = pb P b) (f : C = fb F s b) :
    k0_pay21 (F := Ideal) B Q C = r4 .bf16 1 1 512 704 fun _ _ i k => hid D P F s i (704 * b + k) := by
  subst v q f; simp only [k0_pay21, k0_pay19, k0_pay18, down, half, stored]
theorem pay22 (s b : ℕ) (v : B = r2 .bf16 512 1024 D) (q : Q = pb P b) (f : C = fb F s b) :
    k0_pay22 (F := Ideal) B Q C = r4 .bf16 1 1 512 704 fun _ _ i k => hid D P F s i (704 * b + k) := by
  subst v q f; simp only [k0_pay22, k0_pay20, k0_pay18, down, half, stored]
theorem pay27 (s b : ℕ) (v : B = r2 .bf16 512 1024 D) (q : Q = pb P b) (f : C = fb F s b) :
    k0_pay27 (F := Ideal) B Q C = r4 .bf16 1 1 512 704 fun _ _ i k => hid D P F s i (704 * b + k) := by
  subst v q f; simp only [k0_pay27, k0_pay25, k0_pay24, down, half, stored]
theorem pay28 (s b : ℕ) (v : B = r2 .bf16 512 1024 D) (q : Q = pb P b) (f : C = fb F s b) :
    k0_pay28 (F := Ideal) B Q C = r4 .bf16 1 1 512 704 fun _ _ i k => hid D P F s i (704 * b + k) := by
  subst v q f; simp only [k0_pay28, k0_pay26, k0_pay24, down, half, stored]
end

theorem pay29 {V : FVec Ideal S512x1024 .f32} {P0 P1 P2 P3 : FVec Ideal S1x704x1024 .bf16}
    {F00 F01 F02 F03 F10 F11 F12 F13 : FVec Ideal S1x1x512x704 .bf16} {W0 W1 W2 W3 W4 W5 W6 W7 : FVec Ideal S1x704x1024 .bf16}
    (v : V = r2 .f32 512 1024 D)
    (p0 : P0 = pb P 0) (p1 : P1 = pb P 1) (p2 : P2 = pb P 2) (p3 : P3 = pb P 3)
    (f00 : F00 = fb F 0 0) (f01 : F01 = fb F 0 1) (f02 : F02 = fb F 0 2) (f03 : F03 = fb F 0 3)
    (f10 : F10 = fb F 1 0) (f11 : F11 = fb F 1 1) (f12 : F12 = fb F 1 2) (f13 : F13 = fb F 1 3)
    (w0 : W0 = wb W 0) (w1 : W1 = wb W 1) (w2 : W2 = wb W 2) (w3 : W3 = wb W 3)
    (w4 : W4 = wb W 4) (w5 : W5 = wb W 5) (w6 : W6 = wb W 6) (w7 : W7 = wb W 7) :
    k0_pay29 (F := Ideal) (k0_pay2 V)
      (k0_pay17 (k0_pay9 (k0_pay5 V P0 F10) (k0_pay8 V P0 F00 W0) W4) (k0_pay12 (k0_pay2 V) P1 F11)
        (k0_pay15 (k0_pay2 V) P1 F01 W1) (k0_pay16 W5))
      (k0_pay23 (k0_pay2 V) P2 F02 F12 W2 W6) P3 F03 F13 W3 W7 = r2 .f32 512 1024 (dn D P F W) := by
  subst v p0 p1 p2 p3 f00 f01 f02 f03 f10 f11 f12 f13 w0 w1 w2 w3 w4 w5 w6 w7
  simp only [k0_pay29, k0_pay17, k0_pay9, k0_pay5, k0_pay8, k0_pay4, k0_pay3, k0_pay12, k0_pay15, k0_pay11, k0_pay10, k0_pay16,
    k0_pay23, k0_pay19, k0_pay20, k0_pay18, k0_pay25, k0_pay26, k0_pay24, pay2', down, half,
    up D P F W 0 0 0 rfl, up D P F W 0 1 1 rfl, up D P F W 0 2 2 rfl, up D P F W 0 3 3 rfl,
    up D P F W 1 0 4 rfl, up D P F W 1 1 5 rfl, up D P F W 1 2 6 rfl, up D P F W 1 3 7 rfl, addf_r2]
  exact congrArg (r2 .f32 512 1024) (funext fun i => funext fun j => parts D P F W i j)

/-! The norm's gradient. -/

theorem pay30 : k0_pay30 (F := Ideal) (r2 .f32 512 1024 X) = r2 .f32 512 1 fun r _ => inv X r := inv_block X

theorem pay31 : k0_pay31 (F := Ideal) (r2 .f32 512 1024 X) = r2 .f32 512 1024 (xn X) := by
  simp only [k0_pay31, pay30]
  exact xn_block X

/-- The column sums behind the gradient of the scale. -/
theorem pay32 (E : ℕ → ℕ → ℝ) {VE VX : FVec Ideal S512x1024 .f32} (hE : VE = r2 .f32 512 1024 E) (hX : VX = r2 .f32 512 1024 X) :
    k0_pay32 (F := Ideal) VE VX = r2 .f32 1 1024 fun _ j => ∑ r : Fin 512, E r j * xn X r j := by
  subst hE hX
  simp only [k0_pay32, pay31]
  exact dg_block E X

theorem pay33 (E : ℕ → ℕ → ℝ) {VD VE VX : FVec Ideal S512x1024 .f32} {VG : FVec Ideal S1x1024 .f32} (hD : VD = r2 .f32 512 1024 D)
    (hE : VE = r2 .f32 512 1024 E) (hX : VX = r2 .f32 512 1024 X) (hG : VG = r2 .f32 1 1024 fun _ j => g j) :
    k0_pay33 (F := Ideal) VD VE VX VG = r2 .f32 512 1024 (dx E X g D) := by
  subst hD hE hX hG
  simp only [k0_pay33, pay31, pay30, cast_r2_self]
  exact dx_block E X g D

theorem pay1 : k0_pay1 (F := Ideal) = r2 .f32 8 128 fun _ _ => 0 := s_zero

end

end Cert.Ffn

end
-- ==== Proof.Ffn.Forward.lean ====
/-
  The forward part that the feed-forward block's gradient needs, on real numbers: the gate and the other half of the first
  product, the sigmoid of the gate, and the two factors by which the gradient of the gated product is multiplied. The lemmas
  go through the reference in its order; `e_v12` says what buffer `v12` holds.
-/
module

public import proofs.«01_k».proof.Proof.Gen.Reference7Ideal.Read
public import proofs.«01_k».proof.Proof.Ffn.Payload
public import proofs.«01_k».proof.Proof.Rms.Host

@[expose] public section

set_option maxRecDepth 16384

noncomputable section

namespace Cert.Ffn

open Cert.Reference7Ideal Cert.Reference7Ideal.Gen Cert.Reference7Ideal.Read Idealize.ShloMosaic Cert.Mix Cert.Rms

/-- The real arguments: the gradient of the block's result, the weight of the first product, the weight of the second one,
    the block's input, and the norm's scale. -/
structure Args where
  D : ℕ → ℕ → ℝ
  W : ℕ → ℕ → ℝ
  P : ℕ → ℕ → ℝ
  X : ℕ → ℕ → ℝ
  g : ℕ → ℝ

section Formulas

variable (W X : ℕ → ℕ → ℝ) (g : ℕ → ℝ)

/-- The product of the normalised and scaled input with the first weight. -/
def proj (i j : ℕ) : ℝ := ∑ k : Fin 1024, xn X i k * g k * W k j

/-- Its first 2816 columns. -/
def gate (i j : ℕ) : ℝ := proj W X g i j

/-- Its other 2816 columns. -/
def upper (i j : ℕ) : ℝ := proj W X g i (2816 + j)

/-- The sigmoid of the gate. -/
def sgm (i j : ℕ) : ℝ := 1 / (1 + Real.exp (-gate W X g i j))

/-- The derivative of the gated product with respect to the gate (`s = 0`) and to the other half. -/
def fac (s i j : ℕ) : ℝ :=
  if s = 0 then upper W X g i j * (sgm W X g i j + gate W X g i j * (sgm W X g i j * (1 - sgm W X g i j)))
  else gate W X g i j * sgm W X g i j

end Formulas

variable (A : Args)

abbrev aD : (⟨S4096x1024, .f32⟩ : BufTy).Contents (Elt Ideal) := r2 .f32 4096 1024 A.D
abbrev aW : (⟨S1024x5632, .f32⟩ : BufTy).Contents (Elt Ideal) := r2 .f32 1024 5632 A.W
abbrev aP : (⟨S2816x1024, .f32⟩ : BufTy).Contents (Elt Ideal) := r2 .f32 2816 1024 A.P
abbrev aX : (⟨S4096x1024, .f32⟩ : BufTy).Contents (Elt Ideal) := r2 .f32 4096 1024 A.X
abbrev aG : (⟨S1024, .f32⟩ : BufTy).Contents (Elt Ideal) := r1 .f32 1024 A.g

theorem e_v0 : val_main_v0 (F := Ideal) (aX A)
    = r2 .f32 4096 1024 fun i j => A.X i j * A.X i j := by
  exact mulf_r2 _ _

theorem e_v1 : val_main_v1 (F := Ideal) (aX A)
    = r1 .f32 4096 fun i => ∑ k : Fin 1024, A.X i k * A.X i k := by
  simp only [val_main_v1, e_v0, val_main_cst, const_0, host_sum_cols]

theorem e_v2 : val_main_v2 (F := Ideal) (aX A)
    = r2 .f32 4096 1 fun i _ => ∑ k : Fin 1024, A.X i k * A.X i k := by
  unfold val_main_v2; rw [e_v1]; exact spread_r1_rows _ _

theorem e_v3 : val_main_v3 (F := Ideal) = r2 .f32 4096 1 fun _ _ => 1024 :=
  congrArg (broadcastInDim S4096x1 ![] bcast_S_S4096x1) const_1024

theorem e_v4 : val_main_v4 (F := Ideal) (aX A)
    = r2 .f32 4096 1 fun i _ => (∑ k : Fin 1024, A.X i k * A.X i k) / 1024 := by
  simp only [val_main_v4, e_v2, e_v3]
  exact host_divf_const _ 1024 (by norm_num)

theorem e_v5 : val_main_v5 (F := Ideal) = r2 .f32 4096 1 fun _ _ => eps :=
  congrArg (broadcastInDim S4096x1 ![] bcast_S_S4096x1) const_eps

theorem e_v6 : val_main_v6 (F := Ideal) (aX A)
    = r2 .f32 4096 1 fun i _ => msq A.X i := by
  simp only [val_main_v6, e_v4, e_v5, addf_r2]
  rfl

theorem e_v7 : val_main_v7 (F := Ideal) (aX A)
    = r2 .f32 4096 1 fun i _ => inv A.X i := by
  simp only [val_main_v7, e_v6]
  exact host_rsqrt_r2 _ fun i _ => msq_pos A.X i

theorem e_v8 : val_main_v8 (F := Ideal) (aX A)
    = r2 .f32 4096 1 fun i _ => inv A.X i / msq A.X i := by
  simp only [val_main_v8, e_v7, e_v6]
  exact host_divf_r2 _ _ fun i _ _ _ => (msq_pos A.X i).ne'

theorem e_v9 : val_main_v9 (F := Ideal) = r2 .f32 4096 1 fun _ _ => -(1 / 2) :=
  congrArg (broadcastInDim S4096x1 ![] bcast_S_S4096x1) const_neg_half

theorem e_v10 : val_main_v10 (F := Ideal) (aX A)
    = r2 .f32 4096 1 fun i _ => Rms.half A.X i := by
  simp only [val_main_v10, e_v9, e_v8, mulf_r2]
  rfl

theorem e_v11 : val_main_v11 (F := Ideal) (aX A)
    = r2 .f32 4096 1024 fun i _ => inv A.X i := by
  unfold val_main_v11; rw [e_v7]; exact spread_in_col _ _

theorem e_v12 : val_main_v12 (F := Ideal) (aX A)
    = r2 .f32 4096 1024 (xn A.X) := by
  simp only [val_main_v12, e_v11, mulf_r2]
  rfl

theorem e_v13 : val_main_v13 (F := Ideal) (aG A)
    = r2 .f32 1 1024 fun _ j => A.g j := by
  exact spread_r1_cols _ _

theorem e_v14 : val_main_v14 (F := Ideal) (aG A)
    = r2 .f32 4096 1024 fun _ j => A.g j := by
  unfold val_main_v14; rw [e_v13]; exact spread_in_row _ _

theorem e_v15 : val_main_v15 (F := Ideal) (aX A) (aG A)
    = r2 .f32 4096 1024 fun i j => xn A.X i j * A.g j := by
  simp only [val_main_v15, e_v12, e_v14, mulf_r2]

theorem e_v16 : val_main_v16 (F := Ideal) (aW A) (aX A) (aG A)
    = r2 .f32 4096 5632 (proj A.W A.X A.g) := by
  funext i
  refine (val_main_v16_apply _ _ _ i).trans ?_
  rw [e_v15]
  exact coe_sum Finset.univ fun k : Fin 1024 => xn A.X (i 0).val k * A.g k * A.W k (i 1).val

theorem e_v17 : val_main_v17 (F := Ideal) (aW A) (aX A) (aG A)
    = r2 .f32 4096 2816 (gate A.W A.X A.g) := by
  unfold val_main_v17; rw [e_v16]; exact (slice_r2 _ _ _ _).trans (r2_ext fun i j _ _ => by simp only [Nat.zero_add]; rfl)

theorem e_call0_v0 : val_main_call0_v0 (F := Ideal) (aW A) (aX A) (aG A)
    = r2 .f32 4096 2816 fun i j => -gate A.W A.X A.g i j := by
  unfold val_main_call0_v0; rw [e_v17]; exact host_negf_r2 _

theorem e_call0_v1 : val_main_call0_v1 (F := Ideal) (aW A) (aX A) (aG A)
    = r2 .f32 4096 2816 fun i j => Real.exp (-gate A.W A.X A.g i j) := by
  unfold val_main_call0_v1; rw [e_call0_v0]; exact host_exp_r2 _

theorem e_call0_v2 : val_main_call0_v2 (F := Ideal) = r2 .f32 4096 2816 fun _ _ => 1 :=
  congrArg (broadcastInDim S4096x2816 ![] bcast_S_S4096x2816) const_1

theorem e_call0_v3 : val_main_call0_v3 (F := Ideal) (aW A) (aX A) (aG A)
    = r2 .f32 4096 2816 fun i j => 1 + Real.exp (-gate A.W A.X A.g i j) := by
  simp only [val_main_call0_v3, e_call0_v2, e_call0_v1, addf_r2]

theorem e_call0_v4 : val_main_call0_v4 (F := Ideal) = r2 .f32 4096 2816 fun _ _ => 1 :=
  congrArg (broadcastInDim S4096x2816 ![] bcast_S_S4096x2816) const_1

theorem e_v18_2 : val_main_v18_2 (F := Ideal) (aW A) (aX A) (aG A)
    = r2 .f32 4096 2816 (sgm A.W A.X A.g) := by
  simp only [val_main_v18_2, e_call0_v4, e_call0_v3]
  exact host_divf_r2 _ _ fun i j _ _ => (by positivity : (0 : ℝ) < 1 + Real.exp (-gate A.W A.X A.g i j)).ne'

theorem e_call0_v6 : val_main_call0_v6 (F := Ideal) = r2 .f32 4096 2816 fun _ _ => 1 :=
  congrArg (broadcastInDim S4096x2816 ![] bcast_S_S4096x2816) const_1

theorem e_call0_v7 : val_main_call0_v7 (F := Ideal) (aW A) (aX A) (aG A)
    = r2 .f32 4096 2816 fun i j => 1 - sgm A.W A.X A.g i j := by
  simp only [val_main_call0_v7, e_call0_v6, e_v18_2, subf_r2]

theorem e_v18_1 : val_main_v18_1 (F := Ideal) (aW A) (aX A) (aG A)
    = r2 .f32 4096 2816 fun i j => sgm A.W A.X A.g i j * (1 - sgm A.W A.X A.g i j) := by
  simp only [val_main_v18_1, e_v18_2, e_call0_v7, mulf_r2]

theorem e_v18_0 : val_main_v18_0 (F := Ideal) (aW A) (aX A) (aG A)
    = r2 .f32 4096 2816 (fac A.W A.X A.g 1) := by
  simp only [val_main_v18_0, e_v17, e_v18_2, mulf_r2]
  rfl

theorem e_v19 : val_main_v19 (F := Ideal) (aW A) (aX A) (aG A)
    = r2 .f32 4096 2816 (upper A.W A.X A.g) := by
  unfold val_main_v19; rw [e_v16]; exact (slice_r2 _ _ _ _).trans (r2_ext fun i j _ _ => by simp only [Nat.zero_add]; rfl)

end Cert.Ffn

end
-- ==== Proof.Ffn.Inputs.lean ====
/-
  What the kernel for the feed-forward block's gradient reads once every argument is an array of reals: the arrays prepared
  before the launch, and at each grid point the blocks of them.
-/
module

public import proofs.«01_k».proof.Proof.Ffn.Forward
public import proofs.«01_k».proof.Proof.Gen.Kernel7Ideal.Frame
public import Idealize.ShloMosaic.Lib.StableHlo.Run
public import Idealize.ShloMosaic.Lib.Claim

@[expose] public section

set_option maxRecDepth 16384

noncomputable section

namespace Cert.Ffn

open Idealize.ShloMosaic Idealize.ShloMosaic.TcCoe Cert.Kernel7Ideal Cert.Kernel7Ideal.Gen Cert.Mix Cert.Rms
open Cert.Reference7Ideal.Read (val_main_v18_0 val_main_v18_1 val_main_v18_2 val_main_v17 val_main_v19)

variable (m : (ℓ : Loc nD τ sig) → Buf (Elt Ideal) ℓ) (c : Dev nD) (A : Args)

/-- The launch memory holds the real arguments `A`. -/
structure Holds : Prop where
  d : m ((c : Thread nD τ).loc main_arg0) = r2 .f32 4096 1024 A.D
  w : m ((c : Thread nD τ).loc main_arg1) = r2 .f32 1024 5632 A.W
  p : m ((c : Thread nD τ).loc main_arg2) = r2 .f32 2816 1024 A.P
  x : m ((c : Thread nD τ).loc main_arg3) = r2 .f32 4096 1024 A.X
  g : m ((c : Thread nD τ).loc main_arg4) = r1 .f32 1024 A.g

/-! ### The arrays prepared on the host -/

/-- The second weight in four blocks of 704 rows. -/
theorem row_blocks_out (f : ℕ → ℕ → ℝ) (h1 : S2816x1024.ShapeCasts S4x704x1024) :
    shapeCast S4x704x1024 (r2 .f32 2816 1024 f : FVec Ideal S2816x1024 .f32) h1
      = r3 .f32 4 704 1024 fun b k j => f (704 * b + k) j := by
  funext i
  have i0 : (i 0).val < 4 := (i 0).isLt
  have i1 : (i 1).val < 704 := (i 1).isLt
  have i2 : (i 2).val < 1024 := (i 2).isLt
  refine (shapeCast_apply _ h1 _ (ix2 ⟨704 * (i 0).val + (i 1).val, by omega⟩ ⟨(i 2).val, i2⟩) ?_).trans rfl
  rw [Shape.rowMajor_val_two, Shape.rowMajor_val_three]
  show (704 * (i 0).val + (i 1).val) * 1024 + (i 2).val = ((i 0).val * 704 + (i 1).val) * 1024 + (i 2).val
  omega

/-- The first weight transposed, in eight blocks of 704 rows. -/
theorem row_blocks_in (f : ℕ → ℕ → ℝ) (h1 : S5632x1024.ShapeCasts S8x704x1024) (h2 : S1024x5632.Transposes [1, 0] S5632x1024) :
    shapeCast S8x704x1024 (transpose S5632x1024 [1, 0] (r2 .f32 1024 5632 f : FVec Ideal S1024x5632 .f32) h2) h1
      = r3 .f32 8 704 1024 fun b k j => f j (704 * b + k) := by
  funext i
  have i0 : (i 0).val < 8 := (i 0).isLt
  have i1 : (i 1).val < 704 := (i 1).isLt
  have i2 : (i 2).val < 1024 := (i 2).isLt
  refine (shapeCast_apply _ h1 _ (ix2 ⟨704 * (i 0).val + (i 1).val, by omega⟩ ⟨(i 2).val, i2⟩) ?_).trans ?_
  · rw [Shape.rowMajor_val_two, Shape.rowMajor_val_three]
    show (704 * (i 0).val + (i 1).val) * 1024 + (i 2).val = ((i 0).val * 704 + (i 1).val) * 1024 + (i 2).val
    omega
  · exact (transpose_apply [1, 0] _ h2 _ (ix2 ⟨(i 2).val, i2⟩ ⟨704 * (i 0).val + (i 1).val, by omega⟩) (fun b => match b with
      | ⟨0, _⟩ => rfl
      | ⟨1, _⟩ => rfl)).trans rfl

/-- The array of the two factors, each in four blocks of 704 columns, the block before the row. -/
def factors (a b : FVec Ideal S4096x2816 .f32) : FVec Ideal S2x4x4096x704 .bf16 :=
  truncf .bf16 (transpose S2x4x4096x704 [0, 2, 1, 3] (shapeCast S2x4096x4x704
    (concatenate S2x4096x2816 0 [⟨S1x4096x2816, broadcastInDim S1x4096x2816 ![1, 2] bcast_S4096x2816_S1x4096x2816_1_2 a⟩,
      ⟨S1x4096x2816, broadcastInDim S1x4096x2816 ![1, 2] bcast_S4096x2816_S1x4096x2816_1_2 b⟩]
      concatenates_S1x4096x2816_S1x4096x2816_S2x4096x2816_d0)
    shapeCasts_S2x4096x2816_S2x4096x4x704) transposes_S2x4096x4x704_S2x4x4096x704_0_2_1_3) bitsLt_bf16_f32

/-- One more axis in front. -/
theorem spread_front (f : ℕ → ℕ → ℝ) : broadcastInDim S1x4096x2816 ![1, 2] bcast_S4096x2816_S1x4096x2816_1_2
    (r2 .f32 4096 2816 f : FVec Ideal S4096x2816 .f32) = r3 .f32 1 4096 2816 fun _ i j => f i j := by
  funext j
  exact (broadcastInDim_apply _ bcast_S4096x2816_S1x4096x2816_1_2 _ j (ix2 (j 1) (j 2)) fun x => match x with
    | ⟨0, _⟩ => rfl
    | ⟨1, _⟩ => rfl).trans rfl

/-- One array upon the other. -/
theorem upon (f g : ℕ → ℕ → ℝ) : concatenate S2x4096x2816 0
      [⟨S1x4096x2816, (r3 .f32 1 4096 2816 fun _ i j => f i j : FVec Ideal S1x4096x2816 .f32)⟩,
        ⟨S1x4096x2816, (r3 .f32 1 4096 2816 fun _ i j => g i j : FVec Ideal S1x4096x2816 .f32)⟩]
      concatenates_S1x4096x2816_S1x4096x2816_S2x4096x2816_d0
    = r3 .f32 2 4096 2816 fun s i j => if s = 0 then f i j else g i j := by
  funext j
  have j0 : (j 0).val < 2 := (j 0).isLt
  by_cases e : (j 0).val = 0
  · refine (concatenate_pair_apply_left (t := S2x4096x2816) (s₁ := S1x4096x2816) (s₂ := S1x4096x2816) 0 _ _ _ j rfl (ix3 0 (j 1) (j 2)) fun b => match b with
      | ⟨0, _⟩ => e.symm
      | ⟨1, _⟩ => rfl
      | ⟨2, _⟩ => rfl).trans ?_
    show ((f (j 1).val (j 2).val : ℝ) : EReal) = ((if (j 0).val = 0 then _ else _ : ℝ) : EReal)
    rw [if_pos e]
  · refine (concatenate_pair_apply_right (t := S2x4096x2816) (s₁ := S1x4096x2816) (s₂ := S1x4096x2816) 0 _ _ _ j rfl rfl (ix3 0 (j 1) (j 2)) (fun b hb => match b with
      | ⟨0, _⟩ => absurd rfl hb
      | ⟨1, _⟩ => rfl
      | ⟨2, _⟩ => rfl) (by show 0 + 1 = (j 0).val; omega)).trans ?_
    show ((g (j 1).val (j 2).val : ℝ) : EReal) = ((if (j 0).val = 0 then _ else _ : ℝ) : EReal)
    rw [if_neg e]

/-- Columns in four blocks, the block before the row. -/
theorem blocks_first (f : ℕ → ℕ → ℕ → ℝ) : transpose S2x4x4096x704 [0, 2, 1, 3] (shapeCast S2x4096x4x704
      (r3 .f32 2 4096 2816 f : FVec Ideal S2x4096x2816 .f32) shapeCasts_S2x4096x2816_S2x4096x4x704)
      transposes_S2x4096x4x704_S2x4x4096x704_0_2_1_3
    = r4 .f32 2 4 4096 704 fun s b i k => f s i (704 * b + k) := by
  funext i
  have i0 : (i 0).val < 2 := (i 0).isLt
  have i1 : (i 1).val < 4 := (i 1).isLt
  have i2 : (i 2).val < 4096 := (i 2).isLt
  have i3 : (i 3).val < 704 := (i 3).isLt
  refine (transpose_apply [0, 2, 1, 3] _ transposes_S2x4096x4x704_S2x4x4096x704_0_2_1_3 i
    (ix4 ⟨(i 0).val, i0⟩ ⟨(i 2).val, i2⟩ ⟨(i 1).val, i1⟩ ⟨(i 3).val, i3⟩) (fun b => match b with
    | ⟨0, _⟩ => rfl
    | ⟨1, _⟩ => rfl
    | ⟨2, _⟩ => rfl
    | ⟨3, _⟩ => rfl)).trans ?_
  refine (shapeCast_apply _ shapeCasts_S2x4096x2816_S2x4096x4x704 _
    (ix3 ⟨(i 0).val, i0⟩ ⟨(i 2).val, i2⟩ ⟨704 * (i 1).val + (i 3).val, by omega⟩) ?_).trans rfl
  rw [Shape.rowMajor_val_three, Shape.rowMajor_val_four]
  show ((i 0).val * 4096 + (i 2).val) * 2816 + (704 * (i 1).val + (i 3).val)
    = (((i 0).val * 4096 + (i 2).val) * 4 + (i 1).val) * 704 + (i 3).val
  omega

theorem factors_eq (f g : ℕ → ℕ → ℝ) : factors (r2 .f32 4096 2816 f) (r2 .f32 4096 2816 g)
    = r4 .bf16 2 4 4096 704 fun s b i k => if s = 0 then f i (704 * b + k) else g i (704 * b + k) := by
  unfold factors
  rw [spread_front, spread_front, upon, blocks_first]
  rfl

/-- The derivative of the gated product with respect to the gate, as the arrays before the launch compute it. -/
def slope (u z s d : FVec Ideal S4096x2816 .f32) : FVec Ideal S4096x2816 .f32 :=
  mulf u (addf (mulf (broadcastInDim S4096x2816 ![] bcast_S_S4096x2816 (constant S_ .f32 0x3F800000#32)) s)
    (mulf (mulf z (broadcastInDim S4096x2816 ![] bcast_S_S4096x2816 (constant S_ .f32 0x3F800000#32))) d))

theorem slope_eq : slope (r2 .f32 4096 2816 (upper A.W A.X A.g)) (r2 .f32 4096 2816 (gate A.W A.X A.g))
      (r2 .f32 4096 2816 (sgm A.W A.X A.g)) (r2 .f32 4096 2816 fun i j => sgm A.W A.X A.g i j * (1 - sgm A.W A.X A.g i j))
    = r2 .f32 4096 2816 (fac A.W A.X A.g 0) := by
  have one : broadcastInDim S4096x2816 ![] bcast_S_S4096x2816 (constant (F := Ideal) S_ .f32 0x3F800000#32)
      = r2 .f32 4096 2816 fun _ _ => 1 := congrArg (broadcastInDim S4096x2816 ![] bcast_S_S4096x2816) const_1
  simp only [slope, one, mulf_r2, addf_r2]
  refine r2_ext fun i j _ _ => ?_
  simp only [fac, if_true, one_mul, mul_one]

variable {m c A}

theorem host_v25_of : V m c main_v25 = factors
    (slope (val_main_v19 (F := Ideal) (m ((c : Thread nD τ).loc main_arg1)) (m ((c : Thread nD τ).loc main_arg3)) (m ((c : Thread nD τ).loc main_arg4)))
      (val_main_v17 (F := Ideal) (m ((c : Thread nD τ).loc main_arg1)) (m ((c : Thread nD τ).loc main_arg3)) (m ((c : Thread nD τ).loc main_arg4)))
      (val_main_v18_2 (F := Ideal) (m ((c : Thread nD τ).loc main_arg1)) (m ((c : Thread nD τ).loc main_arg3)) (m ((c : Thread nD τ).loc main_arg4)))
      (val_main_v18_1 (F := Ideal) (m ((c : Thread nD τ).loc main_arg1)) (m ((c : Thread nD τ).loc main_arg3)) (m ((c : Thread nD τ).loc main_arg4))))
    (val_main_v18_0 (F := Ideal) (m ((c : Thread nD τ).loc main_arg1)) (m ((c : Thread nD τ).loc main_arg3)) (m ((c : Thread nD τ).loc main_arg4))) := by
  unfold_abbrev_sides
  simp only [List.flatten_cons, List.flatten_nil, List.append_nil, List.cons_append, List.nil_append]
  after_results
  rfl

variable (h : Holds m c A)
include h

theorem host_v25 : V m c main_v25 = r4 .bf16 2 4 4096 704 fun s b i k => fac A.W A.X A.g s i (704 * b + k) := by
  rw [host_v25_of, h.w, h.x, h.g]
  rw [show val_main_v19 (F := Ideal) (r2 .f32 1024 5632 A.W) (r2 .f32 4096 1024 A.X) (r1 .f32 1024 A.g) = _ from e_v19 A,
    show val_main_v17 (F := Ideal) (r2 .f32 1024 5632 A.W) (r2 .f32 4096 1024 A.X) (r1 .f32 1024 A.g) = _ from e_v17 A,
    show val_main_v18_2 (F := Ideal) (r2 .f32 1024 5632 A.W) (r2 .f32 4096 1024 A.X) (r1 .f32 1024 A.g) = _ from e_v18_2 A,
    show val_main_v18_1 (F := Ideal) (r2 .f32 1024 5632 A.W) (r2 .f32 4096 1024 A.X) (r1 .f32 1024 A.g) = _ from e_v18_1 A,
    show val_main_v18_0 (F := Ideal) (r2 .f32 1024 5632 A.W) (r2 .f32 4096 1024 A.X) (r1 .f32 1024 A.g) = _ from e_v18_0 A]
  rw [slope_eq, factors_eq]
  funext i
  have i0 : (i 0).val < 2 := (i 0).isLt
  show ((if (i 0).val = 0 then _ else _ : ℝ) : EReal) = ((fac A.W A.X A.g (i 0).val (i 2).val (704 * (i 1).val + (i 3).val) : ℝ) : EReal)
  obtain e | e : (i 0).val = 0 ∨ (i 0).val = 1 := by omega
  · rw [if_pos e, e]
  · rw [if_neg (by omega), e]

theorem host_v27 : V m c main_v27 = r3 .bf16 4 704 1024 fun b k j => A.P (704 * b + k) j := by
  have e : V m c main_v27 = (truncf .bf16 (shapeCast S4x704x1024
      (m ((c : Thread nD τ).loc main_arg2)) shapeCasts_S2816x1024_S4x704x1024)
      bitsLt_bf16_f32 : FVec Ideal S4x704x1024 .bf16) := by
    unfold_abbrev_sides
    simp only [List.flatten_cons, List.flatten_nil, List.append_nil, List.cons_append, List.nil_append]
    after_results
    rfl
  rw [e, h.p, row_blocks_out]; rfl

theorem host_v30 : V m c main_v30 = r3 .bf16 8 704 1024 fun b k j => A.W j (704 * b + k) := by
  have e : V m c main_v30 = (truncf .bf16 (shapeCast S8x704x1024 (transpose S5632x1024 [1, 0]
      (m ((c : Thread nD τ).loc main_arg1)) transposes_S1024x5632_S5632x1024_1_0) shapeCasts_S5632x1024_S8x704x1024)
      bitsLt_bf16_f32 : FVec Ideal S8x704x1024 .bf16) := by
    unfold_abbrev_sides
    simp only [List.flatten_cons, List.flatten_nil, List.append_nil, List.cons_append, List.nil_append]
    after_results
    rfl
  rw [e, h.w, row_blocks_in]; rfl

theorem host_v31 : V m c main_v31 = r2 .f32 1 1024 fun _ j => A.g j := by
  have e : V m c main_v31 = broadcastInDim S1x1024 ![1] bcast_S1024_S1x1024_1 (m ((c : Thread nD τ).loc main_arg4)) := by
    unfold_abbrev_sides
    simp only [List.flatten_cons, List.flatten_nil, List.append_nil, List.cons_append, List.nil_append]
    after_results
  rw [e, h.g]
  funext i
  simp only [broadcastInDim_apply]
  rfl

/-! ### The blocks -/

omit h in
/-- A position in the rows from `n` on. -/
theorem rows_at (F : ℕ → ℕ → ℕ → ℝ) (n : ℕ) (i : S2x4x4096x704.Idx) (j : S2x4x512x704.Idx) (c0 : (i 0).val = (j 0).val)
    (c1 : (i 1).val = (j 1).val) (c2 : (i 2).val = n + (j 2).val) (c3 : (i 3).val = (j 3).val) :
    (r4 .bf16 2 4 4096 704 fun s b i k => F s i (704 * b + k) : FVec Ideal S2x4x4096x704 .bf16) i
      = in2 (fun s => rowsFrom n (F s)) j := by
  show ((F (i 0).val (i 2).val (704 * (i 1).val + (i 3).val) : ℝ) : EReal)
    = ((F (j 0).val (n + (j 2).val) (704 * (j 1).val + (j 3).val) : ℝ) : EReal)
  rw [c0, c1, c2, c3]

variable (t : Fin cfg0.N)

omit h in
theorem at0 : win0_0.index t = ![t.val, 0] := (by decide +kernel : ∀ t : Fin grid0.N, win0_0.index t = ![t.val, 0]) t

theorem blk0 : iblk m c 0 t = in0 (rowsFrom (512 * t.val) A.D) := by
  funext j
  have e : iblk m c 0 t j = V m c main_arg0 (((cfg0.win 0).blk t).view.emb j) := by
    unfold iblk
    generalize V m c = G
    rfl
  have b0 : (((cfg0.win 0).blk t).view.emb j 0).val = win0_0.index t (0 : Fin 2) * 512 + 1 * (j 0).val := rfl
  have b1 : (((cfg0.win 0).blk t).view.emb j 1).val = win0_0.index t (1 : Fin 2) * 1024 + 1 * (j 1).val := rfl
  rw [at0] at b0 b1
  have c0 : (((cfg0.win 0).blk t).view.emb j 0).val = 512 * t.val + (j 0).val :=
    b0.trans (by show t.val * 512 + 1 * _ = _; omega)
  have c1 : (((cfg0.win 0).blk t).view.emb j 1).val = (j 1).val := b1.trans (by show 0 * 1024 + 1 * _ = _; omega)
  rw [e, V_main_arg0, h.d]
  simp only [r2, c0, c1]
  rfl

omit h in
theorem at1 : win0_1.index t = ![0, 0, 0] := (by decide +kernel : ∀ t : Fin grid0.N, win0_1.index t = ![0, 0, 0]) t

theorem blk1 : iblk m c 1 t = in1 A.P := by
  funext j
  have e : iblk m c 1 t j = V m c main_v27 (((cfg0.win 1).blk t).view.emb j) := by
    unfold iblk
    generalize V m c = G
    rfl
  have b0 : (((cfg0.win 1).blk t).view.emb j 0).val = win0_1.index t (0 : Fin 3) * 4 + 1 * (j 0).val := rfl
  have b1 : (((cfg0.win 1).blk t).view.emb j 1).val = win0_1.index t (1 : Fin 3) * 704 + 1 * (j 1).val := rfl
  have b2 : (((cfg0.win 1).blk t).view.emb j 2).val = win0_1.index t (2 : Fin 3) * 1024 + 1 * (j 2).val := rfl
  rw [at1] at b0 b1 b2
  have c0 : (((cfg0.win 1).blk t).view.emb j 0).val = (j 0).val := b0.trans (by show 0 * 4 + 1 * _ = _; omega)
  have c1 : (((cfg0.win 1).blk t).view.emb j 1).val = (j 1).val := b1.trans (by show 0 * 704 + 1 * _ = _; omega)
  have c2 : (((cfg0.win 1).blk t).view.emb j 2).val = (j 2).val := b2.trans (by show 0 * 1024 + 1 * _ = _; omega)
  rw [e, host_v27 h]
  simp only [r3, c0, c1, c2]
  rfl

omit h in
theorem at2 : win0_2.index t = ![0, 0, t.val, 0] := (by decide +kernel : ∀ t : Fin grid0.N, win0_2.index t = ![0, 0, t.val, 0]) t

omit h in
theorem read_named (G : (b : Ref sig Kind.tc) → Buf (Elt Ideal) ((c : Thread nD τ).loc b)) (j) :
    View.read (Elt Ideal) ((cfg0.win 2).blk t).view (G (Pipeline.arrRef spec0 2)) j
      = View.read (Elt Ideal) ((cfg0.win 2).blk t).view (G main_v25) j := rfl

omit h in
theorem read_named_at (G : (b : Ref sig Kind.tc) → Buf (Elt Ideal) ((c : Thread nD τ).loc b)) (j) :
    View.read (Elt Ideal) ((cfg0.win 2).blk t).view (G main_v25) j = G main_v25 (((cfg0.win 2).blk t).view.emb j) := rfl

theorem blk2 : iblk m c 2 t = in2 (fun s => rowsFrom (512 * t.val) (fac A.W A.X A.g s)) := by
  funext j
  have e : iblk m c 2 t j = V m c main_v25 (((cfg0.win 2).blk t).view.emb j) := by
    unfold iblk
    exact (read_named t (V m c) j).trans (read_named_at t (V m c) j)
  have b0 : (((cfg0.win 2).blk t).view.emb j 0).val = win0_2.index t (0 : Fin 4) * 2 + 1 * (j 0).val := rfl
  have b1 : (((cfg0.win 2).blk t).view.emb j 1).val = win0_2.index t (1 : Fin 4) * 4 + 1 * (j 1).val := rfl
  have b2 : (((cfg0.win 2).blk t).view.emb j 2).val = win0_2.index t (2 : Fin 4) * 512 + 1 * (j 2).val := rfl
  have b3 : (((cfg0.win 2).blk t).view.emb j 3).val = win0_2.index t (3 : Fin 4) * 704 + 1 * (j 3).val := rfl
  rw [at2] at b0 b1 b2 b3
  have c0 : (((cfg0.win 2).blk t).view.emb j 0).val = (j 0).val := b0.trans (by show 0 * 2 + 1 * _ = _; omega)
  have c1 : (((cfg0.win 2).blk t).view.emb j 1).val = (j 1).val := b1.trans (by show 0 * 4 + 1 * _ = _; omega)
  have c2 : (((cfg0.win 2).blk t).view.emb j 2).val = 512 * t.val + (j 2).val :=
    b2.trans (by show t.val * 512 + 1 * _ = _; omega)
  have c3 : (((cfg0.win 2).blk t).view.emb j 3).val = (j 3).val := b3.trans (by show 0 * 704 + 1 * _ = _; omega)
  rw [e, host_v25 h]
  exact rows_at _ _ _ _ c0 c1 c2 c3

omit h in
theorem at3 : win0_3.index t = ![0, 0, 0] := (by decide +kernel : ∀ t : Fin grid0.N, win0_3.index t = ![0, 0, 0]) t

theorem blk3 : iblk m c 3 t = in3 A.W := by
  funext j
  have e : iblk m c 3 t j = V m c main_v30 (((cfg0.win 3).blk t).view.emb j) := by
    unfold iblk
    generalize V m c = G
    rfl
  have b0 : (((cfg0.win 3).blk t).view.emb j 0).val = win0_3.index t (0 : Fin 3) * 8 + 1 * (j 0).val := rfl
  have b1 : (((cfg0.win 3).blk t).view.emb j 1).val = win0_3.index t (1 : Fin 3) * 704 + 1 * (j 1).val := rfl
  have b2 : (((cfg0.win 3).blk t).view.emb j 2).val = win0_3.index t (2 : Fin 3) * 1024 + 1 * (j 2).val := rfl
  rw [at3] at b0 b1 b2
  have c0 : (((cfg0.win 3).blk t).view.emb j 0).val = (j 0).val := b0.trans (by show 0 * 8 + 1 * _ = _; omega)
  have c1 : (((cfg0.win 3).blk t).view.emb j 1).val = (j 1).val := b1.trans (by show 0 * 704 + 1 * _ = _; omega)
  have c2 : (((cfg0.win 3).blk t).view.emb j 2).val = (j 2).val := b2.trans (by show 0 * 1024 + 1 * _ = _; omega)
  rw [e, host_v30 h]
  simp only [r3, c0, c1, c2]
  rfl

omit h in
theorem at4 : win0_4.index t = ![t.val, 0] := (by decide +kernel : ∀ t : Fin grid0.N, win0_4.index t = ![t.val, 0]) t

theorem blk4 : iblk m c 4 t = in4 (rowsFrom (512 * t.val) A.X) := by
  funext j
  have e : iblk m c 4 t j = V m c main_arg3 (((cfg0.win 4).blk t).view.emb j) := by
    unfold iblk
    generalize V m c = G
    rfl
  have b0 : (((cfg0.win 4).blk t).view.emb j 0).val = win0_4.index t (0 : Fin 2) * 512 + 1 * (j 0).val := rfl
  have b1 : (((cfg0.win 4).blk t).view.emb j 1).val = win0_4.index t (1 : Fin 2) * 1024 + 1 * (j 1).val := rfl
  rw [at4] at b0 b1
  have c0 : (((cfg0.win 4).blk t).view.emb j 0).val = 512 * t.val + (j 0).val :=
    b0.trans (by show t.val * 512 + 1 * _ = _; omega)
  have c1 : (((cfg0.win 4).blk t).view.emb j 1).val = (j 1).val := b1.trans (by show 0 * 1024 + 1 * _ = _; omega)
  rw [e, V_main_arg3, h.x]
  simp only [r2, c0, c1]
  rfl

omit h in
theorem at5 : win0_5.index t = ![0, 0] := (by decide +kernel : ∀ t : Fin grid0.N, win0_5.index t = ![0, 0]) t

theorem blk5 : iblk m c 5 t = in5 A.g := by
  funext j
  have e : iblk m c 5 t j = V m c main_v31 (((cfg0.win 5).blk t).view.emb j) := by
    unfold iblk
    generalize V m c = G
    rfl
  have b0 : (((cfg0.win 5).blk t).view.emb j 0).val = win0_5.index t (0 : Fin 2) * 1 + 1 * (j 0).val := rfl
  have b1 : (((cfg0.win 5).blk t).view.emb j 1).val = win0_5.index t (1 : Fin 2) * 1024 + 1 * (j 1).val := rfl
  rw [at5] at b0 b1
  have c0 : (((cfg0.win 5).blk t).view.emb j 0).val = (j 0).val := b0.trans (by show 0 * 1 + 1 * _ = _; omega)
  have c1 : (((cfg0.win 5).blk t).view.emb j 1).val = (j 1).val := b1.trans (by show 0 * 1024 + 1 * _ = _; omega)
  rw [e, host_v31 h]
  simp only [r2, c0, c1]
  rfl

end Cert.Ffn

end
-- ==== Proof.Ffn.CaseA.lean ====
/-
  The kernel at the first grid point, which clears the gradient of the scale before adding to it: what its stores leave, on real
  input blocks.
-/
module

public import proofs.«01_k».proof.Proof.Ffn.Payload
public import proofs.«01_k».proof.Proof.Gen.Kernel7Ideal.Frame.RunA

@[expose] public section

set_option maxRecDepth 16384

noncomputable section

namespace Cert.Ffn.CaseA

open Idealize.ShloMosaic Cert.Mix Cert.Rms Cert.Kernel7Ideal Cert.Kernel7Ideal.Gen

variable (D P : ℕ → ℕ → ℝ) (F : ℕ → ℕ → ℕ → ℝ) (W X : ℕ → ℕ → ℝ) (g : ℕ → ℝ)
  (c : Dev nD) (i : grid0.Coords)
  (arg1 : Memref sig .tc .vmem S512x1024 .f32) (harg1 : arg1.IsWhole) (arg2 : Memref sig .tc .vmem S4x704x1024 .bf16) (harg2 : arg2.IsWhole) (arg3 : Memref sig .tc .vmem S2x4x512x704 .bf16) (harg3 : arg3.IsWhole)
  (arg4 : Memref sig .tc .vmem S8x704x1024 .bf16) (harg4 : arg4.IsWhole) (arg5 : Memref sig .tc .vmem S512x1024 .f32) (harg5 : arg5.IsWhole) (arg6 : Memref sig .tc .vmem S1x1024 .f32) (harg6 : arg6.IsWhole)
  (arg7 : Memref sig .tc .vmem S2x4x512x704 .bf16) (harg7 : arg7.IsWhole) (arg8 : Memref sig .tc .vmem S512x1024 .f32) (harg8 : arg8.IsWhole) (arg9 : Memref sig .tc .vmem S8x128 .f32) (harg9 : arg9.IsWhole)
  (hc0 : cond0_0 i)

theorem product : kernelRun0_A.sl.r_10 (F := Ideal) c arg1 harg1 arg2 harg2 arg3 harg3 arg4 harg4 (in0 D) (in1 P) (in2 F) (in3 W)
    = r2 .f32 512 1024 (dn D P F W) :=
  pay29 D P F W (rd_whole harg1 _ _)
    (rd_block 0 harg2 _ _) (rd_block 1 harg2 _ _) (rd_block 2 harg2 _ _) (rd_block 3 harg2 _ _)
    (rd_piece 0 0 harg3 _ _) (rd_piece 0 1 harg3 _ _) (rd_piece 0 2 harg3 _ _) (rd_piece 0 3 harg3 _ _)
    (rd_piece 1 0 harg3 _ _) (rd_piece 1 1 harg3 _ _) (rd_piece 1 2 harg3 _ _) (rd_piece 1 3 harg3 _ _)
    (rd_block 0 harg4 _ _) (rd_block 1 harg4 _ _) (rd_block 2 harg4 _ _) (rd_block 3 harg4 _ _)
    (rd_block 4 harg4 _ _) (rd_block 5 harg4 _ _) (rd_block 6 harg4 _ _) (rd_block 7 harg4 _ _)

theorem sums : kernelRun0_A.sl.r_11 (F := Ideal) c arg1 harg1 arg2 harg2 arg3 harg3 arg4 harg4 arg5 harg5 (in0 D) (in1 P) (in2 F) (in3 W) (in4 X)
    = r2 .f32 1 1024 fun _ j => ∑ r : Fin 512, dn D P F W r j * xn X r j :=
  pay32 X (dn D P F W) (product D P F W c arg1 harg1 arg2 harg2 arg3 harg3 arg4 harg4) (rd_whole harg5 _ _)

theorem out6 : View.canon (kernelRun0_A (F := Ideal) c i arg1 harg1 arg2 harg2 arg3 harg3 arg4 harg4 arg5 harg5 arg6 harg6 arg7 harg7 arg8 harg8 arg9 harg9 hc0 (in0 D) (in1 P) (in2 F) (in3 W) (in4 X) (in5 g)).1
    = r4 .bf16 2 4 512 704 fun s b i k => hid D P F s i (704 * b + k) := by
  have d : kernelRun0_A.sl.r_1 (F := Ideal) c arg1 harg1 (in0 D) = r2 .bf16 512 1024 D := pay2 D (rd_whole harg1 _ _)
  exact canon_pieces (fun s b i k => hid D P F s i (704 * b + k))
    (pay6 D P F 0 (rd_whole harg1 _ _) (rd_block 0 harg2 _ _) (rd_piece 0 0 harg3 _ _))
    (pay7 D P F 1 (rd_whole harg1 _ _) (rd_block 0 harg2 _ _) (rd_piece 1 0 harg3 _ _))
    (pay13 D P F 0 1 d (rd_block 1 harg2 _ _) (rd_piece 0 1 harg3 _ _))
    (pay14 D P F 1 1 d (rd_block 1 harg2 _ _) (rd_piece 1 1 harg3 _ _))
    (pay21 D P F 0 2 d (rd_block 2 harg2 _ _) (rd_piece 0 2 harg3 _ _))
    (pay22 D P F 1 2 d (rd_block 2 harg2 _ _) (rd_piece 1 2 harg3 _ _))
    (pay27 D P F 0 3 d (rd_block 3 harg2 _ _) (rd_piece 0 3 harg3 _ _))
    (pay28 D P F 1 3 d (rd_block 3 harg2 _ _) (rd_piece 1 3 harg3 _ _))

theorem out7 : View.canon (kernelRun0_A (F := Ideal) c i arg1 harg1 arg2 harg2 arg3 harg3 arg4 harg4 arg5 harg5 arg6 harg6 arg7 harg7 arg8 harg8 arg9 harg9 hc0 (in0 D) (in1 P) (in2 F) (in3 W) (in4 X) (in5 g)).2.1
    = r2 .f32 512 1024 (dx (dn D P F W) X g D) :=
  (View.canon_unit_zero zero2 _ _).trans
    (pay33 D X g (dn D P F W) (rd_whole harg1 _ _) (product D P F W c arg1 harg1 arg2 harg2 arg3 harg3 arg4 harg4)
      (rd_whole harg5 _ _) (rd_whole harg6 _ _))

theorem out8 : View.canon (kernelRun0_A (F := Ideal) c i arg1 harg1 arg2 harg2 arg3 harg3 arg4 harg4 arg5 harg5 arg6 harg6 arg7 harg7 arg8 harg8 arg9 harg9 hc0 (in0 D) (in1 P) (in2 F) (in3 W) (in4 X) (in5 g)).2.2.1
    = r2 .f32 8 128 fun g j => 0 + ∑ r : Fin 512, dn D P F W r (128 * g + j) * xn X r (128 * g + j) := by
  have S := sums D P F W X c arg1 harg1 arg2 harg2 arg3 harg3 arg4 harg4 arg5 harg5
  exact canon_lanes _
    (lane_block 0 _ _ (filled_lane _ 0 pay1 _ _) S)
    (lane_block 1 _ _ (past_lane _ 0 (by decide) (filled_lane _ 1 pay1 _ _)) S)
    (lane_block 2 _ _ (past_lane _ 1 (by decide) (past_lane _ 0 (by decide) (filled_lane _ 2 pay1 _ _))) S)
    (lane_block 3 _ _ (past_lane _ 2 (by decide) (past_lane _ 1 (by decide) (past_lane _ 0 (by decide) (filled_lane _ 3 pay1 _ _)))) S)
    (lane_block 4 _ _ (past_lane _ 3 (by decide) (past_lane _ 2 (by decide) (past_lane _ 1 (by decide) (past_lane _ 0 (by decide) (filled_lane _ 4 pay1 _ _))))) S)
    (lane_block 5 _ _ (past_lane _ 4 (by decide) (past_lane _ 3 (by decide) (past_lane _ 2 (by decide) (past_lane _ 1 (by decide) (past_lane _ 0 (by decide) (filled_lane _ 5 pay1 _ _)))))) S)
    (lane_block 6 _ _ (past_lane _ 5 (by decide) (past_lane _ 4 (by decide) (past_lane _ 3 (by decide) (past_lane _ 2 (by decide) (past_lane _ 1 (by decide) (past_lane _ 0 (by decide) (filled_lane _ 6 pay1 _ _))))))) S)
    (lane_block 7 _ _ (past_lane _ 6 (by decide) (past_lane _ 5 (by decide) (past_lane _ 4 (by decide) (past_lane _ 3 (by decide) (past_lane _ 2 (by decide) (past_lane _ 1 (by decide) (past_lane _ 0 (by decide) (filled_lane _ 7 pay1 _ _)))))))) S)

end Cert.Ffn.CaseA

end
-- ==== Proof.Ffn.CaseB.lean ====
/-
  The kernel at a later grid point, which adds to the gradient of the scale: what its stores leave, on real
  input blocks.
-/
module

public import proofs.«01_k».proof.Proof.Ffn.Payload
public import proofs.«01_k».proof.Proof.Gen.Kernel7Ideal.Frame.RunB

@[expose] public section

set_option maxRecDepth 16384

noncomputable section

namespace Cert.Ffn.CaseB

open Idealize.ShloMosaic Cert.Mix Cert.Rms Cert.Kernel7Ideal Cert.Kernel7Ideal.Gen

variable (D P : ℕ → ℕ → ℝ) (F : ℕ → ℕ → ℕ → ℝ) (W X : ℕ → ℕ → ℝ) (g : ℕ → ℝ) (T : ℕ → ℕ → ℝ)
  (c : Dev nD) (i : grid0.Coords)
  (arg1 : Memref sig .tc .vmem S512x1024 .f32) (harg1 : arg1.IsWhole) (arg2 : Memref sig .tc .vmem S4x704x1024 .bf16) (harg2 : arg2.IsWhole) (arg3 : Memref sig .tc .vmem S2x4x512x704 .bf16) (harg3 : arg3.IsWhole)
  (arg4 : Memref sig .tc .vmem S8x704x1024 .bf16) (harg4 : arg4.IsWhole) (arg5 : Memref sig .tc .vmem S512x1024 .f32) (harg5 : arg5.IsWhole) (arg6 : Memref sig .tc .vmem S1x1024 .f32) (harg6 : arg6.IsWhole)
  (arg7 : Memref sig .tc .vmem S2x4x512x704 .bf16) (harg7 : arg7.IsWhole) (arg8 : Memref sig .tc .vmem S512x1024 .f32) (harg8 : arg8.IsWhole) (arg9 : Memref sig .tc .vmem S8x128 .f32) (harg9 : arg9.IsWhole)
  (hc0 : ¬cond0_0 i)

theorem product : kernelRun0_B.sl.r_10 (F := Ideal) c arg1 harg1 arg2 harg2 arg3 harg3 arg4 harg4 (in0 D) (in1 P) (in2 F) (in3 W)
    = r2 .f32 512 1024 (dn D P F W) :=
  pay29 D P F W (rd_whole harg1 _ _)
    (rd_block 0 harg2 _ _) (rd_block 1 harg2 _ _) (rd_block 2 harg2 _ _) (rd_block 3 harg2 _ _)
    (rd_piece 0 0 harg3 _ _) (rd_piece 0 1 harg3 _ _) (rd_piece 0 2 harg3 _ _) (rd_piece 0 3 harg3 _ _)
    (rd_piece 1 0 harg3 _ _) (rd_piece 1 1 harg3 _ _) (rd_piece 1 2 harg3 _ _) (rd_piece 1 3 harg3 _ _)
    (rd_block 0 harg4 _ _) (rd_block 1 harg4 _ _) (rd_block 2 harg4 _ _) (rd_block 3 harg4 _ _)
    (rd_block 4 harg4 _ _) (rd_block 5 harg4 _ _) (rd_block 6 harg4 _ _) (rd_block 7 harg4 _ _)

theorem sums : kernelRun0_B.sl.r_11 (F := Ideal) c arg1 harg1 arg2 harg2 arg3 harg3 arg4 harg4 arg5 harg5 (in0 D) (in1 P) (in2 F) (in3 W) (in4 X)
    = r2 .f32 1 1024 fun _ j => ∑ r : Fin 512, dn D P F W r j * xn X r j :=
  pay32 X (dn D P F W) (product D P F W c arg1 harg1 arg2 harg2 arg3 harg3 arg4 harg4) (rd_whole harg5 _ _)

theorem out6 : View.canon (kernelRun0_B (F := Ideal) c i arg1 harg1 arg2 harg2 arg3 harg3 arg4 harg4 arg5 harg5 arg6 harg6 arg7 harg7 arg8 harg8 arg9 harg9 hc0 (in0 D) (in1 P) (in2 F) (in3 W) (in4 X) (in5 g) (r2 .f32 8 128 T)).1
    = r4 .bf16 2 4 512 704 fun s b i k => hid D P F s i (704 * b + k) := by
  have d : kernelRun0_B.sl.r_1 (F := Ideal) c arg1 harg1 (in0 D) = r2 .bf16 512 1024 D := pay2 D (rd_whole harg1 _ _)
  exact canon_pieces (fun s b i k => hid D P F s i (704 * b + k))
    (pay6 D P F 0 (rd_whole harg1 _ _) (rd_block 0 harg2 _ _) (rd_piece 0 0 harg3 _ _))
    (pay7 D P F 1 (rd_whole harg1 _ _) (rd_block 0 harg2 _ _) (rd_piece 1 0 harg3 _ _))
    (pay13 D P F 0 1 d (rd_block 1 harg2 _ _) (rd_piece 0 1 harg3 _ _))
    (pay14 D P F 1 1 d (rd_block 1 harg2 _ _) (rd_piece 1 1 harg3 _ _))
    (pay21 D P F 0 2 d (rd_block 2 harg2 _ _) (rd_piece 0 2 harg3 _ _))
    (pay22 D P F 1 2 d (rd_block 2 harg2 _ _) (rd_piece 1 2 harg3 _ _))
    (pay27 D P F 0 3 d (rd_block 3 harg2 _ _) (rd_piece 0 3 harg3 _ _))
    (pay28 D P F 1 3 d (rd_block 3 harg2 _ _) (rd_piece 1 3 harg3 _ _))

theorem out7 : View.canon (kernelRun0_B (F := Ideal) c i arg1 harg1 arg2 harg2 arg3 harg3 arg4 harg4 arg5 harg5 arg6 harg6 arg7 harg7 arg8 harg8 arg9 harg9 hc0 (in0 D) (in1 P) (in2 F) (in3 W) (in4 X) (in5 g) (r2 .f32 8 128 T)).2.1
    = r2 .f32 512 1024 (dx (dn D P F W) X g D) :=
  (View.canon_unit_zero zero2 _ _).trans
    (pay33 D X g (dn D P F W) (rd_whole harg1 _ _) (product D P F W c arg1 harg1 arg2 harg2 arg3 harg3 arg4 harg4)
      (rd_whole harg5 _ _) (rd_whole harg6 _ _))

theorem out8 : View.canon (kernelRun0_B (F := Ideal) c i arg1 harg1 arg2 harg2 arg3 harg3 arg4 harg4 arg5 harg5 arg6 harg6 arg7 harg7 arg8 harg8 arg9 harg9 hc0 (in0 D) (in1 P) (in2 F) (in3 W) (in4 X) (in5 g) (r2 .f32 8 128 T)).2.2.1
    = r2 .f32 8 128 fun g j => T g j + ∑ r : Fin 512, dn D P F W r (128 * g + j) * xn X r (128 * g + j) := by
  have S := sums D P F W X c arg1 harg1 arg2 harg2 arg3 harg3 arg4 harg4 arg5 harg5
  exact canon_lanes _
    (lane_block 0 _ _ (rd_lane 0 _ _ _) S)
    (lane_block 1 _ _ (rd_lane 1 _ _ _) S)
    (lane_block 2 _ _ (rd_lane 2 _ _ _) S)
    (lane_block 3 _ _ (rd_lane 3 _ _ _) S)
    (lane_block 4 _ _ (rd_lane 4 _ _ _) S)
    (lane_block 5 _ _ (rd_lane 5 _ _ _) S)
    (lane_block 6 _ _ (rd_lane 6 _ _ _) S)
    (lane_block 7 _ _ (rd_lane 7 _ _ _) S)

end Cert.Ffn.CaseB

end
-- ==== Proof.Ffn.State.lean ====
/-
  The kernel for the feed-forward block's gradient over its eight grid points: what each point leaves, the running sum of the
  scale's gradient, and the three arrays at the end.
-/
module

public import proofs.«01_k».proof.Proof.Ffn.Inputs
public import proofs.«01_k».proof.Proof.Ffn.CaseA
public import proofs.«01_k».proof.Proof.Ffn.CaseB
public import proofs.«01_k».proof.Proof.Gen.Kernel7Ideal.Value

@[expose] public section

set_option maxRecDepth 16384

noncomputable section

namespace Cert.Ffn

open Idealize.ShloMosaic Idealize.ShloMosaic.TcCoe Cert.Kernel7Ideal Cert.Kernel7Ideal.Gen Cert.Kernel7Ideal.Value Cert.Mix Cert.Rms

/-! ### What each kind of point leaves -/

section
variable {D P : ℕ → ℕ → ℝ} {F : ℕ → ℕ → ℕ → ℝ} {W X : ℕ → ℕ → ℝ} {g : ℕ → ℝ}
  {c : Dev nD} {i : grid0.Coords}
  {arg1 : Memref sig .tc .vmem S512x1024 .f32} {harg1 : arg1.IsWhole} {arg2 : Memref sig .tc .vmem S4x704x1024 .bf16} {harg2 : arg2.IsWhole} {arg3 : Memref sig .tc .vmem S2x4x512x704 .bf16} {harg3 : arg3.IsWhole}
  {arg4 : Memref sig .tc .vmem S8x704x1024 .bf16} {harg4 : arg4.IsWhole} {arg5 : Memref sig .tc .vmem S512x1024 .f32} {harg5 : arg5.IsWhole} {arg6 : Memref sig .tc .vmem S1x1024 .f32} {harg6 : arg6.IsWhole}
  {arg7 : Memref sig .tc .vmem S2x4x512x704 .bf16} {harg7 : arg7.IsWhole} {arg8 : Memref sig .tc .vmem S512x1024 .f32} {harg8 : arg8.IsWhole} {arg9 : Memref sig .tc .vmem S8x128 .f32} {harg9 : arg9.IsWhole}
  {x0 : Vec Ideal S512x1024 .f32} {x1 : Vec Ideal S4x704x1024 .bf16} {x2 : Vec Ideal S2x4x512x704 .bf16} {x3 : Vec Ideal S8x704x1024 .bf16} {x4 : Vec Ideal S512x1024 .f32} {x5 : Vec Ideal S1x1024 .f32} {xo : Vec Ideal S8x128 .f32}
  (e_x0 : x0 = in0 D) (e_x1 : x1 = in1 P) (e_x2 : x2 = in2 F) (e_x3 : x3 = in3 W) (e_x4 : x4 = in4 X) (e_x5 : x5 = in5 g)
include e_x0 e_x1 e_x2 e_x3 e_x4 e_x5

theorem leftA_6 {hc0 : cond0_0 i} : out0_A_6 (F := Ideal) c i arg1 harg1 arg2 harg2 arg3 harg3 arg4 harg4 arg5 harg5 arg6 harg6 arg7 harg7 arg8 harg8 arg9 harg9 hc0 x0 x1 x2 x3 x4 x5
    = r4 .bf16 2 4 512 704 fun s b i k => hid D P F s i (704 * b + k) := by
  subst e_x0 e_x1 e_x2 e_x3 e_x4 e_x5
  unfold out0_A_6
  rw [View.read_writes_junk_eq_canon]
  apply CaseA.out6

theorem leftA_7 {hc0 : cond0_0 i} : out0_A_7 (F := Ideal) c i arg1 harg1 arg2 harg2 arg3 harg3 arg4 harg4 arg5 harg5 arg6 harg6 arg7 harg7 arg8 harg8 arg9 harg9 hc0 x0 x1 x2 x3 x4 x5
    = r2 .f32 512 1024 (Rms.dx (dn D P F W) X g D) := by
  subst e_x0 e_x1 e_x2 e_x3 e_x4 e_x5
  unfold out0_A_7
  rw [View.read_writes_junk_eq_canon]
  apply CaseA.out7

theorem leftA_8 {hc0 : cond0_0 i} : out0_A_8 (F := Ideal) c i arg1 harg1 arg2 harg2 arg3 harg3 arg4 harg4 arg5 harg5 arg6 harg6 arg7 harg7 arg8 harg8 arg9 harg9 hc0 x0 x1 x2 x3 x4 x5
    = r2 .f32 8 128 fun h j => 0
      + ∑ r : Fin 512, dn D P F W r (128 * h + j) * xn X r (128 * h + j) := by
  subst e_x0 e_x1 e_x2 e_x3 e_x4 e_x5
  unfold out0_A_8
  rw [View.read_writes_junk_eq_canon]
  apply CaseA.out8

theorem leftB_6 {hc0 : ¬cond0_0 i} {T : ℕ → ℕ → ℝ} (e_xo : xo = r2 .f32 8 128 T) : out0_B_6 (F := Ideal) c i arg1 harg1 arg2 harg2 arg3 harg3 arg4 harg4 arg5 harg5 arg6 harg6 arg7 harg7 arg8 harg8 arg9 harg9 hc0 x0 x1 x2 x3 x4 x5 xo
    = r4 .bf16 2 4 512 704 fun s b i k => hid D P F s i (704 * b + k) := by
  subst e_x0 e_x1 e_x2 e_x3 e_x4 e_x5 e_xo
  unfold out0_B_6
  rw [View.read_writes_junk_eq_canon]
  apply CaseB.out6

theorem leftB_7 {hc0 : ¬cond0_0 i} {T : ℕ → ℕ → ℝ} (e_xo : xo = r2 .f32 8 128 T) : out0_B_7 (F := Ideal) c i arg1 harg1 arg2 harg2 arg3 harg3 arg4 harg4 arg5 harg5 arg6 harg6 arg7 harg7 arg8 harg8 arg9 harg9 hc0 x0 x1 x2 x3 x4 x5 xo
    = r2 .f32 512 1024 (Rms.dx (dn D P F W) X g D) := by
  subst e_x0 e_x1 e_x2 e_x3 e_x4 e_x5 e_xo
  unfold out0_B_7
  rw [View.read_writes_junk_eq_canon]
  apply CaseB.out7

theorem leftB_8 {hc0 : ¬cond0_0 i} {T : ℕ → ℕ → ℝ} (e_xo : xo = r2 .f32 8 128 T) : out0_B_8 (F := Ideal) c i arg1 harg1 arg2 harg2 arg3 harg3 arg4 harg4 arg5 harg5 arg6 harg6 arg7 harg7 arg8 harg8 arg9 harg9 hc0 x0 x1 x2 x3 x4 x5 xo
    = r2 .f32 8 128 fun h j => T h j
      + ∑ r : Fin 512, dn D P F W r (128 * h + j) * xn X r (128 * h + j) := by
  subst e_x0 e_x1 e_x2 e_x3 e_x4 e_x5 e_xo
  unfold out0_B_8
  rw [View.read_writes_junk_eq_canon]
  apply CaseB.out8

end

/-! ### All points -/

/-- What the outputs hold after point `n`. -/
structure After (A : Args) (n : ℕ) (s : Vec Ideal S2x4x512x704 .bf16 × Vec Ideal S512x1024 .f32 × Vec Ideal S8x128 .f32) : Prop where
  gu : s.1 = r4 .bf16 2 4 512 704 fun s b i k => hid A.D A.P (fac A.W A.X A.g) s (512 * n + i) (704 * b + k)
  dx : s.2.1 = r2 .f32 512 1024 (rowsFrom (512 * n) (Rms.dx (dn A.D A.P (fac A.W A.X A.g) A.W) A.X A.g A.D))
  dg : s.2.2 = r2 .f32 8 128 (Rms.dg (dn A.D A.P (fac A.W A.X A.g) A.W) A.X (512 * n + 512))

variable {m : (ℓ : Loc nD τ sig) → Buf (Elt Ideal) ℓ} {c : Dev nD} {A : Args} (h : Holds m c A) (t : Fin cfg0.N)
include h

theorem stA_6 (h0 : t.val % 8 = 0) :
    (outsAt0 m c t.val t.isLt).1 = r4 .bf16 2 4 512 704 fun s b i k => hid (rowsFrom (512 * t.val) A.D) A.P (fun s => rowsFrom (512 * t.val) (fac A.W A.X A.g s)) s i (704 * b + k) := by
  rw [outsAt0_A m c t h0]
  dsimp only
  apply leftA_6
  exacts [blk0 h t, blk1 h t, blk2 h t, blk3 h t, blk4 h t, blk5 h t]

theorem stA_7 (h0 : t.val % 8 = 0) :
    (outsAt0 m c t.val t.isLt).2.1 = r2 .f32 512 1024 (Rms.dx (dn (rowsFrom (512 * t.val) A.D) A.P (fun s => rowsFrom (512 * t.val) (fac A.W A.X A.g s)) A.W) (rowsFrom (512 * t.val) A.X) A.g (rowsFrom (512 * t.val) A.D)) := by
  rw [outsAt0_A m c t h0]
  dsimp only
  apply leftA_7
  exacts [blk0 h t, blk1 h t, blk2 h t, blk3 h t, blk4 h t, blk5 h t]

theorem stA_8 (h0 : t.val % 8 = 0) :
    (outsAt0 m c t.val t.isLt).2.2 = r2 .f32 8 128 fun h j => 0
      + ∑ r : Fin 512, dn (rowsFrom (512 * t.val) A.D) A.P (fun s => rowsFrom (512 * t.val) (fac A.W A.X A.g s)) A.W r (128 * h + j) * xn (rowsFrom (512 * t.val) A.X) r (128 * h + j) := by
  rw [outsAt0_A m c t h0]
  dsimp only
  apply leftA_8
  exacts [blk0 h t, blk1 h t, blk2 h t, blk3 h t, blk4 h t, blk5 h t]

theorem stB_6 (h0 : ¬t.val % 8 = 0) {T : ℕ → ℕ → ℝ}
    (hT : (outsAt0 m c (t.val - 1) (Nat.lt_of_le_of_lt (Nat.sub_le _ _) t.isLt)).2.2 = r2 .f32 8 128 T) :
    (outsAt0 m c t.val t.isLt).1 = r4 .bf16 2 4 512 704 fun s b i k => hid (rowsFrom (512 * t.val) A.D) A.P (fun s => rowsFrom (512 * t.val) (fac A.W A.X A.g s)) s i (704 * b + k) := by
  rw [outsAt0_B m c t h0]
  dsimp only
  apply leftB_6
  exacts [blk0 h t, blk1 h t, blk2 h t, blk3 h t, blk4 h t, blk5 h t, hT]

theorem stB_7 (h0 : ¬t.val % 8 = 0) {T : ℕ → ℕ → ℝ}
    (hT : (outsAt0 m c (t.val - 1) (Nat.lt_of_le_of_lt (Nat.sub_le _ _) t.isLt)).2.2 = r2 .f32 8 128 T) :
    (outsAt0 m c t.val t.isLt).2.1 = r2 .f32 512 1024 (Rms.dx (dn (rowsFrom (512 * t.val) A.D) A.P (fun s => rowsFrom (512 * t.val) (fac A.W A.X A.g s)) A.W) (rowsFrom (512 * t.val) A.X) A.g (rowsFrom (512 * t.val) A.D)) := by
  rw [outsAt0_B m c t h0]
  dsimp only
  apply leftB_7
  exacts [blk0 h t, blk1 h t, blk2 h t, blk3 h t, blk4 h t, blk5 h t, hT]

theorem stB_8 (h0 : ¬t.val % 8 = 0) {T : ℕ → ℕ → ℝ}
    (hT : (outsAt0 m c (t.val - 1) (Nat.lt_of_le_of_lt (Nat.sub_le _ _) t.isLt)).2.2 = r2 .f32 8 128 T) :
    (outsAt0 m c t.val t.isLt).2.2 = r2 .f32 8 128 fun h j => T h j
      + ∑ r : Fin 512, dn (rowsFrom (512 * t.val) A.D) A.P (fun s => rowsFrom (512 * t.val) (fac A.W A.X A.g s)) A.W r (128 * h + j) * xn (rowsFrom (512 * t.val) A.X) r (128 * h + j) := by
  rw [outsAt0_B m c t h0]
  dsimp only
  apply leftB_8
  exacts [blk0 h t, blk1 h t, blk2 h t, blk3 h t, blk4 h t, blk5 h t, hT]

theorem after_first (h0 : t.val % 8 = 0) (e : t.val = 0) : After A t.val (outsAt0 m c t.val t.isLt) := by
  refine ⟨stA_6 h t h0, stA_7 h t h0, (stA_8 h t h0).trans (r2_ext fun g j _ _ => ?_)⟩
  rw [e, ← dg_zero (dn A.D A.P (fac A.W A.X A.g) A.W) A.X g j]
  exact dg_add (dn A.D A.P (fac A.W A.X A.g) A.W) A.X 0 g j

theorem after_next (h0 : ¬t.val % 8 = 0)
    (p : After A (t.val - 1) (outsAt0 m c (t.val - 1) (Nat.lt_of_le_of_lt (Nat.sub_le _ _) t.isLt))) :
    After A t.val (outsAt0 m c t.val t.isLt) := by
  have e1 : 512 * (t.val - 1) + 512 = 512 * t.val := by omega
  have pg := p.dg
  rw [e1] at pg
  exact ⟨stB_6 h t h0 pg, stB_7 h t h0 pg,
    (stB_8 h t h0 pg).trans (r2_ext fun g j _ _ => dg_add (dn A.D A.P (fac A.W A.X A.g) A.W) A.X (512 * t.val) g j)⟩

theorem after_all (n : ℕ) (hn : n < cfg0.N) : After A n (outsAt0 m c n hn) := by
  have hN : cfg0.N = 8 := N_0
  induction n with
  | zero => exact after_first h ⟨0, hn⟩ rfl rfl
  | succ n ih => exact after_next h ⟨n + 1, hn⟩ (by show ¬(n + 1) % 8 = 0; omega) (ih (Nat.lt_of_succ_lt hn))

/-! ### The arrays at the end -/

omit h in
theorem at6 : win0_6.index t = ![0, 0, t.val, 0] := (by decide +kernel : ∀ t : Fin grid0.N, win0_6.index t = ![0, 0, t.val, 0]) t
omit h in
theorem at7 : win0_7.index t = ![t.val, 0] := (by decide +kernel : ∀ t : Fin grid0.N, win0_7.index t = ![t.val, 0]) t
omit h in
theorem at8 : win0_8.index t = ![0, 0] := (by decide +kernel : ∀ t : Fin grid0.N, win0_8.index t = ![0, 0]) t

theorem final_dx : (dats m 0 c).arrAt 7 cfg0.N = r2 .f32 4096 1024 (Rms.dx (dn A.D A.P (fac A.W A.X A.g) A.W) A.X A.g A.D) := by
  funext i
  have i0 : (i 0).val < 4096 := (i 0).isLt
  have hlt : (i 0).val / 512 < cfg0.N := lt_of_lt_of_eq (by omega) N_0.symm
  let t : Fin cfg0.N := ⟨(i 0).val / 512, hlt⟩
  let j : S512x1024.Idx := ix2 ⟨(i 0).val % 512, Nat.mod_lt _ (by decide)⟩ (i 1)
  have b := congrFun (blocks7 m c t (Gen.flush0_7 t)) j
  have ei : ((cfg0.win 7).blk t).view.emb j = i := by
    have b0 : (((cfg0.win 7).blk t).view.emb j 0).val = win0_7.index t (0 : Fin 2) * 512 + 1 * (j 0).val := rfl
    have b1 : (((cfg0.win 7).blk t).view.emb j 1).val = win0_7.index t (1 : Fin 2) * 1024 + 1 * (j 1).val := rfl
    rw [at7] at b0 b1
    refine funext fun a => Fin.ext ?_
    match a with
    | ⟨0, _⟩ => exact b0.trans (by show (i 0).val / 512 * 512 + 1 * ((i 0).val % 512) = (i 0).val; omega)
    | ⟨1, _⟩ => exact b1.trans (by show 0 * 1024 + 1 * (i 1).val = (i 1).val; omega)
  rw [flushed7, (after_all h t.val t.isLt).dx] at b
  refine (congrArg _ ei.symm).trans (b.trans ?_)
  show ((Rms.dx (dn A.D A.P (fac A.W A.X A.g) A.W) A.X A.g A.D (512 * ((i 0).val / 512) + (i 0).val % 512) (i 1).val : ℝ) : EReal) = _
  rw [show 512 * ((i 0).val / 512) + (i 0).val % 512 = (i 0).val by omega]
  rfl

omit h in
/-- The scale's gradient is written back once, after the last point. -/
theorem once8 (t t' : Fin cfg0.N) (hf : (cfg0.win 8).flush t = true) (hf' : (cfg0.win 8).flush t' = true) : t = t' := by
  have hN : cfg0.N = 8 := N_0
  have a := (flush0_8 t).1 hf
  have b := (flush0_8 t').1 hf'
  have := t.isLt
  have := t'.isLt
  exact Fin.ext (by omega)

theorem final_dg : (dats m 0 c).arrAt 8 cfg0.N = r2 .f32 8 128 (Rms.dg (dn A.D A.P (fac A.W A.X A.g) A.W) A.X 4096) := by
  funext i
  have hlt : 7 < cfg0.N := lt_of_lt_of_eq (by decide) N_0.symm
  let t : Fin cfg0.N := ⟨7, hlt⟩
  have b := congrFun ((dats m 0 c).read_blk_arrAt_eq_flushed 8 (fun t t' hf hf' hne => absurd (once8 t t' hf hf') hne)
    cfg0.N t t.isLt ((flush0_8 t).2 rfl)) i
  have ei : ((cfg0.win 8).blk t).view.emb i = i := by
    have b0 : (((cfg0.win 8).blk t).view.emb i 0).val = win0_8.index t (0 : Fin 2) * 8 + 1 * (i 0).val := rfl
    have b1 : (((cfg0.win 8).blk t).view.emb i 1).val = win0_8.index t (1 : Fin 2) * 128 + 1 * (i 1).val := rfl
    rw [at8] at b0 b1
    refine funext fun a => Fin.ext ?_
    match a with
    | ⟨0, _⟩ => exact b0.trans (by show 0 * 8 + 1 * (i 0).val = (i 0).val; omega)
    | ⟨1, _⟩ => exact b1.trans (by show 0 * 128 + 1 * (i 1).val = (i 1).val; omega)
  rw [flushed8, (after_all h t.val t.isLt).dg] at b
  exact (congrArg _ ei.symm).trans b

/-- The gradient of the hidden layer on all rows. -/
theorem final_gu : (dats m 0 c).arrAt 6 cfg0.N = r4 .bf16 2 4 4096 704 fun s b i k => hid A.D A.P (fac A.W A.X A.g) s i (704 * b + k) := by
  funext i
  have i2 : (i 2).val < 4096 := (i 2).isLt
  have hlt : (i 2).val / 512 < cfg0.N := lt_of_lt_of_eq (by omega) N_0.symm
  let t : Fin cfg0.N := ⟨(i 2).val / 512, hlt⟩
  let j : S2x4x512x704.Idx := ix4 (i 0) (i 1) ⟨(i 2).val % 512, Nat.mod_lt _ (by decide)⟩ (i 3)
  have b := congrFun (blocks6 m c t (Gen.flush0_6 t)) j
  have ei : ((cfg0.win 6).blk t).view.emb j = i := by
    have b0 : (((cfg0.win 6).blk t).view.emb j 0).val = win0_6.index t (0 : Fin 4) * 2 + 1 * (j 0).val := rfl
    have b1 : (((cfg0.win 6).blk t).view.emb j 1).val = win0_6.index t (1 : Fin 4) * 4 + 1 * (j 1).val := rfl
    have b2 : (((cfg0.win 6).blk t).view.emb j 2).val = win0_6.index t (2 : Fin 4) * 512 + 1 * (j 2).val := rfl
    have b3 : (((cfg0.win 6).blk t).view.emb j 3).val = win0_6.index t (3 : Fin 4) * 704 + 1 * (j 3).val := rfl
    rw [at6] at b0 b1 b2 b3
    refine funext fun a => Fin.ext ?_
    match a with
    | ⟨0, _⟩ => exact b0.trans (by show 0 * 2 + 1 * (i 0).val = (i 0).val; omega)
    | ⟨1, _⟩ => exact b1.trans (by show 0 * 4 + 1 * (i 1).val = (i 1).val; omega)
    | ⟨2, _⟩ => exact b2.trans (by show (i 2).val / 512 * 512 + 1 * ((i 2).val % 512) = (i 2).val; omega)
    | ⟨3, _⟩ => exact b3.trans (by show 0 * 704 + 1 * (i 3).val = (i 3).val; omega)
  rw [flushed6, (after_all h t.val t.isLt).gu] at b
  refine (congrArg _ ei.symm).trans (b.trans ?_)
  show ((hid A.D A.P (fac A.W A.X A.g) (i 0).val (512 * ((i 2).val / 512) + (i 2).val % 512) (704 * (i 1).val + (i 3).val) : ℝ) : EReal)
    = ((hid A.D A.P (fac A.W A.X A.g) (i 0).val (i 2).val (704 * (i 1).val + (i 3).val) : ℝ) : EReal)
  rw [show 512 * ((i 2).val / 512) + (i 2).val % 512 = (i 2).val by omega]

end Cert.Ffn

end
-- ==== Proof.Ffn.Ref.lean ====
/-
  The reference for the feed-forward block's gradient read on real numbers, from the second product's gradient on. The lemmas
  go through the program in its order; `e_v22` says what buffer `v22` holds.
-/
module

public import proofs.«01_k».proof.Proof.Ffn.Forward

@[expose] public section

set_option maxRecDepth 16384

noncomputable section

namespace Cert.Ffn

open Cert.Reference7Ideal Cert.Reference7Ideal.Gen Cert.Reference7Ideal.Read Idealize.ShloMosaic Cert.Mix Cert.Rms

variable (A : Args)

theorem e_v22 : val_main_v22 (F := Ideal) (aD A) (aP A)
    = r2 .f32 4096 2816 (dff A.D A.P) := by
  funext i
  refine (val_main_v22_apply _ _ i).trans ?_
  exact coe_sum Finset.univ fun k : Fin 1024 => A.D (i 0).val k * A.P (i 1).val k

theorem e_v23 : val_main_v23 (F := Ideal) (aD A) (aW A) (aP A) (aX A) (aG A)
    = r2 .f32 4096 2816 fun i j => fac A.W A.X A.g 1 i j * dff A.D A.P i j := by
  simp only [val_main_v23, e_v18_0, e_v22, mulf_r2]

theorem e_v24 : val_main_v24 (F := Ideal) (aD A) (aW A) (aP A) (aX A) (aG A)
    = r2 .f32 4096 2816 fun i j => dff A.D A.P i j * upper A.W A.X A.g i j := by
  simp only [val_main_v24, e_v22, e_v19, mulf_r2]

theorem e_v25 : val_main_v25 (F := Ideal) (aD A) (aW A) (aP A) (aX A) (aG A)
    = r2 .f32 4096 5632 fun i j => if 2816 ≤ j ∧ j < 2816 + 2816 then fac A.W A.X A.g 1 i (j - 2816) * dff A.D A.P i (j - 2816) else 0 := by
  unfold val_main_v25
  rw [e_v23]
  rw [show val_main_cst_3 (F := Ideal) = r0 .f32 0 from const_0]
  exact pad_r2 2816 0 5632 _ _ _

theorem e_call1_v0 : val_main_call1_v0 (F := Ideal) (aD A) (aW A) (aP A) (aX A) (aG A)
    = r2 .f32 4096 2816 fun i j => gate A.W A.X A.g i j * (dff A.D A.P i j * upper A.W A.X A.g i j) := by
  simp only [val_main_call1_v0, e_v17, e_v24, mulf_r2]

theorem e_call1_v1 : val_main_call1_v1 (F := Ideal) (aD A) (aW A) (aP A) (aX A) (aG A)
    = r2 .f32 4096 2816 fun i j => dff A.D A.P i j * upper A.W A.X A.g i j * sgm A.W A.X A.g i j := by
  simp only [val_main_call1_v1, e_v24, e_v18_2, mulf_r2]

theorem e_call1_v2 : val_main_call1_v2 (F := Ideal) (aD A) (aW A) (aP A) (aX A) (aG A)
    = r2 .f32 4096 2816 fun i j => gate A.W A.X A.g i j * (dff A.D A.P i j * upper A.W A.X A.g i j)
        * (sgm A.W A.X A.g i j * (1 - sgm A.W A.X A.g i j)) := by
  simp only [val_main_call1_v2, e_call1_v0, e_v18_1, mulf_r2]

theorem e_v26 : val_main_v26 (F := Ideal) (aD A) (aW A) (aP A) (aX A) (aG A)
    = r2 .f32 4096 2816 (hid A.D A.P (fac A.W A.X A.g) 0) := by
  simp only [val_main_v26, e_call1_v1, e_call1_v2, addf_r2]
  refine r2_ext fun i j _ _ => ?_
  simp only [hid, fac, if_true]
  ring

theorem e_v27 : val_main_v27 (F := Ideal) (aD A) (aW A) (aP A) (aX A) (aG A)
    = r2 .f32 4096 5632 fun i j => if 0 ≤ j ∧ j < 0 + 2816 then hid A.D A.P (fac A.W A.X A.g) 0 i (j - 0) else 0 := by
  unfold val_main_v27
  rw [e_v26]
  rw [show val_main_cst_4 (F := Ideal) = r0 .f32 0 from const_0]
  exact pad_r2 0 2816 5632 _ _ _

theorem e_v28 : val_main_v28 (F := Ideal) (aD A) (aW A) (aP A) (aX A) (aG A)
    = r2 .f32 4096 5632 (dgu A.D A.P (fac A.W A.X A.g)) := by
  simp only [val_main_v28, e_v25, e_v27, addf_r2]
  refine r2_ext fun i j _ hj => ?_
  by_cases b : j < 2816
  · rw [if_neg (by omega), if_pos (by omega)]
    simp only [dgu, if_pos b, Nat.sub_zero, zero_add]
  · rw [if_pos (by omega), if_neg (by omega)]
    simp only [dgu, if_neg b, hid, add_zero]
    exact mul_comm _ _

theorem e_v29 : val_main_v29 (F := Ideal) (aD A) (aW A) (aP A) (aX A) (aG A)
    = r2 .f32 4096 1024 (dn A.D A.P (fac A.W A.X A.g) A.W) := by
  funext i
  refine (val_main_v29_apply _ _ _ _ _ i).trans ?_
  rw [e_v28]
  exact coe_sum Finset.univ fun k : Fin 5632 => dgu A.D A.P (fac A.W A.X A.g) (i 0).val k * A.W (i 1).val k

theorem e_v30 : val_main_v30 (F := Ideal) (aD A) (aW A) (aP A) (aX A) (aG A)
    = r2 .f32 4096 1024 fun i j => xn A.X i j * (dn A.D A.P (fac A.W A.X A.g) A.W) i j := by
  simp only [val_main_v30, e_v12, e_v29, mulf_r2]

theorem e_v31 : val_main_v31 (F := Ideal) (aD A) (aW A) (aP A) (aX A) (aG A)
    = r1 .f32 1024 fun j => ∑ k : Fin 4096, xn A.X k j * (dn A.D A.P (fac A.W A.X A.g) A.W) k j := by
  simp only [val_main_v31, e_v30, val_main_cst_5, const_0, host_sum_rows]

theorem e_v32 : val_main_v32 (F := Ideal) (aD A) (aW A) (aP A) (aX A) (aG A)
    = r2 .f32 1 1024 fun _ j => ∑ k : Fin 4096, xn A.X k j * (dn A.D A.P (fac A.W A.X A.g) A.W) k j := by
  unfold val_main_v32; rw [e_v31]; exact cast_r1_row _ _

theorem e_v33 : val_main_v33 (F := Ideal) (aG A)
    = r2 .f32 4096 1024 fun _ j => A.g j := by
  unfold val_main_v33; rw [e_v13]; exact spread_in_row _ _

theorem e_v34 : val_main_v34 (F := Ideal) (aD A) (aW A) (aP A) (aX A) (aG A)
    = r2 .f32 4096 1024 fun i j => (dn A.D A.P (fac A.W A.X A.g) A.W) i j * A.g j := by
  simp only [val_main_v34, e_v29, e_v33, mulf_r2]

theorem e_v35 : val_main_v35 (F := Ideal) (aD A) (aW A) (aP A) (aX A) (aG A)
    = r1 .f32 1024 fun j => ∑ k : Fin 4096, xn A.X k j * (dn A.D A.P (fac A.W A.X A.g) A.W) k j := by
  simp only [val_main_v35, e_v32, val_main_cst_6, const_0, host_sum_rows, Fin.sum_univ_one]

theorem e_v36 : val_main_v36 (F := Ideal) (aD A) (aW A) (aP A) (aX A) (aG A)
    = r2 .f32 4096 1024 fun i j => A.X i j * ((dn A.D A.P (fac A.W A.X A.g) A.W) i j * A.g j) := by
  simp only [val_main_v36, e_v34, mulf_r2]

theorem e_v37 : val_main_v37 (F := Ideal) (aD A) (aW A) (aP A) (aX A) (aG A)
    = r1 .f32 4096 fun i => ∑ k : Fin 1024, A.X i k * ((dn A.D A.P (fac A.W A.X A.g) A.W) i k * A.g k) := by
  simp only [val_main_v37, e_v36, val_main_cst_7, const_0, host_sum_cols]

theorem e_v38 : val_main_v38 (F := Ideal) (aD A) (aW A) (aP A) (aX A) (aG A)
    = r2 .f32 4096 1 fun i _ => ∑ k : Fin 1024, A.X i k * ((dn A.D A.P (fac A.W A.X A.g) A.W) i k * A.g k) := by
  unfold val_main_v38; rw [e_v37]; exact cast_r1_col _ _

theorem e_v39 : val_main_v39 (F := Ideal) (aX A)
    = r2 .f32 4096 1024 fun i _ => inv A.X i := by
  unfold val_main_v39; rw [e_v7]; exact spread_in_col _ _

theorem e_v40 : val_main_v40 (F := Ideal) (aD A) (aW A) (aP A) (aX A) (aG A)
    = r2 .f32 4096 1024 fun i j => (dn A.D A.P (fac A.W A.X A.g) A.W) i j * A.g j * inv A.X i := by
  simp only [val_main_v40, e_v34, e_v39, mulf_r2]

theorem e_v41 : val_main_v41 (F := Ideal) (aD A) (aW A) (aP A) (aX A) (aG A)
    = r2 .f32 4096 1 fun i _ => (∑ k : Fin 1024, A.X i k * ((dn A.D A.P (fac A.W A.X A.g) A.W) i k * A.g k)) * Rms.half A.X i := by
  simp only [val_main_v41, e_v38, e_v10, mulf_r2]

theorem e_v42 : val_main_v42 (F := Ideal) = r2 .f32 4096 1 fun _ _ => 1024 :=
  congrArg (broadcastInDim S4096x1 ![] bcast_S_S4096x1) const_1024

theorem e_v43 : val_main_v43 (F := Ideal) (aD A) (aW A) (aP A) (aX A) (aG A)
    = r2 .f32 4096 1 fun i _ => share (dn A.D A.P (fac A.W A.X A.g) A.W) A.X A.g i := by
  simp only [val_main_v43, e_v41, e_v42]
  exact host_divf_const _ 1024 (by norm_num)

theorem e_v44 : val_main_v44 (F := Ideal) (aD A) (aW A) (aP A) (aX A) (aG A)
    = r1 .f32 4096 fun i => share (dn A.D A.P (fac A.W A.X A.g) A.W) A.X A.g i := by
  simp only [val_main_v44, e_v43, val_main_cst_9, const_0, host_sum_cols, Fin.sum_univ_one]

theorem e_v45 : val_main_v45 (F := Ideal) (aD A) (aW A) (aP A) (aX A) (aG A)
    = r2 .f32 4096 1024 fun i _ => share (dn A.D A.P (fac A.W A.X A.g) A.W) A.X A.g i := by
  unfold val_main_v45; rw [e_v44]; exact spread_r1_rows _ _

theorem e_v46 : val_main_v46 (F := Ideal) (aD A) (aW A) (aP A) (aX A) (aG A)
    = r2 .f32 4096 1024 fun i j => A.X i j * share (dn A.D A.P (fac A.W A.X A.g) A.W) A.X A.g i := by
  simp only [val_main_v46, e_v45, mulf_r2]

theorem e_v47 : val_main_v47 (F := Ideal) (aD A) (aW A) (aP A) (aX A) (aG A)
    = r2 .f32 4096 1024 fun i j => (dn A.D A.P (fac A.W A.X A.g) A.W) i j * A.g j * inv A.X i + A.X i j * share (dn A.D A.P (fac A.W A.X A.g) A.W) A.X A.g i := by
  simp only [val_main_v47, e_v40, e_v46, addf_r2]

theorem e_v48 : val_main_v48 (F := Ideal) (aD A) (aW A) (aP A) (aX A) (aG A)
    = r2 .f32 4096 1024 fun i j => share (dn A.D A.P (fac A.W A.X A.g) A.W) A.X A.g i * A.X i j := by
  simp only [val_main_v48, e_v45, mulf_r2]

theorem e_v49 : val_main_v49 (F := Ideal) (aD A) (aW A) (aP A) (aX A) (aG A)
    = r2 .f32 4096 1024 fun i j => (dn A.D A.P (fac A.W A.X A.g) A.W) i j * A.g j * inv A.X i + A.X i j * share (dn A.D A.P (fac A.W A.X A.g) A.W) A.X A.g i + share (dn A.D A.P (fac A.W A.X A.g) A.W) A.X A.g i * A.X i j := by
  simp only [val_main_v49, e_v47, e_v48, addf_r2]

theorem e_v53 : val_main_v53 (F := Ideal) (aD A) (aW A) (aP A) (aX A) (aG A)
    = r2 .f32 4096 1024 (dx (dn A.D A.P (fac A.W A.X A.g) A.W) A.X A.g A.D) := by
  simp only [val_main_v53, e_v49, addf_r2]
  exact r2_ext fun i j _ _ => dx_ref (dn A.D A.P (fac A.W A.X A.g) A.W) A.X A.g A.D i j

theorem e_v54 : val_main_v54 (F := Ideal) (aD A) (aW A) (aP A) (aX A) (aG A)
    = r2 .f32 8 128 (dg (dn A.D A.P (fac A.W A.X A.g) A.W) A.X 4096) := by
  unfold val_main_v54
  rw [e_v35]
  refine (cast_lanes _ _).trans (r2_ext fun h j _ _ => ?_)
  exact Finset.sum_congr rfl fun r _ => mul_comm _ _

/-- The column of the gradient of the first product, split into its half, its block and its place in it. -/
theorem dgu_half (D P : ℕ → ℕ → ℝ) (F : ℕ → ℕ → ℕ → ℝ) (i s b k : ℕ) (hs : s < 2) (hb : b < 4) (hk : k < 704) :
    dgu D P F i (s * 2816 + (704 * b + k)) = hid D P F s i (704 * b + k) := by
  obtain rfl | rfl : s = 0 ∨ s = 1 := by omega
  · simp only [dgu, Nat.zero_mul, Nat.zero_add]
    rw [if_pos (by omega)]
  · simp only [dgu, Nat.one_mul]
    rw [if_neg (by omega), Nat.add_sub_cancel_left]

theorem e_v52 : val_main_v52 (F := Ideal) (aD A) (aW A) (aP A) (aX A) (aG A)
    = r4 .bf16 2 4 4096 704 fun s b i k => hid A.D A.P (fac A.W A.X A.g) s i (704 * b + k) := by
  funext i
  have i0 : (i 0).val < 2 := (i 0).isLt
  have i1 : (i 1).val < 4 := (i 1).isLt
  have i2 : (i 2).val < 4096 := (i 2).isLt
  have i3 : (i 3).val < 704 := (i 3).isLt
  refine Eq.trans (b := ((dgu A.D A.P (fac A.W A.X A.g) (i 2).val ((i 0).val * 2816 + (704 * (i 1).val + (i 3).val)) : ℝ) : EReal)) ?_
    (congrArg ((↑) : ℝ → EReal) (dgu_half _ _ _ _ _ _ _ i0 i1 i3))
  show val_main_v51 (F := Ideal) (aD A) (aW A) (aP A) (aX A) (aG A) i = _
  unfold val_main_v51
  refine (transpose_apply [1, 2, 0, 3] _ _ i (ix4 ⟨(i 2).val, i2⟩ ⟨(i 0).val, i0⟩ ⟨(i 1).val, i1⟩ ⟨(i 3).val, i3⟩) (fun b => match b with
    | ⟨0, _⟩ => rfl
    | ⟨1, _⟩ => rfl
    | ⟨2, _⟩ => rfl
    | ⟨3, _⟩ => rfl)).trans ?_
  unfold val_main_v50
  rw [e_v28]
  refine (shapeCast_apply _ _ _ (ix2 ⟨(i 2).val, i2⟩ ⟨(i 0).val * 2816 + (704 * (i 1).val + (i 3).val), by omega⟩) ?_).trans rfl
  rw [Shape.rowMajor_val_two, Shape.rowMajor_val_four]
  show (i 2).val * 5632 + ((i 0).val * 2816 + (704 * (i 1).val + (i 3).val)) = (((i 2).val * 2 + (i 0).val) * 4 + (i 1).val) * 704 + (i 3).val
  omega

end Cert.Ffn

end
-- ==== Proof.Ffn.Value.lean ====
/-
  The claims of the kernel for the feed-forward block's gradient: the reference's frame, and that the kernel and the
  reference end with equal results whenever every entry of every argument is a real number.
-/
module

public import proofs.«01_k».proof.Defs
public import proofs.«01_k».proof.Proof.Gen.Pre_finite7
public import proofs.«01_k».proof.Proof.Gen.Kernel7Ideal.Value
public import proofs.«01_k».proof.Proof.Gen.Reference7Ideal.Run
public import proofs.«01_k».proof.Proof.Mix.Entries
public import proofs.«01_k».proof.Proof.Ffn.State
public import proofs.«01_k».proof.Proof.Ffn.Ref
public import Idealize.ShloMosaic.Lib.Quiescent

@[expose] public section

set_option maxRecDepth 16384

noncomputable section

namespace Cert.Ffn

open Idealize.ShloMosaic Idealize.ShloMosaic.TcCoe Idealize.SL.Sem Cert.Mix

theorem frame_reference : Cert.quiescent_Reference7Ideal (hReference7Ideal := Cert.Reference7Ideal.Gen.facts) := fun m ρ _ =>
  (θ_run Cert.Reference7Ideal.defs _ _).mono
    (fun r h => ⟨fun c => (h c).2.2.2, sem_eq_zero_of_no_sems (by decide) r.2⟩)
    (Cert.Reference7Ideal.Value.run (F := Ideal) m ρ)

section
open Cert.Pre_finite7 Cert.Pre_finite7.Gen

/-- The real numbers of five arrays. -/
def args (x0 : FVec Ideal S4096x1024 .f32) (x1 : FVec Ideal S1024x5632 .f32) (x2 : FVec Ideal S2816x1024 .f32)
    (x3 : FVec Ideal S4096x1024 .f32) (x4 : FVec Ideal S1024 .f32) : Args :=
  ⟨of2 x0, of2 x1, of2 x2, of2 x3, of1 x4⟩

/-- Five arrays that pass the test are the blocks of their real numbers. -/
theorem args_spec (x0 : FVec Ideal S4096x1024 .f32) (x1 : FVec Ideal S1024x5632 .f32) (x2 : FVec Ideal S2816x1024 .f32)
    (x3 : FVec Ideal S4096x1024 .f32) (x4 : FVec Ideal S1024 .f32) (j : S_.Idx) (h : fn (F := Ideal) x0 x1 x2 x3 x4 j = 1#1) :
    x0 = r2 .f32 4096 1024 (of2 x0) ∧ x1 = r2 .f32 1024 5632 (of2 x1) ∧ x2 = r2 .f32 2816 1024 (of2 x2)
      ∧ x3 = r2 .f32 4096 1024 (of2 x3) ∧ x4 = r1 .f32 1024 (of1 x4) := by
  obtain ⟨h, t4⟩ := IntOp.andi_eq_one.1 (show IntOp.andi _ _ = 1#1 from h)
  obtain ⟨h, t3⟩ := IntOp.andi_eq_one.1 (show IntOp.andi _ _ = 1#1 from h)
  obtain ⟨h, t2⟩ := IntOp.andi_eq_one.1 (show IntOp.andi _ _ = 1#1 from h)
  obtain ⟨h, t1⟩ := IntOp.andi_eq_one.1 (show IntOp.andi _ _ = 1#1 from h)
  obtain ⟨_, t0⟩ := IntOp.andi_eq_one.1 (show IntOp.andi _ _ = 1#1 from h)
  exact ⟨eq_r2 _ (reals_of_test _ _ _ _ j t0), eq_r2 _ (reals_of_test _ _ _ _ j t1), eq_r2 _ (reals_of_test _ _ _ _ j t2),
    eq_r2 _ (reals_of_test _ _ _ _ j t3), eq_r1 _ (reals_of_test _ _ _ _ j t4)⟩
end

section
variable (m : (ℓ : Loc Cert.Kernel7Ideal.nD Cert.Kernel7Ideal.τ Cert.Kernel7Ideal.sig) → Buf (Elt Ideal) ℓ) (c : Dev Cert.Kernel7Ideal.nD)

/-- The real numbers a device's arguments hold. -/
def argsOf : Args :=
  args
    (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1))
    (m ((c.tc : Thread Cert.Kernel7Ideal.nD Cert.Kernel7Ideal.τ).loc Cert.Kernel7Ideal.main_arg2))
    (m ((c.tc : Thread Cert.Kernel7Ideal.nD Cert.Kernel7Ideal.τ).loc Cert.Kernel7Ideal.main_arg3))
    (m ((c.tc : Thread Cert.Kernel7Ideal.nD Cert.Kernel7Ideal.τ).loc Cert.Kernel7Ideal.main_arg4))

theorem holds (h : Cert.Pre_Kernel7Ideal_finite7 (hPre_finite7 := Cert.Pre_finite7.Gen.facts) m) : Holds m c (argsOf m c) := by
  obtain ⟨h0, h1, h2, h3, h4⟩ := args_spec _ _ _ _ _ (fun x => x.elim0) (congrFun (h c) _)
  exact ⟨h0, h1, h2, h3, h4⟩
end

open Cert.Reference7Ideal.Read in
theorem algebraic : Cert.algebraic_Kernel7Ideal_Reference7Ideal_pre_finite7 (hKernel7Ideal := Cert.Kernel7Ideal.Gen.facts)
    (hReference7Ideal := Cert.Reference7Ideal.Gen.facts) (hPre_finite7 := Cert.Pre_finite7.Gen.facts) := by
  intro m ρ m' ρ' hpre hagree
  refine ⟨_, _, _, Cert.Kernel7Ideal.Value.run_blocks (F := Ideal) m ρ, ?_⟩
  refine (θ_run Cert.Reference7Ideal.defs _ _).mono (fun r h c => ?_) (Cert.Reference7Ideal.Value.run (F := Ideal) m' ρ')
  have H := holds m c hpre
  obtain ⟨a0, a1, a2, a3, a4⟩ := hagree c
  have b0 := a0.trans H.d
  have b1 := a1.trans H.w
  have b2 := a2.trans H.p
  have b3 := a3.trans H.x
  have b4 := a4.trans H.g
  obtain ⟨o0, o1, o2, kept⟩ := h c
  refine ⟨o0.trans ?_, o1.trans ?_, o2.trans ?_, kept⟩
  · rw [val_main_v52_eq, b0, b1, b2, b3, b4, final_gu H]; exact e_v52 _
  · rw [val_main_v53_eq, b0, b1, b2, b3, b4, final_dx H]; exact e_v53 _
  · rw [val_main_v54_eq, b0, b1, b2, b3, b4, final_dg H]; exact e_v54 _

end Cert.Ffn

end
-- ==== Proof.Fwd.Blocks.lean ====
/-
  Blocks of extended reals: `e1`, `e2`, `e3`, `e4` are the vectors whose entries are a function of their coordinates, and each
  operation of the feed-forward kernel and of its reference takes such blocks to such a block. Nothing is asked of the entries,
  so the infinities are among them.
-/
module

public import Idealize.ShloMosaic.Lib.Writes
public import Idealize.ShloMosaic.Lib.Ring
public import Idealize.ShloMosaic.Lib.Tactic
public import Idealize.ShloMosaic.Lib.Pipeline.CanonAppend
public import proofs.«01_k».proof.Proof.Mix.Host

@[expose] public section

set_option maxRecDepth 16384

noncomputable section

namespace Cert.Fwd

open Idealize.ShloMosaic Cert.Mix

variable {φ ψ : FTy} {a b c d : ℕ}

def e1 (φ : FTy) (a : ℕ) (f : ℕ → EReal) : FVec Ideal ⟨1, ![a]⟩ φ := fun i => f (i 0).val
def e2 (φ : FTy) (a b : ℕ) (f : ℕ → ℕ → EReal) : FVec Ideal ⟨2, ![a, b]⟩ φ := fun i => f (i 0).val (i 1).val
def e3 (φ : FTy) (a b c : ℕ) (f : ℕ → ℕ → ℕ → EReal) : FVec Ideal ⟨3, ![a, b, c]⟩ φ := fun i => f (i 0).val (i 1).val (i 2).val
def e4 (φ : FTy) (a b c d : ℕ) (f : ℕ → ℕ → ℕ → ℕ → EReal) : FVec Ideal ⟨4, ![a, b, c, d]⟩ φ :=
  fun i => f (i 0).val (i 1).val (i 2).val (i 3).val

theorem e2_ext {f g : ℕ → ℕ → EReal} (h : ∀ i j, i < a → j < b → f i j = g i j) : e2 φ a b f = e2 φ a b g :=
  funext fun x => h _ _ (x 0).isLt (x 1).isLt

/-! ### An array as the block of its entries -/

def entries1 (x : FVec Ideal ⟨1, ![a]⟩ φ) (i : ℕ) : EReal := if h : i < a then x (ix1 ⟨i, h⟩) else 0
def entries2 (x : FVec Ideal ⟨2, ![a, b]⟩ φ) (i j : ℕ) : EReal := if h : i < a ∧ j < b then x (ix2 ⟨i, h.1⟩ ⟨j, h.2⟩) else 0

theorem eq_e1 (x : FVec Ideal ⟨1, ![a]⟩ φ) : x = e1 φ a (entries1 x) := by
  funext i
  have hi : (i 0).val < a := (i 0).isLt
  show _ = entries1 x (i 0).val
  rw [entries1, dif_pos hi]
  exact congrArg x (eq_ix1 i)
theorem eq_e2 (x : FVec Ideal ⟨2, ![a, b]⟩ φ) : x = e2 φ a b (entries2 x) := by
  funext i
  have hi : (i 0).val < a ∧ (i 1).val < b := ⟨(i 0).isLt, (i 1).isLt⟩
  show _ = entries2 x (i 0).val (i 1).val
  rw [entries2, dif_pos hi]
  exact congrArg x (eq_ix2 i)

/-! ### Elementwise operations -/

section
variable (f g : ℕ → ℕ → EReal)

theorem addf_e2 : addf (e2 φ a b f) (e2 φ a b g) = e2 φ a b fun i j => f i j + g i j := rfl
theorem subf_e2 : subf (e2 φ a b f) (e2 φ a b g) = e2 φ a b fun i j => f i j - g i j := rfl
theorem mulf_e2 : mulf (e2 φ a b f) (e2 φ a b g) = e2 φ a b fun i j => f i j * g i j := rfl
theorem divf_e2 : divf (e2 φ a b f) (e2 φ a b g) = e2 φ a b fun i j => Ideal.div (f i j) (g i j) := rfl
theorem tanh_e2 : tanh (e2 φ a b f) = e2 φ a b fun i j => Ideal.tanh (f i j) := rfl
theorem rsqrt_e2 : rsqrt (e2 φ a b f) = e2 φ a b fun i j => Ideal.rsqrt (f i j) := rfl
theorem truncf_e2 (h : ψ.bits < φ.bits) : truncf ψ (e2 φ a b f) h = e2 ψ a b f := rfl
theorem host_divf_e2 : Host.divf (e2 φ a b f) (e2 φ a b g) = e2 φ a b fun i j => Ideal.div (f i j) (g i j) := rfl
theorem host_rsqrt_e2 : Host.rsqrt (e2 φ a b f) = e2 φ a b fun i j => Ideal.rsqrt (f i j) := rfl
theorem host_negf_e2 : Host.negf (e2 φ a b f) = e2 φ a b fun i j => -f i j := rfl
theorem host_exp_e2 : Host.exp (e2 φ a b f) = e2 φ a b fun i j => Ideal.exp (f i j) := rfl

/-! ### Constants -/

theorem broadcast_e2 {w : Ideal φ} {x : EReal} (h : w = x) : broadcast (⟨2, ![a, b]⟩ : Shape) w = e2 φ a b fun _ _ => x :=
  funext fun _ => h
theorem spread_const {w : BitVec 32} {x : EReal} (h : Ideal.ofBits .f32 w = x)
    (hb : (⟨0, ![]⟩ : Shape).BroadcastsInDim ⟨2, ![a, b]⟩ ![]) :
    broadcastInDim (⟨2, ![a, b]⟩ : Shape) ![] hb (constant (⟨0, ![]⟩ : Shape) .f32 w : FVec Ideal ⟨0, ![]⟩ .f32)
      = e2 .f32 a b fun _ _ => x := funext fun _ => h
theorem word_one : Ideal.ofBits .f32 0x3F800000#32 = (1 : EReal) := w_one.trans EReal.coe_one
theorem word_zero : Ideal.ofBits .f32 0x00000000#32 = (0 : EReal) := w_zero.trans EReal.coe_zero

/-! ### Casts, spreads, loads -/

theorem cast_e2_self (h : (⟨2, ![a, b]⟩ : Shape).ShapeCasts ⟨2, ![a, b]⟩) :
    shapeCast (⟨2, ![a, b]⟩ : Shape) (e2 φ a b f) h = e2 φ a b f := shapeCast_self _ h
theorem cast_e1_col (f : ℕ → EReal) (h : (⟨1, ![a]⟩ : Shape).ShapeCasts ⟨2, ![a, 1]⟩) :
    shapeCast (⟨2, ![a, 1]⟩ : Shape) (e1 φ a f) h = e2 φ a 1 fun i _ => f i := by
  funext i; obtain ⟨i, j, rfl⟩ : ∃ p q, i = ix2 p q := ⟨i 0, i 1, eq_ix2 i⟩
  obtain rfl : j = 0 := Subsingleton.elim _ _
  refine (ValueIdx.shapeCast_a_a1_apply ..).trans ?_; rfl
theorem cast_e3_e2 (f : ℕ → ℕ → ℕ → EReal) (h : (⟨3, ![1, a, b]⟩ : Shape).ShapeCasts ⟨2, ![a, b]⟩) :
    shapeCast (⟨2, ![a, b]⟩ : Shape) (e3 φ 1 a b f) h = e2 φ a b fun i j => f 0 i j := by
  funext i; obtain ⟨i, j, rfl⟩ : ∃ p q, i = ix2 p q := ⟨i 0, i 1, eq_ix2 i⟩
  refine (ValueIdx.shapeCast_1ab_ab_apply ..).trans ?_; rfl
theorem cast_e2_e3 (h : (⟨2, ![a, b]⟩ : Shape).ShapeCasts ⟨3, ![1, a, b]⟩) :
    shapeCast (⟨3, ![1, a, b]⟩ : Shape) (e2 φ a b f) h = e3 φ 1 a b fun _ i j => f i j := by
  funext i; obtain ⟨i, j, k, rfl⟩ : ∃ p q r, i = ix3 p q r := ⟨i 0, i 1, i 2, eq_ix3 i⟩
  obtain rfl : i = 0 := Subsingleton.elim _ _
  refine (ValueIdx.shapeCast_ab_1ab_apply ..).trans ?_; rfl
theorem cast_e4_e2 (f : ℕ → ℕ → ℕ → ℕ → EReal) (h : (⟨4, ![1, 1, a, b]⟩ : Shape).ShapeCasts ⟨2, ![a, b]⟩) :
    shapeCast (⟨2, ![a, b]⟩ : Shape) (e4 φ 1 1 a b f) h = e2 φ a b fun i j => f 0 0 i j := by
  funext i
  refine (shapeCast_apply _ h i (ix4 0 0 (i 0) (i 1)) ?_).trans rfl
  rw [Shape.rowMajor_val_two, Shape.rowMajor_val_four]
  show ((0 * 1 + 0) * a + (i 0).val) * b + (i 1).val = (i 0).val * b + (i 1).val
  simp
theorem cast_e2_e4 (h : (⟨2, ![a, b]⟩ : Shape).ShapeCasts ⟨4, ![1, 1, a, b]⟩) :
    shapeCast (⟨4, ![1, 1, a, b]⟩ : Shape) (e2 φ a b f) h = e4 φ 1 1 a b fun _ _ i j => f i j := by
  funext i
  have i0 : (i 0).val = 0 := by have : (i 0).val < 1 := (i 0).isLt; omega
  have i1 : (i 1).val = 0 := by have : (i 1).val < 1 := (i 1).isLt; omega
  refine (shapeCast_apply _ h i (ix2 (i 2) (i 3)) ?_).trans rfl
  rw [Shape.rowMajor_val_two, Shape.rowMajor_val_four]
  show (i 2).val * b + (i 3).val = (((i 0).val * 1 + (i 1).val) * a + (i 2).val) * b + (i 3).val
  rw [i0, i1]
  simp

theorem spread_e_col (h : (⟨2, ![a, 1]⟩ : Shape).Broadcasts ⟨2, ![a, b]⟩) :
    broadcastTo (⟨2, ![a, b]⟩ : Shape) (e2 φ a 1 f) h = e2 φ a b fun i _ => f i 0 := by
  funext j
  refine (broadcastTo_apply _ h j (ix2 (j 0) 0) fun x => ?_).trans rfl
  by_cases ha : a = 1
  · subst ha
    have : (j 0).val = 0 := by have := (j 0).isLt; simpa using this
    fin_cases x <;> simp [this]
  · fin_cases x <;> simp [ha]
theorem spread_e_row (h : (⟨2, ![1, b]⟩ : Shape).Broadcasts ⟨2, ![a, b]⟩) :
    broadcastTo (⟨2, ![a, b]⟩ : Shape) (e2 φ 1 b f) h = e2 φ a b fun _ j => f 0 j := by
  funext j
  refine (broadcastTo_apply _ h j (ix2 0 (j 1)) fun x => ?_).trans rfl
  by_cases hb : b = 1
  · subst hb
    have : (j 1).val = 0 := by have := (j 1).isLt; simpa using this
    fin_cases x <;> simp [this]
  · fin_cases x <;> simp [hb]

/-- The rows of one of the blocks of an array of three axes. -/
theorem ld_block (n : ℕ) (f : ℕ → ℕ → ℕ → EReal)
    (inb : ∀ x, (![n, 0, 0] : Fin 3 → ℕ) x + (![1, b, c] : Fin 3 → ℕ) x ≤ (⟨3, ![a, b, c]⟩ : Shape).size x) :
    View.ld (S := ⟨3, ![a, b, c]⟩) (Val := Elt Ideal) (e' := .bf16) (e3 .bf16 a b c f)
        (Rect.unit (s := ⟨3, ![a, b, c]⟩) ![n, 0, 0] ![1, b, c] inb)
      = e3 .bf16 1 b c fun _ i j => f n i j := by
  refine (View.ld_unit _ _ _ _).trans ?_
  funext x
  have i0 : (x 0).val = 0 := by have : (x 0).val < 1 := (x 0).isLt; omega
  show f (n + (x 0).val) (0 + (x 1).val) (0 + (x 2).val) = _
  rw [i0, Nat.add_zero, Nat.zero_add, Nat.zero_add]
  rfl
/-- The rows of one of the blocks of an array of four axes. -/
theorem ld_piece (s n : ℕ) (f : ℕ → ℕ → ℕ → ℕ → EReal)
    (inb : ∀ x, (![s, n, 0, 0] : Fin 4 → ℕ) x + (![1, 1, c, d] : Fin 4 → ℕ) x ≤ (⟨4, ![a, b, c, d]⟩ : Shape).size x) :
    View.ld (S := ⟨4, ![a, b, c, d]⟩) (Val := Elt Ideal) (e' := .bf16) (e4 .bf16 a b c d f)
        (Rect.unit (s := ⟨4, ![a, b, c, d]⟩) ![s, n, 0, 0] ![1, 1, c, d] inb)
      = e4 .bf16 1 1 c d fun _ _ i j => f s n i j := by
  refine (View.ld_unit _ _ _ _).trans ?_
  funext x
  have i0 : (x 0).val = 0 := by have : (x 0).val < 1 := (x 0).isLt; omega
  have i1 : (x 1).val = 0 := by have : (x 1).val < 1 := (x 1).isLt; omega
  show f (s + (x 0).val) (n + (x 1).val) (0 + (x 2).val) (0 + (x 3).val) = _
  rw [i0, i1, Nat.add_zero, Nat.add_zero, Nat.zero_add, Nat.zero_add]
  rfl

/-! ### Sums and products -/

theorem sum_e2_cols (h : (⟨2, ![a, b]⟩ : Shape).Reduces [1] ⟨1, ![a]⟩) (hφ : FKind.Formats φ) (w : BitVec φ.bits)
    (hw : w = FKind.add.neutral φ hφ) :
    multiReduction .add [1] (⟨1, ![a]⟩ : Shape) (e2 φ a b f) w h hφ hw = e1 φ a fun i => ∑ k : Fin b, f i k := by
  funext j
  rw [multiReduction_add_apply, Ideal.reduceAdd_def, Ideal.reduceAdd_r2_a1]
  rfl

theorem matmul_e2_plain (p : Option ContractPrecision) :
    matmul (DotDims.plain a b c) p (e2 φ a b f) (e2 ψ b c g) (constant (⟨2, ![a, c]⟩ : Shape) .f32 0x00000000#32)
      = e2 .f32 a c fun i j => ∑ k : Fin b, f i k * g k j := by
  funext j; obtain ⟨i, j, rfl⟩ : ∃ p q, j = ix2 p q := ⟨j 0, j 1, eq_ix2 j⟩
  refine (Ideal.matmul_plain_apply p _ _ _ i j).trans ?_
  refine (congrArg (· + _) word_zero).trans ?_
  rw [zero_add]
  rfl
theorem matmul_e2_transposed (p : Option ContractPrecision) :
    matmul (DotDims.transposedRhs a b c) p (e2 φ a b f) (e2 ψ c b g) (constant (⟨2, ![a, c]⟩ : Shape) .f32 0x00000000#32)
      = e2 .f32 a c fun i j => ∑ k : Fin b, f i k * g j k := by
  funext j; obtain ⟨i, j, rfl⟩ : ∃ p q, j = ix2 p q := ⟨j 0, j 1, eq_ix2 j⟩
  refine (Ideal.matmul_transposedRhs_apply p _ _ _ i j).trans ?_
  refine (congrArg (· + _) word_zero).trans ?_
  rw [zero_add]
  rfl

end

theorem split_sum (F : ℕ → EReal) (n b : ℕ) : ∑ k : Fin (n + b), F k = ∑ k : Fin n, F k + ∑ k : Fin b, F (n + k) :=
  Fin.sum_univ_add fun k : Fin (n + b) => F k

/-! ### Arrays filled block by block -/

abbrev Half : Shape := ⟨2, ![512, 704]⟩
abbrev Piece : Shape := ⟨4, ![1, 1, 512, 704]⟩
abbrev Halves : Shape := ⟨4, ![2, 4, 512, 704]⟩
abbrev Slab : Shape := ⟨3, ![1, 512, 704]⟩
abbrev Slabs : Shape := ⟨3, ![4, 512, 704]⟩

/-- The four stores, one for each block, fill the array. -/
theorem canon_slabs (G : ℕ → ℕ → ℕ → EReal) {i0 i1 i2 i3} {w0 w1 w2 w3}
    (h0 : w0 = e3 .bf16 1 512 704 fun _ => G 0) (h1 : w1 = e3 .bf16 1 512 704 fun _ => G 1)
    (h2 : w2 = e3 .bf16 1 512 704 fun _ => G 2) (h3 : w3 = e3 .bf16 1 512 704 fun _ => G 3) :
    View.canon ([⟨Rect.unit (s := Slabs) ![3, 0, 0] Slab.size i3, w3⟩,
        ⟨Rect.unit (s := Slabs) ![2, 0, 0] Slab.size i2, w2⟩,
        ⟨Rect.unit (s := Slabs) ![1, 0, 0] Slab.size i1, w1⟩,
        ⟨Rect.unit (s := Slabs) ![0, 0, 0] Slab.size i0, w0⟩] : List (View.Piece (Elt Ideal) Slabs .bf16))
      = e3 .bf16 4 512 704 G := by
  have piece (b : ℕ) (inb : ∀ a, (![b, 0, 0] : Fin 3 → ℕ) a + Slab.size a ≤ Slabs.size a) (w : FVec Ideal Slab .bf16)
      (h : w = e3 .bf16 1 512 704 fun _ => G b) (x : Slab.Idx) :
      w x = e3 .bf16 4 512 704 G ((Rect.unit (s := Slabs) ![b, 0, 0] Slab.size inb).emb x) := by
    subst h
    have i0 : (x 0).val = 0 := by have : (x 0).val < 1 := (x 0).isLt; omega
    show G b (x 1).val (x 2).val = G (b + 1 * (x 0).val) (0 + 1 * (x 1).val) (0 + 1 * (x 2).val)
    rw [i0, Nat.mul_zero, Nat.add_zero, Nat.one_mul, Nat.one_mul, Nat.zero_add, Nat.zero_add]
  funext y
  refine View.canon_append_of_pieces (Val := Elt Ideal) (e := .bf16) (e3 .bf16 4 512 704 G) [] [_, _, _, _] ?_ y ?_
  · simp only [List.forall_mem_cons]
    exact ⟨piece 3 _ _ h3, piece 2 _ _ h2, piece 1 _ _ h1, piece 0 _ _ h0, fun _ h => absurd h (by simp)⟩
  · exact View.cover_of_tiledL (s := Slabs) _ Slab.size (by sl_kernel_rfl) y

/-- The eight stores, one for each block of each half, fill the array. -/
theorem canon_pieces (G : ℕ → ℕ → ℕ → ℕ → EReal) {i0 i1 i2 i3 i4 i5 i6 i7} {w0 w1 w2 w3 w4 w5 w6 w7}
    (h0 : w0 = e4 .bf16 1 1 512 704 fun _ _ => G 0 0) (h1 : w1 = e4 .bf16 1 1 512 704 fun _ _ => G 1 0)
    (h2 : w2 = e4 .bf16 1 1 512 704 fun _ _ => G 0 1) (h3 : w3 = e4 .bf16 1 1 512 704 fun _ _ => G 1 1)
    (h4 : w4 = e4 .bf16 1 1 512 704 fun _ _ => G 0 2) (h5 : w5 = e4 .bf16 1 1 512 704 fun _ _ => G 1 2)
    (h6 : w6 = e4 .bf16 1 1 512 704 fun _ _ => G 0 3) (h7 : w7 = e4 .bf16 1 1 512 704 fun _ _ => G 1 3) :
    View.canon ([⟨Rect.unit (s := Halves) ![1, 3, 0, 0] Piece.size i7, w7⟩,
        ⟨Rect.unit (s := Halves) ![0, 3, 0, 0] Piece.size i6, w6⟩,
        ⟨Rect.unit (s := Halves) ![1, 2, 0, 0] Piece.size i5, w5⟩,
        ⟨Rect.unit (s := Halves) ![0, 2, 0, 0] Piece.size i4, w4⟩,
        ⟨Rect.unit (s := Halves) ![1, 1, 0, 0] Piece.size i3, w3⟩,
        ⟨Rect.unit (s := Halves) ![0, 1, 0, 0] Piece.size i2, w2⟩,
        ⟨Rect.unit (s := Halves) ![1, 0, 0, 0] Piece.size i1, w1⟩,
        ⟨Rect.unit (s := Halves) ![0, 0, 0, 0] Piece.size i0, w0⟩] : List (View.Piece (Elt Ideal) Halves .bf16))
      = e4 .bf16 2 4 512 704 G := by
  have piece (s b : ℕ) (inb : ∀ a, (![s, b, 0, 0] : Fin 4 → ℕ) a + Piece.size a ≤ Halves.size a) (w : FVec Ideal Piece .bf16)
      (h : w = e4 .bf16 1 1 512 704 fun _ _ => G s b) (x : Piece.Idx) :
      w x = e4 .bf16 2 4 512 704 G ((Rect.unit (s := Halves) ![s, b, 0, 0] Piece.size inb).emb x) := by
    subst h
    have i0 : (x 0).val = 0 := by have : (x 0).val < 1 := (x 0).isLt; omega
    have i1 : (x 1).val = 0 := by have : (x 1).val < 1 := (x 1).isLt; omega
    show G s b (x 2).val (x 3).val
      = G (s + 1 * (x 0).val) (b + 1 * (x 1).val) (0 + 1 * (x 2).val) (0 + 1 * (x 3).val)
    rw [i0, i1, Nat.mul_zero, Nat.add_zero, Nat.add_zero, Nat.one_mul, Nat.one_mul, Nat.zero_add, Nat.zero_add]
  funext y
  refine View.canon_append_of_pieces (Val := Elt Ideal) (e := .bf16) (e4 .bf16 2 4 512 704 G) [] [_, _, _, _, _, _, _, _] ?_ y ?_
  · simp only [List.forall_mem_cons]
    exact ⟨piece 1 3 _ _ h7, piece 0 3 _ _ h6, piece 1 2 _ _ h5, piece 0 2 _ _ h4, piece 1 1 _ _ h3, piece 0 1 _ _ h2,
      piece 1 0 _ _ h1, piece 0 0 _ _ h0, fun _ h => absurd h (by simp)⟩
  · exact View.cover_of_tiledL (s := Halves) _ Piece.size (by sl_kernel_rfl) y

end Cert.Fwd

end
-- ==== Proof.Fwd.Formula.lean ====
/-
  The feed-forward block as a formula: `X` is the layer's argument, `g` the norm's scale, `W` and `P` the two projections'
  weights. `gate_div` and `slope_sum` compare the two ways of writing the gate's function and its derivative; both hold at the
  infinities too.
-/
module

public import proofs.«01_k».proof.Proof.Fwd.Blocks

@[expose] public section

noncomputable section

namespace Cert.Fwd

open Idealize.ShloMosaic Cert.Mix

/-- One half. -/
def hf : EReal := ((1 / 2 : ℝ) : EReal)

/-- The logistic function by the hyperbolic tangent. -/
def sgm (z : EReal) : EReal := hf + hf * Ideal.tanh (hf * z)
/-- The gate's function. -/
def silu (z : EReal) : EReal := z * sgm z
/-- Its derivative. -/
def slope (z : EReal) : EReal := sgm z * (1 + z * (1 - sgm z))

theorem hf_top : hf * ⊤ = ⊤ := EReal.coe_mul_top_of_pos (by norm_num)
theorem hf_bot : hf * ⊥ = ⊥ := EReal.coe_mul_bot_of_pos (by norm_num)

theorem sgm_top : sgm ⊤ = 1 := by
  unfold sgm
  rw [hf_top, Ideal.tanh_top, mul_one, hf, ← EReal.coe_add, ← EReal.coe_one]
  norm_num
theorem sgm_bot : sgm ⊥ = 0 := by
  unfold sgm
  rw [hf_bot, Ideal.tanh_bot, hf, ← EReal.coe_one, ← EReal.coe_neg, ← EReal.coe_mul, ← EReal.coe_add, ← EReal.coe_zero]
  norm_num
theorem sgm_coe (z : ℝ) : sgm z = ((1 / 2 + 1 / 2 * Real.tanh (1 / 2 * z) : ℝ) : EReal) := by
  unfold sgm hf
  rw [← EReal.coe_mul, Ideal.tanh_coe, ← EReal.coe_mul, ← EReal.coe_add]

theorem logistic (z : ℝ) : 1 / (1 + Real.exp (-z)) = 1 / 2 + 1 / 2 * Real.tanh (1 / 2 * z) := by
  have h : Real.exp (-z) = Real.exp (-(1 / 2 * z)) * Real.exp (-(1 / 2 * z)) := by rw [← Real.exp_add]; congr 1; ring
  have p := Real.exp_pos (1 / 2 * z)
  rw [Real.tanh_eq_sinh_div_cosh, Real.sinh_eq, Real.cosh_eq, h, Real.exp_neg]
  generalize Real.exp (1 / 2 * z) = t at p
  have p2 : 0 < t ^ 2 + 1 := by positivity
  field_simp
  ring

theorem gate_div (z : EReal) : Ideal.div 1 (1 + Ideal.exp (-z)) = sgm z := by
  induction z using EReal.rec with
  | bot => rw [sgm_bot, EReal.neg_bot, Ideal.exp_top]; simp [Ideal.div, show (1 : EReal) + ⊤ = ⊤ from EReal.coe_add_top 1]
  | top => rw [sgm_top, EReal.neg_top, Ideal.exp_bot]; simp [Ideal.div]
  | coe z =>
    have p : 1 + Real.exp (-z) ≠ 0 := by positivity
    rw [sgm_coe, ← logistic, ← EReal.coe_neg, Ideal.exp_coe, ← EReal.coe_one, ← EReal.coe_add]
    exact ideal_div_coe p

theorem slope_sum (z : EReal) : 1 * sgm z + z * 1 * (sgm z * (1 - sgm z)) = slope z := by
  unfold slope
  induction z using EReal.rec with
  | bot => rw [sgm_bot]; simp
  | top => rw [sgm_top]; simp
  | coe z =>
    rw [sgm_coe]
    generalize 1 / 2 + 1 / 2 * Real.tanh (1 / 2 * z) = s
    simp only [← EReal.coe_one, ← EReal.coe_sub, ← EReal.coe_mul, ← EReal.coe_add]
    congr 1
    ring

section
variable (X : ℕ → ℕ → EReal) (g : ℕ → EReal) (W P : ℕ → ℕ → EReal)

/-- The reciprocal root of a row's mean square. -/
def root (i : ℕ) : EReal := Ideal.rsqrt (Ideal.div (∑ k : Fin 1024, X i k * X i k) ((1024 : ℝ) : EReal) + (eps : EReal))
/-- The normed rows. -/
def normed (i j : ℕ) : EReal := X i j * root X i * g j
/-- The first product: the gate's 2816 columns and then the others. -/
def proj (i j : ℕ) : EReal := ∑ k : Fin 1024, normed X g i k * W k j
def gate (i j : ℕ) : EReal := proj X g W i j
def upper (i j : ℕ) : EReal := proj X g W i (2816 + j)
/-- The hidden layer. -/
def hidden (i j : ℕ) : EReal := silu (gate X g W i j) * upper X g W i j
/-- The two factors that take the hidden layer's gradient to the first product's. -/
def fac (s i j : ℕ) : EReal := if s = 0 then upper X g W i j * slope (gate X g W i j) else silu (gate X g W i j)
/-- The block's result. -/
def out (i j : ℕ) : EReal := X i j + ∑ k : Fin 2816, hidden X g W i k * P k j

/-- The second product over 704 hidden columns. -/
def part (b i j : ℕ) : EReal := ∑ k : Fin 704, hidden X g W i (704 * b + k) * P (704 * b + k) j

theorem out_parts (i j : ℕ) :
    X i j + part X g W P 0 i j + part X g W P 1 i j + part X g W P 2 i j + part X g W P 3 i j = out X g W P i j := by
  have s := split_sum fun k => hidden X g W i k * P k j
  have all : ∑ k : Fin 2816, hidden X g W i k * P k j = ∑ k : Fin (704 + 704 + 704 + 704), hidden X g W i k * P k j := rfl
  have p0 : ∑ k : Fin 704, hidden X g W i k * P k j = part X g W P 0 i j := by
    unfold part; simp only [Nat.mul_zero, Nat.zero_add]
  have p1 : ∑ k : Fin (704 + 704), hidden X g W i k * P k j = _ + part X g W P 1 i j := s 704 704
  have p2 : ∑ k : Fin (704 + 704 + 704), hidden X g W i k * P k j = _ + part X g W P 2 i j := s (704 + 704) 704
  have p3 : ∑ k : Fin (704 + 704 + 704 + 704), hidden X g W i k * P k j = _ + part X g W P 3 i j := s (704 + 704 + 704) 704
  unfold out
  rw [all, p3, p2, p1, p0]
  simp only [add_assoc]

end

end Cert.Fwd

end
-- ==== Proof.Fwd.Payload.lean ====
/-
  The forward pass of the channel mixer: what the kernel computes from one block of 512 rows. `X` is the layer's argument, `g`
  the norm's scale, `W` the first projection's weights, `P` the second's. The kernel works on 704 hidden columns at a time.
-/
module

public import proofs.«01_k».proof.Proof.Fwd.Formula
public import proofs.«01_k».proof.Proof.Gen.Kernel8Ideal.Skeleton

@[expose] public section

set_option maxRecDepth 16384

noncomputable section

namespace Cert.Fwd

open Idealize.ShloMosaic Cert.Mix Cert.Kernel8Ideal Cert.Kernel8Ideal.Gen

section
variable (X : ℕ → ℕ → EReal) (g : ℕ → EReal) (W P : ℕ → ℕ → EReal)

/-! The blocks the kernel reads. -/

def in0 : Vec Ideal S512x1024 .f32 := e2 .f32 512 1024 X
def in1 : Vec Ideal S1x1024 .f32 := e2 .f32 1 1024 fun _ j => g j
def in2 : Vec Ideal S2x4x704x1024 .bf16 := e4 .bf16 2 4 704 1024 fun s b k j => W j (2816 * s + (704 * b + k))
def in3 : Vec Ideal S4x704x1024 .bf16 := e3 .bf16 4 704 1024 fun b k j => P (704 * b + k) j

/-- 704 columns of half `s` of the first projection's weights, 704 rows of the second's. -/
def wb (s b : ℕ) : FVec Ideal S1x1x704x1024 .bf16 := e4 .bf16 1 1 704 1024 fun _ _ k j => W j (2816 * s + (704 * b + k))
def pb (b : ℕ) : FVec Ideal S1x704x1024 .bf16 := e3 .bf16 1 704 1024 fun _ k j => P (704 * b + k) j
/-- The normed rows. -/
def nb : FVec Ideal S512x1024 .bf16 := e2 .bf16 512 1024 (normed X g)
/-- 704 columns of the gate, of the other half, of the gate's function, of the hidden layer. -/
def gb (b : ℕ) : FVec Ideal S512x704 .f32 := e2 .f32 512 704 fun i k => gate X g W i (704 * b + k)
def ub (b : ℕ) : FVec Ideal S512x704 .f32 := e2 .f32 512 704 fun i k => upper X g W i (704 * b + k)
def sb (b : ℕ) : FVec Ideal S512x704 .f32 := e2 .f32 512 704 fun i k => sgm (gate X g W i (704 * b + k))
def hb (b : ℕ) : FVec Ideal S512x704 .bf16 := e2 .bf16 512 704 fun i k => hidden X g W i (704 * b + k)
def ob (b : ℕ) : FVec Ideal S512x1024 .f32 := e2 .f32 512 1024 (part X g W P b)

theorem dot_trans : dot_S512x1024_S704x1024_S512x704_1_1_0_0_n_n = DotDims.transposedRhs 512 1024 704 := rfl
theorem dot_plain : dot_S512x704_S704x1024_S512x1024_1_0_0_1_n_n = DotDims.plain 512 704 1024 := rfl

theorem first (s b : ℕ) (h) :
    matmul dot_S512x1024_S704x1024_S512x704_1_1_0_0_n_n none (nb X g) (shapeCast S704x1024 (wb W s b) h)
      (constant S512x704 .f32 0x00000000#32) = e2 .f32 512 704 fun i k => proj X g W i (2816 * s + (704 * b + k)) := by
  unfold nb wb
  rw [cast_e4_e2, dot_trans]
  exact matmul_e2_transposed _ _ _
theorem first_gate (b : ℕ) (h) :
    matmul dot_S512x1024_S704x1024_S512x704_1_1_0_0_n_n none (nb X g) (shapeCast S704x1024 (wb W 0 b) h)
      (constant S512x704 .f32 0x00000000#32) = gb X g W b := by
  rw [first]
  exact e2_ext fun i k _ _ => congrArg (proj X g W i) (by omega)
theorem first_upper (b : ℕ) (h) :
    matmul dot_S512x1024_S704x1024_S512x704_1_1_0_0_n_n none (nb X g) (shapeCast S704x1024 (wb W 1 b) h)
      (constant S512x704 .f32 0x00000000#32) = ub X g W b := first X g W 1 b h
theorem second (b : ℕ) (h) :
    matmul dot_S512x704_S704x1024_S512x1024_1_0_0_1_n_n none (hb X g W b) (shapeCast S704x1024 (pb P b) h)
      (constant S512x1024 .f32 0x00000000#32) = ob X g W P b := by
  unfold hb pb
  rw [cast_e3_e2, dot_plain]
  exact matmul_e2_plain _ _ _

theorem logistic_block (b : ℕ) :
    addf (broadcast S512x704 (Scalar.ofBits (F := Ideal) .f32 0x3F000000#32)) (mulf (broadcast S512x704 (Scalar.ofBits (F := Ideal) .f32 0x3F000000#32))
      (tanh (mulf (broadcast S512x704 (Scalar.ofBits (F := Ideal) .f32 0x3F000000#32)) (gb X g W b)))) = sb X g W b := by
  rw [show broadcast S512x704 (Scalar.ofBits (F := Ideal) .f32 0x3F000000#32) = e2 .f32 512 704 fun _ _ => hf
    from broadcast_e2 w_half]
  rfl

theorem hidden_block (b : ℕ) (h) : truncf .bf16 (mulf (mulf (gb X g W b) (sb X g W b)) (ub X g W b)) h = hb X g W b := rfl

theorem slope_block (b : ℕ) (h) : truncf .bf16 (mulf (ub X g W b) (mulf (sb X g W b)
      (addf (broadcast S512x704 (Scalar.ofBits (F := Ideal) .f32 0x3F800000#32)) (mulf (gb X g W b)
        (subf (broadcast S512x704 (Scalar.ofBits (F := Ideal) .f32 0x3F800000#32)) (sb X g W b)))))) h
    = e2 .bf16 512 704 fun i k => fac X g W 0 i (704 * b + k) := by
  rw [show broadcast S512x704 (Scalar.ofBits (F := Ideal) .f32 0x3F800000#32) = e2 .f32 512 704 fun _ _ => 1
    from broadcast_e2 word_one]
  rfl

theorem silu_block (b : ℕ) (h) : truncf .bf16 (mulf (gb X g W b) (sb X g W b)) h
    = e2 .bf16 512 704 fun i k => fac X g W 1 i (704 * b + k) := rfl

/-- What is stored of the hidden layer, and of the factors. -/
theorem stored_hidden (b : ℕ) (h) : shapeCast S1x512x704 (hb X g W b) h
    = e3 .bf16 1 512 704 fun _ i k => hidden X g W i (704 * b + k) := cast_e2_e3 _ h
theorem stored_factor (s b : ℕ) (h) : shapeCast S1x1x512x704 (e2 .bf16 512 704 fun i k => fac X g W s i (704 * b + k) : FVec Ideal S512x704 .bf16) h
    = e4 .bf16 1 1 512 704 fun _ _ i k => fac X g W s i (704 * b + k) := cast_e2_e4 _ h

variable {V : FVec Ideal S512x1024 .f32} {G : FVec Ideal S1x1024 .f32} {B : FVec Ideal S512x1024 .bf16}
  {U0 U1 : FVec Ideal S1x1x704x1024 .bf16}

theorem pay3 (v : V = in0 X) (w : G = in1 g) : k0_pay3 (F := Ideal) V G = nb X g := by
  subst v w
  simp only [k0_pay3, in0, in1, cast_e2_self, mulf_e2]
  rw [show broadcast S512x1 (Scalar.ofBits (F := Ideal) .f32 0x44800000#32) = e2 .f32 512 1 fun _ _ => ((1024 : ℝ) : EReal)
      from broadcast_e2 w_1024,
    show broadcast S512x1 (Scalar.ofBits (F := Ideal) .f32 0x358637BD#32) = e2 .f32 512 1 fun _ _ => (eps : EReal)
      from broadcast_e2 w_eps]
  rw [show multiReduction .add [1] S512 (e2 .f32 512 1024 fun i j => X i j * X i j : FVec Ideal S512x1024 .f32) 0x00000000#32
      reduces_S512x1024_S512 (.inl rfl) rfl = e1 .f32 512 fun i => ∑ k : Fin 1024, X i k * X i k from sum_e2_cols _ _ _ _ _]
  simp only [cast_e1_col, divf_e2, addf_e2, rsqrt_e2, spread_e_col, spread_e_row, mulf_e2]
  rfl

theorem pay6 (v : V = in0 X) (w : G = in1 g) (u : U0 = wb W 0 0) : k0_pay6 (F := Ideal) V G U0 = sb X g W 0 := by
  subst u; simp only [k0_pay6, k0_pay4, pay3 X g v w, first_gate, logistic_block]
theorem pay7 (v : V = in0 X) (w : G = in1 g) (u : U0 = wb W 0 0) :
    k0_pay7 (F := Ideal) V G U0 = mulf (gb X g W 0) (sb X g W 0) := by
  simp only [k0_pay7, pay6 X g W v w u]
  subst u; simp only [k0_pay4, pay3 X g v w, first_gate]
theorem pay8 (v : V = in0 X) (w : G = in1 g) (u : U0 = wb W 0 0) (u' : U1 = wb W 1 0) :
    k0_pay8 (F := Ideal) V G U0 U1 = hb X g W 0 := by
  simp only [k0_pay8, pay7 X g W v w u]
  subst u'; simp only [k0_pay5, pay3 X g v w, first_upper, hidden_block]
theorem pay10 (v : V = in0 X) (w : G = in1 g) (u : U0 = wb W 0 0) (u' : U1 = wb W 1 0) :
    k0_pay10 (F := Ideal) (k0_pay4 V G U0) (k0_pay5 V G U1) (k0_pay6 V G U0)
      = e4 .bf16 1 1 512 704 fun _ _ i k => fac X g W 0 i (704 * 0 + k) := by
  simp only [pay6 X g W v w u]
  subst u u'
  simp only [k0_pay10, k0_pay4, k0_pay5, pay3 X g v w, first_gate, first_upper, slope_block, stored_factor]
theorem pay11 (v : V = in0 X) (w : G = in1 g) (u : U0 = wb W 0 0) :
    k0_pay11 (F := Ideal) (k0_pay7 V G U0) = e4 .bf16 1 1 512 704 fun _ _ i k => fac X g W 1 i (704 * 0 + k) := by
  simp only [k0_pay11, pay7 X g W v w u, silu_block, stored_factor]

/-! The second block of columns. -/

theorem pay13 (b : ℕ) (n : B = nb X g) (u : U0 = wb W 0 b) : k0_pay13 (F := Ideal) B U0 = gb X g W b := by
  subst n u; simp only [k0_pay13, first_gate]
theorem pay14 (b : ℕ) (n : B = nb X g) (u : U0 = wb W 1 b) : k0_pay14 (F := Ideal) B U0 = ub X g W b := by
  subst n u; simp only [k0_pay14, first_upper]
section
variable (b : ℕ) (n : B = nb X g) (u : U0 = wb W 0 b) (u' : U1 = wb W 1 b)
include n u

theorem pay16 : k0_pay16 (F := Ideal) (k0_pay15 B U0) (Scalar.ofBits .f32 0x3F000000#32) = sb X g W b := by
  simp only [k0_pay16, k0_pay15, pay13 X g W b n u, logistic_block]
theorem pay21 : k0_pay21 (F := Ideal) (k0_pay13 B U0) (k0_pay15 B U0) (Scalar.ofBits .f32 0x3F000000#32)
    = e4 .bf16 1 1 512 704 fun _ _ i k => fac X g W 1 i (704 * b + k) := by
  simp only [k0_pay21, k0_pay17, pay16 X g W b n u, pay13 X g W b n u, silu_block, stored_factor]
include u'
theorem pay18 : k0_pay18 (F := Ideal) (k0_pay13 B U0) (k0_pay14 B U1) (k0_pay15 B U0) (Scalar.ofBits .f32 0x3F000000#32)
    = hb X g W b := by
  simp only [k0_pay18, k0_pay17, pay16 X g W b n u, pay13 X g W b n u, pay14 X g W b n u', hidden_block]
theorem pay19 : k0_pay19 (F := Ideal) (k0_pay13 B U0) (k0_pay14 B U1) (k0_pay15 B U0) (Scalar.ofBits .f32 0x3F000000#32)
    = e3 .bf16 1 512 704 fun _ i k => hidden X g W i (704 * b + k) := by
  simp only [k0_pay19, pay18 X g W b n u u', stored_hidden]
theorem pay20 : k0_pay20 (F := Ideal) (k0_pay13 B U0) (k0_pay14 B U1) (k0_pay15 B U0) (Scalar.ofBits .f32 0x3F000000#32)
    = e4 .bf16 1 1 512 704 fun _ _ i k => fac X g W 0 i (704 * b + k) := by
  simp only [k0_pay20, pay16 X g W b n u, pay13 X g W b n u, pay14 X g W b n u', slope_block, stored_factor]
end

/-! The third block of columns. -/

section
variable (b : ℕ) (n : B = nb X g) (u : U0 = wb W 0 b) (u' : U1 = wb W 1 b)
include n u

theorem pay23 : k0_pay23 (F := Ideal) B U0 = gb X g W b := by
  subst n u; simp only [k0_pay23, first_gate]
omit u in
include u' in
theorem pay24 : k0_pay24 (F := Ideal) B U1 = ub X g W b := by
  subst n u'; simp only [k0_pay24, first_upper]
omit n u in
theorem pay25 : k0_pay25 (F := Ideal) (gb X g W b) = sb X g W b := by
  simp only [k0_pay25, logistic_block]
theorem pay30 : k0_pay30 (F := Ideal) (k0_pay23 B U0) = e4 .bf16 1 1 512 704 fun _ _ i k => fac X g W 1 i (704 * b + k) := by
  simp only [k0_pay30, k0_pay26, pay23 X g W b n u, pay25, silu_block, stored_factor]
include u'
theorem pay27 : k0_pay27 (F := Ideal) B (k0_pay23 B U0) U1 = hb X g W b := by
  simp only [k0_pay27, k0_pay26, pay23 X g W b n u, pay24 X g W b n u', pay25, hidden_block]
theorem pay28 : k0_pay28 (F := Ideal) B (k0_pay23 B U0) U1 = e3 .bf16 1 512 704 fun _ i k => hidden X g W i (704 * b + k) := by
  simp only [k0_pay28, pay27 X g W b n u u', stored_hidden]
theorem pay29 : k0_pay29 (F := Ideal) B (k0_pay23 B U0) U1 = e4 .bf16 1 1 512 704 fun _ _ i k => fac X g W 0 i (704 * b + k) := by
  simp only [k0_pay29, pay23 X g W b n u, pay24 X g W b n u', pay25, slope_block, stored_factor]
end

/-! The fourth block of columns. -/

section
variable (b : ℕ) (n : B = nb X g) (u : U0 = wb W 0 b) (u' : U1 = wb W 1 b)
include n u

theorem pay33 : k0_pay33 (F := Ideal) B U0 = gb X g W b := by
  subst n u; simp only [k0_pay33, first_gate]
omit u in
include u' in
theorem pay34 : k0_pay34 (F := Ideal) B U1 = ub X g W b := by
  subst n u'; simp only [k0_pay34, first_upper]
theorem pay35 : k0_pay35 (F := Ideal) B U0 = sb X g W b := by
  simp only [k0_pay35, pay33 X g W b n u, logistic_block]
theorem pay1 : k0_pay1 (F := Ideal) (k0_pay40 B U0) = e4 .bf16 1 1 512 704 fun _ _ i k => fac X g W 1 i (704 * b + k) := by
  simp only [k0_pay1, k0_pay40, k0_pay36, pay33 X g W b n u, pay35 X g W b n u, silu_block, stored_factor]
include u'
theorem pay37 : k0_pay37 (F := Ideal) B U0 U1 = hb X g W b := by
  simp only [k0_pay37, k0_pay36, pay33 X g W b n u, pay34 X g W b n u', pay35 X g W b n u, hidden_block]
theorem pay38 : k0_pay38 (F := Ideal) B U0 U1 = e3 .bf16 1 512 704 fun _ i k => hidden X g W i (704 * b + k) := by
  simp only [k0_pay38, pay37 X g W b n u u', stored_hidden]
theorem pay39 : k0_pay39 (F := Ideal) B U0 U1 = e4 .bf16 1 1 512 704 fun _ _ i k => fac X g W 0 i (704 * b + k) := by
  simp only [k0_pay39, pay33 X g W b n u, pay34 X g W b n u', pay35 X g W b n u, slope_block, stored_factor]
end

/-! The sum of the four products. -/

theorem pay9 {H : FVec Ideal S512x704 .bf16} (h : H = hb X g W 0) :
    k0_pay9 (F := Ideal) H = e3 .bf16 1 512 704 fun _ i k => hidden X g W i (704 * 0 + k) := by
  subst h; simp only [k0_pay9, stored_hidden]

theorem pay2 {U1' U2 U2' U3 U3' : FVec Ideal S1x1x704x1024 .bf16} {H : FVec Ideal S512x704 .bf16}
    {P0 P1 P2 P3 : FVec Ideal S1x704x1024 .bf16}
    (v : V = in0 X) (n : B = nb X g) (h : H = hb X g W 0)
    (u1 : U1 = wb W 0 1) (u1' : U1' = wb W 1 1) (u2 : U2 = wb W 0 2) (u2' : U2' = wb W 1 2) (u3 : U3 = wb W 0 3)
    (u3' : U3' = wb W 1 3) (p0 : P0 = pb P 0) (p1 : P1 = pb P 1) (p2 : P2 = pb P 2) (p3 : P3 = pb P 3) :
    k0_pay2 (F := Ideal) (k0_pay32 (k0_pay22 (k0_pay12 V H P0) (k0_pay13 B U1) (k0_pay14 B U1') (k0_pay15 B U1)
        (Scalar.ofBits .f32 0x3F000000#32) P1) (k0_pay31 B (k0_pay23 B U2) U2' P2)) (k0_pay37 B U3 U3') P3
      = e2 .f32 512 1024 (out X g W P) := by
  simp only [k0_pay2, k0_pay32, k0_pay22, k0_pay12, k0_pay31, pay18 X g W 1 n u1 u1', pay27 X g W 2 n u2 u2',
    pay37 X g W 3 n u3 u3']
  subst v h p0 p1 p2 p3
  simp only [second, in0, ob, addf_e2]
  exact e2_ext fun i j _ _ => out_parts X g W P i j

end

end Cert.Fwd

end
-- ==== Proof.Fwd.Left.lean ====
/-
  What one grid point of the forward kernel leaves in its four outputs.
-/
module

public import proofs.«01_k».proof.Proof.Fwd.Payload
public import proofs.«01_k».proof.Proof.Gen.Kernel8Ideal.Frame

@[expose] public section

set_option maxRecDepth 16384

noncomputable section

namespace Cert.Fwd

open Idealize.ShloMosaic Cert.Mix Cert.Kernel8Ideal Cert.Kernel8Ideal.Gen

variable (X : ℕ → ℕ → EReal) (g : ℕ → EReal) (W P : ℕ → ℕ → EReal)

theorem zero2 : (![0, 0] : Fin 2 → ℕ) = fun _ => 0 := by
  funext a; fin_cases a <;> rfl

theorem whole0 : View.ld (in0 X) r0_0 = in0 X := View.ld_unit_zero zero2 _ _
theorem whole1 : View.ld (in1 g) r0_1 = in1 g := View.ld_unit_zero zero2 _ _

theorem w0 : View.ld (in2 W) r0_2 = wb W 0 0 := ld_piece 0 0 _ _
theorem w1 : View.ld (in2 W) r0_8 = wb W 0 1 := ld_piece 0 1 _ _
theorem w2 : View.ld (in2 W) r0_14 = wb W 0 2 := ld_piece 0 2 _ _
theorem w3 : View.ld (in2 W) r0_20 = wb W 0 3 := ld_piece 0 3 _ _
theorem w0' : View.ld (in2 W) r0_3 = wb W 1 0 := ld_piece 1 0 _ _
theorem w1' : View.ld (in2 W) r0_9 = wb W 1 1 := ld_piece 1 1 _ _
theorem w2' : View.ld (in2 W) r0_15 = wb W 1 2 := ld_piece 1 2 _ _
theorem w3' : View.ld (in2 W) r0_21 = wb W 1 3 := ld_piece 1 3 _ _
theorem p0 : View.ld (in3 P) r0_7 = pb P 0 := ld_block 0 _ _
theorem p1 : View.ld (in3 P) r0_13 = pb P 1 := ld_block 1 _ _
theorem p2 : View.ld (in3 P) r0_19 = pb P 2 := ld_block 2 _ _
theorem p3 : View.ld (in3 P) r0_25 = pb P 3 := ld_block 3 _ _

theorem norm : k0_pay41 (F := Ideal) (in0 X) (in1 g) (in2 W) (in3 P) = nb X g := pay3 X g (whole0 X) (whole1 g)

theorem left7 : out0_7 (F := Ideal) (in0 X) (in1 g) (in2 W) (in3 P) = e2 .bf16 512 1024 (normed X g) :=
  (View.canon_unit_zero zero2 _ _).trans (pay3 X g (whole0 X) (whole1 g))

theorem left4 : out0_4 (F := Ideal) (in0 X) (in1 g) (in2 W) (in3 P) = e2 .f32 512 1024 (out X g W P) :=
  (View.canon_unit_zero zero2 _ _).trans (pay2 X g W P (whole0 X) (norm X g W P)
    (pay8 X g W (whole0 X) (whole1 g) (w0 W) (w0' W)) (w1 W) (w1' W) (w2 W) (w2' W) (w3 W) (w3' W) (p0 P) (p1 P) (p2 P) (p3 P))

theorem left5 : out0_5 (F := Ideal) (in0 X) (in1 g) (in2 W) (in3 P)
    = e3 .bf16 4 512 704 fun b i k => hidden X g W i (704 * b + k) :=
  canon_slabs (fun b i k => hidden X g W i (704 * b + k))
    (pay9 X g W (pay8 X g W (whole0 X) (whole1 g) (w0 W) (w0' W)))
    (pay19 X g W 1 (norm X g W P) (w1 W) (w1' W))
    (pay28 X g W 2 (norm X g W P) (w2 W) (w2' W))
    (pay38 X g W 3 (norm X g W P) (w3 W) (w3' W))

theorem left6 : out0_6 (F := Ideal) (in0 X) (in1 g) (in2 W) (in3 P)
    = e4 .bf16 2 4 512 704 fun s b i k => fac X g W s i (704 * b + k) :=
  canon_pieces (fun s b i k => fac X g W s i (704 * b + k))
    (pay10 X g W (whole0 X) (whole1 g) (w0 W) (w0' W))
    (pay11 X g W (whole0 X) (whole1 g) (w0 W))
    (pay20 X g W 1 (norm X g W P) (w1 W) (w1' W))
    (pay21 X g W 1 (norm X g W P) (w1 W))
    (pay29 X g W 2 (norm X g W P) (w2 W) (w2' W))
    (pay30 X g W 2 (norm X g W P) (w2 W))
    (pay39 X g W 3 (norm X g W P) (w3 W) (w3' W))
    (pay1 X g W 3 (norm X g W P) (w3 W))

end Cert.Fwd

end
-- ==== Proof.Fwd.Ref.lean ====
/-
  The reference for the forward pass of the channel mixer, read on arbitrary arrays. The lemmas go through the program in its
  order; `e_v17` says what buffer `v17` holds.
-/
module

public import proofs.«01_k».proof.Proof.Fwd.Formula
public import proofs.«01_k».proof.Proof.Gen.Reference8Ideal.Read

@[expose] public section

set_option maxRecDepth 16384

noncomputable section

namespace Cert.Fwd

open Cert.Reference8Ideal Cert.Reference8Ideal.Gen Cert.Reference8Ideal.Read Idealize.ShloMosaic Cert.Mix

/-- The arguments' entries. -/
structure Args where
  X : ℕ → ℕ → EReal
  g : ℕ → EReal
  W : ℕ → ℕ → EReal
  P : ℕ → ℕ → EReal

variable (A : Args)

def aX : FVec Ideal S4096x1024 .f32 := e2 .f32 4096 1024 A.X
def aG : FVec Ideal S1024 .f32 := e1 .f32 1024 A.g
def aW : FVec Ideal S1024x5632 .f32 := e2 .f32 1024 5632 A.W
def aP : FVec Ideal S2816x1024 .f32 := e2 .f32 2816 1024 A.P

/-- One array upon the other. -/
theorem upon (f : ℕ → ℕ → ℕ → EReal) (g h : ℕ → ℕ → EReal) (hf : ∀ s i j, f s i j = if s = 0 then g i j else h i j) :
    concatenate S2x4096x2816 0
      [⟨S1x4096x2816, (e3 .f32 1 4096 2816 fun _ i j => g i j : FVec Ideal S1x4096x2816 .f32)⟩,
        ⟨S1x4096x2816, (e3 .f32 1 4096 2816 fun _ i j => h i j : FVec Ideal S1x4096x2816 .f32)⟩]
      concatenates_S1x4096x2816_S1x4096x2816_S2x4096x2816_d0
    = e3 .f32 2 4096 2816 f := by
  funext j
  have j0 : (j 0).val < 2 := (j 0).isLt
  show _ = f (j 0).val (j 1).val (j 2).val
  rw [hf]
  by_cases e : (j 0).val = 0
  · rw [if_pos e]
    exact (concatenate_pair_apply_left (t := S2x4096x2816) (s₁ := S1x4096x2816) (s₂ := S1x4096x2816) 0 _ _ _ j rfl
      (ix3 0 (j 1) (j 2)) fun b => match b with
      | ⟨0, _⟩ => e.symm
      | ⟨1, _⟩ => rfl
      | ⟨2, _⟩ => rfl).trans rfl
  · rw [if_neg e]
    exact (concatenate_pair_apply_right (t := S2x4096x2816) (s₁ := S1x4096x2816) (s₂ := S1x4096x2816) 0 _ _ _ j rfl rfl
      (ix3 0 (j 1) (j 2)) (fun b hb => match b with
      | ⟨0, _⟩ => absurd rfl hb
      | ⟨1, _⟩ => rfl
      | ⟨2, _⟩ => rfl) (by show 0 + 1 = (j 0).val; omega)).trans rfl

/-- Columns in four blocks, the block before the row. -/
theorem slabs (f : ℕ → ℕ → EReal) : transpose S4x4096x704 [1, 0, 2] (shapeCast S4096x4x704
      (e2 .f32 4096 2816 f : FVec Ideal S4096x2816 .f32) shapeCasts_S4096x2816_S4096x4x704)
      transposes_S4096x4x704_S4x4096x704_1_0_2
    = e3 .f32 4 4096 704 fun b i k => f i (704 * b + k) := by
  funext i
  have i0 : (i 0).val < 4 := (i 0).isLt
  have i1 : (i 1).val < 4096 := (i 1).isLt
  have i2 : (i 2).val < 704 := (i 2).isLt
  refine (transpose_apply [1, 0, 2] _ transposes_S4096x4x704_S4x4096x704_1_0_2 i
    (ix3 ⟨(i 1).val, i1⟩ ⟨(i 0).val, i0⟩ ⟨(i 2).val, i2⟩) (fun b => match b with
    | ⟨0, _⟩ => rfl
    | ⟨1, _⟩ => rfl
    | ⟨2, _⟩ => rfl)).trans ?_
  refine (shapeCast_apply _ shapeCasts_S4096x2816_S4096x4x704 _
    (ix2 ⟨(i 1).val, i1⟩ ⟨704 * (i 0).val + (i 2).val, by omega⟩) ?_).trans rfl
  rw [Shape.rowMajor_val_two, Shape.rowMajor_val_three]
  show (i 1).val * 2816 + (704 * (i 0).val + (i 2).val) = ((i 1).val * 4 + (i 0).val) * 704 + (i 2).val
  omega

theorem blocks_first (f : ℕ → ℕ → ℕ → EReal) : transpose S2x4x4096x704 [0, 2, 1, 3] (shapeCast S2x4096x4x704
      (e3 .f32 2 4096 2816 f : FVec Ideal S2x4096x2816 .f32) shapeCasts_S2x4096x2816_S2x4096x4x704)
      transposes_S2x4096x4x704_S2x4x4096x704_0_2_1_3
    = e4 .f32 2 4 4096 704 fun s b i k => f s i (704 * b + k) := by
  funext i
  have i0 : (i 0).val < 2 := (i 0).isLt
  have i1 : (i 1).val < 4 := (i 1).isLt
  have i2 : (i 2).val < 4096 := (i 2).isLt
  have i3 : (i 3).val < 704 := (i 3).isLt
  refine (transpose_apply [0, 2, 1, 3] _ transposes_S2x4096x4x704_S2x4x4096x704_0_2_1_3 i
    (ix4 ⟨(i 0).val, i0⟩ ⟨(i 2).val, i2⟩ ⟨(i 1).val, i1⟩ ⟨(i 3).val, i3⟩) (fun b => match b with
    | ⟨0, _⟩ => rfl
    | ⟨1, _⟩ => rfl
    | ⟨2, _⟩ => rfl
    | ⟨3, _⟩ => rfl)).trans ?_
  refine (shapeCast_apply _ shapeCasts_S2x4096x2816_S2x4096x4x704 _
    (ix3 ⟨(i 0).val, i0⟩ ⟨(i 2).val, i2⟩ ⟨704 * (i 1).val + (i 3).val, by omega⟩) ?_).trans rfl
  rw [Shape.rowMajor_val_three, Shape.rowMajor_val_four]
  show ((i 0).val * 4096 + (i 2).val) * 2816 + (704 * (i 1).val + (i 3).val)
    = (((i 0).val * 4096 + (i 2).val) * 4 + (i 1).val) * 704 + (i 3).val
  omega

theorem e_v0 : val_main_v0 (F := Ideal) (aX A)
    = e2 .f32 4096 1024 fun i j => A.X i j * A.X i j := by
  rfl

theorem e_v1 : val_main_v1 (F := Ideal) (aX A)
    = e1 .f32 4096 fun i => ∑ k : Fin 1024, A.X i k * A.X i k := by
  funext i
  refine (val_main_v1_apply _ i).trans ?_
  rw [e_v0]
  exact (congrArg (· + _) word_zero).trans (zero_add _)

theorem e_v2 : val_main_v2 (F := Ideal) (aX A)
    = e2 .f32 4096 1 fun i _ => ∑ k : Fin 1024, A.X i k * A.X i k := by
  funext i
  refine (val_main_v2_apply _ i).trans ?_
  rw [e_v1]
  rfl

theorem e_v3 : val_main_v3 (F := Ideal)
    = e2 .f32 4096 1 fun _ _ => ((1024 : ℝ) : EReal) := by
  exact spread_const w_1024 _

theorem e_v4 : val_main_v4 (F := Ideal) (aX A)
    = e2 .f32 4096 1 fun i _ => Ideal.div (∑ k : Fin 1024, A.X i k * A.X i k) ((1024 : ℝ) : EReal) := by
  simp only [val_main_v4, e_v2, e_v3, host_divf_e2]

theorem e_v5 : val_main_v5 (F := Ideal)
    = e2 .f32 4096 1 fun _ _ => (eps : EReal) := by
  exact spread_const w_eps _

theorem e_v7 : val_main_v7 (F := Ideal) (aX A)
    = e2 .f32 4096 1 fun i _ => root A.X i := by
  simp only [val_main_v7, val_main_v6, e_v4, e_v5, addf_e2, host_rsqrt_e2]
  rfl

theorem e_v8 : val_main_v8 (F := Ideal) (aX A)
    = e2 .f32 4096 1024 fun i _ => root A.X i := by
  funext i
  refine (val_main_v8_apply _ i).trans ?_
  rw [e_v7]
  rfl

theorem e_v11 : val_main_v11 (F := Ideal) (aG A)
    = e2 .f32 4096 1024 fun _ j => A.g j := by
  funext i
  refine (val_main_v11_apply _ i).trans ?_
  exact (val_main_v10_apply _ _).trans rfl

theorem e_v12 : val_main_v12 (F := Ideal) (aX A) (aG A)
    = e2 .f32 4096 1024 (normed A.X A.g) := by
  simp only [val_main_v12, val_main_v9, e_v8, e_v11]
  rfl

theorem e_v13 : val_main_v13 (F := Ideal) (aX A) (aG A) (aW A)
    = e2 .f32 4096 5632 (proj A.X A.g A.W) := by
  funext i
  refine (val_main_v13_apply _ _ _ i).trans ?_
  rw [e_v12]
  rfl

theorem e_v14 : val_main_v14 (F := Ideal) (aX A) (aG A) (aW A)
    = e2 .f32 4096 2816 (gate A.X A.g A.W) := by
  funext i
  refine (val_main_v14_apply _ _ _ i).trans ?_
  rw [e_v13]
  rfl

theorem e_v15 : val_main_v15 (F := Ideal) (aX A) (aG A) (aW A)
    = e2 .f32 4096 2816 (upper A.X A.g A.W) := by
  funext i
  refine (val_main_v15_apply _ _ _ i).trans ?_
  rw [e_v13]
  rfl

theorem e_call0_v2 : val_main_call0_v2 (F := Ideal)
    = e2 .f32 4096 2816 fun _ _ => 1 := by
  exact spread_const word_one _

theorem e_call0_v4 : val_main_call0_v4 (F := Ideal)
    = e2 .f32 4096 2816 fun _ _ => 1 := by
  exact spread_const word_one _

theorem e_call0_v6 : val_main_call0_v6 (F := Ideal)
    = e2 .f32 4096 2816 fun _ _ => 1 := by
  exact spread_const word_one _

theorem e_v18 : val_main_v18 (F := Ideal)
    = e2 .f32 4096 2816 fun _ _ => 1 := by
  exact spread_const word_one _

theorem e_v16_2 : val_main_v16_2 (F := Ideal) (aX A) (aG A) (aW A)
    = e2 .f32 4096 2816 fun i j => sgm (gate A.X A.g A.W i j) := by
  simp only [val_main_v16_2, val_main_call0_v3, val_main_call0_v1, val_main_call0_v0, e_v14, e_call0_v2, e_call0_v4, host_negf_e2,
    host_exp_e2, addf_e2, host_divf_e2, gate_div]

theorem e_v16_1 : val_main_v16_1 (F := Ideal) (aX A) (aG A) (aW A)
    = e2 .f32 4096 2816 fun i j => sgm (gate A.X A.g A.W i j) * (1 - sgm (gate A.X A.g A.W i j)) := by
  simp only [val_main_v16_1, val_main_call0_v7, e_v16_2, e_call0_v6, subf_e2, mulf_e2]

theorem e_v16_0 : val_main_v16_0 (F := Ideal) (aX A) (aG A) (aW A)
    = e2 .f32 4096 2816 fun i j => silu (gate A.X A.g A.W i j) := by
  simp only [val_main_v16_0, e_v14, e_v16_2, mulf_e2]
  rfl

theorem e_v17 : val_main_v17 (F := Ideal) (aX A) (aG A) (aW A)
    = e2 .f32 4096 2816 (hidden A.X A.g A.W) := by
  simp only [val_main_v17, e_v16_0, e_v15, mulf_e2]
  rfl

theorem e_v19 : val_main_v19 (F := Ideal) (aX A) (aG A) (aW A)
    = e2 .f32 4096 2816 fun i j => slope (gate A.X A.g A.W i j) := by
  simp only [val_main_v19, val_main_call1_v1, val_main_call1_v2, val_main_call1_v0, e_v18, e_v16_2, e_v16_1, e_v14, mulf_e2, addf_e2,
    slope_sum]

theorem e_v20 : val_main_v20 (F := Ideal) (aX A) (aG A) (aW A)
    = e2 .f32 4096 2816 fun i j => upper A.X A.g A.W i j * slope (gate A.X A.g A.W i j) := by
  simp only [val_main_v20, e_v15, e_v19, mulf_e2]

theorem e_v21 : val_main_v21 (F := Ideal) (aX A) (aG A) (aW A)
    = e3 .f32 1 4096 2816 fun _ i j => upper A.X A.g A.W i j * slope (gate A.X A.g A.W i j) := by
  funext i
  refine (val_main_v21_apply _ _ _ i).trans ?_
  rw [e_v20]
  rfl

theorem e_v22 : val_main_v22 (F := Ideal) (aX A) (aG A) (aW A)
    = e3 .f32 1 4096 2816 fun _ i j => silu (gate A.X A.g A.W i j) := by
  funext i
  refine (val_main_v22_apply _ _ _ i).trans ?_
  rw [e_v16_0]
  rfl

theorem e_v23 : val_main_v23 (F := Ideal) (aX A) (aG A) (aW A)
    = e3 .f32 2 4096 2816 (fac A.X A.g A.W) := by
  unfold val_main_v23
  rw [e_v21, e_v22]
  exact upon _ _ _ fun _ _ _ => rfl

theorem e_v24 : val_main_v24 (F := Ideal) (aX A) (aG A) (aW A) (aP A)
    = e2 .f32 4096 1024 fun i j => ∑ k : Fin 2816, hidden A.X A.g A.W i k * A.P k j := by
  funext i
  refine (val_main_v24_apply _ _ _ _ i).trans ?_
  rw [e_v17]
  rfl

theorem e_v25 : val_main_v25 (F := Ideal) (aX A) (aG A) (aW A) (aP A)
    = e2 .f32 4096 1024 (out A.X A.g A.W A.P) := by
  simp only [val_main_v25, e_v24]
  rfl

theorem e_v28 : val_main_v28 (F := Ideal) (aX A) (aG A) (aW A)
    = e3 .bf16 4 4096 704 fun b i k => hidden A.X A.g A.W i (704 * b + k) := by
  simp only [val_main_v28, val_main_v27, val_main_v26, e_v17]
  exact congrArg (fun v : FVec Ideal S4x4096x704 .f32 => truncf .bf16 v bitsLt_bf16_f32) (slabs _)

theorem e_v31 : val_main_v31 (F := Ideal) (aX A) (aG A) (aW A)
    = e4 .bf16 2 4 4096 704 fun s b i k => fac A.X A.g A.W s i (704 * b + k) := by
  simp only [val_main_v31, val_main_v30, val_main_v29, e_v23]
  exact congrArg (fun v : FVec Ideal S2x4x4096x704 .f32 => truncf .bf16 v bitsLt_bf16_f32) (blocks_first _)

theorem e_v32 : val_main_v32 (F := Ideal) (aX A) (aG A)
    = e2 .bf16 4096 1024 (normed A.X A.g) := by
  simp only [val_main_v32, e_v12, truncf_e2]

end Cert.Fwd

end
-- ==== Proof.Fwd.State.lean ====
/-
  What the forward kernel reads: the arrays prepared before the launch, and at each grid point the blocks of them; and, from
  what each point leaves, the four arrays at the end.
-/
module

public import proofs.«01_k».proof.Proof.Fwd.Left
public import proofs.«01_k».proof.Proof.Fwd.Ref
public import proofs.«01_k».proof.Proof.Gen.Kernel8Ideal.Value
public import Idealize.ShloMosaic.Lib.StableHlo.Run
public import Idealize.ShloMosaic.Lib.Claim

@[expose] public section

set_option maxRecDepth 16384

noncomputable section

namespace Cert.Fwd

open Idealize.ShloMosaic Idealize.ShloMosaic.TcCoe Cert.Kernel8Ideal Cert.Kernel8Ideal.Gen Cert.Kernel8Ideal.Value Cert.Mix

variable (m : (ℓ : Loc nD τ sig) → Buf (Elt Ideal) ℓ) (c : Dev nD) (A : Args)

/-- The launch memory holds the arguments `A`. -/
structure Holds : Prop where
  x : m ((c : Thread nD τ).loc main_arg0) = e2 .f32 4096 1024 A.X
  g : m ((c : Thread nD τ).loc main_arg1) = e1 .f32 1024 A.g
  w : m ((c : Thread nD τ).loc main_arg2) = e2 .f32 1024 5632 A.W
  p : m ((c : Thread nD τ).loc main_arg3) = e2 .f32 2816 1024 A.P

/-! ### The arrays prepared on the host -/

/-- The second weight in four blocks of 704 rows. -/
theorem row_blocks_out (f : ℕ → ℕ → EReal) (h1 : S2816x1024.ShapeCasts S4x704x1024) :
    shapeCast S4x704x1024 (e2 .f32 2816 1024 f : FVec Ideal S2816x1024 .f32) h1
      = e3 .f32 4 704 1024 fun b k j => f (704 * b + k) j := by
  funext i
  have i0 : (i 0).val < 4 := (i 0).isLt
  have i1 : (i 1).val < 704 := (i 1).isLt
  have i2 : (i 2).val < 1024 := (i 2).isLt
  refine (shapeCast_apply _ h1 _ (ix2 ⟨704 * (i 0).val + (i 1).val, by omega⟩ ⟨(i 2).val, i2⟩) ?_).trans rfl
  rw [Shape.rowMajor_val_two, Shape.rowMajor_val_three]
  show (704 * (i 0).val + (i 1).val) * 1024 + (i 2).val = ((i 0).val * 704 + (i 1).val) * 1024 + (i 2).val
  omega

/-- The first weight transposed, each half in four blocks of 704 rows. -/
theorem row_blocks_in (f : ℕ → ℕ → EReal) (h1 : S5632x1024.ShapeCasts S2x4x704x1024) (h2 : S1024x5632.Transposes [1, 0] S5632x1024) :
    shapeCast S2x4x704x1024 (transpose S5632x1024 [1, 0] (e2 .f32 1024 5632 f : FVec Ideal S1024x5632 .f32) h2) h1
      = e4 .f32 2 4 704 1024 fun s b k j => f j (2816 * s + (704 * b + k)) := by
  funext i
  have i0 : (i 0).val < 2 := (i 0).isLt
  have i1 : (i 1).val < 4 := (i 1).isLt
  have i2 : (i 2).val < 704 := (i 2).isLt
  have i3 : (i 3).val < 1024 := (i 3).isLt
  refine (shapeCast_apply _ h1 _ (ix2 ⟨2816 * (i 0).val + (704 * (i 1).val + (i 2).val), by omega⟩ ⟨(i 3).val, i3⟩) ?_).trans ?_
  · rw [Shape.rowMajor_val_two, Shape.rowMajor_val_four]
    show (2816 * (i 0).val + (704 * (i 1).val + (i 2).val)) * 1024 + (i 3).val
      = (((i 0).val * 4 + (i 1).val) * 704 + (i 2).val) * 1024 + (i 3).val
    omega
  · exact (transpose_apply [1, 0] _ h2 _ (ix2 ⟨(i 3).val, i3⟩ ⟨2816 * (i 0).val + (704 * (i 1).val + (i 2).val), by omega⟩) (fun b => match b with
      | ⟨0, _⟩ => rfl
      | ⟨1, _⟩ => rfl)).trans rfl

variable {m c A} (h : Holds m c A)
include h

theorem host_v2 : V m c main_v2 = e4 .bf16 2 4 704 1024 fun s b k j => A.W j (2816 * s + (704 * b + k)) := by
  have e : V m c main_v2 = (truncf .bf16 (shapeCast S2x4x704x1024 (transpose S5632x1024 [1, 0]
      (m ((c : Thread nD τ).loc main_arg2)) transposes_S1024x5632_S5632x1024_1_0) shapeCasts_S5632x1024_S2x4x704x1024)
      bitsLt_bf16_f32 : FVec Ideal S2x4x704x1024 .bf16) := by
    unfold_abbrev_sides
    after_results
    rfl
  rw [e, h.w, row_blocks_in]; rfl

theorem host_v4 : V m c main_v4 = e3 .bf16 4 704 1024 fun b k j => A.P (704 * b + k) j := by
  have e : V m c main_v4 = (truncf .bf16 (shapeCast S4x704x1024
      (m ((c : Thread nD τ).loc main_arg3)) shapeCasts_S2816x1024_S4x704x1024)
      bitsLt_bf16_f32 : FVec Ideal S4x704x1024 .bf16) := by
    unfold_abbrev_sides
    after_results
    rfl
  rw [e, h.p, row_blocks_out]; rfl

theorem host_v5 : V m c main_v5 = e2 .f32 1 1024 fun _ j => A.g j := by
  have e : V m c main_v5 = broadcastInDim S1x1024 ![1] bcast_S1024_S1x1024_1 (m ((c : Thread nD τ).loc main_arg1)) := by
    unfold_abbrev_sides
    after_results
  rw [e, h.g]
  funext i
  simp only [broadcastInDim_apply]
  rfl

/-! ### The blocks -/

/-- The rows from `n` on. -/
def rowsFrom (n : ℕ) (f : ℕ → ℕ → EReal) (i j : ℕ) : EReal := f (n + i) j

variable (t : Fin cfg0.N)

omit h in
theorem at0 : win0_0.index t = ![t.val, 0] := (by decide +kernel : ∀ t : Fin grid0.N, win0_0.index t = ![t.val, 0]) t

theorem blk0 : iblk m c 0 t = in0 (rowsFrom (512 * t.val) A.X) := by
  funext j
  have e : iblk m c 0 t j = V m c main_arg0 (((cfg0.win 0).blk t).view.emb j) := by
    unfold iblk
    generalize V m c = G
    rfl
  have b0 : (((cfg0.win 0).blk t).view.emb j 0).val = win0_0.index t (0 : Fin 2) * 512 + 1 * (j 0).val := rfl
  have b1 : (((cfg0.win 0).blk t).view.emb j 1).val = win0_0.index t (1 : Fin 2) * 1024 + 1 * (j 1).val := rfl
  rw [at0] at b0 b1
  have c0 : (((cfg0.win 0).blk t).view.emb j 0).val = 512 * t.val + (j 0).val :=
    b0.trans (by show t.val * 512 + 1 * _ = _; omega)
  have c1 : (((cfg0.win 0).blk t).view.emb j 1).val = (j 1).val := b1.trans (by show 0 * 1024 + 1 * _ = _; omega)
  rw [e, V_main_arg0, h.x]
  simp only [e2, c0, c1]
  rfl

omit h in
theorem at1 : win0_1.index t = ![0, 0] := (by decide +kernel : ∀ t : Fin grid0.N, win0_1.index t = ![0, 0]) t

theorem blk1 : iblk m c 1 t = in1 A.g := by
  funext j
  have e : iblk m c 1 t j = V m c main_v5 (((cfg0.win 1).blk t).view.emb j) := by
    unfold iblk
    generalize V m c = G
    rfl
  have b0 : (((cfg0.win 1).blk t).view.emb j 0).val = win0_1.index t (0 : Fin 2) * 1 + 1 * (j 0).val := rfl
  have b1 : (((cfg0.win 1).blk t).view.emb j 1).val = win0_1.index t (1 : Fin 2) * 1024 + 1 * (j 1).val := rfl
  rw [at1] at b0 b1
  have c0 : (((cfg0.win 1).blk t).view.emb j 0).val = (j 0).val := b0.trans (by show 0 * 1 + 1 * _ = _; omega)
  have c1 : (((cfg0.win 1).blk t).view.emb j 1).val = (j 1).val := b1.trans (by show 0 * 1024 + 1 * _ = _; omega)
  rw [e, host_v5 h]
  simp only [e2, c0, c1]
  rfl

omit h in
theorem at2 : win0_2.index t = ![0, 0, 0, 0] := (by decide +kernel : ∀ t : Fin grid0.N, win0_2.index t = ![0, 0, 0, 0]) t

omit h in
theorem read_named (G : (b : Ref sig Kind.tc) → Buf (Elt Ideal) ((c : Thread nD τ).loc b)) (j) :
    View.read (Elt Ideal) ((cfg0.win 2).blk t).view (G (Pipeline.arrRef spec0 2)) j
      = View.read (Elt Ideal) ((cfg0.win 2).blk t).view (G main_v2) j := rfl

omit h in
theorem read_named_at (G : (b : Ref sig Kind.tc) → Buf (Elt Ideal) ((c : Thread nD τ).loc b)) (j) :
    View.read (Elt Ideal) ((cfg0.win 2).blk t).view (G main_v2) j = G main_v2 (((cfg0.win 2).blk t).view.emb j) := rfl

theorem blk2 : iblk m c 2 t = in2 A.W := by
  funext j
  have e : iblk m c 2 t j = V m c main_v2 (((cfg0.win 2).blk t).view.emb j) := by
    unfold iblk
    exact (read_named t (V m c) j).trans (read_named_at t (V m c) j)
  have b0 : (((cfg0.win 2).blk t).view.emb j 0).val = win0_2.index t (0 : Fin 4) * 2 + 1 * (j 0).val := rfl
  have b1 : (((cfg0.win 2).blk t).view.emb j 1).val = win0_2.index t (1 : Fin 4) * 4 + 1 * (j 1).val := rfl
  have b2 : (((cfg0.win 2).blk t).view.emb j 2).val = win0_2.index t (2 : Fin 4) * 704 + 1 * (j 2).val := rfl
  have b3 : (((cfg0.win 2).blk t).view.emb j 3).val = win0_2.index t (3 : Fin 4) * 1024 + 1 * (j 3).val := rfl
  rw [at2] at b0 b1 b2 b3
  have c0 : (((cfg0.win 2).blk t).view.emb j 0).val = (j 0).val := b0.trans (by show 0 * 2 + 1 * _ = _; omega)
  have c1 : (((cfg0.win 2).blk t).view.emb j 1).val = (j 1).val := b1.trans (by show 0 * 4 + 1 * _ = _; omega)
  have c2 : (((cfg0.win 2).blk t).view.emb j 2).val = (j 2).val := b2.trans (by show 0 * 704 + 1 * _ = _; omega)
  have c3 : (((cfg0.win 2).blk t).view.emb j 3).val = (j 3).val := b3.trans (by show 0 * 1024 + 1 * _ = _; omega)
  rw [e, host_v2 h]
  simp only [e4, c0, c1, c2, c3]
  rfl

omit h in
theorem at3 : win0_3.index t = ![0, 0, 0] := (by decide +kernel : ∀ t : Fin grid0.N, win0_3.index t = ![0, 0, 0]) t

theorem blk3 : iblk m c 3 t = in3 A.P := by
  funext j
  have e : iblk m c 3 t j = V m c main_v4 (((cfg0.win 3).blk t).view.emb j) := by
    unfold iblk
    generalize V m c = G
    rfl
  have b0 : (((cfg0.win 3).blk t).view.emb j 0).val = win0_3.index t (0 : Fin 3) * 4 + 1 * (j 0).val := rfl
  have b1 : (((cfg0.win 3).blk t).view.emb j 1).val = win0_3.index t (1 : Fin 3) * 704 + 1 * (j 1).val := rfl
  have b2 : (((cfg0.win 3).blk t).view.emb j 2).val = win0_3.index t (2 : Fin 3) * 1024 + 1 * (j 2).val := rfl
  rw [at3] at b0 b1 b2
  have c0 : (((cfg0.win 3).blk t).view.emb j 0).val = (j 0).val := b0.trans (by show 0 * 4 + 1 * _ = _; omega)
  have c1 : (((cfg0.win 3).blk t).view.emb j 1).val = (j 1).val := b1.trans (by show 0 * 704 + 1 * _ = _; omega)
  have c2 : (((cfg0.win 3).blk t).view.emb j 2).val = (j 2).val := b2.trans (by show 0 * 1024 + 1 * _ = _; omega)
  rw [e, host_v4 h]
  simp only [e3, c0, c1, c2]
  rfl

/-! ### The arrays at the end -/

omit h in
theorem at4 : win0_4.index t = ![t.val, 0] := (by decide +kernel : ∀ t : Fin grid0.N, win0_4.index t = ![t.val, 0]) t

theorem final_out : (dats m 0 c).arrAt 4 cfg0.N = e2 .f32 4096 1024 (out A.X A.g A.W A.P) := by
  funext i
  have hr : (i 0).val < 4096 := (i 0).isLt
  have hlt : (i 0).val / 512 < cfg0.N := lt_of_lt_of_eq (by omega) N_0.symm
  let t : Fin cfg0.N := ⟨(i 0).val / 512, hlt⟩
  let j : S512x1024.Idx := ix2 ⟨(i 0).val % 512, Nat.mod_lt _ (by decide)⟩ (i 1)
  have b := congrFun (blocks4 m c t (Gen.flush0_4 t)) j
  have ei : ((cfg0.win 4).blk t).view.emb j = i := by
    have b0 : (((cfg0.win 4).blk t).view.emb j 0).val = win0_4.index t (0 : Fin 2) * 512 + 1 * (j 0).val := rfl
    have b1 : (((cfg0.win 4).blk t).view.emb j 1).val = win0_4.index t (1 : Fin 2) * 1024 + 1 * (j 1).val := rfl
    rw [at4] at b0 b1
    refine funext fun a => Fin.ext ?_
    match a with
    | ⟨0, _⟩ => exact b0.trans (by show (i 0).val / 512 * 512 + 1 * ((i 0).val % 512) = (i 0).val; omega)
    | ⟨1, _⟩ => exact b1.trans (by show 0 * 1024 + 1 * (i 1).val = (i 1).val; omega)
  rw [flushed4, blk0 h, blk1 h, blk2 h, blk3 h, left4] at b
  refine (congrArg _ ei.symm).trans (b.trans ?_)
  show out A.X A.g A.W A.P (512 * ((i 0).val / 512) + (i 0).val % 512) (i 1).val = out A.X A.g A.W A.P (i 0).val (i 1).val
  rw [show 512 * ((i 0).val / 512) + (i 0).val % 512 = (i 0).val by omega]

omit h in
theorem at5 : win0_5.index t = ![0, t.val, 0] := (by decide +kernel : ∀ t : Fin grid0.N, win0_5.index t = ![0, t.val, 0]) t

theorem final_hidden : (dats m 0 c).arrAt 5 cfg0.N = e3 .bf16 4 4096 704 fun b i k => hidden A.X A.g A.W i (704 * b + k) := by
  funext i
  have hr : (i 1).val < 4096 := (i 1).isLt
  have hlt : (i 1).val / 512 < cfg0.N := lt_of_lt_of_eq (by omega) N_0.symm
  let t : Fin cfg0.N := ⟨(i 1).val / 512, hlt⟩
  let j : S4x512x704.Idx := ix3 (i 0) ⟨(i 1).val % 512, Nat.mod_lt _ (by decide)⟩ (i 2)
  have b := congrFun (blocks5 m c t (Gen.flush0_5 t)) j
  have ei : ((cfg0.win 5).blk t).view.emb j = i := by
    have b0 : (((cfg0.win 5).blk t).view.emb j 0).val = win0_5.index t (0 : Fin 3) * 4 + 1 * (j 0).val := rfl
    have b1 : (((cfg0.win 5).blk t).view.emb j 1).val = win0_5.index t (1 : Fin 3) * 512 + 1 * (j 1).val := rfl
    have b2 : (((cfg0.win 5).blk t).view.emb j 2).val = win0_5.index t (2 : Fin 3) * 704 + 1 * (j 2).val := rfl
    rw [at5] at b0 b1 b2
    refine funext fun a => Fin.ext ?_
    match a with
    | ⟨0, _⟩ => exact b0.trans (by show 0 * 4 + 1 * (i 0).val = (i 0).val; omega)
    | ⟨1, _⟩ => exact b1.trans (by show (i 1).val / 512 * 512 + 1 * ((i 1).val % 512) = (i 1).val; omega)
    | ⟨2, _⟩ => exact b2.trans (by show 0 * 704 + 1 * (i 2).val = (i 2).val; omega)
  rw [flushed5, blk0 h, blk1 h, blk2 h, blk3 h, left5] at b
  refine (congrArg _ ei.symm).trans (b.trans ?_)
  show hidden A.X A.g A.W (512 * ((i 1).val / 512) + (i 1).val % 512) (704 * (i 0).val + (i 2).val) = hidden A.X A.g A.W (i 1).val (704 * (i 0).val + (i 2).val)
  rw [show 512 * ((i 1).val / 512) + (i 1).val % 512 = (i 1).val by omega]

omit h in
theorem at6 : win0_6.index t = ![0, 0, t.val, 0] := (by decide +kernel : ∀ t : Fin grid0.N, win0_6.index t = ![0, 0, t.val, 0]) t

theorem final_factors : (dats m 0 c).arrAt 6 cfg0.N = e4 .bf16 2 4 4096 704 fun s b i k => fac A.X A.g A.W s i (704 * b + k) := by
  funext i
  have hr : (i 2).val < 4096 := (i 2).isLt
  have hlt : (i 2).val / 512 < cfg0.N := lt_of_lt_of_eq (by omega) N_0.symm
  let t : Fin cfg0.N := ⟨(i 2).val / 512, hlt⟩
  let j : S2x4x512x704.Idx := ix4 (i 0) (i 1) ⟨(i 2).val % 512, Nat.mod_lt _ (by decide)⟩ (i 3)
  have b := congrFun (blocks6 m c t (Gen.flush0_6 t)) j
  have ei : ((cfg0.win 6).blk t).view.emb j = i := by
    have b0 : (((cfg0.win 6).blk t).view.emb j 0).val = win0_6.index t (0 : Fin 4) * 2 + 1 * (j 0).val := rfl
    have b1 : (((cfg0.win 6).blk t).view.emb j 1).val = win0_6.index t (1 : Fin 4) * 4 + 1 * (j 1).val := rfl
    have b2 : (((cfg0.win 6).blk t).view.emb j 2).val = win0_6.index t (2 : Fin 4) * 512 + 1 * (j 2).val := rfl
    have b3 : (((cfg0.win 6).blk t).view.emb j 3).val = win0_6.index t (3 : Fin 4) * 704 + 1 * (j 3).val := rfl
    rw [at6] at b0 b1 b2 b3
    refine funext fun a => Fin.ext ?_
    match a with
    | ⟨0, _⟩ => exact b0.trans (by show 0 * 2 + 1 * (i 0).val = (i 0).val; omega)
    | ⟨1, _⟩ => exact b1.trans (by show 0 * 4 + 1 * (i 1).val = (i 1).val; omega)
    | ⟨2, _⟩ => exact b2.trans (by show (i 2).val / 512 * 512 + 1 * ((i 2).val % 512) = (i 2).val; omega)
    | ⟨3, _⟩ => exact b3.trans (by show 0 * 704 + 1 * (i 3).val = (i 3).val; omega)
  rw [flushed6, blk0 h, blk1 h, blk2 h, blk3 h, left6] at b
  refine (congrArg _ ei.symm).trans (b.trans ?_)
  show fac A.X A.g A.W (i 0).val (512 * ((i 2).val / 512) + (i 2).val % 512) (704 * (i 1).val + (i 3).val) = fac A.X A.g A.W (i 0).val (i 2).val (704 * (i 1).val + (i 3).val)
  rw [show 512 * ((i 2).val / 512) + (i 2).val % 512 = (i 2).val by omega]

omit h in
theorem at7 : win0_7.index t = ![t.val, 0] := (by decide +kernel : ∀ t : Fin grid0.N, win0_7.index t = ![t.val, 0]) t

theorem final_normed : (dats m 0 c).arrAt 7 cfg0.N = e2 .bf16 4096 1024 (normed A.X A.g) := by
  funext i
  have hr : (i 0).val < 4096 := (i 0).isLt
  have hlt : (i 0).val / 512 < cfg0.N := lt_of_lt_of_eq (by omega) N_0.symm
  let t : Fin cfg0.N := ⟨(i 0).val / 512, hlt⟩
  let j : S512x1024.Idx := ix2 ⟨(i 0).val % 512, Nat.mod_lt _ (by decide)⟩ (i 1)
  have b := congrFun (blocks7 m c t (Gen.flush0_7 t)) j
  have ei : ((cfg0.win 7).blk t).view.emb j = i := by
    have b0 : (((cfg0.win 7).blk t).view.emb j 0).val = win0_7.index t (0 : Fin 2) * 512 + 1 * (j 0).val := rfl
    have b1 : (((cfg0.win 7).blk t).view.emb j 1).val = win0_7.index t (1 : Fin 2) * 1024 + 1 * (j 1).val := rfl
    rw [at7] at b0 b1
    refine funext fun a => Fin.ext ?_
    match a with
    | ⟨0, _⟩ => exact b0.trans (by show (i 0).val / 512 * 512 + 1 * ((i 0).val % 512) = (i 0).val; omega)
    | ⟨1, _⟩ => exact b1.trans (by show 0 * 1024 + 1 * (i 1).val = (i 1).val; omega)
  rw [flushed7, blk0 h, blk1 h, blk2 h, blk3 h, left7] at b
  refine (congrArg _ ei.symm).trans (b.trans ?_)
  show normed A.X A.g (512 * ((i 0).val / 512) + (i 0).val % 512) (i 1).val = normed A.X A.g (i 0).val (i 1).val
  rw [show 512 * ((i 0).val / 512) + (i 0).val % 512 = (i 0).val by omega]

end Cert.Fwd

end
-- ==== Proof.Fwd.Value.lean ====
/-
  The claims of the kernel for the feed-forward block's forward pass: the reference's frame, and that the kernel and the
  reference end with equal results, whatever the arguments hold.
-/
module

public import proofs.«01_k».proof.Defs
public import proofs.«01_k».proof.Proof.Gen.Kernel8Ideal.Value
public import proofs.«01_k».proof.Proof.Gen.Reference8Ideal.Run
public import proofs.«01_k».proof.Proof.Fwd.State
public import proofs.«01_k».proof.Proof.Fwd.Ref
public import Idealize.ShloMosaic.Lib.Quiescent

@[expose] public section

set_option maxRecDepth 16384

noncomputable section

namespace Cert.Fwd

open Idealize.ShloMosaic Idealize.ShloMosaic.TcCoe Idealize.SL.Sem Cert.Mix

theorem frame_reference : Cert.quiescent_Reference8Ideal (hReference8Ideal := Cert.Reference8Ideal.Gen.facts) := fun m ρ _ =>
  (θ_run Cert.Reference8Ideal.defs _ _).mono
    (fun r h => ⟨fun c => (h c).2.2.2.2, sem_eq_zero_of_no_sems (by decide) r.2⟩)
    (Cert.Reference8Ideal.Value.run (F := Ideal) m ρ)

/-- The entries of four arrays. -/
def args (x0 : FVec Ideal ⟨2, ![4096, 1024]⟩ .f32) (x1 : FVec Ideal ⟨1, ![1024]⟩ .f32) (x2 : FVec Ideal ⟨2, ![1024, 5632]⟩ .f32)
    (x3 : FVec Ideal ⟨2, ![2816, 1024]⟩ .f32) : Args :=
  ⟨entries2 x0, entries1 x1, entries2 x2, entries2 x3⟩

section
variable (m : (ℓ : Loc Cert.Kernel8Ideal.nD Cert.Kernel8Ideal.τ Cert.Kernel8Ideal.sig) → Buf (Elt Ideal) ℓ) (c : Dev Cert.Kernel8Ideal.nD)

/-- The entries a device's arguments hold. -/
def argsOf : Args :=
  args
    (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1))
    (m ((c.tc : Thread Cert.Kernel8Ideal.nD Cert.Kernel8Ideal.τ).loc Cert.Kernel8Ideal.main_arg2))
    (m ((c.tc : Thread Cert.Kernel8Ideal.nD Cert.Kernel8Ideal.τ).loc Cert.Kernel8Ideal.main_arg3))

theorem holds : Holds m c (argsOf m c) := ⟨eq_e2 _, eq_e1 _, eq_e2 _, eq_e2 _⟩
end

open Cert.Reference8Ideal.Read in
theorem algebraic : Cert.algebraic_Kernel8Ideal_Reference8Ideal (hKernel8Ideal := Cert.Kernel8Ideal.Gen.facts)
    (hReference8Ideal := Cert.Reference8Ideal.Gen.facts) := by
  intro m ρ m' ρ' _ hagree
  refine ⟨_, _, _, _, Cert.Kernel8Ideal.Value.run_blocks (F := Ideal) m ρ, ?_⟩
  refine (θ_run Cert.Reference8Ideal.defs _ _).mono (fun r h c => ?_) (Cert.Reference8Ideal.Value.run (F := Ideal) m' ρ')
  have H := holds m c
  obtain ⟨a0, a1, a2, a3⟩ := hagree c
  have b0 := a0.trans H.x
  have b1 := a1.trans H.g
  have b2 := a2.trans H.w
  have b3 := a3.trans H.p
  obtain ⟨o0, o1, o2, o3, kept⟩ := h c
  refine ⟨o0.trans ?_, o1.trans ?_, o2.trans ?_, o3.trans ?_, kept⟩
  · rw [val_main_v25_eq, b0, b1, b2, b3, final_out H]; exact e_v25 _
  · rw [val_main_v28_eq, b0, b1, b2, final_hidden H]; exact e_v28 _
  · rw [val_main_v31_eq, b0, b1, b2, final_factors H]; exact e_v31 _
  · rw [val_main_v32_eq, b0, b1, final_normed H]; exact e_v32 _

end Cert.Fwd

end
-- ==== Proof.Adam.Blocks.lean ====
/-
  One step of the optimiser as a function of extended reals, and what the update kernels need of blocks of such numbers: loads
  of one half of a block, the two stores that fill a block, and an array known by its four blocks of rows.
-/
module

public import proofs.«01_k».proof.Proof.Fwd.Blocks
public import proofs.«01_k».proof.Proof.Rms.Real
public import Idealize.ShloMosaic.Lib.WholeRead
public import Idealize.ShloMosaic.Lib.Writes
public import Idealize.ShloMosaic.Lib.Tactic
public import Idealize.ShloMosaic.Lib.Pipeline.CanonAppend
public import Idealize.ShloMosaic.Lib.Ring

@[expose] public section

set_option maxRecDepth 16384

noncomputable section

namespace Cert.Adam

open Idealize.ShloMosaic Cert.Mix Cert.Fwd

/-! ### One step -/

/-- The running mean of the gradient: nine tenths of the old one and a tenth of the gradient. -/
def mean (g m : EReal) : EReal := Ideal.ofBits .f32 0x3F666666#32 * m + Ideal.ofBits .f32 0x3DCCCCCD#32 * g
/-- The running mean of the squared gradient, with the factors 0.999 and 0.001. -/
def square (g v : EReal) : EReal := Ideal.ofBits .f32 0x3F7FBE77#32 * v + Ideal.ofBits .f32 0x3A83126F#32 * (g * g)
/-- The change of the weight: both means corrected for the step number, their quotient, the weight decay, and the rate. -/
def change (w g m v : EReal) : EReal :=
  Ideal.ofBits .f32 0xBA83126F#32
    * (Ideal.div (Ideal.div (mean g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

/-- Of two layers' gradients, that of layer `l`. -/
def layer (g0 g1 : ℕ → ℕ → EReal) (l i j : ℕ) : EReal := if l = 0 then g0 i j else g1 i j

/-- The arguments' entries: the packed gradients of the two layers, and the weight and its two means as three axes. -/
structure Args where
  G0 : ℕ → ℕ → EReal
  G1 : ℕ → ℕ → EReal
  W : ℕ → ℕ → ℕ → EReal
  M : ℕ → ℕ → ℕ → EReal
  V : ℕ → ℕ → ℕ → EReal

/-- The gradients of the weight whose rows begin at row `o` of a packed array. -/
def Args.grad (A : Args) (o l i j : ℕ) : EReal := layer (fun i j => A.G0 (o + i) j) (fun i j => A.G1 (o + i) j) l i j
def Args.newM (A : Args) (o l i j : ℕ) : EReal := mean (A.grad o l i j) (A.M l i j)
def Args.newV (A : Args) (o l i j : ℕ) : EReal := square (A.grad o l i j) (A.V l i j)
def Args.delta (A : Args) (o l i j : ℕ) : EReal := change (A.W l i j) (A.grad o l i j) (A.M l i j) (A.V l i j)

/-! ### Blocks -/

section
variable {φ : FTy} {a b c : ℕ}

def entries3 (x : FVec Ideal ⟨3, ![a, b, c]⟩ φ) (i j k : ℕ) : EReal :=
  if h : i < a ∧ j < b ∧ k < c then x (ix3 ⟨i, h.1⟩ ⟨j, h.2.1⟩ ⟨k, h.2.2⟩) else 0

theorem eq_e3 (x : FVec Ideal ⟨3, ![a, b, c]⟩ φ) : x = e3 φ a b c (entries3 x) := by
  funext i
  have hi : (i 0).val < a ∧ (i 1).val < b ∧ (i 2).val < c := ⟨(i 0).isLt, (i 1).isLt, (i 2).isLt⟩
  show _ = entries3 x (i 0).val (i 1).val (i 2).val
  rw [entries3, dif_pos hi]
  exact congrArg x (eq_ix3 i)

/-- The entries of the arguments' arrays, the last three read as three axes. -/
def argsOfArrays {s : Shape} {n : ℕ} (h : s.ShapeCasts ⟨3, ![2, n, 128]⟩) (x0 x1 : FVec Ideal ⟨2, ![5376, 128]⟩ .f32)
    (x2 x3 x4 : FVec Ideal s .f32) : Args :=
  ⟨entries2 x0, entries2 x1, entries3 (shapeCast _ x2 h), entries3 (shapeCast _ x3 h), entries3 (shapeCast _ x4 h)⟩

variable {sig : RefSig}

/-- One layer of a block of two. -/
theorem rd_layer (n : ℕ) {m : Memref sig .tc .vmem ⟨3, ![a, b, c]⟩ .f32} (h : m.IsWhole) (f : ℕ → ℕ → ℕ → EReal) (inb) :
    View.readAt (Elt Ideal) m.view (Rect.unit (s := ⟨3, ![a, b, c]⟩) ![n, 0, 0] (⟨3, ![1, b, c]⟩ : Shape).size inb).toLoadRect
      (h.unread (e3 .f32 a b c f)) = e3 .f32 1 b c fun _ i j => f n i j := by
  refine funext fun x => (h.readAt_unread _ _ x).trans ?_
  have i0 : (x 0).val = 0 := by have : (x 0).val < 1 := (x 0).isLt; omega
  show f (n + 1 * (x 0).val) (0 + 1 * (x 1).val) (0 + 1 * (x 2).val) = f n (x 1).val (x 2).val
  rw [i0, Nat.mul_zero, Nat.add_zero, Nat.one_mul, Nat.one_mul, Nat.zero_add, Nat.zero_add]

theorem zero2 : (![0, 0] : Fin 2 → ℕ) = fun _ => 0 := by
  funext a; fin_cases a <;> rfl

theorem rd_rows {m : Memref sig .tc .vmem ⟨2, ![a, b]⟩ .f32} (h : m.IsWhole) (X : Vec Ideal ⟨2, ![a, b]⟩ .f32) (inb) :
    View.readAt (Elt Ideal) m.view (Rect.unit (s := ⟨2, ![a, b]⟩) ![0, 0] (⟨2, ![a, b]⟩ : Shape).size inb).toLoadRect (h.unread X) = X :=
  (funext fun x => h.readAt_unread X _ x).trans (View.ld_unit_zero zero2 inb X)
end

abbrev Layer : Shape := ⟨3, ![1, 512, 128]⟩
abbrev Layers : Shape := ⟨3, ![2, 512, 128]⟩
abbrev Whole (n : ℕ) : Shape := ⟨3, ![2, n, 128]⟩

/-- The two stores, one for each layer, fill the block. -/
theorem canon_layers (G : ℕ → ℕ → ℕ → EReal) {i0 i1} {w0 w1}
    (h0 : w0 = e3 .f32 1 512 128 fun _ => G 0) (h1 : w1 = e3 .f32 1 512 128 fun _ => G 1) :
    View.canon ([⟨Rect.unit (s := Layers) ![1, 0, 0] Layer.size i1, w1⟩,
        ⟨Rect.unit (s := Layers) ![0, 0, 0] Layer.size i0, w0⟩] : List (View.Piece (Elt Ideal) Layers .f32))
      = e3 .f32 2 512 128 G := by
  have piece (b : ℕ) (inb : ∀ a, (![b, 0, 0] : Fin 3 → ℕ) a + Layer.size a ≤ Layers.size a) (w : FVec Ideal Layer .f32)
      (h : w = e3 .f32 1 512 128 fun _ => G b) (x : Layer.Idx) :
      w x = e3 .f32 2 512 128 G ((Rect.unit (s := Layers) ![b, 0, 0] Layer.size inb).emb x) := by
    subst h
    have i0 : (x 0).val = 0 := by have : (x 0).val < 1 := (x 0).isLt; omega
    show G b (x 1).val (x 2).val = G (b + 1 * (x 0).val) (0 + 1 * (x 1).val) (0 + 1 * (x 2).val)
    rw [i0, Nat.mul_zero, Nat.add_zero, Nat.one_mul, Nat.one_mul, Nat.zero_add, Nat.zero_add]
  funext y
  refine View.canon_append_of_pieces (Val := Elt Ideal) (e := .f32) (e3 .f32 2 512 128 G) [] [_, _] ?_ y ?_
  · simp only [List.forall_mem_cons]
    exact ⟨piece 1 _ _ h1, piece 0 _ _ h0, fun _ h => absurd h (by simp)⟩
  · exact View.cover_of_tiledL (s := Layers) _ Layer.size (by sl_kernel_rfl) y

/-- The entry of a packed array that a block of rows holds, when the block is the `n`-th after row `o`. -/
theorem rows_at {o n : ℕ} {f : ℕ → ℕ → EReal} {j : (⟨2, ![512, 128]⟩ : Shape).Idx} {i : (⟨2, ![5376, 128]⟩ : Shape).Idx}
    (ho : 512 ∣ o) (h0 : (i 0).val = (![o / 512 + n, 0] : Fin 2 → ℕ) 0 * 512 + 1 * (j 0).val)
    (h1 : (i 1).val = (![o / 512 + n, 0] : Fin 2 → ℕ) 1 * 128 + 1 * (j 1).val) :
    e2 .f32 5376 128 f i = e2 .f32 512 128 (fun i j => f (o + (512 * n + i)) j) j := by
  have c0 : (i 0).val = o + (512 * n + (j 0).val) := h0.trans (by show (o / 512 + n) * 512 + 1 * (j 0).val = _; omega)
  have c1 : (i 1).val = (j 1).val := h1.trans (by show 0 * 128 + 1 * (j 1).val = _; omega)
  show f (i 0).val (i 1).val = f (o + (512 * n + (j 0).val)) (j 1).val
  rw [c0, c1]

/-- The index of a block's entry in the whole array of `n` rows, when the block begins at row `512 * t`. -/
def inWhole {n : ℕ} (t : ℕ) (ht : 512 * t + 512 ≤ n) (j : Layers.Idx) : (Whole n).Idx :=
  ix3 (j 0) ⟨512 * t + (j 1).val, by have : (j 1).val < 512 := (j 1).isLt; omega⟩ (j 2)

/-- An array is known by its blocks of rows. -/
theorem whole_of_blocks {n : ℕ} (hn : 512 ∣ n) {x : FVec Ideal (Whole n) .f32} {f : ℕ → ℕ → ℕ → EReal}
    (h : ∀ (t : ℕ) (ht : 512 * t + 512 ≤ n) (j : Layers.Idx), x (inWhole t ht j) = f (j 0).val (512 * t + (j 1).val) (j 2).val) :
    x = e3 .f32 2 n 128 f := by
  funext i
  have hr : (i 1).val < n := (i 1).isLt
  have b := h ((i 1).val / 512) (by omega) (ix3 (i 0) ⟨(i 1).val % 512, Nat.mod_lt _ (by decide)⟩ (i 2))
  have e : 512 * ((i 1).val / 512) + (i 1).val % 512 = (i 1).val := by omega
  refine ((congrArg x ?_).trans b).trans ?_
  · refine funext fun a => Fin.ext ?_
    match a with
    | ⟨0, _⟩ => rfl
    | ⟨1, _⟩ => exact e.symm
    | ⟨2, _⟩ => rfl
  · show f (i 0).val (512 * ((i 1).val / 512) + (i 1).val % 512) (i 2).val = f (i 0).val (i 1).val (i 2).val
    rw [e]

/-- An embedding of blocks that adds the block's offset to each coordinate. -/
theorem eq_inWhole {n t : ℕ} {ht : 512 * t + 512 ≤ n} {j : Layers.Idx} {i : (Whole n).Idx} {k : Fin 3 → ℕ} (hk : k = ![0, t, 0])
    (h0 : (i 0).val = k 0 * 2 + 1 * (j 0).val) (h1 : (i 1).val = k 1 * 512 + 1 * (j 1).val)
    (h2 : (i 2).val = k 2 * 128 + 1 * (j 2).val) : inWhole t ht j = i := by
  subst hk
  refine funext fun a => Fin.ext ?_
  match a with
  | ⟨0, _⟩ => exact (h0.trans (by show 0 * 2 + 1 * (j 0).val = (j 0).val; omega)).symm
  | ⟨1, _⟩ => exact (h1.trans (by show t * 512 + 1 * (j 1).val = 512 * t + (j 1).val; omega)).symm
  | ⟨2, _⟩ => exact (h2.trans (by show 0 * 128 + 1 * (j 2).val = (j 2).val; omega)).symm

end Cert.Adam

end
-- ==== Proof.Adam.Payload.lean ====
/-
  What the update kernel computes from the blocks it loads. The two layers are updated one after the other by the same
  operations; the lemmas say what each stored vector holds.
-/
module

public import proofs.«01_k».proof.Proof.Adam.Blocks
public import proofs.«01_k».proof.Proof.Gen.Kernel9Ideal.Skeleton

@[expose] public section

set_option maxRecDepth 16384

noncomputable section

namespace Cert.Adam

open Idealize.ShloMosaic Cert.Kernel9Ideal Cert.Kernel9Ideal.Gen Cert.Mix Cert.Fwd

abbrev rows (f : ℕ → ℕ → EReal) : FVec Ideal S512x128 .f32 := e2 .f32 512 128 f
abbrev slab (f : ℕ → ℕ → EReal) : FVec Ideal S1x512x128 .f32 := e3 .f32 1 512 128 fun _ => f

variable {g w m v : ℕ → ℕ → EReal} {xg : Vec Ideal S512x128 .f32} {xw xm xv : Vec Ideal S1x512x128 .f32}
  (hg : xg = rows g) (hw : xw = slab w) (hm : xm = slab m) (hv : xv = slab v)

/-! ### The first layer -/

include hg in
theorem pay8 : k0_pay8 (F := Ideal) xg = slab g := by subst hg; exact cast_e2_e3 g _

include hg hm in
theorem pay5 : k0_pay5 (F := Ideal) xg xm = rows fun i j => mean (g i j) (m i j) := by
  subst hg hm
  unfold k0_pay5
  simp only [cast_e3_e2]
  rfl

include hg hv in
theorem pay6 : k0_pay6 (F := Ideal) xg xv = rows fun i j => square (g i j) (v i j) := by
  subst hg hv
  unfold k0_pay6
  simp only [cast_e3_e2]
  rfl

include hg hw hm hv in
theorem pay7 : k0_pay7 (F := Ideal) xg xw xm xv = rows fun i j => change (w i j) (g i j) (m i j) (v i j) := by
  unfold k0_pay7
  simp only [pay5 hg hm, pay6 hg hv]
  subst hw
  simp only [cast_e3_e2]
  rfl

include hg hw hm hv in
theorem pay9 : k0_pay9 (F := Ideal) (k0_pay7 xg xw xm xv) = slab fun i j => change (w i j) (g i j) (m i j) (v i j) := by
  rw [pay7 hg hw hm hv]; exact cast_e2_e3 (fun i j => change (w i j) (g i j) (m i j) (v i j)) _

include hg hm in
theorem pay10 : k0_pay10 (F := Ideal) (k0_pay5 xg xm) = slab fun i j => mean (g i j) (m i j) := by
  rw [pay5 hg hm]; exact cast_e2_e3 (fun i j => mean (g i j) (m i j)) _

include hg hv in
theorem pay11 : k0_pay11 (F := Ideal) (k0_pay6 xg xv) = slab fun i j => square (g i j) (v i j) := by
  rw [pay6 hg hv]; exact cast_e2_e3 (fun i j => square (g i j) (v i j)) _

/-! ### The second layer, by the same operations -/

include hg in
theorem pay1 : k0_pay1 (F := Ideal) xg = slab g := pay8 hg

include hg hw hm hv in
theorem pay2 : k0_pay2 (F := Ideal) (k0_pay12 xw) (k0_pay15 xg xm) (k0_pay16 xg xv)
    = slab fun i j => change (w i j) (g i j) (m i j) (v i j) := pay9 hg hw hm hv

include hg hm in
theorem pay3 : k0_pay3 (F := Ideal) (k0_pay13 xg xm) = slab fun i j => mean (g i j) (m i j) := pay10 hg hm

include hg hv in
theorem pay4 : k0_pay4 (F := Ideal) (k0_pay14 xg xv) = slab fun i j => square (g i j) (v i j) := pay11 hg hv

end Cert.Adam

end
-- ==== Proof.Adam.State9.lean ====
/-
  The update of the recurrence gate's weight: what each grid point loads and leaves, and the four arrays at the end.
-/
module

public import proofs.«01_k».proof.Proof.Adam.Payload
public import proofs.«01_k».proof.Proof.Gen.Kernel9Ideal.Value
public import Idealize.ShloMosaic.Lib.StableHlo.Run
public import Idealize.ShloMosaic.Lib.Claim

@[expose] public section

set_option maxRecDepth 16384

noncomputable section

namespace Cert.Adam.K9

open Idealize.ShloMosaic Idealize.ShloMosaic.TcCoe Cert.Kernel9Ideal Cert.Kernel9Ideal.Gen Cert.Kernel9Ideal.Value Cert.Mix Cert.Fwd

/-! ### What a point leaves -/

section
variable {g0 g1 : ℕ → ℕ → EReal} {w p v : ℕ → ℕ → ℕ → EReal}
  {c : Dev nD} {i : grid0.Coords} {arg1 : Memref sig .tc .vmem S512x128 .f32} {harg1 : arg1.IsWhole} {arg2 : Memref sig .tc .vmem S512x128 .f32} {harg2 : arg2.IsWhole}
  {arg3 : Memref sig .tc .vmem S2x512x128 .f32} {harg3 : arg3.IsWhole} {arg4 : Memref sig .tc .vmem S2x512x128 .f32} {harg4 : arg4.IsWhole}
  {arg5 : Memref sig .tc .vmem S2x512x128 .f32} {harg5 : arg5.IsWhole} {arg6 : Memref sig .tc .vmem S2x512x128 .f32} {harg6 : arg6.IsWhole}
  {arg7 : Memref sig .tc .vmem S2x512x128 .f32} {harg7 : arg7.IsWhole} {arg8 : Memref sig .tc .vmem S2x512x128 .f32} {harg8 : arg8.IsWhole}
  {arg9 : Memref sig .tc .vmem S2x512x128 .f32} {harg9 : arg9.IsWhole}

theorem left5 : out0_A_5 (F := Ideal) c i arg1 harg1 arg2 harg2 arg3 harg3 arg4 harg4 arg5 harg5 arg6 harg6 arg7 harg7 arg8 harg8 arg9 harg9
      (e2 .f32 512 128 g0) (e2 .f32 512 128 g1) (e3 .f32 2 512 128 w) (e3 .f32 2 512 128 p) (e3 .f32 2 512 128 v)
    = e3 .f32 2 512 128 (layer g0 g1) := by
  unfold out0_A_5
  rw [View.read_writes_junk_eq_canon]
  exact canon_layers (layer g0 g1) (pay8 (rd_rows harg1 _ _)) (pay1 (rd_rows harg2 _ _))

theorem left6 : out0_A_6 (F := Ideal) c i arg1 harg1 arg2 harg2 arg3 harg3 arg4 harg4 arg5 harg5 arg6 harg6 arg7 harg7 arg8 harg8 arg9 harg9
      (e2 .f32 512 128 g0) (e2 .f32 512 128 g1) (e3 .f32 2 512 128 w) (e3 .f32 2 512 128 p) (e3 .f32 2 512 128 v)
    = e3 .f32 2 512 128 fun l i j => change (w l i j) (layer g0 g1 l i j) (p l i j) (v l i j) := by
  unfold out0_A_6
  rw [View.read_writes_junk_eq_canon]
  exact canon_layers (fun l i j => change (w l i j) (layer g0 g1 l i j) (p l i j) (v l i j))
    (pay9 (rd_rows harg1 _ _) (rd_layer 0 harg3 w _) (rd_layer 0 harg4 p _) (rd_layer 0 harg5 v _))
    (pay2 (rd_rows harg2 _ _) (rd_layer 1 harg3 w _) (rd_layer 1 harg4 p _) (rd_layer 1 harg5 v _))

theorem left7 : out0_A_7 (F := Ideal) c i arg1 harg1 arg2 harg2 arg3 harg3 arg4 harg4 arg5 harg5 arg6 harg6 arg7 harg7 arg8 harg8 arg9 harg9
      (e2 .f32 512 128 g0) (e2 .f32 512 128 g1) (e3 .f32 2 512 128 w) (e3 .f32 2 512 128 p) (e3 .f32 2 512 128 v)
    = e3 .f32 2 512 128 fun l i j => mean (layer g0 g1 l i j) (p l i j) := by
  unfold out0_A_7
  rw [View.read_writes_junk_eq_canon]
  exact canon_layers (fun l i j => mean (layer g0 g1 l i j) (p l i j))
    (pay10 (rd_rows harg1 _ _) (rd_layer 0 harg4 p _)) (pay3 (rd_rows harg2 _ _) (rd_layer 1 harg4 p _))

theorem left8 : out0_A_8 (F := Ideal) c i arg1 harg1 arg2 harg2 arg3 harg3 arg4 harg4 arg5 harg5 arg6 harg6 arg7 harg7 arg8 harg8 arg9 harg9
      (e2 .f32 512 128 g0) (e2 .f32 512 128 g1) (e3 .f32 2 512 128 w) (e3 .f32 2 512 128 p) (e3 .f32 2 512 128 v)
    = e3 .f32 2 512 128 fun l i j => square (layer g0 g1 l i j) (v l i j) := by
  unfold out0_A_8
  rw [View.read_writes_junk_eq_canon]
  exact canon_layers (fun l i j => square (layer g0 g1 l i j) (v l i j))
    (pay11 (rd_rows harg1 _ _) (rd_layer 0 harg5 v _)) (pay4 (rd_rows harg2 _ _) (rd_layer 1 harg5 v _))
end

/-! ### The blocks -/

/-- The launch memory holds the arguments `A`, the weight and its means read as three axes. -/
structure Holds (m : (ℓ : Loc nD τ sig) → Buf (Elt Ideal) ℓ) (c : Dev nD) (A : Args) : Prop where
  g0 : m ((c : Thread nD τ).loc main_arg0) = e2 .f32 5376 128 A.G0
  g1 : m ((c : Thread nD τ).loc main_arg1) = e2 .f32 5376 128 A.G1
  w : (shapeCast S2x2048x128 (m ((c : Thread nD τ).loc main_arg2)) shapeCasts_S2x2x8x128x128_S2x2048x128 : FVec Ideal S2x2048x128 .f32)
    = e3 .f32 2 2048 128 A.W
  p : (shapeCast S2x2048x128 (m ((c : Thread nD τ).loc main_arg3)) shapeCasts_S2x2x8x128x128_S2x2048x128 : FVec Ideal S2x2048x128 .f32)
    = e3 .f32 2 2048 128 A.M
  v : (shapeCast S2x2048x128 (m ((c : Thread nD τ).loc main_arg4)) shapeCasts_S2x2x8x128x128_S2x2048x128 : FVec Ideal S2x2048x128 .f32)
    = e3 .f32 2 2048 128 A.V

/-- The first row of this weight's gradients in the packed arrays. -/
abbrev first : ℕ := 0

variable {m : (ℓ : Loc nD τ sig) → Buf (Elt Ideal) ℓ} {c : Dev nD} {A : Args} (h : Holds m c A) (t : Fin cfg0.N)

theorem at0 : win0_0.index t = ![first / 512 + t.val, 0] := (by decide +kernel : ∀ t : Fin grid0.N, win0_0.index t = ![first / 512 + t.val, 0]) t
theorem at1 : win0_1.index t = ![first / 512 + t.val, 0] := (by decide +kernel : ∀ t : Fin grid0.N, win0_1.index t = ![first / 512 + t.val, 0]) t
theorem at2 : win0_2.index t = ![0, t.val, 0] := (by decide +kernel : ∀ t : Fin grid0.N, win0_2.index t = ![0, t.val, 0]) t
theorem at3 : win0_3.index t = ![0, t.val, 0] := (by decide +kernel : ∀ t : Fin grid0.N, win0_3.index t = ![0, t.val, 0]) t
theorem at4 : win0_4.index t = ![0, t.val, 0] := (by decide +kernel : ∀ t : Fin grid0.N, win0_4.index t = ![0, t.val, 0]) t
theorem at5 : win0_5.index t = ![0, t.val, 0] := (by decide +kernel : ∀ t : Fin grid0.N, win0_5.index t = ![0, t.val, 0]) t
theorem at6 : win0_6.index t = ![0, t.val, 0] := (by decide +kernel : ∀ t : Fin grid0.N, win0_6.index t = ![0, t.val, 0]) t
theorem at7 : win0_7.index t = ![0, t.val, 0] := (by decide +kernel : ∀ t : Fin grid0.N, win0_7.index t = ![0, t.val, 0]) t
theorem at8 : win0_8.index t = ![0, t.val, 0] := (by decide +kernel : ∀ t : Fin grid0.N, win0_8.index t = ![0, t.val, 0]) t
theorem inside : 512 * t.val + 512 ≤ 2048 := by have : t.val < 4 := lt_of_lt_of_eq t.isLt N_0; omega

include h

theorem blk0 : X0_0 m c t = e2 .f32 512 128 fun i j => A.G0 (first + (512 * t.val + i)) j := by
  funext j
  let k : ((cfg0.win 0).xblock (grid0.coords t)).Idx := fun a => ⟨(j a).val, ((cfg0.win 0).moved_iff _ j).mp (moved0_0 t j) a⟩
  have e : X0_0 m c t j = V m c main_arg0 (((cfg0.win 0).blk t).view.emb k) := by
    unfold X0_0 Pipeline.Window.fill
    rw [dif_pos (moved0_0 t j)]
    unfold iblk
    generalize V m c = G
    rfl
  have b0 : (((cfg0.win 0).blk t).view.emb k 0).val = win0_0.index t (0 : Fin 2) * 512 + 1 * (j 0).val := rfl
  have b1 : (((cfg0.win 0).blk t).view.emb k 1).val = win0_0.index t (1 : Fin 2) * 128 + 1 * (j 1).val := rfl
  rw [at0] at b0 b1
  rw [e, V_main_arg0, h.g0]
  exact rows_at (by decide) b0 b1

theorem blk1 : X0_1 m c t = e2 .f32 512 128 fun i j => A.G1 (first + (512 * t.val + i)) j := by
  funext j
  let k : ((cfg0.win 1).xblock (grid0.coords t)).Idx := fun a => ⟨(j a).val, ((cfg0.win 1).moved_iff _ j).mp (moved0_1 t j) a⟩
  have e : X0_1 m c t j = V m c main_arg1 (((cfg0.win 1).blk t).view.emb k) := by
    unfold X0_1 Pipeline.Window.fill
    rw [dif_pos (moved0_1 t j)]
    unfold iblk
    generalize V m c = G
    rfl
  have b0 : (((cfg0.win 1).blk t).view.emb k 0).val = win0_1.index t (0 : Fin 2) * 512 + 1 * (j 0).val := rfl
  have b1 : (((cfg0.win 1).blk t).view.emb k 1).val = win0_1.index t (1 : Fin 2) * 128 + 1 * (j 1).val := rfl
  rw [at1] at b0 b1
  rw [e, V_main_arg1, h.g1]
  exact rows_at (by decide) b0 b1

theorem blk2 : iblk m c 2 t = e3 .f32 2 512 128 fun l i j => A.W l (512 * t.val + i) j := by
  funext j
  have e : iblk m c 2 t j = V m c main_v0 (((cfg0.win 2).blk t).view.emb j) := by
    unfold iblk
    generalize V m c = G
    rfl
  have s : V m c main_v0 = shapeCast S2x2048x128 (m ((c : Thread nD τ).loc main_arg2)) shapeCasts_S2x2x8x128x128_S2x2048x128 := by
    unfold_abbrev_sides
    after_results
    rfl
  rw [e, s, h.w]
  exact congrArg _ (eq_inWhole (ht := inside t) (at2 t) rfl rfl rfl).symm

theorem blk3 : iblk m c 3 t = e3 .f32 2 512 128 fun l i j => A.M l (512 * t.val + i) j := by
  funext j
  have e : iblk m c 3 t j = V m c main_v1 (((cfg0.win 3).blk t).view.emb j) := by
    unfold iblk
    generalize V m c = G
    rfl
  have s : V m c main_v1 = shapeCast S2x2048x128 (m ((c : Thread nD τ).loc main_arg3)) shapeCasts_S2x2x8x128x128_S2x2048x128 := by
    unfold_abbrev_sides
    after_results
    rfl
  rw [e, s, h.p]
  exact congrArg _ (eq_inWhole (ht := inside t) (at3 t) rfl rfl rfl).symm

theorem blk4 : iblk m c 4 t = e3 .f32 2 512 128 fun l i j => A.V l (512 * t.val + i) j := by
  funext j
  have e : iblk m c 4 t j = V m c main_v2 (((cfg0.win 4).blk t).view.emb j) := by
    unfold iblk
    generalize V m c = G
    rfl
  have s : V m c main_v2 = shapeCast S2x2048x128 (m ((c : Thread nD τ).loc main_arg4)) shapeCasts_S2x2x8x128x128_S2x2048x128 := by
    unfold_abbrev_sides
    after_results
    rfl
  rw [e, s, h.v]
  exact congrArg _ (eq_inWhole (ht := inside t) (at4 t) rfl rfl rfl).symm

/-! ### The arrays at the end -/

omit t

theorem final_grad : (dats m 0 c).arrAt 5 cfg0.N = e3 .f32 2 2048 128 (A.grad first) := by
  refine whole_of_blocks (by decide) fun n hn j => ?_
  let t : Fin cfg0.N := ⟨n, lt_of_lt_of_eq (by omega : n < 4) N_0.symm⟩
  have b := congrFun (blocks5 m c t (Gen.flush0_5 t)) j
  rw [flushed5_A, blk0 h, blk1 h, blk2 h, blk3 h, blk4 h, left5] at b
  exact (congrArg _ (eq_inWhole (at5 t) rfl rfl rfl)).trans b

theorem final_delta : (dats m 0 c).arrAt 6 cfg0.N = e3 .f32 2 2048 128 (A.delta first) := by
  refine whole_of_blocks (by decide) fun n hn j => ?_
  let t : Fin cfg0.N := ⟨n, lt_of_lt_of_eq (by omega : n < 4) N_0.symm⟩
  have b := congrFun (blocks6 m c t (Gen.flush0_6 t)) j
  rw [flushed6_A, blk0 h, blk1 h, blk2 h, blk3 h, blk4 h, left6] at b
  exact (congrArg _ (eq_inWhole (at6 t) rfl rfl rfl)).trans b

theorem final_newM : (dats m 0 c).arrAt 7 cfg0.N = e3 .f32 2 2048 128 (A.newM first) := by
  refine whole_of_blocks (by decide) fun n hn j => ?_
  let t : Fin cfg0.N := ⟨n, lt_of_lt_of_eq (by omega : n < 4) N_0.symm⟩
  have b := congrFun (blocks7 m c t (Gen.flush0_7 t)) j
  rw [flushed7_A, blk0 h, blk1 h, blk2 h, blk3 h, blk4 h, left7] at b
  exact (congrArg _ (eq_inWhole (at7 t) rfl rfl rfl)).trans b

theorem final_newV : (dats m 0 c).arrAt 8 cfg0.N = e3 .f32 2 2048 128 (A.newV first) := by
  refine whole_of_blocks (by decide) fun n hn j => ?_
  let t : Fin cfg0.N := ⟨n, lt_of_lt_of_eq (by omega : n < 4) N_0.symm⟩
  have b := congrFun (blocks8 m c t (Gen.flush0_8 t)) j
  rw [flushed8_A, blk0 h, blk1 h, blk2 h, blk3 h, blk4 h, left8] at b
  exact (congrArg _ (eq_inWhole (at8 t) rfl rfl rfl)).trans b

end Cert.Adam.K9

end
-- ==== Proof.Adam.Ref.lean ====
/-
  The reference of the optimiser's step for one weight: its operations on arbitrary arrays of two layers of `n` rows. The three
  weights' references are these operations, with different numbers of rows.
-/
module

public import proofs.«01_k».proof.Proof.Adam.Blocks

@[expose] public section

set_option maxRecDepth 16384

noncomputable section

namespace Cert.Adam

open Idealize.ShloMosaic Cert.Mix Cert.Fwd

variable {n : ℕ}

/-- One layer's array upon the other's. -/
theorem upon {f0 f1 : ℕ → ℕ → EReal} {x y : FVec Ideal ⟨3, ![1, n, 128]⟩ .f32}
    (hx : x = e3 .f32 1 n 128 fun _ => f0) (hy : y = e3 .f32 1 n 128 fun _ => f1) (h) :
    concatenate (Whole n) 0 [⟨⟨3, ![1, n, 128]⟩, x⟩, ⟨⟨3, ![1, n, 128]⟩, y⟩] h = e3 .f32 2 n 128 (layer f0 f1) := by
  subst hx hy
  funext j
  have j0 : (j 0).val < 2 := (j 0).isLt
  show _ = layer f0 f1 (j 0).val (j 1).val (j 2).val
  unfold layer
  by_cases e : (j 0).val = 0
  · rw [if_pos e]
    exact (concatenate_pair_apply_left (t := Whole n) (s₁ := ⟨3, ![1, n, 128]⟩) (s₂ := ⟨3, ![1, n, 128]⟩) 0 _ _ _ j rfl
      (ix3 0 (j 1) (j 2)) fun b => match b with
      | ⟨0, _⟩ => e.symm
      | ⟨1, _⟩ => rfl
      | ⟨2, _⟩ => rfl).trans rfl
  · rw [if_neg e]
    exact (concatenate_pair_apply_right (t := Whole n) (s₁ := ⟨3, ![1, n, 128]⟩) (s₂ := ⟨3, ![1, n, 128]⟩) 0 _ _ _ j rfl rfl
      (ix3 0 (j 1) (j 2)) (fun b hb => match b with
      | ⟨0, _⟩ => absurd rfl hb
      | ⟨1, _⟩ => rfl
      | ⟨2, _⟩ => rfl) (by show 0 + 1 = (j 0).val; omega)).trans rfl

/-- The rows from `o` on of a packed array. -/
theorem packed_rows (hn : n ≠ 1) (o : ℕ) (f : ℕ → ℕ → EReal) (h : (⟨2, ![5376, 128]⟩ : Shape).Slices ![o, 0] ⟨2, ![n, 128]⟩)
    (hb : (⟨2, ![n, 128]⟩ : Shape).BroadcastsInDim ⟨3, ![1, n, 128]⟩ ![1, 2]) :
    broadcastInDim (⟨3, ![1, n, 128]⟩ : Shape) ![1, 2] hb
        (extractStridedSlice (⟨2, ![n, 128]⟩ : Shape) ![o, 0] (e2 .f32 5376 128 f : FVec Ideal ⟨2, ![5376, 128]⟩ .f32) h)
      = e3 .f32 1 n 128 fun _ i j => f (o + i) j := by
  funext i
  refine (broadcastInDim_apply _ hb _ i (ix2 (i 1) (i 2)) fun a => match a with
    | ⟨0, _⟩ => (if_neg hn).symm
    | ⟨1, _⟩ => rfl).trans ?_
  show f (o + (i 1).val) (0 + (i 2).val) = f (o + (i 1).val) (i 2).val
  rw [Nat.zero_add]

/-- The two layers' gradients of a weight, cut out of the packed arrays and put together. -/
theorem e_grad (hn : n ≠ 1) (o : ℕ) (f0 f1 : ℕ → ℕ → EReal) {h h' : (⟨2, ![5376, 128]⟩ : Shape).Slices ![o, 0] ⟨2, ![n, 128]⟩}
    {hb hb' : (⟨2, ![n, 128]⟩ : Shape).BroadcastsInDim ⟨3, ![1, n, 128]⟩ ![1, 2]} {hc} :
    concatenate (Whole n) 0
      [⟨⟨3, ![1, n, 128]⟩, broadcastInDim (⟨3, ![1, n, 128]⟩ : Shape) ![1, 2] hb
        (extractStridedSlice (⟨2, ![n, 128]⟩ : Shape) ![o, 0] (e2 .f32 5376 128 f0 : FVec Ideal ⟨2, ![5376, 128]⟩ .f32) h)⟩,
       ⟨⟨3, ![1, n, 128]⟩, broadcastInDim (⟨3, ![1, n, 128]⟩ : Shape) ![1, 2] hb'
        (extractStridedSlice (⟨2, ![n, 128]⟩ : Shape) ![o, 0] (e2 .f32 5376 128 f1 : FVec Ideal ⟨2, ![5376, 128]⟩ .f32) h')⟩] hc
      = e3 .f32 2 n 128 (layer (fun i j => f0 (o + i) j) (fun i j => f1 (o + i) j)) :=
  upon (packed_rows hn o f0 h hb) (packed_rows hn o f1 h' hb') hc

/-- A constant as an array. -/
abbrev all {n : ℕ} (hb : (⟨0, ![]⟩ : Shape).BroadcastsInDim (Whole n) ![]) (w : BitVec 32) : FVec Ideal (Whole n) .f32 :=
  broadcastInDim (Whole n) ![] hb (constant (⟨0, ![]⟩ : Shape) .f32 w : FVec Ideal ⟨0, ![]⟩ .f32)

/-! ### The step's results, elementwise in the gradients `g` -/

section
variable {G W P V : FVec Ideal (Whole n) .f32} {g w p v : ℕ → ℕ → ℕ → EReal} {b : (⟨0, ![]⟩ : Shape).BroadcastsInDim (Whole n) ![]}
  (hg : G = e3 .f32 2 n 128 g) (hw : W = e3 .f32 2 n 128 w) (hp : P = e3 .f32 2 n 128 p) (hv : V = e3 .f32 2 n 128 v)

include hg hp in
theorem e_mean : addf (mulf (all b 0x3F666666#32) P) (mulf (all b 0x3DCCCCCD#32) G)
    = e3 .f32 2 n 128 fun l i j => mean (g l i j) (p l i j) := by
  subst hg hp; rfl

include hg hv in
theorem e_square : addf (mulf (all b 0x3F7FBE77#32) V) (mulf (all b 0x3A83126F#32) (mulf G G))
    = e3 .f32 2 n 128 fun l i j => square (g l i j) (v l i j) := by
  subst hg hv; rfl

include hg hw hp hv in
theorem e_change : mulf (all b 0xBA83126F#32)
      (addf (Host.divf
          (Host.divf (addf (mulf (all b 0x3F666666#32) P) (mulf (all b 0x3DCCCCCD#32) G)) (all b 0x3F26BD02#32))
          (addf (Host.sqrt (Host.divf (addf (mulf (all b 0x3F7FBE77#32) V) (mulf (all b 0x3A83126F#32) (mulf G G))) (all b 0x3C231ACC#32)))
            (all b 0x322BCC77#32)))
        (mulf (all b 0x3C23D70A#32) W))
    = e3 .f32 2 n 128 fun l i j => change (w l i j) (g l i j) (p l i j) (v l i j) := by
  rw [e_mean hg hp, e_square hg hv]
  subst hw; rfl
end

end Cert.Adam

end
-- ==== Proof.Adam.Value9.lean ====
/-
  The claims of the update of the recurrence gate's weight: the reference's frame, and that the kernel and the reference end
  with equal results, whatever the arguments hold.
-/
module

public import proofs.«01_k».proof.Defs
public import proofs.«01_k».proof.Proof.Gen.Reference9Ideal.Run
public import proofs.«01_k».proof.Proof.Adam.State9
public import proofs.«01_k».proof.Proof.Adam.Ref
public import Idealize.ShloMosaic.Lib.Quiescent

@[expose] public section

set_option maxRecDepth 16384

noncomputable section

namespace Cert.Adam.K9

open Idealize.ShloMosaic Idealize.ShloMosaic.TcCoe Idealize.SL.Sem Cert.Mix Cert.Fwd

theorem frame_reference : Cert.quiescent_Reference9Ideal (hReference9Ideal := Cert.Reference9Ideal.Gen.facts) := fun m ρ _ =>
  (θ_run Cert.Reference9Ideal.defs _ _).mono
    (fun r h => ⟨fun c => (h c).2.2.2.2, sem_eq_zero_of_no_sems (by decide) r.2⟩)
    (Cert.Reference9Ideal.Value.run (F := Ideal) m ρ)

section
variable (m : (ℓ : Loc Cert.Kernel9Ideal.nD Cert.Kernel9Ideal.τ Cert.Kernel9Ideal.sig) → Buf (Elt Ideal) ℓ) (c : Dev Cert.Kernel9Ideal.nD)

/-- The entries a device's arguments hold. -/
def argsOf : Args :=
  argsOfArrays Cert.Kernel9Ideal.Gen.shapeCasts_S2x2x8x128x128_S2x2048x128
    (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg1))
    (m ((c.tc : Thread Cert.Kernel9Ideal.nD Cert.Kernel9Ideal.τ).loc Cert.Kernel9Ideal.main_arg2))
    (m ((c.tc : Thread Cert.Kernel9Ideal.nD Cert.Kernel9Ideal.τ).loc Cert.Kernel9Ideal.main_arg3))
    (m ((c.tc : Thread Cert.Kernel9Ideal.nD Cert.Kernel9Ideal.τ).loc Cert.Kernel9Ideal.main_arg4))

theorem holds : Holds m c (argsOf m c) := ⟨eq_e2 _, eq_e2 _, eq_e3 _, eq_e3 _, eq_e3 _⟩
end

theorem algebraic : Cert.algebraic_Kernel9Ideal_Reference9Ideal (hKernel9Ideal := Cert.Kernel9Ideal.Gen.facts)
    (hReference9Ideal := Cert.Reference9Ideal.Gen.facts) := by
  intro m ρ m' ρ' _ hagree
  refine ⟨_, _, _, _, Cert.Kernel9Ideal.Value.run_blocks (F := Ideal) m ρ, ?_⟩
  refine (θ_run Cert.Reference9Ideal.defs _ _).mono (fun r h c => ?_) (Cert.Reference9Ideal.Value.run (F := Ideal) m' ρ')
  have H := holds m c
  obtain ⟨a0, a1, a2, a3, a4⟩ := hagree c
  have b0 := a0.trans H.g0
  have b1 := a1.trans H.g1
  obtain ⟨o0, o1, o2, o3, kept⟩ := h c
  refine ⟨o0.trans ?_, o1.trans ?_, o2.trans ?_, o3.trans ?_, kept⟩
  · rw [b0, b1, final_grad H]; exact e_grad (by decide) first _ _
  · rw [b0, b1, a2, a3, a4, final_delta H]; exact e_change (e_grad (by decide) first _ _) H.w H.p H.v
  · rw [b0, b1, a3, final_newM H]; exact e_mean (e_grad (by decide) first _ _) H.p
  · rw [b0, b1, a4, final_newV H]; exact e_square (e_grad (by decide) first _ _) H.v

end Cert.Adam.K9

end
-- ==== Proof.Adam.State10.lean ====
/-
  The update of the input gate's weight: what each grid point loads and leaves, and the four arrays at the end.
-/
module

public import proofs.«01_k».proof.Proof.Adam.Payload
public import proofs.«01_k».proof.Proof.Gen.Kernel10Ideal.Value
public import Idealize.ShloMosaic.Lib.StableHlo.Run
public import Idealize.ShloMosaic.Lib.Claim

@[expose] public section

set_option maxRecDepth 16384

noncomputable section

namespace Cert.Adam.K10

open Idealize.ShloMosaic Idealize.ShloMosaic.TcCoe Cert.Kernel10Ideal Cert.Kernel10Ideal.Gen Cert.Kernel10Ideal.Value Cert.Mix Cert.Fwd

/-! ### What a point leaves -/

section
variable {g0 g1 : ℕ → ℕ → EReal} {w p v : ℕ → ℕ → ℕ → EReal}
  {c : Dev nD} {i : grid0.Coords} {arg1 : Memref sig .tc .vmem S512x128 .f32} {harg1 : arg1.IsWhole} {arg2 : Memref sig .tc .vmem S512x128 .f32} {harg2 : arg2.IsWhole}
  {arg3 : Memref sig .tc .vmem S2x512x128 .f32} {harg3 : arg3.IsWhole} {arg4 : Memref sig .tc .vmem S2x512x128 .f32} {harg4 : arg4.IsWhole}
  {arg5 : Memref sig .tc .vmem S2x512x128 .f32} {harg5 : arg5.IsWhole} {arg6 : Memref sig .tc .vmem S2x512x128 .f32} {harg6 : arg6.IsWhole}
  {arg7 : Memref sig .tc .vmem S2x512x128 .f32} {harg7 : arg7.IsWhole} {arg8 : Memref sig .tc .vmem S2x512x128 .f32} {harg8 : arg8.IsWhole}
  {arg9 : Memref sig .tc .vmem S2x512x128 .f32} {harg9 : arg9.IsWhole}

theorem left5 : out0_A_5 (F := Ideal) c i arg1 harg1 arg2 harg2 arg3 harg3 arg4 harg4 arg5 harg5 arg6 harg6 arg7 harg7 arg8 harg8 arg9 harg9
      (e2 .f32 512 128 g0) (e2 .f32 512 128 g1) (e3 .f32 2 512 128 w) (e3 .f32 2 512 128 p) (e3 .f32 2 512 128 v)
    = e3 .f32 2 512 128 (layer g0 g1) := by
  unfold out0_A_5
  rw [View.read_writes_junk_eq_canon]
  exact canon_layers (layer g0 g1) (pay8 (rd_rows harg1 _ _)) (pay1 (rd_rows harg2 _ _))

theorem left6 : out0_A_6 (F := Ideal) c i arg1 harg1 arg2 harg2 arg3 harg3 arg4 harg4 arg5 harg5 arg6 harg6 arg7 harg7 arg8 harg8 arg9 harg9
      (e2 .f32 512 128 g0) (e2 .f32 512 128 g1) (e3 .f32 2 512 128 w) (e3 .f32 2 512 128 p) (e3 .f32 2 512 128 v)
    = e3 .f32 2 512 128 fun l i j => change (w l i j) (layer g0 g1 l i j) (p l i j) (v l i j) := by
  unfold out0_A_6
  rw [View.read_writes_junk_eq_canon]
  exact canon_layers (fun l i j => change (w l i j) (layer g0 g1 l i j) (p l i j) (v l i j))
    (pay9 (rd_rows harg1 _ _) (rd_layer 0 harg3 w _) (rd_layer 0 harg4 p _) (rd_layer 0 harg5 v _))
    (pay2 (rd_rows harg2 _ _) (rd_layer 1 harg3 w _) (rd_layer 1 harg4 p _) (rd_layer 1 harg5 v _))

theorem left7 : out0_A_7 (F := Ideal) c i arg1 harg1 arg2 harg2 arg3 harg3 arg4 harg4 arg5 harg5 arg6 harg6 arg7 harg7 arg8 harg8 arg9 harg9
      (e2 .f32 512 128 g0) (e2 .f32 512 128 g1) (e3 .f32 2 512 128 w) (e3 .f32 2 512 128 p) (e3 .f32 2 512 128 v)
    = e3 .f32 2 512 128 fun l i j => mean (layer g0 g1 l i j) (p l i j) := by
  unfold out0_A_7
  rw [View.read_writes_junk_eq_canon]
  exact canon_layers (fun l i j => mean (layer g0 g1 l i j) (p l i j))
    (pay10 (rd_rows harg1 _ _) (rd_layer 0 harg4 p _)) (pay3 (rd_rows harg2 _ _) (rd_layer 1 harg4 p _))

theorem left8 : out0_A_8 (F := Ideal) c i arg1 harg1 arg2 harg2 arg3 harg3 arg4 harg4 arg5 harg5 arg6 harg6 arg7 harg7 arg8 harg8 arg9 harg9
      (e2 .f32 512 128 g0) (e2 .f32 512 128 g1) (e3 .f32 2 512 128 w) (e3 .f32 2 512 128 p) (e3 .f32 2 512 128 v)
    = e3 .f32 2 512 128 fun l i j => square (layer g0 g1 l i j) (v l i j) := by
  unfold out0_A_8
  rw [View.read_writes_junk_eq_canon]
  exact canon_layers (fun l i j => square (layer g0 g1 l i j) (v l i j))
    (pay11 (rd_rows harg1 _ _) (rd_layer 0 harg5 v _)) (pay4 (rd_rows harg2 _ _) (rd_layer 1 harg5 v _))
end

/-! ### The blocks -/

/-- The launch memory holds the arguments `A`, the weight and its means read as three axes. -/
structure Holds (m : (ℓ : Loc nD τ sig) → Buf (Elt Ideal) ℓ) (c : Dev nD) (A : Args) : Prop where
  g0 : m ((c : Thread nD τ).loc main_arg0) = e2 .f32 5376 128 A.G0
  g1 : m ((c : Thread nD τ).loc main_arg1) = e2 .f32 5376 128 A.G1
  w : (shapeCast S2x2048x128 (m ((c : Thread nD τ).loc main_arg2)) shapeCasts_S2x2x8x128x128_S2x2048x128 : FVec Ideal S2x2048x128 .f32)
    = e3 .f32 2 2048 128 A.W
  p : (shapeCast S2x2048x128 (m ((c : Thread nD τ).loc main_arg3)) shapeCasts_S2x2x8x128x128_S2x2048x128 : FVec Ideal S2x2048x128 .f32)
    = e3 .f32 2 2048 128 A.M
  v : (shapeCast S2x2048x128 (m ((c : Thread nD τ).loc main_arg4)) shapeCasts_S2x2x8x128x128_S2x2048x128 : FVec Ideal S2x2048x128 .f32)
    = e3 .f32 2 2048 128 A.V

/-- The first row of this weight's gradients in the packed arrays. -/
abbrev first : ℕ := 2048

variable {m : (ℓ : Loc nD τ sig) → Buf (Elt Ideal) ℓ} {c : Dev nD} {A : Args} (h : Holds m c A) (t : Fin cfg0.N)

theorem at0 : win0_0.index t = ![first / 512 + t.val, 0] := (by decide +kernel : ∀ t : Fin grid0.N, win0_0.index t = ![first / 512 + t.val, 0]) t
theorem at1 : win0_1.index t = ![first / 512 + t.val, 0] := (by decide +kernel : ∀ t : Fin grid0.N, win0_1.index t = ![first / 512 + t.val, 0]) t
theorem at2 : win0_2.index t = ![0, t.val, 0] := (by decide +kernel : ∀ t : Fin grid0.N, win0_2.index t = ![0, t.val, 0]) t
theorem at3 : win0_3.index t = ![0, t.val, 0] := (by decide +kernel : ∀ t : Fin grid0.N, win0_3.index t = ![0, t.val, 0]) t
theorem at4 : win0_4.index t = ![0, t.val, 0] := (by decide +kernel : ∀ t : Fin grid0.N, win0_4.index t = ![0, t.val, 0]) t
theorem at5 : win0_5.index t = ![0, t.val, 0] := (by decide +kernel : ∀ t : Fin grid0.N, win0_5.index t = ![0, t.val, 0]) t
theorem at6 : win0_6.index t = ![0, t.val, 0] := (by decide +kernel : ∀ t : Fin grid0.N, win0_6.index t = ![0, t.val, 0]) t
theorem at7 : win0_7.index t = ![0, t.val, 0] := (by decide +kernel : ∀ t : Fin grid0.N, win0_7.index t = ![0, t.val, 0]) t
theorem at8 : win0_8.index t = ![0, t.val, 0] := (by decide +kernel : ∀ t : Fin grid0.N, win0_8.index t = ![0, t.val, 0]) t
theorem inside : 512 * t.val + 512 ≤ 2048 := by have : t.val < 4 := lt_of_lt_of_eq t.isLt N_0; omega

include h

theorem blk0 : X0_0 m c t = e2 .f32 512 128 fun i j => A.G0 (first + (512 * t.val + i)) j := by
  funext j
  let k : ((cfg0.win 0).xblock (grid0.coords t)).Idx := fun a => ⟨(j a).val, ((cfg0.win 0).moved_iff _ j).mp (moved0_0 t j) a⟩
  have e : X0_0 m c t j = V m c main_arg0 (((cfg0.win 0).blk t).view.emb k) := by
    unfold X0_0 Pipeline.Window.fill
    rw [dif_pos (moved0_0 t j)]
    unfold iblk
    generalize V m c = G
    rfl
  have b0 : (((cfg0.win 0).blk t).view.emb k 0).val = win0_0.index t (0 : Fin 2) * 512 + 1 * (j 0).val := rfl
  have b1 : (((cfg0.win 0).blk t).view.emb k 1).val = win0_0.index t (1 : Fin 2) * 128 + 1 * (j 1).val := rfl
  rw [at0] at b0 b1
  rw [e, V_main_arg0, h.g0]
  exact rows_at (by decide) b0 b1

theorem blk1 : X0_1 m c t = e2 .f32 512 128 fun i j => A.G1 (first + (512 * t.val + i)) j := by
  funext j
  let k : ((cfg0.win 1).xblock (grid0.coords t)).Idx := fun a => ⟨(j a).val, ((cfg0.win 1).moved_iff _ j).mp (moved0_1 t j) a⟩
  have e : X0_1 m c t j = V m c main_arg1 (((cfg0.win 1).blk t).view.emb k) := by
    unfold X0_1 Pipeline.Window.fill
    rw [dif_pos (moved0_1 t j)]
    unfold iblk
    generalize V m c = G
    rfl
  have b0 : (((cfg0.win 1).blk t).view.emb k 0).val = win0_1.index t (0 : Fin 2) * 512 + 1 * (j 0).val := rfl
  have b1 : (((cfg0.win 1).blk t).view.emb k 1).val = win0_1.index t (1 : Fin 2) * 128 + 1 * (j 1).val := rfl
  rw [at1] at b0 b1
  rw [e, V_main_arg1, h.g1]
  exact rows_at (by decide) b0 b1

theorem blk2 : iblk m c 2 t = e3 .f32 2 512 128 fun l i j => A.W l (512 * t.val + i) j := by
  funext j
  have e : iblk m c 2 t j = V m c main_v0 (((cfg0.win 2).blk t).view.emb j) := by
    unfold iblk
    generalize V m c = G
    rfl
  have s : V m c main_v0 = shapeCast S2x2048x128 (m ((c : Thread nD τ).loc main_arg2)) shapeCasts_S2x2x8x128x128_S2x2048x128 := by
    unfold_abbrev_sides
    after_results
    rfl
  rw [e, s, h.w]
  exact congrArg _ (eq_inWhole (ht := inside t) (at2 t) rfl rfl rfl).symm

theorem blk3 : iblk m c 3 t = e3 .f32 2 512 128 fun l i j => A.M l (512 * t.val + i) j := by
  funext j
  have e : iblk m c 3 t j = V m c main_v1 (((cfg0.win 3).blk t).view.emb j) := by
    unfold iblk
    generalize V m c = G
    rfl
  have s : V m c main_v1 = shapeCast S2x2048x128 (m ((c : Thread nD τ).loc main_arg3)) shapeCasts_S2x2x8x128x128_S2x2048x128 := by
    unfold_abbrev_sides
    after_results
    rfl
  rw [e, s, h.p]
  exact congrArg _ (eq_inWhole (ht := inside t) (at3 t) rfl rfl rfl).symm

theorem blk4 : iblk m c 4 t = e3 .f32 2 512 128 fun l i j => A.V l (512 * t.val + i) j := by
  funext j
  have e : iblk m c 4 t j = V m c main_v2 (((cfg0.win 4).blk t).view.emb j) := by
    unfold iblk
    generalize V m c = G
    rfl
  have s : V m c main_v2 = shapeCast S2x2048x128 (m ((c : Thread nD τ).loc main_arg4)) shapeCasts_S2x2x8x128x128_S2x2048x128 := by
    unfold_abbrev_sides
    after_results
    rfl
  rw [e, s, h.v]
  exact congrArg _ (eq_inWhole (ht := inside t) (at4 t) rfl rfl rfl).symm

/-! ### The arrays at the end -/

omit t

theorem final_grad : (dats m 0 c).arrAt 5 cfg0.N = e3 .f32 2 2048 128 (A.grad first) := by
  refine whole_of_blocks (by decide) fun n hn j => ?_
  let t : Fin cfg0.N := ⟨n, lt_of_lt_of_eq (by omega : n < 4) N_0.symm⟩
  have b := congrFun (blocks5 m c t (Gen.flush0_5 t)) j
  rw [flushed5_A, blk0 h, blk1 h, blk2 h, blk3 h, blk4 h, left5] at b
  exact (congrArg _ (eq_inWhole (at5 t) rfl rfl rfl)).trans b

theorem final_delta : (dats m 0 c).arrAt 6 cfg0.N = e3 .f32 2 2048 128 (A.delta first) := by
  refine whole_of_blocks (by decide) fun n hn j => ?_
  let t : Fin cfg0.N := ⟨n, lt_of_lt_of_eq (by omega : n < 4) N_0.symm⟩
  have b := congrFun (blocks6 m c t (Gen.flush0_6 t)) j
  rw [flushed6_A, blk0 h, blk1 h, blk2 h, blk3 h, blk4 h, left6] at b
  exact (congrArg _ (eq_inWhole (at6 t) rfl rfl rfl)).trans b

theorem final_newM : (dats m 0 c).arrAt 7 cfg0.N = e3 .f32 2 2048 128 (A.newM first) := by
  refine whole_of_blocks (by decide) fun n hn j => ?_
  let t : Fin cfg0.N := ⟨n, lt_of_lt_of_eq (by omega : n < 4) N_0.symm⟩
  have b := congrFun (blocks7 m c t (Gen.flush0_7 t)) j
  rw [flushed7_A, blk0 h, blk1 h, blk2 h, blk3 h, blk4 h, left7] at b
  exact (congrArg _ (eq_inWhole (at7 t) rfl rfl rfl)).trans b

theorem final_newV : (dats m 0 c).arrAt 8 cfg0.N = e3 .f32 2 2048 128 (A.newV first) := by
  refine whole_of_blocks (by decide) fun n hn j => ?_
  let t : Fin cfg0.N := ⟨n, lt_of_lt_of_eq (by omega : n < 4) N_0.symm⟩
  have b := congrFun (blocks8 m c t (Gen.flush0_8 t)) j
  rw [flushed8_A, blk0 h, blk1 h, blk2 h, blk3 h, blk4 h, left8] at b
  exact (congrArg _ (eq_inWhole (at8 t) rfl rfl rfl)).trans b

end Cert.Adam.K10

end
-- ==== Proof.Adam.Value10.lean ====
/-
  The claims of the update of the input gate's weight: the reference's frame, and that the kernel and the reference end
  with equal results, whatever the arguments hold.
-/
module

public import proofs.«01_k».proof.Defs
public import proofs.«01_k».proof.Proof.Gen.Reference10Ideal.Run
public import proofs.«01_k».proof.Proof.Adam.State10
public import proofs.«01_k».proof.Proof.Adam.Ref
public import Idealize.ShloMosaic.Lib.Quiescent

@[expose] public section

set_option maxRecDepth 16384

noncomputable section

namespace Cert.Adam.K10

open Idealize.ShloMosaic Idealize.ShloMosaic.TcCoe Idealize.SL.Sem Cert.Mix Cert.Fwd

theorem frame_reference : Cert.quiescent_Reference10Ideal (hReference10Ideal := Cert.Reference10Ideal.Gen.facts) := fun m ρ _ =>
  (θ_run Cert.Reference10Ideal.defs _ _).mono
    (fun r h => ⟨fun c => (h c).2.2.2.2, sem_eq_zero_of_no_sems (by decide) r.2⟩)
    (Cert.Reference10Ideal.Value.run (F := Ideal) m ρ)

section
variable (m : (ℓ : Loc Cert.Kernel10Ideal.nD Cert.Kernel10Ideal.τ Cert.Kernel10Ideal.sig) → Buf (Elt Ideal) ℓ) (c : Dev Cert.Kernel10Ideal.nD)

/-- The entries a device's arguments hold. -/
def argsOf : Args :=
  argsOfArrays Cert.Kernel10Ideal.Gen.shapeCasts_S2x2x8x128x128_S2x2048x128
    (m ((c.tc : Thread Cert.Kernel10Ideal.nD Cert.Kernel10Ideal.τ).loc Cert.Kernel10Ideal.main_arg0))
    (m ((c.tc : Thread Cert.Kernel10Ideal.nD Cert.Kernel10Ideal.τ).loc Cert.Kernel10Ideal.main_arg1))
    (m ((c.tc : Thread Cert.Kernel10Ideal.nD Cert.Kernel10Ideal.τ).loc Cert.Kernel10Ideal.main_arg2))
    (m ((c.tc : Thread Cert.Kernel10Ideal.nD Cert.Kernel10Ideal.τ).loc Cert.Kernel10Ideal.main_arg3))
    (m ((c.tc : Thread Cert.Kernel10Ideal.nD Cert.Kernel10Ideal.τ).loc Cert.Kernel10Ideal.main_arg4))

theorem holds : Holds m c (argsOf m c) := ⟨eq_e2 _, eq_e2 _, eq_e3 _, eq_e3 _, eq_e3 _⟩
end

theorem algebraic : Cert.algebraic_Kernel10Ideal_Reference10Ideal (hKernel10Ideal := Cert.Kernel10Ideal.Gen.facts)
    (hReference10Ideal := Cert.Reference10Ideal.Gen.facts) := by
  intro m ρ m' ρ' _ hagree
  refine ⟨_, _, _, _, Cert.Kernel10Ideal.Value.run_blocks (F := Ideal) m ρ, ?_⟩
  refine (θ_run Cert.Reference10Ideal.defs _ _).mono (fun r h c => ?_) (Cert.Reference10Ideal.Value.run (F := Ideal) m' ρ')
  have H := holds m c
  obtain ⟨a0, a1, a2, a3, a4⟩ := hagree c
  have b0 := a0.trans H.g0
  have b1 := a1.trans H.g1
  obtain ⟨o0, o1, o2, o3, kept⟩ := h c
  refine ⟨o0.trans ?_, o1.trans ?_, o2.trans ?_, o3.trans ?_, kept⟩
  · rw [b0, b1, final_grad H]; exact e_grad (by decide) first _ _
  · rw [b0, b1, a2, a3, a4, final_delta H]; exact e_change (e_grad (by decide) first _ _) H.w H.p H.v
  · rw [b0, b1, a3, final_newM H]; exact e_mean (e_grad (by decide) first _ _) H.p
  · rw [b0, b1, a4, final_newV H]; exact e_square (e_grad (by decide) first _ _) H.v

end Cert.Adam.K10

end
-- ==== Proof.Adam.State11.lean ====
/-
  The update of the weight that mixes positions: what each grid point loads and leaves, and the four arrays at the end.
-/
module

public import proofs.«01_k».proof.Proof.Adam.Payload
public import proofs.«01_k».proof.Proof.Gen.Kernel11Ideal.Value
public import Idealize.ShloMosaic.Lib.StableHlo.Run
public import Idealize.ShloMosaic.Lib.Claim

@[expose] public section

set_option maxRecDepth 16384

noncomputable section

namespace Cert.Adam.K11

open Idealize.ShloMosaic Idealize.ShloMosaic.TcCoe Cert.Kernel11Ideal Cert.Kernel11Ideal.Gen Cert.Kernel11Ideal.Value Cert.Mix Cert.Fwd

/-! ### What a point leaves -/

section
variable {g0 g1 : ℕ → ℕ → EReal} {w p v : ℕ → ℕ → ℕ → EReal}
  {c : Dev nD} {i : grid0.Coords} {arg1 : Memref sig .tc .vmem S512x128 .f32} {harg1 : arg1.IsWhole} {arg2 : Memref sig .tc .vmem S512x128 .f32} {harg2 : arg2.IsWhole}
  {arg3 : Memref sig .tc .vmem S2x512x128 .f32} {harg3 : arg3.IsWhole} {arg4 : Memref sig .tc .vmem S2x512x128 .f32} {harg4 : arg4.IsWhole}
  {arg5 : Memref sig .tc .vmem S2x512x128 .f32} {harg5 : arg5.IsWhole} {arg6 : Memref sig .tc .vmem S2x512x128 .f32} {harg6 : arg6.IsWhole}
  {arg7 : Memref sig .tc .vmem S2x512x128 .f32} {harg7 : arg7.IsWhole} {arg8 : Memref sig .tc .vmem S2x512x128 .f32} {harg8 : arg8.IsWhole}
  {arg9 : Memref sig .tc .vmem S2x512x128 .f32} {harg9 : arg9.IsWhole}

theorem left5 : out0_A_5 (F := Ideal) c i arg1 harg1 arg2 harg2 arg3 harg3 arg4 harg4 arg5 harg5 arg6 harg6 arg7 harg7 arg8 harg8 arg9 harg9
      (e2 .f32 512 128 g0) (e2 .f32 512 128 g1) (e3 .f32 2 512 128 w) (e3 .f32 2 512 128 p) (e3 .f32 2 512 128 v)
    = e3 .f32 2 512 128 (layer g0 g1) := by
  unfold out0_A_5
  rw [View.read_writes_junk_eq_canon]
  exact canon_layers (layer g0 g1) (pay8 (rd_rows harg1 _ _)) (pay1 (rd_rows harg2 _ _))

theorem left6 : out0_A_6 (F := Ideal) c i arg1 harg1 arg2 harg2 arg3 harg3 arg4 harg4 arg5 harg5 arg6 harg6 arg7 harg7 arg8 harg8 arg9 harg9
      (e2 .f32 512 128 g0) (e2 .f32 512 128 g1) (e3 .f32 2 512 128 w) (e3 .f32 2 512 128 p) (e3 .f32 2 512 128 v)
    = e3 .f32 2 512 128 fun l i j => change (w l i j) (layer g0 g1 l i j) (p l i j) (v l i j) := by
  unfold out0_A_6
  rw [View.read_writes_junk_eq_canon]
  exact canon_layers (fun l i j => change (w l i j) (layer g0 g1 l i j) (p l i j) (v l i j))
    (pay9 (rd_rows harg1 _ _) (rd_layer 0 harg3 w _) (rd_layer 0 harg4 p _) (rd_layer 0 harg5 v _))
    (pay2 (rd_rows harg2 _ _) (rd_layer 1 harg3 w _) (rd_layer 1 harg4 p _) (rd_layer 1 harg5 v _))

theorem left7 : out0_A_7 (F := Ideal) c i arg1 harg1 arg2 harg2 arg3 harg3 arg4 harg4 arg5 harg5 arg6 harg6 arg7 harg7 arg8 harg8 arg9 harg9
      (e2 .f32 512 128 g0) (e2 .f32 512 128 g1) (e3 .f32 2 512 128 w) (e3 .f32 2 512 128 p) (e3 .f32 2 512 128 v)
    = e3 .f32 2 512 128 fun l i j => mean (layer g0 g1 l i j) (p l i j) := by
  unfold out0_A_7
  rw [View.read_writes_junk_eq_canon]
  exact canon_layers (fun l i j => mean (layer g0 g1 l i j) (p l i j))
    (pay10 (rd_rows harg1 _ _) (rd_layer 0 harg4 p _)) (pay3 (rd_rows harg2 _ _) (rd_layer 1 harg4 p _))

theorem left8 : out0_A_8 (F := Ideal) c i arg1 harg1 arg2 harg2 arg3 harg3 arg4 harg4 arg5 harg5 arg6 harg6 arg7 harg7 arg8 harg8 arg9 harg9
      (e2 .f32 512 128 g0) (e2 .f32 512 128 g1) (e3 .f32 2 512 128 w) (e3 .f32 2 512 128 p) (e3 .f32 2 512 128 v)
    = e3 .f32 2 512 128 fun l i j => square (layer g0 g1 l i j) (v l i j) := by
  unfold out0_A_8
  rw [View.read_writes_junk_eq_canon]
  exact canon_layers (fun l i j => square (layer g0 g1 l i j) (v l i j))
    (pay11 (rd_rows harg1 _ _) (rd_layer 0 harg5 v _)) (pay4 (rd_rows harg2 _ _) (rd_layer 1 harg5 v _))
end

/-! ### The blocks -/

/-- The launch memory holds the arguments `A`, the weight and its means read as three axes. -/
structure Holds (m : (ℓ : Loc nD τ sig) → Buf (Elt Ideal) ℓ) (c : Dev nD) (A : Args) : Prop where
  g0 : m ((c : Thread nD τ).loc main_arg0) = e2 .f32 5376 128 A.G0
  g1 : m ((c : Thread nD τ).loc main_arg1) = e2 .f32 5376 128 A.G1
  w : (shapeCast S2x1024x128 (m ((c : Thread nD τ).loc main_arg2)) shapeCasts_S2x8x128x128_S2x1024x128 : FVec Ideal S2x1024x128 .f32)
    = e3 .f32 2 1024 128 A.W
  p : (shapeCast S2x1024x128 (m ((c : Thread nD τ).loc main_arg3)) shapeCasts_S2x8x128x128_S2x1024x128 : FVec Ideal S2x1024x128 .f32)
    = e3 .f32 2 1024 128 A.M
  v : (shapeCast S2x1024x128 (m ((c : Thread nD τ).loc main_arg4)) shapeCasts_S2x8x128x128_S2x1024x128 : FVec Ideal S2x1024x128 .f32)
    = e3 .f32 2 1024 128 A.V

/-- The first row of this weight's gradients in the packed arrays. -/
abbrev first : ℕ := 4096

variable {m : (ℓ : Loc nD τ sig) → Buf (Elt Ideal) ℓ} {c : Dev nD} {A : Args} (h : Holds m c A) (t : Fin cfg0.N)

theorem at0 : win0_0.index t = ![first / 512 + t.val, 0] := (by decide +kernel : ∀ t : Fin grid0.N, win0_0.index t = ![first / 512 + t.val, 0]) t
theorem at1 : win0_1.index t = ![first / 512 + t.val, 0] := (by decide +kernel : ∀ t : Fin grid0.N, win0_1.index t = ![first / 512 + t.val, 0]) t
theorem at2 : win0_2.index t = ![0, t.val, 0] := (by decide +kernel : ∀ t : Fin grid0.N, win0_2.index t = ![0, t.val, 0]) t
theorem at3 : win0_3.index t = ![0, t.val, 0] := (by decide +kernel : ∀ t : Fin grid0.N, win0_3.index t = ![0, t.val, 0]) t
theorem at4 : win0_4.index t = ![0, t.val, 0] := (by decide +kernel : ∀ t : Fin grid0.N, win0_4.index t = ![0, t.val, 0]) t
theorem at5 : win0_5.index t = ![0, t.val, 0] := (by decide +kernel : ∀ t : Fin grid0.N, win0_5.index t = ![0, t.val, 0]) t
theorem at6 : win0_6.index t = ![0, t.val, 0] := (by decide +kernel : ∀ t : Fin grid0.N, win0_6.index t = ![0, t.val, 0]) t
theorem at7 : win0_7.index t = ![0, t.val, 0] := (by decide +kernel : ∀ t : Fin grid0.N, win0_7.index t = ![0, t.val, 0]) t
theorem at8 : win0_8.index t = ![0, t.val, 0] := (by decide +kernel : ∀ t : Fin grid0.N, win0_8.index t = ![0, t.val, 0]) t
theorem inside : 512 * t.val + 512 ≤ 1024 := by have : t.val < 2 := lt_of_lt_of_eq t.isLt N_0; omega

include h

theorem blk0 : X0_0 m c t = e2 .f32 512 128 fun i j => A.G0 (first + (512 * t.val + i)) j := by
  funext j
  let k : ((cfg0.win 0).xblock (grid0.coords t)).Idx := fun a => ⟨(j a).val, ((cfg0.win 0).moved_iff _ j).mp (moved0_0 t j) a⟩
  have e : X0_0 m c t j = V m c main_arg0 (((cfg0.win 0).blk t).view.emb k) := by
    unfold X0_0 Pipeline.Window.fill
    rw [dif_pos (moved0_0 t j)]
    unfold iblk
    generalize V m c = G
    rfl
  have b0 : (((cfg0.win 0).blk t).view.emb k 0).val = win0_0.index t (0 : Fin 2) * 512 + 1 * (j 0).val := rfl
  have b1 : (((cfg0.win 0).blk t).view.emb k 1).val = win0_0.index t (1 : Fin 2) * 128 + 1 * (j 1).val := rfl
  rw [at0] at b0 b1
  rw [e, V_main_arg0, h.g0]
  exact rows_at (by decide) b0 b1

theorem blk1 : X0_1 m c t = e2 .f32 512 128 fun i j => A.G1 (first + (512 * t.val + i)) j := by
  funext j
  let k : ((cfg0.win 1).xblock (grid0.coords t)).Idx := fun a => ⟨(j a).val, ((cfg0.win 1).moved_iff _ j).mp (moved0_1 t j) a⟩
  have e : X0_1 m c t j = V m c main_arg1 (((cfg0.win 1).blk t).view.emb k) := by
    unfold X0_1 Pipeline.Window.fill
    rw [dif_pos (moved0_1 t j)]
    unfold iblk
    generalize V m c = G
    rfl
  have b0 : (((cfg0.win 1).blk t).view.emb k 0).val = win0_1.index t (0 : Fin 2) * 512 + 1 * (j 0).val := rfl
  have b1 : (((cfg0.win 1).blk t).view.emb k 1).val = win0_1.index t (1 : Fin 2) * 128 + 1 * (j 1).val := rfl
  rw [at1] at b0 b1
  rw [e, V_main_arg1, h.g1]
  exact rows_at (by decide) b0 b1

theorem blk2 : iblk m c 2 t = e3 .f32 2 512 128 fun l i j => A.W l (512 * t.val + i) j := by
  funext j
  have e : iblk m c 2 t j = V m c main_v0 (((cfg0.win 2).blk t).view.emb j) := by
    unfold iblk
    generalize V m c = G
    rfl
  have s : V m c main_v0 = shapeCast S2x1024x128 (m ((c : Thread nD τ).loc main_arg2)) shapeCasts_S2x8x128x128_S2x1024x128 := by
    unfold_abbrev_sides
    after_results
    rfl
  rw [e, s, h.w]
  exact congrArg _ (eq_inWhole (ht := inside t) (at2 t) rfl rfl rfl).symm

theorem blk3 : iblk m c 3 t = e3 .f32 2 512 128 fun l i j => A.M l (512 * t.val + i) j := by
  funext j
  have e : iblk m c 3 t j = V m c main_v1 (((cfg0.win 3).blk t).view.emb j) := by
    unfold iblk
    generalize V m c = G
    rfl
  have s : V m c main_v1 = shapeCast S2x1024x128 (m ((c : Thread nD τ).loc main_arg3)) shapeCasts_S2x8x128x128_S2x1024x128 := by
    unfold_abbrev_sides
    after_results
    rfl
  rw [e, s, h.p]
  exact congrArg _ (eq_inWhole (ht := inside t) (at3 t) rfl rfl rfl).symm

theorem blk4 : iblk m c 4 t = e3 .f32 2 512 128 fun l i j => A.V l (512 * t.val + i) j := by
  funext j
  have e : iblk m c 4 t j = V m c main_v2 (((cfg0.win 4).blk t).view.emb j) := by
    unfold iblk
    generalize V m c = G
    rfl
  have s : V m c main_v2 = shapeCast S2x1024x128 (m ((c : Thread nD τ).loc main_arg4)) shapeCasts_S2x8x128x128_S2x1024x128 := by
    unfold_abbrev_sides
    after_results
    rfl
  rw [e, s, h.v]
  exact congrArg _ (eq_inWhole (ht := inside t) (at4 t) rfl rfl rfl).symm

/-! ### The arrays at the end -/

omit t

theorem final_grad : (dats m 0 c).arrAt 5 cfg0.N = e3 .f32 2 1024 128 (A.grad first) := by
  refine whole_of_blocks (by decide) fun n hn j => ?_
  let t : Fin cfg0.N := ⟨n, lt_of_lt_of_eq (by omega : n < 2) N_0.symm⟩
  have b := congrFun (blocks5 m c t (Gen.flush0_5 t)) j
  rw [flushed5_A, blk0 h, blk1 h, blk2 h, blk3 h, blk4 h, left5] at b
  exact (congrArg _ (eq_inWhole (at5 t) rfl rfl rfl)).trans b

theorem final_delta : (dats m 0 c).arrAt 6 cfg0.N = e3 .f32 2 1024 128 (A.delta first) := by
  refine whole_of_blocks (by decide) fun n hn j => ?_
  let t : Fin cfg0.N := ⟨n, lt_of_lt_of_eq (by omega : n < 2) N_0.symm⟩
  have b := congrFun (blocks6 m c t (Gen.flush0_6 t)) j
  rw [flushed6_A, blk0 h, blk1 h, blk2 h, blk3 h, blk4 h, left6] at b
  exact (congrArg _ (eq_inWhole (at6 t) rfl rfl rfl)).trans b

theorem final_newM : (dats m 0 c).arrAt 7 cfg0.N = e3 .f32 2 1024 128 (A.newM first) := by
  refine whole_of_blocks (by decide) fun n hn j => ?_
  let t : Fin cfg0.N := ⟨n, lt_of_lt_of_eq (by omega : n < 2) N_0.symm⟩
  have b := congrFun (blocks7 m c t (Gen.flush0_7 t)) j
  rw [flushed7_A, blk0 h, blk1 h, blk2 h, blk3 h, blk4 h, left7] at b
  exact (congrArg _ (eq_inWhole (at7 t) rfl rfl rfl)).trans b

theorem final_newV : (dats m 0 c).arrAt 8 cfg0.N = e3 .f32 2 1024 128 (A.newV first) := by
  refine whole_of_blocks (by decide) fun n hn j => ?_
  let t : Fin cfg0.N := ⟨n, lt_of_lt_of_eq (by omega : n < 2) N_0.symm⟩
  have b := congrFun (blocks8 m c t (Gen.flush0_8 t)) j
  rw [flushed8_A, blk0 h, blk1 h, blk2 h, blk3 h, blk4 h, left8] at b
  exact (congrArg _ (eq_inWhole (at8 t) rfl rfl rfl)).trans b

end Cert.Adam.K11

end
-- ==== Proof.Adam.Value11.lean ====
/-
  The claims of the update of the weight that mixes positions: the reference's frame, and that the kernel and the reference end
  with equal results, whatever the arguments hold.
-/
module

public import proofs.«01_k».proof.Defs
public import proofs.«01_k».proof.Proof.Gen.Reference11Ideal.Run
public import proofs.«01_k».proof.Proof.Adam.State11
public import proofs.«01_k».proof.Proof.Adam.Ref
public import Idealize.ShloMosaic.Lib.Quiescent

@[expose] public section

set_option maxRecDepth 16384

noncomputable section

namespace Cert.Adam.K11

open Idealize.ShloMosaic Idealize.ShloMosaic.TcCoe Idealize.SL.Sem Cert.Mix Cert.Fwd

theorem frame_reference : Cert.quiescent_Reference11Ideal (hReference11Ideal := Cert.Reference11Ideal.Gen.facts) := fun m ρ _ =>
  (θ_run Cert.Reference11Ideal.defs _ _).mono
    (fun r h => ⟨fun c => (h c).2.2.2.2, sem_eq_zero_of_no_sems (by decide) r.2⟩)
    (Cert.Reference11Ideal.Value.run (F := Ideal) m ρ)

section
variable (m : (ℓ : Loc Cert.Kernel11Ideal.nD Cert.Kernel11Ideal.τ Cert.Kernel11Ideal.sig) → Buf (Elt Ideal) ℓ) (c : Dev Cert.Kernel11Ideal.nD)

/-- The entries a device's arguments hold. -/
def argsOf : Args :=
  argsOfArrays Cert.Kernel11Ideal.Gen.shapeCasts_S2x8x128x128_S2x1024x128
    (m ((c.tc : Thread Cert.Kernel11Ideal.nD Cert.Kernel11Ideal.τ).loc Cert.Kernel11Ideal.main_arg0))
    (m ((c.tc : Thread Cert.Kernel11Ideal.nD Cert.Kernel11Ideal.τ).loc Cert.Kernel11Ideal.main_arg1))
    (m ((c.tc : Thread Cert.Kernel11Ideal.nD Cert.Kernel11Ideal.τ).loc Cert.Kernel11Ideal.main_arg2))
    (m ((c.tc : Thread Cert.Kernel11Ideal.nD Cert.Kernel11Ideal.τ).loc Cert.Kernel11Ideal.main_arg3))
    (m ((c.tc : Thread Cert.Kernel11Ideal.nD Cert.Kernel11Ideal.τ).loc Cert.Kernel11Ideal.main_arg4))

theorem holds : Holds m c (argsOf m c) := ⟨eq_e2 _, eq_e2 _, eq_e3 _, eq_e3 _, eq_e3 _⟩
end

theorem algebraic : Cert.algebraic_Kernel11Ideal_Reference11Ideal (hKernel11Ideal := Cert.Kernel11Ideal.Gen.facts)
    (hReference11Ideal := Cert.Reference11Ideal.Gen.facts) := by
  intro m ρ m' ρ' _ hagree
  refine ⟨_, _, _, _, Cert.Kernel11Ideal.Value.run_blocks (F := Ideal) m ρ, ?_⟩
  refine (θ_run Cert.Reference11Ideal.defs _ _).mono (fun r h c => ?_) (Cert.Reference11Ideal.Value.run (F := Ideal) m' ρ')
  have H := holds m c
  obtain ⟨a0, a1, a2, a3, a4⟩ := hagree c
  have b0 := a0.trans H.g0
  have b1 := a1.trans H.g1
  obtain ⟨o0, o1, o2, o3, kept⟩ := h c
  refine ⟨o0.trans ?_, o1.trans ?_, o2.trans ?_, o3.trans ?_, kept⟩
  · rw [b0, b1, final_grad H]; exact e_grad (by decide) first _ _
  · rw [b0, b1, a2, a3, a4, final_delta H]; exact e_change (e_grad (by decide) first _ _) H.w H.p H.v
  · rw [b0, b1, a3, final_newM H]; exact e_mean (e_grad (by decide) first _ _) H.p
  · rw [b0, b1, a4, final_newV H]; exact e_square (e_grad (by decide) first _ _) H.v

end Cert.Adam.K11

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Mix.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Pre_finite6
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Pre_finite7
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.Dw.Value
public import proofs.«01_k».proof.Proof.Dx.Value
public import proofs.«01_k».proof.Proof.Ffn.Value
public import proofs.«01_k».proof.Proof.Fwd.Value
public import proofs.«01_k».proof.Proof.Adam.Value9
public import proofs.«01_k».proof.Proof.Adam.Value10
public import proofs.«01_k».proof.Proof.Adam.Value11
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite.Gen.facts, Cert.Pre_finite6.Gen.facts, Cert.Pre_finite7.Gen.facts, by
  exact ⟨fun m ρ _ => Cert.Kernel.Gen.frame m ρ, fun m ρ _ => Cert.KernelIdeal.Gen.frame m ρ,
    fun m ρ _ => Cert.KernelIdeal.Gen.frame m ρ, fun m ρ _ => Cert.Mix.frame_reference m ρ trivial,
    fun m ρ _ => Cert.Mix.frame_reference m ρ trivial,
    fun m ρ _ => Cert.Kernel2.Gen.frame m ρ, fun m ρ _ => Cert.Kernel2Ideal.Gen.frame m ρ,
    fun m ρ _ => Cert.Dw.FfnOut.frame_reference m ρ trivial,
    fun m ρ _ => Cert.Kernel3.Gen.frame m ρ, fun m ρ _ => Cert.Kernel3Ideal.Gen.frame m ρ,
    fun m ρ _ => Cert.Dw.FfnIn.frame_reference m ρ trivial,
    fun m ρ _ => Cert.Kernel4.Gen.frame m ρ, fun m ρ _ => Cert.Kernel4Ideal.Gen.frame m ρ,
    fun m ρ _ => Cert.Dw.Out.frame_reference m ρ trivial,
    fun m ρ _ => Cert.Kernel5.Gen.frame m ρ, fun m ρ _ => Cert.Kernel5Ideal.Gen.frame m ρ,
    fun m ρ _ => Cert.Dw.In.frame_reference m ρ trivial,
    fun m ρ _ => Cert.Kernel6.Gen.frame m ρ, fun m ρ _ => Cert.Kernel6Ideal.Gen.frame m ρ, fun m ρ _ => Cert.Kernel6Ideal.Gen.frame m ρ,
    fun m ρ _ => Cert.Dx.frame_reference m ρ trivial, fun m ρ _ => Cert.Dx.frame_reference m ρ trivial,
    fun m ρ _ => Cert.Kernel7.Gen.frame m ρ, fun m ρ _ => Cert.Kernel7Ideal.Gen.frame m ρ, fun m ρ _ => Cert.Kernel7Ideal.Gen.frame m ρ,
    fun m ρ _ => Cert.Ffn.frame_reference m ρ trivial, fun m ρ _ => Cert.Ffn.frame_reference m ρ trivial,
    fun m ρ _ => Cert.Kernel8.Gen.frame m ρ, fun m ρ _ => Cert.Kernel8Ideal.Gen.frame m ρ,
    fun m ρ _ => Cert.Fwd.frame_reference m ρ trivial,
    fun m ρ _ => Cert.Kernel9.Gen.frame m ρ, fun m ρ _ => Cert.Kernel9Ideal.Gen.frame m ρ,
    fun m ρ _ => Cert.Adam.K9.frame_reference m ρ trivial,
    fun m ρ _ => Cert.Kernel10.Gen.frame m ρ, fun m ρ _ => Cert.Kernel10Ideal.Gen.frame m ρ,
    fun m ρ _ => Cert.Adam.K10.frame_reference m ρ trivial,
    fun m ρ _ => Cert.Kernel11.Gen.frame m ρ, fun m ρ _ => Cert.Kernel11Ideal.Gen.frame m ρ,
    fun m ρ _ => Cert.Adam.K11.frame_reference m ρ trivial,
    Cert.Mix.preserves, Cert.Mix.algebraic,
    trivial, Cert.Dw.FfnOut.algebraic,
    trivial, Cert.Dw.FfnIn.algebraic,
    trivial, Cert.Dw.Out.algebraic,
    trivial, Cert.Dw.In.algebraic,
    trivial, Cert.Dx.algebraic,
    trivial, Cert.Ffn.algebraic,
    trivial, Cert.Fwd.algebraic,
    trivial, Cert.Adam.K9.algebraic,
    trivial, Cert.Adam.K10.algebraic,
    trivial, Cert.Adam.K11.algebraic⟩⟩

end Cert.Proof

end
